-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_3)) (v1 : (c : Dev Cert.KernelIdeal.nD) → Buf (Elt Ideal) ((c.tc : Thread Cert.KernelIdeal.nD Cert.KernelIdeal.τ).loc Cert.KernelIdeal.main_v0_4)) (v2 : (c : Dev Cert.KernelIdeal.nD) → Buf (Elt Ideal) ((c.tc : Thread Cert.KernelIdeal.nD Cert.KernelIdeal.τ).loc Cert.KernelIdeal.main_v0_5)) (v3 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_3) = v0 c
          ∧ r.2.mem ((c.tc : Thread Cert.KernelIdeal.nD Cert.KernelIdeal.τ).loc Cert.KernelIdeal.main_v0_4) = v1 c
          ∧ r.2.mem ((c.tc : Thread Cert.KernelIdeal.nD Cert.KernelIdeal.τ).loc Cert.KernelIdeal.main_v0_5) = v2 c
          ∧ r.2.mem ((c.tc : Thread Cert.KernelIdeal.nD Cert.KernelIdeal.τ).loc Cert.KernelIdeal.main_v0_6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x2048x7168 : Shape := ⟨3, ![12, 2048, 7168]⟩
abbrev S12x128x7168 : Shape := ⟨3, ![12, 128, 7168]⟩
abbrev S12x128x2048 : Shape := ⟨3, ![12, 128, 2048]⟩
abbrev S12x128x16 : Shape := ⟨3, ![12, 128, 16]⟩
abbrev S12 : Shape := ⟨1, ![12]⟩
abbrev S12x2048 : Shape := ⟨2, ![12, 2048]⟩
abbrev S20x128x7168 : Shape := ⟨3, ![20, 128, 7168]⟩
abbrev S10x64x7168 : Shape := ⟨3, ![10, 64, 7168]⟩
abbrev S2x128x7168 : Shape := ⟨3, ![2, 128, 7168]⟩
abbrev S2x128x2048 : Shape := ⟨3, ![2, 128, 2048]⟩
abbrev S2x128x16 : Shape := ⟨3, ![2, 128, 16]⟩
abbrev S20x128x128 : Shape := ⟨3, ![20, 128, 128]⟩
abbrev S128x128 : Shape := ⟨2, ![128, 128]⟩
abbrev S8x128 : Shape := ⟨2, ![8, 128]⟩
abbrev S2x8x128 : Shape := ⟨3, ![2, 8, 128]⟩
abbrev S20 : Shape := ⟨1, ![20]⟩
abbrev S10 : Shape := ⟨1, ![10]⟩
abbrev S2 : Shape := ⟨1, ![2]⟩
abbrev S4x2 : Shape := ⟨2, ![4, 2]⟩
abbrev S_ : Shape := ⟨0, ![]⟩
abbrev S1x1 : Shape := ⟨2, ![1, 1]⟩
abbrev S1x128x2048 : Shape := ⟨3, ![1, 128, 2048]⟩
abbrev S128x2048 : Shape := ⟨2, ![128, 2048]⟩
abbrev S1x128x16 : Shape := ⟨3, ![1, 128, 16]⟩
abbrev S128x16 : Shape := ⟨2, ![128, 16]⟩
abbrev S1 : Shape := ⟨1, ![1]⟩
abbrev S1x128x7168 : Shape := ⟨3, ![1, 128, 7168]⟩
abbrev S128x7168 : Shape := ⟨2, ![128, 7168]⟩
abbrev S1x64x7168 : Shape := ⟨3, ![1, 64, 7168]⟩
abbrev S64x7168 : Shape := ⟨2, ![64, 7168]⟩
abbrev S1x8x128 : Shape := ⟨3, ![1, 8, 128]⟩
abbrev S1x16x7168 : Shape := ⟨3, ![1, 16, 7168]⟩
abbrev S16x7168 : Shape := ⟨2, ![16, 7168]⟩
abbrev S16 : Shape := ⟨1, ![16]⟩
abbrev S16x1 : Shape := ⟨2, ![16, 1]⟩
abbrev S16x128 : Shape := ⟨2, ![16, 128]⟩
abbrev S32x16 : Shape := ⟨2, ![32, 16]⟩
abbrev S1x1x128 : Shape := ⟨3, ![1, 1, 128]⟩
abbrev S1x128 : Shape := ⟨2, ![1, 128]⟩
abbrev S32x128 : Shape := ⟨2, ![32, 128]⟩
abbrev S1x32x16 : Shape := ⟨3, ![1, 32, 16]⟩
abbrev S32 : Shape := ⟨1, ![32]⟩
abbrev S32x1 : Shape := ⟨2, ![32, 1]⟩
abbrev S1x32x128 : Shape := ⟨3, ![1, 32, 128]⟩
abbrev S128 : Shape := ⟨1, ![128]⟩
abbrev S12x128 : Shape := ⟨2, ![12, 128]⟩
abbrev S1x128x128 : Shape := ⟨3, ![1, 128, 128]⟩
abbrev S1x16x128 : Shape := ⟨3, ![1, 16, 128]⟩

abbrev nBuf : Space → Nat
  | .hbm => 16
  | .vmem => 18
  | .smem => 3
  | _ => 0

abbrev bufTy : (tb : Table) → Fin (tcTables nBuf tb) → BufTy
  | .hbm, ⟨0, _⟩ => ⟨S12x2048x7168, .f32⟩
  | .hbm, ⟨1, _⟩ => ⟨S12x2048x7168, .bf16⟩
  | .hbm, ⟨2, _⟩ => ⟨S12x128x7168, .bf16⟩
  | .hbm, ⟨3, _⟩ => ⟨S12x128x2048, .i8⟩
  | .hbm, ⟨4, _⟩ => ⟨S12x128x16, .f32⟩
  | .hbm, ⟨5, _⟩ => ⟨S12x128x2048, .i8⟩
  | .hbm, ⟨6, _⟩ => ⟨S12x128x16, .f32⟩
  | .hbm, ⟨7, _⟩ => ⟨S12, .i32⟩
  | .hbm, ⟨8, _⟩ => ⟨S12, .f32⟩
  | .hbm, ⟨9, _⟩ => ⟨S12x2048x7168, .f32⟩
  | .hbm, ⟨10, _⟩ => ⟨S12x2048, .f32⟩
  | .hbm, ⟨11, _⟩ => ⟨S12, .f32⟩
  | .hbm, ⟨12, _⟩ => ⟨S12x128x2048, .i8⟩
  | .hbm, ⟨13, _⟩ => ⟨S12x128x16, .f32⟩
  | .hbm, ⟨14, _⟩ => ⟨S12x128x2048, .i8⟩
  | .hbm, ⟨15, _⟩ => ⟨S12x128x16, .f32⟩
  | .local _ .vmem, ⟨0, _⟩ => ⟨S20x128x7168, .bf16⟩
  | .local _ .vmem, ⟨1, _⟩ => ⟨S10x64x7168, .f32⟩
  | .local _ .vmem, ⟨2, _⟩ => ⟨S2x128x7168, .bf16⟩
  | .local _ .vmem, ⟨3, _⟩ => ⟨S2x128x2048, .i8⟩
  | .local _ .vmem, ⟨4, _⟩ => ⟨S2x128x2048, .i8⟩
  | .local _ .vmem, ⟨5, _⟩ => ⟨S2x128x16, .f32⟩
  | .local _ .vmem, ⟨6, _⟩ => ⟨S2x128x16, .f32⟩
  | .local _ .vmem, ⟨7, _⟩ => ⟨S2x128x2048, .i8⟩
  | .local _ .vmem, ⟨8, _⟩ => ⟨S2x128x2048, .i8⟩
  | .local _ .vmem, ⟨9, _⟩ => ⟨S2x128x16, .f32⟩
  | .local _ .vmem, ⟨10, _⟩ => ⟨S2x128x16, .f32⟩
  | .local _ .vmem, ⟨11, _⟩ => ⟨S12x2048, .f32⟩
  | .local _ .vmem, ⟨12, _⟩ => ⟨S20x128x128, .f32⟩
  | .local _ .vmem, ⟨13, _⟩ => ⟨S128x128, .f32⟩
  | .local _ .vmem, ⟨14, _⟩ => ⟨S128x128, .f32⟩
  | .local _ .vmem, ⟨15, _⟩ => ⟨S8x128, .f32⟩
  | .local _ .vmem, ⟨16, _⟩ => ⟨S2x8x128, .f32⟩
  | .local _ .vmem, ⟨17, _⟩ => ⟨S2x8x128, .f32⟩
  | .local _ .smem, ⟨0, _⟩ => ⟨S12, .i32⟩
  | .local _ .smem, ⟨1, _⟩ => ⟨S12, .f32⟩
  | .local _ .smem, ⟨2, _⟩ => ⟨S12, .f32⟩
  | _, _ => ⟨S12x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 (c0_i32 : BitVec 32) : Fin 2 → Nat :=
  let c0_i32_1 : BitVec 32 := 0#32
  let c2_i32 : BitVec 32 := 2#32
  let v0 : BitVec 32 := Scalar.remsi c0_i32 c2_i32
  ![0, v0.toNat]
def k0_off1_at (r : Fin 3) : BitVec 32 :=
  if r.val < 1 then
    0#32
  else
    if r.val < 2 then
      10#32
    else
      11#32
def k0_off2 (c0_i32 : BitVec 32) : Fin 3 → Nat :=
  let c2_i32 : BitVec 32 := 2#32
  let v0 : BitVec 32 := Scalar.remsi c0_i32 c2_i32
  let c0_i32_2 : BitVec 32 := 0#32
  let c0_i32_3 : BitVec 32 := 0#32
  ![v0.toNat, 0, 0]
def k0_off2_at (r : Fin 3) : BitVec 32 :=
  if r.val < 1 then
    0#32
  else
    if r.val < 2 then
      10#32
    else
      11#32
def k0_off3 (c0_i32 : BitVec 32) : Fin 2 → Nat :=
  let c1_i32 : BitVec 32 := 1#32
  let c2_i32 : BitVec 32 := 2#32
  let v0 : BitVec 32 := Scalar.remsi c0_i32 c2_i32
  ![1, v0.toNat]
def k0_off3_at (r : Fin 3) : BitVec 32 :=
  if r.val < 1 then
    0#32
  else
    if r.val < 2 then
      10#32
    else
      11#32
def k0_off4 (c0_i32 : BitVec 32) : Fin 3 → Nat :=
  let c2_i32 : BitVec 32 := 2#32
  let v0 : BitVec 32 := Scalar.remsi c0_i32 c2_i32
  let c0_i32_7 : BitVec 32 := 0#32
  let c0_i32_8 : BitVec 32 := 0#32
  ![v0.toNat, 0, 0]
def k0_off4_at (r : Fin 3) : BitVec 32 :=
  if r.val < 1 then
    0#32
  else
    if r.val < 2 then
      10#32
    else
      11#32
def k0_off5 (c0_i32 : BitVec 32) : Fin 2 → Nat :=
  let c2_i32_12 : BitVec 32 := 2#32
  let c2_i32 : BitVec 32 := 2#32
  let v0 : BitVec 32 := Scalar.remsi c0_i32 c2_i32
  ![2, v0.toNat]
def k0_off5_at (r : Fin 3) : BitVec 32 :=
  if r.val < 1 then
    0#32
  else
    if r.val < 2 then
      10#32
    else
      11#32
def k0_off6 (c0_i32 : BitVec 32) : Fin 2 → Nat :=
  let c3_i32 : BitVec 32 := 3#32
  let c2_i32 : BitVec 32 := 2#32
  let v0 : BitVec 32 := Scalar.remsi c0_i32 c2_i32
  ![3, v0.toNat]
def k0_off6_at (r : Fin 3) : BitVec 32 :=
  if r.val < 1 then
    0#32
  else
    if r.val < 2 then
      10#32
    else
      11#32
def k0_off7 : Fin 1 → Nat :=
  let c0_i32_22 : BitVec 32 := 0#32
  let c2_i32_23 : BitVec 32 := 2#32
  let v25 : BitVec 32 := Scalar.remsi c0_i32_22 c2_i32_23
  ![v25.toNat]
def k0_off8 : Fin 3 → Nat :=
  let c0_i32_22 : BitVec 32 := 0#32
  let c2_i32_23 : BitVec 32 := 2#32
  let v25 : BitVec 32 := Scalar.remsi c0_i32_22 c2_i32_23
  let c0_i32_25 : BitVec 32 := 0#32
  let c0_i32_26 : BitVec 32 := 0#32
  ![v25.toNat, 0, 0]
@[reducible] def k0_t1_loop : Scf.Loop 32 :=
  let c0_i32_29 : BitVec 32 := 0#32
  let c20_i32 : BitVec 32 := 20#32
  let v32 : BitVec 32 := Scalar.addi c0_i32_29 c20_i32
  let c1_i32_30 : BitVec 32 := 1#32
  ⟨c0_i32_29, v32, c1_i32_30⟩
def k0_mult1 (k0_t1 : Fin k0_t1_loop.trips) : BitVec 32 :=
  let c0_i32_134 : BitVec 32 := 0#32
  let c0_i32_29 : BitVec 32 := 0#32
  let c1_i32_30 : BitVec 32 := 1#32
  let arg41 : BitVec 32 := Scf.iv c0_i32_29 c1_i32_30 k0_t1
  let c1_i32_133 : BitVec 32 := 1#32
  let v144 : BitVec 32 := Scalar.muli arg41 c1_i32_133
  let v145 : BitVec 32 := Scalar.addi c0_i32_134 v144
  let c16_i32 : BitVec 32 := 16#32
  let v147 : BitVec 32 := Scalar.remsi v145 c16_i32
  let c128_i32 : BitVec 32 := 128#32
  let v148 : BitVec 32 := Scalar.muli v147 c128_i32
  v148
def k0_off9 (k0_t1 : Fin k0_t1_loop.trips) : Fin 1 → Nat :=
  let c0_i32_134 : BitVec 32 := 0#32
  let c0_i32_29 : BitVec 32 := 0#32
  let c1_i32_30 : BitVec 32 := 1#32
  let arg41 : BitVec 32 := Scf.iv c0_i32_29 c1_i32_30 k0_t1
  let c1_i32_133 : BitVec 32 := 1#32
  let v144 : BitVec 32 := Scalar.muli arg41 c1_i32_133
  let v145 : BitVec 32 := Scalar.addi c0_i32_134 v144
  let c20_i32_135 : BitVec 32 := 20#32
  let v146 : BitVec 32 := Scalar.remsi v145 c20_i32_135
  ![v146.toNat]
def k0_off10 (k0_t1 : Fin k0_t1_loop.trips) : Fin 3 → Nat :=
  let c0_i32_134 : BitVec 32 := 0#32
  let c0_i32_29 : BitVec 32 := 0#32
  let c1_i32_30 : BitVec 32 := 1#32
  let arg41 : BitVec 32 := Scf.iv c0_i32_29 c1_i32_30 k0_t1
  let c1_i32_133 : BitVec 32 := 1#32
  let v144 : BitVec 32 := Scalar.muli arg41 c1_i32_133
  let v145 : BitVec 32 := Scalar.addi c0_i32_134 v144
  let c20_i32_135 : BitVec 32 := 20#32
  let v146 : BitVec 32 := Scalar.remsi v145 c20_i32_135
  let c0_i32_137 : BitVec 32 := 0#32
  let c0_i32_138 : BitVec 32 := 0#32
  ![v146.toNat, 0, 0]
def k0_off11 (k0_t1 : Fin k0_t1_loop.trips) : Fin 3 → Nat :=
  let c0_i32_134 : BitVec 32 := 0#32
  let c0_i32_29 : BitVec 32 := 0#32
  let c1_i32_30 : BitVec 32 := 1#32
  let arg41 : BitVec 32 := Scf.iv c0_i32_29 c1_i32_30 k0_t1
  let c1_i32_133 : BitVec 32 := 1#32
  let v144 : BitVec 32 := Scalar.muli arg41 c1_i32_133
  let v145 : BitVec 32 := Scalar.addi c0_i32_134 v144
  let c16_i32_136 : BitVec 32 := 16#32
  let v150 : BitVec 32 := Scalar.divsi v145 c16_i32_136
  let c16_i32 : BitVec 32 := 16#32
  let v147 : BitVec 32 := Scalar.remsi v145 c16_i32
  let c128_i32 : BitVec 32 := 128#32
  let v148 : BitVec 32 := Scalar.muli v147 c128_i32
  let v149 : BitVec 32 := v148
  let c0_i32_139 : BitVec 32 := 0#32
  ![v150.toNat, v149.toNat, 0]
@[reducible] def k0_t2_loop : Scf.Loop 32 :=
  let c0_i32_32 : BitVec 32 := 0#32
  let c10_i32 : BitVec 32 := 10#32
  let v33 : BitVec 32 := Scalar.addi c0_i32_32 c10_i32
  let c1_i32_33 : BitVec 32 := 1#32
  ⟨c0_i32_32, v33, c1_i32_33⟩
def k0_mult2 (k0_t2 : Fin k0_t2_loop.trips) : BitVec 32 :=
  let c0_i32_134 : BitVec 32 := 0#32
  let c0_i32_32 : BitVec 32 := 0#32
  let c1_i32_33 : BitVec 32 := 1#32
  let arg41 : BitVec 32 := Scf.iv c0_i32_32 c1_i32_33 k0_t2
  let c1_i32_133 : BitVec 32 := 1#32
  let v144 : BitVec 32 := Scalar.muli arg41 c1_i32_133
  let v145 : BitVec 32 := Scalar.addi c0_i32_134 v144
  let c32_i32_136 : BitVec 32 := 32#32
  let v147 : BitVec 32 := Scalar.remsi v145 c32_i32_136
  let c64_i32_137 : BitVec 32 := 64#32
  let v148 : BitVec 32 := Scalar.muli v147 c64_i32_137
  v148
def k0_off12 (k0_t2 : Fin k0_t2_loop.trips) : Fin 1 → Nat :=
  let c0_i32_134 : BitVec 32 := 0#32
  let c0_i32_32 : BitVec 32 := 0#32
  let c1_i32_33 : BitVec 32 := 1#32
  let arg41 : BitVec 32 := Scf.iv c0_i32_32 c1_i32_33 k0_t2
  let c1_i32_133 : BitVec 32 := 1#32
  let v144 : BitVec 32 := Scalar.muli arg41 c1_i32_133
  let v145 : BitVec 32 := Scalar.addi c0_i32_134 v144
  let c10_i32_135 : BitVec 32 := 10#32
  let v146 : BitVec 32 := Scalar.remsi v145 c10_i32_135
  ![v146.toNat]
def k0_off13 (k0_t2 : Fin k0_t2_loop.trips) : Fin 3 → Nat :=
  let c0_i32_134 : BitVec 32 := 0#32
  let c0_i32_32 : BitVec 32 := 0#32
  let c1_i32_33 : BitVec 32 := 1#32
  let arg41 : BitVec 32 := Scf.iv c0_i32_32 c1_i32_33 k0_t2
  let c1_i32_133 : BitVec 32 := 1#32
  let v144 : BitVec 32 := Scalar.muli arg41 c1_i32_133
  let v145 : BitVec 32 := Scalar.addi c0_i32_134 v144
  let c10_i32_135 : BitVec 32 := 10#32
  let v146 : BitVec 32 := Scalar.remsi v145 c10_i32_135
  let c0_i32_139 : BitVec 32 := 0#32
  let c0_i32_140 : BitVec 32 := 0#32
  ![v146.toNat, 0, 0]
def k0_off14 (k0_t2 : Fin k0_t2_loop.trips) : Fin 3 → Nat :=
  let c0_i32_134 : BitVec 32 := 0#32
  let c0_i32_32 : BitVec 32 := 0#32
  let c1_i32_33 : BitVec 32 := 1#32
  let arg41 : BitVec 32 := Scf.iv c0_i32_32 c1_i32_33 k0_t2
  let c1_i32_133 : BitVec 32 := 1#32
  let v144 : BitVec 32 := Scalar.muli arg41 c1_i32_133
  let v145 : BitVec 32 := Scalar.addi c0_i32_134 v144
  let c32_i32_138 : BitVec 32 := 32#32
  let v150 : BitVec 32 := Scalar.divsi v145 c32_i32_138
  let c32_i32_136 : BitVec 32 := 32#32
  let v147 : BitVec 32 := Scalar.remsi v145 c32_i32_136
  let c64_i32_137 : BitVec 32 := 64#32
  let v148 : BitVec 32 := Scalar.muli v147 c64_i32_137
  let v149 : BitVec 32 := v148
  let c0_i32_141 : BitVec 32 := 0#32
  ![v150.toNat, v149.toNat, 0]
@[reducible] def k0_t3_loop : Scf.Loop 32 :=
  let c0_i32_36 : BitVec 32 := 0#32
  let c208_i32 : BitVec 32 := 208#32
  let v38 : BitVec 32 := Scalar.addi c0_i32_36 c208_i32
  let c1_i32_37 : BitVec 32 := 1#32
  ⟨c0_i32_36, v38, c1_i32_37⟩
def k0_cond1 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c192_i32 : BitVec 32 := 192#32
  let v146 : BitVec 1 := Scalar.cmpi .slt v145 c192_i32
  let v147 : BitVec 32 := Scalar.extui v146
  let c0_i32_135 : BitVec 32 := 0#32
  let v148 : BitVec 1 := Scalar.cmpi .ne v147 c0_i32_135
  v148

def k0_cond2 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_140 : BitVec 32 := 16#32
  let v156 : BitVec 32 := Scalar.remsi v145 c16_i32_140
  let c0_i32_143 : BitVec 32 := 0#32
  let v159 : BitVec 1 := Scalar.cmpi .eq v156 c0_i32_143
  let v160 : BitVec 32 := Scalar.extui v159
  let c0_i32_144 : BitVec 32 := 0#32
  let v161 : BitVec 1 := Scalar.cmpi .ne v160 c0_i32_144
  v161

def k0_cond3 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_377 : BitVec 32 := 2#32
  let v923 : BitVec 1 := Scalar.cmpi .sge v155 c2_i32_377
  let v924 : BitVec 32 := Scalar.extui v923
  let c0_i32_378 : BitVec 32 := 0#32
  let v925 : BitVec 1 := Scalar.cmpi .ne v924 c0_i32_378
  v925

def k0_off15 (k0_t3 : Fin k0_t3_loop.trips) : Fin 2 → Nat :=
  let c0_i32_428 : BitVec 32 := 0#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_426 : BitVec 32 := 2#32
  let v994 : BitVec 32 := Scalar.subi v155 c2_i32_426
  let c2_i32_427 : BitVec 32 := 2#32
  let v995 : BitVec 32 := Scalar.remsi v994 c2_i32_427
  ![0, v995.toNat]
def k0_off16 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_426 : BitVec 32 := 2#32
  let v994 : BitVec 32 := Scalar.subi v155 c2_i32_426
  let c0_i32_429 : BitVec 32 := 0#32
  let c0_i32_430 : BitVec 32 := 0#32
  ![v994.toNat, 0, 0]
def k0_off17 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_426 : BitVec 32 := 2#32
  let v994 : BitVec 32 := Scalar.subi v155 c2_i32_426
  let c2_i32_427 : BitVec 32 := 2#32
  let v995 : BitVec 32 := Scalar.remsi v994 c2_i32_427
  let c0_i32_431 : BitVec 32 := 0#32
  let c0_i32_432 : BitVec 32 := 0#32
  ![v995.toNat, 0, 0]
def k0_off18 (k0_t3 : Fin k0_t3_loop.trips) : Fin 2 → Nat :=
  let c1_i32_433 : BitVec 32 := 1#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_426 : BitVec 32 := 2#32
  let v994 : BitVec 32 := Scalar.subi v155 c2_i32_426
  let c2_i32_427 : BitVec 32 := 2#32
  let v995 : BitVec 32 := Scalar.remsi v994 c2_i32_427
  ![1, v995.toNat]
def k0_off19 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_426 : BitVec 32 := 2#32
  let v994 : BitVec 32 := Scalar.subi v155 c2_i32_426
  let c0_i32_434 : BitVec 32 := 0#32
  let c0_i32_435 : BitVec 32 := 0#32
  ![v994.toNat, 0, 0]
def k0_off20 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_426 : BitVec 32 := 2#32
  let v994 : BitVec 32 := Scalar.subi v155 c2_i32_426
  let c2_i32_427 : BitVec 32 := 2#32
  let v995 : BitVec 32 := Scalar.remsi v994 c2_i32_427
  let c0_i32_436 : BitVec 32 := 0#32
  let c0_i32_437 : BitVec 32 := 0#32
  ![v995.toNat, 0, 0]
def k0_off21 (k0_t3 : Fin k0_t3_loop.trips) : Fin 2 → Nat :=
  let c2_i32_438 : BitVec 32 := 2#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_426 : BitVec 32 := 2#32
  let v994 : BitVec 32 := Scalar.subi v155 c2_i32_426
  let c2_i32_427 : BitVec 32 := 2#32
  let v995 : BitVec 32 := Scalar.remsi v994 c2_i32_427
  ![2, v995.toNat]
def k0_off22 (k0_t3 : Fin k0_t3_loop.trips) : Fin 2 → Nat :=
  let c3_i32_443 : BitVec 32 := 3#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_426 : BitVec 32 := 2#32
  let v994 : BitVec 32 := Scalar.subi v155 c2_i32_426
  let c2_i32_427 : BitVec 32 := 2#32
  let v995 : BitVec 32 := Scalar.remsi v994 c2_i32_427
  ![3, v995.toNat]
def k0_off23 (k0_t3 : Fin k0_t3_loop.trips) : Fin 2 → Nat :=
  let c0_i32_380 : BitVec 32 := 0#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_379 : BitVec 32 := 2#32
  let v926 : BitVec 32 := Scalar.remsi v155 c2_i32_379
  ![0, v926.toNat]
def k0_off24 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_379 : BitVec 32 := 2#32
  let v926 : BitVec 32 := Scalar.remsi v155 c2_i32_379
  let c0_i32_381 : BitVec 32 := 0#32
  let c0_i32_382 : BitVec 32 := 0#32
  ![v926.toNat, 0, 0]
def k0_off25 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c0_i32_383 : BitVec 32 := 0#32
  let c0_i32_384 : BitVec 32 := 0#32
  ![v155.toNat, 0, 0]
def k0_off26 (k0_t3 : Fin k0_t3_loop.trips) : Fin 2 → Nat :=
  let c1_i32_385 : BitVec 32 := 1#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_379 : BitVec 32 := 2#32
  let v926 : BitVec 32 := Scalar.remsi v155 c2_i32_379
  ![1, v926.toNat]
def k0_off27 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_379 : BitVec 32 := 2#32
  let v926 : BitVec 32 := Scalar.remsi v155 c2_i32_379
  let c0_i32_386 : BitVec 32 := 0#32
  let c0_i32_387 : BitVec 32 := 0#32
  ![v926.toNat, 0, 0]
def k0_off28 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c0_i32_388 : BitVec 32 := 0#32
  let c0_i32_389 : BitVec 32 := 0#32
  ![v155.toNat, 0, 0]
def k0_off29 (k0_t3 : Fin k0_t3_loop.trips) : Fin 2 → Nat :=
  let c2_i32_390 : BitVec 32 := 2#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_379 : BitVec 32 := 2#32
  let v926 : BitVec 32 := Scalar.remsi v155 c2_i32_379
  ![2, v926.toNat]
def k0_off30 (k0_t3 : Fin k0_t3_loop.trips) : Fin 2 → Nat :=
  let c3_i32_395 : BitVec 32 := 3#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_379 : BitVec 32 := 2#32
  let v926 : BitVec 32 := Scalar.remsi v155 c2_i32_379
  ![3, v926.toNat]
def k0_off31 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_400 : BitVec 32 := 2#32
  let v951 : BitVec 32 := Scalar.remsi v155 c2_i32_400
  ![v951.toNat]
def k0_off32 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_400 : BitVec 32 := 2#32
  let v951 : BitVec 32 := Scalar.remsi v155 c2_i32_400
  let c0_i32_401 : BitVec 32 := 0#32
  let c0_i32_402 : BitVec 32 := 0#32
  ![v951.toNat, 0, 0]
def k0_off33 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c0_i32_403 : BitVec 32 := 0#32
  let c0_i32_404 : BitVec 32 := 0#32
  ![v155.toNat, 0, 0]
def k0_cond4 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_405 : BitVec 32 := 1#32
  let v958 : BitVec 32 := Scalar.addi v155 c1_i32_405
  let c12_i32 : BitVec 32 := 12#32
  let v959 : BitVec 1 := Scalar.cmpi .slt v958 c12_i32
  let v960 : BitVec 32 := Scalar.extui v959
  let c0_i32_406 : BitVec 32 := 0#32
  let v961 : BitVec 1 := Scalar.cmpi .ne v960 c0_i32_406
  v961

def k0_off34 (k0_t3 : Fin k0_t3_loop.trips) : Fin 2 → Nat :=
  let c0_i32_428 : BitVec 32 := 0#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_426 : BitVec 32 := 1#32
  let v994 : BitVec 32 := Scalar.addi v155 c1_i32_426
  let c2_i32_427 : BitVec 32 := 2#32
  let v995 : BitVec 32 := Scalar.remsi v994 c2_i32_427
  ![0, v995.toNat]
def k0_off35 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_426 : BitVec 32 := 1#32
  let v994 : BitVec 32 := Scalar.addi v155 c1_i32_426
  let c2_i32_427 : BitVec 32 := 2#32
  let v995 : BitVec 32 := Scalar.remsi v994 c2_i32_427
  let c0_i32_429 : BitVec 32 := 0#32
  let c0_i32_430 : BitVec 32 := 0#32
  ![v995.toNat, 0, 0]
def k0_off36 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_426 : BitVec 32 := 1#32
  let v994 : BitVec 32 := Scalar.addi v155 c1_i32_426
  let c0_i32_431 : BitVec 32 := 0#32
  let c0_i32_432 : BitVec 32 := 0#32
  ![v994.toNat, 0, 0]
def k0_off37 (k0_t3 : Fin k0_t3_loop.trips) : Fin 2 → Nat :=
  let c1_i32_433 : BitVec 32 := 1#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_426 : BitVec 32 := 1#32
  let v994 : BitVec 32 := Scalar.addi v155 c1_i32_426
  let c2_i32_427 : BitVec 32 := 2#32
  let v995 : BitVec 32 := Scalar.remsi v994 c2_i32_427
  ![1, v995.toNat]
def k0_off38 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_426 : BitVec 32 := 1#32
  let v994 : BitVec 32 := Scalar.addi v155 c1_i32_426
  let c2_i32_427 : BitVec 32 := 2#32
  let v995 : BitVec 32 := Scalar.remsi v994 c2_i32_427
  let c0_i32_434 : BitVec 32 := 0#32
  let c0_i32_435 : BitVec 32 := 0#32
  ![v995.toNat, 0, 0]
def k0_off39 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_426 : BitVec 32 := 1#32
  let v994 : BitVec 32 := Scalar.addi v155 c1_i32_426
  let c0_i32_436 : BitVec 32 := 0#32
  let c0_i32_437 : BitVec 32 := 0#32
  ![v994.toNat, 0, 0]
def k0_off40 (k0_t3 : Fin k0_t3_loop.trips) : Fin 2 → Nat :=
  let c2_i32_438 : BitVec 32 := 2#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_426 : BitVec 32 := 1#32
  let v994 : BitVec 32 := Scalar.addi v155 c1_i32_426
  let c2_i32_427 : BitVec 32 := 2#32
  let v995 : BitVec 32 := Scalar.remsi v994 c2_i32_427
  ![2, v995.toNat]
def k0_off41 (k0_t3 : Fin k0_t3_loop.trips) : Fin 2 → Nat :=
  let c3_i32_443 : BitVec 32 := 3#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_426 : BitVec 32 := 1#32
  let v994 : BitVec 32 := Scalar.addi v155 c1_i32_426
  let c2_i32_427 : BitVec 32 := 2#32
  let v995 : BitVec 32 := Scalar.remsi v994 c2_i32_427
  ![3, v995.toNat]
def k0_off42 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_448 : BitVec 32 := 1#32
  let v1020 : BitVec 32 := Scalar.addi v155 c1_i32_448
  let c2_i32_449 : BitVec 32 := 2#32
  let v1021 : BitVec 32 := Scalar.remsi v1020 c2_i32_449
  ![v1021.toNat]
def k0_off43 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_448 : BitVec 32 := 1#32
  let v1020 : BitVec 32 := Scalar.addi v155 c1_i32_448
  let c2_i32_449 : BitVec 32 := 2#32
  let v1021 : BitVec 32 := Scalar.remsi v1020 c2_i32_449
  let c0_i32_450 : BitVec 32 := 0#32
  let c0_i32_451 : BitVec 32 := 0#32
  ![v1021.toNat, 0, 0]
def k0_off44 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c1_i32_448 : BitVec 32 := 1#32
  let v1020 : BitVec 32 := Scalar.addi v155 c1_i32_448
  let c0_i32_452 : BitVec 32 := 0#32
  let c0_i32_453 : BitVec 32 := 0#32
  ![v1020.toNat, 0, 0]
def k0_off45 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_376 : BitVec 32 := 2#32
  let v922 : BitVec 32 := Scalar.remsi v155 c2_i32_376
  let v967 : Index := Scalar.indexCast v922
  let c0_411 : Index := 0#32
  let c0_412 : Index := 0#32
  ![v967.toNat, 0, 0]
def k0_off46 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let v976 : Index := Scalar.indexCast v155
  ![v976.toNat]
def k0_mult3 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_146 : BitVec 32 := 16#32
  let v163 : BitVec 32 := Scalar.remsi v145 c16_i32_146
  let c128_i32 : BitVec 32 := 128#32
  let v164 : BitVec 32 := Scalar.muli v163 c128_i32
  v164
def k0_off47 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_145 : BitVec 32 := 20#32
  let v162 : BitVec 32 := Scalar.remsi v145 c20_i32_145
  ![v162.toNat]
def k0_off48 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_145 : BitVec 32 := 20#32
  let v162 : BitVec 32 := Scalar.remsi v145 c20_i32_145
  let c0_i32_148 : BitVec 32 := 0#32
  let c0_i32_149 : BitVec 32 := 0#32
  ![v162.toNat, 0, 0]
def k0_off49 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_147 : BitVec 32 := 16#32
  let v166 : BitVec 32 := Scalar.divsi v145 c16_i32_147
  let c16_i32_146 : BitVec 32 := 16#32
  let v163 : BitVec 32 := Scalar.remsi v145 c16_i32_146
  let c128_i32 : BitVec 32 := 128#32
  let v164 : BitVec 32 := Scalar.muli v163 c128_i32
  let v165 : BitVec 32 := v164
  let c0_i32_150 : BitVec 32 := 0#32
  ![v166.toNat, v165.toNat, 0]
def k0_off50 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v173 : Index := Scalar.indexCast v157
  let c0_151 : Index := 0#32
  let c0_152 : Index := 0#32
  ![v173.toNat, 0, 0]
def k0_off51 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v176 : Index := Scalar.indexCast v158
  let c0_153 : Index := 0#32
  let c0_154 : Index := 0#32
  ![v176.toNat, 0, 0]
def k0_off52 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v183 : Index := Scalar.indexCast v158
  let c0_158 : Index := 0#32
  let c0_159 : Index := 0#32
  ![v183.toNat, 0, 0]
def k0_off53 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v196 : Index := Scalar.indexCast v158
  let c16 : Index := 16#32
  let c0_163 : Index := 0#32
  ![v196.toNat, 16, 0]
def k0_off54 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v209 : Index := Scalar.indexCast v158
  let c32 : Index := 32#32
  let c0_167 : Index := 0#32
  ![v209.toNat, 32, 0]
def k0_off55 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v222 : Index := Scalar.indexCast v158
  let c48 : Index := 48#32
  let c0_171 : Index := 0#32
  ![v222.toNat, 48, 0]
def k0_off56 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v235 : Index := Scalar.indexCast v158
  let c64 : Index := 64#32
  let c0_175 : Index := 0#32
  ![v235.toNat, 64, 0]
def k0_off57 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v248 : Index := Scalar.indexCast v158
  let c80 : Index := 80#32
  let c0_179 : Index := 0#32
  ![v248.toNat, 80, 0]
def k0_off58 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v261 : Index := Scalar.indexCast v158
  let c96 : Index := 96#32
  let c0_183 : Index := 0#32
  ![v261.toNat, 96, 0]
def k0_off59 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v274 : Index := Scalar.indexCast v158
  let c112 : Index := 112#32
  let c0_187 : Index := 0#32
  ![v274.toNat, 112, 0]
def k0_mult4 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_140 : BitVec 32 := 16#32
  let v156 : BitVec 32 := Scalar.remsi v145 c16_i32_140
  let c128_i32_191 : BitVec 32 := 128#32
  let v287 : BitVec 32 := Scalar.muli v156 c128_i32_191
  v287
def k0_off60 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v299 : Index := Scalar.indexCast v157
  let c0_201 : Index := 0#32
  let c0_202 : Index := 0#32
  ![v299.toNat, 0, 0]
def k0_off61 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v313 : Index := Scalar.indexCast v157
  let c0_209 : Index := 0#32
  let c16_i32_140 : BitVec 32 := 16#32
  let v156 : BitVec 32 := Scalar.remsi v145 c16_i32_140
  let c128_i32_191 : BitVec 32 := 128#32
  let v287 : BitVec 32 := Scalar.muli v156 c128_i32_191
  let v288 : BitVec 32 := v287
  let v314 : Index := Scalar.indexCast v288
  ![v313.toNat, 0, v314.toNat]
def k0_off62 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v437 : Index := Scalar.indexCast v157
  let c32_240 : Index := 32#32
  let c0_241 : Index := 0#32
  ![v437.toNat, 32, 0]
def k0_off63 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v451 : Index := Scalar.indexCast v157
  let c32_248 : Index := 32#32
  let c16_i32_140 : BitVec 32 := 16#32
  let v156 : BitVec 32 := Scalar.remsi v145 c16_i32_140
  let c128_i32_191 : BitVec 32 := 128#32
  let v287 : BitVec 32 := Scalar.muli v156 c128_i32_191
  let v288 : BitVec 32 := v287
  let v452 : Index := Scalar.indexCast v288
  ![v451.toNat, 32, v452.toNat]
def k0_off64 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v575 : Index := Scalar.indexCast v157
  let c64_281 : Index := 64#32
  let c0_282 : Index := 0#32
  ![v575.toNat, 64, 0]
def k0_off65 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v589 : Index := Scalar.indexCast v157
  let c64_289 : Index := 64#32
  let c16_i32_140 : BitVec 32 := 16#32
  let v156 : BitVec 32 := Scalar.remsi v145 c16_i32_140
  let c128_i32_191 : BitVec 32 := 128#32
  let v287 : BitVec 32 := Scalar.muli v156 c128_i32_191
  let v288 : BitVec 32 := v287
  let v590 : Index := Scalar.indexCast v288
  ![v589.toNat, 64, v590.toNat]
def k0_off66 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v713 : Index := Scalar.indexCast v157
  let c96_322 : Index := 96#32
  let c0_323 : Index := 0#32
  ![v713.toNat, 96, 0]
def k0_off67 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v727 : Index := Scalar.indexCast v157
  let c96_330 : Index := 96#32
  let c16_i32_140 : BitVec 32 := 16#32
  let v156 : BitVec 32 := Scalar.remsi v145 c16_i32_140
  let c128_i32_191 : BitVec 32 := 128#32
  let v287 : BitVec 32 := Scalar.muli v156 c128_i32_191
  let v288 : BitVec 32 := v287
  let v728 : Index := Scalar.indexCast v288
  ![v727.toNat, 96, v728.toNat]
def k0_off68 (k0_t3 : Fin k0_t3_loop.trips) : Fin 2 → Nat :=
  let c0_364 : Index := 0#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_140 : BitVec 32 := 16#32
  let v156 : BitVec 32 := Scalar.remsi v145 c16_i32_140
  let c128_i32_191 : BitVec 32 := 128#32
  let v287 : BitVec 32 := Scalar.muli v156 c128_i32_191
  let v288 : BitVec 32 := v287
  let v862 : Index := Scalar.indexCast v288
  ![0, v862.toNat]
def k0_off69 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c20_i32_142 : BitVec 32 := 20#32
  let v158 : BitVec 32 := Scalar.remsi v145 c20_i32_142
  let v874 : Index := Scalar.indexCast v158
  let c0_366 : Index := 0#32
  let c0_367 : Index := 0#32
  ![v874.toNat, 0, 0]
def k0_cond5 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_140 : BitVec 32 := 16#32
  let v156 : BitVec 32 := Scalar.remsi v145 c16_i32_140
  let c15_i32 : BitVec 32 := 15#32
  let v919 : BitVec 1 := Scalar.cmpi .eq v156 c15_i32
  let v920 : BitVec 32 := Scalar.extui v919
  let c0_i32_375 : BitVec 32 := 0#32
  let v921 : BitVec 1 := Scalar.cmpi .ne v920 c0_i32_375
  v921

def k0_off70 (k0_t3 : Fin k0_t3_loop.trips) : Fin 2 → Nat :=
  let c0_i32_377 : BitVec 32 := 0#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_376 : BitVec 32 := 2#32
  let v922 : BitVec 32 := Scalar.remsi v155 c2_i32_376
  ![0, v922.toNat]
def k0_off71 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c0_i32_378 : BitVec 32 := 0#32
  let c0_i32_379 : BitVec 32 := 0#32
  ![v155.toNat, 0, 0]
def k0_off72 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_376 : BitVec 32 := 2#32
  let v922 : BitVec 32 := Scalar.remsi v155 c2_i32_376
  let c0_i32_380 : BitVec 32 := 0#32
  let c0_i32_381 : BitVec 32 := 0#32
  ![v922.toNat, 0, 0]
def k0_off73 (k0_t3 : Fin k0_t3_loop.trips) : Fin 2 → Nat :=
  let c1_i32_382 : BitVec 32 := 1#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_376 : BitVec 32 := 2#32
  let v922 : BitVec 32 := Scalar.remsi v155 c2_i32_376
  ![1, v922.toNat]
def k0_off74 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c0_i32_383 : BitVec 32 := 0#32
  let c0_i32_384 : BitVec 32 := 0#32
  ![v155.toNat, 0, 0]
def k0_off75 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_376 : BitVec 32 := 2#32
  let v922 : BitVec 32 := Scalar.remsi v155 c2_i32_376
  let c0_i32_385 : BitVec 32 := 0#32
  let c0_i32_386 : BitVec 32 := 0#32
  ![v922.toNat, 0, 0]
def k0_off76 (k0_t3 : Fin k0_t3_loop.trips) : Fin 2 → Nat :=
  let c2_i32_387 : BitVec 32 := 2#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_376 : BitVec 32 := 2#32
  let v922 : BitVec 32 := Scalar.remsi v155 c2_i32_376
  ![2, v922.toNat]
def k0_off77 (k0_t3 : Fin k0_t3_loop.trips) : Fin 2 → Nat :=
  let c3_i32_392 : BitVec 32 := 3#32
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_376 : BitVec 32 := 2#32
  let v922 : BitVec 32 := Scalar.remsi v155 c2_i32_376
  ![3, v922.toNat]
def k0_off78 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let v953 : Index := Scalar.indexCast v155
  ![v953.toNat]
def k0_off79 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.divsi v145 c16_i32_139
  let c2_i32_141 : BitVec 32 := 2#32
  let v157 : BitVec 32 := Scalar.remsi v155 c2_i32_141
  let v962 : Index := Scalar.indexCast v157
  let c0_403 : Index := 0#32
  let c0_404 : Index := 0#32
  ![v962.toNat, 0, 0]
def k0_cond7 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32 : BitVec 32 := 16#32
  let v152 : BitVec 1 := Scalar.cmpi .sge v145 c16_i32
  let v153 : BitVec 32 := Scalar.extui v152
  let c0_i32_138 : BitVec 32 := 0#32
  let v154 : BitVec 1 := Scalar.cmpi .ne v153 c0_i32_138
  v154

def k0_off80 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c16_i32_141 : BitVec 32 := 16#32
  let v157 : BitVec 32 := Scalar.divsi v155 c16_i32_141
  let c2_i32_142 : BitVec 32 := 2#32
  let v158 : BitVec 32 := Scalar.remsi v157 c2_i32_142
  let v159 : Index := Scalar.indexCast v158
  let c0_143 : Index := 0#32
  let c0_144 : Index := 0#32
  ![v159.toNat, 0, 0]
def k0_mult5 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c32_i32_149 : BitVec 32 := 32#32
  let v166 : BitVec 32 := Scalar.remsi v163 c32_i32_149
  let c64_i32_150 : BitVec 32 := 64#32
  let v167 : BitVec 32 := Scalar.muli v166 c64_i32_150
  v167
def k0_off81 (k0_t3 : Fin k0_t3_loop.trips) (c0_i32_146 : BitVec 32) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let v163 : BitVec 32 := Scalar.addi v162 c0_i32_146
  let c10_i32_148 : BitVec 32 := 10#32
  let v165 : BitVec 32 := Scalar.remsi v163 c10_i32_148
  ![v165.toNat]
def k0_off82 (k0_t3 : Fin k0_t3_loop.trips) (c0_i32_146 : BitVec 32) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let v163 : BitVec 32 := Scalar.addi v162 c0_i32_146
  let c10_i32_148 : BitVec 32 := 10#32
  let v165 : BitVec 32 := Scalar.remsi v163 c10_i32_148
  let c0_i32_152 : BitVec 32 := 0#32
  let c0_i32_153 : BitVec 32 := 0#32
  ![v165.toNat, 0, 0]
def k0_off83 (k0_t3 : Fin k0_t3_loop.trips) (c0_i32_146 : BitVec 32) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let v163 : BitVec 32 := Scalar.addi v162 c0_i32_146
  let c32_i32_151 : BitVec 32 := 32#32
  let v169 : BitVec 32 := Scalar.divsi v163 c32_i32_151
  let c32_i32_149 : BitVec 32 := 32#32
  let v166 : BitVec 32 := Scalar.remsi v163 c32_i32_149
  let c64_i32_150 : BitVec 32 := 64#32
  let v167 : BitVec 32 := Scalar.muli v166 c64_i32_150
  let v168 : BitVec 32 := v167
  let c0_i32_154 : BitVec 32 := 0#32
  ![v169.toNat, v168.toNat, 0]
@[reducible] def k0_t4_loop : Scf.Loop 32 :=
  let c0_i32_155 : BitVec 32 := 0#32
  let c4_i32 : BitVec 32 := 4#32
  let v176 : BitVec 32 := Scalar.addi c0_i32_155 c4_i32
  let c1_i32_156 : BitVec 32 := 1#32
  ⟨c0_i32_155, v176, c1_i32_156⟩
def k0_mult6 (k0_t4 : Fin k0_t4_loop.trips) : BitVec 32 :=
  let c0_i32_193 : BitVec 32 := 0#32
  let c0_i32_155 : BitVec 32 := 0#32
  let c1_i32_156 : BitVec 32 := 1#32
  let arg42 : BitVec 32 := Scf.iv c0_i32_155 c1_i32_156 k0_t4
  let c1_i32_192 : BitVec 32 := 1#32
  let v224 : BitVec 32 := Scalar.muli arg42 c1_i32_192
  let v225 : BitVec 32 := Scalar.addi c0_i32_193 v224
  let c16_i32_194 : BitVec 32 := 16#32
  let v226 : BitVec 32 := Scalar.muli v225 c16_i32_194
  v226
def k0_mult7 (k0_t4 : Fin k0_t4_loop.trips) : BitVec 32 :=
  let c0_i32_196 : BitVec 32 := 0#32
  let c0_i32_193 : BitVec 32 := 0#32
  let c0_i32_155 : BitVec 32 := 0#32
  let c1_i32_156 : BitVec 32 := 1#32
  let arg42 : BitVec 32 := Scf.iv c0_i32_155 c1_i32_156 k0_t4
  let c1_i32_192 : BitVec 32 := 1#32
  let v224 : BitVec 32 := Scalar.muli arg42 c1_i32_192
  let v225 : BitVec 32 := Scalar.addi c0_i32_193 v224
  let c16_i32_195 : BitVec 32 := 16#32
  let v228 : BitVec 32 := Scalar.muli v225 c16_i32_195
  let v229 : BitVec 32 := Scalar.addi c0_i32_196 v228
  v229
def k0_off84 (k0_t3 : Fin k0_t3_loop.trips) (k0_t4 : Fin k0_t4_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c20_i32_140 : BitVec 32 := 20#32
  let v156 : BitVec 32 := Scalar.remsi v155 c20_i32_140
  let v231 : Index := Scalar.indexCast v156
  let c0_i32_196 : BitVec 32 := 0#32
  let c0_i32_193 : BitVec 32 := 0#32
  let c0_i32_155 : BitVec 32 := 0#32
  let c1_i32_156 : BitVec 32 := 1#32
  let arg42 : BitVec 32 := Scf.iv c0_i32_155 c1_i32_156 k0_t4
  let c1_i32_192 : BitVec 32 := 1#32
  let v224 : BitVec 32 := Scalar.muli arg42 c1_i32_192
  let v225 : BitVec 32 := Scalar.addi c0_i32_193 v224
  let c16_i32_195 : BitVec 32 := 16#32
  let v228 : BitVec 32 := Scalar.muli v225 c16_i32_195
  let v229 : BitVec 32 := Scalar.addi c0_i32_196 v228
  let v230 : BitVec 32 := v229
  let v232 : Index := Scalar.indexCast v230
  let c0_197 : Index := 0#32
  ![v231.toNat, v232.toNat, 0]
def k0_off85 (k0_t3 : Fin k0_t3_loop.trips) (k0_t4 : Fin k0_t4_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c20_i32_140 : BitVec 32 := 20#32
  let v156 : BitVec 32 := Scalar.remsi v155 c20_i32_140
  let v238 : Index := Scalar.indexCast v156
  let c0_i32_196 : BitVec 32 := 0#32
  let c0_i32_193 : BitVec 32 := 0#32
  let c0_i32_155 : BitVec 32 := 0#32
  let c1_i32_156 : BitVec 32 := 1#32
  let arg42 : BitVec 32 := Scf.iv c0_i32_155 c1_i32_156 k0_t4
  let c1_i32_192 : BitVec 32 := 1#32
  let v224 : BitVec 32 := Scalar.muli arg42 c1_i32_192
  let v225 : BitVec 32 := Scalar.addi c0_i32_193 v224
  let c16_i32_195 : BitVec 32 := 16#32
  let v228 : BitVec 32 := Scalar.muli v225 c16_i32_195
  let v229 : BitVec 32 := Scalar.addi c0_i32_196 v228
  let v230 : BitVec 32 := v229
  let v239 : Index := Scalar.indexCast v230
  let c0_198 : Index := 0#32
  ![v238.toNat, v239.toNat, 0]
def k0_off86 (k0_t3 : Fin k0_t3_loop.trips) (k0_t4 : Fin k0_t4_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c10_i32_147 : BitVec 32 := 10#32
  let v164 : BitVec 32 := Scalar.remsi v163 c10_i32_147
  let v245 : Index := Scalar.indexCast v164
  let c0_i32_193 : BitVec 32 := 0#32
  let c0_i32_155 : BitVec 32 := 0#32
  let c1_i32_156 : BitVec 32 := 1#32
  let arg42 : BitVec 32 := Scf.iv c0_i32_155 c1_i32_156 k0_t4
  let c1_i32_192 : BitVec 32 := 1#32
  let v224 : BitVec 32 := Scalar.muli arg42 c1_i32_192
  let v225 : BitVec 32 := Scalar.addi c0_i32_193 v224
  let c16_i32_194 : BitVec 32 := 16#32
  let v226 : BitVec 32 := Scalar.muli v225 c16_i32_194
  let v227 : BitVec 32 := v226
  let v246 : Index := Scalar.indexCast v227
  let c0_199 : Index := 0#32
  ![v245.toNat, v246.toNat, 0]
def k0_mult8 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c32_i32_159 : BitVec 32 := 32#32
  let v178 : BitVec 32 := Scalar.remsi v163 c32_i32_159
  let c64_i32_160 : BitVec 32 := 64#32
  let v179 : BitVec 32 := Scalar.muli v178 c64_i32_160
  v179
def k0_cond8 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32 : BitVec 32 := 5#32
  let v188 : BitVec 1 := Scalar.cmpi .sge v163 c5_i32
  let v189 : BitVec 32 := Scalar.extui v188
  let c0_i32_165 : BitVec 32 := 0#32
  let v190 : BitVec 1 := Scalar.cmpi .ne v189 c0_i32_165
  v190

def k0_mult9 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32_192 : BitVec 32 := 5#32
  let v224 : BitVec 32 := Scalar.subi v163 c5_i32_192
  let c32_i32_194 : BitVec 32 := 32#32
  let v226 : BitVec 32 := Scalar.remsi v224 c32_i32_194
  let c64_i32_195 : BitVec 32 := 64#32
  let v227 : BitVec 32 := Scalar.muli v226 c64_i32_195
  v227
def k0_off87 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32_192 : BitVec 32 := 5#32
  let v224 : BitVec 32 := Scalar.subi v163 c5_i32_192
  let c10_i32_193 : BitVec 32 := 10#32
  let v225 : BitVec 32 := Scalar.remsi v224 c10_i32_193
  ![v225.toNat]
def k0_off88 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32_192 : BitVec 32 := 5#32
  let v224 : BitVec 32 := Scalar.subi v163 c5_i32_192
  let c32_i32_196 : BitVec 32 := 32#32
  let v229 : BitVec 32 := Scalar.divsi v224 c32_i32_196
  let c32_i32_194 : BitVec 32 := 32#32
  let v226 : BitVec 32 := Scalar.remsi v224 c32_i32_194
  let c64_i32_195 : BitVec 32 := 64#32
  let v227 : BitVec 32 := Scalar.muli v226 c64_i32_195
  let v228 : BitVec 32 := v227
  let c0_i32_197 : BitVec 32 := 0#32
  ![v229.toNat, v228.toNat, 0]
def k0_off89 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32_192 : BitVec 32 := 5#32
  let v224 : BitVec 32 := Scalar.subi v163 c5_i32_192
  let c10_i32_193 : BitVec 32 := 10#32
  let v225 : BitVec 32 := Scalar.remsi v224 c10_i32_193
  let c0_i32_198 : BitVec 32 := 0#32
  let c0_i32_199 : BitVec 32 := 0#32
  ![v225.toNat, 0, 0]
def k0_cond9 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32_200 : BitVec 32 := 5#32
  let v236 : BitVec 32 := Scalar.subi v163 c5_i32_200
  let c10_i32_201 : BitVec 32 := 10#32
  let v237 : BitVec 32 := Scalar.addi v236 c10_i32_201
  let c384_i32 : BitVec 32 := 384#32
  let v238 : BitVec 1 := Scalar.cmpi .slt v237 c384_i32
  let v239 : BitVec 32 := Scalar.extui v238
  let c0_i32_202 : BitVec 32 := 0#32
  let v240 : BitVec 1 := Scalar.cmpi .ne v239 c0_i32_202
  v240

def k0_mult10 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32_203 : BitVec 32 := 5#32
  let v241 : BitVec 32 := Scalar.subi v163 c5_i32_203
  let c10_i32_204 : BitVec 32 := 10#32
  let v242 : BitVec 32 := Scalar.addi v241 c10_i32_204
  let c32_i32_206 : BitVec 32 := 32#32
  let v244 : BitVec 32 := Scalar.remsi v242 c32_i32_206
  let c64_i32_207 : BitVec 32 := 64#32
  let v245 : BitVec 32 := Scalar.muli v244 c64_i32_207
  v245
def k0_off90 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32_203 : BitVec 32 := 5#32
  let v241 : BitVec 32 := Scalar.subi v163 c5_i32_203
  let c10_i32_204 : BitVec 32 := 10#32
  let v242 : BitVec 32 := Scalar.addi v241 c10_i32_204
  let c10_i32_205 : BitVec 32 := 10#32
  let v243 : BitVec 32 := Scalar.remsi v242 c10_i32_205
  ![v243.toNat]
def k0_off91 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32_203 : BitVec 32 := 5#32
  let v241 : BitVec 32 := Scalar.subi v163 c5_i32_203
  let c10_i32_204 : BitVec 32 := 10#32
  let v242 : BitVec 32 := Scalar.addi v241 c10_i32_204
  let c10_i32_205 : BitVec 32 := 10#32
  let v243 : BitVec 32 := Scalar.remsi v242 c10_i32_205
  let c0_i32_209 : BitVec 32 := 0#32
  let c0_i32_210 : BitVec 32 := 0#32
  ![v243.toNat, 0, 0]
def k0_off92 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_145 : BitVec 32 := 2#32
  let v162 : BitVec 32 := Scalar.muli v155 c2_i32_145
  let c0_i32_146 : BitVec 32 := 0#32
  let v163 : BitVec 32 := Scalar.addi v162 c0_i32_146
  let c5_i32_203 : BitVec 32 := 5#32
  let v241 : BitVec 32 := Scalar.subi v163 c5_i32_203
  let c10_i32_204 : BitVec 32 := 10#32
  let v242 : BitVec 32 := Scalar.addi v241 c10_i32_204
  let c32_i32_208 : BitVec 32 := 32#32
  let v247 : BitVec 32 := Scalar.divsi v242 c32_i32_208
  let c32_i32_206 : BitVec 32 := 32#32
  let v244 : BitVec 32 := Scalar.remsi v242 c32_i32_206
  let c64_i32_207 : BitVec 32 := 64#32
  let v245 : BitVec 32 := Scalar.muli v244 c64_i32_207
  let v246 : BitVec 32 := v245
  let c0_i32_211 : BitVec 32 := 0#32
  ![v247.toNat, v246.toNat, 0]
def k0_mult11 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c32_i32_170 : BitVec 32 := 32#32
  let v195 : BitVec 32 := Scalar.remsi v192 c32_i32_170
  let c64_i32_171 : BitVec 32 := 64#32
  let v196 : BitVec 32 := Scalar.muli v195 c64_i32_171
  v196
@[reducible] def k0_t5_loop : Scf.Loop 32 :=
  let c0_i32_176 : BitVec 32 := 0#32
  let c4_i32_177 : BitVec 32 := 4#32
  let v205 : BitVec 32 := Scalar.addi c0_i32_176 c4_i32_177
  let c1_i32_178 : BitVec 32 := 1#32
  ⟨c0_i32_176, v205, c1_i32_178⟩
def k0_mult12 (k0_t5 : Fin k0_t5_loop.trips) : BitVec 32 :=
  let c0_i32_193 : BitVec 32 := 0#32
  let c0_i32_176 : BitVec 32 := 0#32
  let c1_i32_178 : BitVec 32 := 1#32
  let arg42 : BitVec 32 := Scf.iv c0_i32_176 c1_i32_178 k0_t5
  let c1_i32_192 : BitVec 32 := 1#32
  let v224 : BitVec 32 := Scalar.muli arg42 c1_i32_192
  let v225 : BitVec 32 := Scalar.addi c0_i32_193 v224
  let c16_i32_194 : BitVec 32 := 16#32
  let v226 : BitVec 32 := Scalar.muli v225 c16_i32_194
  v226
def k0_mult13 (k0_t5 : Fin k0_t5_loop.trips) : BitVec 32 :=
  let c64_i32_196 : BitVec 32 := 64#32
  let c0_i32_193 : BitVec 32 := 0#32
  let c0_i32_176 : BitVec 32 := 0#32
  let c1_i32_178 : BitVec 32 := 1#32
  let arg42 : BitVec 32 := Scf.iv c0_i32_176 c1_i32_178 k0_t5
  let c1_i32_192 : BitVec 32 := 1#32
  let v224 : BitVec 32 := Scalar.muli arg42 c1_i32_192
  let v225 : BitVec 32 := Scalar.addi c0_i32_193 v224
  let c16_i32_195 : BitVec 32 := 16#32
  let v228 : BitVec 32 := Scalar.muli v225 c16_i32_195
  let v229 : BitVec 32 := Scalar.addi c64_i32_196 v228
  v229
def k0_off93 (k0_t3 : Fin k0_t3_loop.trips) (k0_t5 : Fin k0_t5_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c20_i32_140 : BitVec 32 := 20#32
  let v156 : BitVec 32 := Scalar.remsi v155 c20_i32_140
  let v231 : Index := Scalar.indexCast v156
  let c64_i32_196 : BitVec 32 := 64#32
  let c0_i32_193 : BitVec 32 := 0#32
  let c0_i32_176 : BitVec 32 := 0#32
  let c1_i32_178 : BitVec 32 := 1#32
  let arg42 : BitVec 32 := Scf.iv c0_i32_176 c1_i32_178 k0_t5
  let c1_i32_192 : BitVec 32 := 1#32
  let v224 : BitVec 32 := Scalar.muli arg42 c1_i32_192
  let v225 : BitVec 32 := Scalar.addi c0_i32_193 v224
  let c16_i32_195 : BitVec 32 := 16#32
  let v228 : BitVec 32 := Scalar.muli v225 c16_i32_195
  let v229 : BitVec 32 := Scalar.addi c64_i32_196 v228
  let v230 : BitVec 32 := v229
  let v232 : Index := Scalar.indexCast v230
  let c0_197 : Index := 0#32
  ![v231.toNat, v232.toNat, 0]
def k0_off94 (k0_t3 : Fin k0_t3_loop.trips) (k0_t5 : Fin k0_t5_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c20_i32_140 : BitVec 32 := 20#32
  let v156 : BitVec 32 := Scalar.remsi v155 c20_i32_140
  let v238 : Index := Scalar.indexCast v156
  let c64_i32_196 : BitVec 32 := 64#32
  let c0_i32_193 : BitVec 32 := 0#32
  let c0_i32_176 : BitVec 32 := 0#32
  let c1_i32_178 : BitVec 32 := 1#32
  let arg42 : BitVec 32 := Scf.iv c0_i32_176 c1_i32_178 k0_t5
  let c1_i32_192 : BitVec 32 := 1#32
  let v224 : BitVec 32 := Scalar.muli arg42 c1_i32_192
  let v225 : BitVec 32 := Scalar.addi c0_i32_193 v224
  let c16_i32_195 : BitVec 32 := 16#32
  let v228 : BitVec 32 := Scalar.muli v225 c16_i32_195
  let v229 : BitVec 32 := Scalar.addi c64_i32_196 v228
  let v230 : BitVec 32 := v229
  let v239 : Index := Scalar.indexCast v230
  let c0_198 : Index := 0#32
  ![v238.toNat, v239.toNat, 0]
def k0_off95 (k0_t3 : Fin k0_t3_loop.trips) (k0_t5 : Fin k0_t5_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c10_i32_168 : BitVec 32 := 10#32
  let v193 : BitVec 32 := Scalar.remsi v192 c10_i32_168
  let v245 : Index := Scalar.indexCast v193
  let c0_i32_193 : BitVec 32 := 0#32
  let c0_i32_176 : BitVec 32 := 0#32
  let c1_i32_178 : BitVec 32 := 1#32
  let arg42 : BitVec 32 := Scf.iv c0_i32_176 c1_i32_178 k0_t5
  let c1_i32_192 : BitVec 32 := 1#32
  let v224 : BitVec 32 := Scalar.muli arg42 c1_i32_192
  let v225 : BitVec 32 := Scalar.addi c0_i32_193 v224
  let c16_i32_194 : BitVec 32 := 16#32
  let v226 : BitVec 32 := Scalar.muli v225 c16_i32_194
  let v227 : BitVec 32 := v226
  let v246 : Index := Scalar.indexCast v227
  let c0_199 : Index := 0#32
  ![v245.toNat, v246.toNat, 0]
def k0_mult14 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c32_i32_181 : BitVec 32 := 32#32
  let v207 : BitVec 32 := Scalar.remsi v192 c32_i32_181
  let c64_i32_182 : BitVec 32 := 64#32
  let v208 : BitVec 32 := Scalar.muli v207 c64_i32_182
  v208
def k0_cond10 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_187 : BitVec 32 := 5#32
  let v217 : BitVec 1 := Scalar.cmpi .sge v192 c5_i32_187
  let v218 : BitVec 32 := Scalar.extui v217
  let c0_i32_188 : BitVec 32 := 0#32
  let v219 : BitVec 1 := Scalar.cmpi .ne v218 c0_i32_188
  v219

def k0_mult15 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_192 : BitVec 32 := 5#32
  let v224 : BitVec 32 := Scalar.subi v192 c5_i32_192
  let c32_i32_194 : BitVec 32 := 32#32
  let v226 : BitVec 32 := Scalar.remsi v224 c32_i32_194
  let c64_i32_195 : BitVec 32 := 64#32
  let v227 : BitVec 32 := Scalar.muli v226 c64_i32_195
  v227
def k0_off96 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_192 : BitVec 32 := 5#32
  let v224 : BitVec 32 := Scalar.subi v192 c5_i32_192
  let c10_i32_193 : BitVec 32 := 10#32
  let v225 : BitVec 32 := Scalar.remsi v224 c10_i32_193
  ![v225.toNat]
def k0_off97 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_192 : BitVec 32 := 5#32
  let v224 : BitVec 32 := Scalar.subi v192 c5_i32_192
  let c32_i32_196 : BitVec 32 := 32#32
  let v229 : BitVec 32 := Scalar.divsi v224 c32_i32_196
  let c32_i32_194 : BitVec 32 := 32#32
  let v226 : BitVec 32 := Scalar.remsi v224 c32_i32_194
  let c64_i32_195 : BitVec 32 := 64#32
  let v227 : BitVec 32 := Scalar.muli v226 c64_i32_195
  let v228 : BitVec 32 := v227
  let c0_i32_197 : BitVec 32 := 0#32
  ![v229.toNat, v228.toNat, 0]
def k0_off98 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_192 : BitVec 32 := 5#32
  let v224 : BitVec 32 := Scalar.subi v192 c5_i32_192
  let c10_i32_193 : BitVec 32 := 10#32
  let v225 : BitVec 32 := Scalar.remsi v224 c10_i32_193
  let c0_i32_198 : BitVec 32 := 0#32
  let c0_i32_199 : BitVec 32 := 0#32
  ![v225.toNat, 0, 0]
def k0_cond11 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_200 : BitVec 32 := 5#32
  let v236 : BitVec 32 := Scalar.subi v192 c5_i32_200
  let c10_i32_201 : BitVec 32 := 10#32
  let v237 : BitVec 32 := Scalar.addi v236 c10_i32_201
  let c384_i32 : BitVec 32 := 384#32
  let v238 : BitVec 1 := Scalar.cmpi .slt v237 c384_i32
  let v239 : BitVec 32 := Scalar.extui v238
  let c0_i32_202 : BitVec 32 := 0#32
  let v240 : BitVec 1 := Scalar.cmpi .ne v239 c0_i32_202
  v240

def k0_mult16 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_203 : BitVec 32 := 5#32
  let v241 : BitVec 32 := Scalar.subi v192 c5_i32_203
  let c10_i32_204 : BitVec 32 := 10#32
  let v242 : BitVec 32 := Scalar.addi v241 c10_i32_204
  let c32_i32_206 : BitVec 32 := 32#32
  let v244 : BitVec 32 := Scalar.remsi v242 c32_i32_206
  let c64_i32_207 : BitVec 32 := 64#32
  let v245 : BitVec 32 := Scalar.muli v244 c64_i32_207
  v245
def k0_off99 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_203 : BitVec 32 := 5#32
  let v241 : BitVec 32 := Scalar.subi v192 c5_i32_203
  let c10_i32_204 : BitVec 32 := 10#32
  let v242 : BitVec 32 := Scalar.addi v241 c10_i32_204
  let c10_i32_205 : BitVec 32 := 10#32
  let v243 : BitVec 32 := Scalar.remsi v242 c10_i32_205
  ![v243.toNat]
def k0_off100 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_203 : BitVec 32 := 5#32
  let v241 : BitVec 32 := Scalar.subi v192 c5_i32_203
  let c10_i32_204 : BitVec 32 := 10#32
  let v242 : BitVec 32 := Scalar.addi v241 c10_i32_204
  let c10_i32_205 : BitVec 32 := 10#32
  let v243 : BitVec 32 := Scalar.remsi v242 c10_i32_205
  let c0_i32_209 : BitVec 32 := 0#32
  let c0_i32_210 : BitVec 32 := 0#32
  ![v243.toNat, 0, 0]
def k0_off101 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c2_i32_166 : BitVec 32 := 2#32
  let v191 : BitVec 32 := Scalar.muli v155 c2_i32_166
  let c1_i32_167 : BitVec 32 := 1#32
  let v192 : BitVec 32 := Scalar.addi v191 c1_i32_167
  let c5_i32_203 : BitVec 32 := 5#32
  let v241 : BitVec 32 := Scalar.subi v192 c5_i32_203
  let c10_i32_204 : BitVec 32 := 10#32
  let v242 : BitVec 32 := Scalar.addi v241 c10_i32_204
  let c32_i32_208 : BitVec 32 := 32#32
  let v247 : BitVec 32 := Scalar.divsi v242 c32_i32_208
  let c32_i32_206 : BitVec 32 := 32#32
  let v244 : BitVec 32 := Scalar.remsi v242 c32_i32_206
  let c64_i32_207 : BitVec 32 := 64#32
  let v245 : BitVec 32 := Scalar.muli v244 c64_i32_207
  let v246 : BitVec 32 := v245
  let c0_i32_211 : BitVec 32 := 0#32
  ![v247.toNat, v246.toNat, 0]
def k0_cond12 (k0_t3 : Fin k0_t3_loop.trips) : BitVec 1 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c20_i32_189 : BitVec 32 := 20#32
  let v220 : BitVec 32 := Scalar.addi v155 c20_i32_189
  let c192_i32_190 : BitVec 32 := 192#32
  let v221 : BitVec 1 := Scalar.cmpi .slt v220 c192_i32_190
  let v222 : BitVec 32 := Scalar.extui v221
  let c0_i32_191 : BitVec 32 := 0#32
  let v223 : BitVec 1 := Scalar.cmpi .ne v222 c0_i32_191
  v223

def k0_mult17 (k0_t3 : Fin k0_t3_loop.trips) : BitVec 32 :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c20_i32_192 : BitVec 32 := 20#32
  let v224 : BitVec 32 := Scalar.addi v155 c20_i32_192
  let c16_i32_194 : BitVec 32 := 16#32
  let v226 : BitVec 32 := Scalar.remsi v224 c16_i32_194
  let c128_i32 : BitVec 32 := 128#32
  let v227 : BitVec 32 := Scalar.muli v226 c128_i32
  v227
def k0_off102 (k0_t3 : Fin k0_t3_loop.trips) : Fin 1 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c20_i32_192 : BitVec 32 := 20#32
  let v224 : BitVec 32 := Scalar.addi v155 c20_i32_192
  let c20_i32_193 : BitVec 32 := 20#32
  let v225 : BitVec 32 := Scalar.remsi v224 c20_i32_193
  ![v225.toNat]
def k0_off103 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c20_i32_192 : BitVec 32 := 20#32
  let v224 : BitVec 32 := Scalar.addi v155 c20_i32_192
  let c20_i32_193 : BitVec 32 := 20#32
  let v225 : BitVec 32 := Scalar.remsi v224 c20_i32_193
  let c0_i32_196 : BitVec 32 := 0#32
  let c0_i32_197 : BitVec 32 := 0#32
  ![v225.toNat, 0, 0]
def k0_off104 (k0_t3 : Fin k0_t3_loop.trips) : Fin 3 → Nat :=
  let c0_i32_134 : BitVec 32 := 0#32
  let c0_i32_36 : BitVec 32 := 0#32
  let c1_i32_37 : BitVec 32 := 1#32
  let arg41 : BitVec 32 := Scf.iv c0_i32_36 c1_i32_37 k0_t3
  let c1_i32_133 : BitVec 32 := 1#32
  let v144 : BitVec 32 := Scalar.muli arg41 c1_i32_133
  let v145 : BitVec 32 := Scalar.addi c0_i32_134 v144
  let c16_i32_139 : BitVec 32 := 16#32
  let v155 : BitVec 32 := Scalar.subi v145 c16_i32_139
  let c20_i32_192 : BitVec 32 := 20#32
  let v224 : BitVec 32 := Scalar.addi v155 c20_i32_192
  let c16_i32_195 : BitVec 32 := 16#32
  let v229 : BitVec 32 := Scalar.divsi v224 c16_i32_195
  let c16_i32_194 : BitVec 32 := 16#32
  let v226 : BitVec 32 := Scalar.remsi v224 c16_i32_194
  let c128_i32 : BitVec 32 := 128#32
  let v227 : BitVec 32 := Scalar.muli v226 c128_i32
  let v228 : BitVec 32 := v227
  let c0_i32_198 : BitVec 32 := 0#32
  ![v229.toNat, v228.toNat, 0]
def k0_mult18 : BitVec 32 :=
  let c379_i32_40 : BitVec 32 := 379#32
  let c32_i32 : BitVec 32 := 32#32
  let v40 : BitVec 32 := Scalar.remsi c379_i32_40 c32_i32
  let c64_i32 : BitVec 32 := 64#32
  let v41 : BitVec 32 := Scalar.muli v40 c64_i32
  v41
def k0_off105 (c379_i32 : BitVec 32) : Fin 1 → Nat :=
  let c10_i32_39 : BitVec 32 := 10#32
  let v39 : BitVec 32 := Scalar.remsi c379_i32 c10_i32_39
  ![v39.toNat]
def k0_off106 (c379_i32_41 : BitVec 32) (c379_i32_40 : BitVec 32) : Fin 3 → Nat :=
  let c32_i32_42 : BitVec 32 := 32#32
  let v43 : BitVec 32 := Scalar.divsi c379_i32_41 c32_i32_42
  let c32_i32 : BitVec 32 := 32#32
  let v40 : BitVec 32 := Scalar.remsi c379_i32_40 c32_i32
  let c64_i32 : BitVec 32 := 64#32
  let v41 : BitVec 32 := Scalar.muli v40 c64_i32
  let v42 : BitVec 32 := v41
  let c0_i32_43 : BitVec 32 := 0#32
  ![v43.toNat, v42.toNat, 0]
def k0_off106_at (r : Fin 5) : BitVec 32 × BitVec 32 :=
  if r.val < 2 then
    if r.val < 1 then
      (379#32, 379#32)
    else
      (380#32, 380#32)
  else
    if r.val < 3 then
      (381#32, 381#32)
    else
      if r.val < 4 then
        (382#32, 382#32)
      else
        (383#32, 383#32)
def k0_off107 (c379_i32 : BitVec 32) : Fin 3 → Nat :=
  let c10_i32_39 : BitVec 32 := 10#32
  let v39 : BitVec 32 := Scalar.remsi c379_i32 c10_i32_39
  let c0_i32_44 : BitVec 32 := 0#32
  let c0_i32_45 : BitVec 32 := 0#32
  ![v39.toNat, 0, 0]
def k0_mult19 : BitVec 32 :=
  let c380_i32_47 : BitVec 32 := 380#32
  let c32_i32_48 : BitVec 32 := 32#32
  let v51 : BitVec 32 := Scalar.remsi c380_i32_47 c32_i32_48
  let c64_i32_49 : BitVec 32 := 64#32
  let v52 : BitVec 32 := Scalar.muli v51 c64_i32_49
  v52
def k0_mult20 : BitVec 32 :=
  let c381_i32_56 : BitVec 32 := 381#32
  let c32_i32_57 : BitVec 32 := 32#32
  let v62 : BitVec 32 := Scalar.remsi c381_i32_56 c32_i32_57
  let c64_i32_58 : BitVec 32 := 64#32
  let v63 : BitVec 32 := Scalar.muli v62 c64_i32_58
  v63
def k0_mult21 : BitVec 32 :=
  let c382_i32_65 : BitVec 32 := 382#32
  let c32_i32_66 : BitVec 32 := 32#32
  let v73 : BitVec 32 := Scalar.remsi c382_i32_65 c32_i32_66
  let c64_i32_67 : BitVec 32 := 64#32
  let v74 : BitVec 32 := Scalar.muli v73 c64_i32_67
  v74
def k0_mult22 : BitVec 32 :=
  let c383_i32_74 : BitVec 32 := 383#32
  let c32_i32_75 : BitVec 32 := 32#32
  let v84 : BitVec 32 := Scalar.remsi c383_i32_74 c32_i32_75
  let c64_i32_76 : BitVec 32 := 64#32
  let v85 : BitVec 32 := Scalar.muli v84 c64_i32_76
  v85
abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S12x2048x7168 : Shape := ⟨3, ![12, 2048, 7168]⟩
abbrev S12x128x7168 : Shape := ⟨3, ![12, 128, 7168]⟩
abbrev S12x128x2048 : Shape := ⟨3, ![12, 128, 2048]⟩
abbrev S12x128x16 : Shape := ⟨3, ![12, 128, 16]⟩
abbrev S12 : Shape := ⟨1, ![12]⟩
abbrev S12x128x16x128 : Shape := ⟨4, ![12, 128, 16, 128]⟩
abbrev S12x128x16x1 : Shape := ⟨4, ![12, 128, 16, 1]⟩

abbrev nBuf : Space → Nat
  | .hbm => 13
  | .vmem => 10
  | .smem => 0
  | _ => 0

abbrev bufTy : (tb : Table) → Fin (tcTables nBuf tb) → BufTy
  | .hbm, ⟨0, _⟩ => ⟨S12x2048x7168, .f32⟩
  | .hbm, ⟨1, _⟩ => ⟨S12x2048x7168, .bf16⟩
  | .hbm, ⟨2, _⟩ => ⟨S12x128x7168, .bf16⟩
  | .hbm, ⟨3, _⟩ => ⟨S12x128x2048, .i8⟩
  | .hbm, ⟨4, _⟩ => ⟨S12x128x16, .f32⟩
  | .hbm, ⟨5, _⟩ => ⟨S12x128x2048, .i8⟩
  | .hbm, ⟨6, _⟩ => ⟨S12x128x16, .f32⟩
  | .hbm, ⟨7, _⟩ => ⟨S12, .i32⟩
  | .hbm, ⟨8, _⟩ => ⟨S12, .f32⟩
  | .hbm, ⟨9, _⟩ => ⟨S12x128x2048, .i8⟩
  | .hbm, ⟨10, _⟩ => ⟨S12x128x16, .f32⟩
  | .hbm, ⟨11, _⟩ => ⟨S12x128x2048, .i8⟩
  | .hbm, ⟨12, _⟩ => ⟨S12x128x16, .f32⟩
  | .local _ .vmem, ⟨0, _⟩ => ⟨S12x2048x7168, .bf16⟩
  | .local _ .vmem, ⟨1, _⟩ => ⟨S12x128x7168, .bf16⟩
  | .local _ .vmem, ⟨2, _⟩ => ⟨S12x128x2048, .i8⟩
  | .local _ .vmem, ⟨3, _⟩ => ⟨S12x128x16, .f32⟩
  | .local _ .vmem, ⟨4, _⟩ => ⟨S12x128x2048, .i8⟩
  | .local _ .vmem, ⟨5, _⟩ => ⟨S12x128x16, .f32⟩
  | .local _ .vmem, ⟨6, _⟩ => ⟨S12x128x2048, .i8⟩
  | .local _ .vmem, ⟨7, _⟩ => ⟨S12x128x16, .f32⟩
  | .local _ .vmem, ⟨8, _⟩ => ⟨S12x128x2048, .i8⟩
  | .local _ .vmem, ⟨9, _⟩ => ⟨S12x128x16, .f32⟩
  | _, _ => ⟨S12x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12x2048x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x128x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x128x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x128x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x128x2048 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Names.lean ====
/- The names of the pieces the kernel moves, part one: the 192 row blocks of `g`, the 384 row pieces of `w`
   and of the result, the slots of their two rings and the semaphores of the slots. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Affine
public import Idealize.ShloMosaic.Lib.Tactic

@[expose] public section

set_option maxRecDepth 16384

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A whole buffer is whole. -/
theorem hw (b : Ref sig .tc) : (Memref.whole b).IsWhole := Memref.isWhole_whole b

/-! ## Blocks of `g`, the ring of 20 slots -/

abbrev gHo (i : ℕ) : Fin 3 → Nat := ![i / 16 % 12, 128 * (i % 16), 0]
theorem gHo_inb (i : ℕ) : ∀ a, gHo i a + S1x128x7168.size a ≤ S12x2048x7168.size a := by
  intro a; fin_cases a
  · show i / 16 % 12 + 1 ≤ 12; omega
  · show 128 * (i % 16) + 128 ≤ 2048; omega
  · show 0 + 7168 ≤ 7168; omega
/-- Row block `i` of `g`: 128 rows of batch `i / 16`. -/
def gH (i : ℕ) : Memref sig .tc .hbm S128x7168 .bf16 :=
  ((Memref.whole main_arg1 : Memref sig .tc .hbm S12x2048x7168 .bf16).slice (Rect.unit (s := S12x2048x7168) (gHo i) S1x128x7168.size (gHo_inb i)) (fun _ => rfl)).squeeze S128x7168 squeezes_S1x128x7168_S128x7168
instance (i : ℕ) : ClosedOff (gHo i) := ⟨gHo i, rfl⟩
theorem gH_congr {off : Fin 3 → Nat} {i : ℕ} (e : off = gHo i) (hh hs) :
    ((Memref.whole main_arg1 : Memref sig .tc .hbm S12x2048x7168 .bf16).slice (Rect.unit (s := S12x2048x7168) off S1x128x7168.size hh) hs).squeeze S128x7168 squeezes_S1x128x7168_S128x7168 = gH i :=
  congrArg (fun M : Memref sig .tc .hbm S1x128x7168 .bf16 => M.squeeze S128x7168 squeezes_S1x128x7168_S128x7168) (Memref.slice_unit_congr _ e _ _ _ _)
theorem gH_eq {i j : ℕ} (e : gHo i = gHo j) : gH i = gH j := gH_congr e _ _

abbrev gSo (i : ℕ) : Fin 3 → Nat := ![i % 20, 0, 0]
theorem gSo_inb (i : ℕ) : ∀ a, gSo i a + S1x128x7168.size a ≤ S20x128x7168.size a := by
  intro a; fin_cases a
  · show i % 20 + 1 ≤ 20; omega
  · show 0 + 128 ≤ 128; omega
  · show 0 + 7168 ≤ 7168; omega
/-- Slot `i % 20` of the ring `g` is read into. -/
def gS (i : ℕ) : Memref sig .tc .vmem S128x7168 .bf16 :=
  ((Memref.whole cc0_scratch0 : Memref sig .tc .vmem S20x128x7168 .bf16).slice (Rect.unit (s := S20x128x7168) (gSo i) S1x128x7168.size (gSo_inb i)) (fun _ => rfl)).squeeze S128x7168 squeezes_S1x128x7168_S128x7168
instance (i : ℕ) : ClosedOff (gSo i) := ⟨gSo i, rfl⟩
theorem gS_congr {off : Fin 3 → Nat} {i : ℕ} (e : off = gSo i) (hh hs) :
    ((Memref.whole cc0_scratch0 : Memref sig .tc .vmem S20x128x7168 .bf16).slice (Rect.unit (s := S20x128x7168) off S1x128x7168.size hh) hs).squeeze S128x7168 squeezes_S1x128x7168_S128x7168 = gS i :=
  congrArg (fun M : Memref sig .tc .vmem S1x128x7168 .bf16 => M.squeeze S128x7168 squeezes_S1x128x7168_S128x7168) (Memref.slice_unit_congr _ e _ _ _ _)
theorem gS_eq {i j : ℕ} (e : gSo i = gSo j) : gS i = gS j := gS_congr e _ _

abbrev gCo (i : ℕ) : Fin 1 → Nat := ![i % 20]
theorem gCo_inb (i : ℕ) : ∀ a, gCo i a + S1.size a ≤ S20.size a := by
  intro a; fin_cases a
  · show i % 20 + 1 ≤ 20; omega
/-- The semaphore of slot `i % 20`. -/
def gC (i : ℕ) : DmaSems sig S_ := (cc0_scratch18.slice (Rect.unit (s := S20) (gCo i) S1.size (gCo_inb i))).squeeze S_ squeezes_S1_S_
theorem gC_congr {off : Fin 1 → Nat} {i : ℕ} (e : off = gCo i) (hh) :
    (cc0_scratch18.slice (Rect.unit (s := S20) off S1.size hh)).squeeze S_ squeezes_S1_S_ = gC i :=
  congrArg (fun A : DmaSems sig S1 => A.squeeze S_ squeezes_S1_S_) (SemArray.slice_unit_congr _ e _ _)
theorem gC_eq {i j : ℕ} (e : gCo i = gCo j) : gC i = gC j := gC_congr e _

theorem off9_gC : ∀ k : Fin k0_t1_loop.trips, k0_off9 k = gCo (k.val) := by decide +kernel
@[sl_canon] theorem gC_at_9 (k : Fin k0_t1_loop.trips) (hh) :
    (cc0_scratch18.slice (Rect.unit (s := S20) (k0_off9 k) S1.size hh)).squeeze S_ squeezes_S1_S_ = gC (k.val) := gC_congr (off9_gC k) _
theorem off47_gC : ∀ k : Fin k0_t3_loop.trips, k0_cond1 k = 1#1 → k0_off47 k = gCo (k.val) := by decide +kernel
@[sl_canon] theorem gC_at_47 (k : Fin k0_t3_loop.trips) (h1 : k0_cond1 k = 1#1) (hh) :
    (cc0_scratch18.slice (Rect.unit (s := S20) (k0_off47 k) S1.size hh)).squeeze S_ squeezes_S1_S_ = gC (k.val) := gC_congr (off47_gC k h1) _
theorem off102_gC : ∀ k : Fin k0_t3_loop.trips, k0_cond7 k = 1#1 → k0_cond12 k = 1#1 → k0_off102 k = gCo (k.val + 4) := by decide +kernel
@[sl_canon] theorem gC_at_102 (k : Fin k0_t3_loop.trips) (h7 : k0_cond7 k = 1#1) (h12 : k0_cond12 k = 1#1) (hh) :
    (cc0_scratch18.slice (Rect.unit (s := S20) (k0_off102 k) S1.size hh)).squeeze S_ squeezes_S1_S_ = gC (k.val + 4) := gC_congr (off102_gC k h7 h12) _

theorem off10_gS : ∀ k : Fin k0_t1_loop.trips, k0_off10 k = gSo (k.val) := by decide +kernel
@[sl_canon] theorem gS_at_10 (k : Fin k0_t1_loop.trips) (hh hs) :
    ((Memref.whole cc0_scratch0 : Memref sig .tc .vmem S20x128x7168 .bf16).slice (Rect.unit (s := S20x128x7168) (k0_off10 k) S1x128x7168.size hh) hs).squeeze S128x7168 squeezes_S1x128x7168_S128x7168 = gS (k.val) := gS_congr (off10_gS k) _ _
theorem off48_gS : ∀ k : Fin k0_t3_loop.trips, k0_cond1 k = 1#1 → k0_off48 k = gSo (k.val) := by decide +kernel
@[sl_canon] theorem gS_at_48 (k : Fin k0_t3_loop.trips) (h1 : k0_cond1 k = 1#1) (hh hs) :
    ((Memref.whole cc0_scratch0 : Memref sig .tc .vmem S20x128x7168 .bf16).slice (Rect.unit (s := S20x128x7168) (k0_off48 k) S1x128x7168.size hh) hs).squeeze S128x7168 squeezes_S1x128x7168_S128x7168 = gS (k.val) := gS_congr (off48_gS k h1) _ _
theorem off103_gS : ∀ k : Fin k0_t3_loop.trips, k0_cond7 k = 1#1 → k0_cond12 k = 1#1 → k0_off103 k = gSo (k.val + 4) := by decide +kernel
@[sl_canon] theorem gS_at_103 (k : Fin k0_t3_loop.trips) (h7 : k0_cond7 k = 1#1) (h12 : k0_cond12 k = 1#1) (hh hs) :
    ((Memref.whole cc0_scratch0 : Memref sig .tc .vmem S20x128x7168 .bf16).slice (Rect.unit (s := S20x128x7168) (k0_off103 k) S1x128x7168.size hh) hs).squeeze S128x7168 squeezes_S1x128x7168_S128x7168 = gS (k.val + 4) := gS_congr (off103_gS k h7 h12) _ _

theorem off11_gH : ∀ k : Fin k0_t1_loop.trips, k0_off11 k = gHo (k.val) := by decide +kernel
@[sl_canon] theorem gH_at_11 (k : Fin k0_t1_loop.trips) (hh hs) :
    ((Memref.whole main_arg1 : Memref sig .tc .hbm S12x2048x7168 .bf16).slice (Rect.unit (s := S12x2048x7168) (k0_off11 k) S1x128x7168.size hh) hs).squeeze S128x7168 squeezes_S1x128x7168_S128x7168 = gH (k.val) := gH_congr (off11_gH k) _ _
theorem off49_gH : ∀ k : Fin k0_t3_loop.trips, k0_cond1 k = 1#1 → k0_off49 k = gHo (k.val) := by decide +kernel
@[sl_canon] theorem gH_at_49 (k : Fin k0_t3_loop.trips) (h1 : k0_cond1 k = 1#1) (hh hs) :
    ((Memref.whole main_arg1 : Memref sig .tc .hbm S12x2048x7168 .bf16).slice (Rect.unit (s := S12x2048x7168) (k0_off49 k) S1x128x7168.size hh) hs).squeeze S128x7168 squeezes_S1x128x7168_S128x7168 = gH (k.val) := gH_congr (off49_gH k h1) _ _
theorem off104_gH : ∀ k : Fin k0_t3_loop.trips, k0_cond7 k = 1#1 → k0_cond12 k = 1#1 → k0_off104 k = gHo (k.val + 4) := by decide +kernel
@[sl_canon] theorem gH_at_104 (k : Fin k0_t3_loop.trips) (h7 : k0_cond7 k = 1#1) (h12 : k0_cond12 k = 1#1) (hh hs) :
    ((Memref.whole main_arg1 : Memref sig .tc .hbm S12x2048x7168 .bf16).slice (Rect.unit (s := S12x2048x7168) (k0_off104 k) S1x128x7168.size hh) hs).squeeze S128x7168 squeezes_S1x128x7168_S128x7168 = gH (k.val + 4) := gH_congr (off104_gH k h7 h12) _ _

/-! ## Pieces of `w` and of the result, the ring of 10 slots -/

abbrev wHo (i : ℕ) : Fin 3 → Nat := ![i / 32 % 12, 64 * (i % 32), 0]
theorem wHo_inb (i : ℕ) : ∀ a, wHo i a + S1x64x7168.size a ≤ S12x2048x7168.size a := by
  intro a; fin_cases a
  · show i / 32 % 12 + 1 ≤ 12; omega
  · show 64 * (i % 32) + 64 ≤ 2048; omega
  · show 0 + 7168 ≤ 7168; omega
/-- Row piece `i` of `w`: 64 rows of batch `i / 32`. -/
def wH (i : ℕ) : Memref sig .tc .hbm S64x7168 .f32 :=
  ((Memref.whole main_arg0 : Memref sig .tc .hbm S12x2048x7168 .f32).slice (Rect.unit (s := S12x2048x7168) (wHo i) S1x64x7168.size (wHo_inb i)) (fun _ => rfl)).squeeze S64x7168 squeezes_S1x64x7168_S64x7168
instance (i : ℕ) : ClosedOff (wHo i) := ⟨wHo i, rfl⟩
theorem wH_congr {off : Fin 3 → Nat} {i : ℕ} (e : off = wHo i) (hh hs) :
    ((Memref.whole main_arg0 : Memref sig .tc .hbm S12x2048x7168 .f32).slice (Rect.unit (s := S12x2048x7168) off S1x64x7168.size hh) hs).squeeze S64x7168 squeezes_S1x64x7168_S64x7168 = wH i :=
  congrArg (fun M : Memref sig .tc .hbm S1x64x7168 .f32 => M.squeeze S64x7168 squeezes_S1x64x7168_S64x7168) (Memref.slice_unit_congr _ e _ _ _ _)
theorem wH_eq {i j : ℕ} (e : wHo i = wHo j) : wH i = wH j := wH_congr e _ _

abbrev dHo (i : ℕ) : Fin 3 → Nat := ![i / 32 % 12, 64 * (i % 32), 0]
theorem dHo_inb (i : ℕ) : ∀ a, dHo i a + S1x64x7168.size a ≤ S12x2048x7168.size a := by
  intro a; fin_cases a
  · show i / 32 % 12 + 1 ≤ 12; omega
  · show 64 * (i % 32) + 64 ≤ 2048; omega
  · show 0 + 7168 ≤ 7168; omega
/-- Row piece `i` of the result. -/
def dH (i : ℕ) : Memref sig .tc .hbm S64x7168 .f32 :=
  ((Memref.whole main_v0_0 : Memref sig .tc .hbm S12x2048x7168 .f32).slice (Rect.unit (s := S12x2048x7168) (dHo i) S1x64x7168.size (dHo_inb i)) (fun _ => rfl)).squeeze S64x7168 squeezes_S1x64x7168_S64x7168
instance (i : ℕ) : ClosedOff (dHo i) := ⟨dHo i, rfl⟩
theorem dH_congr {off : Fin 3 → Nat} {i : ℕ} (e : off = dHo i) (hh hs) :
    ((Memref.whole main_v0_0 : Memref sig .tc .hbm S12x2048x7168 .f32).slice (Rect.unit (s := S12x2048x7168) off S1x64x7168.size hh) hs).squeeze S64x7168 squeezes_S1x64x7168_S64x7168 = dH i :=
  congrArg (fun M : Memref sig .tc .hbm S1x64x7168 .f32 => M.squeeze S64x7168 squeezes_S1x64x7168_S64x7168) (Memref.slice_unit_congr _ e _ _ _ _)
theorem dH_eq {i j : ℕ} (e : dHo i = dHo j) : dH i = dH j := dH_congr e _ _

abbrev wSo (i : ℕ) : Fin 3 → Nat := ![i % 10, 0, 0]
theorem wSo_inb (i : ℕ) : ∀ a, wSo i a + S1x64x7168.size a ≤ S10x64x7168.size a := by
  intro a; fin_cases a
  · show i % 10 + 1 ≤ 10; omega
  · show 0 + 64 ≤ 64; omega
  · show 0 + 7168 ≤ 7168; omega
/-- Slot `i % 10` of the ring the pieces pass through. -/
def wS (i : ℕ) : Memref sig .tc .vmem S64x7168 .f32 :=
  ((Memref.whole cc0_scratch1 : Memref sig .tc .vmem S10x64x7168 .f32).slice (Rect.unit (s := S10x64x7168) (wSo i) S1x64x7168.size (wSo_inb i)) (fun _ => rfl)).squeeze S64x7168 squeezes_S1x64x7168_S64x7168
instance (i : ℕ) : ClosedOff (wSo i) := ⟨wSo i, rfl⟩
theorem wS_congr {off : Fin 3 → Nat} {i : ℕ} (e : off = wSo i) (hh hs) :
    ((Memref.whole cc0_scratch1 : Memref sig .tc .vmem S10x64x7168 .f32).slice (Rect.unit (s := S10x64x7168) off S1x64x7168.size hh) hs).squeeze S64x7168 squeezes_S1x64x7168_S64x7168 = wS i :=
  congrArg (fun M : Memref sig .tc .vmem S1x64x7168 .f32 => M.squeeze S64x7168 squeezes_S1x64x7168_S64x7168) (Memref.slice_unit_congr _ e _ _ _ _)
theorem wS_eq {i j : ℕ} (e : wSo i = wSo j) : wS i = wS j := wS_congr e _ _

abbrev rCo (i : ℕ) : Fin 1 → Nat := ![i % 10]
theorem rCo_inb (i : ℕ) : ∀ a, rCo i a + S1.size a ≤ S10.size a := by
  intro a; fin_cases a
  · show i % 10 + 1 ≤ 10; omega
/-- The semaphore of the read into slot `i % 10`. -/
def rC (i : ℕ) : DmaSems sig S_ := (cc0_scratch19.slice (Rect.unit (s := S10) (rCo i) S1.size (rCo_inb i))).squeeze S_ squeezes_S1_S_
theorem rC_congr {off : Fin 1 → Nat} {i : ℕ} (e : off = rCo i) (hh) :
    (cc0_scratch19.slice (Rect.unit (s := S10) off S1.size hh)).squeeze S_ squeezes_S1_S_ = rC i :=
  congrArg (fun A : DmaSems sig S1 => A.squeeze S_ squeezes_S1_S_) (SemArray.slice_unit_congr _ e _ _)
theorem rC_eq {i j : ℕ} (e : rCo i = rCo j) : rC i = rC j := rC_congr e _

abbrev wCo (i : ℕ) : Fin 1 → Nat := ![i % 10]
theorem wCo_inb (i : ℕ) : ∀ a, wCo i a + S1.size a ≤ S10.size a := by
  intro a; fin_cases a
  · show i % 10 + 1 ≤ 10; omega
/-- The semaphore of the write out of slot `i % 10`. -/
def wC (i : ℕ) : DmaSems sig S_ := (cc0_scratch20.slice (Rect.unit (s := S10) (wCo i) S1.size (wCo_inb i))).squeeze S_ squeezes_S1_S_
theorem wC_congr {off : Fin 1 → Nat} {i : ℕ} (e : off = wCo i) (hh) :
    (cc0_scratch20.slice (Rect.unit (s := S10) off S1.size hh)).squeeze S_ squeezes_S1_S_ = wC i :=
  congrArg (fun A : DmaSems sig S1 => A.squeeze S_ squeezes_S1_S_) (SemArray.slice_unit_congr _ e _ _)
theorem wC_eq {i j : ℕ} (e : wCo i = wCo j) : wC i = wC j := wC_congr e _

theorem off12_rC : ∀ k : Fin k0_t2_loop.trips, k0_off12 k = rCo (k.val) := by decide +kernel
@[sl_canon] theorem rC_at_12 (k : Fin k0_t2_loop.trips) (hh) :
    (cc0_scratch19.slice (Rect.unit (s := S10) (k0_off12 k) S1.size hh)).squeeze S_ squeezes_S1_S_ = rC (k.val) := rC_congr (off12_rC k) _
theorem off81a_rC : ∀ k : Fin k0_t3_loop.trips, k0_cond7 k = 1#1 → k0_off81 k 0#32 = rCo (2 * k.val - 32) := by decide +kernel
@[sl_canon] theorem rC_at_81a (k : Fin k0_t3_loop.trips) (h7 : k0_cond7 k = 1#1) (hh) :
    (cc0_scratch19.slice (Rect.unit (s := S10) (k0_off81 k 0#32) S1.size hh)).squeeze S_ squeezes_S1_S_ = rC (2 * k.val - 32) := rC_congr (off81a_rC k h7) _
theorem off81b_rC : ∀ k : Fin k0_t3_loop.trips, k0_cond7 k = 1#1 → k0_off81 k 1#32 = rCo (2 * k.val - 31) := by decide +kernel
@[sl_canon] theorem rC_at_81b (k : Fin k0_t3_loop.trips) (h7 : k0_cond7 k = 1#1) (hh) :
    (cc0_scratch19.slice (Rect.unit (s := S10) (k0_off81 k 1#32) S1.size hh)).squeeze S_ squeezes_S1_S_ = rC (2 * k.val - 31) := rC_congr (off81b_rC k h7) _
theorem off90_rC : ∀ k : Fin k0_t3_loop.trips, k0_cond7 k = 1#1 → k0_cond8 k = 1#1 → k0_cond9 k = 1#1 → k0_off90 k = rCo (2 * k.val - 27) := by decide +kernel
@[sl_canon] theorem rC_at_90 (k : Fin k0_t3_loop.trips) (h7 : k0_cond7 k = 1#1) (h8 : k0_cond8 k = 1#1) (h9 : k0_cond9 k = 1#1) (hh) :
    (cc0_scratch19.slice (Rect.unit (s := S10) (k0_off90 k) S1.size hh)).squeeze S_ squeezes_S1_S_ = rC (2 * k.val - 27) := rC_congr (off90_rC k h7 h8 h9) _
theorem off99_rC : ∀ k : Fin k0_t3_loop.trips, k0_cond7 k = 1#1 → k0_cond10 k = 1#1 → k0_cond11 k = 1#1 → k0_off99 k = rCo (2 * k.val - 26) := by decide +kernel
@[sl_canon] theorem rC_at_99 (k : Fin k0_t3_loop.trips) (h7 : k0_cond7 k = 1#1) (h10 : k0_cond10 k = 1#1) (h11 : k0_cond11 k = 1#1) (hh) :
    (cc0_scratch19.slice (Rect.unit (s := S10) (k0_off99 k) S1.size hh)).squeeze S_ squeezes_S1_S_ = rC (2 * k.val - 26) := rC_congr (off99_rC k h7 h10 h11) _

theorem off81a_wC : ∀ k : Fin k0_t3_loop.trips, k0_cond7 k = 1#1 → k0_off81 k 0#32 = wCo (2 * k.val - 32) := by decide +kernel
@[sl_canon] theorem wC_at_81a (k : Fin k0_t3_loop.trips) (h7 : k0_cond7 k = 1#1) (hh) :
    (cc0_scratch20.slice (Rect.unit (s := S10) (k0_off81 k 0#32) S1.size hh)).squeeze S_ squeezes_S1_S_ = wC (2 * k.val - 32) := wC_congr (off81a_wC k h7) _
theorem off81b_wC : ∀ k : Fin k0_t3_loop.trips, k0_cond7 k = 1#1 → k0_off81 k 1#32 = wCo (2 * k.val - 31) := by decide +kernel
@[sl_canon] theorem wC_at_81b (k : Fin k0_t3_loop.trips) (h7 : k0_cond7 k = 1#1) (hh) :
    (cc0_scratch20.slice (Rect.unit (s := S10) (k0_off81 k 1#32) S1.size hh)).squeeze S_ squeezes_S1_S_ = wC (2 * k.val - 31) := wC_congr (off81b_wC k h7) _
theorem off87_wC : ∀ k : Fin k0_t3_loop.trips, k0_cond7 k = 1#1 → k0_cond8 k = 1#1 → k0_off87 k = wCo (2 * k.val - 27) := by decide +kernel
@[sl_canon] theorem wC_at_87 (k : Fin k0_t3_loop.trips) (h7 : k0_cond7 k = 1#1) (h8 : k0_cond8 k = 1#1) (hh) :
    (cc0_scratch20.slice (Rect.unit (s := S10) (k0_off87 k) S1.size hh)).squeeze S_ squeezes_S1_S_ = wC (2 * k.val - 27) := wC_congr (off87_wC k h7 h8) _
theorem off96_wC : ∀ k : Fin k0_t3_loop.trips, k0_cond7 k = 1#1 → k0_cond10 k = 1#1 → k0_off96 k = wCo (2 * k.val - 26) := by decide +kernel
@[sl_canon] theorem wC_at_96 (k : Fin k0_t3_loop.trips) (h7 : k0_cond7 k = 1#1) (h10 : k0_cond10 k = 1#1) (hh) :
    (cc0_scratch20.slice (Rect.unit (s := S10) (k0_off96 k) S1.size hh)).squeeze S_ squeezes_S1_S_ = wC (2 * k.val - 26) := wC_congr (off96_wC k h7 h10) _
@[sl_canon] theorem wC_at_105_379 (hh) :
    (cc0_scratch20.slice (Rect.unit (s := S10) (k0_off105 379#32) S1.size hh)).squeeze S_ squeezes_S1_S_ = wC (379) := wC_congr (by decide +kernel) _
@[sl_canon] theorem wC_at_105_380 (hh) :
    (cc0_scratch20.slice (Rect.unit (s := S10) (k0_off105 380#32) S1.size hh)).squeeze S_ squeezes_S1_S_ = wC (380) := wC_congr (by decide +kernel) _
@[sl_canon] theorem wC_at_105_381 (hh) :
    (cc0_scratch20.slice (Rect.unit (s := S10) (k0_off105 381#32) S1.size hh)).squeeze S_ squeezes_S1_S_ = wC (381) := wC_congr (by decide +kernel) _
@[sl_canon] theorem wC_at_105_382 (hh) :
    (cc0_scratch20.slice (Rect.unit (s := S10) (k0_off105 382#32) S1.size hh)).squeeze S_ squeezes_S1_S_ = wC (382) := wC_congr (by decide +kernel) _
@[sl_canon] theorem wC_at_105_383 (hh) :
    (cc0_scratch20.slice (Rect.unit (s := S10) (k0_off105 383#32) S1.size hh)).squeeze S_ squeezes_S1_S_ = wC (383) := wC_congr (by decide +kernel) _

theorem off13_wS : ∀ k : Fin k0_t2_loop.trips, k0_off13 k = wSo (k.val) := by decide +kernel
@[sl_canon] theorem wS_at_13 (k : Fin k0_t2_loop.trips) (hh hs) :
    ((Memref.whole cc0_scratch1 : Memref sig .tc .vmem S10x64x7168 .f32).slice (Rect.unit (s := S10x64x7168) (k0_off13 k) S1x64x7168.size hh) hs).squeeze S64x7168 squeezes_S1x64x7168_S64x7168 = wS (k.val) := wS_congr (off13_wS k) _ _
theorem off82a_wS : ∀ k : Fin k0_t3_loop.trips, k0_cond7 k = 1#1 → k0_off82 k 0#32 = wSo (2 * k.val - 32) := by decide +kernel
@[sl_canon] theorem wS_at_82a (k : Fin k0_t3_loop.trips) (h7 : k0_cond7 k = 1#1) (hh hs) :
    ((Memref.whole cc0_scratch1 : Memref sig .tc .vmem S10x64x7168 .f32).slice (Rect.unit (s := S10x64x7168) (k0_off82 k 0#32) S1x64x7168.size hh) hs).squeeze S64x7168 squeezes_S1x64x7168_S64x7168 = wS (2 * k.val - 32) := wS_congr (off82a_wS k h7) _ _
theorem off82b_wS : ∀ k : Fin k0_t3_loop.trips, k0_cond7 k = 1#1 → k0_off82 k 1#32 = wSo (2 * k.val - 31) := by decide +kernel
@[sl_canon] theorem wS_at_82b (k : Fin k0_t3_loop.trips) (h7 : k0_cond7 k = 1#1) (hh hs) :
    ((Memref.whole cc0_scratch1 : Memref sig .tc .vmem S10x64x7168 .f32).slice (Rect.unit (s := S10x64x7168) (k0_off82 k 1#32) S1x64x7168.size hh) hs).squeeze S64x7168 squeezes_S1x64x7168_S64x7168 = wS (2 * k.val - 31) := wS_congr (off82b_wS k h7) _ _
theorem off89_wS : ∀ k : Fin k0_t3_loop.trips, k0_cond7 k = 1#1 → k0_cond8 k = 1#1 → k0_off89 k = wSo (2 * k.val - 27) := by decide +kernel
@[sl_canon] theorem wS_at_89 (k : Fin k0_t3_loop.trips) (h7 : k0_cond7 k = 1#1) (h8 : k0_cond8 k = 1#1) (hh hs) :
    ((Memref.whole cc0_scratch1 : Memref sig .tc .vmem S10x64x7168 .f32).slice (Rect.unit (s := S10x64x7168) (k0_off89 k) S1x64x7168.size hh) hs).squeeze S64x7168 squeezes_S1x64x7168_S64x7168 = wS (2 * k.val - 27) := wS_congr (off89_wS k h7 h8) _ _
theorem off91_wS : ∀ k : Fin k0_t3_loop.trips, k0_cond7 k = 1#1 → k0_cond8 k = 1#1 → k0_cond9 k = 1#1 → k0_off91 k = wSo (2 * k.val - 27) := by decide +kernel
@[sl_canon] theorem wS_at_91 (k : Fin k0_t3_loop.trips) (h7 : k0_cond7 k = 1#1) (h8 : k0_cond8 k = 1#1) (h9 : k0_cond9 k = 1#1) (hh hs) :
    ((Memref.whole cc0_scratch1 : Memref sig .tc .vmem S10x64x7168 .f32).slice (Rect.unit (s := S10x64x7168) (k0_off91 k) S1x64x7168.size hh) hs).squeeze S64x7168 squeezes_S1x64x7168_S64x7168 = wS (2 * k.val - 27) := wS_congr (off91_wS k h7 h8 h9) _ _
theorem off98_wS : ∀ k : Fin k0_t3_loop.trips, k0_cond7 k = 1#1 → k0_cond10 k = 1#1 → k0_off98 k = wSo (2 * k.val - 26) := by decide +kernel
@[sl_canon] theorem wS_at_98 (k : Fin k0_t3_loop.trips) (h7 : k0_cond7 k = 1#1) (h10 : k0_cond10 k = 1#1) (hh hs) :
    ((Memref.whole cc0_scratch1 : Memref sig .tc .vmem S10x64x7168 .f32).slice (Rect.unit (s := S10x64x7168) (k0_off98 k) S1x64x7168.size hh) hs).squeeze S64x7168 squeezes_S1x64x7168_S64x7168 = wS (2 * k.val - 26) := wS_congr (off98_wS k h7 h10) _ _
theorem off100_wS : ∀ k : Fin k0_t3_loop.trips, k0_cond7 k = 1#1 → k0_cond10 k = 1#1 → k0_cond11 k = 1#1 → k0_off100 k = wSo (2 * k.val - 26) := by decide +kernel
@[sl_canon] theorem wS_at_100 (k : Fin k0_t3_loop.trips) (h7 : k0_cond7 k = 1#1) (h10 : k0_cond10 k = 1#1) (h11 : k0_cond11 k = 1#1) (hh hs) :
    ((Memref.whole cc0_scratch1 : Memref sig .tc .vmem S10x64x7168 .f32).slice (Rect.unit (s := S10x64x7168) (k0_off100 k) S1x64x7168.size hh) hs).squeeze S64x7168 squeezes_S1x64x7168_S64x7168 = wS (2 * k.val - 26) := wS_congr (off100_wS k h7 h10 h11) _ _
@[sl_canon] theorem wS_at_107_379 (hh hs) :
    ((Memref.whole cc0_scratch1 : Memref sig .tc .vmem S10x64x7168 .f32).slice (Rect.unit (s := S10x64x7168) (k0_off107 379#32) S1x64x7168.size hh) hs).squeeze S64x7168 squeezes_S1x64x7168_S64x7168 = wS (379) := wS_congr (by decide +kernel) _ _
@[sl_canon] theorem wS_at_107_380 (hh hs) :
    ((Memref.whole cc0_scratch1 : Memref sig .tc .vmem S10x64x7168 .f32).slice (Rect.unit (s := S10x64x7168) (k0_off107 380#32) S1x64x7168.size hh) hs).squeeze S64x7168 squeezes_S1x64x7168_S64x7168 = wS (380) := wS_congr (by decide +kernel) _ _
@[sl_canon] theorem wS_at_107_381 (hh hs) :
    ((Memref.whole cc0_scratch1 : Memref sig .tc .vmem S10x64x7168 .f32).slice (Rect.unit (s := S10x64x7168) (k0_off107 381#32) S1x64x7168.size hh) hs).squeeze S64x7168 squeezes_S1x64x7168_S64x7168 = wS (381) := wS_congr (by decide +kernel) _ _
@[sl_canon] theorem wS_at_107_382 (hh hs) :
    ((Memref.whole cc0_scratch1 : Memref sig .tc .vmem S10x64x7168 .f32).slice (Rect.unit (s := S10x64x7168) (k0_off107 382#32) S1x64x7168.size hh) hs).squeeze S64x7168 squeezes_S1x64x7168_S64x7168 = wS (382) := wS_congr (by decide +kernel) _ _
@[sl_canon] theorem wS_at_107_383 (hh hs) :
    ((Memref.whole cc0_scratch1 : Memref sig .tc .vmem S10x64x7168 .f32).slice (Rect.unit (s := S10x64x7168) (k0_off107 383#32) S1x64x7168.size hh) hs).squeeze S64x7168 squeezes_S1x64x7168_S64x7168 = wS (383) := wS_congr (by decide +kernel) _ _

theorem off14_wH : ∀ k : Fin k0_t2_loop.trips, k0_off14 k = wHo (k.val) := by decide +kernel
@[sl_canon] theorem wH_at_14 (k : Fin k0_t2_loop.trips) (hh hs) :
    ((Memref.whole main_arg0 : Memref sig .tc .hbm S12x2048x7168 .f32).slice (Rect.unit (s := S12x2048x7168) (k0_off14 k) S1x64x7168.size hh) hs).squeeze S64x7168 squeezes_S1x64x7168_S64x7168 = wH (k.val) := wH_congr (off14_wH k) _ _
theorem off83a_wH : ∀ k : Fin k0_t3_loop.trips, k0_cond7 k = 1#1 → k0_off83 k 0#32 = wHo (2 * k.val - 32) := by decide +kernel
@[sl_canon] theorem wH_at_83a (k : Fin k0_t3_loop.trips) (h7 : k0_cond7 k = 1#1) (hh hs) :
    ((Memref.whole main_arg0 : Memref sig .tc .hbm S12x2048x7168 .f32).slice (Rect.unit (s := S12x2048x7168) (k0_off83 k 0#32) S1x64x7168.size hh) hs).squeeze S64x7168 squeezes_S1x64x7168_S64x7168 = wH (2 * k.val - 32) := wH_congr (off83a_wH k h7) _ _
theorem off83b_wH : ∀ k : Fin k0_t3_loop.trips, k0_cond7 k = 1#1 → k0_off83 k 1#32 = wHo (2 * k.val - 31) := by decide +kernel
@[sl_canon] theorem wH_at_83b (k : Fin k0_t3_loop.trips) (h7 : k0_cond7 k = 1#1) (hh hs) :
    ((Memref.whole main_arg0 : Memref sig .tc .hbm S12x2048x7168 .f32).slice (Rect.unit (s := S12x2048x7168) (k0_off83 k 1#32) S1x64x7168.size hh) hs).squeeze S64x7168 squeezes_S1x64x7168_S64x7168 = wH (2 * k.val - 31) := wH_congr (off83b_wH k h7) _ _
theorem off92_wH : ∀ k : Fin k0_t3_loop.trips, k0_cond7 k = 1#1 → k0_cond8 k = 1#1 → k0_cond9 k = 1#1 → k0_off92 k = wHo (2 * k.val - 27) := by decide +kernel
@[sl_canon] theorem wH_at_92 (k : Fin k0_t3_loop.trips) (h7 : k0_cond7 k = 1#1) (h8 : k0_cond8 k = 1#1) (h9 : k0_cond9 k = 1#1) (hh hs) :
    ((Memref.whole main_arg0 : Memref sig .tc .hbm S12x2048x7168 .f32).slice (Rect.unit (s := S12x2048x7168) (k0_off92 k) S1x64x7168.size hh) hs).squeeze S64x7168 squeezes_S1x64x7168_S64x7168 = wH (2 * k.val - 27) := wH_congr (off92_wH k h7 h8 h9) _ _
theorem off101_wH : ∀ k : Fin k0_t3_loop.trips, k0_cond7 k = 1#1 → k0_cond10 k = 1#1 → k0_cond11 k = 1#1 → k0_off101 k = wHo (2 * k.val - 26) := by decide +kernel
@[sl_canon] theorem wH_at_101 (k : Fin k0_t3_loop.trips) (h7 : k0_cond7 k = 1#1) (h10 : k0_cond10 k = 1#1) (h11 : k0_cond11 k = 1#1) (hh hs) :
    ((Memref.whole main_arg0 : Memref sig .tc .hbm S12x2048x7168 .f32).slice (Rect.unit (s := S12x2048x7168) (k0_off101 k) S1x64x7168.size hh) hs).squeeze S64x7168 squeezes_S1x64x7168_S64x7168 = wH (2 * k.val - 26) := wH_congr (off101_wH k h7 h10 h11) _ _

theorem off83a_dH : ∀ k : Fin k0_t3_loop.trips, k0_cond7 k = 1#1 → k0_off83 k 0#32 = dHo (2 * k.val - 32) := by decide +kernel
@[sl_canon] theorem dH_at_83a (k : Fin k0_t3_loop.trips) (h7 : k0_cond7 k = 1#1) (hh hs) :
    ((Memref.whole main_v0_0 : Memref sig .tc .hbm S12x2048x7168 .f32).slice (Rect.unit (s := S12x2048x7168) (k0_off83 k 0#32) S1x64x7168.size hh) hs).squeeze S64x7168 squeezes_S1x64x7168_S64x7168 = dH (2 * k.val - 32) := dH_congr (off83a_dH k h7) _ _
theorem off83b_dH : ∀ k : Fin k0_t3_loop.trips, k0_cond7 k = 1#1 → k0_off83 k 1#32 = dHo (2 * k.val - 31) := by decide +kernel
@[sl_canon] theorem dH_at_83b (k : Fin k0_t3_loop.trips) (h7 : k0_cond7 k = 1#1) (hh hs) :
    ((Memref.whole main_v0_0 : Memref sig .tc .hbm S12x2048x7168 .f32).slice (Rect.unit (s := S12x2048x7168) (k0_off83 k 1#32) S1x64x7168.size hh) hs).squeeze S64x7168 squeezes_S1x64x7168_S64x7168 = dH (2 * k.val - 31) := dH_congr (off83b_dH k h7) _ _
theorem off88_dH : ∀ k : Fin k0_t3_loop.trips, k0_cond7 k = 1#1 → k0_cond8 k = 1#1 → k0_off88 k = dHo (2 * k.val - 37) := by decide +kernel
@[sl_canon] theorem dH_at_88 (k : Fin k0_t3_loop.trips) (h7 : k0_cond7 k = 1#1) (h8 : k0_cond8 k = 1#1) (hh hs) :
    ((Memref.whole main_v0_0 : Memref sig .tc .hbm S12x2048x7168 .f32).slice (Rect.unit (s := S12x2048x7168) (k0_off88 k) S1x64x7168.size hh) hs).squeeze S64x7168 squeezes_S1x64x7168_S64x7168 = dH (2 * k.val - 37) := dH_congr (off88_dH k h7 h8) _ _
theorem off97_dH : ∀ k : Fin k0_t3_loop.trips, k0_cond7 k = 1#1 → k0_cond10 k = 1#1 → k0_off97 k = dHo (2 * k.val - 36) := by decide +kernel
@[sl_canon] theorem dH_at_97 (k : Fin k0_t3_loop.trips) (h7 : k0_cond7 k = 1#1) (h10 : k0_cond10 k = 1#1) (hh hs) :
    ((Memref.whole main_v0_0 : Memref sig .tc .hbm S12x2048x7168 .f32).slice (Rect.unit (s := S12x2048x7168) (k0_off97 k) S1x64x7168.size hh) hs).squeeze S64x7168 squeezes_S1x64x7168_S64x7168 = dH (2 * k.val - 36) := dH_congr (off97_dH k h7 h10) _ _
@[sl_canon] theorem dH_at_106_379 (hh hs) :
    ((Memref.whole main_v0_0 : Memref sig .tc .hbm S12x2048x7168 .f32).slice (Rect.unit (s := S12x2048x7168) (k0_off106 379#32 379#32) S1x64x7168.size hh) hs).squeeze S64x7168 squeezes_S1x64x7168_S64x7168 = dH (379) := dH_congr (by decide +kernel) _ _
@[sl_canon] theorem dH_at_106_380 (hh hs) :
    ((Memref.whole main_v0_0 : Memref sig .tc .hbm S12x2048x7168 .f32).slice (Rect.unit (s := S12x2048x7168) (k0_off106 380#32 380#32) S1x64x7168.size hh) hs).squeeze S64x7168 squeezes_S1x64x7168_S64x7168 = dH (380) := dH_congr (by decide +kernel) _ _
@[sl_canon] theorem dH_at_106_381 (hh hs) :
    ((Memref.whole main_v0_0 : Memref sig .tc .hbm S12x2048x7168 .f32).slice (Rect.unit (s := S12x2048x7168) (k0_off106 381#32 381#32) S1x64x7168.size hh) hs).squeeze S64x7168 squeezes_S1x64x7168_S64x7168 = dH (381) := dH_congr (by decide +kernel) _ _
@[sl_canon] theorem dH_at_106_382 (hh hs) :
    ((Memref.whole main_v0_0 : Memref sig .tc .hbm S12x2048x7168 .f32).slice (Rect.unit (s := S12x2048x7168) (k0_off106 382#32 382#32) S1x64x7168.size hh) hs).squeeze S64x7168 squeezes_S1x64x7168_S64x7168 = dH (382) := dH_congr (by decide +kernel) _ _
@[sl_canon] theorem dH_at_106_383 (hh hs) :
    ((Memref.whole main_v0_0 : Memref sig .tc .hbm S12x2048x7168 .f32).slice (Rect.unit (s := S12x2048x7168) (k0_off106 383#32 383#32) S1x64x7168.size hh) hs).squeeze S64x7168 squeezes_S1x64x7168_S64x7168 = dH (383) := dH_congr (by decide +kernel) _ _

/-! ## Where the second half of a trip reads and writes -/

theorem off85_eq : ∀ (k : Fin k0_t3_loop.trips) (j : Fin k0_t4_loop.trips), k0_cond7 k = 1#1 → k0_off85 k j = ![(k.val + 4) % 20, 16 * j.val, 0] := by decide +kernel
theorem off86_eq : ∀ (k : Fin k0_t3_loop.trips) (j : Fin k0_t4_loop.trips), k0_cond7 k = 1#1 → k0_off86 k j = ![(2 * k.val - 32) % 10, 16 * j.val, 0] := by decide +kernel
theorem off94_eq : ∀ (k : Fin k0_t3_loop.trips) (j : Fin k0_t5_loop.trips), k0_cond7 k = 1#1 → k0_off94 k j = ![(k.val + 4) % 20, 16 * j.val + 64, 0] := by decide +kernel
theorem off95_eq : ∀ (k : Fin k0_t3_loop.trips) (j : Fin k0_t5_loop.trips), k0_cond7 k = 1#1 → k0_off95 k j = ![(2 * k.val - 31) % 10, 16 * j.val, 0] := by decide +kernel

instance (k : Fin k0_t3_loop.trips) (j : Fin k0_t4_loop.trips) [h : Fact (k0_cond7 k = 1#1)] : ClosedOff (k0_off85 k j) := ⟨_, off85_eq k j h.out⟩
instance (k : Fin k0_t3_loop.trips) (j : Fin k0_t4_loop.trips) [h : Fact (k0_cond7 k = 1#1)] : ClosedOff (k0_off86 k j) := ⟨_, off86_eq k j h.out⟩
instance (k : Fin k0_t3_loop.trips) (j : Fin k0_t5_loop.trips) [h : Fact (k0_cond7 k = 1#1)] : ClosedOff (k0_off94 k j) := ⟨_, off94_eq k j h.out⟩
instance (k : Fin k0_t3_loop.trips) (j : Fin k0_t5_loop.trips) [h : Fact (k0_cond7 k = 1#1)] : ClosedOff (k0_off95 k j) := ⟨_, off95_eq k j h.out⟩

end Cert.Proof.Kernel
-- ==== Proof.NamesBatch.lean ====
/- The names of the pieces the kernel moves, part two: what it reads and writes once per batch. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Points
public import Idealize.ShloMosaic.Lib.Ring
public import Idealize.ShloMosaic.Lib.Affine
public import Idealize.ShloMosaic.Lib.Tactic
public import proofs.«01_k».proof.Proof.Names

@[expose] public section

set_option maxRecDepth 16384

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The projections -/

abbrev pHo (i : ℕ) : Fin 3 → Nat := ![i % 12, 0, 0]
theorem pHo_inb (i : ℕ) : ∀ a, pHo i a + S1x128x7168.size a ≤ S12x128x7168.size a := by
  intro a; fin_cases a
  · show i % 12 + 1 ≤ 12; omega
  · show 0 + 128 ≤ 128; omega
  · show 0 + 7168 ≤ 7168; omega
/-- The projection of batch `i`. -/
def pH (i : ℕ) : Memref sig .tc .hbm S128x7168 .bf16 :=
  ((Memref.whole main_arg2 : Memref sig .tc .hbm S12x128x7168 .bf16).slice (Rect.unit (s := S12x128x7168) (pHo i) S1x128x7168.size (pHo_inb i)) (fun _ => rfl)).squeeze S128x7168 squeezes_S1x128x7168_S128x7168
instance (i : ℕ) : ClosedOff (pHo i) := ⟨pHo i, rfl⟩
theorem pH_congr {off : Fin 3 → Nat} {i : ℕ} (e : off = pHo i) (hh hs) :
    ((Memref.whole main_arg2 : Memref sig .tc .hbm S12x128x7168 .bf16).slice (Rect.unit (s := S12x128x7168) off S1x128x7168.size hh) hs).squeeze S128x7168 squeezes_S1x128x7168_S128x7168 = pH i :=
  congrArg (fun M : Memref sig .tc .hbm S1x128x7168 .bf16 => M.squeeze S128x7168 squeezes_S1x128x7168_S128x7168) (Memref.slice_unit_congr _ e _ _ _ _)
theorem pH_eq {i j : ℕ} (e : pHo i = pHo j) : pH i = pH j := pH_congr e _ _

abbrev pSo (i : ℕ) : Fin 3 → Nat := ![i % 2, 0, 0]
theorem pSo_inb (i : ℕ) : ∀ a, pSo i a + S1x128x7168.size a ≤ S2x128x7168.size a := by
  intro a; fin_cases a
  · show i % 2 + 1 ≤ 2; omega
  · show 0 + 128 ≤ 128; omega
  · show 0 + 7168 ≤ 7168; omega
/-- Slot `i % 2` for the projections. -/
def pS (i : ℕ) : Memref sig .tc .vmem S128x7168 .bf16 :=
  ((Memref.whole cc0_scratch2 : Memref sig .tc .vmem S2x128x7168 .bf16).slice (Rect.unit (s := S2x128x7168) (pSo i) S1x128x7168.size (pSo_inb i)) (fun _ => rfl)).squeeze S128x7168 squeezes_S1x128x7168_S128x7168
instance (i : ℕ) : ClosedOff (pSo i) := ⟨pSo i, rfl⟩
theorem pS_congr {off : Fin 3 → Nat} {i : ℕ} (e : off = pSo i) (hh hs) :
    ((Memref.whole cc0_scratch2 : Memref sig .tc .vmem S2x128x7168 .bf16).slice (Rect.unit (s := S2x128x7168) off S1x128x7168.size hh) hs).squeeze S128x7168 squeezes_S1x128x7168_S128x7168 = pS i :=
  congrArg (fun M : Memref sig .tc .vmem S1x128x7168 .bf16 => M.squeeze S128x7168 squeezes_S1x128x7168_S128x7168) (Memref.slice_unit_congr _ e _ _ _ _)
theorem pS_eq {i j : ℕ} (e : pSo i = pSo j) : pS i = pS j := pS_congr e _ _

abbrev pCo (i : ℕ) : Fin 1 → Nat := ![i % 2]
theorem pCo_inb (i : ℕ) : ∀ a, pCo i a + S1.size a ≤ S2.size a := by
  intro a; fin_cases a
  · show i % 2 + 1 ≤ 2; omega
/-- The semaphore of slot `i % 2`. -/
def pC (i : ℕ) : DmaSems sig S_ := (cc0_scratch21.slice (Rect.unit (s := S2) (pCo i) S1.size (pCo_inb i))).squeeze S_ squeezes_S1_S_
theorem pC_congr {off : Fin 1 → Nat} {i : ℕ} (e : off = pCo i) (hh) :
    (cc0_scratch21.slice (Rect.unit (s := S2) off S1.size hh)).squeeze S_ squeezes_S1_S_ = pC i :=
  congrArg (fun A : DmaSems sig S1 => A.squeeze S_ squeezes_S1_S_) (SemArray.slice_unit_congr _ e _ _)
theorem pC_eq {i j : ℕ} (e : pCo i = pCo j) : pC i = pC j := pC_congr e _

@[sl_canon] theorem pC_at_L0 (hh) :
    (cc0_scratch21.slice (Rect.unit (s := S2) k0_off7 S1.size hh)).squeeze S_ squeezes_S1_S_ = pC (0) := pC_congr (by decide +kernel) _
theorem off31_pC : ∀ k : Fin k0_t3_loop.trips, k0_cond1 k = 1#1 → k0_cond2 k = 1#1 → k0_off31 k = pCo (k.val / 16) := by decide +kernel
@[sl_canon] theorem pC_at_31 (k : Fin k0_t3_loop.trips) (h1 : k0_cond1 k = 1#1) (h2 : k0_cond2 k = 1#1) (hh) :
    (cc0_scratch21.slice (Rect.unit (s := S2) (k0_off31 k) S1.size hh)).squeeze S_ squeezes_S1_S_ = pC (k.val / 16) := pC_congr (off31_pC k h1 h2) _
theorem off42_pC : ∀ k : Fin k0_t3_loop.trips, k0_cond1 k = 1#1 → k0_cond2 k = 1#1 → k0_cond4 k = 1#1 → k0_off42 k = pCo (k.val / 16 + 1) := by decide +kernel
@[sl_canon] theorem pC_at_42 (k : Fin k0_t3_loop.trips) (h1 : k0_cond1 k = 1#1) (h2 : k0_cond2 k = 1#1) (h4 : k0_cond4 k = 1#1) (hh) :
    (cc0_scratch21.slice (Rect.unit (s := S2) (k0_off42 k) S1.size hh)).squeeze S_ squeezes_S1_S_ = pC (k.val / 16 + 1) := pC_congr (off42_pC k h1 h2 h4) _
@[sl_canon] theorem pS_at_L0 (hh hs) :
    ((Memref.whole cc0_scratch2 : Memref sig .tc .vmem S2x128x7168 .bf16).slice (Rect.unit (s := S2x128x7168) k0_off8 S1x128x7168.size hh) hs).squeeze S128x7168 squeezes_S1x128x7168_S128x7168 = pS (0) := pS_congr (by decide +kernel) _ _
theorem off32_pS : ∀ k : Fin k0_t3_loop.trips, k0_cond1 k = 1#1 → k0_cond2 k = 1#1 → k0_off32 k = pSo (k.val / 16) := by decide +kernel
@[sl_canon] theorem pS_at_32 (k : Fin k0_t3_loop.trips) (h1 : k0_cond1 k = 1#1) (h2 : k0_cond2 k = 1#1) (hh hs) :
    ((Memref.whole cc0_scratch2 : Memref sig .tc .vmem S2x128x7168 .bf16).slice (Rect.unit (s := S2x128x7168) (k0_off32 k) S1x128x7168.size hh) hs).squeeze S128x7168 squeezes_S1x128x7168_S128x7168 = pS (k.val / 16) := pS_congr (off32_pS k h1 h2) _ _
theorem off43_pS : ∀ k : Fin k0_t3_loop.trips, k0_cond1 k = 1#1 → k0_cond2 k = 1#1 → k0_cond4 k = 1#1 → k0_off43 k = pSo (k.val / 16 + 1) := by decide +kernel
@[sl_canon] theorem pS_at_43 (k : Fin k0_t3_loop.trips) (h1 : k0_cond1 k = 1#1) (h2 : k0_cond2 k = 1#1) (h4 : k0_cond4 k = 1#1) (hh hs) :
    ((Memref.whole cc0_scratch2 : Memref sig .tc .vmem S2x128x7168 .bf16).slice (Rect.unit (s := S2x128x7168) (k0_off43 k) S1x128x7168.size hh) hs).squeeze S128x7168 squeezes_S1x128x7168_S128x7168 = pS (k.val / 16 + 1) := pS_congr (off43_pS k h1 h2 h4) _ _
@[sl_canon] theorem pH_at_L0 (hh hs) :
    ((Memref.whole main_arg2 : Memref sig .tc .hbm S12x128x7168 .bf16).slice (Rect.unit (s := S12x128x7168) ![0, 0, 0] S1x128x7168.size hh) hs).squeeze S128x7168 squeezes_S1x128x7168_S128x7168 = pH (0) := pH_congr (by decide +kernel) _ _
theorem off33_pH : ∀ k : Fin k0_t3_loop.trips, k0_cond1 k = 1#1 → k0_cond2 k = 1#1 → k0_off33 k = pHo (k.val / 16) := by decide +kernel
@[sl_canon] theorem pH_at_33 (k : Fin k0_t3_loop.trips) (h1 : k0_cond1 k = 1#1) (h2 : k0_cond2 k = 1#1) (hh hs) :
    ((Memref.whole main_arg2 : Memref sig .tc .hbm S12x128x7168 .bf16).slice (Rect.unit (s := S12x128x7168) (k0_off33 k) S1x128x7168.size hh) hs).squeeze S128x7168 squeezes_S1x128x7168_S128x7168 = pH (k.val / 16) := pH_congr (off33_pH k h1 h2) _ _
theorem off44_pH : ∀ k : Fin k0_t3_loop.trips, k0_cond1 k = 1#1 → k0_cond2 k = 1#1 → k0_cond4 k = 1#1 → k0_off44 k = pHo (k.val / 16 + 1) := by decide +kernel
@[sl_canon] theorem pH_at_44 (k : Fin k0_t3_loop.trips) (h1 : k0_cond1 k = 1#1) (h2 : k0_cond2 k = 1#1) (h4 : k0_cond4 k = 1#1) (hh hs) :
    ((Memref.whole main_arg2 : Memref sig .tc .hbm S12x128x7168 .bf16).slice (Rect.unit (s := S12x128x7168) (k0_off44 k) S1x128x7168.size hh) hs).squeeze S128x7168 squeezes_S1x128x7168_S128x7168 = pH (k.val / 16 + 1) := pH_congr (off44_pH k h1 h2 h4) _ _

/-! ## The old moments: codes and scales -/

abbrev mcHo (i : ℕ) : Fin 3 → Nat := ![i % 12, 0, 0]
theorem mcHo_inb (i : ℕ) : ∀ a, mcHo i a + S1x128x2048.size a ≤ S12x128x2048.size a := by
  intro a; fin_cases a
  · show i % 12 + 1 ≤ 12; omega
  · show 0 + 128 ≤ 128; omega
  · show 0 + 2048 ≤ 2048; omega
/-- Batch `i` of the first moment's codes. -/
def mcH (i : ℕ) : Memref sig .tc .hbm S128x2048 .i8 :=
  ((Memref.whole main_arg3 : Memref sig .tc .hbm S12x128x2048 .i8).slice (Rect.unit (s := S12x128x2048) (mcHo i) S1x128x2048.size (mcHo_inb i)) (fun _ => rfl)).squeeze S128x2048 squeezes_S1x128x2048_S128x2048
instance (i : ℕ) : ClosedOff (mcHo i) := ⟨mcHo i, rfl⟩
theorem mcH_congr {off : Fin 3 → Nat} {i : ℕ} (e : off = mcHo i) (hh hs) :
    ((Memref.whole main_arg3 : Memref sig .tc .hbm S12x128x2048 .i8).slice (Rect.unit (s := S12x128x2048) off S1x128x2048.size hh) hs).squeeze S128x2048 squeezes_S1x128x2048_S128x2048 = mcH i :=
  congrArg (fun M : Memref sig .tc .hbm S1x128x2048 .i8 => M.squeeze S128x2048 squeezes_S1x128x2048_S128x2048) (Memref.slice_unit_congr _ e _ _ _ _)
theorem mcH_eq {i j : ℕ} (e : mcHo i = mcHo j) : mcH i = mcH j := mcH_congr e _ _

abbrev mcSo (i : ℕ) : Fin 3 → Nat := ![i % 2, 0, 0]
theorem mcSo_inb (i : ℕ) : ∀ a, mcSo i a + S1x128x2048.size a ≤ S2x128x2048.size a := by
  intro a; fin_cases a
  · show i % 2 + 1 ≤ 2; omega
  · show 0 + 128 ≤ 128; omega
  · show 0 + 2048 ≤ 2048; omega
/-- Slot `i % 2` for the first moment's codes. -/
def mcS (i : ℕ) : Memref sig .tc .vmem S128x2048 .i8 :=
  ((Memref.whole cc0_scratch3 : Memref sig .tc .vmem S2x128x2048 .i8).slice (Rect.unit (s := S2x128x2048) (mcSo i) S1x128x2048.size (mcSo_inb i)) (fun _ => rfl)).squeeze S128x2048 squeezes_S1x128x2048_S128x2048
instance (i : ℕ) : ClosedOff (mcSo i) := ⟨mcSo i, rfl⟩
theorem mcS_congr {off : Fin 3 → Nat} {i : ℕ} (e : off = mcSo i) (hh hs) :
    ((Memref.whole cc0_scratch3 : Memref sig .tc .vmem S2x128x2048 .i8).slice (Rect.unit (s := S2x128x2048) off S1x128x2048.size hh) hs).squeeze S128x2048 squeezes_S1x128x2048_S128x2048 = mcS i :=
  congrArg (fun M : Memref sig .tc .vmem S1x128x2048 .i8 => M.squeeze S128x2048 squeezes_S1x128x2048_S128x2048) (Memref.slice_unit_congr _ e _ _ _ _)
theorem mcS_eq {i j : ℕ} (e : mcSo i = mcSo j) : mcS i = mcS j := mcS_congr e _ _

abbrev mcCo (i : ℕ) : Fin 2 → Nat := ![0, i % 2]
theorem mcCo_inb (i : ℕ) : ∀ a, mcCo i a + S1x1.size a ≤ S4x2.size a := by
  intro a; fin_cases a
  · show 0 + 1 ≤ 4; omega
  · show i % 2 + 1 ≤ 2; omega
/-- The semaphore of slot `i % 2` for the first moment's codes. -/
def mcC (i : ℕ) : DmaSems sig S_ := (cc0_scratch22.slice (Rect.unit (s := S4x2) (mcCo i) S1x1.size (mcCo_inb i))).squeeze S_ squeezes_S1x1_S_
theorem mcC_congr {off : Fin 2 → Nat} {i : ℕ} (e : off = mcCo i) (hh) :
    (cc0_scratch22.slice (Rect.unit (s := S4x2) off S1x1.size hh)).squeeze S_ squeezes_S1x1_S_ = mcC i :=
  congrArg (fun A : DmaSems sig S1x1 => A.squeeze S_ squeezes_S1x1_S_) (SemArray.slice_unit_congr _ e _ _)
theorem mcC_eq {i j : ℕ} (e : mcCo i = mcCo j) : mcC i = mcC j := mcC_congr e _

@[sl_canon] theorem mcC_at_L0 (hh) :
    (cc0_scratch22.slice (Rect.unit (s := S4x2) (k0_off1 0#32) S1x1.size hh)).squeeze S_ squeezes_S1x1_S_ = mcC (0) := mcC_congr (by decide +kernel) _
theorem off23_mcC : ∀ k : Fin k0_t3_loop.trips, k0_cond1 k = 1#1 → k0_cond2 k = 1#1 → k0_off23 k = mcCo (k.val / 16) := by decide +kernel
@[sl_canon] theorem mcC_at_23 (k : Fin k0_t3_loop.trips) (h1 : k0_cond1 k = 1#1) (h2 : k0_cond2 k = 1#1) (hh) :
    (cc0_scratch22.slice (Rect.unit (s := S4x2) (k0_off23 k) S1x1.size hh)).squeeze S_ squeezes_S1x1_S_ = mcC (k.val / 16) := mcC_congr (off23_mcC k h1 h2) _
theorem off34_mcC : ∀ k : Fin k0_t3_loop.trips, k0_cond1 k = 1#1 → k0_cond2 k = 1#1 → k0_cond4 k = 1#1 → k0_off34 k = mcCo (k.val / 16 + 1) := by decide +kernel
@[sl_canon] theorem mcC_at_34 (k : Fin k0_t3_loop.trips) (h1 : k0_cond1 k = 1#1) (h2 : k0_cond2 k = 1#1) (h4 : k0_cond4 k = 1#1) (hh) :
    (cc0_scratch22.slice (Rect.unit (s := S4x2) (k0_off34 k) S1x1.size hh)).squeeze S_ squeezes_S1x1_S_ = mcC (k.val / 16 + 1) := mcC_congr (off34_mcC k h1 h2 h4) _
@[sl_canon] theorem mcS_at_L0 (hh hs) :
    ((Memref.whole cc0_scratch3 : Memref sig .tc .vmem S2x128x2048 .i8).slice (Rect.unit (s := S2x128x2048) (k0_off2 0#32) S1x128x2048.size hh) hs).squeeze S128x2048 squeezes_S1x128x2048_S128x2048 = mcS (0) := mcS_congr (by decide +kernel) _ _
theorem off24_mcS : ∀ k : Fin k0_t3_loop.trips, k0_cond1 k = 1#1 → k0_cond2 k = 1#1 → k0_off24 k = mcSo (k.val / 16) := by decide +kernel
@[sl_canon] theorem mcS_at_24 (k : Fin k0_t3_loop.trips) (h1 : k0_cond1 k = 1#1) (h2 : k0_cond2 k = 1#1) (hh hs) :
    ((Memref.whole cc0_scratch3 : Memref sig .tc .vmem S2x128x2048 .i8).slice (Rect.unit (s := S2x128x2048) (k0_off24 k) S1x128x2048.size hh) hs).squeeze S128x2048 squeezes_S1x128x2048_S128x2048 = mcS (k.val / 16) := mcS_congr (off24_mcS k h1 h2) _ _
theorem off35_mcS : ∀ k : Fin k0_t3_loop.trips, k0_cond1 k = 1#1 → k0_cond2 k = 1#1 → k0_cond4 k = 1#1 → k0_off35 k = mcSo (k.val / 16 + 1) := by decide +kernel
@[sl_canon] theorem mcS_at_35 (k : Fin k0_t3_loop.trips) (h1 : k0_cond1 k = 1#1) (h2 : k0_cond2 k = 1#1) (h4 : k0_cond4 k = 1#1) (hh hs) :
    ((Memref.whole cc0_scratch3 : Memref sig .tc .vmem S2x128x2048 .i8).slice (Rect.unit (s := S2x128x2048) (k0_off35 k) S1x128x2048.size hh) hs).squeeze S128x2048 squeezes_S1x128x2048_S128x2048 = mcS (k.val / 16 + 1) := mcS_congr (off35_mcS k h1 h2 h4) _ _
@[sl_canon] theorem mcH_at_L0 (hh hs) :
    ((Memref.whole main_arg3 : Memref sig .tc .hbm S12x128x2048 .i8).slice (Rect.unit (s := S12x128x2048) ![0, 0, 0] S1x128x2048.size hh) hs).squeeze S128x2048 squeezes_S1x128x2048_S128x2048 = mcH (0) := mcH_congr (by decide +kernel) _ _
theorem off25_mcH : ∀ k : Fin k0_t3_loop.trips, k0_cond1 k = 1#1 → k0_cond2 k = 1#1 → k0_off25 k = mcHo (k.val / 16) := by decide +kernel
@[sl_canon] theorem mcH_at_25 (k : Fin k0_t3_loop.trips) (h1 : k0_cond1 k = 1#1) (h2 : k0_cond2 k = 1#1) (hh hs) :
    ((Memref.whole main_arg3 : Memref sig .tc .hbm S12x128x2048 .i8).slice (Rect.unit (s := S12x128x2048) (k0_off25 k) S1x128x2048.size hh) hs).squeeze S128x2048 squeezes_S1x128x2048_S128x2048 = mcH (k.val / 16) := mcH_congr (off25_mcH k h1 h2) _ _
theorem off36_mcH : ∀ k : Fin k0_t3_loop.trips, k0_cond1 k = 1#1 → k0_cond2 k = 1#1 → k0_cond4 k = 1#1 → k0_off36 k = mcHo (k.val / 16 + 1) := by decide +kernel
@[sl_canon] theorem mcH_at_36 (k : Fin k0_t3_loop.trips) (h1 : k0_cond1 k = 1#1) (h2 : k0_cond2 k = 1#1) (h4 : k0_cond4 k = 1#1) (hh hs) :
    ((Memref.whole main_arg3 : Memref sig .tc .hbm S12x128x2048 .i8).slice (Rect.unit (s := S12x128x2048) (k0_off36 k) S1x128x2048.size hh) hs).squeeze S128x2048 squeezes_S1x128x2048_S128x2048 = mcH (k.val / 16 + 1) := mcH_congr (off36_mcH k h1 h2 h4) _ _

abbrev msHo (i : ℕ) : Fin 3 → Nat := ![i % 12, 0, 0]
theorem msHo_inb (i : ℕ) : ∀ a, msHo i a + S1x128x16.size a ≤ S12x128x16.size a := by
  intro a; fin_cases a
  · show i % 12 + 1 ≤ 12; omega
  · show 0 + 128 ≤ 128; omega
  · show 0 + 16 ≤ 16; omega
/-- Batch `i` of the first moment's scales. -/
def msH (i : ℕ) : Memref sig .tc .hbm S128x16 .f32 :=
  ((Memref.whole main_arg4 : Memref sig .tc .hbm S12x128x16 .f32).slice (Rect.unit (s := S12x128x16) (msHo i) S1x128x16.size (msHo_inb i)) (fun _ => rfl)).squeeze S128x16 squeezes_S1x128x16_S128x16
instance (i : ℕ) : ClosedOff (msHo i) := ⟨msHo i, rfl⟩
theorem msH_congr {off : Fin 3 → Nat} {i : ℕ} (e : off = msHo i) (hh hs) :
    ((Memref.whole main_arg4 : Memref sig .tc .hbm S12x128x16 .f32).slice (Rect.unit (s := S12x128x16) off S1x128x16.size hh) hs).squeeze S128x16 squeezes_S1x128x16_S128x16 = msH i :=
  congrArg (fun M : Memref sig .tc .hbm S1x128x16 .f32 => M.squeeze S128x16 squeezes_S1x128x16_S128x16) (Memref.slice_unit_congr _ e _ _ _ _)
theorem msH_eq {i j : ℕ} (e : msHo i = msHo j) : msH i = msH j := msH_congr e _ _

abbrev msSo (i : ℕ) : Fin 3 → Nat := ![i % 2, 0, 0]
theorem msSo_inb (i : ℕ) : ∀ a, msSo i a + S1x128x16.size a ≤ S2x128x16.size a := by
  intro a; fin_cases a
  · show i % 2 + 1 ≤ 2; omega
  · show 0 + 128 ≤ 128; omega
  · show 0 + 16 ≤ 16; omega
/-- Slot `i % 2` for the first moment's scales. -/
def msS (i : ℕ) : Memref sig .tc .vmem S128x16 .f32 :=
  ((Memref.whole cc0_scratch5 : Memref sig .tc .vmem S2x128x16 .f32).slice (Rect.unit (s := S2x128x16) (msSo i) S1x128x16.size (msSo_inb i)) (fun _ => rfl)).squeeze S128x16 squeezes_S1x128x16_S128x16
instance (i : ℕ) : ClosedOff (msSo i) := ⟨msSo i, rfl⟩
theorem msS_congr {off : Fin 3 → Nat} {i : ℕ} (e : off = msSo i) (hh hs) :
    ((Memref.whole cc0_scratch5 : Memref sig .tc .vmem S2x128x16 .f32).slice (Rect.unit (s := S2x128x16) off S1x128x16.size hh) hs).squeeze S128x16 squeezes_S1x128x16_S128x16 = msS i :=
  congrArg (fun M : Memref sig .tc .vmem S1x128x16 .f32 => M.squeeze S128x16 squeezes_S1x128x16_S128x16) (Memref.slice_unit_congr _ e _ _ _ _)
theorem msS_eq {i j : ℕ} (e : msSo i = msSo j) : msS i = msS j := msS_congr e _ _

abbrev msCo (i : ℕ) : Fin 2 → Nat := ![1, i % 2]
theorem msCo_inb (i : ℕ) : ∀ a, msCo i a + S1x1.size a ≤ S4x2.size a := by
  intro a; fin_cases a
  · show 1 + 1 ≤ 4; omega
  · show i % 2 + 1 ≤ 2; omega
/-- The semaphore of slot `i % 2` for the first moment's scales. -/
def msC (i : ℕ) : DmaSems sig S_ := (cc0_scratch22.slice (Rect.unit (s := S4x2) (msCo i) S1x1.size (msCo_inb i))).squeeze S_ squeezes_S1x1_S_
theorem msC_congr {off : Fin 2 → Nat} {i : ℕ} (e : off = msCo i) (hh) :
    (cc0_scratch22.slice (Rect.unit (s := S4x2) off S1x1.size hh)).squeeze S_ squeezes_S1x1_S_ = msC i :=
  congrArg (fun A : DmaSems sig S1x1 => A.squeeze S_ squeezes_S1x1_S_) (SemArray.slice_unit_congr _ e _ _)
theorem msC_eq {i j : ℕ} (e : msCo i = msCo j) : msC i = msC j := msC_congr e _

@[sl_canon] theorem msC_at_L0 (hh) :
    (cc0_scratch22.slice (Rect.unit (s := S4x2) (k0_off3 0#32) S1x1.size hh)).squeeze S_ squeezes_S1x1_S_ = msC (0) := msC_congr (by decide +kernel) _
theorem off26_msC : ∀ k : Fin k0_t3_loop.trips, k0_cond1 k = 1#1 → k0_cond2 k = 1#1 → k0_off26 k = msCo (k.val / 16) := by decide +kernel
@[sl_canon] theorem msC_at_26 (k : Fin k0_t3_loop.trips) (h1 : k0_cond1 k = 1#1) (h2 : k0_cond2 k = 1#1) (hh) :
    (cc0_scratch22.slice (Rect.unit (s := S4x2) (k0_off26 k) S1x1.size hh)).squeeze S_ squeezes_S1x1_S_ = msC (k.val / 16) := msC_congr (off26_msC k h1 h2) _
theorem off37_msC : ∀ k : Fin k0_t3_loop.trips, k0_cond1 k = 1#1 → k0_cond2 k = 1#1 → k0_cond4 k = 1#1 → k0_off37 k = msCo (k.val / 16 + 1) := by decide +kernel
@[sl_canon] theorem msC_at_37 (k : Fin k0_t3_loop.trips) (h1 : k0_cond1 k = 1#1) (h2 : k0_cond2 k = 1#1) (h4 : k0_cond4 k = 1#1) (hh) :
    (cc0_scratch22.slice (Rect.unit (s := S4x2) (k0_off37 k) S1x1.size hh)).squeeze S_ squeezes_S1x1_S_ = msC (k.val / 16 + 1) := msC_congr (off37_msC k h1 h2 h4) _
@[sl_canon] theorem msS_at_L0 (hh hs) :
    ((Memref.whole cc0_scratch5 : Memref sig .tc .vmem S2x128x16 .f32).slice (Rect.unit (s := S2x128x16) (k0_off4 0#32) S1x128x16.size hh) hs).squeeze S128x16 squeezes_S1x128x16_S128x16 = msS (0) := msS_congr (by decide +kernel) _ _
theorem off27_msS : ∀ k : Fin k0_t3_loop.trips, k0_cond1 k = 1#1 → k0_cond2 k = 1#1 → k0_off27 k = msSo (k.val / 16) := by decide +kernel
@[sl_canon] theorem msS_at_27 (k : Fin k0_t3_loop.trips) (h1 : k0_cond1 k = 1#1) (h2 : k0_cond2 k = 1#1) (hh hs) :
    ((Memref.whole cc0_scratch5 : Memref sig .tc .vmem S2x128x16 .f32).slice (Rect.unit (s := S2x128x16) (k0_off27 k) S1x128x16.size hh) hs).squeeze S128x16 squeezes_S1x128x16_S128x16 = msS (k.val / 16) := msS_congr (off27_msS k h1 h2) _ _
theorem off38_msS : ∀ k : Fin k0_t3_loop.trips, k0_cond1 k = 1#1 → k0_cond2 k = 1#1 → k0_cond4 k = 1#1 → k0_off38 k = msSo (k.val / 16 + 1) := by decide +kernel
@[sl_canon] theorem msS_at_38 (k : Fin k0_t3_loop.trips) (h1 : k0_cond1 k = 1#1) (h2 : k0_cond2 k = 1#1) (h4 : k0_cond4 k = 1#1) (hh hs) :
    ((Memref.whole cc0_scratch5 : Memref sig .tc .vmem S2x128x16 .f32).slice (Rect.unit (s := S2x128x16) (k0_off38 k) S1x128x16.size hh) hs).squeeze S128x16 squeezes_S1x128x16_S128x16 = msS (k.val / 16 + 1) := msS_congr (off38_msS k h1 h2 h4) _ _
@[sl_canon] theorem msH_at_L0 (hh hs) :
    ((Memref.whole main_arg4 : Memref sig .tc .hbm S12x128x16 .f32).slice (Rect.unit (s := S12x128x16) ![0, 0, 0] S1x128x16.size hh) hs).squeeze S128x16 squeezes_S1x128x16_S128x16 = msH (0) := msH_congr (by decide +kernel) _ _
theorem off28_msH : ∀ k : Fin k0_t3_loop.trips, k0_cond1 k = 1#1 → k0_cond2 k = 1#1 → k0_off28 k = msHo (k.val / 16) := by decide +kernel
@[sl_canon] theorem msH_at_28 (k : Fin k0_t3_loop.trips) (h1 : k0_cond1 k = 1#1) (h2 : k0_cond2 k = 1#1) (hh hs) :
    ((Memref.whole main_arg4 : Memref sig .tc .hbm S12x128x16 .f32).slice (Rect.unit (s := S12x128x16) (k0_off28 k) S1x128x16.size hh) hs).squeeze S128x16 squeezes_S1x128x16_S128x16 = msH (k.val / 16) := msH_congr (off28_msH k h1 h2) _ _
theorem off39_msH : ∀ k : Fin k0_t3_loop.trips, k0_cond1 k = 1#1 → k0_cond2 k = 1#1 → k0_cond4 k = 1#1 → k0_off39 k = msHo (k.val / 16 + 1) := by decide +kernel
@[sl_canon] theorem msH_at_39 (k : Fin k0_t3_loop.trips) (h1 : k0_cond1 k = 1#1) (h2 : k0_cond2 k = 1#1) (h4 : k0_cond4 k = 1#1) (hh hs) :
    ((Memref.whole main_arg4 : Memref sig .tc .hbm S12x128x16 .f32).slice (Rect.unit (s := S12x128x16) (k0_off39 k) S1x128x16.size hh) hs).squeeze S128x16 squeezes_S1x128x16_S128x16 = msH (k.val / 16 + 1) := msH_congr (off39_msH k h1 h2 h4) _ _

abbrev vcHo (i : ℕ) : Fin 3 → Nat := ![i % 12, 0, 0]
theorem vcHo_inb (i : ℕ) : ∀ a, vcHo i a + S1x128x2048.size a ≤ S12x128x2048.size a := by
  intro a; fin_cases a
  · show i % 12 + 1 ≤ 12; omega
  · show 0 + 128 ≤ 128; omega
  · show 0 + 2048 ≤ 2048; omega
/-- Batch `i` of the second moment's codes. -/
def vcH (i : ℕ) : Memref sig .tc .hbm S128x2048 .i8 :=
  ((Memref.whole main_arg5 : Memref sig .tc .hbm S12x128x2048 .i8).slice (Rect.unit (s := S12x128x2048) (vcHo i) S1x128x2048.size (vcHo_inb i)) (fun _ => rfl)).squeeze S128x2048 squeezes_S1x128x2048_S128x2048
instance (i : ℕ) : ClosedOff (vcHo i) := ⟨vcHo i, rfl⟩
theorem vcH_congr {off : Fin 3 → Nat} {i : ℕ} (e : off = vcHo i) (hh hs) :
    ((Memref.whole main_arg5 : Memref sig .tc .hbm S12x128x2048 .i8).slice (Rect.unit (s := S12x128x2048) off S1x128x2048.size hh) hs).squeeze S128x2048 squeezes_S1x128x2048_S128x2048 = vcH i :=
  congrArg (fun M : Memref sig .tc .hbm S1x128x2048 .i8 => M.squeeze S128x2048 squeezes_S1x128x2048_S128x2048) (Memref.slice_unit_congr _ e _ _ _ _)
theorem vcH_eq {i j : ℕ} (e : vcHo i = vcHo j) : vcH i = vcH j := vcH_congr e _ _

abbrev vcSo (i : ℕ) : Fin 3 → Nat := ![i % 2, 0, 0]
theorem vcSo_inb (i : ℕ) : ∀ a, vcSo i a + S1x128x2048.size a ≤ S2x128x2048.size a := by
  intro a; fin_cases a
  · show i % 2 + 1 ≤ 2; omega
  · show 0 + 128 ≤ 128; omega
  · show 0 + 2048 ≤ 2048; omega
/-- Slot `i % 2` for the second moment's codes. -/
def vcS (i : ℕ) : Memref sig .tc .vmem S128x2048 .i8 :=
  ((Memref.whole cc0_scratch4 : Memref sig .tc .vmem S2x128x2048 .i8).slice (Rect.unit (s := S2x128x2048) (vcSo i) S1x128x2048.size (vcSo_inb i)) (fun _ => rfl)).squeeze S128x2048 squeezes_S1x128x2048_S128x2048
instance (i : ℕ) : ClosedOff (vcSo i) := ⟨vcSo i, rfl⟩
theorem vcS_congr {off : Fin 3 → Nat} {i : ℕ} (e : off = vcSo i) (hh hs) :
    ((Memref.whole cc0_scratch4 : Memref sig .tc .vmem S2x128x2048 .i8).slice (Rect.unit (s := S2x128x2048) off S1x128x2048.size hh) hs).squeeze S128x2048 squeezes_S1x128x2048_S128x2048 = vcS i :=
  congrArg (fun M : Memref sig .tc .vmem S1x128x2048 .i8 => M.squeeze S128x2048 squeezes_S1x128x2048_S128x2048) (Memref.slice_unit_congr _ e _ _ _ _)
theorem vcS_eq {i j : ℕ} (e : vcSo i = vcSo j) : vcS i = vcS j := vcS_congr e _ _

abbrev vcCo (i : ℕ) : Fin 2 → Nat := ![2, i % 2]
theorem vcCo_inb (i : ℕ) : ∀ a, vcCo i a + S1x1.size a ≤ S4x2.size a := by
  intro a; fin_cases a
  · show 2 + 1 ≤ 4; omega
  · show i % 2 + 1 ≤ 2; omega
/-- The semaphore of slot `i % 2` for the second moment's codes. -/
def vcC (i : ℕ) : DmaSems sig S_ := (cc0_scratch22.slice (Rect.unit (s := S4x2) (vcCo i) S1x1.size (vcCo_inb i))).squeeze S_ squeezes_S1x1_S_
theorem vcC_congr {off : Fin 2 → Nat} {i : ℕ} (e : off = vcCo i) (hh) :
    (cc0_scratch22.slice (Rect.unit (s := S4x2) off S1x1.size hh)).squeeze S_ squeezes_S1x1_S_ = vcC i :=
  congrArg (fun A : DmaSems sig S1x1 => A.squeeze S_ squeezes_S1x1_S_) (SemArray.slice_unit_congr _ e _ _)
theorem vcC_eq {i j : ℕ} (e : vcCo i = vcCo j) : vcC i = vcC j := vcC_congr e _

@[sl_canon] theorem vcC_at_L0 (hh) :
    (cc0_scratch22.slice (Rect.unit (s := S4x2) (k0_off5 0#32) S1x1.size hh)).squeeze S_ squeezes_S1x1_S_ = vcC (0) := vcC_congr (by decide +kernel) _
theorem off29_vcC : ∀ k : Fin k0_t3_loop.trips, k0_cond1 k = 1#1 → k0_cond2 k = 1#1 → k0_off29 k = vcCo (k.val / 16) := by decide +kernel
@[sl_canon] theorem vcC_at_29 (k : Fin k0_t3_loop.trips) (h1 : k0_cond1 k = 1#1) (h2 : k0_cond2 k = 1#1) (hh) :
    (cc0_scratch22.slice (Rect.unit (s := S4x2) (k0_off29 k) S1x1.size hh)).squeeze S_ squeezes_S1x1_S_ = vcC (k.val / 16) := vcC_congr (off29_vcC k h1 h2) _
theorem off40_vcC : ∀ k : Fin k0_t3_loop.trips, k0_cond1 k = 1#1 → k0_cond2 k = 1#1 → k0_cond4 k = 1#1 → k0_off40 k = vcCo (k.val / 16 + 1) := by decide +kernel
@[sl_canon] theorem vcC_at_40 (k : Fin k0_t3_loop.trips) (h1 : k0_cond1 k = 1#1) (h2 : k0_cond2 k = 1#1) (h4 : k0_cond4 k = 1#1) (hh) :
    (cc0_scratch22.slice (Rect.unit (s := S4x2) (k0_off40 k) S1x1.size hh)).squeeze S_ squeezes_S1x1_S_ = vcC (k.val / 16 + 1) := vcC_congr (off40_vcC k h1 h2 h4) _
@[sl_canon] theorem vcS_at_L0 (hh hs) :
    ((Memref.whole cc0_scratch4 : Memref sig .tc .vmem S2x128x2048 .i8).slice (Rect.unit (s := S2x128x2048) (k0_off2 0#32) S1x128x2048.size hh) hs).squeeze S128x2048 squeezes_S1x128x2048_S128x2048 = vcS (0) := vcS_congr (by decide +kernel) _ _
theorem off24_vcS : ∀ k : Fin k0_t3_loop.trips, k0_cond1 k = 1#1 → k0_cond2 k = 1#1 → k0_off24 k = vcSo (k.val / 16) := by decide +kernel
@[sl_canon] theorem vcS_at_24 (k : Fin k0_t3_loop.trips) (h1 : k0_cond1 k = 1#1) (h2 : k0_cond2 k = 1#1) (hh hs) :
    ((Memref.whole cc0_scratch4 : Memref sig .tc .vmem S2x128x2048 .i8).slice (Rect.unit (s := S2x128x2048) (k0_off24 k) S1x128x2048.size hh) hs).squeeze S128x2048 squeezes_S1x128x2048_S128x2048 = vcS (k.val / 16) := vcS_congr (off24_vcS k h1 h2) _ _
theorem off35_vcS : ∀ k : Fin k0_t3_loop.trips, k0_cond1 k = 1#1 → k0_cond2 k = 1#1 → k0_cond4 k = 1#1 → k0_off35 k = vcSo (k.val / 16 + 1) := by decide +kernel
@[sl_canon] theorem vcS_at_35 (k : Fin k0_t3_loop.trips) (h1 : k0_cond1 k = 1#1) (h2 : k0_cond2 k = 1#1) (h4 : k0_cond4 k = 1#1) (hh hs) :
    ((Memref.whole cc0_scratch4 : Memref sig .tc .vmem S2x128x2048 .i8).slice (Rect.unit (s := S2x128x2048) (k0_off35 k) S1x128x2048.size hh) hs).squeeze S128x2048 squeezes_S1x128x2048_S128x2048 = vcS (k.val / 16 + 1) := vcS_congr (off35_vcS k h1 h2 h4) _ _
@[sl_canon] theorem vcH_at_L0 (hh hs) :
    ((Memref.whole main_arg5 : Memref sig .tc .hbm S12x128x2048 .i8).slice (Rect.unit (s := S12x128x2048) ![0, 0, 0] S1x128x2048.size hh) hs).squeeze S128x2048 squeezes_S1x128x2048_S128x2048 = vcH (0) := vcH_congr (by decide +kernel) _ _
theorem off25_vcH : ∀ k : Fin k0_t3_loop.trips, k0_cond1 k = 1#1 → k0_cond2 k = 1#1 → k0_off25 k = vcHo (k.val / 16) := by decide +kernel
@[sl_canon] theorem vcH_at_25 (k : Fin k0_t3_loop.trips) (h1 : k0_cond1 k = 1#1) (h2 : k0_cond2 k = 1#1) (hh hs) :
    ((Memref.whole main_arg5 : Memref sig .tc .hbm S12x128x2048 .i8).slice (Rect.unit (s := S12x128x2048) (k0_off25 k) S1x128x2048.size hh) hs).squeeze S128x2048 squeezes_S1x128x2048_S128x2048 = vcH (k.val / 16) := vcH_congr (off25_vcH k h1 h2) _ _
theorem off36_vcH : ∀ k : Fin k0_t3_loop.trips, k0_cond1 k = 1#1 → k0_cond2 k = 1#1 → k0_cond4 k = 1#1 → k0_off36 k = vcHo (k.val / 16 + 1) := by decide +kernel
@[sl_canon] theorem vcH_at_36 (k : Fin k0_t3_loop.trips) (h1 : k0_cond1 k = 1#1) (h2 : k0_cond2 k = 1#1) (h4 : k0_cond4 k = 1#1) (hh hs) :
    ((Memref.whole main_arg5 : Memref sig .tc .hbm S12x128x2048 .i8).slice (Rect.unit (s := S12x128x2048) (k0_off36 k) S1x128x2048.size hh) hs).squeeze S128x2048 squeezes_S1x128x2048_S128x2048 = vcH (k.val / 16 + 1) := vcH_congr (off36_vcH k h1 h2 h4) _ _

abbrev vsHo (i : ℕ) : Fin 3 → Nat := ![i % 12, 0, 0]
theorem vsHo_inb (i : ℕ) : ∀ a, vsHo i a + S1x128x16.size a ≤ S12x128x16.size a := by
  intro a; fin_cases a
  · show i % 12 + 1 ≤ 12; omega
  · show 0 + 128 ≤ 128; omega
  · show 0 + 16 ≤ 16; omega
/-- Batch `i` of the second moment's scales. -/
def vsH (i : ℕ) : Memref sig .tc .hbm S128x16 .f32 :=
  ((Memref.whole main_arg6 : Memref sig .tc .hbm S12x128x16 .f32).slice (Rect.unit (s := S12x128x16) (vsHo i) S1x128x16.size (vsHo_inb i)) (fun _ => rfl)).squeeze S128x16 squeezes_S1x128x16_S128x16
instance (i : ℕ) : ClosedOff (vsHo i) := ⟨vsHo i, rfl⟩
theorem vsH_congr {off : Fin 3 → Nat} {i : ℕ} (e : off = vsHo i) (hh hs) :
    ((Memref.whole main_arg6 : Memref sig .tc .hbm S12x128x16 .f32).slice (Rect.unit (s := S12x128x16) off S1x128x16.size hh) hs).squeeze S128x16 squeezes_S1x128x16_S128x16 = vsH i :=
  congrArg (fun M : Memref sig .tc .hbm S1x128x16 .f32 => M.squeeze S128x16 squeezes_S1x128x16_S128x16) (Memref.slice_unit_congr _ e _ _ _ _)
theorem vsH_eq {i j : ℕ} (e : vsHo i = vsHo j) : vsH i = vsH j := vsH_congr e _ _

abbrev vsSo (i : ℕ) : Fin 3 → Nat := ![i % 2, 0, 0]
theorem vsSo_inb (i : ℕ) : ∀ a, vsSo i a + S1x128x16.size a ≤ S2x128x16.size a := by
  intro a; fin_cases a
  · show i % 2 + 1 ≤ 2; omega
  · show 0 + 128 ≤ 128; omega
  · show 0 + 16 ≤ 16; omega
/-- Slot `i % 2` for the second moment's scales. -/
def vsS (i : ℕ) : Memref sig .tc .vmem S128x16 .f32 :=
  ((Memref.whole cc0_scratch6 : Memref sig .tc .vmem S2x128x16 .f32).slice (Rect.unit (s := S2x128x16) (vsSo i) S1x128x16.size (vsSo_inb i)) (fun _ => rfl)).squeeze S128x16 squeezes_S1x128x16_S128x16
instance (i : ℕ) : ClosedOff (vsSo i) := ⟨vsSo i, rfl⟩
theorem vsS_congr {off : Fin 3 → Nat} {i : ℕ} (e : off = vsSo i) (hh hs) :
    ((Memref.whole cc0_scratch6 : Memref sig .tc .vmem S2x128x16 .f32).slice (Rect.unit (s := S2x128x16) off S1x128x16.size hh) hs).squeeze S128x16 squeezes_S1x128x16_S128x16 = vsS i :=
  congrArg (fun M : Memref sig .tc .vmem S1x128x16 .f32 => M.squeeze S128x16 squeezes_S1x128x16_S128x16) (Memref.slice_unit_congr _ e _ _ _ _)
theorem vsS_eq {i j : ℕ} (e : vsSo i = vsSo j) : vsS i = vsS j := vsS_congr e _ _

abbrev vsCo (i : ℕ) : Fin 2 → Nat := ![3, i % 2]
theorem vsCo_inb (i : ℕ) : ∀ a, vsCo i a + S1x1.size a ≤ S4x2.size a := by
  intro a; fin_cases a
  · show 3 + 1 ≤ 4; omega
  · show i % 2 + 1 ≤ 2; omega
/-- The semaphore of slot `i % 2` for the second moment's scales. -/
def vsC (i : ℕ) : DmaSems sig S_ := (cc0_scratch22.slice (Rect.unit (s := S4x2) (vsCo i) S1x1.size (vsCo_inb i))).squeeze S_ squeezes_S1x1_S_
theorem vsC_congr {off : Fin 2 → Nat} {i : ℕ} (e : off = vsCo i) (hh) :
    (cc0_scratch22.slice (Rect.unit (s := S4x2) off S1x1.size hh)).squeeze S_ squeezes_S1x1_S_ = vsC i :=
  congrArg (fun A : DmaSems sig S1x1 => A.squeeze S_ squeezes_S1x1_S_) (SemArray.slice_unit_congr _ e _ _)
theorem vsC_eq {i j : ℕ} (e : vsCo i = vsCo j) : vsC i = vsC j := vsC_congr e _

@[sl_canon] theorem vsC_at_L0 (hh) :
    (cc0_scratch22.slice (Rect.unit (s := S4x2) (k0_off6 0#32) S1x1.size hh)).squeeze S_ squeezes_S1x1_S_ = vsC (0) := vsC_congr (by decide +kernel) _
theorem off30_vsC : ∀ k : Fin k0_t3_loop.trips, k0_cond1 k = 1#1 → k0_cond2 k = 1#1 → k0_off30 k = vsCo (k.val / 16) := by decide +kernel
@[sl_canon] theorem vsC_at_30 (k : Fin k0_t3_loop.trips) (h1 : k0_cond1 k = 1#1) (h2 : k0_cond2 k = 1#1) (hh) :
    (cc0_scratch22.slice (Rect.unit (s := S4x2) (k0_off30 k) S1x1.size hh)).squeeze S_ squeezes_S1x1_S_ = vsC (k.val / 16) := vsC_congr (off30_vsC k h1 h2) _
theorem off41_vsC : ∀ k : Fin k0_t3_loop.trips, k0_cond1 k = 1#1 → k0_cond2 k = 1#1 → k0_cond4 k = 1#1 → k0_off41 k = vsCo (k.val / 16 + 1) := by decide +kernel
@[sl_canon] theorem vsC_at_41 (k : Fin k0_t3_loop.trips) (h1 : k0_cond1 k = 1#1) (h2 : k0_cond2 k = 1#1) (h4 : k0_cond4 k = 1#1) (hh) :
    (cc0_scratch22.slice (Rect.unit (s := S4x2) (k0_off41 k) S1x1.size hh)).squeeze S_ squeezes_S1x1_S_ = vsC (k.val / 16 + 1) := vsC_congr (off41_vsC k h1 h2 h4) _
@[sl_canon] theorem vsS_at_L0 (hh hs) :
    ((Memref.whole cc0_scratch6 : Memref sig .tc .vmem S2x128x16 .f32).slice (Rect.unit (s := S2x128x16) (k0_off4 0#32) S1x128x16.size hh) hs).squeeze S128x16 squeezes_S1x128x16_S128x16 = vsS (0) := vsS_congr (by decide +kernel) _ _
theorem off27_vsS : ∀ k : Fin k0_t3_loop.trips, k0_cond1 k = 1#1 → k0_cond2 k = 1#1 → k0_off27 k = vsSo (k.val / 16) := by decide +kernel
@[sl_canon] theorem vsS_at_27 (k : Fin k0_t3_loop.trips) (h1 : k0_cond1 k = 1#1) (h2 : k0_cond2 k = 1#1) (hh hs) :
    ((Memref.whole cc0_scratch6 : Memref sig .tc .vmem S2x128x16 .f32).slice (Rect.unit (s := S2x128x16) (k0_off27 k) S1x128x16.size hh) hs).squeeze S128x16 squeezes_S1x128x16_S128x16 = vsS (k.val / 16) := vsS_congr (off27_vsS k h1 h2) _ _
theorem off38_vsS : ∀ k : Fin k0_t3_loop.trips, k0_cond1 k = 1#1 → k0_cond2 k = 1#1 → k0_cond4 k = 1#1 → k0_off38 k = vsSo (k.val / 16 + 1) := by decide +kernel
@[sl_canon] theorem vsS_at_38 (k : Fin k0_t3_loop.trips) (h1 : k0_cond1 k = 1#1) (h2 : k0_cond2 k = 1#1) (h4 : k0_cond4 k = 1#1) (hh hs) :
    ((Memref.whole cc0_scratch6 : Memref sig .tc .vmem S2x128x16 .f32).slice (Rect.unit (s := S2x128x16) (k0_off38 k) S1x128x16.size hh) hs).squeeze S128x16 squeezes_S1x128x16_S128x16 = vsS (k.val / 16 + 1) := vsS_congr (off38_vsS k h1 h2 h4) _ _
@[sl_canon] theorem vsH_at_L0 (hh hs) :
    ((Memref.whole main_arg6 : Memref sig .tc .hbm S12x128x16 .f32).slice (Rect.unit (s := S12x128x16) ![0, 0, 0] S1x128x16.size hh) hs).squeeze S128x16 squeezes_S1x128x16_S128x16 = vsH (0) := vsH_congr (by decide +kernel) _ _
theorem off28_vsH : ∀ k : Fin k0_t3_loop.trips, k0_cond1 k = 1#1 → k0_cond2 k = 1#1 → k0_off28 k = vsHo (k.val / 16) := by decide +kernel
@[sl_canon] theorem vsH_at_28 (k : Fin k0_t3_loop.trips) (h1 : k0_cond1 k = 1#1) (h2 : k0_cond2 k = 1#1) (hh hs) :
    ((Memref.whole main_arg6 : Memref sig .tc .hbm S12x128x16 .f32).slice (Rect.unit (s := S12x128x16) (k0_off28 k) S1x128x16.size hh) hs).squeeze S128x16 squeezes_S1x128x16_S128x16 = vsH (k.val / 16) := vsH_congr (off28_vsH k h1 h2) _ _
theorem off39_vsH : ∀ k : Fin k0_t3_loop.trips, k0_cond1 k = 1#1 → k0_cond2 k = 1#1 → k0_cond4 k = 1#1 → k0_off39 k = vsHo (k.val / 16 + 1) := by decide +kernel
@[sl_canon] theorem vsH_at_39 (k : Fin k0_t3_loop.trips) (h1 : k0_cond1 k = 1#1) (h2 : k0_cond2 k = 1#1) (h4 : k0_cond4 k = 1#1) (hh hs) :
    ((Memref.whole main_arg6 : Memref sig .tc .hbm S12x128x16 .f32).slice (Rect.unit (s := S12x128x16) (k0_off39 k) S1x128x16.size hh) hs).squeeze S128x16 squeezes_S1x128x16_S128x16 = vsH (k.val / 16 + 1) := vsH_congr (off39_vsH k h1 h2 h4) _ _

/-! ## The new moments: codes and scales -/

abbrev nmHo (i : ℕ) : Fin 3 → Nat := ![i % 12, 0, 0]
theorem nmHo_inb (i : ℕ) : ∀ a, nmHo i a + S1x128x2048.size a ≤ S12x128x2048.size a := by
  intro a; fin_cases a
  · show i % 12 + 1 ≤ 12; omega
  · show 0 + 128 ≤ 128; omega
  · show 0 + 2048 ≤ 2048; omega
/-- Batch `i` of the first moment's new codes. -/
def nmH (i : ℕ) : Memref sig .tc .hbm S128x2048 .i8 :=
  ((Memref.whole main_v0_3 : Memref sig .tc .hbm S12x128x2048 .i8).slice (Rect.unit (s := S12x128x2048) (nmHo i) S1x128x2048.size (nmHo_inb i)) (fun _ => rfl)).squeeze S128x2048 squeezes_S1x128x2048_S128x2048
instance (i : ℕ) : ClosedOff (nmHo i) := ⟨nmHo i, rfl⟩
theorem nmH_congr {off : Fin 3 → Nat} {i : ℕ} (e : off = nmHo i) (hh hs) :
    ((Memref.whole main_v0_3 : Memref sig .tc .hbm S12x128x2048 .i8).slice (Rect.unit (s := S12x128x2048) off S1x128x2048.size hh) hs).squeeze S128x2048 squeezes_S1x128x2048_S128x2048 = nmH i :=
  congrArg (fun M : Memref sig .tc .hbm S1x128x2048 .i8 => M.squeeze S128x2048 squeezes_S1x128x2048_S128x2048) (Memref.slice_unit_congr _ e _ _ _ _)
theorem nmH_eq {i j : ℕ} (e : nmHo i = nmHo j) : nmH i = nmH j := nmH_congr e _ _

abbrev nmSo (i : ℕ) : Fin 3 → Nat := ![i % 2, 0, 0]
theorem nmSo_inb (i : ℕ) : ∀ a, nmSo i a + S1x128x2048.size a ≤ S2x128x2048.size a := by
  intro a; fin_cases a
  · show i % 2 + 1 ≤ 2; omega
  · show 0 + 128 ≤ 128; omega
  · show 0 + 2048 ≤ 2048; omega
/-- Slot `i % 2` for the first moment's new codes. -/
def nmS (i : ℕ) : Memref sig .tc .vmem S128x2048 .i8 :=
  ((Memref.whole cc0_scratch7 : Memref sig .tc .vmem S2x128x2048 .i8).slice (Rect.unit (s := S2x128x2048) (nmSo i) S1x128x2048.size (nmSo_inb i)) (fun _ => rfl)).squeeze S128x2048 squeezes_S1x128x2048_S128x2048
instance (i : ℕ) : ClosedOff (nmSo i) := ⟨nmSo i, rfl⟩
theorem nmS_congr {off : Fin 3 → Nat} {i : ℕ} (e : off = nmSo i) (hh hs) :
    ((Memref.whole cc0_scratch7 : Memref sig .tc .vmem S2x128x2048 .i8).slice (Rect.unit (s := S2x128x2048) off S1x128x2048.size hh) hs).squeeze S128x2048 squeezes_S1x128x2048_S128x2048 = nmS i :=
  congrArg (fun M : Memref sig .tc .vmem S1x128x2048 .i8 => M.squeeze S128x2048 squeezes_S1x128x2048_S128x2048) (Memref.slice_unit_congr _ e _ _ _ _)
theorem nmS_eq {i j : ℕ} (e : nmSo i = nmSo j) : nmS i = nmS j := nmS_congr e _ _

abbrev nmCo (i : ℕ) : Fin 2 → Nat := ![0, i % 2]
theorem nmCo_inb (i : ℕ) : ∀ a, nmCo i a + S1x1.size a ≤ S4x2.size a := by
  intro a; fin_cases a
  · show 0 + 1 ≤ 4; omega
  · show i % 2 + 1 ≤ 2; omega
/-- The semaphore of slot `i % 2` for the first moment's new codes. -/
def nmC (i : ℕ) : DmaSems sig S_ := (cc0_scratch23.slice (Rect.unit (s := S4x2) (nmCo i) S1x1.size (nmCo_inb i))).squeeze S_ squeezes_S1x1_S_
theorem nmC_congr {off : Fin 2 → Nat} {i : ℕ} (e : off = nmCo i) (hh) :
    (cc0_scratch23.slice (Rect.unit (s := S4x2) off S1x1.size hh)).squeeze S_ squeezes_S1x1_S_ = nmC i :=
  congrArg (fun A : DmaSems sig S1x1 => A.squeeze S_ squeezes_S1x1_S_) (SemArray.slice_unit_congr _ e _ _)
theorem nmC_eq {i j : ℕ} (e : nmCo i = nmCo j) : nmC i = nmC j := nmC_congr e _

theorem off15_nmC : ∀ k : Fin k0_t3_loop.trips, k0_cond1 k = 1#1 → k0_cond2 k = 1#1 → k0_cond3 k = 1#1 → k0_off15 k = nmCo (k.val / 16) := by decide +kernel
@[sl_canon] theorem nmC_at_15 (k : Fin k0_t3_loop.trips) (h1 : k0_cond1 k = 1#1) (h2 : k0_cond2 k = 1#1) (h3 : k0_cond3 k = 1#1) (hh) :
    (cc0_scratch23.slice (Rect.unit (s := S4x2) (k0_off15 k) S1x1.size hh)).squeeze S_ squeezes_S1x1_S_ = nmC (k.val / 16) := nmC_congr (off15_nmC k h1 h2 h3) _
theorem off70_nmC : ∀ k : Fin k0_t3_loop.trips, k0_cond1 k = 1#1 → k0_cond5 k = 1#1 → k0_off70 k = nmCo (k.val / 16) := by decide +kernel
@[sl_canon] theorem nmC_at_70 (k : Fin k0_t3_loop.trips) (h1 : k0_cond1 k = 1#1) (h5 : k0_cond5 k = 1#1) (hh) :
    (cc0_scratch23.slice (Rect.unit (s := S4x2) (k0_off70 k) S1x1.size hh)).squeeze S_ squeezes_S1x1_S_ = nmC (k.val / 16) := nmC_congr (off70_nmC k h1 h5) _
@[sl_canon] theorem nmC_at_L10 (hh) :
    (cc0_scratch23.slice (Rect.unit (s := S4x2) (k0_off1 10#32) S1x1.size hh)).squeeze S_ squeezes_S1x1_S_ = nmC (10) := nmC_congr (by decide +kernel) _
@[sl_canon] theorem nmC_at_L11 (hh) :
    (cc0_scratch23.slice (Rect.unit (s := S4x2) (k0_off1 11#32) S1x1.size hh)).squeeze S_ squeezes_S1x1_S_ = nmC (11) := nmC_congr (by decide +kernel) _
theorem off17_nmS : ∀ k : Fin k0_t3_loop.trips, k0_cond1 k = 1#1 → k0_cond2 k = 1#1 → k0_cond3 k = 1#1 → k0_off17 k = nmSo (k.val / 16) := by decide +kernel
@[sl_canon] theorem nmS_at_17 (k : Fin k0_t3_loop.trips) (h1 : k0_cond1 k = 1#1) (h2 : k0_cond2 k = 1#1) (h3 : k0_cond3 k = 1#1) (hh hs) :
    ((Memref.whole cc0_scratch7 : Memref sig .tc .vmem S2x128x2048 .i8).slice (Rect.unit (s := S2x128x2048) (k0_off17 k) S1x128x2048.size hh) hs).squeeze S128x2048 squeezes_S1x128x2048_S128x2048 = nmS (k.val / 16) := nmS_congr (off17_nmS k h1 h2 h3) _ _
theorem off72_nmS : ∀ k : Fin k0_t3_loop.trips, k0_cond1 k = 1#1 → k0_cond5 k = 1#1 → k0_off72 k = nmSo (k.val / 16) := by decide +kernel
@[sl_canon] theorem nmS_at_72 (k : Fin k0_t3_loop.trips) (h1 : k0_cond1 k = 1#1) (h5 : k0_cond5 k = 1#1) (hh hs) :
    ((Memref.whole cc0_scratch7 : Memref sig .tc .vmem S2x128x2048 .i8).slice (Rect.unit (s := S2x128x2048) (k0_off72 k) S1x128x2048.size hh) hs).squeeze S128x2048 squeezes_S1x128x2048_S128x2048 = nmS (k.val / 16) := nmS_congr (off72_nmS k h1 h5) _ _
@[sl_canon] theorem nmS_at_L10 (hh hs) :
    ((Memref.whole cc0_scratch7 : Memref sig .tc .vmem S2x128x2048 .i8).slice (Rect.unit (s := S2x128x2048) (k0_off2 10#32) S1x128x2048.size hh) hs).squeeze S128x2048 squeezes_S1x128x2048_S128x2048 = nmS (10) := nmS_congr (by decide +kernel) _ _
@[sl_canon] theorem nmS_at_L11 (hh hs) :
    ((Memref.whole cc0_scratch7 : Memref sig .tc .vmem S2x128x2048 .i8).slice (Rect.unit (s := S2x128x2048) (k0_off2 11#32) S1x128x2048.size hh) hs).squeeze S128x2048 squeezes_S1x128x2048_S128x2048 = nmS (11) := nmS_congr (by decide +kernel) _ _
theorem off16_nmH : ∀ k : Fin k0_t3_loop.trips, k0_cond1 k = 1#1 → k0_cond2 k = 1#1 → k0_cond3 k = 1#1 → k0_off16 k = nmHo (k.val / 16 - 2) := by decide +kernel
@[sl_canon] theorem nmH_at_16 (k : Fin k0_t3_loop.trips) (h1 : k0_cond1 k = 1#1) (h2 : k0_cond2 k = 1#1) (h3 : k0_cond3 k = 1#1) (hh hs) :
    ((Memref.whole main_v0_3 : Memref sig .tc .hbm S12x128x2048 .i8).slice (Rect.unit (s := S12x128x2048) (k0_off16 k) S1x128x2048.size hh) hs).squeeze S128x2048 squeezes_S1x128x2048_S128x2048 = nmH (k.val / 16 - 2) := nmH_congr (off16_nmH k h1 h2 h3) _ _
theorem off71_nmH : ∀ k : Fin k0_t3_loop.trips, k0_cond1 k = 1#1 → k0_cond5 k = 1#1 → k0_off71 k = nmHo (k.val / 16) := by decide +kernel
@[sl_canon] theorem nmH_at_71 (k : Fin k0_t3_loop.trips) (h1 : k0_cond1 k = 1#1) (h5 : k0_cond5 k = 1#1) (hh hs) :
    ((Memref.whole main_v0_3 : Memref sig .tc .hbm S12x128x2048 .i8).slice (Rect.unit (s := S12x128x2048) (k0_off71 k) S1x128x2048.size hh) hs).squeeze S128x2048 squeezes_S1x128x2048_S128x2048 = nmH (k.val / 16) := nmH_congr (off71_nmH k h1 h5) _ _
@[sl_canon] theorem nmH_at_L10 (hh hs) :
    ((Memref.whole main_v0_3 : Memref sig .tc .hbm S12x128x2048 .i8).slice (Rect.unit (s := S12x128x2048) ![10, 0, 0] S1x128x2048.size hh) hs).squeeze S128x2048 squeezes_S1x128x2048_S128x2048 = nmH (10) := nmH_congr (by decide +kernel) _ _
@[sl_canon] theorem nmH_at_L11 (hh hs) :
    ((Memref.whole main_v0_3 : Memref sig .tc .hbm S12x128x2048 .i8).slice (Rect.unit (s := S12x128x2048) ![11, 0, 0] S1x128x2048.size hh) hs).squeeze S128x2048 squeezes_S1x128x2048_S128x2048 = nmH (11) := nmH_congr (by decide +kernel) _ _

abbrev nmsHo (i : ℕ) : Fin 3 → Nat := ![i % 12, 0, 0]
theorem nmsHo_inb (i : ℕ) : ∀ a, nmsHo i a + S1x128x16.size a ≤ S12x128x16.size a := by
  intro a; fin_cases a
  · show i % 12 + 1 ≤ 12; omega
  · show 0 + 128 ≤ 128; omega
  · show 0 + 16 ≤ 16; omega
/-- Batch `i` of the first moment's new scales. -/
def nmsH (i : ℕ) : Memref sig .tc .hbm S128x16 .f32 :=
  ((Memref.whole main_v0_4 : Memref sig .tc .hbm S12x128x16 .f32).slice (Rect.unit (s := S12x128x16) (nmsHo i) S1x128x16.size (nmsHo_inb i)) (fun _ => rfl)).squeeze S128x16 squeezes_S1x128x16_S128x16
instance (i : ℕ) : ClosedOff (nmsHo i) := ⟨nmsHo i, rfl⟩
theorem nmsH_congr {off : Fin 3 → Nat} {i : ℕ} (e : off = nmsHo i) (hh hs) :
    ((Memref.whole main_v0_4 : Memref sig .tc .hbm S12x128x16 .f32).slice (Rect.unit (s := S12x128x16) off S1x128x16.size hh) hs).squeeze S128x16 squeezes_S1x128x16_S128x16 = nmsH i :=
  congrArg (fun M : Memref sig .tc .hbm S1x128x16 .f32 => M.squeeze S128x16 squeezes_S1x128x16_S128x16) (Memref.slice_unit_congr _ e _ _ _ _)
theorem nmsH_eq {i j : ℕ} (e : nmsHo i = nmsHo j) : nmsH i = nmsH j := nmsH_congr e _ _

abbrev nmsSo (i : ℕ) : Fin 3 → Nat := ![i % 2, 0, 0]
theorem nmsSo_inb (i : ℕ) : ∀ a, nmsSo i a + S1x128x16.size a ≤ S2x128x16.size a := by
  intro a; fin_cases a
  · show i % 2 + 1 ≤ 2; omega
  · show 0 + 128 ≤ 128; omega
  · show 0 + 16 ≤ 16; omega
/-- Slot `i % 2` for the first moment's new scales. -/
def nmsS (i : ℕ) : Memref sig .tc .vmem S128x16 .f32 :=
  ((Memref.whole cc0_scratch9 : Memref sig .tc .vmem S2x128x16 .f32).slice (Rect.unit (s := S2x128x16) (nmsSo i) S1x128x16.size (nmsSo_inb i)) (fun _ => rfl)).squeeze S128x16 squeezes_S1x128x16_S128x16
instance (i : ℕ) : ClosedOff (nmsSo i) := ⟨nmsSo i, rfl⟩
theorem nmsS_congr {off : Fin 3 → Nat} {i : ℕ} (e : off = nmsSo i) (hh hs) :
    ((Memref.whole cc0_scratch9 : Memref sig .tc .vmem S2x128x16 .f32).slice (Rect.unit (s := S2x128x16) off S1x128x16.size hh) hs).squeeze S128x16 squeezes_S1x128x16_S128x16 = nmsS i :=
  congrArg (fun M : Memref sig .tc .vmem S1x128x16 .f32 => M.squeeze S128x16 squeezes_S1x128x16_S128x16) (Memref.slice_unit_congr _ e _ _ _ _)
theorem nmsS_eq {i j : ℕ} (e : nmsSo i = nmsSo j) : nmsS i = nmsS j := nmsS_congr e _ _

abbrev nmsCo (i : ℕ) : Fin 2 → Nat := ![1, i % 2]
theorem nmsCo_inb (i : ℕ) : ∀ a, nmsCo i a + S1x1.size a ≤ S4x2.size a := by
  intro a; fin_cases a
  · show 1 + 1 ≤ 4; omega
  · show i % 2 + 1 ≤ 2; omega
/-- The semaphore of slot `i % 2` for the first moment's new scales. -/
def nmsC (i : ℕ) : DmaSems sig S_ := (cc0_scratch23.slice (Rect.unit (s := S4x2) (nmsCo i) S1x1.size (nmsCo_inb i))).squeeze S_ squeezes_S1x1_S_
theorem nmsC_congr {off : Fin 2 → Nat} {i : ℕ} (e : off = nmsCo i) (hh) :
    (cc0_scratch23.slice (Rect.unit (s := S4x2) off S1x1.size hh)).squeeze S_ squeezes_S1x1_S_ = nmsC i :=
  congrArg (fun A : DmaSems sig S1x1 => A.squeeze S_ squeezes_S1x1_S_) (SemArray.slice_unit_congr _ e _ _)
theorem nmsC_eq {i j : ℕ} (e : nmsCo i = nmsCo j) : nmsC i = nmsC j := nmsC_congr e _

theorem off18_nmsC : ∀ k : Fin k0_t3_loop.trips, k0_cond1 k = 1#1 → k0_cond2 k = 1#1 → k0_cond3 k = 1#1 → k0_off18 k = nmsCo (k.val / 16) := by decide +kernel
@[sl_canon] theorem nmsC_at_18 (k : Fin k0_t3_loop.trips) (h1 : k0_cond1 k = 1#1) (h2 : k0_cond2 k = 1#1) (h3 : k0_cond3 k = 1#1) (hh) :
    (cc0_scratch23.slice (Rect.unit (s := S4x2) (k0_off18 k) S1x1.size hh)).squeeze S_ squeezes_S1x1_S_ = nmsC (k.val / 16) := nmsC_congr (off18_nmsC k h1 h2 h3) _
theorem off73_nmsC : ∀ k : Fin k0_t3_loop.trips, k0_cond1 k = 1#1 → k0_cond5 k = 1#1 → k0_off73 k = nmsCo (k.val / 16) := by decide +kernel
@[sl_canon] theorem nmsC_at_73 (k : Fin k0_t3_loop.trips) (h1 : k0_cond1 k = 1#1) (h5 : k0_cond5 k = 1#1) (hh) :
    (cc0_scratch23.slice (Rect.unit (s := S4x2) (k0_off73 k) S1x1.size hh)).squeeze S_ squeezes_S1x1_S_ = nmsC (k.val / 16) := nmsC_congr (off73_nmsC k h1 h5) _
@[sl_canon] theorem nmsC_at_L10 (hh) :
    (cc0_scratch23.slice (Rect.unit (s := S4x2) (k0_off3 10#32) S1x1.size hh)).squeeze S_ squeezes_S1x1_S_ = nmsC (10) := nmsC_congr (by decide +kernel) _
@[sl_canon] theorem nmsC_at_L11 (hh) :
    (cc0_scratch23.slice (Rect.unit (s := S4x2) (k0_off3 11#32) S1x1.size hh)).squeeze S_ squeezes_S1x1_S_ = nmsC (11) := nmsC_congr (by decide +kernel) _
theorem off20_nmsS : ∀ k : Fin k0_t3_loop.trips, k0_cond1 k = 1#1 → k0_cond2 k = 1#1 → k0_cond3 k = 1#1 → k0_off20 k = nmsSo (k.val / 16) := by decide +kernel
@[sl_canon] theorem nmsS_at_20 (k : Fin k0_t3_loop.trips) (h1 : k0_cond1 k = 1#1) (h2 : k0_cond2 k = 1#1) (h3 : k0_cond3 k = 1#1) (hh hs) :
    ((Memref.whole cc0_scratch9 : Memref sig .tc .vmem S2x128x16 .f32).slice (Rect.unit (s := S2x128x16) (k0_off20 k) S1x128x16.size hh) hs).squeeze S128x16 squeezes_S1x128x16_S128x16 = nmsS (k.val / 16) := nmsS_congr (off20_nmsS k h1 h2 h3) _ _
theorem off75_nmsS : ∀ k : Fin k0_t3_loop.trips, k0_cond1 k = 1#1 → k0_cond5 k = 1#1 → k0_off75 k = nmsSo (k.val / 16) := by decide +kernel
@[sl_canon] theorem nmsS_at_75 (k : Fin k0_t3_loop.trips) (h1 : k0_cond1 k = 1#1) (h5 : k0_cond5 k = 1#1) (hh hs) :
    ((Memref.whole cc0_scratch9 : Memref sig .tc .vmem S2x128x16 .f32).slice (Rect.unit (s := S2x128x16) (k0_off75 k) S1x128x16.size hh) hs).squeeze S128x16 squeezes_S1x128x16_S128x16 = nmsS (k.val / 16) := nmsS_congr (off75_nmsS k h1 h5) _ _
@[sl_canon] theorem nmsS_at_L10 (hh hs) :
    ((Memref.whole cc0_scratch9 : Memref sig .tc .vmem S2x128x16 .f32).slice (Rect.unit (s := S2x128x16) (k0_off4 10#32) S1x128x16.size hh) hs).squeeze S128x16 squeezes_S1x128x16_S128x16 = nmsS (10) := nmsS_congr (by decide +kernel) _ _
@[sl_canon] theorem nmsS_at_L11 (hh hs) :
    ((Memref.whole cc0_scratch9 : Memref sig .tc .vmem S2x128x16 .f32).slice (Rect.unit (s := S2x128x16) (k0_off4 11#32) S1x128x16.size hh) hs).squeeze S128x16 squeezes_S1x128x16_S128x16 = nmsS (11) := nmsS_congr (by decide +kernel) _ _
theorem off19_nmsH : ∀ k : Fin k0_t3_loop.trips, k0_cond1 k = 1#1 → k0_cond2 k = 1#1 → k0_cond3 k = 1#1 → k0_off19 k = nmsHo (k.val / 16 - 2) := by decide +kernel
@[sl_canon] theorem nmsH_at_19 (k : Fin k0_t3_loop.trips) (h1 : k0_cond1 k = 1#1) (h2 : k0_cond2 k = 1#1) (h3 : k0_cond3 k = 1#1) (hh hs) :
    ((Memref.whole main_v0_4 : Memref sig .tc .hbm S12x128x16 .f32).slice (Rect.unit (s := S12x128x16) (k0_off19 k) S1x128x16.size hh) hs).squeeze S128x16 squeezes_S1x128x16_S128x16 = nmsH (k.val / 16 - 2) := nmsH_congr (off19_nmsH k h1 h2 h3) _ _
theorem off74_nmsH : ∀ k : Fin k0_t3_loop.trips, k0_cond1 k = 1#1 → k0_cond5 k = 1#1 → k0_off74 k = nmsHo (k.val / 16) := by decide +kernel
@[sl_canon] theorem nmsH_at_74 (k : Fin k0_t3_loop.trips) (h1 : k0_cond1 k = 1#1) (h5 : k0_cond5 k = 1#1) (hh hs) :
    ((Memref.whole main_v0_4 : Memref sig .tc .hbm S12x128x16 .f32).slice (Rect.unit (s := S12x128x16) (k0_off74 k) S1x128x16.size hh) hs).squeeze S128x16 squeezes_S1x128x16_S128x16 = nmsH (k.val / 16) := nmsH_congr (off74_nmsH k h1 h5) _ _
@[sl_canon] theorem nmsH_at_L10 (hh hs) :
    ((Memref.whole main_v0_4 : Memref sig .tc .hbm S12x128x16 .f32).slice (Rect.unit (s := S12x128x16) ![10, 0, 0] S1x128x16.size hh) hs).squeeze S128x16 squeezes_S1x128x16_S128x16 = nmsH (10) := nmsH_congr (by decide +kernel) _ _
@[sl_canon] theorem nmsH_at_L11 (hh hs) :
    ((Memref.whole main_v0_4 : Memref sig .tc .hbm S12x128x16 .f32).slice (Rect.unit (s := S12x128x16) ![11, 0, 0] S1x128x16.size hh) hs).squeeze S128x16 squeezes_S1x128x16_S128x16 = nmsH (11) := nmsH_congr (by decide +kernel) _ _

abbrev nvHo (i : ℕ) : Fin 3 → Nat := ![i % 12, 0, 0]
theorem nvHo_inb (i : ℕ) : ∀ a, nvHo i a + S1x128x2048.size a ≤ S12x128x2048.size a := by
  intro a; fin_cases a
  · show i % 12 + 1 ≤ 12; omega
  · show 0 + 128 ≤ 128; omega
  · show 0 + 2048 ≤ 2048; omega
/-- Batch `i` of the second moment's new codes. -/
def nvH (i : ℕ) : Memref sig .tc .hbm S128x2048 .i8 :=
  ((Memref.whole main_v0_5 : Memref sig .tc .hbm S12x128x2048 .i8).slice (Rect.unit (s := S12x128x2048) (nvHo i) S1x128x2048.size (nvHo_inb i)) (fun _ => rfl)).squeeze S128x2048 squeezes_S1x128x2048_S128x2048
instance (i : ℕ) : ClosedOff (nvHo i) := ⟨nvHo i, rfl⟩
theorem nvH_congr {off : Fin 3 → Nat} {i : ℕ} (e : off = nvHo i) (hh hs) :
    ((Memref.whole main_v0_5 : Memref sig .tc .hbm S12x128x2048 .i8).slice (Rect.unit (s := S12x128x2048) off S1x128x2048.size hh) hs).squeeze S128x2048 squeezes_S1x128x2048_S128x2048 = nvH i :=
  congrArg (fun M : Memref sig .tc .hbm S1x128x2048 .i8 => M.squeeze S128x2048 squeezes_S1x128x2048_S128x2048) (Memref.slice_unit_congr _ e _ _ _ _)
theorem nvH_eq {i j : ℕ} (e : nvHo i = nvHo j) : nvH i = nvH j := nvH_congr e _ _

abbrev nvSo (i : ℕ) : Fin 3 → Nat := ![i % 2, 0, 0]
theorem nvSo_inb (i : ℕ) : ∀ a, nvSo i a + S1x128x2048.size a ≤ S2x128x2048.size a := by
  intro a; fin_cases a
  · show i % 2 + 1 ≤ 2; omega
  · show 0 + 128 ≤ 128; omega
  · show 0 + 2048 ≤ 2048; omega
/-- Slot `i % 2` for the second moment's new codes. -/
def nvS (i : ℕ) : Memref sig .tc .vmem S128x2048 .i8 :=
  ((Memref.whole cc0_scratch8 : Memref sig .tc .vmem S2x128x2048 .i8).slice (Rect.unit (s := S2x128x2048) (nvSo i) S1x128x2048.size (nvSo_inb i)) (fun _ => rfl)).squeeze S128x2048 squeezes_S1x128x2048_S128x2048
instance (i : ℕ) : ClosedOff (nvSo i) := ⟨nvSo i, rfl⟩
theorem nvS_congr {off : Fin 3 → Nat} {i : ℕ} (e : off = nvSo i) (hh hs) :
    ((Memref.whole cc0_scratch8 : Memref sig .tc .vmem S2x128x2048 .i8).slice (Rect.unit (s := S2x128x2048) off S1x128x2048.size hh) hs).squeeze S128x2048 squeezes_S1x128x2048_S128x2048 = nvS i :=
  congrArg (fun M : Memref sig .tc .vmem S1x128x2048 .i8 => M.squeeze S128x2048 squeezes_S1x128x2048_S128x2048) (Memref.slice_unit_congr _ e _ _ _ _)
theorem nvS_eq {i j : ℕ} (e : nvSo i = nvSo j) : nvS i = nvS j := nvS_congr e _ _

abbrev nvCo (i : ℕ) : Fin 2 → Nat := ![2, i % 2]
theorem nvCo_inb (i : ℕ) : ∀ a, nvCo i a + S1x1.size a ≤ S4x2.size a := by
  intro a; fin_cases a
  · show 2 + 1 ≤ 4; omega
  · show i % 2 + 1 ≤ 2; omega
/-- The semaphore of slot `i % 2` for the second moment's new codes. -/
def nvC (i : ℕ) : DmaSems sig S_ := (cc0_scratch23.slice (Rect.unit (s := S4x2) (nvCo i) S1x1.size (nvCo_inb i))).squeeze S_ squeezes_S1x1_S_
theorem nvC_congr {off : Fin 2 → Nat} {i : ℕ} (e : off = nvCo i) (hh) :
    (cc0_scratch23.slice (Rect.unit (s := S4x2) off S1x1.size hh)).squeeze S_ squeezes_S1x1_S_ = nvC i :=
  congrArg (fun A : DmaSems sig S1x1 => A.squeeze S_ squeezes_S1x1_S_) (SemArray.slice_unit_congr _ e _ _)
theorem nvC_eq {i j : ℕ} (e : nvCo i = nvCo j) : nvC i = nvC j := nvC_congr e _

theorem off21_nvC : ∀ k : Fin k0_t3_loop.trips, k0_cond1 k = 1#1 → k0_cond2 k = 1#1 → k0_cond3 k = 1#1 → k0_off21 k = nvCo (k.val / 16) := by decide +kernel
@[sl_canon] theorem nvC_at_21 (k : Fin k0_t3_loop.trips) (h1 : k0_cond1 k = 1#1) (h2 : k0_cond2 k = 1#1) (h3 : k0_cond3 k = 1#1) (hh) :
    (cc0_scratch23.slice (Rect.unit (s := S4x2) (k0_off21 k) S1x1.size hh)).squeeze S_ squeezes_S1x1_S_ = nvC (k.val / 16) := nvC_congr (off21_nvC k h1 h2 h3) _
theorem off76_nvC : ∀ k : Fin k0_t3_loop.trips, k0_cond1 k = 1#1 → k0_cond5 k = 1#1 → k0_off76 k = nvCo (k.val / 16) := by decide +kernel
@[sl_canon] theorem nvC_at_76 (k : Fin k0_t3_loop.trips) (h1 : k0_cond1 k = 1#1) (h5 : k0_cond5 k = 1#1) (hh) :
    (cc0_scratch23.slice (Rect.unit (s := S4x2) (k0_off76 k) S1x1.size hh)).squeeze S_ squeezes_S1x1_S_ = nvC (k.val / 16) := nvC_congr (off76_nvC k h1 h5) _
@[sl_canon] theorem nvC_at_L10 (hh) :
    (cc0_scratch23.slice (Rect.unit (s := S4x2) (k0_off5 10#32) S1x1.size hh)).squeeze S_ squeezes_S1x1_S_ = nvC (10) := nvC_congr (by decide +kernel) _
@[sl_canon] theorem nvC_at_L11 (hh) :
    (cc0_scratch23.slice (Rect.unit (s := S4x2) (k0_off5 11#32) S1x1.size hh)).squeeze S_ squeezes_S1x1_S_ = nvC (11) := nvC_congr (by decide +kernel) _
theorem off17_nvS : ∀ k : Fin k0_t3_loop.trips, k0_cond1 k = 1#1 → k0_cond2 k = 1#1 → k0_cond3 k = 1#1 → k0_off17 k = nvSo (k.val / 16) := by decide +kernel
@[sl_canon] theorem nvS_at_17 (k : Fin k0_t3_loop.trips) (h1 : k0_cond1 k = 1#1) (h2 : k0_cond2 k = 1#1) (h3 : k0_cond3 k = 1#1) (hh hs) :
    ((Memref.whole cc0_scratch8 : Memref sig .tc .vmem S2x128x2048 .i8).slice (Rect.unit (s := S2x128x2048) (k0_off17 k) S1x128x2048.size hh) hs).squeeze S128x2048 squeezes_S1x128x2048_S128x2048 = nvS (k.val / 16) := nvS_congr (off17_nvS k h1 h2 h3) _ _
theorem off72_nvS : ∀ k : Fin k0_t3_loop.trips, k0_cond1 k = 1#1 → k0_cond5 k = 1#1 → k0_off72 k = nvSo (k.val / 16) := by decide +kernel
@[sl_canon] theorem nvS_at_72 (k : Fin k0_t3_loop.trips) (h1 : k0_cond1 k = 1#1) (h5 : k0_cond5 k = 1#1) (hh hs) :
    ((Memref.whole cc0_scratch8 : Memref sig .tc .vmem S2x128x2048 .i8).slice (Rect.unit (s := S2x128x2048) (k0_off72 k) S1x128x2048.size hh) hs).squeeze S128x2048 squeezes_S1x128x2048_S128x2048 = nvS (k.val / 16) := nvS_congr (off72_nvS k h1 h5) _ _
@[sl_canon] theorem nvS_at_L10 (hh hs) :
    ((Memref.whole cc0_scratch8 : Memref sig .tc .vmem S2x128x2048 .i8).slice (Rect.unit (s := S2x128x2048) (k0_off2 10#32) S1x128x2048.size hh) hs).squeeze S128x2048 squeezes_S1x128x2048_S128x2048 = nvS (10) := nvS_congr (by decide +kernel) _ _
@[sl_canon] theorem nvS_at_L11 (hh hs) :
    ((Memref.whole cc0_scratch8 : Memref sig .tc .vmem S2x128x2048 .i8).slice (Rect.unit (s := S2x128x2048) (k0_off2 11#32) S1x128x2048.size hh) hs).squeeze S128x2048 squeezes_S1x128x2048_S128x2048 = nvS (11) := nvS_congr (by decide +kernel) _ _
theorem off16_nvH : ∀ k : Fin k0_t3_loop.trips, k0_cond1 k = 1#1 → k0_cond2 k = 1#1 → k0_cond3 k = 1#1 → k0_off16 k = nvHo (k.val / 16 - 2) := by decide +kernel
@[sl_canon] theorem nvH_at_16 (k : Fin k0_t3_loop.trips) (h1 : k0_cond1 k = 1#1) (h2 : k0_cond2 k = 1#1) (h3 : k0_cond3 k = 1#1) (hh hs) :
    ((Memref.whole main_v0_5 : Memref sig .tc .hbm S12x128x2048 .i8).slice (Rect.unit (s := S12x128x2048) (k0_off16 k) S1x128x2048.size hh) hs).squeeze S128x2048 squeezes_S1x128x2048_S128x2048 = nvH (k.val / 16 - 2) := nvH_congr (off16_nvH k h1 h2 h3) _ _
theorem off71_nvH : ∀ k : Fin k0_t3_loop.trips, k0_cond1 k = 1#1 → k0_cond5 k = 1#1 → k0_off71 k = nvHo (k.val / 16) := by decide +kernel
@[sl_canon] theorem nvH_at_71 (k : Fin k0_t3_loop.trips) (h1 : k0_cond1 k = 1#1) (h5 : k0_cond5 k = 1#1) (hh hs) :
    ((Memref.whole main_v0_5 : Memref sig .tc .hbm S12x128x2048 .i8).slice (Rect.unit (s := S12x128x2048) (k0_off71 k) S1x128x2048.size hh) hs).squeeze S128x2048 squeezes_S1x128x2048_S128x2048 = nvH (k.val / 16) := nvH_congr (off71_nvH k h1 h5) _ _
@[sl_canon] theorem nvH_at_L10 (hh hs) :
    ((Memref.whole main_v0_5 : Memref sig .tc .hbm S12x128x2048 .i8).slice (Rect.unit (s := S12x128x2048) ![10, 0, 0] S1x128x2048.size hh) hs).squeeze S128x2048 squeezes_S1x128x2048_S128x2048 = nvH (10) := nvH_congr (by decide +kernel) _ _
@[sl_canon] theorem nvH_at_L11 (hh hs) :
    ((Memref.whole main_v0_5 : Memref sig .tc .hbm S12x128x2048 .i8).slice (Rect.unit (s := S12x128x2048) ![11, 0, 0] S1x128x2048.size hh) hs).squeeze S128x2048 squeezes_S1x128x2048_S128x2048 = nvH (11) := nvH_congr (by decide +kernel) _ _

abbrev nvsHo (i : ℕ) : Fin 3 → Nat := ![i % 12, 0, 0]
theorem nvsHo_inb (i : ℕ) : ∀ a, nvsHo i a + S1x128x16.size a ≤ S12x128x16.size a := by
  intro a; fin_cases a
  · show i % 12 + 1 ≤ 12; omega
  · show 0 + 128 ≤ 128; omega
  · show 0 + 16 ≤ 16; omega
/-- Batch `i` of the second moment's new scales. -/
def nvsH (i : ℕ) : Memref sig .tc .hbm S128x16 .f32 :=
  ((Memref.whole main_v0_6 : Memref sig .tc .hbm S12x128x16 .f32).slice (Rect.unit (s := S12x128x16) (nvsHo i) S1x128x16.size (nvsHo_inb i)) (fun _ => rfl)).squeeze S128x16 squeezes_S1x128x16_S128x16
instance (i : ℕ) : ClosedOff (nvsHo i) := ⟨nvsHo i, rfl⟩
theorem nvsH_congr {off : Fin 3 → Nat} {i : ℕ} (e : off = nvsHo i) (hh hs) :
    ((Memref.whole main_v0_6 : Memref sig .tc .hbm S12x128x16 .f32).slice (Rect.unit (s := S12x128x16) off S1x128x16.size hh) hs).squeeze S128x16 squeezes_S1x128x16_S128x16 = nvsH i :=
  congrArg (fun M : Memref sig .tc .hbm S1x128x16 .f32 => M.squeeze S128x16 squeezes_S1x128x16_S128x16) (Memref.slice_unit_congr _ e _ _ _ _)
theorem nvsH_eq {i j : ℕ} (e : nvsHo i = nvsHo j) : nvsH i = nvsH j := nvsH_congr e _ _

abbrev nvsSo (i : ℕ) : Fin 3 → Nat := ![i % 2, 0, 0]
theorem nvsSo_inb (i : ℕ) : ∀ a, nvsSo i a + S1x128x16.size a ≤ S2x128x16.size a := by
  intro a; fin_cases a
  · show i % 2 + 1 ≤ 2; omega
  · show 0 + 128 ≤ 128; omega
  · show 0 + 16 ≤ 16; omega
/-- Slot `i % 2` for the second moment's new scales. -/
def nvsS (i : ℕ) : Memref sig .tc .vmem S128x16 .f32 :=
  ((Memref.whole cc0_scratch10 : Memref sig .tc .vmem S2x128x16 .f32).slice (Rect.unit (s := S2x128x16) (nvsSo i) S1x128x16.size (nvsSo_inb i)) (fun _ => rfl)).squeeze S128x16 squeezes_S1x128x16_S128x16
instance (i : ℕ) : ClosedOff (nvsSo i) := ⟨nvsSo i, rfl⟩
theorem nvsS_congr {off : Fin 3 → Nat} {i : ℕ} (e : off = nvsSo i) (hh hs) :
    ((Memref.whole cc0_scratch10 : Memref sig .tc .vmem S2x128x16 .f32).slice (Rect.unit (s := S2x128x16) off S1x128x16.size hh) hs).squeeze S128x16 squeezes_S1x128x16_S128x16 = nvsS i :=
  congrArg (fun M : Memref sig .tc .vmem S1x128x16 .f32 => M.squeeze S128x16 squeezes_S1x128x16_S128x16) (Memref.slice_unit_congr _ e _ _ _ _)
theorem nvsS_eq {i j : ℕ} (e : nvsSo i = nvsSo j) : nvsS i = nvsS j := nvsS_congr e _ _

abbrev nvsCo (i : ℕ) : Fin 2 → Nat := ![3, i % 2]
theorem nvsCo_inb (i : ℕ) : ∀ a, nvsCo i a + S1x1.size a ≤ S4x2.size a := by
  intro a; fin_cases a
  · show 3 + 1 ≤ 4; omega
  · show i % 2 + 1 ≤ 2; omega
/-- The semaphore of slot `i % 2` for the second moment's new scales. -/
def nvsC (i : ℕ) : DmaSems sig S_ := (cc0_scratch23.slice (Rect.unit (s := S4x2) (nvsCo i) S1x1.size (nvsCo_inb i))).squeeze S_ squeezes_S1x1_S_
theorem nvsC_congr {off : Fin 2 → Nat} {i : ℕ} (e : off = nvsCo i) (hh) :
    (cc0_scratch23.slice (Rect.unit (s := S4x2) off S1x1.size hh)).squeeze S_ squeezes_S1x1_S_ = nvsC i :=
  congrArg (fun A : DmaSems sig S1x1 => A.squeeze S_ squeezes_S1x1_S_) (SemArray.slice_unit_congr _ e _ _)
theorem nvsC_eq {i j : ℕ} (e : nvsCo i = nvsCo j) : nvsC i = nvsC j := nvsC_congr e _

theorem off22_nvsC : ∀ k : Fin k0_t3_loop.trips, k0_cond1 k = 1#1 → k0_cond2 k = 1#1 → k0_cond3 k = 1#1 → k0_off22 k = nvsCo (k.val / 16) := by decide +kernel
@[sl_canon] theorem nvsC_at_22 (k : Fin k0_t3_loop.trips) (h1 : k0_cond1 k = 1#1) (h2 : k0_cond2 k = 1#1) (h3 : k0_cond3 k = 1#1) (hh) :
    (cc0_scratch23.slice (Rect.unit (s := S4x2) (k0_off22 k) S1x1.size hh)).squeeze S_ squeezes_S1x1_S_ = nvsC (k.val / 16) := nvsC_congr (off22_nvsC k h1 h2 h3) _
theorem off77_nvsC : ∀ k : Fin k0_t3_loop.trips, k0_cond1 k = 1#1 → k0_cond5 k = 1#1 → k0_off77 k = nvsCo (k.val / 16) := by decide +kernel
@[sl_canon] theorem nvsC_at_77 (k : Fin k0_t3_loop.trips) (h1 : k0_cond1 k = 1#1) (h5 : k0_cond5 k = 1#1) (hh) :
    (cc0_scratch23.slice (Rect.unit (s := S4x2) (k0_off77 k) S1x1.size hh)).squeeze S_ squeezes_S1x1_S_ = nvsC (k.val / 16) := nvsC_congr (off77_nvsC k h1 h5) _
@[sl_canon] theorem nvsC_at_L10 (hh) :
    (cc0_scratch23.slice (Rect.unit (s := S4x2) (k0_off6 10#32) S1x1.size hh)).squeeze S_ squeezes_S1x1_S_ = nvsC (10) := nvsC_congr (by decide +kernel) _
@[sl_canon] theorem nvsC_at_L11 (hh) :
    (cc0_scratch23.slice (Rect.unit (s := S4x2) (k0_off6 11#32) S1x1.size hh)).squeeze S_ squeezes_S1x1_S_ = nvsC (11) := nvsC_congr (by decide +kernel) _
theorem off20_nvsS : ∀ k : Fin k0_t3_loop.trips, k0_cond1 k = 1#1 → k0_cond2 k = 1#1 → k0_cond3 k = 1#1 → k0_off20 k = nvsSo (k.val / 16) := by decide +kernel
@[sl_canon] theorem nvsS_at_20 (k : Fin k0_t3_loop.trips) (h1 : k0_cond1 k = 1#1) (h2 : k0_cond2 k = 1#1) (h3 : k0_cond3 k = 1#1) (hh hs) :
    ((Memref.whole cc0_scratch10 : Memref sig .tc .vmem S2x128x16 .f32).slice (Rect.unit (s := S2x128x16) (k0_off20 k) S1x128x16.size hh) hs).squeeze S128x16 squeezes_S1x128x16_S128x16 = nvsS (k.val / 16) := nvsS_congr (off20_nvsS k h1 h2 h3) _ _
theorem off75_nvsS : ∀ k : Fin k0_t3_loop.trips, k0_cond1 k = 1#1 → k0_cond5 k = 1#1 → k0_off75 k = nvsSo (k.val / 16) := by decide +kernel
@[sl_canon] theorem nvsS_at_75 (k : Fin k0_t3_loop.trips) (h1 : k0_cond1 k = 1#1) (h5 : k0_cond5 k = 1#1) (hh hs) :
    ((Memref.whole cc0_scratch10 : Memref sig .tc .vmem S2x128x16 .f32).slice (Rect.unit (s := S2x128x16) (k0_off75 k) S1x128x16.size hh) hs).squeeze S128x16 squeezes_S1x128x16_S128x16 = nvsS (k.val / 16) := nvsS_congr (off75_nvsS k h1 h5) _ _
@[sl_canon] theorem nvsS_at_L10 (hh hs) :
    ((Memref.whole cc0_scratch10 : Memref sig .tc .vmem S2x128x16 .f32).slice (Rect.unit (s := S2x128x16) (k0_off4 10#32) S1x128x16.size hh) hs).squeeze S128x16 squeezes_S1x128x16_S128x16 = nvsS (10) := nvsS_congr (by decide +kernel) _ _
@[sl_canon] theorem nvsS_at_L11 (hh hs) :
    ((Memref.whole cc0_scratch10 : Memref sig .tc .vmem S2x128x16 .f32).slice (Rect.unit (s := S2x128x16) (k0_off4 11#32) S1x128x16.size hh) hs).squeeze S128x16 squeezes_S1x128x16_S128x16 = nvsS (11) := nvsS_congr (by decide +kernel) _ _
theorem off19_nvsH : ∀ k : Fin k0_t3_loop.trips, k0_cond1 k = 1#1 → k0_cond2 k = 1#1 → k0_cond3 k = 1#1 → k0_off19 k = nvsHo (k.val / 16 - 2) := by decide +kernel
@[sl_canon] theorem nvsH_at_19 (k : Fin k0_t3_loop.trips) (h1 : k0_cond1 k = 1#1) (h2 : k0_cond2 k = 1#1) (h3 : k0_cond3 k = 1#1) (hh hs) :
    ((Memref.whole main_v0_6 : Memref sig .tc .hbm S12x128x16 .f32).slice (Rect.unit (s := S12x128x16) (k0_off19 k) S1x128x16.size hh) hs).squeeze S128x16 squeezes_S1x128x16_S128x16 = nvsH (k.val / 16 - 2) := nvsH_congr (off19_nvsH k h1 h2 h3) _ _
theorem off74_nvsH : ∀ k : Fin k0_t3_loop.trips, k0_cond1 k = 1#1 → k0_cond5 k = 1#1 → k0_off74 k = nvsHo (k.val / 16) := by decide +kernel
@[sl_canon] theorem nvsH_at_74 (k : Fin k0_t3_loop.trips) (h1 : k0_cond1 k = 1#1) (h5 : k0_cond5 k = 1#1) (hh hs) :
    ((Memref.whole main_v0_6 : Memref sig .tc .hbm S12x128x16 .f32).slice (Rect.unit (s := S12x128x16) (k0_off74 k) S1x128x16.size hh) hs).squeeze S128x16 squeezes_S1x128x16_S128x16 = nvsH (k.val / 16) := nvsH_congr (off74_nvsH k h1 h5) _ _
@[sl_canon] theorem nvsH_at_L10 (hh hs) :
    ((Memref.whole main_v0_6 : Memref sig .tc .hbm S12x128x16 .f32).slice (Rect.unit (s := S12x128x16) ![10, 0, 0] S1x128x16.size hh) hs).squeeze S128x16 squeezes_S1x128x16_S128x16 = nvsH (10) := nvsH_congr (by decide +kernel) _ _
@[sl_canon] theorem nvsH_at_L11 (hh hs) :
    ((Memref.whole main_v0_6 : Memref sig .tc .hbm S12x128x16 .f32).slice (Rect.unit (s := S12x128x16) ![11, 0, 0] S1x128x16.size hh) hs).squeeze S128x16 squeezes_S1x128x16_S128x16 = nvsH (11) := nvsH_congr (by decide +kernel) _ _

end Cert.Proof.Kernel
-- ==== Proof.Rings.lean ====
/- What a ring of slots owns, piece by piece, and how one step changes it. -/
module

public import Idealize.ShloMosaic.Lib.Ring
public import Idealize.ShloMosaic.Lib.Tactic

@[expose] public section

namespace Cert.Proof.Rings

open Idealize.ShloMosaic Idealize.ShloMosaic.Tactic
open Idealize.SL Idealize.SL.RA Idealize.SL.BI
open scoped Idealize.SL.BI
open Idealize.SL.BI.BIBase Idealize.SL.BI.Laws Idealize.SL.ProofMode

variable {M : Type _} [URA M]

theorem entails_of_eq {P Q : sProp M} (e : P = Q) : P ⊢ Q := e ▸ .rfl

/-- One piece taken out of many, to be put back changed. -/
theorem take1 (N : ℕ) (Φ Ψ : ℕ → sProp M) (i : ℕ) (hi : i < N) (h : ∀ j < N, j ≠ i → Φ j = Ψ j) :
    bigSep (Finset.range N) Φ ⊢ iprop(Φ i ∗ (Ψ i -∗ bigSep (Finset.range N) Ψ)) := by
  have hm : i ∈ Finset.range N := Finset.mem_range.mpr hi
  rw [bigSep_erase (Φ := Φ) hm, bigSep_erase (Φ := Ψ) hm,
    bigSep_congr (s := (Finset.range N).erase i) (Φ := Φ) (Ψ := Ψ) fun j hj => h j (Finset.mem_range.mp (Finset.mem_of_mem_erase hj)) (Finset.ne_of_mem_erase hj)]
  show iprop(Φ i ∗ bigSep ((Finset.range N).erase i) Ψ) ⊢ iprop(Φ i ∗ (Ψ i -∗ iprop(Ψ i ∗ bigSep ((Finset.range N).erase i) Ψ)))
  iintro ⟨H, HR⟩
  isplitl [H]; · iexact H
  iintro H'
  isplitl [H']; · iexact H'
  iexact HR

/-- Two pieces taken out of many. -/
theorem take2 (N : ℕ) (Φ Ψ : ℕ → sProp M) (i i' : ℕ) (hi : i < N) (hi' : i' < N) (hne : i ≠ i') (h : ∀ j < N, j ≠ i → j ≠ i' → Φ j = Ψ j) :
    bigSep (Finset.range N) Φ ⊢ iprop(Φ i ∗ Φ i' ∗ ((Ψ i ∗ Ψ i') -∗ bigSep (Finset.range N) Ψ)) := by
  have hm : i ∈ Finset.range N := Finset.mem_range.mpr hi
  have hm' : i' ∈ (Finset.range N).erase i := Finset.mem_erase.mpr ⟨Ne.symm hne, Finset.mem_range.mpr hi'⟩
  rw [bigSep_erase (Φ := Φ) hm, bigSep_erase (Φ := Ψ) hm, bigSep_erase (Φ := Φ) hm', bigSep_erase (Φ := Ψ) hm',
    bigSep_congr (s := ((Finset.range N).erase i).erase i') (Φ := Φ) (Ψ := Ψ) fun j hj =>
      have hj' := Finset.mem_of_mem_erase hj
      h j (Finset.mem_range.mp (Finset.mem_of_mem_erase hj')) (Finset.ne_of_mem_erase hj') (Finset.ne_of_mem_erase hj)]
  show iprop(Φ i ∗ Φ i' ∗ bigSep (((Finset.range N).erase i).erase i') Ψ)
    ⊢ iprop(Φ i ∗ Φ i' ∗ ((Ψ i ∗ Ψ i') -∗ iprop(Ψ i ∗ Ψ i' ∗ bigSep (((Finset.range N).erase i).erase i') Ψ)))
  iintro ⟨H, H', HR⟩
  isplitl [H]; · iexact H
  isplitl [H']; · iexact H'
  iintro ⟨G, G'⟩
  isplitl [G]; · iexact G
  isplitl [G']; · iexact G'
  iexact HR

/-! ## A ring that reads: `N` blocks through `S` slots

The first `p` blocks have been waited for, the first `l` asked for. A block waited for is at home and its slot is kept with what it
read, until the slot is given to the block `S` later. -/

section Reads
variable (S : ℕ) (Fl Hm Kp : ℕ → sProp M)

def rStat (p l i : ℕ) : sProp M :=
  if p ≤ i then (if i < l then Fl i else Hm i) else iprop(Hm i ∗ if l ≤ i + S then Kp i else BI.emp)
def ring (N p l : ℕ) : sProp M := bigSep (Finset.range N) (rStat S Fl Hm Kp p l)

theorem ring_wait (N p l : ℕ) (hp : p < l) (hl : l ≤ p + S) (hN : p < N) :
    ring S Fl Hm Kp N p l ⊢ iprop(Fl p ∗ ((Hm p ∗ Kp p) -∗ ring S Fl Hm Kp N (p + 1) l)) := by
  have H := take1 N (rStat S Fl Hm Kp p l) (rStat S Fl Hm Kp (p + 1) l) p hN fun j _ hj => by
    unfold rStat; by_cases h : p ≤ j
    · rw [if_pos h, if_pos (show p + 1 ≤ j by omega)]
    · rw [if_neg h, if_neg (show ¬p + 1 ≤ j by omega)]
  rw [show rStat S Fl Hm Kp p l p = Fl p by unfold rStat; rw [if_pos (le_refl p), if_pos hp],
    show rStat S Fl Hm Kp (p + 1) l p = iprop(Hm p ∗ Kp p) by unfold rStat; rw [if_neg (by omega), if_pos hl]] at H
  exact H

theorem ring_read (N p l i : ℕ) (hi : i < p) (hl : l ≤ i + S) (hN : i < N) :
    ring S Fl Hm Kp N p l ⊢ iprop(Kp i ∗ (Kp i -∗ ring S Fl Hm Kp N p l)) := by
  have H := take1 N (rStat S Fl Hm Kp p l) (rStat S Fl Hm Kp p l) i hN fun _ _ _ => rfl
  rw [show rStat S Fl Hm Kp p l i = iprop(Hm i ∗ Kp i) by unfold rStat; rw [if_neg (by omega), if_pos hl]] at H
  unfold ring
  iintro HR
  ihave H2 := H $$ HR
  icases H2 with ⟨⟨Hh, Hk⟩, Hw⟩
  isplitl [Hk]; · iexact Hk
  iintro Hk
  iapply Hw
  isplitl [Hh]; · iexact Hh
  iexact Hk

theorem ring_ask (N p l i : ℕ) (hi : i + S = l) (hip : i < p) (hpl : p ≤ l) (hN : l < N) (hS : 0 < S) :
    ring S Fl Hm Kp N p l ⊢ iprop(Hm l ∗ Kp i ∗ (Fl l -∗ ring S Fl Hm Kp N p (l + 1))) := by
  have H := take2 N (rStat S Fl Hm Kp p l) (rStat S Fl Hm Kp p (l + 1)) l i hN (by omega) (by omega) fun j _ hj hj' => by
    unfold rStat; by_cases h : p ≤ j
    · rw [if_pos h, if_pos h]; by_cases h' : j < l
      · rw [if_pos h', if_pos (by omega)]
      · rw [if_neg h', if_neg (by omega)]
    · rw [if_neg h, if_neg h]; by_cases h' : l ≤ j + S
      · rw [if_pos h', if_pos (by omega)]
      · rw [if_neg h', if_neg (by omega)]
  rw [show rStat S Fl Hm Kp p l l = Hm l by unfold rStat; rw [if_pos hpl, if_neg (by omega)],
    show rStat S Fl Hm Kp p (l + 1) l = Fl l by unfold rStat; rw [if_pos hpl, if_pos (by omega)],
    show rStat S Fl Hm Kp p l i = iprop(Hm i ∗ Kp i) by unfold rStat; rw [if_neg (by omega), if_pos (by omega)],
    show rStat S Fl Hm Kp p (l + 1) i = iprop(Hm i ∗ BI.emp) by unfold rStat; rw [if_neg (by omega), if_neg (by omega)]] at H
  unfold ring
  iintro HR
  ihave H2 := H $$ HR
  icases H2 with ⟨Hl, ⟨Hh, Hk⟩, Hw⟩
  isplitl [Hl]; · iexact Hl
  isplitl [Hk]; · iexact Hk
  iintro HF
  iapply Hw
  isplitl [HF]; · iexact HF
  isplitl [Hh]; · iexact Hh
  iempintro

/-- Asking for a block while slots are still unused. -/
theorem ring_ask0 (N p l : ℕ) (hpl : p ≤ l) (hl : l < S) (hN : l < N) :
    ring S Fl Hm Kp N p l ⊢ iprop(Hm l ∗ (Fl l -∗ ring S Fl Hm Kp N p (l + 1))) := by
  have H := take1 N (rStat S Fl Hm Kp p l) (rStat S Fl Hm Kp p (l + 1)) l hN fun j _ hj => by
    unfold rStat; by_cases h : p ≤ j
    · rw [if_pos h, if_pos h]; by_cases h' : j < l
      · rw [if_pos h', if_pos (by omega)]
      · rw [if_neg h', if_neg (by omega)]
    · rw [if_neg h, if_neg h, if_pos (show l ≤ j + S by omega), if_pos (show l + 1 ≤ j + S by omega)]
  rw [show rStat S Fl Hm Kp p l l = Hm l by unfold rStat; rw [if_pos hpl, if_neg (by omega)],
    show rStat S Fl Hm Kp p (l + 1) l = Fl l by unfold rStat; rw [if_pos hpl, if_pos (by omega)]] at H
  exact H

theorem ring_start (N : ℕ) : ring S Fl Hm Kp N 0 0 = bigSep (Finset.range N) Hm := by
  unfold ring; exact bigSep_congr fun i _ => by unfold rStat; rw [if_pos (Nat.zero_le i), if_neg (by omega)]

end Reads

/-! ## A ring that reads, works in place and writes back

The first `p` pieces have been worked on, the first `l` asked for, and the writes of the first `q` waited for. `Rd i`: read under way.
`Hm i`: the source piece. `An i`: the target piece, at anything. `Wr i`: write under way. `Dn i`: the target piece written.
`rc i`, `wc i`: the slot's two semaphores. `Sl i`: the slot. -/

section Writes
variable (S : ℕ) (Rd Hm An Wr Dn rc wc Sl : ℕ → sProp M)

def wStat (p l q i : ℕ) : sProp M :=
  if p ≤ i then iprop(An i ∗ if i < l then iprop(Rd i ∗ wc i) else Hm i)
  else iprop(Hm i ∗ if q ≤ i then iprop(Wr i ∗ rc i) else iprop(Dn i ∗ if l ≤ i + S then iprop(Sl i ∗ rc i ∗ wc i) else BI.emp))
def wring (N p l q : ℕ) : sProp M := bigSep (Finset.range N) (wStat S Rd Hm An Wr Dn rc wc Sl p l q)

theorem wring_work (N p l q : ℕ) (hp : p < l) (hq : q ≤ p) (hN : p < N) :
    wring S Rd Hm An Wr Dn rc wc Sl N p l q
      ⊢ iprop(An p ∗ Rd p ∗ wc p ∗ ((Hm p ∗ Wr p ∗ rc p) -∗ wring S Rd Hm An Wr Dn rc wc Sl N (p + 1) l q)) := by
  have H := take1 N (wStat S Rd Hm An Wr Dn rc wc Sl p l q) (wStat S Rd Hm An Wr Dn rc wc Sl (p + 1) l q) p hN fun j _ hj => by
    unfold wStat; by_cases h : p ≤ j
    · rw [if_pos h, if_pos (show p + 1 ≤ j by omega)]
    · rw [if_neg h, if_neg (show ¬p + 1 ≤ j by omega)]
  rw [show wStat S Rd Hm An Wr Dn rc wc Sl p l q p = iprop(An p ∗ Rd p ∗ wc p) by unfold wStat; rw [if_pos (le_refl p), if_pos hp],
    show wStat S Rd Hm An Wr Dn rc wc Sl (p + 1) l q p = iprop(Hm p ∗ Wr p ∗ rc p) by unfold wStat; rw [if_neg (by omega), if_pos hq]] at H
  unfold wring
  iintro HR
  ihave H2 := H $$ HR
  icases H2 with ⟨⟨Ha, Hr, Hc⟩, Hw⟩
  isplitl [Ha]; · iexact Ha
  isplitl [Hr]; · iexact Hr
  isplitl [Hc]; · iexact Hc
  iexact Hw

/-- Waiting for the oldest write; the slot is kept. -/
theorem wring_wait (N p l q : ℕ) (hq : q < p) (hl : l ≤ q + S) (hN : q < N) :
    wring S Rd Hm An Wr Dn rc wc Sl N p l q
      ⊢ iprop(Wr q ∗ ((Dn q ∗ Sl q ∗ wc q) -∗ wring S Rd Hm An Wr Dn rc wc Sl N p l (q + 1))) := by
  have H := take1 N (wStat S Rd Hm An Wr Dn rc wc Sl p l q) (wStat S Rd Hm An Wr Dn rc wc Sl p l (q + 1)) q hN fun j _ hj => by
    unfold wStat; by_cases h : p ≤ j
    · rw [if_pos h, if_pos h]
    · rw [if_neg h, if_neg h]; by_cases h' : q ≤ j
      · rw [if_pos h', if_pos (show q + 1 ≤ j by omega)]
      · rw [if_neg h', if_neg (show ¬q + 1 ≤ j by omega)]
  rw [show wStat S Rd Hm An Wr Dn rc wc Sl p l q q = iprop(Hm q ∗ Wr q ∗ rc q) by unfold wStat; rw [if_neg (by omega), if_pos (le_refl q)],
    show wStat S Rd Hm An Wr Dn rc wc Sl p l (q + 1) q = iprop(Hm q ∗ Dn q ∗ Sl q ∗ rc q ∗ wc q) by
      unfold wStat; rw [if_neg (by omega), if_neg (by omega), if_pos hl]] at H
  unfold wring
  iintro HR
  ihave H2 := H $$ HR
  icases H2 with ⟨⟨Hh, Hr, Hc⟩, Hw⟩
  isplitl [Hr]; · iexact Hr
  iintro ⟨Hd, Hs, Hwc⟩
  iapply Hw
  isplitl [Hh]; · iexact Hh
  isplitl [Hd]; · iexact Hd
  isplitl [Hs]; · iexact Hs
  isplitl [Hc]; · iexact Hc
  iexact Hwc

/-- Asking for a piece into the slot of the piece `S` before. -/
theorem wring_ask (N p l q i : ℕ) (hi : i + S = l) (hiq : i < q) (hqp : q ≤ p) (hpl : p ≤ l) (hN : l < N) (hS : 0 < S) :
    wring S Rd Hm An Wr Dn rc wc Sl N p l q
      ⊢ iprop(Hm l ∗ Sl i ∗ rc i ∗ wc i ∗ ((Rd l ∗ wc l) -∗ wring S Rd Hm An Wr Dn rc wc Sl N p (l + 1) q)) := by
  have H := take2 N (wStat S Rd Hm An Wr Dn rc wc Sl p l q) (wStat S Rd Hm An Wr Dn rc wc Sl p (l + 1) q) l i hN (by omega) (by omega) fun j _ hj hj' => by
    unfold wStat; by_cases h : p ≤ j
    · rw [if_pos h, if_pos h]; by_cases h' : j < l
      · rw [if_pos h', if_pos (by omega)]
      · rw [if_neg h', if_neg (by omega)]
    · rw [if_neg h, if_neg h]; by_cases h' : l ≤ j + S
      · rw [if_pos h', if_pos (show l + 1 ≤ j + S by omega)]
      · rw [if_neg h', if_neg (show ¬l + 1 ≤ j + S by omega)]
  rw [show wStat S Rd Hm An Wr Dn rc wc Sl p l q l = iprop(An l ∗ Hm l) by unfold wStat; rw [if_pos hpl, if_neg (by omega)],
    show wStat S Rd Hm An Wr Dn rc wc Sl p (l + 1) q l = iprop(An l ∗ Rd l ∗ wc l) by unfold wStat; rw [if_pos hpl, if_pos (by omega)],
    show wStat S Rd Hm An Wr Dn rc wc Sl p l q i = iprop(Hm i ∗ Dn i ∗ Sl i ∗ rc i ∗ wc i) by
      unfold wStat; rw [if_neg (by omega), if_neg (by omega), if_pos (by omega)],
    show wStat S Rd Hm An Wr Dn rc wc Sl p (l + 1) q i = iprop(Hm i ∗ Dn i ∗ BI.emp) by
      unfold wStat; rw [if_neg (by omega), if_neg (by omega), if_neg (by omega)]] at H
  unfold wring
  iintro HR
  ihave H2 := H $$ HR
  icases H2 with ⟨⟨Ha, Hl⟩, ⟨Hh, Hd, Hs, Hr, Hc⟩, Hw⟩
  isplitl [Hl]; · iexact Hl
  isplitl [Hs]; · iexact Hs
  isplitl [Hr]; · iexact Hr
  isplitl [Hc]; · iexact Hc
  iintro ⟨HF, Hc'⟩
  iapply Hw
  isplitl [Ha HF Hc']
  · isplitl [Ha]; · iexact Ha
    isplitl [HF]; · iexact HF
    iexact Hc'
  isplitl [Hh]; · iexact Hh
  isplitl [Hd]; · iexact Hd
  iempintro

/-- Asking for a piece while slots are still unused. -/
theorem wring_ask0 (N p l q : ℕ) (hpl : p ≤ l) (hl : l < S) (hN : l < N) :
    wring S Rd Hm An Wr Dn rc wc Sl N p l q
      ⊢ iprop(Hm l ∗ ((Rd l ∗ wc l) -∗ wring S Rd Hm An Wr Dn rc wc Sl N p (l + 1) q)) := by
  have H := take1 N (wStat S Rd Hm An Wr Dn rc wc Sl p l q) (wStat S Rd Hm An Wr Dn rc wc Sl p (l + 1) q) l hN fun j _ hj => by
    unfold wStat; by_cases h : p ≤ j
    · rw [if_pos h, if_pos h]; by_cases h' : j < l
      · rw [if_pos h', if_pos (by omega)]
      · rw [if_neg h', if_neg (by omega)]
    · rw [if_neg h, if_neg h, if_pos (show l ≤ j + S by omega), if_pos (show l + 1 ≤ j + S by omega)]
  rw [show wStat S Rd Hm An Wr Dn rc wc Sl p l q l = iprop(An l ∗ Hm l) by unfold wStat; rw [if_pos hpl, if_neg (by omega)],
    show wStat S Rd Hm An Wr Dn rc wc Sl p (l + 1) q l = iprop(An l ∗ Rd l ∗ wc l) by unfold wStat; rw [if_pos hpl, if_pos (by omega)]] at H
  unfold wring
  iintro HR
  ihave H2 := H $$ HR
  icases H2 with ⟨⟨Ha, Hl⟩, Hw⟩
  isplitl [Hl]; · iexact Hl
  iintro HF
  iapply Hw
  isplitl [Ha]; · iexact Ha
  iexact HF

theorem wring_start (N : ℕ) : wring S Rd Hm An Wr Dn rc wc Sl N 0 0 0 = bigSep (Finset.range N) (fun i => iprop(An i ∗ Hm i)) := by
  unfold wring; exact bigSep_congr fun i _ => by unfold wStat; rw [if_pos (Nat.zero_le i), if_neg (by omega)]

end Writes

/-! ## Results written once per batch

Of `N` results the writes of the first `e` have been started and those of the first `q` waited for. -/

section Outs
variable (An Fl Dn : ℕ → sProp M)

def oStat (e q i : ℕ) : sProp M := if e ≤ i then An i else if q ≤ i then Fl i else Dn i
def outs (N e q : ℕ) : sProp M := bigSep (Finset.range N) (oStat An Fl Dn e q)

theorem outs_send (N e q : ℕ) (hq : q ≤ e) (hN : e < N) :
    outs An Fl Dn N e q ⊢ iprop(An e ∗ (Fl e -∗ outs An Fl Dn N (e + 1) q)) := by
  have H := take1 N (oStat An Fl Dn e q) (oStat An Fl Dn (e + 1) q) e hN fun j _ hj => by
    unfold oStat; by_cases h : e ≤ j
    · rw [if_pos h, if_pos (show e + 1 ≤ j by omega)]
    · rw [if_neg h, if_neg (show ¬e + 1 ≤ j by omega)]
  rw [show oStat An Fl Dn e q e = An e by unfold oStat; rw [if_pos (le_refl e)],
    show oStat An Fl Dn (e + 1) q e = Fl e by unfold oStat; rw [if_neg (by omega), if_pos hq]] at H
  exact H

theorem outs_wait (N e q : ℕ) (hq : q < e) (hN : q < N) :
    outs An Fl Dn N e q ⊢ iprop(Fl q ∗ (Dn q -∗ outs An Fl Dn N e (q + 1))) := by
  have H := take1 N (oStat An Fl Dn e q) (oStat An Fl Dn e (q + 1)) q hN fun j _ hj => by
    unfold oStat; by_cases h : e ≤ j
    · rw [if_pos h, if_pos h]
    · rw [if_neg h, if_neg h]; by_cases h' : q ≤ j
      · rw [if_pos h', if_pos (show q + 1 ≤ j by omega)]
      · rw [if_neg h', if_neg (show ¬q + 1 ≤ j by omega)]
  rw [show oStat An Fl Dn e q q = Fl q by unfold oStat; rw [if_neg (by omega), if_pos (le_refl q)],
    show oStat An Fl Dn e (q + 1) q = Dn q by unfold oStat; rw [if_neg (by omega), if_neg (by omega)]] at H
  exact H

theorem outs_start (N : ℕ) : outs An Fl Dn N 0 0 = bigSep (Finset.range N) An := by
  unfold outs; exact bigSep_congr fun i _ => by unfold oStat; rw [if_pos (Nat.zero_le i)]
theorem outs_end (N : ℕ) : outs An Fl Dn N N N = bigSep (Finset.range N) Dn := by
  unfold outs; exact bigSep_congr fun i hi => by
    have := Finset.mem_range.mp hi
    unfold oStat; rw [if_neg (by omega), if_neg (by omega)]

end Outs

end Cert.Proof.Rings
-- ==== Proof.Pieces.lean ====
/- The pieces the kernel owns: at home, under way, in a slot; and the rings they form. -/
module

public import proofs.«01_k».proof.Proof.Names
public import proofs.«01_k».proof.Proof.NamesBatch
public import proofs.«01_k».proof.Proof.Rings
public import Idealize.ShloMosaic.Lib.Transfers
public import Idealize.ShloMosaic.Lib.Rounds

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- The arrays the kernel reads by its own transfers, and what is promised of the results. -/
structure Src (F : FTy → Type) [FloatOps F] (c : Dev nD) where
  w : Buf (Elt F) ((wH 0).view.loc (c : Thread nD τ))
  g : Buf (Elt F) ((gH 0).view.loc (c : Thread nD τ))
  p : Buf (Elt F) ((pH 0).view.loc (c : Thread nD τ))
  mc : Buf (Elt F) ((mcH 0).view.loc (c : Thread nD τ))
  ms : Buf (Elt F) ((msH 0).view.loc (c : Thread nD τ))
  vc : Buf (Elt F) ((vcH 0).view.loc (c : Thread nD τ))
  vs : Buf (Elt F) ((vsH 0).view.loc (c : Thread nD τ))
  /-- What is promised of the pieces of the results. -/
  okD : ℕ → Buf (Elt F) ((dH 0).view.loc (c : Thread nD τ)) → Prop
  okNm : ℕ → Buf (Elt F) ((nmH 0).view.loc (c : Thread nD τ)) → Prop
  okNms : ℕ → Buf (Elt F) ((nmsH 0).view.loc (c : Thread nD τ)) → Prop
  okNv : ℕ → Buf (Elt F) ((nvH 0).view.loc (c : Thread nD τ)) → Prop
  okNvs : ℕ → Buf (Elt F) ((nvsH 0).view.loc (c : Thread nD τ)) → Prop

section Pieces
variable (c : Dev nD)

/-- A semaphore at zero. -/
abbrev cellP (A : DmaSems sig S_) : sProp 𝕄 := semVal ((c : Thread nD τ), SemLoc.dma A.sem) 0

/-! ## What is read: its words, the piece at home, the read under way, the slot after it, the slot free -/

abbrev gW (X : Src F c) (i : ℕ) : S128x7168.Idx → Elt F .bf16 := ReadAs.same.apply ((gH i).view.read (Elt F) X.g)
def gHm (X : Src F c) (i : ℕ) : sProp 𝕄 := (gH i).view.loc (c : Thread nD τ) ↦[(gH i).view.set]{fullShare} X.g
def gFl (X : Src F c) (i : ℕ) : sProp 𝕄 :=
  iprop(∃ f, Transfers.Flight countersEmb (c : Thread nD τ) (SemLoc.dma (gC i).sem) () 57344
    iprop(((gS i).view.loc (c : Thread nD τ) ↦[(gS i).view.set]{fullShare} (gS i).view.writes (Elt F) f [⟨Rect.whole S128x7168, gW c X i⟩])
      ∗ ((gH i).view.loc (c : Thread nD τ) ↦[(gH i).view.set]{fullShare} X.g)))
def gKp (X : Src F c) (i : ℕ) : sProp 𝕄 :=
  iprop(((gS i).view.loc (c : Thread nD τ) ↦[(gS i).view.set]{fullShare} (gS i).view.writes (Elt F) (gS i).view.junk [⟨Rect.whole S128x7168, gW c X i⟩])
    ∗ cellP c (gC i))
def gFr (i : ℕ) : sProp 𝕄 := iprop((∃ f, (gS i).view.loc (c : Thread nD τ) ↦[(gS i).view.set]{fullShare} f) ∗ cellP c (gC i))
theorem gKp_of (X : Src F c) (i : ℕ) (f : Buf (Elt F) ((gS i).view.loc (c : Thread nD τ))) :
    iprop(((gS i).view.loc (c : Thread nD τ) ↦[(gS i).view.set]{fullShare} (gS i).view.writes (Elt F) f [⟨Rect.whole S128x7168, gW c X i⟩])
      ∗ cellP c (gC i)) ⊢ (gKp c X i : sProp 𝕄) := by
  unfold gKp; rw [Ring.pointsTo_whole_rebase]
theorem gKp_free (X : Src F c) (i : ℕ) : gKp c X i ⊢ gFr c i := by
  unfold gKp gFr; iintro ⟨H, HC⟩
  isplitl [H]; · iexists _; iexact H
  iexact HC
theorem gFr_eq {i j : ℕ} (e : i % 20 = j % 20) : (gFr c i : sProp 𝕄) = gFr c j := by
  unfold gFr; rw [gS_eq (i := i) (j := j) (by unfold gSo; rw [e]), gC_eq (i := i) (j := j) (by unfold gCo; rw [e])]

abbrev wW (X : Src F c) (i : ℕ) : S64x7168.Idx → Elt F .f32 := ReadAs.same.apply ((wH i).view.read (Elt F) X.w)
def wHm (X : Src F c) (i : ℕ) : sProp 𝕄 := (wH i).view.loc (c : Thread nD τ) ↦[(wH i).view.set]{fullShare} X.w
def wFl (X : Src F c) (i : ℕ) : sProp 𝕄 :=
  iprop(∃ f, Transfers.Flight countersEmb (c : Thread nD τ) (SemLoc.dma (rC i).sem) () 57344
    iprop(((wS i).view.loc (c : Thread nD τ) ↦[(wS i).view.set]{fullShare} (wS i).view.writes (Elt F) f [⟨Rect.whole S64x7168, wW c X i⟩])
      ∗ ((wH i).view.loc (c : Thread nD τ) ↦[(wH i).view.set]{fullShare} X.w)))

abbrev pW (X : Src F c) (i : ℕ) : S128x7168.Idx → Elt F .bf16 := ReadAs.same.apply ((pH i).view.read (Elt F) X.p)
def pHm (X : Src F c) (i : ℕ) : sProp 𝕄 := (pH i).view.loc (c : Thread nD τ) ↦[(pH i).view.set]{fullShare} X.p
def pFl (X : Src F c) (i : ℕ) : sProp 𝕄 :=
  iprop(∃ f, Transfers.Flight countersEmb (c : Thread nD τ) (SemLoc.dma (pC i).sem) () 57344
    iprop(((pS i).view.loc (c : Thread nD τ) ↦[(pS i).view.set]{fullShare} (pS i).view.writes (Elt F) f [⟨Rect.whole S128x7168, pW c X i⟩])
      ∗ ((pH i).view.loc (c : Thread nD τ) ↦[(pH i).view.set]{fullShare} X.p)))
def pKp (X : Src F c) (i : ℕ) : sProp 𝕄 :=
  iprop(((pS i).view.loc (c : Thread nD τ) ↦[(pS i).view.set]{fullShare} (pS i).view.writes (Elt F) (pS i).view.junk [⟨Rect.whole S128x7168, pW c X i⟩])
    ∗ cellP c (pC i))
def pFr (i : ℕ) : sProp 𝕄 := iprop((∃ f, (pS i).view.loc (c : Thread nD τ) ↦[(pS i).view.set]{fullShare} f) ∗ cellP c (pC i))
theorem pKp_of (X : Src F c) (i : ℕ) (f : Buf (Elt F) ((pS i).view.loc (c : Thread nD τ))) :
    iprop(((pS i).view.loc (c : Thread nD τ) ↦[(pS i).view.set]{fullShare} (pS i).view.writes (Elt F) f [⟨Rect.whole S128x7168, pW c X i⟩])
      ∗ cellP c (pC i)) ⊢ (pKp c X i : sProp 𝕄) := by
  unfold pKp; rw [Ring.pointsTo_whole_rebase]
theorem pKp_free (X : Src F c) (i : ℕ) : pKp c X i ⊢ pFr c i := by
  unfold pKp pFr; iintro ⟨H, HC⟩
  isplitl [H]; · iexists _; iexact H
  iexact HC
theorem pFr_eq {i j : ℕ} (e : i % 2 = j % 2) : (pFr c i : sProp 𝕄) = pFr c j := by
  unfold pFr; rw [pS_eq (i := i) (j := j) (by unfold pSo; rw [e]), pC_eq (i := i) (j := j) (by unfold pCo; rw [e])]

abbrev mcW (X : Src F c) (i : ℕ) : S128x2048.Idx → Elt F .i8 := ReadAs.same.apply ((mcH i).view.read (Elt F) X.mc)
def mcHm (X : Src F c) (i : ℕ) : sProp 𝕄 := (mcH i).view.loc (c : Thread nD τ) ↦[(mcH i).view.set]{fullShare} X.mc
def mcFl (X : Src F c) (i : ℕ) : sProp 𝕄 :=
  iprop(∃ f, Transfers.Flight countersEmb (c : Thread nD τ) (SemLoc.dma (mcC i).sem) () 8192
    iprop(((mcS i).view.loc (c : Thread nD τ) ↦[(mcS i).view.set]{fullShare} (mcS i).view.writes (Elt F) f [⟨Rect.whole S128x2048, mcW c X i⟩])
      ∗ ((mcH i).view.loc (c : Thread nD τ) ↦[(mcH i).view.set]{fullShare} X.mc)))
def mcKp (X : Src F c) (i : ℕ) : sProp 𝕄 :=
  iprop(((mcS i).view.loc (c : Thread nD τ) ↦[(mcS i).view.set]{fullShare} (mcS i).view.writes (Elt F) (mcS i).view.junk [⟨Rect.whole S128x2048, mcW c X i⟩])
    ∗ cellP c (mcC i))
def mcFr (i : ℕ) : sProp 𝕄 := iprop((∃ f, (mcS i).view.loc (c : Thread nD τ) ↦[(mcS i).view.set]{fullShare} f) ∗ cellP c (mcC i))
theorem mcKp_of (X : Src F c) (i : ℕ) (f : Buf (Elt F) ((mcS i).view.loc (c : Thread nD τ))) :
    iprop(((mcS i).view.loc (c : Thread nD τ) ↦[(mcS i).view.set]{fullShare} (mcS i).view.writes (Elt F) f [⟨Rect.whole S128x2048, mcW c X i⟩])
      ∗ cellP c (mcC i)) ⊢ (mcKp c X i : sProp 𝕄) := by
  unfold mcKp; rw [Ring.pointsTo_whole_rebase]
theorem mcKp_free (X : Src F c) (i : ℕ) : mcKp c X i ⊢ mcFr c i := by
  unfold mcKp mcFr; iintro ⟨H, HC⟩
  isplitl [H]; · iexists _; iexact H
  iexact HC
theorem mcFr_eq {i j : ℕ} (e : i % 2 = j % 2) : (mcFr c i : sProp 𝕄) = mcFr c j := by
  unfold mcFr; rw [mcS_eq (i := i) (j := j) (by unfold mcSo; rw [e]), mcC_eq (i := i) (j := j) (by unfold mcCo; rw [e])]

abbrev vcW (X : Src F c) (i : ℕ) : S128x2048.Idx → Elt F .i8 := ReadAs.same.apply ((vcH i).view.read (Elt F) X.vc)
def vcHm (X : Src F c) (i : ℕ) : sProp 𝕄 := (vcH i).view.loc (c : Thread nD τ) ↦[(vcH i).view.set]{fullShare} X.vc
def vcFl (X : Src F c) (i : ℕ) : sProp 𝕄 :=
  iprop(∃ f, Transfers.Flight countersEmb (c : Thread nD τ) (SemLoc.dma (vcC i).sem) () 8192
    iprop(((vcS i).view.loc (c : Thread nD τ) ↦[(vcS i).view.set]{fullShare} (vcS i).view.writes (Elt F) f [⟨Rect.whole S128x2048, vcW c X i⟩])
      ∗ ((vcH i).view.loc (c : Thread nD τ) ↦[(vcH i).view.set]{fullShare} X.vc)))
def vcKp (X : Src F c) (i : ℕ) : sProp 𝕄 :=
  iprop(((vcS i).view.loc (c : Thread nD τ) ↦[(vcS i).view.set]{fullShare} (vcS i).view.writes (Elt F) (vcS i).view.junk [⟨Rect.whole S128x2048, vcW c X i⟩])
    ∗ cellP c (vcC i))
def vcFr (i : ℕ) : sProp 𝕄 := iprop((∃ f, (vcS i).view.loc (c : Thread nD τ) ↦[(vcS i).view.set]{fullShare} f) ∗ cellP c (vcC i))
theorem vcKp_of (X : Src F c) (i : ℕ) (f : Buf (Elt F) ((vcS i).view.loc (c : Thread nD τ))) :
    iprop(((vcS i).view.loc (c : Thread nD τ) ↦[(vcS i).view.set]{fullShare} (vcS i).view.writes (Elt F) f [⟨Rect.whole S128x2048, vcW c X i⟩])
      ∗ cellP c (vcC i)) ⊢ (vcKp c X i : sProp 𝕄) := by
  unfold vcKp; rw [Ring.pointsTo_whole_rebase]
theorem vcKp_free (X : Src F c) (i : ℕ) : vcKp c X i ⊢ vcFr c i := by
  unfold vcKp vcFr; iintro ⟨H, HC⟩
  isplitl [H]; · iexists _; iexact H
  iexact HC
theorem vcFr_eq {i j : ℕ} (e : i % 2 = j % 2) : (vcFr c i : sProp 𝕄) = vcFr c j := by
  unfold vcFr; rw [vcS_eq (i := i) (j := j) (by unfold vcSo; rw [e]), vcC_eq (i := i) (j := j) (by unfold vcCo; rw [e])]

abbrev msW (X : Src F c) (i : ℕ) : S128x16.Idx → Elt F .f32 := ReadAs.same.apply ((msH i).view.read (Elt F) X.ms)
def msHm (X : Src F c) (i : ℕ) : sProp 𝕄 := (msH i).view.loc (c : Thread nD τ) ↦[(msH i).view.set]{fullShare} X.ms
def msFl (X : Src F c) (i : ℕ) : sProp 𝕄 :=
  iprop(∃ f, Transfers.Flight countersEmb (c : Thread nD τ) (SemLoc.dma (msC i).sem) () 2048
    iprop(((msS i).view.loc (c : Thread nD τ) ↦[(msS i).view.set]{fullShare} (msS i).view.writes (Elt F) f [⟨Rect.whole S128x16, msW c X i⟩])
      ∗ ((msH i).view.loc (c : Thread nD τ) ↦[(msH i).view.set]{fullShare} X.ms)))
def msKp (X : Src F c) (i : ℕ) : sProp 𝕄 :=
  iprop(((msS i).view.loc (c : Thread nD τ) ↦[(msS i).view.set]{fullShare} (msS i).view.writes (Elt F) (msS i).view.junk [⟨Rect.whole S128x16, msW c X i⟩])
    ∗ cellP c (msC i))
def msFr (i : ℕ) : sProp 𝕄 := iprop((∃ f, (msS i).view.loc (c : Thread nD τ) ↦[(msS i).view.set]{fullShare} f) ∗ cellP c (msC i))
theorem msKp_of (X : Src F c) (i : ℕ) (f : Buf (Elt F) ((msS i).view.loc (c : Thread nD τ))) :
    iprop(((msS i).view.loc (c : Thread nD τ) ↦[(msS i).view.set]{fullShare} (msS i).view.writes (Elt F) f [⟨Rect.whole S128x16, msW c X i⟩])
      ∗ cellP c (msC i)) ⊢ (msKp c X i : sProp 𝕄) := by
  unfold msKp; rw [Ring.pointsTo_whole_rebase]
theorem msKp_free (X : Src F c) (i : ℕ) : msKp c X i ⊢ msFr c i := by
  unfold msKp msFr; iintro ⟨H, HC⟩
  isplitl [H]; · iexists _; iexact H
  iexact HC
theorem msFr_eq {i j : ℕ} (e : i % 2 = j % 2) : (msFr c i : sProp 𝕄) = msFr c j := by
  unfold msFr; rw [msS_eq (i := i) (j := j) (by unfold msSo; rw [e]), msC_eq (i := i) (j := j) (by unfold msCo; rw [e])]

abbrev vsW (X : Src F c) (i : ℕ) : S128x16.Idx → Elt F .f32 := ReadAs.same.apply ((vsH i).view.read (Elt F) X.vs)
def vsHm (X : Src F c) (i : ℕ) : sProp 𝕄 := (vsH i).view.loc (c : Thread nD τ) ↦[(vsH i).view.set]{fullShare} X.vs
def vsFl (X : Src F c) (i : ℕ) : sProp 𝕄 :=
  iprop(∃ f, Transfers.Flight countersEmb (c : Thread nD τ) (SemLoc.dma (vsC i).sem) () 2048
    iprop(((vsS i).view.loc (c : Thread nD τ) ↦[(vsS i).view.set]{fullShare} (vsS i).view.writes (Elt F) f [⟨Rect.whole S128x16, vsW c X i⟩])
      ∗ ((vsH i).view.loc (c : Thread nD τ) ↦[(vsH i).view.set]{fullShare} X.vs)))
def vsKp (X : Src F c) (i : ℕ) : sProp 𝕄 :=
  iprop(((vsS i).view.loc (c : Thread nD τ) ↦[(vsS i).view.set]{fullShare} (vsS i).view.writes (Elt F) (vsS i).view.junk [⟨Rect.whole S128x16, vsW c X i⟩])
    ∗ cellP c (vsC i))
def vsFr (i : ℕ) : sProp 𝕄 := iprop((∃ f, (vsS i).view.loc (c : Thread nD τ) ↦[(vsS i).view.set]{fullShare} f) ∗ cellP c (vsC i))
theorem vsKp_of (X : Src F c) (i : ℕ) (f : Buf (Elt F) ((vsS i).view.loc (c : Thread nD τ))) :
    iprop(((vsS i).view.loc (c : Thread nD τ) ↦[(vsS i).view.set]{fullShare} (vsS i).view.writes (Elt F) f [⟨Rect.whole S128x16, vsW c X i⟩])
      ∗ cellP c (vsC i)) ⊢ (vsKp c X i : sProp 𝕄) := by
  unfold vsKp; rw [Ring.pointsTo_whole_rebase]
theorem vsKp_free (X : Src F c) (i : ℕ) : vsKp c X i ⊢ vsFr c i := by
  unfold vsKp vsFr; iintro ⟨H, HC⟩
  isplitl [H]; · iexists _; iexact H
  iexact HC
theorem vsFr_eq {i j : ℕ} (e : i % 2 = j % 2) : (vsFr c i : sProp 𝕄) = vsFr c j := by
  unfold vsFr; rw [vsS_eq (i := i) (j := j) (by unfold vsSo; rw [e]), vsC_eq (i := i) (j := j) (by unfold vsCo; rw [e])]

/-! ## The pieces of the first result -/

def dAn (i : ℕ) : sProp 𝕄 := iprop(∃ f, (dH i).view.loc (c : Thread nD τ) ↦[(dH i).view.set]{fullShare} f)
def dDn (X : Src F c) (i : ℕ) : sProp 𝕄 := iprop(∃ f, ⌜X.okD i f⌝ ∗ ((dH i).view.loc (c : Thread nD τ) ↦[(dH i).view.set]{fullShare} f))
def dWr (X : Src F c) (i : ℕ) : sProp 𝕄 :=
  iprop(∃ f f', ⌜X.okD i f⌝ ∗ Transfers.Flight countersEmb (c : Thread nD τ) (SemLoc.dma (wC i).sem) () 57344
    iprop(((dH i).view.loc (c : Thread nD τ) ↦[(dH i).view.set]{fullShare} f)
      ∗ ((wS i).view.loc (c : Thread nD τ) ↦[(wS i).view.set]{fullShare} f')))
def wSl (i : ℕ) : sProp 𝕄 := iprop(∃ f, (wS i).view.loc (c : Thread nD τ) ↦[(wS i).view.set]{fullShare} f)
def wrc (i : ℕ) : sProp 𝕄 := cellP c (rC i)
def wwc (i : ℕ) : sProp 𝕄 := cellP c (wC i)
def wFr (i : ℕ) : sProp 𝕄 := iprop(wSl c i ∗ wrc c i ∗ wwc c i)
theorem wSl_eq {i j : ℕ} (e : i % 10 = j % 10) : (wSl c i : sProp 𝕄) = wSl c j := by
  unfold wSl; rw [wS_eq (i := i) (j := j) (by unfold wSo; rw [e])]
theorem wrc_eq {i j : ℕ} (e : i % 10 = j % 10) : (wrc c i : sProp 𝕄) = wrc c j := by
  unfold wrc; rw [rC_eq (i := i) (j := j) (by unfold rCo; rw [e])]
theorem wwc_eq {i j : ℕ} (e : i % 10 = j % 10) : (wwc c i : sProp 𝕄) = wwc c j := by
  unfold wwc; rw [wC_eq (i := i) (j := j) (by unfold wCo; rw [e])]

/-! ## The results sent once per batch: the target, the write under way, the target written, the slot free -/

def nmAn (i : ℕ) : sProp 𝕄 := iprop(∃ f, (nmH i).view.loc (c : Thread nD τ) ↦[(nmH i).view.set]{fullShare} f)
def nmDn (X : Src F c) (i : ℕ) : sProp 𝕄 := iprop(∃ f, ⌜X.okNm i f⌝ ∗ ((nmH i).view.loc (c : Thread nD τ) ↦[(nmH i).view.set]{fullShare} f))
def nmFl (X : Src F c) (i : ℕ) : sProp 𝕄 :=
  iprop(∃ f f', ⌜X.okNm i f⌝ ∗ Transfers.Flight countersEmb (c : Thread nD τ) (SemLoc.dma (nmC i).sem) () 8192
    iprop(((nmH i).view.loc (c : Thread nD τ) ↦[(nmH i).view.set]{fullShare} f)
      ∗ ((nmS i).view.loc (c : Thread nD τ) ↦[(nmS i).view.set]{fullShare} f')))
theorem nmFl_eq (X : Src F c) {i j : ℕ} (e : i % 2 = j % 2) : nmFl c X i
    = iprop(∃ f f', ⌜X.okNm i f⌝ ∗ Transfers.Flight countersEmb (c : Thread nD τ) (SemLoc.dma (nmC j).sem) () 8192
        iprop(((nmH i).view.loc (c : Thread nD τ) ↦[(nmH i).view.set]{fullShare} f)
          ∗ ((nmS j).view.loc (c : Thread nD τ) ↦[(nmS j).view.set]{fullShare} f'))) := by
  unfold nmFl; rw [nmS_eq (i := i) (j := j) (by unfold nmSo; rw [e]), nmC_eq (i := i) (j := j) (by unfold nmCo; rw [e])]
def nmFr (i : ℕ) : sProp 𝕄 := iprop((∃ f, (nmS i).view.loc (c : Thread nD τ) ↦[(nmS i).view.set]{fullShare} f) ∗ cellP c (nmC i))
theorem nmFr_eq {i j : ℕ} (e : i % 2 = j % 2) : (nmFr c i : sProp 𝕄) = nmFr c j := by
  unfold nmFr; rw [nmS_eq (i := i) (j := j) (by unfold nmSo; rw [e]), nmC_eq (i := i) (j := j) (by unfold nmCo; rw [e])]
def nmOuts (X : Src F c) (e q : ℕ) : sProp 𝕄 := outs (nmAn c) (nmFl c X) (nmDn c X) 12 e q

def nmsAn (i : ℕ) : sProp 𝕄 := iprop(∃ f, (nmsH i).view.loc (c : Thread nD τ) ↦[(nmsH i).view.set]{fullShare} f)
def nmsDn (X : Src F c) (i : ℕ) : sProp 𝕄 := iprop(∃ f, ⌜X.okNms i f⌝ ∗ ((nmsH i).view.loc (c : Thread nD τ) ↦[(nmsH i).view.set]{fullShare} f))
def nmsFl (X : Src F c) (i : ℕ) : sProp 𝕄 :=
  iprop(∃ f f', ⌜X.okNms i f⌝ ∗ Transfers.Flight countersEmb (c : Thread nD τ) (SemLoc.dma (nmsC i).sem) () 2048
    iprop(((nmsH i).view.loc (c : Thread nD τ) ↦[(nmsH i).view.set]{fullShare} f)
      ∗ ((nmsS i).view.loc (c : Thread nD τ) ↦[(nmsS i).view.set]{fullShare} f')))
theorem nmsFl_eq (X : Src F c) {i j : ℕ} (e : i % 2 = j % 2) : nmsFl c X i
    = iprop(∃ f f', ⌜X.okNms i f⌝ ∗ Transfers.Flight countersEmb (c : Thread nD τ) (SemLoc.dma (nmsC j).sem) () 2048
        iprop(((nmsH i).view.loc (c : Thread nD τ) ↦[(nmsH i).view.set]{fullShare} f)
          ∗ ((nmsS j).view.loc (c : Thread nD τ) ↦[(nmsS j).view.set]{fullShare} f'))) := by
  unfold nmsFl; rw [nmsS_eq (i := i) (j := j) (by unfold nmsSo; rw [e]), nmsC_eq (i := i) (j := j) (by unfold nmsCo; rw [e])]
def nmsFr (i : ℕ) : sProp 𝕄 := iprop((∃ f, (nmsS i).view.loc (c : Thread nD τ) ↦[(nmsS i).view.set]{fullShare} f) ∗ cellP c (nmsC i))
theorem nmsFr_eq {i j : ℕ} (e : i % 2 = j % 2) : (nmsFr c i : sProp 𝕄) = nmsFr c j := by
  unfold nmsFr; rw [nmsS_eq (i := i) (j := j) (by unfold nmsSo; rw [e]), nmsC_eq (i := i) (j := j) (by unfold nmsCo; rw [e])]
def nmsOuts (X : Src F c) (e q : ℕ) : sProp 𝕄 := outs (nmsAn c) (nmsFl c X) (nmsDn c X) 12 e q

def nvAn (i : ℕ) : sProp 𝕄 := iprop(∃ f, (nvH i).view.loc (c : Thread nD τ) ↦[(nvH i).view.set]{fullShare} f)
def nvDn (X : Src F c) (i : ℕ) : sProp 𝕄 := iprop(∃ f, ⌜X.okNv i f⌝ ∗ ((nvH i).view.loc (c : Thread nD τ) ↦[(nvH i).view.set]{fullShare} f))
def nvFl (X : Src F c) (i : ℕ) : sProp 𝕄 :=
  iprop(∃ f f', ⌜X.okNv i f⌝ ∗ Transfers.Flight countersEmb (c : Thread nD τ) (SemLoc.dma (nvC i).sem) () 8192
    iprop(((nvH i).view.loc (c : Thread nD τ) ↦[(nvH i).view.set]{fullShare} f)
      ∗ ((nvS i).view.loc (c : Thread nD τ) ↦[(nvS i).view.set]{fullShare} f')))
theorem nvFl_eq (X : Src F c) {i j : ℕ} (e : i % 2 = j % 2) : nvFl c X i
    = iprop(∃ f f', ⌜X.okNv i f⌝ ∗ Transfers.Flight countersEmb (c : Thread nD τ) (SemLoc.dma (nvC j).sem) () 8192
        iprop(((nvH i).view.loc (c : Thread nD τ) ↦[(nvH i).view.set]{fullShare} f)
          ∗ ((nvS j).view.loc (c : Thread nD τ) ↦[(nvS j).view.set]{fullShare} f'))) := by
  unfold nvFl; rw [nvS_eq (i := i) (j := j) (by unfold nvSo; rw [e]), nvC_eq (i := i) (j := j) (by unfold nvCo; rw [e])]
def nvFr (i : ℕ) : sProp 𝕄 := iprop((∃ f, (nvS i).view.loc (c : Thread nD τ) ↦[(nvS i).view.set]{fullShare} f) ∗ cellP c (nvC i))
theorem nvFr_eq {i j : ℕ} (e : i % 2 = j % 2) : (nvFr c i : sProp 𝕄) = nvFr c j := by
  unfold nvFr; rw [nvS_eq (i := i) (j := j) (by unfold nvSo; rw [e]), nvC_eq (i := i) (j := j) (by unfold nvCo; rw [e])]
def nvOuts (X : Src F c) (e q : ℕ) : sProp 𝕄 := outs (nvAn c) (nvFl c X) (nvDn c X) 12 e q

def nvsAn (i : ℕ) : sProp 𝕄 := iprop(∃ f, (nvsH i).view.loc (c : Thread nD τ) ↦[(nvsH i).view.set]{fullShare} f)
def nvsDn (X : Src F c) (i : ℕ) : sProp 𝕄 := iprop(∃ f, ⌜X.okNvs i f⌝ ∗ ((nvsH i).view.loc (c : Thread nD τ) ↦[(nvsH i).view.set]{fullShare} f))
def nvsFl (X : Src F c) (i : ℕ) : sProp 𝕄 :=
  iprop(∃ f f', ⌜X.okNvs i f⌝ ∗ Transfers.Flight countersEmb (c : Thread nD τ) (SemLoc.dma (nvsC i).sem) () 2048
    iprop(((nvsH i).view.loc (c : Thread nD τ) ↦[(nvsH i).view.set]{fullShare} f)
      ∗ ((nvsS i).view.loc (c : Thread nD τ) ↦[(nvsS i).view.set]{fullShare} f')))
theorem nvsFl_eq (X : Src F c) {i j : ℕ} (e : i % 2 = j % 2) : nvsFl c X i
    = iprop(∃ f f', ⌜X.okNvs i f⌝ ∗ Transfers.Flight countersEmb (c : Thread nD τ) (SemLoc.dma (nvsC j).sem) () 2048
        iprop(((nvsH i).view.loc (c : Thread nD τ) ↦[(nvsH i).view.set]{fullShare} f)
          ∗ ((nvsS j).view.loc (c : Thread nD τ) ↦[(nvsS j).view.set]{fullShare} f'))) := by
  unfold nvsFl; rw [nvsS_eq (i := i) (j := j) (by unfold nvsSo; rw [e]), nvsC_eq (i := i) (j := j) (by unfold nvsCo; rw [e])]
def nvsFr (i : ℕ) : sProp 𝕄 := iprop((∃ f, (nvsS i).view.loc (c : Thread nD τ) ↦[(nvsS i).view.set]{fullShare} f) ∗ cellP c (nvsC i))
theorem nvsFr_eq {i j : ℕ} (e : i % 2 = j % 2) : (nvsFr c i : sProp 𝕄) = nvsFr c j := by
  unfold nvsFr; rw [nvsS_eq (i := i) (j := j) (by unfold nvsSo; rw [e]), nvsC_eq (i := i) (j := j) (by unfold nvsCo; rw [e])]
def nvsOuts (X : Src F c) (e q : ℕ) : sProp 𝕄 := outs (nvsAn c) (nvsFl c X) (nvsDn c X) 12 e q

/-! ## The rings -/

def gRing (X : Src F c) (p l : ℕ) : sProp 𝕄 := ring 20 (gFl c X) (gHm c X) (gKp c X) 192 p l
def wRing (X : Src F c) (p l q : ℕ) : sProp 𝕄 := wring 10 (wFl c X) (wHm c X) (dAn c) (dWr c X) (dDn c X) (wrc c) (wwc c) (wSl c) 384 p l q
def pRing (X : Src F c) (p l : ℕ) : sProp 𝕄 := ring 2 (pFl c X) (pHm c X) (pKp c X) 12 p l
def mcRing (X : Src F c) (p l : ℕ) : sProp 𝕄 := ring 2 (mcFl c X) (mcHm c X) (mcKp c X) 12 p l
def msRing (X : Src F c) (p l : ℕ) : sProp 𝕄 := ring 2 (msFl c X) (msHm c X) (msKp c X) 12 p l
def vcRing (X : Src F c) (p l : ℕ) : sProp 𝕄 := ring 2 (vcFl c X) (vcHm c X) (vcKp c X) 12 p l
def vsRing (X : Src F c) (p l : ℕ) : sProp 𝕄 := ring 2 (vsFl c X) (vsHm c X) (vsKp c X) 12 p l

def owesP : sProp 𝕄 := iprop(∃ W, owes (c : Thread nD τ) 0 W)

end Pieces

end Cert.Proof.Kernel

end
-- ==== Proof.Segments.lean ====
/- A trip of the main loop, in segments. -/
module

public import proofs.«01_k».proof.Proof.Pieces

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The second half of a batch's start. -/
def segBegin {α : Type} (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (v155 : BitVec 32) (k0_h1 : k0_cond1 k0_t3 = 1#1) (k0_h2 : k0_cond2 k0_t3 = 1#1) (v922 : BitVec 32) (K : Prog (TpuEff nD τ sig (Elt F) Λ₀ .tc) α) : Prog (TpuEff nD τ sig (Elt F) Λ₀ .tc) α := do
  let ⟨v979, v983⟩ : Σ' (v979 : FVec F S8x128 .f32), FVec F S8x128 .f32 ← k0_part3 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v155 k0_h2 v922
  Prog.lift (.store (Memref.whole cc0_scratch17) (Rect.unit (s := S2x8x128) ![0, 0, 0] S1x8x128.size inb_S2x8x128_S1x8x128_0_0_0) (k0_pay7 v983) Finset.univ (View.stores_vmem_bits_univ h_S1x8x128 rfl) (.inl rfl))
  let v991 : Vec F S1x8x128 .f32 ← Prog.lift (.load (Memref.whole cc0_scratch17) (Rect.unit (s := S2x8x128) ![1, 0, 0] S1x8x128.size inb_S2x8x128_S1x8x128_1_0_0).toLoadRect (View.loadsAt_vmem h_S1x8x128))
  Prog.lift (.store (Memref.whole cc0_scratch17) (Rect.unit (s := S2x8x128) ![1, 0, 0] S1x8x128.size inb_S2x8x128_S1x8x128_1_0_0) (k0_pay8 v979) Finset.univ (View.stores_vmem_bits_univ h_S1x8x128 rfl) (.inl rfl))
  K

/-- The start of a batch, if this trip is one: the batch's codes and scales waited for, the next batch's asked for. -/
def segStart {α : Type} (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (v155 : BitVec 32) (k0_h1 : k0_cond1 k0_t3 = 1#1) (K : Prog (TpuEff nD τ sig (Elt F) Λ₀ .tc) α) : Prog (TpuEff nD τ sig (Elt F) Λ₀ .tc) α := do
  if k0_h2 : k0_cond2 k0_t3 = 1#1 then do
    let v922 : BitVec 32 ← k0_part2 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v155 k0_h2
    segBegin arg0 harg0 arg1 harg1 arg11 harg11 k0_t3 v155 k0_h1 k0_h2 v922 K
  else do
    K

/-- The rest of the trip's first part: the block of `g` waited for and projected. -/
def segProj (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (v145 : BitVec 32) (k0_h1 : k0_cond1 k0_t3 = 1#1) :
    Prog (TpuEff nD τ sig (Elt F) Λ₀ .tc) (Σ' (v155 : BitVec 32) (v156 : BitVec 32) (v157 : BitVec 32) (v158 : BitVec 32), FVec F S16 .f32) := do
  let v155 : BitVec 32 := Scalar.divsi v145 16#32
  let v156 : BitVec 32 := Scalar.remsi v145 16#32
  let v157 : BitVec 32 := Scalar.remsi v155 2#32
  let v158 : BitVec 32 := Scalar.remsi v145 20#32
  let v167 : DmaSems sig S1 := cc0_scratch18.slice (Rect.unit (s := S20) (k0_off47 k0_t3) S1.size (k0_off47_inb k0_t3 k0_h1))
  let v168 : DmaSems sig S_ := v167.squeeze S_ squeezes_S1_S_
  let v169 : Memref sig .tc .vmem S1x128x7168 .bf16 := (Memref.whole cc0_scratch0).slice (Rect.unit (s := S20x128x7168) (k0_off48 k0_t3) S1x128x7168.size (k0_off48_inb k0_t3 k0_h1)) (fun _ => rfl)
  let v170 : Memref sig .tc .vmem S128x7168 .bf16 := v169.squeeze S128x7168 squeezes_S1x128x7168_S128x7168
  let v171 : Memref sig .tc .hbm S1x128x7168 .bf16 := (Memref.whole main_arg1).slice (Rect.unit (s := S12x2048x7168) (k0_off49 k0_t3) S1x128x7168.size (k0_off49_inb k0_t3 k0_h1)) (fun _ => rfl)
  let v172 : Memref sig .tc .hbm S128x7168 .bf16 := v171.squeeze S128x7168 squeezes_S1x128x7168_S128x7168
  Prog.lift (.waitDma2 v168.sem v172 v170 (((Memref.isWhole_whole main_arg1).wordExact_slice rfl _ (k0_off49_wordsbf16 k0_t3 k0_h1)).reshape _ _) (((Memref.isWhole_whole cc0_scratch0).wordExact_slice rfl _ (k0_off48_wordsbf16 k0_t3 k0_h1)).reshape _ _))
  let v174 : Vec F S1x128x7168 .bf16 ← Prog.lift (.load (Memref.whole cc0_scratch2) (Rect.unit (s := S2x128x7168) (k0_off50 k0_t3) S1x128x7168.size (k0_off50_inb k0_t3 k0_h1)).toLoadRect (View.loadsAt_vmem h_S1x128x7168))
  let v177 : Vec F S1x128x7168 .bf16 ← Prog.lift (.load (Memref.whole cc0_scratch0) (Rect.unit (s := S20x128x7168) (k0_off51 k0_t3) S1x128x7168.size (k0_off51_inb k0_t3 k0_h1)).toLoadRect (View.loadsAt_vmem h_S1x128x7168))
  let v180 : Vec F S128x128 .f32 ← Prog.lift (.load (Memref.whole cc0_scratch13) (Rect.unit (s := S128x128) ![0, 0] S128x128.size inb_S128x128_S128x128_0_0).toLoadRect (View.loadsAt_vmem h_S128x128))
  Prog.lift (.store (Memref.whole cc0_scratch13) (Rect.unit (s := S128x128) ![0, 0] S128x128.size inb_S128x128_S128x128_0_0) (k0_pay9 v174 v177) Finset.univ (View.stores_vmem_bits_univ h_S128x128 rfl) (.inl rfl))
  let v184 : Vec F S1x16x7168 .bf16 ← Prog.lift (.load (Memref.whole cc0_scratch0) (Rect.unit (s := S20x128x7168) (k0_off52 k0_t3) S1x16x7168.size (k0_off52_inb k0_t3 k0_h1)).toLoadRect (View.loadsAt_vmem h_S1x16x7168))
  pure ⟨v155, v156, v157, v158, k0_pay10 v184⟩

set_option maxRecDepth 65536 in
theorem part5_split (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (v145 : BitVec 32) (k0_h1 : k0_cond1 k0_t3 = 1#1) :
    k0_part5 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 v145 k0_h1
      = segStart arg0 harg0 arg1 harg1 arg11 harg11 k0_t3 (Scalar.divsi v145 16#32) k0_h1 (segProj arg0 harg0 arg1 harg1 arg11 harg11 k0_t3 v145 k0_h1) := rfl

/-- The end of a batch, if this trip is one: the new codes and scales sent, the new norm and the row factor stored. -/
def segEnd (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (v155 : BitVec 32) (k0_h1 : k0_cond1 k0_t3 = 1#1) (K : Prog (TpuEff nD τ sig (Elt F) Λ₀ .tc) Unit) : Prog (TpuEff nD τ sig (Elt F) Λ₀ .tc) Unit := do
  if k0_h5 : k0_cond5 k0_t3 = 1#1 then do
    let v952 : FVec F S8x128 .f32 ← k0_part4 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v155 k0_h5
    let v954 : Elt F .f32 ← smemLoad arg1 (Rect.unit (s := S12) (k0_off78 k0_t3) S1.size (k0_off78_inb k0_t3 k0_h1 k0_h5)) numel1_S1 rfl
    let v963 : Vec F S1x8x128 .f32 ← Prog.lift (.load (Memref.whole cc0_scratch16) (Rect.unit (s := S2x8x128) (k0_off79 k0_t3) S1x8x128.size (k0_off79_inb k0_t3 k0_h1 k0_h5)).toLoadRect (View.loadsAt_vmem h_S1x8x128))
    Prog.lift (.store (Memref.whole cc0_scratch16) (Rect.unit (s := S2x8x128) (k0_off79 k0_t3) S1x8x128.size (k0_off79_inb k0_t3 k0_h1 k0_h5)) (k0_pay103 v952 v954) Finset.univ (View.stores_vmem_bits_univ h_S1x8x128 rfl) (.inl rfl))
    let v970 : Elt F .f32 ← smemLoad arg11 (Rect.unit (s := S12) (k0_off78 k0_t3) S1.size (k0_off78_inb k0_t3 k0_h1 k0_h5)) numel1_S1 rfl
    Prog.lift (.store arg11 (Rect.unit (s := S12) (k0_off78 k0_t3) S1.size (k0_off78_inb k0_t3 k0_h1 k0_h5)) (fun _ => k0_pay104 v952 v954) Finset.univ (View.stores_smem_one rfl numel1_S1) (.inl rfl))
    K
  else do
    K

/-- One block of `g`: the new moments of its columns, its row factors. -/
def segBlock (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (v145 : BitVec 32) (K : Prog (TpuEff nD τ sig (Elt F) Λ₀ .tc) Unit) : Prog (TpuEff nD τ sig (Elt F) Λ₀ .tc) Unit := do
  if k0_h1 : k0_cond1 k0_t3 = 1#1 then do
    let ⟨v155, v156, v157, v158, v188⟩ : Σ' (v155 : BitVec 32) (v156 : BitVec 32) (v157 : BitVec 32) (v158 : BitVec 32), FVec F S16 .f32 ← k0_part5 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 v145 k0_h1
    let v230 : FVec F S16x1 .f32 ← k0_part6 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v158 v188
    let v270 : FVec F S16x128 .f32 ← k0_part7 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v158 v230
    let ⟨v288, v291, v293, v295, v296, v297, v298, v305⟩ : Σ' (v288 : BitVec 32) (v291 : IVec S32x16 1) (v293 : FVec F S1x128 .f32) (v295 : FVec F S1x128 .f32) (v296 : FVec F S8x128 .f32) (v297 : FVec F S8x128 .f32) (v298 : Vec F S32x128 .f32), FVec F S32x1 .f32 ← k0_part8 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v156 v157 v158 v270
    let ⟨v328, v333, v338, v356⟩ : Σ' (v328 : FVec F S32x128 .f32) (v333 : FVec F S32x128 .f32) (v338 : FVec F S32x128 .f32), FVec F S8x128 .f32 ← k0_part9 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v293 v295 v298 v305
    let ⟨v357, v367, v402⟩ : Σ' (v357 : FVec F S8x128 .f32) (v367 : FVec F S8x128 .f32), FVec F S32x128 .f32 ← k0_part10 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v296 v297 v328 v333 v338 v356
    let ⟨v436, v443⟩ : Σ' (v436 : Vec F S32x128 .f32), FVec F S32x1 .f32 ← k0_part11 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v402
    let ⟨v466, v471, v476, v485, v490, v491⟩ : Σ' (v466 : FVec F S32x128 .f32) (v471 : FVec F S32x128 .f32) (v476 : FVec F S32x128 .f32) (v485 : FVec F S32x128 .f32) (v490 : FVec F S8x128 .f32), FVec F S8x128 .f32 ← k0_part12 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v293 v295 v436 v443
    let ⟨v495, v505, v535⟩ : Σ' (v495 : FVec F S8x128 .f32) (v505 : FVec F S8x128 .f32), FVec F S32x16 .f32 ← k0_part13 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v357 v367 v466 v471 v485 v490 v491
    let ⟨v574, v579⟩ : Σ' (v574 : Vec F S32x128 .f32), FVec F S32x16 .f32 ← k0_part14 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v476 v535
    let ⟨v604, v609, v614, v623, v626⟩ : Σ' (v604 : FVec F S32x128 .f32) (v609 : FVec F S32x128 .f32) (v614 : FVec F S32x128 .f32) (v623 : FVec F S32x128 .f32), FVec F S8x128 .f32 ← k0_part15 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v293 v295 v574 v579
    let ⟨v633, v643, v673⟩ : Σ' (v633 : FVec F S8x128 .f32) (v643 : FVec F S8x128 .f32), FVec F S32x16 .f32 ← k0_part16 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v495 v505 v604 v609 v623 v626
    let ⟨v712, v715⟩ : Σ' (v712 : Vec F S32x128 .f32), FVec F S32x16 .f32 ← k0_part17 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v614 v673
    let ⟨v742, v747, v752, v761, v762⟩ : Σ' (v742 : FVec F S32x128 .f32) (v747 : FVec F S32x128 .f32) (v752 : FVec F S32x128 .f32) (v761 : FVec F S32x128 .f32), FVec F S8x128 .f32 ← k0_part18 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v293 v295 v712 v715
    let ⟨v771, v781, v808, v810⟩ : Σ' (v771 : FVec F S8x128 .f32) (v781 : FVec F S8x128 .f32) (v808 : FVec F S32x16 .f32), FVec F S32x16 .f32 ← k0_part19 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v633 v643 v742 v747 v761 v762
    let v852 : FVec F S1x128 .f32 ← k0_part20 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v752 v771 v808 v810
    let ⟨v880, v881, v900⟩ : Σ' (v880 : Vec F S8x128 .f32) (v881 : FVec F S128x128 .f32), FVec F S8x128 .f32 ← k0_part21 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v155 v158 v288 v781 v852
    let v916 : Vec F S8x128 .f32 ← Prog.lift (.load (Memref.whole cc0_scratch15) (Rect.unit (s := S8x128) ![0, 0] S8x128.size inb_S8x128_S8x128_0_0).toLoadRect (View.loadsAt_vmem h_S8x128))
    Prog.lift (.store (Memref.whole cc0_scratch15) (Rect.unit (s := S8x128) ![0, 0] S8x128.size inb_S8x128_S8x128_0_0) (k0_pay101 v880 v881 v900) Finset.univ (View.stores_vmem_bits_univ h_S8x128 rfl) (.inl rfl))
    segEnd arg0 harg0 arg1 harg1 arg11 harg11 k0_t3 v155 k0_h1 K
  else do
    K

/-- After the last block: the row factors sent. -/
def segChan (arg0 : Memref sig .tc .smem S12 .i32) (harg0 : arg0.IsWhole) (arg1 : Memref sig .tc .smem S12 .f32) (harg1 : arg1.IsWhole) (arg11 : Memref sig .tc .smem S12 .f32) (harg11 : arg11.IsWhole) (v145 : BitVec 32) (K : Prog (TpuEff nD τ sig (Elt F) Λ₀ .tc) Unit) : Prog (TpuEff nD τ sig (Elt F) Λ₀ .tc) Unit := do
  let v149 : BitVec 1 := Scalar.cmpi .eq v145 192#32
  let v150 : BitVec 32 := Scalar.extui v149
  let v151 : BitVec 1 := Scalar.cmpi .ne v150 0#32
  if k0_h6 : v151 = 1#1 then do
    Prog.lift (.enqueueDma (Memref.whole cc0_scratch11) (.here (Memref.whole main_v0_1)) (.dma cc0_scratch24.sem) (Memref.isWhole_whole cc0_scratch11).wordExact (Memref.isWhole_whole main_v0_1).wordExact ⟨Or.inl rfl, trivial⟩)
    K
  else do
    K

/-- The second piece's write of five pieces before waited for, and its slot's next piece asked for. -/
def segW2 (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (k0_h7 : k0_cond7 k0_t3 = 1#1) (K : Prog (TpuEff nD τ sig (Elt F) Λ₀ .tc) Unit) : Prog (TpuEff nD τ sig (Elt F) Λ₀ .tc) Unit := do
  if k0_h10 : k0_cond10 k0_t3 = 1#1 then do
    let v230 : DmaSems sig S1 := cc0_scratch20.slice (Rect.unit (s := S10) (k0_off96 k0_t3) S1.size (k0_off96_inb k0_t3 k0_h7 k0_h10))
    let v231 : DmaSems sig S_ := v230.squeeze S_ squeezes_S1_S_
    let v232 : Memref sig .tc .hbm S1x64x7168 .f32 := (Memref.whole main_v0_0).slice (Rect.unit (s := S12x2048x7168) (k0_off97 k0_t3) S1x64x7168.size (k0_off97_inb k0_t3 k0_h7 k0_h10)) (fun _ => rfl)
    let v233 : Memref sig .tc .hbm S64x7168 .f32 := v232.squeeze S64x7168 squeezes_S1x64x7168_S64x7168
    let v234 : Memref sig .tc .vmem S1x64x7168 .f32 := (Memref.whole cc0_scratch1).slice (Rect.unit (s := S10x64x7168) (k0_off98 k0_t3) S1x64x7168.size (k0_off98_inb k0_t3 k0_h7 k0_h10)) (fun _ => rfl)
    let v235 : Memref sig .tc .vmem S64x7168 .f32 := v234.squeeze S64x7168 squeezes_S1x64x7168_S64x7168
    Prog.lift (.waitDma2 v231.sem v235 v233 ((View.wordExact_bits rfl).reshape _ _) ((View.wordExact_bits rfl).reshape _ _))
    if k0_h11 : k0_cond11 k0_t3 = 1#1 then do
      let v248 : DmaSems sig S1 := cc0_scratch19.slice (Rect.unit (s := S10) (k0_off99 k0_t3) S1.size (k0_off99_inb k0_t3 k0_h7 k0_h10 k0_h11))
      let v249 : DmaSems sig S_ := v248.squeeze S_ squeezes_S1_S_
      let v250 : Memref sig .tc .vmem S1x64x7168 .f32 := (Memref.whole cc0_scratch1).slice (Rect.unit (s := S10x64x7168) (k0_off100 k0_t3) S1x64x7168.size (k0_off100_inb k0_t3 k0_h7 k0_h10 k0_h11)) (fun _ => rfl)
      let v251 : Memref sig .tc .vmem S64x7168 .f32 := v250.squeeze S64x7168 squeezes_S1x64x7168_S64x7168
      let v252 : Memref sig .tc .hbm S1x64x7168 .f32 := (Memref.whole main_arg0).slice (Rect.unit (s := S12x2048x7168) (k0_off101 k0_t3) S1x64x7168.size (k0_off101_inb k0_t3 k0_h7 k0_h10 k0_h11)) (fun _ => rfl)
      let v253 : Memref sig .tc .hbm S64x7168 .f32 := v252.squeeze S64x7168 squeezes_S1x64x7168_S64x7168
      Prog.lift (.enqueueDma v253 (.here v251) (.dma v249.sem) ((View.wordExact_bits rfl).reshape _ _) ((View.wordExact_bits rfl).reshape _ _) ⟨Or.inl rfl, trivial⟩)
      K
    else do
      K
  else do
    K

/-- The slot's next block of `g` asked for. -/
def segAsk (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (k0_h7 : k0_cond7 k0_t3 = 1#1) (K : Prog (TpuEff nD τ sig (Elt F) Λ₀ .tc) Unit) : Prog (TpuEff nD τ sig (Elt F) Λ₀ .tc) Unit := do
  if k0_h12 : k0_cond12 k0_t3 = 1#1 then do
    let v230 : DmaSems sig S1 := cc0_scratch18.slice (Rect.unit (s := S20) (k0_off102 k0_t3) S1.size (k0_off102_inb k0_t3 k0_h7 k0_h12))
    let v231 : DmaSems sig S_ := v230.squeeze S_ squeezes_S1_S_
    let v232 : Memref sig .tc .vmem S1x128x7168 .bf16 := (Memref.whole cc0_scratch0).slice (Rect.unit (s := S20x128x7168) (k0_off103 k0_t3) S1x128x7168.size (k0_off103_inb k0_t3 k0_h7 k0_h12)) (fun _ => rfl)
    let v233 : Memref sig .tc .vmem S128x7168 .bf16 := v232.squeeze S128x7168 squeezes_S1x128x7168_S128x7168
    let v234 : Memref sig .tc .hbm S1x128x7168 .bf16 := (Memref.whole main_arg1).slice (Rect.unit (s := S12x2048x7168) (k0_off104 k0_t3) S1x128x7168.size (k0_off104_inb k0_t3 k0_h7 k0_h12)) (fun _ => rfl)
    let v235 : Memref sig .tc .hbm S128x7168 .bf16 := v234.squeeze S128x7168 squeezes_S1x128x7168_S128x7168
    Prog.lift (.enqueueDma v235 (.here v233) (.dma v231.sem) (((Memref.isWhole_whole main_arg1).wordExact_slice rfl _ (k0_off104_wordsbf16 k0_t3 k0_h7 k0_h12)).reshape _ _) (((Memref.isWhole_whole cc0_scratch0).wordExact_slice rfl _ (k0_off103_wordsbf16 k0_t3 k0_h7 k0_h12)).reshape _ _) ⟨Or.inl rfl, trivial⟩)
    K
  else do
    K

/-- The two pieces of the result a batch behind. -/
def segDelta (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (v145 : BitVec 32) (K : Prog (TpuEff nD τ sig (Elt F) Λ₀ .tc) Unit) : Prog (TpuEff nD τ sig (Elt F) Λ₀ .tc) Unit := do
  if k0_h7 : k0_cond7 k0_t3 = 1#1 then do
    let ⟨v155, v156, v161, v163⟩ : Σ' (v155 : BitVec 32) (v156 : BitVec 32) (v161 : FVec F S1x128 .f32), BitVec 32 ← k0_part22 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 v145 k0_h7
    let ⟨v192, c5_i32_187⟩ : Σ' (v192 : BitVec 32), BitVec 32 ← k0_part23 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h7 v155 v156 v161 v163
    segW2 arg0 harg0 arg1 harg1 arg11 harg11 k0_t3 k0_h7 (segAsk arg0 harg0 arg1 harg1 arg11 harg11 k0_t3 k0_h7 K)
  else do
    K

abbrev w145 (k0_t3 : Fin k0_t3_loop.trips) : BitVec 32 := Scalar.addi 0#32 (Scalar.muli (Scf.iv 0#32 1#32 k0_t3.val) 1#32)

set_option maxRecDepth 65536 in
theorem trip3_split (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) :
    k0_t3_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 ()
      = segBlock arg0 harg0 arg1 harg1 arg11 harg11 k0_t3 (w145 k0_t3) (segChan arg0 harg0 arg1 harg1 arg11 harg11 (w145 k0_t3) (segDelta arg0 harg0 arg1 harg1 arg11 harg11 k0_t3 (w145 k0_t3) (pure ()))) := rfl

/-- A block's projection and moments. -/
def segMoments (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (v145 : BitVec 32) (k0_h1 : k0_cond1 k0_t3 = 1#1) (K : Prog (TpuEff nD τ sig (Elt F) Λ₀ .tc) Unit) : Prog (TpuEff nD τ sig (Elt F) Λ₀ .tc) Unit := do
    let ⟨v155, v156, v157, v158, v188⟩ : Σ' (v155 : BitVec 32) (v156 : BitVec 32) (v157 : BitVec 32) (v158 : BitVec 32), FVec F S16 .f32 ← segProj arg0 harg0 arg1 harg1 arg11 harg11 k0_t3 v145 k0_h1
    let v230 : FVec F S16x1 .f32 ← k0_part6 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v158 v188
    let v270 : FVec F S16x128 .f32 ← k0_part7 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v158 v230
    let ⟨v288, v291, v293, v295, v296, v297, v298, v305⟩ : Σ' (v288 : BitVec 32) (v291 : IVec S32x16 1) (v293 : FVec F S1x128 .f32) (v295 : FVec F S1x128 .f32) (v296 : FVec F S8x128 .f32) (v297 : FVec F S8x128 .f32) (v298 : Vec F S32x128 .f32), FVec F S32x1 .f32 ← k0_part8 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v156 v157 v158 v270
    let ⟨v328, v333, v338, v356⟩ : Σ' (v328 : FVec F S32x128 .f32) (v333 : FVec F S32x128 .f32) (v338 : FVec F S32x128 .f32), FVec F S8x128 .f32 ← k0_part9 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v293 v295 v298 v305
    let ⟨v357, v367, v402⟩ : Σ' (v357 : FVec F S8x128 .f32) (v367 : FVec F S8x128 .f32), FVec F S32x128 .f32 ← k0_part10 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v296 v297 v328 v333 v338 v356
    let ⟨v436, v443⟩ : Σ' (v436 : Vec F S32x128 .f32), FVec F S32x1 .f32 ← k0_part11 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v402
    let ⟨v466, v471, v476, v485, v490, v491⟩ : Σ' (v466 : FVec F S32x128 .f32) (v471 : FVec F S32x128 .f32) (v476 : FVec F S32x128 .f32) (v485 : FVec F S32x128 .f32) (v490 : FVec F S8x128 .f32), FVec F S8x128 .f32 ← k0_part12 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v293 v295 v436 v443
    let ⟨v495, v505, v535⟩ : Σ' (v495 : FVec F S8x128 .f32) (v505 : FVec F S8x128 .f32), FVec F S32x16 .f32 ← k0_part13 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v357 v367 v466 v471 v485 v490 v491
    let ⟨v574, v579⟩ : Σ' (v574 : Vec F S32x128 .f32), FVec F S32x16 .f32 ← k0_part14 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v476 v535
    let ⟨v604, v609, v614, v623, v626⟩ : Σ' (v604 : FVec F S32x128 .f32) (v609 : FVec F S32x128 .f32) (v614 : FVec F S32x128 .f32) (v623 : FVec F S32x128 .f32), FVec F S8x128 .f32 ← k0_part15 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v293 v295 v574 v579
    let ⟨v633, v643, v673⟩ : Σ' (v633 : FVec F S8x128 .f32) (v643 : FVec F S8x128 .f32), FVec F S32x16 .f32 ← k0_part16 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v495 v505 v604 v609 v623 v626
    let ⟨v712, v715⟩ : Σ' (v712 : Vec F S32x128 .f32), FVec F S32x16 .f32 ← k0_part17 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v614 v673
    let ⟨v742, v747, v752, v761, v762⟩ : Σ' (v742 : FVec F S32x128 .f32) (v747 : FVec F S32x128 .f32) (v752 : FVec F S32x128 .f32) (v761 : FVec F S32x128 .f32), FVec F S8x128 .f32 ← k0_part18 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v293 v295 v712 v715
    let ⟨v771, v781, v808, v810⟩ : Σ' (v771 : FVec F S8x128 .f32) (v781 : FVec F S8x128 .f32) (v808 : FVec F S32x16 .f32), FVec F S32x16 .f32 ← k0_part19 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v633 v643 v742 v747 v761 v762
    let v852 : FVec F S1x128 .f32 ← k0_part20 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v157 v288 v291 v752 v771 v808 v810
    let ⟨v880, v881, v900⟩ : Σ' (v880 : Vec F S8x128 .f32) (v881 : FVec F S128x128 .f32), FVec F S8x128 .f32 ← k0_part21 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k0_t3 k0_h1 v155 v158 v288 v781 v852
    let v916 : Vec F S8x128 .f32 ← Prog.lift (.load (Memref.whole cc0_scratch15) (Rect.unit (s := S8x128) ![0, 0] S8x128.size inb_S8x128_S8x128_0_0).toLoadRect (View.loadsAt_vmem h_S8x128))
    Prog.lift (.store (Memref.whole cc0_scratch15) (Rect.unit (s := S8x128) ![0, 0] S8x128.size inb_S8x128_S8x128_0_0) (k0_pay101 v880 v881 v900) Finset.univ (View.stores_vmem_bits_univ h_S8x128 rfl) (.inl rfl))
    K

set_option maxRecDepth 65536 in
theorem segBlock_split (arg0 : Memref sig .tc .smem S12 .i32) (harg0 : arg0.IsWhole) (arg1 : Memref sig .tc .smem S12 .f32) (harg1 : arg1.IsWhole) (arg11 : Memref sig .tc .smem S12 .f32) (harg11 : arg11.IsWhole) (k0_t3 : Fin k0_t3_loop.trips) (v145 : BitVec 32) (k0_h1 : k0_cond1 k0_t3 = 1#1) (K : Prog (TpuEff nD τ sig (Elt F) Λ₀ .tc) Unit) :
    segBlock (F := F) arg0 harg0 arg1 harg1 arg11 harg11 k0_t3 v145 K
      = segStart arg0 harg0 arg1 harg1 arg11 harg11 k0_t3 (Scalar.divsi v145 16#32) k0_h1 (segMoments arg0 harg0 arg1 harg1 arg11 harg11 k0_t3 v145 k0_h1
          (segEnd arg0 harg0 arg1 harg1 arg11 harg11 k0_t3 (Scalar.divsi v145 16#32) k0_h1 K)) := by
  unfold segBlock
  rw [dif_pos k0_h1, part5_split]
  unfold segStart
  by_cases h2 : k0_cond2 k0_t3 = 1#1
  · rw [dif_pos h2, dif_pos h2]
    unfold segBegin
    simp only [bind_assoc]
    rfl
  · rw [dif_neg h2, dif_neg h2]
    rfl

end Cert.Proof.Kernel

end
-- ==== Proof.Parts.lean ====
/- The body of the kernel in pieces. -/
module

public import proofs.«01_k».proof.Proof.Segments

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The body up to the main loop: the first reads of every array asked for, the row factors cleared. -/
def segHead {α : Type} (arg0 : Memref sig .tc .smem S12 .i32) (harg0 : arg0.IsWhole) (arg1 : Memref sig .tc .smem S12 .f32) (harg1 : arg1.IsWhole) (arg11 : Memref sig .tc .smem S12 .f32) (harg11 : arg11.IsWhole) (K : Prog (TpuEff nD τ sig (Elt F) Λ₀ .tc) α) : Prog (TpuEff nD τ sig (Elt F) Λ₀ .tc) α := do
  let v26 : DmaSems sig S1 := cc0_scratch21.slice (Rect.unit (s := S2) k0_off7 S1.size k0_off7_inb)
  let v27 : DmaSems sig S_ := v26.squeeze S_ squeezes_S1_S_
  let v28 : Memref sig .tc .vmem S1x128x7168 .bf16 := (Memref.whole cc0_scratch2).slice (Rect.unit (s := S2x128x7168) k0_off8 S1x128x7168.size k0_off8_inb) (fun _ => rfl)
  let v29 : Memref sig .tc .vmem S128x7168 .bf16 := v28.squeeze S128x7168 squeezes_S1x128x7168_S128x7168
  let v30 : Memref sig .tc .hbm S1x128x7168 .bf16 := (Memref.whole main_arg2).slice (Rect.unit (s := S12x128x7168) ![0, 0, 0] S1x128x7168.size inb_S12x128x7168_S1x128x7168_0_0_0) (fun _ => rfl)
  let v31 : Memref sig .tc .hbm S128x7168 .bf16 := v30.squeeze S128x7168 squeezes_S1x128x7168_S128x7168
  Prog.lift (.enqueueDma v31 (.here v29) (.dma v27.sem) (((Memref.isWhole_whole main_arg2).wordExact_slice rfl _ wordsbf16_S12x128x7168_S1x128x7168_0_0_0).reshape _ _) (((Memref.isWhole_whole cc0_scratch2).wordExact_slice rfl _ k0_off8_wordsbf16).reshape _ _) ⟨Or.inl rfl, trivial⟩)
  Scf.Loop.for k0_t1_loop k0_t1_ok ⟨⟩ (k0_t1_body arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24)
  Scf.Loop.for k0_t2_loop k0_t2_ok ⟨⟩ (k0_t2_body arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24)
  let v35 : Vec F S12x2048 .f32 ← Prog.lift (.load (Memref.whole cc0_scratch11) (Rect.unit (s := S12x2048) ![0, 0] S12x2048.size inb_S12x2048_S12x2048_0_0).toLoadRect (View.loadsAt_vmem h_S12x2048))
  Prog.lift (.store (Memref.whole cc0_scratch11) (Rect.unit (s := S12x2048) ![0, 0] S12x2048.size inb_S12x2048_S12x2048_0_0) (k0_pay100 (F := F)) Finset.univ (View.stores_vmem_bits_univ h_S12x2048 rfl) (.inl rfl))
  K

/-- The wait after the main loop. -/
def segTail : Prog (TpuEff nD τ sig (Elt F) Λ₀ .tc) (Σ' (c380_i32 : BitVec 32), BitVec 32) := do
  let v44 : DmaSems sig S1 := cc0_scratch20.slice (Rect.unit (s := S10) (k0_off105 379#32) S1.size (k0_off105_inb 0))
  let v45 : DmaSems sig S_ := v44.squeeze S_ squeezes_S1_S_
  let v46 : Memref sig .tc .hbm S1x64x7168 .f32 := (Memref.whole main_v0_0).slice (Rect.unit (s := S12x2048x7168) (k0_off106 379#32 379#32) S1x64x7168.size (k0_off106_inb 0)) (fun _ => rfl)
  let v47 : Memref sig .tc .hbm S64x7168 .f32 := v46.squeeze S64x7168 squeezes_S1x64x7168_S64x7168
  let v48 : Memref sig .tc .vmem S1x64x7168 .f32 := (Memref.whole cc0_scratch1).slice (Rect.unit (s := S10x64x7168) (k0_off107 379#32) S1x64x7168.size (k0_off107_inb 0)) (fun _ => rfl)
  let v49 : Memref sig .tc .vmem S64x7168 .f32 := v48.squeeze S64x7168 squeezes_S1x64x7168_S64x7168
  Prog.lift (.waitDma2 v45.sem v49 v47 ((View.wordExact_bits rfl).reshape _ _) ((View.wordExact_bits rfl).reshape _ _))
  pure ⟨380#32, 10#32⟩

/-- The last waits. -/
def segRest (arg0 : Memref sig .tc .smem S12 .i32) (harg0 : arg0.IsWhole) (arg1 : Memref sig .tc .smem S12 .f32) (harg1 : arg1.IsWhole) (arg11 : Memref sig .tc .smem S12 .f32) (harg11 : arg11.IsWhole) : Prog (TpuEff nD τ sig (Elt F) Λ₀ .tc) Unit := do
  let v136 : Memref sig .tc .vmem S1x128x2048 .i8 := (Memref.whole cc0_scratch8).slice (Rect.unit (s := S2x128x2048) (k0_off2 11#32) S1x128x2048.size (k0_off2_inb 2)) (fun _ => rfl)
  let v137 : Memref sig .tc .vmem S128x2048 .i8 := v136.squeeze S128x2048 squeezes_S1x128x2048_S128x2048
  let v132 : DmaSems sig S1x1 := cc0_scratch23.slice (Rect.unit (s := S4x2) (k0_off5 11#32) S1x1.size (k0_off5_inb 2))
  let v133 : DmaSems sig S_ := v132.squeeze S_ squeezes_S1x1_S_
  let v134 : Memref sig .tc .hbm S1x128x2048 .i8 := (Memref.whole main_v0_5).slice (Rect.unit (s := S12x128x2048) ![11, 0, 0] S1x128x2048.size inb_S12x128x2048_S1x128x2048_11_0_0) (fun _ => rfl)
  let v135 : Memref sig .tc .hbm S128x2048 .i8 := v134.squeeze S128x2048 squeezes_S1x128x2048_S128x2048
  Prog.lift (.waitDma2 v133.sem v137 v135 (((Memref.isWhole_whole cc0_scratch8).wordExact_slice rfl _ (k0_off2_wordsi8 2)).reshape _ _) (((Memref.isWhole_whole main_v0_5).wordExact_slice rfl _ wordsi8_S12x128x2048_S1x128x2048_11_0_0).reshape _ _))
  let c11_i32_127 : BitVec 32 := 11#32
  let c3_i32_128 : BitVec 32 := 3#32
  let v138 : DmaSems sig S1x1 := cc0_scratch23.slice (Rect.unit (s := S4x2) (k0_off6 11#32) S1x1.size (k0_off6_inb 2))
  let v139 : DmaSems sig S_ := v138.squeeze S_ squeezes_S1x1_S_
  let c0_i32_129 : BitVec 32 := 0#32
  let c0_i32_130 : BitVec 32 := 0#32
  let v140 : Memref sig .tc .hbm S1x128x16 .f32 := (Memref.whole main_v0_6).slice (Rect.unit (s := S12x128x16) ![11, 0, 0] S1x128x16.size inb_S12x128x16_S1x128x16_11_0_0) (fun _ => rfl)
  let v141 : Memref sig .tc .hbm S128x16 .f32 := v140.squeeze S128x16 squeezes_S1x128x16_S128x16
  let c0_i32_131 : BitVec 32 := 0#32
  let c0_i32_132 : BitVec 32 := 0#32
  let v142 : Memref sig .tc .vmem S1x128x16 .f32 := (Memref.whole cc0_scratch10).slice (Rect.unit (s := S2x128x16) (k0_off4 11#32) S1x128x16.size (k0_off4_inb 2)) (fun _ => rfl)
  let v143 : Memref sig .tc .vmem S128x16 .f32 := v142.squeeze S128x16 squeezes_S1x128x16_S128x16
  Prog.lift (.waitDma2 v139.sem v143 v141 ((View.wordExact_bits rfl).reshape _ _) ((View.wordExact_bits rfl).reshape _ _))
  Prog.lift (.waitDma2 cc0_scratch24.sem (Memref.whole cc0_scratch11) (Memref.whole main_v0_1) (Memref.isWhole_whole cc0_scratch11).wordExact (Memref.isWhole_whole main_v0_1).wordExact)
  pure ⟨⟩

/-- The main loop and the wait after it. -/
def segMain (arg0 : Memref sig .tc .smem S12 .i32) (harg0 : arg0.IsWhole) (arg1 : Memref sig .tc .smem S12 .f32) (harg1 : arg1.IsWhole) (arg11 : Memref sig .tc .smem S12 .f32) (harg11 : arg11.IsWhole) : Prog (TpuEff nD τ sig (Elt F) Λ₀ .tc) (Σ' (c380_i32 : BitVec 32), BitVec 32) := do
  Scf.Loop.for k0_t3_loop k0_t3_ok ⟨⟩ (k0_t3_body arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24)
  segTail

set_option maxRecDepth 65536 in
theorem part25_split (arg0 : Memref sig .tc .smem S12 .i32) (harg0 : arg0.IsWhole) (arg1 : Memref sig .tc .smem S12 .f32) (harg1 : arg1.IsWhole) (arg11 : Memref sig .tc .smem S12 .f32) (harg11 : arg11.IsWhole) :
    k0_part25 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 = segHead arg0 harg0 arg1 harg1 arg11 harg11 (segMain arg0 harg0 arg1 harg1 arg11 harg11) := rfl

set_option maxRecDepth 65536 in
theorem body_split (arg0 : Memref sig .tc .smem S12 .i32) (harg0 : arg0.IsWhole) (arg1 : Memref sig .tc .smem S12 .f32) (harg1 : arg1.IsWhole) (arg11 : Memref sig .tc .smem S12 .f32) (harg11 : arg11.IsWhole) :
    cc0_apollo_step (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 = (do
      k0_part24 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24
      let _ ← k0_part25 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24
      k0_part26 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 380#32 10#32
      k0_part27 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24
      k0_part28 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24
      segRest arg0 harg0 arg1 harg1 arg11 harg11) := rfl

end Cert.Proof.Kernel

end
-- ==== Proof.State.lean ====
/- What the kernel holds of its own buffers between two pieces of the loop. -/
module

public import proofs.«01_k».proof.Proof.Pieces

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- What the kernel's own buffers hold between two pieces of the loop: the row factors, their columns, the projection and the rows'
norms of the block, the batch's running sum, the coefficients, the corrections, the new norms, and the batch's new codes and scales. -/
structure St (F : FTy → Type) [FloatOps F] (c : Dev nD) (arg11 : Memref sig .tc .smem S12 .f32) where
  ch : Buf (Elt F) ((Memref.whole cc0_scratch11 : Memref sig .tc .vmem S12x2048 .f32).view.loc (c : Thread nD τ))
  sc : Buf (Elt F) ((Memref.whole cc0_scratch12 : Memref sig .tc .vmem S20x128x128 .f32).view.loc (c : Thread nD τ))
  r : Buf (Elt F) ((Memref.whole cc0_scratch13 : Memref sig .tc .vmem S128x128 .f32).view.loc (c : Thread nD τ))
  rn : Buf (Elt F) ((Memref.whole cc0_scratch14 : Memref sig .tc .vmem S128x128 .f32).view.loc (c : Thread nD τ))
  na : Buf (Elt F) ((Memref.whole cc0_scratch15 : Memref sig .tc .vmem S8x128 .f32).view.loc (c : Thread nD τ))
  cf : Buf (Elt F) ((Memref.whole cc0_scratch16 : Memref sig .tc .vmem S2x8x128 .f32).view.loc (c : Thread nD τ))
  co : Buf (Elt F) ((Memref.whole cc0_scratch17 : Memref sig .tc .vmem S2x8x128 .f32).view.loc (c : Thread nD τ))
  no : Buf (Elt F) (arg11.view.loc (c : Thread nD τ))
  nm : Buf (Elt F) ((nmS 0).view.loc (c : Thread nD τ))
  nms : Buf (Elt F) ((nmsS 0).view.loc (c : Thread nD τ))
  nv : Buf (Elt F) ((nvS 0).view.loc (c : Thread nD τ))
  nvs : Buf (Elt F) ((nvsS 0).view.loc (c : Thread nD τ))

section
variable (c : Dev nD) (arg11 : Memref sig .tc .smem S12 .f32)

/-- The row factors' buffer. -/
def chOwn (s : St F c arg11) : sProp 𝕄 := (Memref.whole cc0_scratch11 : Memref sig .tc .vmem S12x2048 .f32).view.loc (c : Thread nD τ) ↦[(Memref.whole cc0_scratch11 : Memref sig .tc .vmem S12x2048 .f32).view.set]{fullShare} s.ch

/-- The buffers that stay. -/
def own (s : St F c arg11) : sProp 𝕄 := iprop(
  ((Memref.whole cc0_scratch12 : Memref sig .tc .vmem S20x128x128 .f32).view.loc (c : Thread nD τ) ↦[(Memref.whole cc0_scratch12 : Memref sig .tc .vmem S20x128x128 .f32).view.set]{fullShare} s.sc)
  ∗ ((Memref.whole cc0_scratch13 : Memref sig .tc .vmem S128x128 .f32).view.loc (c : Thread nD τ) ↦[(Memref.whole cc0_scratch13 : Memref sig .tc .vmem S128x128 .f32).view.set]{fullShare} s.r)
  ∗ ((Memref.whole cc0_scratch14 : Memref sig .tc .vmem S128x128 .f32).view.loc (c : Thread nD τ) ↦[(Memref.whole cc0_scratch14 : Memref sig .tc .vmem S128x128 .f32).view.set]{fullShare} s.rn)
  ∗ ((Memref.whole cc0_scratch15 : Memref sig .tc .vmem S8x128 .f32).view.loc (c : Thread nD τ) ↦[(Memref.whole cc0_scratch15 : Memref sig .tc .vmem S8x128 .f32).view.set]{fullShare} s.na)
  ∗ ((Memref.whole cc0_scratch16 : Memref sig .tc .vmem S2x8x128 .f32).view.loc (c : Thread nD τ) ↦[(Memref.whole cc0_scratch16 : Memref sig .tc .vmem S2x8x128 .f32).view.set]{fullShare} s.cf)
  ∗ ((Memref.whole cc0_scratch17 : Memref sig .tc .vmem S2x8x128 .f32).view.loc (c : Thread nD τ) ↦[(Memref.whole cc0_scratch17 : Memref sig .tc .vmem S2x8x128 .f32).view.set]{fullShare} s.co)
  ∗ (arg11.view.loc (c : Thread nD τ) ↦[arg11.view.set]{fullShare} s.no))

/-- The slots of batch `i`'s new codes and scales. -/
def slots (i : ℕ) (s : St F c arg11) : sProp 𝕄 := iprop(
  (((nmS i).view.loc (c : Thread nD τ) ↦[(nmS i).view.set]{fullShare} s.nm))
  ∗ (((nmsS i).view.loc (c : Thread nD τ) ↦[(nmsS i).view.set]{fullShare} s.nms))
  ∗ (((nvS i).view.loc (c : Thread nD τ) ↦[(nvS i).view.set]{fullShare} s.nv))
  ∗ (((nvsS i).view.loc (c : Thread nD τ) ↦[(nvsS i).view.set]{fullShare} s.nvs)))

/-- Their semaphores. -/
def slotCells (i : ℕ) : sProp 𝕄 := iprop(cellP c (nmC i) ∗ cellP c (nmsC i) ∗ cellP c (nvC i) ∗ cellP c (nvsC i))

end

end Cert.Proof.Kernel

end
-- ==== Proof.Start.lean ====
/- The start of a batch. -/
module

public import proofs.«01_k».proof.Proof.Segments
public import proofs.«01_k».proof.Proof.State

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

/-! ## The start of a batch: its reads waited for -/

/-- The slots of the results, free. -/
def outFr (i : ℕ) : sProp 𝕄 := iprop(nmFr c i ∗ nmsFr c i ∗ nvFr c i ∗ nvsFr c i)
def outFl (i : ℕ) : sProp 𝕄 := iprop(nmFl c X i ∗ nmsFl c X i ∗ nvFl c X i ∗ nvsFl c X i)
def outDn (i : ℕ) : sProp 𝕄 := iprop(nmDn c X i ∗ nmsDn c X i ∗ nvDn c X i ∗ nvsDn c X i)
theorem outFr_eq {i j : ℕ} (e : i % 2 = j % 2) : (outFr c i : sProp 𝕄) = outFr c j := by
  unfold outFr; rw [nmFr_eq c e, nmsFr_eq c e, nvFr_eq c e, nvsFr_eq c e]

/-- The reads of batch `i`: under way, their sources, what they left, their slots free. -/
def inFl (i : ℕ) : sProp 𝕄 := iprop(mcFl c X i ∗ msFl c X i ∗ vcFl c X i ∗ vsFl c X i)
def inHm (i : ℕ) : sProp 𝕄 := iprop(mcHm c X i ∗ msHm c X i ∗ vcHm c X i ∗ vsHm c X i)
def inKp (i : ℕ) : sProp 𝕄 := iprop(mcKp c X i ∗ msKp c X i ∗ vcKp c X i ∗ vsKp c X i)
def inFr (i : ℕ) : sProp 𝕄 := iprop(mcFr c i ∗ msFr c i ∗ vcFr c i ∗ vsFr c i)

set_option maxHeartbeats 1000000 in
theorem part2_wait (k : Fin k0_t3_loop.trips) (h1 : k0_cond1 k = 1#1) (h2 : k0_cond2 k = 1#1) (h3 : k0_cond3 k = 1#1) (hk : 2 ≤ k.val / 16)
    (v : BitVec 32) (Q : BitVec 32 → sProp 𝕄) :
    iprop(outFl c X (k.val / 16 - 2) ∗ inFl c X (k.val / 16) ∗ owesP c
      ∗ (∀ w, (outDn c X (k.val / 16 - 2) ∗ outFr c (k.val / 16) ∗ inHm c X (k.val / 16) ∗ inKp c X (k.val / 16) ∗ owesP c) -∗ Q w))
    ⊢ wp frame (wpE (defs₀ (F := F)) 𝒱₀ (c : Thread nD τ) none) Set.univ (k0_part2 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k h1 v h2) Q := by
  have e : (k.val / 16 - 2) % 2 = (k.val / 16) % 2 := by omega
  unfold outFl inFl inHm inKp outDn outFr owesP
  rw [nmFl_eq c X e, nmsFl_eq c X e, nvFl_eq c X e, nvsFl_eq c X e]
  unfold mcFl mcHm msFl msHm vcFl vcHm vsFl vsHm nmFr nmDn nmsFr nmsDn nvFr nvDn nvsFr nvsDn
  iintro ⟨⟨⟨%fnm, %fnmx, %oknm, Hnm⟩, ⟨%fnms, %fnmsx, %oknms, Hnms⟩, ⟨%fnv, %fnvx, %oknv, Hnv⟩, ⟨%fnvs, %fnvsx, %oknvs, Hnvs⟩⟩, ⟨⟨%fmc, Hmc⟩, ⟨%fms, Hms⟩, ⟨%fvc, Hvc⟩, ⟨%fvs, Hvs⟩⟩, ⟨%W, HW⟩, Hk⟩
  sl_unfold [k0_part2]
  sl_exec
  sl_step
  iapply Hk
  isplitl [Hnm_dst Hnms_dst Hnv_dst Hnvs_dst]
  · isplitl [Hnm_dst]
    · iexists fnm
      isplitl []; · ipureintro; exact oknm
      iexact Hnm_dst
    isplitl [Hnms_dst]
    · iexists fnms
      isplitl []; · ipureintro; exact oknms
      iexact Hnms_dst
    isplitl [Hnv_dst]
    · iexists fnv
      isplitl []; · ipureintro; exact oknv
      iexact Hnv_dst
    iexists fnvs
    isplitl []; · ipureintro; exact oknvs
    iexact Hnvs_dst
  isplitl [Hnm_src Hnm Hnms_src Hnms Hnv_src Hnv Hnvs_src Hnvs]
  · isplitl [Hnm_src Hnm]
    · isplitl [Hnm_src]
      · iexists _
        iexact Hnm_src
      iexact Hnm
    isplitl [Hnms_src Hnms]
    · isplitl [Hnms_src]
      · iexists _
        iexact Hnms_src
      iexact Hnms
    isplitl [Hnv_src Hnv]
    · isplitl [Hnv_src]
      · iexists _
        iexact Hnv_src
      iexact Hnv
    isplitl [Hnvs_src]
    · iexists _
      iexact Hnvs_src
    iexact Hnvs
  isplitl [Hmc_src Hms_src Hvc_src Hvs_src]
  · isplitl [Hmc_src]; · iexact Hmc_src
    isplitl [Hms_src]; · iexact Hms_src
    isplitl [Hvc_src]; · iexact Hvc_src
    iexact Hvs_src
  isplitl [Hmc_dst Hmc Hms_dst Hms Hvc_dst Hvc Hvs_dst Hvs]
  · isplitl [Hmc_dst Hmc]
    · iapply (mcKp_of c X _ fmc)
      isplitl [Hmc_dst]; · iexact Hmc_dst
      iexact Hmc
    isplitl [Hms_dst Hms]
    · iapply (msKp_of c X _ fms)
      isplitl [Hms_dst]; · iexact Hms_dst
      iexact Hms
    isplitl [Hvc_dst Hvc]
    · iapply (vcKp_of c X _ fvc)
      isplitl [Hvc_dst]; · iexact Hvc_dst
      iexact Hvc
    iapply (vsKp_of c X _ fvs)
    isplitl [Hvs_dst]; · iexact Hvs_dst
    iexact Hvs
  iexists _
  iexact HW

set_option maxHeartbeats 1000000 in
theorem part2_first (k : Fin k0_t3_loop.trips) (h1 : k0_cond1 k = 1#1) (h2 : k0_cond2 k = 1#1) (h3 : ¬ k0_cond3 k = 1#1)
    (v : BitVec 32) (Q : BitVec 32 → sProp 𝕄) :
    iprop(inFl c X (k.val / 16) ∗ owesP c
      ∗ (∀ w, (inHm c X (k.val / 16) ∗ inKp c X (k.val / 16) ∗ owesP c) -∗ Q w))
    ⊢ wp frame (wpE (defs₀ (F := F)) 𝒱₀ (c : Thread nD τ) none) Set.univ (k0_part2 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k h1 v h2) Q := by
  unfold inFl inHm inKp owesP
  unfold mcFl mcHm msFl msHm vcFl vcHm vsFl vsHm
  iintro ⟨⟨⟨%fmc, Hmc⟩, ⟨%fms, Hms⟩, ⟨%fvc, Hvc⟩, ⟨%fvs, Hvs⟩⟩, ⟨%W, HW⟩, Hk⟩
  sl_unfold [k0_part2]
  sl_exec
  sl_step
  iapply Hk
  isplitl [Hmc_src Hms_src Hvc_src Hvs_src]
  · isplitl [Hmc_src]; · iexact Hmc_src
    isplitl [Hms_src]; · iexact Hms_src
    isplitl [Hvc_src]; · iexact Hvc_src
    iexact Hvs_src
  isplitl [Hmc_dst Hmc Hms_dst Hms Hvc_dst Hvc Hvs_dst Hvs]
  · isplitl [Hmc_dst Hmc]
    · iapply (mcKp_of c X _ fmc)
      isplitl [Hmc_dst]; · iexact Hmc_dst
      iexact Hmc
    isplitl [Hms_dst Hms]
    · iapply (msKp_of c X _ fms)
      isplitl [Hms_dst]; · iexact Hms_dst
      iexact Hms
    isplitl [Hvc_dst Hvc]
    · iapply (vcKp_of c X _ fvc)
      isplitl [Hvc_dst]; · iexact Hvc_dst
      iexact Hvc
    iapply (vsKp_of c X _ fvs)
    isplitl [Hvs_dst]; · iexact Hvs_dst
    iexact Hvs
  iexists _
  iexact HW

/-- The step counts and the old norms, as the kernel reads them. -/
def stepOwn (stp : Buf (Elt F) (arg0.view.loc (c : Thread nD τ))) : sProp 𝕄 := arg0.view.loc (c : Thread nD τ) ↦[arg0.view.set]{fullShare} stp

/-- The step count that the start of a batch reads. -/
def stepWord (k : Fin k0_t3_loop.trips) (h1 : k0_cond1 k = 1#1) (h2 : k0_cond2 k = 1#1) (stp : Buf (Elt F) (arg0.view.loc (c : Thread nD τ))) : Elt F .i32 :=
  View.readAt (Elt F) arg0.view (Rect.unit (s := S12) (k0_off46 k) S1.size (k0_off46_inb k h1 h2)).toLoadRect stp (Shape.Idx.first (show 0 < S1.numel from by decide))

/-- The state after the start of a batch: the running sum cleared, the corrections computed. -/
def beginSt (k : Fin k0_t3_loop.trips) (h1 : k0_cond1 k = 1#1) (h2 : k0_cond2 k = 1#1) (stp : Buf (Elt F) (arg0.view.loc (c : Thread nD τ)))
    (s : St F c arg11) (nm : Buf (Elt F) ((nmS 0).view.loc (c : Thread nD τ))) (nms : Buf (Elt F) ((nmsS 0).view.loc (c : Thread nD τ)))
    (nv : Buf (Elt F) ((nvS 0).view.loc (c : Thread nD τ))) (nvs : Buf (Elt F) ((nvsS 0).view.loc (c : Thread nD τ))) : St F c arg11 :=
  { s with
    na := (Memref.whole cc0_scratch15 : Memref sig .tc .vmem S8x128 .f32).view.writes (Elt F) s.na [⟨Rect.unit ![0, 0] S8x128.size inb_S8x128_S8x128_0_0, k0_pay1⟩]
    co := (Memref.whole cc0_scratch17 : Memref sig .tc .vmem S2x8x128 .f32).view.writes (Elt F) s.co
      [⟨Rect.unit ![1, 0, 0] S1x8x128.size inb_S2x8x128_S1x8x128_1_0_0, k0_pay8 (k0_pay4 (stepWord c arg0 k h1 h2 stp))⟩,
        ⟨Rect.unit ![0, 0, 0] S1x8x128.size inb_S2x8x128_S1x8x128_0_0_0, k0_pay7 (k0_pay5 (stepWord c arg0 k h1 h2 stp))⟩]
    nm := nm, nms := nms, nv := nv, nvs := nvs }

set_option maxHeartbeats 2000000 in
theorem begin_ask (k : Fin k0_t3_loop.trips) (h1 : k0_cond1 k = 1#1) (h2 : k0_cond2 k = 1#1) (h4 : k0_cond4 k = 1#1)
    (v w : BitVec 32) (s : St F c arg11) (stp : Buf (Elt F) (arg0.view.loc (c : Thread nD τ))) (K : Prog (TpuEff nD τ sig (Elt F) Λ₀ .tc) Unit) (Q : Unit → sProp 𝕄) :
    iprop(pFl c X (k.val / 16) ∗ inHm c X (k.val / 16 + 1) ∗ pHm c X (k.val / 16 + 1) ∗ inFr c (k.val / 16 + 1) ∗ pFr c (k.val / 16 + 1)
      ∗ own c arg11 s ∗ outFr c (k.val / 16) ∗ stepOwn c arg0 stp ∗ owesP c ∗ ((pHm c X (k.val / 16) ∗ pKp c X (k.val / 16) ∗ inFl c X (k.val / 16 + 1) ∗ pFl c X (k.val / 16 + 1)
        ∗ (∃ nm nms nv nvs, own c arg11 (beginSt c arg0 arg11 k h1 h2 stp s nm nms nv nvs) ∗ slots c arg11 (k.val / 16) (beginSt c arg0 arg11 k h1 h2 stp s nm nms nv nvs))
        ∗ slotCells c (k.val / 16) ∗ stepOwn c arg0 stp ∗ owesP c) -∗ wp frame (wpE (defs₀ (F := F)) 𝒱₀ (c : Thread nD τ) none) Set.univ K Q))
    ⊢ wp frame (wpE (defs₀ (F := F)) 𝒱₀ (c : Thread nD τ) none) Set.univ (segBegin arg0 harg0 arg1 harg1 arg11 harg11 k v h1 h2 w K) Q := by
  unfold pFl pHm own outFr stepOwn owesP slots slotCells inHm inFl inFr pFr mcFl mcFr mcHm msFl msFr msHm vcFl vcFr vcHm vsFl vsFr vsHm nmFr nmsFr nvFr nvsFr
  iintro ⟨⟨%fp, HP⟩, ⟨Hmc, Hms, Hvc, Hvs⟩, HPh, ⟨⟨⟨%fmc, Hmcs⟩, Hmcc⟩, ⟨⟨%fms, Hmss⟩, Hmsc⟩, ⟨⟨%fvc, Hvcs⟩, Hvcc⟩, ⟨⟨%fvs, Hvss⟩, Hvsc⟩⟩, ⟨⟨%fps, HPs⟩, HPc⟩, ⟨Hsc, Hr, Hrn, Hna, Hcf, Hco, Hno⟩,
    ⟨⟨⟨%fnmx, Hnmx⟩, Hnmxc⟩, ⟨⟨%fnmsx, Hnmsx⟩, Hnmsxc⟩, ⟨⟨%fnvx, Hnvx⟩, Hnvxc⟩, ⟨⟨%fnvsx, Hnvsx⟩, Hnvsxc⟩⟩, Hst, ⟨%W, HW⟩, Hk⟩
  sl_unfold [segBegin]
  sl_exec
  iapply Hk
  isplitl [HP_src]; · iexact HP_src
  isplitl [HP_dst HP]
  · iapply (pKp_of c X _ fp)
    isplitl [HP_dst]; · iexact HP_dst
    iexact HP
  isplitl [Hmcc Hmsc Hvcc Hvsc]
  · isplitl [Hmcc]
    · iexists fmc
      iexact Hmcc
    isplitl [Hmsc]
    · iexists fms
      iexact Hmsc
    isplitl [Hvcc]
    · iexists fvc
      iexact Hvcc
    iexists fvs
    iexact Hvsc
  isplitl [HPc]
  · iexists fps
    iexact HPc
  isplitl [Hsc Hr Hrn Hna Hcf Hco Hno Hnmx Hnmsx Hnvx Hnvsx]
  · iexists fnmx
    iexists (begin_ask.sl.Hnmsx_w1 c k h1 h2 fnmsx)
    iexists fnvx
    iexists (begin_ask.sl.Hnvsx_w2 c k h1 h2 fnvsx)
    isplitl [Hsc Hr Hrn Hna Hcf Hco Hno]
    · isplitl [Hsc]; · iexact Hsc
      isplitl [Hr]; · iexact Hr
      isplitl [Hrn]; · iexact Hrn
      isplitl [Hna]; · iexact Hna
      isplitl [Hcf]; · iexact Hcf
      isplitl [Hco]; · iexact Hco
      iexact Hno
    isplitl [Hnmx]; · iexact Hnmx
    isplitl [Hnmsx]; · iexact Hnmsx
    isplitl [Hnvx]; · iexact Hnvx
    iexact Hnvsx
  isplitl [Hnmxc Hnmsxc Hnvxc Hnvsxc]
  · isplitl [Hnmxc]; · iexact Hnmxc
    isplitl [Hnmsxc]; · iexact Hnmsxc
    isplitl [Hnvxc]; · iexact Hnvxc
    iexact Hnvsxc
  isplitl [Hst]; · iexact Hst
  iexists _
  iexact HW

set_option maxHeartbeats 2000000 in
theorem begin_last (k : Fin k0_t3_loop.trips) (h1 : k0_cond1 k = 1#1) (h2 : k0_cond2 k = 1#1) (h4 : ¬ k0_cond4 k = 1#1)
    (v w : BitVec 32) (s : St F c arg11) (stp : Buf (Elt F) (arg0.view.loc (c : Thread nD τ))) (K : Prog (TpuEff nD τ sig (Elt F) Λ₀ .tc) Unit) (Q : Unit → sProp 𝕄) :
    iprop(pFl c X (k.val / 16)
      ∗ own c arg11 s ∗ outFr c (k.val / 16) ∗ stepOwn c arg0 stp ∗ owesP c ∗ ((pHm c X (k.val / 16) ∗ pKp c X (k.val / 16)
        ∗ (∃ nm nms nv nvs, own c arg11 (beginSt c arg0 arg11 k h1 h2 stp s nm nms nv nvs) ∗ slots c arg11 (k.val / 16) (beginSt c arg0 arg11 k h1 h2 stp s nm nms nv nvs))
        ∗ slotCells c (k.val / 16) ∗ stepOwn c arg0 stp ∗ owesP c) -∗ wp frame (wpE (defs₀ (F := F)) 𝒱₀ (c : Thread nD τ) none) Set.univ K Q))
    ⊢ wp frame (wpE (defs₀ (F := F)) 𝒱₀ (c : Thread nD τ) none) Set.univ (segBegin arg0 harg0 arg1 harg1 arg11 harg11 k v h1 h2 w K) Q := by
  unfold pFl pHm own outFr stepOwn owesP slots slotCells  nmFr nmsFr nvFr nvsFr
  iintro ⟨⟨%fp, HP⟩, ⟨Hsc, Hr, Hrn, Hna, Hcf, Hco, Hno⟩,
    ⟨⟨⟨%fnmx, Hnmx⟩, Hnmxc⟩, ⟨⟨%fnmsx, Hnmsx⟩, Hnmsxc⟩, ⟨⟨%fnvx, Hnvx⟩, Hnvxc⟩, ⟨⟨%fnvsx, Hnvsx⟩, Hnvsxc⟩⟩, Hst, ⟨%W, HW⟩, Hk⟩
  sl_unfold [segBegin]
  sl_exec
  iapply Hk
  isplitl [HP_src]; · iexact HP_src
  isplitl [HP_dst HP]
  · iapply (pKp_of c X _ fp)
    isplitl [HP_dst]; · iexact HP_dst
    iexact HP
  isplitl [Hsc Hr Hrn Hna Hcf Hco Hno Hnmx Hnmsx Hnvx Hnvsx]
  · iexists fnmx
    iexists (begin_last.sl.Hnmsx_w1 c k h1 h2 fnmsx)
    iexists fnvx
    iexists (begin_last.sl.Hnvsx_w2 c k h1 h2 fnvsx)
    isplitl [Hsc Hr Hrn Hna Hcf Hco Hno]
    · isplitl [Hsc]; · iexact Hsc
      isplitl [Hr]; · iexact Hr
      isplitl [Hrn]; · iexact Hrn
      isplitl [Hna]; · iexact Hna
      isplitl [Hcf]; · iexact Hcf
      isplitl [Hco]; · iexact Hco
      iexact Hno
    isplitl [Hnmx]; · iexact Hnmx
    isplitl [Hnmsx]; · iexact Hnmsx
    isplitl [Hnvx]; · iexact Hnvx
    iexact Hnvsx
  isplitl [Hnmxc Hnmsxc Hnvxc Hnvsxc]
  · isplitl [Hnmxc]; · iexact Hnmxc
    isplitl [Hnmsxc]; · iexact Hnmsxc
    isplitl [Hnvxc]; · iexact Hnvxc
    iexact Hnvsxc
  isplitl [Hst]; · iexact Hst
  iexists _
  iexact HW

end Cert.Proof.Kernel

end
-- ==== Proof.End.lean ====
/- The end of a batch. -/
module

public import proofs.«01_k».proof.Proof.Segments
public import proofs.«01_k».proof.Proof.State
public import proofs.«01_k».proof.Proof.Start

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

/-! ## The end of a batch -/

/-- The targets of the results of batch `i`. -/
def outAn (i : ℕ) : sProp 𝕄 := iprop(nmAn c i ∗ nmsAn c i ∗ nvAn c i ∗ nvsAn c i)

/-- The old norms, as the kernel reads them. -/
def prevOwn (prv : Buf (Elt F) (arg1.view.loc (c : Thread nD τ))) : sProp 𝕄 := arg1.view.loc (c : Thread nD τ) ↦[arg1.view.set]{fullShare} prv

/-- What is promised of the results of a batch, of the slots they are sent from. -/
structure Ends (i : ℕ) (s : St F c arg11) : Prop where
  nm : ∀ fd, X.okNm i ((nmH i).view.writes (Elt F) fd [⟨Rect.whole S128x2048, ReadAs.same.apply ((nmS i).view.read (Elt F) s.nm)⟩])
  nms : ∀ fd, X.okNms i ((nmsH i).view.writes (Elt F) fd [⟨Rect.whole S128x16, ReadAs.same.apply ((nmsS i).view.read (Elt F) s.nms)⟩])
  nv : ∀ fd, X.okNv i ((nvH i).view.writes (Elt F) fd [⟨Rect.whole S128x2048, ReadAs.same.apply ((nvS i).view.read (Elt F) s.nv)⟩])
  nvs : ∀ fd, X.okNvs i ((nvsH i).view.writes (Elt F) fd [⟨Rect.whole S128x16, ReadAs.same.apply ((nvsS i).view.read (Elt F) s.nvs)⟩])

/-- The word read of the old norms. -/
def prevWord (k : Fin k0_t3_loop.trips) (h1 : k0_cond1 k = 1#1) (h5 : k0_cond5 k = 1#1) (prv : Buf (Elt F) (arg1.view.loc (c : Thread nD τ))) : Elt F .f32 :=
  View.readAt (Elt F) arg1.view (Rect.unit (s := S12) (k0_off78 k) S1.size (k0_off78_inb k h1 h5)).toLoadRect prv (Shape.Idx.first (show 0 < S1.numel from by decide))
/-- The running sum read at the end of a batch, summed. -/
def normVec (s : St F c arg11) : FVec F S8x128 .f32 := k0_pay6 ((Memref.whole cc0_scratch15 : Memref sig .tc .vmem S8x128 .f32).view.readAt (Elt F) (Rect.unit (s := S8x128) ![0, 0] S8x128.size inb_S8x128_S8x128_0_0).toLoadRect s.na)

/-- The state after a batch's end: the coefficients and the new norm stored. -/
def endSt (k : Fin k0_t3_loop.trips) (h1 : k0_cond1 k = 1#1) (h5 : k0_cond5 k = 1#1) (prv : Buf (Elt F) (arg1.view.loc (c : Thread nD τ))) (s : St F c arg11) : St F c arg11 :=
  { s with
    cf := (Memref.whole cc0_scratch16 : Memref sig .tc .vmem S2x8x128 .f32).view.writes (Elt F) s.cf [⟨Rect.unit (k0_off79 k) S1x8x128.size (k0_off79_inb k h1 h5), k0_pay103 (normVec c arg11 s) (prevWord c arg1 k h1 h5 prv)⟩]
    no := arg11.view.writes (Elt F) s.no [⟨Rect.unit (k0_off78 k) S1.size (k0_off78_inb k h1 h5), fun _ => k0_pay104 (normVec c arg11 s) (prevWord c arg1 k h1 h5 prv)⟩] }

set_option maxHeartbeats 1000000 in
theorem end_send (k : Fin k0_t3_loop.trips) (h1 : k0_cond1 k = 1#1) (h5 : k0_cond5 k = 1#1)
    (v : BitVec 32) (s : St F c arg11) (ok : Ends c X arg11 (k.val / 16) s) (prv : Buf (Elt F) (arg1.view.loc (c : Thread nD τ))) (K : Prog (TpuEff nD τ sig (Elt F) Λ₀ .tc) Unit) (Q : Unit → sProp 𝕄) :
    iprop(outAn c (k.val / 16) ∗ own c arg11 s ∗ slots c arg11 (k.val / 16) s ∗ slotCells c (k.val / 16) ∗ prevOwn c arg1 prv ∗ owesP c
      ∗ ((outFl c X (k.val / 16) ∗ own c arg11 (endSt c arg1 arg11 k h1 h5 prv s) ∗ prevOwn c arg1 prv ∗ owesP c) -∗ wp frame (wpE (defs₀ (F := F)) 𝒱₀ (c : Thread nD τ) none) Set.univ K Q))
    ⊢ wp frame (wpE (defs₀ (F := F)) 𝒱₀ (c : Thread nD τ) none) Set.univ (segEnd arg0 harg0 arg1 harg1 arg11 harg11 k v h1 K) Q := by
  unfold outFl outAn own slots slotCells prevOwn owesP nmAn nmsAn nvAn nvsAn nmFl nmsFl nvFl nvsFl
  iintro ⟨⟨⟨%fnm, Hnmd⟩, ⟨%fnms, Hnmsd⟩, ⟨%fnv, Hnvd⟩, ⟨%fnvs, Hnvsd⟩⟩, ⟨Hsc, Hr, Hrn, Hna, Hcf, Hco, Hno⟩, ⟨Hnm, Hnms, Hnv, Hnvs⟩, ⟨Hnmc, Hnmsc, Hnvc, Hnvsc⟩, Hpv, ⟨%W, HW⟩, Hk⟩
  sl_unfold [segEnd]
  sl_exec
  iapply Hk
  isplitl [Hnmc Hnmsc Hnvc Hnvsc]
  · isplitl [Hnmc]
    · iexists _
      iexists _
      isplitl []; · ipureintro; exact (ok.nm fnm)
      iexact Hnmc
    isplitl [Hnmsc]
    · iexists _
      iexists _
      isplitl []; · ipureintro; exact (ok.nms fnms)
      iexact Hnmsc
    isplitl [Hnvc]
    · iexists _
      iexists _
      isplitl []; · ipureintro; exact (ok.nv fnv)
      iexact Hnvc
    iexists _
    iexists _
    isplitl []; · ipureintro; exact (ok.nvs fnvs)
    iexact Hnvsc
  isplitl [Hsc Hr Hrn Hna Hcf Hco Hno]
  · isplitl [Hsc]; · iexact Hsc
    isplitl [Hr]; · iexact Hr
    isplitl [Hrn]; · iexact Hrn
    isplitl [Hna]; · iexact Hna
    isplitl [Hcf]; · iexact Hcf
    isplitl [Hco]; · iexact Hco
    iexact Hno
  isplitl [Hpv]; · iexact Hpv
  iexists _
  iexact HW

theorem end_skip (k : Fin k0_t3_loop.trips) (h1 : k0_cond1 k = 1#1) (h5 : ¬ k0_cond5 k = 1#1) (v : BitVec 32) (K : Prog (TpuEff nD τ sig (Elt F) Λ₀ .tc) Unit) :
    segEnd (F := F) arg0 harg0 arg1 harg1 arg11 harg11 k v h1 K = K := by
  unfold segEnd; rw [dif_neg h5]

end Cert.Proof.Kernel

end
-- ==== Proof.Turns.lean ====
/- Several steps of a ring taken together, and what a ring is at its end. -/
module

public import proofs.«01_k».proof.Proof.Rings

@[expose] public section

namespace Cert.Proof.Rings

open Idealize.ShloMosaic Idealize.ShloMosaic.Tactic
open Idealize.SL Idealize.SL.RA Idealize.SL.BI
open scoped Idealize.SL.BI
open Idealize.SL.BI.BIBase Idealize.SL.BI.Laws Idealize.SL.ProofMode

variable {M : Type _} [URA M]

/-- Three pieces taken out of many. -/
theorem take3 (N : ℕ) (Φ Ψ : ℕ → sProp M) (i j k : ℕ) (hi : i < N) (hj : j < N) (hk : k < N) (hij : i ≠ j) (hik : i ≠ k) (hjk : j ≠ k)
    (h : ∀ x < N, x ≠ i → x ≠ j → x ≠ k → Φ x = Ψ x) :
    bigSep (Finset.range N) Φ ⊢ iprop(Φ i ∗ Φ j ∗ Φ k ∗ ((Ψ i ∗ Ψ j ∗ Ψ k) -∗ bigSep (Finset.range N) Ψ)) := by
  have mi : i ∈ Finset.range N := Finset.mem_range.mpr hi
  have mj : j ∈ (Finset.range N).erase i := Finset.mem_erase.mpr ⟨Ne.symm hij, Finset.mem_range.mpr hj⟩
  have mk : k ∈ ((Finset.range N).erase i).erase j := Finset.mem_erase.mpr ⟨Ne.symm hjk, Finset.mem_erase.mpr ⟨Ne.symm hik, Finset.mem_range.mpr hk⟩⟩
  rw [bigSep_erase (Φ := Φ) mi, bigSep_erase (Φ := Ψ) mi, bigSep_erase (Φ := Φ) mj, bigSep_erase (Φ := Ψ) mj,
    bigSep_erase (Φ := Φ) mk, bigSep_erase (Φ := Ψ) mk,
    bigSep_congr (s := (((Finset.range N).erase i).erase j).erase k) (Φ := Φ) (Ψ := Ψ) fun x hx =>
      have h1 := Finset.mem_of_mem_erase hx
      have h2 := Finset.mem_of_mem_erase h1
      h x (Finset.mem_range.mp (Finset.mem_of_mem_erase h2)) (Finset.ne_of_mem_erase h2) (Finset.ne_of_mem_erase h1) (Finset.ne_of_mem_erase hx)]
  generalize bigSep ((((Finset.range N).erase i).erase j).erase k) Ψ = R
  show iprop(Φ i ∗ Φ j ∗ Φ k ∗ R) ⊢ iprop(Φ i ∗ Φ j ∗ Φ k ∗ ((Ψ i ∗ Ψ j ∗ Ψ k) -∗ iprop(Ψ i ∗ Ψ j ∗ Ψ k ∗ R)))
  iintro ⟨Hi, Hj, Hk, HR⟩
  isplitl [Hi]; · iexact Hi
  isplitl [Hj]; · iexact Hj
  isplitl [Hk]; · iexact Hk
  iintro ⟨Gi, Gj, Gk⟩
  isplitl [Gi]; · iexact Gi
  isplitl [Gj]; · iexact Gj
  isplitl [Gk]; · iexact Gk
  iexact HR

/-- Four pieces taken out of many. -/
theorem take4 (N : ℕ) (Φ Ψ : ℕ → sProp M) (i j k l : ℕ) (hi : i < N) (hj : j < N) (hk : k < N) (hl : l < N) (hij : i ≠ j) (hik : i ≠ k) (hil : i ≠ l)
    (hjk : j ≠ k) (hjl : j ≠ l) (hkl : k ≠ l) (h : ∀ x < N, x ≠ i → x ≠ j → x ≠ k → x ≠ l → Φ x = Ψ x) :
    bigSep (Finset.range N) Φ ⊢ iprop(Φ i ∗ Φ j ∗ Φ k ∗ Φ l ∗ ((Ψ i ∗ Ψ j ∗ Ψ k ∗ Ψ l) -∗ bigSep (Finset.range N) Ψ)) := by
  have mi : i ∈ Finset.range N := Finset.mem_range.mpr hi
  have mj : j ∈ (Finset.range N).erase i := Finset.mem_erase.mpr ⟨Ne.symm hij, Finset.mem_range.mpr hj⟩
  have mk : k ∈ ((Finset.range N).erase i).erase j := Finset.mem_erase.mpr ⟨Ne.symm hjk, Finset.mem_erase.mpr ⟨Ne.symm hik, Finset.mem_range.mpr hk⟩⟩
  have ml : l ∈ (((Finset.range N).erase i).erase j).erase k :=
    Finset.mem_erase.mpr ⟨Ne.symm hkl, Finset.mem_erase.mpr ⟨Ne.symm hjl, Finset.mem_erase.mpr ⟨Ne.symm hil, Finset.mem_range.mpr hl⟩⟩⟩
  rw [bigSep_erase (Φ := Φ) mi, bigSep_erase (Φ := Ψ) mi, bigSep_erase (Φ := Φ) mj, bigSep_erase (Φ := Ψ) mj,
    bigSep_erase (Φ := Φ) mk, bigSep_erase (Φ := Ψ) mk, bigSep_erase (Φ := Φ) ml, bigSep_erase (Φ := Ψ) ml,
    bigSep_congr (s := ((((Finset.range N).erase i).erase j).erase k).erase l) (Φ := Φ) (Ψ := Ψ) fun x hx =>
      have h1 := Finset.mem_of_mem_erase hx
      have h2 := Finset.mem_of_mem_erase h1
      have h3 := Finset.mem_of_mem_erase h2
      h x (Finset.mem_range.mp (Finset.mem_of_mem_erase h3)) (Finset.ne_of_mem_erase h3) (Finset.ne_of_mem_erase h2) (Finset.ne_of_mem_erase h1)
        (Finset.ne_of_mem_erase hx)]
  generalize bigSep (((((Finset.range N).erase i).erase j).erase k).erase l) Ψ = R
  show iprop(Φ i ∗ Φ j ∗ Φ k ∗ Φ l ∗ R) ⊢ iprop(Φ i ∗ Φ j ∗ Φ k ∗ Φ l ∗ ((Ψ i ∗ Ψ j ∗ Ψ k ∗ Ψ l) -∗ iprop(Ψ i ∗ Ψ j ∗ Ψ k ∗ Ψ l ∗ R)))
  iintro ⟨Hi, Hj, Hk, Hl, HR⟩
  isplitl [Hi]; · iexact Hi
  isplitl [Hj]; · iexact Hj
  isplitl [Hk]; · iexact Hk
  isplitl [Hl]; · iexact Hl
  iintro ⟨Gi, Gj, Gk, Gl⟩
  isplitl [Gi]; · iexact Gi
  isplitl [Gj]; · iexact Gj
  isplitl [Gk]; · iexact Gk
  isplitl [Gl]; · iexact Gl
  iexact HR

section Reads
variable (S : ℕ) (Fl Hm Kp : ℕ → sProp M)

/-- Block `p` is waited for while the next is asked for, in a slot unused so far. -/
theorem ring_turn0 (N p : ℕ) (hS : p + 1 < S) (hN : p + 1 < N) :
    ring S Fl Hm Kp N p (p + 1)
      ⊢ iprop(Fl p ∗ Hm (p + 1) ∗ ((Hm p ∗ Kp p ∗ Fl (p + 1)) -∗ ring S Fl Hm Kp N (p + 1) (p + 1 + 1))) := by
  have H := take2 N (rStat S Fl Hm Kp p (p + 1)) (rStat S Fl Hm Kp (p + 1) (p + 1 + 1)) p (p + 1) (by omega) hN (by omega) fun j _ hj hj' => by
    unfold rStat; by_cases h : p ≤ j
    · rw [if_pos h, if_pos (show p + 1 ≤ j by omega), if_neg (by omega), if_neg (by omega)]
    · rw [if_neg h, if_neg (show ¬p + 1 ≤ j by omega), if_pos (by omega), if_pos (by omega)]
  rw [show rStat S Fl Hm Kp p (p + 1) p = Fl p by unfold rStat; rw [if_pos (le_refl p), if_pos (by omega)],
    show rStat S Fl Hm Kp p (p + 1) (p + 1) = Hm (p + 1) by unfold rStat; rw [if_pos (by omega), if_neg (by omega)],
    show rStat S Fl Hm Kp (p + 1) (p + 1 + 1) p = iprop(Hm p ∗ Kp p) by unfold rStat; rw [if_neg (by omega), if_pos (by omega)],
    show rStat S Fl Hm Kp (p + 1) (p + 1 + 1) (p + 1) = Fl (p + 1) by unfold rStat; rw [if_pos (by omega), if_pos (by omega)]] at H
  unfold ring
  iintro HR
  ihave H2 := H $$ HR
  icases H2 with ⟨Hf, Hh, Hw⟩
  isplitl [Hf]; · iexact Hf
  isplitl [Hh]; · iexact Hh
  iintro ⟨G1, G2, G3⟩
  iapply Hw
  isplitl [G1 G2]
  · isplitl [G1]; · iexact G1
    iexact G2
  iexact G3

/-- Block `p` is waited for while the next is asked for, in the slot of block `i`. -/
theorem ring_turn (N p i : ℕ) (hi : i + S = p + 1) (hS : 1 < S) (hN : p + 1 < N) :
    ring S Fl Hm Kp N p (p + 1)
      ⊢ iprop(Fl p ∗ Hm (p + 1) ∗ Kp i ∗ ((Hm p ∗ Kp p ∗ Fl (p + 1)) -∗ ring S Fl Hm Kp N (p + 1) (p + 1 + 1))) := by
  have H := take3 N (rStat S Fl Hm Kp p (p + 1)) (rStat S Fl Hm Kp (p + 1) (p + 1 + 1)) p (p + 1) i (by omega) hN (by omega) (by omega) (by omega) (by omega)
    fun j _ hj hj' hj'' => by
    unfold rStat; by_cases h : p ≤ j
    · rw [if_pos h, if_pos (show p + 1 ≤ j by omega), if_neg (by omega), if_neg (by omega)]
    · rw [if_neg h, if_neg (show ¬p + 1 ≤ j by omega)]; by_cases h' : p + 1 ≤ j + S
      · rw [if_pos h', if_pos (show p + 1 + 1 ≤ j + S by omega)]
      · rw [if_neg h', if_neg (show ¬p + 1 + 1 ≤ j + S by omega)]
  rw [show rStat S Fl Hm Kp p (p + 1) p = Fl p by unfold rStat; rw [if_pos (le_refl p), if_pos (by omega)],
    show rStat S Fl Hm Kp p (p + 1) (p + 1) = Hm (p + 1) by unfold rStat; rw [if_pos (by omega), if_neg (by omega)],
    show rStat S Fl Hm Kp p (p + 1) i = iprop(Hm i ∗ Kp i) by unfold rStat; rw [if_neg (by omega), if_pos (by omega)],
    show rStat S Fl Hm Kp (p + 1) (p + 1 + 1) p = iprop(Hm p ∗ Kp p) by unfold rStat; rw [if_neg (by omega), if_pos (by omega)],
    show rStat S Fl Hm Kp (p + 1) (p + 1 + 1) (p + 1) = Fl (p + 1) by unfold rStat; rw [if_pos (by omega), if_pos (by omega)],
    show rStat S Fl Hm Kp (p + 1) (p + 1 + 1) i = iprop(Hm i ∗ BI.emp) by unfold rStat; rw [if_neg (by omega), if_neg (by omega)]] at H
  unfold ring
  iintro HR
  ihave H2 := H $$ HR
  icases H2 with ⟨Hf, Hh, ⟨Hi, Hk⟩, Hw⟩
  isplitl [Hf]; · iexact Hf
  isplitl [Hh]; · iexact Hh
  isplitl [Hk]; · iexact Hk
  iintro ⟨G1, G2, G3⟩
  iapply Hw
  isplitl [G1 G2]
  · isplitl [G1]; · iexact G1
    iexact G2
  isplitl [G3]; · iexact G3
  isplitl [Hi]; · iexact Hi
  iempintro

/-- At the end every block is at home and the last slots are kept. -/
theorem ring_end (N : ℕ) :
    ring S Fl Hm Kp N N N = iprop(bigSep (Finset.range N) Hm ∗ bigSep (Finset.range N) fun i => if N ≤ i + S then Kp i else BI.emp) := by
  unfold ring
  refine Eq.trans (bigSep_congr (Ψ := fun i => iprop(Hm i ∗ if N ≤ i + S then Kp i else BI.emp)) fun i hi => ?_) (bigSep_sep _ _ _)
  unfold rStat; rw [if_neg (by have := Finset.mem_range.mp hi; omega)]

end Reads

section Writes
variable (S : ℕ) (Rd Hm An Wr Dn rc wc Sl : ℕ → sProp M)

theorem wStat_same (p l q p' l' q' j : ℕ) (h1 : p ≤ j ↔ p' ≤ j) (h2 : p ≤ j → (j < l ↔ j < l')) (h3 : ¬p ≤ j → (q ≤ j ↔ q' ≤ j))
    (h4 : ¬p ≤ j → ¬q ≤ j → (l ≤ j + S ↔ l' ≤ j + S)) : wStat S Rd Hm An Wr Dn rc wc Sl p l q j = wStat S Rd Hm An Wr Dn rc wc Sl p' l' q' j := by
  unfold wStat
  by_cases h : p ≤ j
  · rw [if_pos h, if_pos (h1.mp h)]; by_cases g : j < l
    · rw [if_pos g, if_pos ((h2 h).mp g)]
    · rw [if_neg g, if_neg (fun e => g ((h2 h).mpr e))]
  · rw [if_neg h, if_neg (fun e => h (h1.mpr e))]; by_cases g : q ≤ j
    · rw [if_pos g, if_pos ((h3 h).mp g)]
    · rw [if_neg g, if_neg (fun e => g ((h3 h).mpr e))]; by_cases r : l ≤ j + S
      · rw [if_pos r, if_pos ((h4 h g).mp r)]
      · rw [if_neg r, if_neg (fun e => r ((h4 h g).mpr e))]
theorem wStat_new (p l q j : ℕ) (h1 : p ≤ j) (h2 : ¬j < l) : wStat S Rd Hm An Wr Dn rc wc Sl p l q j = iprop(An j ∗ Hm j) := by unfold wStat; rw [if_pos h1, if_neg h2]
theorem wStat_read (p l q j : ℕ) (h1 : p ≤ j) (h2 : j < l) : wStat S Rd Hm An Wr Dn rc wc Sl p l q j = iprop(An j ∗ Rd j ∗ wc j) := by unfold wStat; rw [if_pos h1, if_pos h2]
theorem wStat_write (p l q j : ℕ) (h1 : ¬p ≤ j) (h2 : q ≤ j) : wStat S Rd Hm An Wr Dn rc wc Sl p l q j = iprop(Hm j ∗ Wr j ∗ rc j) := by unfold wStat; rw [if_neg h1, if_pos h2]
theorem wStat_kept (p l q j : ℕ) (h1 : ¬p ≤ j) (h2 : ¬q ≤ j) (h3 : l ≤ j + S) : wStat S Rd Hm An Wr Dn rc wc Sl p l q j = iprop(Hm j ∗ Dn j ∗ Sl j ∗ rc j ∗ wc j) := by
  unfold wStat; rw [if_neg h1, if_neg h2, if_pos h3]
theorem wStat_done (p l q j : ℕ) (h1 : ¬p ≤ j) (h2 : ¬q ≤ j) (h3 : ¬l ≤ j + S) : wStat S Rd Hm An Wr Dn rc wc Sl p l q j = iprop(Hm j ∗ Dn j ∗ BI.emp) := by
  unfold wStat; rw [if_neg h1, if_neg h2, if_neg h3]

/-- Two pieces worked on. -/
theorem wring_work2 (N p l q : ℕ) (hp : p + 1 < l) (hq : q ≤ p) (hN : p + 1 < N) :
    wring S Rd Hm An Wr Dn rc wc Sl N p l q ⊢ iprop((An p ∗ Rd p ∗ wc p) ∗ (An (p + 1) ∗ Rd (p + 1) ∗ wc (p + 1))
      ∗ (((Hm p ∗ Wr p ∗ rc p) ∗ (Hm (p + 1) ∗ Wr (p + 1) ∗ rc (p + 1))) -∗ wring S Rd Hm An Wr Dn rc wc Sl N (p + 2) l q)) := by
  have H := take2 N (wStat S Rd Hm An Wr Dn rc wc Sl p l q) (wStat S Rd Hm An Wr Dn rc wc Sl (p + 2) l q) p (p + 1) (by omega) hN (by omega) fun j _ hj hj' =>
    wStat_same S Rd Hm An Wr Dn rc wc Sl p l q (p + 2) l q j (by omega) (by omega) (by omega) (by omega)
  rw [wStat_read S Rd Hm An Wr Dn rc wc Sl p l q p (by omega) (by omega), wStat_read S Rd Hm An Wr Dn rc wc Sl p l q (p + 1) (by omega) (by omega),
    wStat_write S Rd Hm An Wr Dn rc wc Sl (p + 2) l q p (by omega) (by omega), wStat_write S Rd Hm An Wr Dn rc wc Sl (p + 2) l q (p + 1) (by omega) (by omega)] at H
  exact H

/-- Two pieces worked on while the oldest write is waited for and its slot asked for again. -/
theorem wring_work2_ask (N p q : ℕ) (hS : 7 ≤ S) (hp : p + 2 < q + S) (hq : q < p) (hN : q + S < N) :
    wring S Rd Hm An Wr Dn rc wc Sl N p (q + S) q ⊢ iprop((An p ∗ Rd p ∗ wc p) ∗ (An (p + 1) ∗ Rd (p + 1) ∗ wc (p + 1)) ∗ (Hm q ∗ Wr q ∗ rc q) ∗ (An (q + S) ∗ Hm (q + S))
      ∗ (((Hm p ∗ Wr p ∗ rc p) ∗ (Hm (p + 1) ∗ Wr (p + 1) ∗ rc (p + 1)) ∗ (Hm q ∗ Dn q ∗ BI.emp) ∗ (An (q + S) ∗ Rd (q + S) ∗ wc (q + S)))
        -∗ wring S Rd Hm An Wr Dn rc wc Sl N (p + 2) (q + S + 1) (q + 1))) := by
  have H := take4 N (wStat S Rd Hm An Wr Dn rc wc Sl p (q + S) q) (wStat S Rd Hm An Wr Dn rc wc Sl (p + 2) (q + S + 1) (q + 1)) p (p + 1) q (q + S) (by omega) (by omega) (by omega) hN
    (by omega) (by omega) (by omega) (by omega) (by omega) (by omega) fun j _ hj hj' hj'' hj''' =>
    wStat_same S Rd Hm An Wr Dn rc wc Sl p (q + S) q (p + 2) (q + S + 1) (q + 1) j (by omega) (by omega) (by omega) (by omega)
  rw [wStat_read S Rd Hm An Wr Dn rc wc Sl p (q + S) q p (by omega) (by omega), wStat_read S Rd Hm An Wr Dn rc wc Sl p (q + S) q (p + 1) (by omega) (by omega),
    wStat_write S Rd Hm An Wr Dn rc wc Sl p (q + S) q q (by omega) (by omega), wStat_new S Rd Hm An Wr Dn rc wc Sl p (q + S) q (q + S) (by omega) (by omega),
    wStat_write S Rd Hm An Wr Dn rc wc Sl (p + 2) (q + S + 1) (q + 1) p (by omega) (by omega),
    wStat_write S Rd Hm An Wr Dn rc wc Sl (p + 2) (q + S + 1) (q + 1) (p + 1) (by omega) (by omega),
    wStat_done S Rd Hm An Wr Dn rc wc Sl (p + 2) (q + S + 1) (q + 1) q (by omega) (by omega) (by omega),
    wStat_read S Rd Hm An Wr Dn rc wc Sl (p + 2) (q + S + 1) (q + 1) (q + S) (by omega) (by omega)] at H
  exact H

/-- Two pieces worked on while the oldest write is waited for; its slot is kept. -/
theorem wring_work2_wait (N p l q : ℕ) (hp : p + 1 < l) (hq : q < p) (hl : l ≤ q + S) (hN : p + 1 < N) :
    wring S Rd Hm An Wr Dn rc wc Sl N p l q ⊢ iprop((An p ∗ Rd p ∗ wc p) ∗ (An (p + 1) ∗ Rd (p + 1) ∗ wc (p + 1)) ∗ (Hm q ∗ Wr q ∗ rc q)
      ∗ (((Hm p ∗ Wr p ∗ rc p) ∗ (Hm (p + 1) ∗ Wr (p + 1) ∗ rc (p + 1)) ∗ (Hm q ∗ Dn q ∗ Sl q ∗ rc q ∗ wc q)) -∗ wring S Rd Hm An Wr Dn rc wc Sl N (p + 2) l (q + 1))) := by
  have H := take3 N (wStat S Rd Hm An Wr Dn rc wc Sl p l q) (wStat S Rd Hm An Wr Dn rc wc Sl (p + 2) l (q + 1)) p (p + 1) q (by omega) hN (by omega) (by omega) (by omega) (by omega) fun j _ hj hj' hj'' =>
    wStat_same S Rd Hm An Wr Dn rc wc Sl p l q (p + 2) l (q + 1) j (by omega) (by omega) (by omega) (by omega)
  rw [wStat_read S Rd Hm An Wr Dn rc wc Sl p l q p (by omega) (by omega), wStat_read S Rd Hm An Wr Dn rc wc Sl p l q (p + 1) (by omega) (by omega),
    wStat_write S Rd Hm An Wr Dn rc wc Sl p l q q (by omega) (by omega),
    wStat_write S Rd Hm An Wr Dn rc wc Sl (p + 2) l (q + 1) p (by omega) (by omega),
    wStat_write S Rd Hm An Wr Dn rc wc Sl (p + 2) l (q + 1) (p + 1) (by omega) (by omega),
    wStat_kept S Rd Hm An Wr Dn rc wc Sl (p + 2) l (q + 1) q (by omega) (by omega) hl] at H
  exact H

/-- The oldest write waited for and its slot asked for again. -/
theorem wring_turn (N p q : ℕ) (hq : q < p) (hp : p ≤ q + S) (hN : q + S < N) :
    wring S Rd Hm An Wr Dn rc wc Sl N p (q + S) q ⊢ iprop((Hm q ∗ Wr q ∗ rc q) ∗ (An (q + S) ∗ Hm (q + S))
      ∗ (((Hm q ∗ Dn q ∗ BI.emp) ∗ (An (q + S) ∗ Rd (q + S) ∗ wc (q + S))) -∗ wring S Rd Hm An Wr Dn rc wc Sl N p (q + S + 1) (q + 1))) := by
  have H := take2 N (wStat S Rd Hm An Wr Dn rc wc Sl p (q + S) q) (wStat S Rd Hm An Wr Dn rc wc Sl p (q + S + 1) (q + 1)) q (q + S) (by omega) hN (by omega) fun j _ hj hj' =>
    wStat_same S Rd Hm An Wr Dn rc wc Sl p (q + S) q p (q + S + 1) (q + 1) j (by omega) (by omega) (by omega) (by omega)
  rw [wStat_write S Rd Hm An Wr Dn rc wc Sl p (q + S) q q (by omega) (by omega), wStat_new S Rd Hm An Wr Dn rc wc Sl p (q + S) q (q + S) (by omega) (by omega),
    wStat_done S Rd Hm An Wr Dn rc wc Sl p (q + S + 1) (q + 1) q (by omega) (by omega) (by omega),
    wStat_read S Rd Hm An Wr Dn rc wc Sl p (q + S + 1) (q + 1) (q + S) (by omega) (by omega)] at H
  exact H

/-- At the end every piece is at home, its target written, and the last slots are kept. -/
theorem wring_end (N : ℕ) : wring S Rd Hm An Wr Dn rc wc Sl N N N N
    = iprop(bigSep (Finset.range N) Hm ∗ bigSep (Finset.range N) Dn ∗ bigSep (Finset.range N) fun i => if N ≤ i + S then iprop(Sl i ∗ rc i ∗ wc i) else BI.emp) := by
  unfold wring
  refine Eq.trans (bigSep_congr (Ψ := fun i => iprop(Hm i ∗ iprop(Dn i ∗ if N ≤ i + S then iprop(Sl i ∗ rc i ∗ wc i) else BI.emp))) fun i hi => ?_)
    (Eq.trans (bigSep_sep _ _ _) (congrArg (fun P => iprop(bigSep (Finset.range N) Hm ∗ P)) (bigSep_sep _ _ _)))
  unfold wStat; rw [if_neg (by have := Finset.mem_range.mp hi; omega), if_neg (by have := Finset.mem_range.mp hi; omega)]

end Writes

end Cert.Proof.Rings
-- ==== Proof.Conds.lean ====
/- When a trip does what. -/
module

public import proofs.«01_k».proof.Proof.Segments

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## When a trip does what -/

theorem cond1_iff : ∀ k : Fin k0_t3_loop.trips, k0_cond1 k = 1#1 ↔ k.val < 192 := by decide +kernel
theorem cond2_iff : ∀ k : Fin k0_t3_loop.trips, k0_cond2 k = 1#1 ↔ k.val % 16 = 0 := by decide +kernel
theorem cond3_iff : ∀ k : Fin k0_t3_loop.trips, k0_cond3 k = 1#1 ↔ 2 ≤ k.val / 16 := by decide +kernel
theorem cond4_iff : ∀ k : Fin k0_t3_loop.trips, k0_cond4 k = 1#1 ↔ k.val / 16 + 1 < 12 := by decide +kernel
theorem cond5_iff : ∀ k : Fin k0_t3_loop.trips, k0_cond5 k = 1#1 ↔ k.val % 16 = 15 := by decide +kernel
theorem cond7_iff : ∀ k : Fin k0_t3_loop.trips, k0_cond7 k = 1#1 ↔ 16 ≤ k.val := by decide +kernel
theorem cond8_iff : ∀ k : Fin k0_t3_loop.trips, k0_cond8 k = 1#1 ↔ 37 ≤ 2 * k.val := by decide +kernel
theorem cond9_iff : ∀ k : Fin k0_t3_loop.trips, k0_cond9 k = 1#1 ↔ 2 * k.val < 411 := by decide +kernel
theorem cond10_iff : ∀ k : Fin k0_t3_loop.trips, k0_cond10 k = 1#1 ↔ 36 ≤ 2 * k.val := by decide +kernel
theorem cond11_iff : ∀ k : Fin k0_t3_loop.trips, k0_cond11 k = 1#1 ↔ 2 * k.val < 410 := by decide +kernel
theorem cond12_iff : ∀ k : Fin k0_t3_loop.trips, k0_cond12 k = 1#1 ↔ k.val + 4 < 192 := by decide +kernel
theorem trips_lt (k : Fin k0_t3_loop.trips) : k.val < 208 := Nat.lt_of_lt_of_le k.isLt k0_t3_abs.2.1

end Cert.Proof.Kernel

end
-- ==== Proof.Block.lean ====
/- The run of a block: its projection and moments. -/
module

public import proofs.«01_k».proof.Proof.Segments
public import proofs.«01_k».proof.Proof.State

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

/-- What the five reads of batch `i` left in their slots. -/
def kept (i : ℕ) : sProp 𝕄 := iprop(pKp c X i ∗ mcKp c X i ∗ msKp c X i ∗ vcKp c X i ∗ vsKp c X i)

/-- What a block's run leaves in the buffers it writes. -/
structure Out (F : FTy → Type) [FloatOps F] (c : Dev nD) (i : ℕ) where
  ch : Buf (Elt F) ((Memref.whole cc0_scratch11 : Memref sig .tc .vmem S12x2048 .f32).view.loc (c : Thread nD τ))
  sc : Buf (Elt F) ((Memref.whole cc0_scratch12 : Memref sig .tc .vmem S20x128x128 .f32).view.loc (c : Thread nD τ))
  r : Buf (Elt F) ((Memref.whole cc0_scratch13 : Memref sig .tc .vmem S128x128 .f32).view.loc (c : Thread nD τ))
  rn : Buf (Elt F) ((Memref.whole cc0_scratch14 : Memref sig .tc .vmem S128x128 .f32).view.loc (c : Thread nD τ))
  na : Buf (Elt F) ((Memref.whole cc0_scratch15 : Memref sig .tc .vmem S8x128 .f32).view.loc (c : Thread nD τ))
  nm : Buf (Elt F) ((nmS i).view.loc (c : Thread nD τ))
  nms : Buf (Elt F) ((nmsS i).view.loc (c : Thread nD τ))
  nv : Buf (Elt F) ((nvS i).view.loc (c : Thread nD τ))
  nvs : Buf (Elt F) ((nvsS i).view.loc (c : Thread nD τ))

/-- The state with a run's buffers in it. -/
def Out.put {c : Dev nD} {i : ℕ} {arg11 : Memref sig .tc .smem S12 .f32} (o : Out F c i) (s : St F c arg11) : St F c arg11 :=
  ⟨o.ch, o.sc, o.r, o.rn, o.na, s.cf, s.co, s.no, o.nm, o.nms, o.nv, o.nvs⟩

/-- The run of a block, up to what follows it. -/
def blockStretch (k : Fin k0_t3_loop.trips) (h1 : k0_cond1 k = 1#1) (s : St F c arg11) (o : Out F c (k.val / 16)) :
    Σ' G : Prop, G → ∀ (K : Prog (TpuEff nD τ sig (Elt F) Λ₀ .tc) Unit) (Q : Unit → sProp 𝕄),
    iprop(gFl c X k.val ∗ kept c X (k.val / 16) ∗ chOwn c arg11 s ∗ own c arg11 s ∗ slots c arg11 (k.val / 16) s ∗ owesP c
      ∗ ((gHm c X k.val ∗ gKp c X k.val ∗ kept c X (k.val / 16) ∗ chOwn c arg11 (o.put s) ∗ own c arg11 (o.put s) ∗ slots c arg11 (k.val / 16) (o.put s) ∗ owesP c)
        -∗ wp frame (wpE (defs₀ (F := F)) 𝒱₀ (c : Thread nD τ) none) Set.univ K Q))
    ⊢ wp frame (wpE (defs₀ (F := F)) 𝒱₀ (c : Thread nD τ) none) Set.univ (segMoments arg0 harg0 arg1 harg1 arg11 harg11 k (w145 k) h1 K) Q := by
  sl_stretch
  intro K Q
  unfold gFl kept pKp mcKp msKp vcKp vsKp chOwn own slots owesP
  iintro ⟨⟨%fg, HG⟩, ⟨⟨HP, HPc⟩, ⟨Hmc, Hmcc⟩, ⟨Hms, Hmsc⟩, ⟨Hvc, Hvcc⟩, ⟨Hvs, Hvsc⟩⟩, Hch, ⟨Hsc, Hr, Hrn, Hna, Hcf, Hco, Hno⟩, ⟨Hnm, Hnms, Hnv, Hnvs⟩, ⟨%W, HW⟩, Hk⟩
  sl_unfold [segMoments]
  sl_exec
  sl_seam

/-- A block's projection and moments: from the block under way, the kept reads of its batch, and the buffers, to the same buffers at
what the run leaves in them. -/
def blockRun (k : Fin k0_t3_loop.trips) (h1 : k0_cond1 k = 1#1) (s : St F c arg11) :
    Σ' o : Out F c (k.val / 16), ∀ (K : Prog (TpuEff nD τ sig (Elt F) Λ₀ .tc) Unit) (Q : Unit → sProp 𝕄),
    iprop(gFl c X k.val ∗ kept c X (k.val / 16) ∗ chOwn c arg11 s ∗ own c arg11 s ∗ slots c arg11 (k.val / 16) s ∗ owesP c
      ∗ ((gHm c X k.val ∗ gKp c X k.val ∗ kept c X (k.val / 16) ∗ chOwn c arg11 (o.put s) ∗ own c arg11 (o.put s) ∗ slots c arg11 (k.val / 16) (o.put s) ∗ owesP c)
        -∗ wp frame (wpE (defs₀ (F := F)) 𝒱₀ (c : Thread nD τ) none) Set.univ K Q))
    ⊢ wp frame (wpE (defs₀ (F := F)) 𝒱₀ (c : Thread nD τ) none) Set.univ (segMoments arg0 harg0 arg1 harg1 arg11 harg11 k (w145 k) h1 K) Q := by
  refine ⟨⟨?ch, ?sc, ?r, ?rn, ?na, blockStretch.sl.Hnm_w13 c X arg11 k h1 s, blockStretch.sl.Hnms_w14 c X arg11 k h1 s,
    blockStretch.sl.Hnv_w15 c X arg11 k h1 s, blockStretch.sl.Hnvs_w16 c X arg11 k h1 s⟩,
    (blockStretch c X arg0 harg0 arg1 harg1 arg11 harg11 k h1 s _).2 ?run⟩
  case run =>
    sl_resume
    unfold gHm gKp Out.put
    dsimp only
    iapply Hk
    isplitl [HG_src]; · iexact HG_src
    isplitl [HG_dst HG]
    · isplitl [HG_dst]; · iexact HG_dst
      iexact HG
    isplitl [HP HPc Hmc Hmcc Hms Hmsc Hvc Hvcc Hvs Hvsc]
    · isplitl [HP HPc]
      · isplitl [HP]; · iexact HP
        iexact HPc
      isplitl [Hmc Hmcc]
      · isplitl [Hmc]; · iexact Hmc
        iexact Hmcc
      isplitl [Hms Hmsc]
      · isplitl [Hms]; · iexact Hms
        iexact Hmsc
      isplitl [Hvc Hvcc]
      · isplitl [Hvc]; · iexact Hvc
        iexact Hvcc
      isplitl [Hvs]; · iexact Hvs
      iexact Hvsc
    isplitl [Hch]; · iexact Hch
    isplitl [Hsc Hr Hrn Hna Hcf Hco Hno]
    · isplitl [Hsc]; · iexact Hsc
      isplitl [Hr]; · iexact Hr
      isplitl [Hrn]; · iexact Hrn
      isplitl [Hna]; · iexact Hna
      isplitl [Hcf]; · iexact Hcf
      isplitl [Hco]; · iexact Hco
      iexact Hno
    isplitl [Hnm Hnms Hnv Hnvs]
    · isplitl [Hnm]; · iexact Hnm
      isplitl [Hnms]; · iexact Hnms
      isplitl [Hnv]; · iexact Hnv
      iexact Hnvs
    iexists _; iexact HW

end Cert.Proof.Kernel

end
-- ==== Proof.Batches.lean ====
/- What is read and sent once per batch. -/
module

public import proofs.«01_k».proof.Proof.Start
public import proofs.«01_k».proof.Proof.End
public import proofs.«01_k».proof.Proof.Turns
public import proofs.«01_k».proof.Proof.Conds
public import proofs.«01_k».proof.Proof.Block

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

/-! ## The batches: what is read of them -/

/-- The rings of what is read once per batch, `n` batches waited for. -/
def insR (n : ℕ) : sProp 𝕄 := iprop(pRing c X n (min 12 (n + 1)) ∗ mcRing c X n (min 12 (n + 1)) ∗ msRing c X n (min 12 (n + 1)) ∗ vcRing c X n (min 12 (n + 1)) ∗ vsRing c X n (min 12 (n + 1)) ∗ (if n = 0 then iprop(pFr c 1 ∗ inFr c 1) else BI.emp))
/-- What the start of batch `n` takes, if another batch follows. -/
def insTake (n : ℕ) : sProp 𝕄 := iprop(pFl c X n ∗ inFl c X n ∗ pHm c X (n + 1) ∗ inHm c X (n + 1) ∗ pFr c (n + 1) ∗ inFr c (n + 1))
/-- What it gives back. -/
def insGive (n : ℕ) : sProp 𝕄 := iprop(pHm c X n ∗ pKp c X n ∗ pFl c X (n + 1) ∗ inHm c X n ∗ inKp c X n ∗ inFl c X (n + 1))

set_option maxHeartbeats 1000000 in
theorem ins_first : insR c X 0 ⊢ iprop(insTake c X 0 ∗ (insGive c X 0 -∗ insR c X 1)) := by
  unfold insR insTake insGive inFl inHm inKp
  rw [if_pos rfl, if_neg (by omega)]
  unfold inFr
  iintro ⟨Hp, Hmc, Hms, Hvc, Hvs, p_r, mc_r, ms_r, vc_r, vs_r⟩
  ihave Hp := (show pRing c X 0 (min 12 (0 + 1)) ⊢ iprop(pFl c X 0 ∗ pHm c X (0 + 1) ∗ ((pHm c X 0 ∗ pKp c X 0 ∗ pFl c X (0 + 1)) -∗ pRing c X 1 (min 12 (1 + 1)))) from ring_turn0 2 (pFl c X) (pHm c X) (pKp c X) 12 0 (by omega) (by omega)) $$ Hp
  icases Hp with ⟨p_f, p_h, p_b⟩
  ihave Hmc := (show mcRing c X 0 (min 12 (0 + 1)) ⊢ iprop(mcFl c X 0 ∗ mcHm c X (0 + 1) ∗ ((mcHm c X 0 ∗ mcKp c X 0 ∗ mcFl c X (0 + 1)) -∗ mcRing c X 1 (min 12 (1 + 1)))) from ring_turn0 2 (mcFl c X) (mcHm c X) (mcKp c X) 12 0 (by omega) (by omega)) $$ Hmc
  icases Hmc with ⟨mc_f, mc_h, mc_b⟩
  ihave Hms := (show msRing c X 0 (min 12 (0 + 1)) ⊢ iprop(msFl c X 0 ∗ msHm c X (0 + 1) ∗ ((msHm c X 0 ∗ msKp c X 0 ∗ msFl c X (0 + 1)) -∗ msRing c X 1 (min 12 (1 + 1)))) from ring_turn0 2 (msFl c X) (msHm c X) (msKp c X) 12 0 (by omega) (by omega)) $$ Hms
  icases Hms with ⟨ms_f, ms_h, ms_b⟩
  ihave Hvc := (show vcRing c X 0 (min 12 (0 + 1)) ⊢ iprop(vcFl c X 0 ∗ vcHm c X (0 + 1) ∗ ((vcHm c X 0 ∗ vcKp c X 0 ∗ vcFl c X (0 + 1)) -∗ vcRing c X 1 (min 12 (1 + 1)))) from ring_turn0 2 (vcFl c X) (vcHm c X) (vcKp c X) 12 0 (by omega) (by omega)) $$ Hvc
  icases Hvc with ⟨vc_f, vc_h, vc_b⟩
  ihave Hvs := (show vsRing c X 0 (min 12 (0 + 1)) ⊢ iprop(vsFl c X 0 ∗ vsHm c X (0 + 1) ∗ ((vsHm c X 0 ∗ vsKp c X 0 ∗ vsFl c X (0 + 1)) -∗ vsRing c X 1 (min 12 (1 + 1)))) from ring_turn0 2 (vsFl c X) (vsHm c X) (vsKp c X) 12 0 (by omega) (by omega)) $$ Hvs
  icases Hvs with ⟨vs_f, vs_h, vs_b⟩
  isplitl [p_f p_h p_r mc_f mc_h mc_r ms_f ms_h ms_r vc_f vc_h vc_r vs_f vs_h vs_r]
  · isplitl [p_f]; · iexact p_f
    isplitl [mc_f ms_f vc_f vs_f]
    · isplitl [mc_f]; · iexact mc_f
      isplitl [ms_f]; · iexact ms_f
      isplitl [vc_f]; · iexact vc_f
      iexact vs_f
    isplitl [p_h]; · iexact p_h
    isplitl [mc_h ms_h vc_h vs_h]
    · isplitl [mc_h]; · iexact mc_h
      isplitl [ms_h]; · iexact ms_h
      isplitl [vc_h]; · iexact vc_h
      iexact vs_h
    isplitl [p_r]; · iexact p_r
    isplitl [mc_r]; · iexact mc_r
    isplitl [ms_r]; · iexact ms_r
    isplitl [vc_r]; · iexact vc_r
    iexact vs_r
  iintro ⟨p_h, p_k, p_f, ⟨mc_h, ms_h, vc_h, vs_h⟩, ⟨mc_k, ms_k, vc_k, vs_k⟩, mc_f, ms_f, vc_f, vs_f⟩
  isplitl [p_b p_h p_k p_f]
  · iapply p_b
    isplitl [p_h]; · iexact p_h
    isplitl [p_k]; · iexact p_k
    iexact p_f
  isplitl [mc_b mc_h mc_k mc_f]
  · iapply mc_b
    isplitl [mc_h]; · iexact mc_h
    isplitl [mc_k]; · iexact mc_k
    iexact mc_f
  isplitl [ms_b ms_h ms_k ms_f]
  · iapply ms_b
    isplitl [ms_h]; · iexact ms_h
    isplitl [ms_k]; · iexact ms_k
    iexact ms_f
  isplitl [vc_b vc_h vc_k vc_f]
  · iapply vc_b
    isplitl [vc_h]; · iexact vc_h
    isplitl [vc_k]; · iexact vc_k
    iexact vc_f
  isplitl [vs_b vs_h vs_k vs_f]
  · iapply vs_b
    isplitl [vs_h]; · iexact vs_h
    isplitl [vs_k]; · iexact vs_k
    iexact vs_f
  iempintro

set_option maxHeartbeats 1000000 in
theorem ins_next (n : ℕ) (h0 : 0 < n) (h : n < 11) : insR c X n ⊢ iprop(insTake c X n ∗ (insGive c X n -∗ insR c X (n + 1))) := by
  unfold insR insTake insGive inFl inHm inKp
  rw [if_neg (by omega), if_neg (by omega), show min 12 (n + 1) = n + 1 by omega, show min 12 (n + 1 + 1) = n + 1 + 1 by omega]
  unfold inFr
  iintro ⟨Hp, Hmc, Hms, Hvc, Hvs, Hemp⟩
  ihave Hp := (show pRing c X n (n + 1) ⊢ iprop(pFl c X n ∗ pHm c X (n + 1) ∗ pKp c X (n - 1) ∗ ((pHm c X n ∗ pKp c X n ∗ pFl c X (n + 1)) -∗ pRing c X (n + 1) (n + 1 + 1))) from ring_turn 2 (pFl c X) (pHm c X) (pKp c X) 12 n (n - 1) (by omega) (by omega) (by omega)) $$ Hp
  icases Hp with ⟨p_f, p_h, p_r, p_b⟩
  ihave p_r := (show pKp c X (n - 1) ⊢ pFr c (n + 1) from (pKp_free c X (n - 1)).trans (entails_of_eq (pFr_eq (F := F) c (i := n - 1) (j := n + 1) (by omega)))) $$ p_r
  ihave Hmc := (show mcRing c X n (n + 1) ⊢ iprop(mcFl c X n ∗ mcHm c X (n + 1) ∗ mcKp c X (n - 1) ∗ ((mcHm c X n ∗ mcKp c X n ∗ mcFl c X (n + 1)) -∗ mcRing c X (n + 1) (n + 1 + 1))) from ring_turn 2 (mcFl c X) (mcHm c X) (mcKp c X) 12 n (n - 1) (by omega) (by omega) (by omega)) $$ Hmc
  icases Hmc with ⟨mc_f, mc_h, mc_r, mc_b⟩
  ihave mc_r := (show mcKp c X (n - 1) ⊢ mcFr c (n + 1) from (mcKp_free c X (n - 1)).trans (entails_of_eq (mcFr_eq (F := F) c (i := n - 1) (j := n + 1) (by omega)))) $$ mc_r
  ihave Hms := (show msRing c X n (n + 1) ⊢ iprop(msFl c X n ∗ msHm c X (n + 1) ∗ msKp c X (n - 1) ∗ ((msHm c X n ∗ msKp c X n ∗ msFl c X (n + 1)) -∗ msRing c X (n + 1) (n + 1 + 1))) from ring_turn 2 (msFl c X) (msHm c X) (msKp c X) 12 n (n - 1) (by omega) (by omega) (by omega)) $$ Hms
  icases Hms with ⟨ms_f, ms_h, ms_r, ms_b⟩
  ihave ms_r := (show msKp c X (n - 1) ⊢ msFr c (n + 1) from (msKp_free c X (n - 1)).trans (entails_of_eq (msFr_eq (F := F) c (i := n - 1) (j := n + 1) (by omega)))) $$ ms_r
  ihave Hvc := (show vcRing c X n (n + 1) ⊢ iprop(vcFl c X n ∗ vcHm c X (n + 1) ∗ vcKp c X (n - 1) ∗ ((vcHm c X n ∗ vcKp c X n ∗ vcFl c X (n + 1)) -∗ vcRing c X (n + 1) (n + 1 + 1))) from ring_turn 2 (vcFl c X) (vcHm c X) (vcKp c X) 12 n (n - 1) (by omega) (by omega) (by omega)) $$ Hvc
  icases Hvc with ⟨vc_f, vc_h, vc_r, vc_b⟩
  ihave vc_r := (show vcKp c X (n - 1) ⊢ vcFr c (n + 1) from (vcKp_free c X (n - 1)).trans (entails_of_eq (vcFr_eq (F := F) c (i := n - 1) (j := n + 1) (by omega)))) $$ vc_r
  ihave Hvs := (show vsRing c X n (n + 1) ⊢ iprop(vsFl c X n ∗ vsHm c X (n + 1) ∗ vsKp c X (n - 1) ∗ ((vsHm c X n ∗ vsKp c X n ∗ vsFl c X (n + 1)) -∗ vsRing c X (n + 1) (n + 1 + 1))) from ring_turn 2 (vsFl c X) (vsHm c X) (vsKp c X) 12 n (n - 1) (by omega) (by omega) (by omega)) $$ Hvs
  icases Hvs with ⟨vs_f, vs_h, vs_r, vs_b⟩
  ihave vs_r := (show vsKp c X (n - 1) ⊢ vsFr c (n + 1) from (vsKp_free c X (n - 1)).trans (entails_of_eq (vsFr_eq (F := F) c (i := n - 1) (j := n + 1) (by omega)))) $$ vs_r
  isplitl [p_f p_h p_r mc_f mc_h mc_r ms_f ms_h ms_r vc_f vc_h vc_r vs_f vs_h vs_r]
  · isplitl [p_f]; · iexact p_f
    isplitl [mc_f ms_f vc_f vs_f]
    · isplitl [mc_f]; · iexact mc_f
      isplitl [ms_f]; · iexact ms_f
      isplitl [vc_f]; · iexact vc_f
      iexact vs_f
    isplitl [p_h]; · iexact p_h
    isplitl [mc_h ms_h vc_h vs_h]
    · isplitl [mc_h]; · iexact mc_h
      isplitl [ms_h]; · iexact ms_h
      isplitl [vc_h]; · iexact vc_h
      iexact vs_h
    isplitl [p_r]; · iexact p_r
    isplitl [mc_r]; · iexact mc_r
    isplitl [ms_r]; · iexact ms_r
    isplitl [vc_r]; · iexact vc_r
    iexact vs_r
  iintro ⟨p_h, p_k, p_f, ⟨mc_h, ms_h, vc_h, vs_h⟩, ⟨mc_k, ms_k, vc_k, vs_k⟩, mc_f, ms_f, vc_f, vs_f⟩
  isplitl [p_b p_h p_k p_f]
  · iapply p_b
    isplitl [p_h]; · iexact p_h
    isplitl [p_k]; · iexact p_k
    iexact p_f
  isplitl [mc_b mc_h mc_k mc_f]
  · iapply mc_b
    isplitl [mc_h]; · iexact mc_h
    isplitl [mc_k]; · iexact mc_k
    iexact mc_f
  isplitl [ms_b ms_h ms_k ms_f]
  · iapply ms_b
    isplitl [ms_h]; · iexact ms_h
    isplitl [ms_k]; · iexact ms_k
    iexact ms_f
  isplitl [vc_b vc_h vc_k vc_f]
  · iapply vc_b
    isplitl [vc_h]; · iexact vc_h
    isplitl [vc_k]; · iexact vc_k
    iexact vc_f
  isplitl [vs_b vs_h vs_k vs_f]
  · iapply vs_b
    isplitl [vs_h]; · iexact vs_h
    isplitl [vs_k]; · iexact vs_k
    iexact vs_f
  iexact Hemp

set_option maxHeartbeats 1000000 in
theorem ins_last : insR c X 11 ⊢ iprop(pFl c X 11 ∗ inFl c X 11 ∗ ((pHm c X 11 ∗ pKp c X 11 ∗ inHm c X 11 ∗ inKp c X 11) -∗ insR c X 12)) := by
  unfold insR inFl inHm inKp
  rw [if_neg (by omega), if_neg (by omega)]
  iintro ⟨Hp, Hmc, Hms, Hvc, Hvs, Hemp⟩
  ihave Hp := (show pRing c X 11 (min 12 (11 + 1)) ⊢ iprop(pFl c X 11 ∗ ((pHm c X 11 ∗ pKp c X 11) -∗ pRing c X 12 (min 12 (12 + 1)))) from ring_wait 2 (pFl c X) (pHm c X) (pKp c X) 12 11 12 (by omega) (by omega) (by omega)) $$ Hp
  icases Hp with ⟨p_f, p_b⟩
  ihave Hmc := (show mcRing c X 11 (min 12 (11 + 1)) ⊢ iprop(mcFl c X 11 ∗ ((mcHm c X 11 ∗ mcKp c X 11) -∗ mcRing c X 12 (min 12 (12 + 1)))) from ring_wait 2 (mcFl c X) (mcHm c X) (mcKp c X) 12 11 12 (by omega) (by omega) (by omega)) $$ Hmc
  icases Hmc with ⟨mc_f, mc_b⟩
  ihave Hms := (show msRing c X 11 (min 12 (11 + 1)) ⊢ iprop(msFl c X 11 ∗ ((msHm c X 11 ∗ msKp c X 11) -∗ msRing c X 12 (min 12 (12 + 1)))) from ring_wait 2 (msFl c X) (msHm c X) (msKp c X) 12 11 12 (by omega) (by omega) (by omega)) $$ Hms
  icases Hms with ⟨ms_f, ms_b⟩
  ihave Hvc := (show vcRing c X 11 (min 12 (11 + 1)) ⊢ iprop(vcFl c X 11 ∗ ((vcHm c X 11 ∗ vcKp c X 11) -∗ vcRing c X 12 (min 12 (12 + 1)))) from ring_wait 2 (vcFl c X) (vcHm c X) (vcKp c X) 12 11 12 (by omega) (by omega) (by omega)) $$ Hvc
  icases Hvc with ⟨vc_f, vc_b⟩
  ihave Hvs := (show vsRing c X 11 (min 12 (11 + 1)) ⊢ iprop(vsFl c X 11 ∗ ((vsHm c X 11 ∗ vsKp c X 11) -∗ vsRing c X 12 (min 12 (12 + 1)))) from ring_wait 2 (vsFl c X) (vsHm c X) (vsKp c X) 12 11 12 (by omega) (by omega) (by omega)) $$ Hvs
  icases Hvs with ⟨vs_f, vs_b⟩
  isplitl [p_f]; · iexact p_f
  isplitl [mc_f ms_f vc_f vs_f]
  · isplitl [mc_f]; · iexact mc_f
    isplitl [ms_f]; · iexact ms_f
    isplitl [vc_f]; · iexact vc_f
    iexact vs_f
  iintro ⟨p_h, p_k, ⟨mc_h, ms_h, vc_h, vs_h⟩, mc_k, ms_k, vc_k, vs_k⟩
  isplitl [p_b p_h p_k]
  · iapply p_b
    isplitl [p_h]; · iexact p_h
    iexact p_k
  isplitl [mc_b mc_h mc_k]
  · iapply mc_b
    isplitl [mc_h]; · iexact mc_h
    iexact mc_k
  isplitl [ms_b ms_h ms_k]
  · iapply ms_b
    isplitl [ms_h]; · iexact ms_h
    iexact ms_k
  isplitl [vc_b vc_h vc_k]
  · iapply vc_b
    isplitl [vc_h]; · iexact vc_h
    iexact vc_k
  isplitl [vs_b vs_h vs_k]
  · iapply vs_b
    isplitl [vs_h]; · iexact vs_h
    iexact vs_k
  iexact Hemp

set_option maxHeartbeats 1000000 in
/-- The batch at work read and put back. -/
theorem ins_read (n : ℕ) (h : n < 12) : insR c X (n + 1) ⊢ iprop(kept c X n ∗ (kept c X n -∗ insR c X (n + 1))) := by
  unfold insR kept
  rw [if_neg (by omega)]
  iintro ⟨Hp, Hmc, Hms, Hvc, Hvs, Hemp⟩
  ihave Hp := (show pRing c X (n + 1) (min 12 (n + 1 + 1)) ⊢ iprop(pKp c X n ∗ (pKp c X n -∗ pRing c X (n + 1) (min 12 (n + 1 + 1)))) from ring_read 2 (pFl c X) (pHm c X) (pKp c X) 12 (n + 1) (min 12 (n + 1 + 1)) n (by omega) (by omega) h) $$ Hp
  icases Hp with ⟨p_k, p_b⟩
  ihave Hmc := (show mcRing c X (n + 1) (min 12 (n + 1 + 1)) ⊢ iprop(mcKp c X n ∗ (mcKp c X n -∗ mcRing c X (n + 1) (min 12 (n + 1 + 1)))) from ring_read 2 (mcFl c X) (mcHm c X) (mcKp c X) 12 (n + 1) (min 12 (n + 1 + 1)) n (by omega) (by omega) h) $$ Hmc
  icases Hmc with ⟨mc_k, mc_b⟩
  ihave Hms := (show msRing c X (n + 1) (min 12 (n + 1 + 1)) ⊢ iprop(msKp c X n ∗ (msKp c X n -∗ msRing c X (n + 1) (min 12 (n + 1 + 1)))) from ring_read 2 (msFl c X) (msHm c X) (msKp c X) 12 (n + 1) (min 12 (n + 1 + 1)) n (by omega) (by omega) h) $$ Hms
  icases Hms with ⟨ms_k, ms_b⟩
  ihave Hvc := (show vcRing c X (n + 1) (min 12 (n + 1 + 1)) ⊢ iprop(vcKp c X n ∗ (vcKp c X n -∗ vcRing c X (n + 1) (min 12 (n + 1 + 1)))) from ring_read 2 (vcFl c X) (vcHm c X) (vcKp c X) 12 (n + 1) (min 12 (n + 1 + 1)) n (by omega) (by omega) h) $$ Hvc
  icases Hvc with ⟨vc_k, vc_b⟩
  ihave Hvs := (show vsRing c X (n + 1) (min 12 (n + 1 + 1)) ⊢ iprop(vsKp c X n ∗ (vsKp c X n -∗ vsRing c X (n + 1) (min 12 (n + 1 + 1)))) from ring_read 2 (vsFl c X) (vsHm c X) (vsKp c X) 12 (n + 1) (min 12 (n + 1 + 1)) n (by omega) (by omega) h) $$ Hvs
  icases Hvs with ⟨vs_k, vs_b⟩
  isplitl [p_k mc_k ms_k vc_k vs_k]
  · isplitl [p_k]; · iexact p_k
    isplitl [mc_k]; · iexact mc_k
    isplitl [ms_k]; · iexact ms_k
    isplitl [vc_k]; · iexact vc_k
    iexact vs_k
  iintro ⟨p_k, mc_k, ms_k, vc_k, vs_k⟩
  isplitl [p_b p_k]; · iapply p_b; iexact p_k
  isplitl [mc_b mc_k]; · iapply mc_b; iexact mc_k
  isplitl [ms_b ms_k]; · iapply ms_b; iexact ms_k
  isplitl [vc_b vc_k]; · iapply vc_b; iexact vc_k
  isplitl [vs_b vs_k]; · iapply vs_b; iexact vs_k
  iexact Hemp

/-! ## The batches: what is sent of them -/

/-- The results of the batches: `e` sent, `n` batches started. -/
def outsR (e n : ℕ) : sProp 𝕄 := iprop(nmOuts c X e (n - 2) ∗ nmsOuts c X e (n - 2) ∗ nvOuts c X e (n - 2) ∗ nvsOuts c X e (n - 2) ∗ (if n = 0 then outFr c 0 else BI.emp) ∗ (if n ≤ 1 then outFr c 1 else BI.emp))

theorem outs_first : outsR c X 0 0 ⊢ iprop(outFr c 0 ∗ outsR c X 0 1) := by
  unfold outsR
  rw [if_pos (show (0 : ℕ) = 0 from rfl), if_pos (show (0 : ℕ) ≤ 1 by omega), if_neg (show ¬(1 : ℕ) = 0 by omega), if_pos (show (1 : ℕ) ≤ 1 by omega)]
  iintro ⟨Hnm, Hnms, Hnv, Hnvs, H0, H1⟩
  isplitl [H0]; · iexact H0
  isplitl [Hnm]; · iexact Hnm
  isplitl [Hnms]; · iexact Hnms
  isplitl [Hnv]; · iexact Hnv
  isplitl [Hnvs]; · iexact Hnvs
  isplitl []; · iempintro
  iexact H1

theorem outs_second : outsR c X 1 1 ⊢ iprop(outFr c 1 ∗ outsR c X 1 2) := by
  unfold outsR
  rw [if_neg (show ¬(1 : ℕ) = 0 by omega), if_pos (show (1 : ℕ) ≤ 1 by omega), if_neg (show ¬(2 : ℕ) = 0 by omega), if_neg (show ¬(2 : ℕ) ≤ 1 by omega)]
  iintro ⟨Hnm, Hnms, Hnv, Hnvs, H0, H1⟩
  isplitl [H1]; · iexact H1
  isplitl [Hnm]; · iexact Hnm
  isplitl [Hnms]; · iexact Hnms
  isplitl [Hnv]; · iexact Hnv
  isplitl [Hnvs]; · iexact Hnvs
  isplitl []; · iempintro
  iexact H0

theorem outs_next (n : ℕ) (h2 : 2 ≤ n) (h : n < 12) : outsR c X n n ⊢ iprop(outFl c X (n - 2) ∗ (outDn c X (n - 2) -∗ outsR c X n (n + 1))) := by
  unfold outsR outFl outDn
  rw [if_neg (show ¬n = 0 by omega), if_neg (show ¬n ≤ 1 by omega), if_neg (show ¬n + 1 = 0 by omega), if_neg (show ¬n + 1 ≤ 1 by omega), show n + 1 - 2 = n - 2 + 1 by omega]
  iintro ⟨Hnm, Hnms, Hnv, Hnvs, H0, H1⟩
  ihave Hnm := (show nmOuts c X n (n - 2) ⊢ iprop(nmFl c X (n - 2) ∗ (nmDn c X (n - 2) -∗ nmOuts c X n (n - 2 + 1))) from outs_wait (nmAn c) (nmFl c X) (nmDn c X) 12 n (n - 2) (by omega) (by omega)) $$ Hnm
  icases Hnm with ⟨nm_f, nm_b⟩
  ihave Hnms := (show nmsOuts c X n (n - 2) ⊢ iprop(nmsFl c X (n - 2) ∗ (nmsDn c X (n - 2) -∗ nmsOuts c X n (n - 2 + 1))) from outs_wait (nmsAn c) (nmsFl c X) (nmsDn c X) 12 n (n - 2) (by omega) (by omega)) $$ Hnms
  icases Hnms with ⟨nms_f, nms_b⟩
  ihave Hnv := (show nvOuts c X n (n - 2) ⊢ iprop(nvFl c X (n - 2) ∗ (nvDn c X (n - 2) -∗ nvOuts c X n (n - 2 + 1))) from outs_wait (nvAn c) (nvFl c X) (nvDn c X) 12 n (n - 2) (by omega) (by omega)) $$ Hnv
  icases Hnv with ⟨nv_f, nv_b⟩
  ihave Hnvs := (show nvsOuts c X n (n - 2) ⊢ iprop(nvsFl c X (n - 2) ∗ (nvsDn c X (n - 2) -∗ nvsOuts c X n (n - 2 + 1))) from outs_wait (nvsAn c) (nvsFl c X) (nvsDn c X) 12 n (n - 2) (by omega) (by omega)) $$ Hnvs
  icases Hnvs with ⟨nvs_f, nvs_b⟩
  isplitl [nm_f nms_f nv_f nvs_f]
  · isplitl [nm_f]; · iexact nm_f
    isplitl [nms_f]; · iexact nms_f
    isplitl [nv_f]; · iexact nv_f
    iexact nvs_f
  iintro ⟨nm_d, nms_d, nv_d, nvs_d⟩
  isplitl [nm_b nm_d]; · iapply nm_b; iexact nm_d
  isplitl [nms_b nms_d]; · iapply nms_b; iexact nms_d
  isplitl [nv_b nv_d]; · iapply nv_b; iexact nv_d
  isplitl [nvs_b nvs_d]; · iapply nvs_b; iexact nvs_d
  isplitl [H0]; · iexact H0
  iexact H1

theorem outs_sent (n : ℕ) (h : n < 12) : outsR c X n (n + 1) ⊢ iprop(outAn c n ∗ (outFl c X n -∗ outsR c X (n + 1) (n + 1))) := by
  unfold outsR outFl outAn
  iintro ⟨Hnm, Hnms, Hnv, Hnvs, H0, H1⟩
  ihave Hnm := (show nmOuts c X n (n + 1 - 2) ⊢ iprop(nmAn c n ∗ (nmFl c X n -∗ nmOuts c X (n + 1) (n + 1 - 2))) from outs_send (nmAn c) (nmFl c X) (nmDn c X) 12 n (n + 1 - 2) (by omega) (by omega)) $$ Hnm
  icases Hnm with ⟨nm_f, nm_b⟩
  ihave Hnms := (show nmsOuts c X n (n + 1 - 2) ⊢ iprop(nmsAn c n ∗ (nmsFl c X n -∗ nmsOuts c X (n + 1) (n + 1 - 2))) from outs_send (nmsAn c) (nmsFl c X) (nmsDn c X) 12 n (n + 1 - 2) (by omega) (by omega)) $$ Hnms
  icases Hnms with ⟨nms_f, nms_b⟩
  ihave Hnv := (show nvOuts c X n (n + 1 - 2) ⊢ iprop(nvAn c n ∗ (nvFl c X n -∗ nvOuts c X (n + 1) (n + 1 - 2))) from outs_send (nvAn c) (nvFl c X) (nvDn c X) 12 n (n + 1 - 2) (by omega) (by omega)) $$ Hnv
  icases Hnv with ⟨nv_f, nv_b⟩
  ihave Hnvs := (show nvsOuts c X n (n + 1 - 2) ⊢ iprop(nvsAn c n ∗ (nvsFl c X n -∗ nvsOuts c X (n + 1) (n + 1 - 2))) from outs_send (nvsAn c) (nvsFl c X) (nvsDn c X) 12 n (n + 1 - 2) (by omega) (by omega)) $$ Hnvs
  icases Hnvs with ⟨nvs_f, nvs_b⟩
  isplitl [nm_f nms_f nv_f nvs_f]
  · isplitl [nm_f]; · iexact nm_f
    isplitl [nms_f]; · iexact nms_f
    isplitl [nv_f]; · iexact nv_f
    iexact nvs_f
  iintro ⟨nm_d, nms_d, nv_d, nvs_d⟩
  isplitl [nm_b nm_d]; · iapply nm_b; iexact nm_d
  isplitl [nms_b nms_d]; · iapply nms_b; iexact nms_d
  isplitl [nv_b nv_d]; · iapply nv_b; iexact nv_d
  isplitl [nvs_b nvs_d]; · iapply nvs_b; iexact nvs_d
  isplitl [H0]; · iexact H0
  iexact H1

end Cert.Proof.Kernel

end
-- ==== Proof.TripStart.lean ====
/- The start of a batch, over the rings. -/
module

public import proofs.«01_k».proof.Proof.Batches

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

set_option maxHeartbeats 1000000 in
/-- The second half of a batch's start, over the rings. -/
theorem begin_run (k : Fin k0_t3_loop.trips) (h1 : k0_cond1 k = 1#1) (h2 : k0_cond2 k = 1#1) (v w : BitVec 32) (s : St F c arg11)
    (stp : Buf (Elt F) (arg0.view.loc (c : Thread nD τ))) (K : Prog (TpuEff nD τ sig (Elt F) Λ₀ .tc) Unit) (Q : Unit → sProp 𝕄) :
    iprop((if k.val / 16 < 11 then iprop(pFl c X (k.val / 16) ∗ pHm c X (k.val / 16 + 1) ∗ inHm c X (k.val / 16 + 1) ∗ pFr c (k.val / 16 + 1) ∗ inFr c (k.val / 16 + 1)
        ∗ ((pHm c X (k.val / 16) ∗ pKp c X (k.val / 16) ∗ pFl c X (k.val / 16 + 1) ∗ inFl c X (k.val / 16 + 1)) -∗ insR c X (k.val / 16 + 1)))
      else iprop(pFl c X (k.val / 16) ∗ ((pHm c X (k.val / 16) ∗ pKp c X (k.val / 16)) -∗ insR c X (k.val / 16 + 1))))
      ∗ own c arg11 s ∗ outFr c (k.val / 16) ∗ stepOwn c arg0 stp ∗ owesP c
      ∗ ((insR c X (k.val / 16 + 1) ∗ (∃ nm nms nv nvs, own c arg11 (beginSt c arg0 arg11 k h1 h2 stp s nm nms nv nvs) ∗ slots c arg11 (k.val / 16) (beginSt c arg0 arg11 k h1 h2 stp s nm nms nv nvs)) ∗ slotCells c (k.val / 16) ∗ stepOwn c arg0 stp ∗ owesP c) -∗ wp frame (wpE (defs₀ (F := F)) 𝒱₀ (c : Thread nD τ) none) Set.univ K Q))
    ⊢ wp frame (wpE (defs₀ (F := F)) 𝒱₀ (c : Thread nD τ) none) Set.univ (segBegin arg0 harg0 arg1 harg1 arg11 harg11 k v h1 h2 w K) Q := by
  by_cases h4 : k0_cond4 k = 1#1
  · have := (cond4_iff k).mp h4
    rw [if_pos (by omega)]
    iintro ⟨⟨Hpf, Hph, Hih, Hpr, Hir, Hback⟩, Ho, Hf, Hst, HW, Hk⟩
    iapply (begin_ask c X arg0 harg0 arg1 harg1 arg11 harg11 k h1 h2 h4 v w s stp)
    isplitl [Hpf]; · iexact Hpf
    isplitl [Hih]; · iexact Hih
    isplitl [Hph]; · iexact Hph
    isplitl [Hir]; · iexact Hir
    isplitl [Hpr]; · iexact Hpr
    isplitl [Ho]; · iexact Ho
    isplitl [Hf]; · iexact Hf
    isplitl [Hst]; · iexact Hst
    isplitl [HW]; · iexact HW
    iintro ⟨Hph, Hpk, Hif, Hpf, HX⟩
    iapply Hk
    isplitl [Hback Hph Hpk Hif Hpf]
    · iapply Hback
      isplitl [Hph]; · iexact Hph
      isplitl [Hpk]; · iexact Hpk
      isplitl [Hpf]; · iexact Hpf
      iexact Hif
    iexact HX
  · have : ¬ k.val / 16 + 1 < 12 := fun h => h4 ((cond4_iff k).mpr h)
    rw [if_neg (by omega)]
    iintro ⟨⟨Hpf, Hback⟩, Ho, Hf, Hst, HW, Hk⟩
    iapply (begin_last c X arg0 harg0 arg1 harg1 arg11 harg11 k h1 h2 h4 v w s stp)
    isplitl [Hpf]; · iexact Hpf
    isplitl [Ho]; · iexact Ho
    isplitl [Hf]; · iexact Hf
    isplitl [Hst]; · iexact Hst
    isplitl [HW]; · iexact HW
    iintro ⟨Hph, Hpk, HX⟩
    iapply Hk
    isplitl [Hback Hph Hpk]
    · iapply Hback
      isplitl [Hph]; · iexact Hph
      iexact Hpk
    iexact HX

set_option maxHeartbeats 1000000 in
/-- The reads' rings, opened for a batch's start. -/
theorem ins_open (n : ℕ) (h : n < 12) : insR c X n ⊢ iprop(inFl c X n ∗ ((inHm c X n ∗ inKp c X n) -∗
      (if n < 11 then iprop(pFl c X n ∗ pHm c X (n + 1) ∗ inHm c X (n + 1) ∗ pFr c (n + 1) ∗ inFr c (n + 1)
          ∗ ((pHm c X n ∗ pKp c X n ∗ pFl c X (n + 1) ∗ inFl c X (n + 1)) -∗ insR c X (n + 1)))
        else iprop(pFl c X n ∗ ((pHm c X n ∗ pKp c X n) -∗ insR c X (n + 1)))))) := by
  by_cases h11 : n < 11
  · rw [if_pos h11]
    have H : insR c X n ⊢ iprop(insTake c X n ∗ (insGive c X n -∗ insR c X (n + 1))) := by
      by_cases h0 : n = 0
      · rw [h0]; exact ins_first c X
      · exact ins_next c X n (by omega) h11
    unfold insTake insGive at H
    iintro HR
    ihave HR := H $$ HR
    icases HR with ⟨⟨Hpf, Hif, Hph, Hih, Hpr, Hir⟩, Hback⟩
    isplitl [Hif]; · iexact Hif
    iintro ⟨Gh, Gk⟩
    isplitl [Hpf]; · iexact Hpf
    isplitl [Hph]; · iexact Hph
    isplitl [Hih]; · iexact Hih
    isplitl [Hpr]; · iexact Hpr
    isplitl [Hir]; · iexact Hir
    iintro ⟨Hph, Hpk, Hpf, Hif⟩
    iapply Hback
    isplitl [Hph]; · iexact Hph
    isplitl [Hpk]; · iexact Hpk
    isplitl [Hpf]; · iexact Hpf
    isplitl [Gh]; · iexact Gh
    isplitl [Gk]; · iexact Gk
    iexact Hif
  · rw [if_neg h11]
    obtain rfl : n = 11 := by omega
    iintro HR
    ihave HR := (ins_last c X) $$ HR
    icases HR with ⟨Hpf, Hif, Hback⟩
    isplitl [Hif]; · iexact Hif
    iintro ⟨Gh, Gk⟩
    isplitl [Hpf]; · iexact Hpf
    iintro ⟨Hph, Hpk⟩
    iapply Hback
    isplitl [Hph]; · iexact Hph
    isplitl [Hpk]; · iexact Hpk
    isplitl [Gh]; · iexact Gh
    iexact Gk

set_option maxHeartbeats 1000000 in
/-- A batch's start. -/
theorem start_run (k : Fin k0_t3_loop.trips) (h1 : k0_cond1 k = 1#1) (h2 : k0_cond2 k = 1#1) (v : BitVec 32) (s : St F c arg11)
    (stp : Buf (Elt F) (arg0.view.loc (c : Thread nD τ))) (K : Prog (TpuEff nD τ sig (Elt F) Λ₀ .tc) Unit) (Q : Unit → sProp 𝕄) :
    iprop(insR c X (k.val / 16) ∗ outsR c X (k.val / 16) (k.val / 16) ∗ own c arg11 s ∗ stepOwn c arg0 stp ∗ owesP c
      ∗ ((outsR c X (k.val / 16) (k.val / 16 + 1) ∗ insR c X (k.val / 16 + 1) ∗ (∃ nm nms nv nvs, own c arg11 (beginSt c arg0 arg11 k h1 h2 stp s nm nms nv nvs) ∗ slots c arg11 (k.val / 16) (beginSt c arg0 arg11 k h1 h2 stp s nm nms nv nvs)) ∗ slotCells c (k.val / 16) ∗ stepOwn c arg0 stp ∗ owesP c) -∗ wp frame (wpE (defs₀ (F := F)) 𝒱₀ (c : Thread nD τ) none) Set.univ K Q))
    ⊢ wp frame (wpE (defs₀ (F := F)) 𝒱₀ (c : Thread nD τ) none) Set.univ (segStart arg0 harg0 arg1 harg1 arg11 harg11 k v h1 K) Q := by
  have hk := (cond1_iff k).mp h1
  have hb : k.val / 16 < 12 := by omega
  unfold segStart; rw [dif_pos h2, wp_bind]
  by_cases h3 : k0_cond3 k = 1#1
  · have h32 := (cond3_iff k).mp h3
    iintro ⟨HI, HU, Ho, Hst, HW, Hk⟩
    ihave HI := (ins_open c X (k.val / 16) hb) $$ HI
    icases HI with ⟨Hif, HI⟩
    ihave HU := (outs_next c X (k.val / 16) h32 hb) $$ HU
    icases HU with ⟨Hof, HU⟩
    iapply (part2_wait c X arg0 harg0 arg1 harg1 arg11 harg11 k h1 h2 h3 h32 v)
    isplitl [Hof]; · iexact Hof
    isplitl [Hif]; · iexact Hif
    isplitl [HW]; · iexact HW
    iintro %w ⟨Hod, Hor, Hih, Hik, HW⟩
    iapply (begin_run c X arg0 harg0 arg1 harg1 arg11 harg11 k h1 h2 v w s stp)
    isplitl [HI Hih Hik]
    · iapply HI
      isplitl [Hih]; · iexact Hih
      iexact Hik
    isplitl [Ho]; · iexact Ho
    isplitl [Hor]; · iexact Hor
    isplitl [Hst]; · iexact Hst
    isplitl [HW]; · iexact HW
    iintro HX
    iapply Hk
    isplitl [HU Hod]; · iapply HU; iexact Hod
    iexact HX
  · have h32 : ¬ 2 ≤ k.val / 16 := fun h => h3 ((cond3_iff k).mpr h)
    have HO : outsR c X (k.val / 16) (k.val / 16) ⊢ iprop(outFr c (k.val / 16) ∗ outsR c X (k.val / 16) (k.val / 16 + 1)) := by
      by_cases h0 : k.val / 16 = 0
      · rw [h0]; exact outs_first c X
      · rw [show k.val / 16 = 1 by omega]; exact outs_second c X
    iintro ⟨HI, HU, Ho, Hst, HW, Hk⟩
    ihave HI := (ins_open c X (k.val / 16) hb) $$ HI
    icases HI with ⟨Hif, HI⟩
    ihave HU := HO $$ HU
    icases HU with ⟨Hor, HU⟩
    iapply (part2_first c X arg0 harg0 arg1 harg1 arg11 harg11 k h1 h2 h3 v)
    isplitl [Hif]; · iexact Hif
    isplitl [HW]; · iexact HW
    iintro %w ⟨Hih, Hik, HW⟩
    iapply (begin_run c X arg0 harg0 arg1 harg1 arg11 harg11 k h1 h2 v w s stp)
    isplitl [HI Hih Hik]
    · iapply HI
      isplitl [Hih]; · iexact Hih
      iexact Hik
    isplitl [Ho]; · iexact Ho
    isplitl [Hor]; · iexact Hor
    isplitl [Hst]; · iexact Hst
    isplitl [HW]; · iexact HW
    iintro HX
    iapply Hk
    isplitl [HU]; · iexact HU
    iexact HX

end Cert.Proof.Kernel

end
-- ==== Proof.Small.lean ====
/- The slots asked for again, and the row factors sent. -/
module

public import proofs.«01_k».proof.Proof.Segments
public import proofs.«01_k».proof.Proof.State

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

theorem dWr_eq {i j : ℕ} (e : i % 10 = j % 10) : dWr c X i
    = iprop(∃ f f', ⌜X.okD i f⌝ ∗ Transfers.Flight countersEmb (c : Thread nD τ) (SemLoc.dma (wC j).sem) () 57344
        iprop(((dH i).view.loc (c : Thread nD τ) ↦[(dH i).view.set]{fullShare} f)
          ∗ ((wS j).view.loc (c : Thread nD τ) ↦[(wS j).view.set]{fullShare} f'))) := by
  unfold dWr; rw [wS_eq (i := i) (j := j) (by unfold wSo; rw [e]), wC_eq (i := i) (j := j) (by unfold wCo; rw [e])]

/-! ## The second piece's slot -/

theorem w2_ask (k : Fin k0_t3_loop.trips) (h7 : k0_cond7 k = 1#1) (h10 : k0_cond10 k = 1#1) (h11 : k0_cond11 k = 1#1) (e : (2 * k.val - 36) % 10 = (2 * k.val - 26) % 10) (K : Prog (TpuEff nD τ sig (Elt F) Λ₀ .tc) Unit) (Q : Unit → sProp 𝕄) :
    iprop(dWr c X (2 * k.val - 36) ∗ wrc c (2 * k.val - 26) ∗ wHm c X (2 * k.val - 26) ∗ owesP c
      ∗ ((dDn c X (2 * k.val - 36) ∗ wFl c X (2 * k.val - 26) ∗ wwc c (2 * k.val - 26) ∗ owesP c) -∗ wp frame (wpE (defs₀ (F := F)) 𝒱₀ (c : Thread nD τ) none) Set.univ K Q))
    ⊢ wp frame (wpE (defs₀ (F := F)) 𝒱₀ (c : Thread nD τ) none) Set.univ (segW2 arg0 harg0 arg1 harg1 arg11 harg11 k h7 K) Q := by
  rw [dWr_eq c X e]
  unfold wrc wHm owesP dDn wFl wwc
  iintro ⟨⟨%f, %f', %ok, HW⟩, Hr, Hh, ⟨%W, HO⟩, Hk⟩
  sl_unfold [segW2]
  sl_exec
  iapply Hk
  isplitl [HW_dst]
  · iexists _
    isplitl []; · ipureintro; exact ok
    iexact HW_dst
  isplitl [Hr]
  · iexists _
    iexact Hr
  isplitl [HW]; · iexact HW
  iexists _
  iexact HO

theorem w2_wait (k : Fin k0_t3_loop.trips) (h7 : k0_cond7 k = 1#1) (h10 : k0_cond10 k = 1#1) (h11 : ¬ k0_cond11 k = 1#1) (e : (2 * k.val - 36) % 10 = (2 * k.val - 26) % 10) (K : Prog (TpuEff nD τ sig (Elt F) Λ₀ .tc) Unit) (Q : Unit → sProp 𝕄) :
    iprop(dWr c X (2 * k.val - 36) ∗ owesP c
      ∗ ((dDn c X (2 * k.val - 36) ∗ wSl c (2 * k.val - 26) ∗ wwc c (2 * k.val - 26) ∗ owesP c) -∗ wp frame (wpE (defs₀ (F := F)) 𝒱₀ (c : Thread nD τ) none) Set.univ K Q))
    ⊢ wp frame (wpE (defs₀ (F := F)) 𝒱₀ (c : Thread nD τ) none) Set.univ (segW2 arg0 harg0 arg1 harg1 arg11 harg11 k h7 K) Q := by
  rw [dWr_eq c X e]
  unfold owesP dDn wSl wwc
  iintro ⟨⟨%f, %f', %ok, HW⟩, ⟨%W, HO⟩, Hk⟩
  sl_unfold [segW2]
  sl_exec
  iapply Hk
  isplitl [HW_dst]
  · iexists _
    isplitl []; · ipureintro; exact ok
    iexact HW_dst
  isplitl [HW_src]
  · iexists _
    iexact HW_src
  isplitl [HW]; · iexact HW
  iexists _
  iexact HO

theorem w2_skip (k : Fin k0_t3_loop.trips) (h7 : k0_cond7 k = 1#1) (h10 : ¬ k0_cond10 k = 1#1) (K : Prog (TpuEff nD τ sig (Elt F) Λ₀ .tc) Unit) :
    segW2 (F := F) arg0 harg0 arg1 harg1 arg11 harg11 k h7 K = K := by
  unfold segW2; rw [dif_neg h10]

/-! ## The next block of `g` -/

theorem ask_run (k : Fin k0_t3_loop.trips) (h7 : k0_cond7 k = 1#1) (h12 : k0_cond12 k = 1#1) (K : Prog (TpuEff nD τ sig (Elt F) Λ₀ .tc) Unit) (Q : Unit → sProp 𝕄) :
    iprop(gFr c (k.val + 4) ∗ gHm c X (k.val + 4) ∗ owesP c ∗ ((gFl c X (k.val + 4) ∗ owesP c) -∗ wp frame (wpE (defs₀ (F := F)) 𝒱₀ (c : Thread nD τ) none) Set.univ K Q))
    ⊢ wp frame (wpE (defs₀ (F := F)) 𝒱₀ (c : Thread nD τ) none) Set.univ (segAsk arg0 harg0 arg1 harg1 arg11 harg11 k h7 K) Q := by
  unfold gFr gHm owesP gFl
  iintro ⟨⟨⟨%f, Hs⟩, Hc⟩, Hh, ⟨%W, HO⟩, Hk⟩
  sl_unfold [segAsk]
  sl_exec
  iapply Hk
  isplitl [Hc]
  · iexists f
    iexact Hc
  iexists _
  iexact HO

theorem ask_skip (k : Fin k0_t3_loop.trips) (h7 : k0_cond7 k = 1#1) (h12 : ¬ k0_cond12 k = 1#1) (K : Prog (TpuEff nD τ sig (Elt F) Λ₀ .tc) Unit) :
    segAsk (F := F) arg0 harg0 arg1 harg1 arg11 harg11 k h7 K = K := by
  unfold segAsk; rw [dif_neg h12]

/-! ## The row factors sent -/

theorem w145_last : ∀ k : Fin k0_t3_loop.trips, (Scalar.cmpi .ne (Scalar.extui (Scalar.cmpi .eq (w145 k) 192#32) : BitVec 32) 0#32 = 1#1) ↔ k.val = 192 := by decide +kernel

/-- The row factors under way. -/
def chFl (s : St F c arg11) : sProp 𝕄 := iprop(∃ f, Transfers.Flight countersEmb (c : Thread nD τ) (SemLoc.dma cc0_scratch24.sem) () 3072
  iprop(((Memref.whole main_v0_1 : Memref sig .tc .hbm S12x2048 .f32).view.loc (c : Thread nD τ) ↦[(Memref.whole main_v0_1 : Memref sig .tc .hbm S12x2048 .f32).view.set]{fullShare} (Memref.whole main_v0_1 : Memref sig .tc .hbm S12x2048 .f32).view.writes (Elt F) f [⟨Rect.whole main_v0_1.ty.shape, ReadAs.same.apply ((Memref.whole cc0_scratch11 : Memref sig .tc .vmem S12x2048 .f32).view.read (Elt F) s.ch)⟩]) ∗ chOwn c arg11 s))

theorem chan_send (k : Fin k0_t3_loop.trips) (hk : k.val = 192) (s : St F c arg11) (K : Prog (TpuEff nD τ sig (Elt F) Λ₀ .tc) Unit) (Q : Unit → sProp 𝕄) :
    iprop((∃ f, (Memref.whole main_v0_1 : Memref sig .tc .hbm S12x2048 .f32).view.loc (c : Thread nD τ) ↦[(Memref.whole main_v0_1 : Memref sig .tc .hbm S12x2048 .f32).view.set]{fullShare} f) ∗ cellP c cc0_scratch24 ∗ chOwn c arg11 s ∗ owesP c ∗ ((chFl c arg11 s ∗ owesP c) -∗ wp frame (wpE (defs₀ (F := F)) 𝒱₀ (c : Thread nD τ) none) Set.univ K Q))
    ⊢ wp frame (wpE (defs₀ (F := F)) 𝒱₀ (c : Thread nD τ) none) Set.univ (segChan arg0 harg0 arg1 harg1 arg11 harg11 (w145 k) K) Q := by
  have h6 := (w145_last k).mpr hk
  unfold chFl chOwn owesP
  iintro ⟨⟨%f, Hd⟩, Hc, Hch, ⟨%W, HO⟩, Hk⟩
  sl_unfold [segChan]
  sl_exec
  iapply Hk
  isplitl [Hc]
  · iexists f
    iexact Hc
  iexists _
  iexact HO

theorem chan_skip (k : Fin k0_t3_loop.trips) (hk : k.val ≠ 192) (K : Prog (TpuEff nD τ sig (Elt F) Λ₀ .tc) Unit) :
    segChan (F := F) arg0 harg0 arg1 harg1 arg11 harg11 (w145 k) K = K := by
  unfold segChan; exact dif_neg (fun h => hk ((w145_last k).mp h))

end Cert.Proof.Kernel

end
-- ==== Proof.DeltaLoops.lean ====
/- The loops over the rows of a piece. -/
module

public import proofs.«01_k».proof.Proof.Segments
public import proofs.«01_k».proof.Proof.State

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

/-! ## The result a batch behind: a block's two pieces -/

/-- What the first half's loop runs over: the block of `g`, the row factors' columns, the piece. -/
def inv4 (k : ℕ) (sc : Buf (Elt F) ((Memref.whole cc0_scratch12 : Memref sig .tc .vmem S20x128x128 .f32).view.loc (c : Thread nD τ))) : sProp 𝕄 :=
  iprop(((gS (k + 4)).view.loc (c : Thread nD τ) ↦[(gS (k + 4)).view.set]{fullShare} (gS (k + 4)).view.writes (Elt F) (gS (k + 4)).view.junk [⟨Rect.whole S128x7168, gW c X (k - 16)⟩])
    ∗ ((Memref.whole cc0_scratch12 : Memref sig .tc .vmem S20x128x128 .f32).view.loc (c : Thread nD τ) ↦[(Memref.whole cc0_scratch12 : Memref sig .tc .vmem S20x128x128 .f32).view.set]{fullShare} sc)
    ∗ (∃ f, (wS (2 * k - 32)).view.loc (c : Thread nD τ) ↦[(wS (2 * k - 32)).view.set]{fullShare} f))

theorem trip4_run (k : Fin k0_t3_loop.trips) (h7 : k0_cond7 k = 1#1) (v : BitVec 32) (v160 : Vec F S1x1x128 .f32) (j : Fin k0_t4_loop.trips)
    (sc : Buf (Elt F) ((Memref.whole cc0_scratch12 : Memref sig .tc .vmem S20x128x128 .f32).view.loc (c : Thread nD τ))) :
    inv4 c X k.val sc ⊢ wp frame (wpE (defs₀ (F := F)) 𝒱₀ (c : Thread nD τ) none) Set.univ (k0_t4_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k v h7 v160 j ()) (fun _ => inv4 c X k.val sc) := by
  haveI : Fact (k0_cond7 k = 1#1) := ⟨h7⟩
  have hj : j.val < 4 := Nat.lt_of_lt_of_le j.isLt k0_t4_abs.2.1
  unfold inv4
  iintro ⟨Hg, Hs, ⟨%f, Hw⟩⟩
  sl_unfold [k0_t4_body]
  sl_exec
  sl_step
  isplitl [Hg]; · iexact Hg
  isplitl [Hs]; · iexact Hs
  iexists _; iexact Hw

set_option warn.classDefReducibility false in
@[sl_loop] def loopInv4 (k : Fin k0_t3_loop.trips) (h7 : k0_cond7 k = 1#1) (v : BitVec 32) (v160 : Vec F S1x1x128 .f32)
    (sc : Buf (Elt F) ((Memref.whole cc0_scratch12 : Memref sig .tc .vmem S20x128x128 .f32).view.loc (c : Thread nD τ))) :
    LoopInvTy_k0_t4 (F := F) Unit ℕ (UU nD τ) ℕ 𝒱₀ c none Set.univ arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k v h7 v160 where
  inv _ _ := inv4 c X k.val sc
  step j _ := trip4_run c X arg0 harg0 arg1 harg1 arg11 harg11 k h7 v v160 j sc

/-- What the second half's loop runs over: the block of `g`, the row factors' columns, the piece. -/
def inv5 (k : ℕ) (sc : Buf (Elt F) ((Memref.whole cc0_scratch12 : Memref sig .tc .vmem S20x128x128 .f32).view.loc (c : Thread nD τ))) : sProp 𝕄 :=
  iprop(((gS (k + 4)).view.loc (c : Thread nD τ) ↦[(gS (k + 4)).view.set]{fullShare} (gS (k + 4)).view.writes (Elt F) (gS (k + 4)).view.junk [⟨Rect.whole S128x7168, gW c X (k - 16)⟩])
    ∗ ((Memref.whole cc0_scratch12 : Memref sig .tc .vmem S20x128x128 .f32).view.loc (c : Thread nD τ) ↦[(Memref.whole cc0_scratch12 : Memref sig .tc .vmem S20x128x128 .f32).view.set]{fullShare} sc)
    ∗ (∃ f, (wS (2 * k - 31)).view.loc (c : Thread nD τ) ↦[(wS (2 * k - 31)).view.set]{fullShare} f))

theorem trip5_run (k : Fin k0_t3_loop.trips) (h7 : k0_cond7 k = 1#1) (v155 : BitVec 32) (v156 : BitVec 32) (v161 : FVec F S1x128 .f32) (v163 : BitVec 32) (j : Fin k0_t5_loop.trips)
    (sc : Buf (Elt F) ((Memref.whole cc0_scratch12 : Memref sig .tc .vmem S20x128x128 .f32).view.loc (c : Thread nD τ))) :
    inv5 c X k.val sc ⊢ wp frame (wpE (defs₀ (F := F)) 𝒱₀ (c : Thread nD τ) none) Set.univ (k0_t5_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k h7 v155 v156 v161 v163 j ()) (fun _ => inv5 c X k.val sc) := by
  haveI : Fact (k0_cond7 k = 1#1) := ⟨h7⟩
  have hj : j.val < 4 := Nat.lt_of_lt_of_le j.isLt k0_t5_abs.2.1
  unfold inv5
  iintro ⟨Hg, Hs, ⟨%f, Hw⟩⟩
  sl_unfold [k0_t5_body]
  sl_exec
  sl_step
  isplitl [Hg]; · iexact Hg
  isplitl [Hs]; · iexact Hs
  iexists _; iexact Hw

set_option warn.classDefReducibility false in
@[sl_loop] def loopInv5 (k : Fin k0_t3_loop.trips) (h7 : k0_cond7 k = 1#1) (v155 : BitVec 32) (v156 : BitVec 32) (v161 : FVec F S1x128 .f32) (v163 : BitVec 32)
    (sc : Buf (Elt F) ((Memref.whole cc0_scratch12 : Memref sig .tc .vmem S20x128x128 .f32).view.loc (c : Thread nD τ))) :
    LoopInvTy_k0_t5 (F := F) Unit ℕ (UU nD τ) ℕ 𝒱₀ c none Set.univ arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k h7 v155 v156 v161 v163 where
  inv _ _ := inv5 c X k.val sc
  step j _ := trip5_run c X arg0 harg0 arg1 harg1 arg11 harg11 k h7 v155 v156 v161 v163 j sc

end Cert.Proof.Kernel

end
-- ==== Proof.Delta.lean ====
/- The two pieces of the result. -/
module

public import proofs.«01_k».proof.Proof.Segments
public import proofs.«01_k».proof.Proof.State
public import proofs.«01_k».proof.Proof.Small
public import proofs.«01_k».proof.Proof.DeltaLoops

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

/-- The block of `g` that a trip's second half reads, in its slot. -/
def gSl (k : ℕ) : sProp 𝕄 := (gS (k + 4)).view.loc (c : Thread nD τ) ↦[(gS (k + 4)).view.set]{fullShare} (gS (k + 4)).view.writes (Elt F) (gS (k + 4)).view.junk [⟨Rect.whole S128x7168, gW c X (k - 16)⟩]
theorem gKp_as (k : ℕ) (hk : 16 ≤ k) : gKp c X (k - 16) = iprop(gSl c X k ∗ cellP c (gC (k + 4))) := by
  have e : (k - 16) % 20 = (k + 4) % 20 := by omega
  unfold gKp gSl; rw [gS_eq (i := k - 16) (j := k + 4) (by unfold gSo; rw [e]), gC_eq (i := k - 16) (j := k + 4) (by unfold gCo; rw [e])]

theorem dWr_of (hD : ∀ i f, X.okD i f) (i : ℕ) (f : Buf (Elt F) ((dH i).view.loc (c : Thread nD τ))) (f' : Buf (Elt F) ((wS i).view.loc (c : Thread nD τ))) :
    Transfers.Flight countersEmb (c : Thread nD τ) (SemLoc.dma (wC i).sem) () 57344
      iprop(((dH i).view.loc (c : Thread nD τ) ↦[(dH i).view.set]{fullShare} f)
        ∗ ((wS i).view.loc (c : Thread nD τ) ↦[(wS i).view.set]{fullShare} f')) ⊢ (dWr c X i : sProp 𝕄) := by
  unfold dWr
  iintro H
  iexists f; iexists f'
  isplitr
  · ipureintro; exact hD i f
  iexact H

set_option maxHeartbeats 1000000 in
theorem part22_run (k : Fin k0_t3_loop.trips) (h7 : k0_cond7 k = 1#1) (v : BitVec 32) (s : St F c arg11)
    (Q : (Σ' (v155 : BitVec 32) (v156 : BitVec 32) (v161 : FVec F S1x128 .f32), BitVec 32) → sProp 𝕄) :
    iprop(gSl c X k.val ∗ own c arg11 s ∗ wFl c X (2 * k.val - 32) ∗ owesP c
      ∗ (∀ r, (gSl c X k.val ∗ own c arg11 s ∗ wSl c (2 * k.val - 32) ∗ wrc c (2 * k.val - 32) ∗ wHm c X (2 * k.val - 32) ∗ owesP c) -∗ Q r))
    ⊢ wp frame (wpE (defs₀ (F := F)) 𝒱₀ (c : Thread nD τ) none) Set.univ (k0_part22 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k v h7) Q := by
  unfold gSl own wFl owesP wSl wrc wHm
  iintro ⟨Hg, ⟨Hsc, Hr, Hrn, Hna, Hcf, Hco, Hno⟩, ⟨%fw, HR⟩, ⟨%W, HO⟩, Hk⟩
  sl_unfold [k0_part22]
  sl_exec
  sl_step
  iapply Hk
  isplitl [Hg]; · iexact Hg
  isplitl [Hsc Hr Hrn Hna Hcf Hco Hno]
  · isplitl [Hsc]; · iexact Hsc
    isplitl [Hr]; · iexact Hr
    isplitl [Hrn]; · iexact Hrn
    isplitl [Hna]; · iexact Hna
    isplitl [Hcf]; · iexact Hcf
    isplitl [Hco]; · iexact Hco
    iexact Hno
  isplitl [HR_dst]
  · iexists _
    iexact HR_dst
  isplitl [HR]; · iexact HR
  isplitl [HR_src]; · iexact HR_src
  iexists _
  iexact HO

set_option maxHeartbeats 1000000 in
theorem part23_first (k : Fin k0_t3_loop.trips) (h7 : k0_cond7 k = 1#1) (h8 : ¬ k0_cond8 k = 1#1) (hD : ∀ i f, X.okD i f) (v155 v156 : BitVec 32) (v161 : FVec F S1x128 .f32) (v163 : BitVec 32) (s : St F c arg11)
    (Q : (Σ' (v192 : BitVec 32), BitVec 32) → sProp 𝕄) :
    iprop(gSl c X k.val ∗ own c arg11 s ∗ wSl c (2 * k.val - 32) ∗ wwc c (2 * k.val - 32) ∗ dAn c (2 * k.val - 32) ∗ wFl c X (2 * k.val - 31) ∗ wwc c (2 * k.val - 31) ∗ dAn c (2 * k.val - 31) ∗ owesP c
      ∗ (∀ r, (gSl c X k.val ∗ own c arg11 s ∗ dWr c X (2 * k.val - 32) ∗ dWr c X (2 * k.val - 31) ∗ wrc c (2 * k.val - 31) ∗ wHm c X (2 * k.val - 31) ∗ owesP c) -∗ Q r))
    ⊢ wp frame (wpE (defs₀ (F := F)) 𝒱₀ (c : Thread nD τ) none) Set.univ (k0_part23 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k h7 v155 v156 v161 v163) Q := by
  unfold gSl own wSl wwc dAn wFl wrc wHm owesP
  iintro ⟨Hg, ⟨Hsc, Hr, Hrn, Hna, Hcf, Hco, Hno⟩, ⟨%fs, HS⟩, HSc, ⟨%fd, HD⟩, ⟨%fw, HR⟩, HRc, ⟨%fd1, HD1⟩, ⟨%W, HO⟩, Hk⟩
  sl_unfold [k0_part23]
  sl_exec
  sl_step
  iapply Hk
  isplitl [Hg]; · iexact Hg
  isplitl [Hsc Hr Hrn Hna Hcf Hco Hno]
  · isplitl [Hsc]; · iexact Hsc
    isplitl [Hr]; · iexact Hr
    isplitl [Hrn]; · iexact Hrn
    isplitl [Hna]; · iexact Hna
    isplitl [Hcf]; · iexact Hcf
    isplitl [Hco]; · iexact Hco
    iexact Hno
  isplitl [HSc]
  · iapply (dWr_of c X hD (2 * k.val - 32) _ _)
    iexact HSc
  isplitl [HRc]
  · iapply (dWr_of c X hD (2 * k.val - 31) _ _)
    iexact HRc
  isplitl [HR]; · iexact HR
  isplitl [HR_src]; · iexact HR_src
  iexists _
  iexact HO

set_option maxHeartbeats 1000000 in
theorem part23_ask (k : Fin k0_t3_loop.trips) (h7 : k0_cond7 k = 1#1) (h8 : k0_cond8 k = 1#1) (h9 : k0_cond9 k = 1#1) (e : (2 * k.val - 37) % 10 = (2 * k.val - 27) % 10) (hD : ∀ i f, X.okD i f) (v155 v156 : BitVec 32) (v161 : FVec F S1x128 .f32) (v163 : BitVec 32) (s : St F c arg11)
    (Q : (Σ' (v192 : BitVec 32), BitVec 32) → sProp 𝕄) :
    iprop(gSl c X k.val ∗ own c arg11 s ∗ wSl c (2 * k.val - 32) ∗ wwc c (2 * k.val - 32) ∗ dAn c (2 * k.val - 32) ∗ wFl c X (2 * k.val - 31) ∗ wwc c (2 * k.val - 31) ∗ dAn c (2 * k.val - 31) ∗ owesP c ∗ dWr c X (2 * k.val - 37) ∗ wHm c X (2 * k.val - 27) ∗ wrc c (2 * k.val - 27)
      ∗ (∀ r, (gSl c X k.val ∗ own c arg11 s ∗ dWr c X (2 * k.val - 32) ∗ dWr c X (2 * k.val - 31) ∗ wrc c (2 * k.val - 31) ∗ wHm c X (2 * k.val - 31) ∗ owesP c ∗ dDn c X (2 * k.val - 37) ∗ wFl c X (2 * k.val - 27) ∗ wwc c (2 * k.val - 27)) -∗ Q r))
    ⊢ wp frame (wpE (defs₀ (F := F)) 𝒱₀ (c : Thread nD τ) none) Set.univ (k0_part23 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k h7 v155 v156 v161 v163) Q := by
  rw [dWr_eq c X e]
  unfold gSl own wSl wwc dAn wFl wrc wHm owesP dDn
  iintro ⟨Hg, ⟨Hsc, Hr, Hrn, Hna, Hcf, Hco, Hno⟩, ⟨%fs, HS⟩, HSc, ⟨%fd, HD⟩, ⟨%fw, HR⟩, HRc, ⟨%fd1, HD1⟩, ⟨%W, HO⟩, ⟨%fq, %fq', %okq, HQ⟩, Hl, Hlc, Hk⟩
  sl_unfold [k0_part23]
  sl_exec
  sl_step
  iapply Hk
  isplitl [Hg]; · iexact Hg
  isplitl [Hsc Hr Hrn Hna Hcf Hco Hno]
  · isplitl [Hsc]; · iexact Hsc
    isplitl [Hr]; · iexact Hr
    isplitl [Hrn]; · iexact Hrn
    isplitl [Hna]; · iexact Hna
    isplitl [Hcf]; · iexact Hcf
    isplitl [Hco]; · iexact Hco
    iexact Hno
  isplitl [HSc]
  · iapply (dWr_of c X hD (2 * k.val - 32) _ _)
    iexact HSc
  isplitl [HRc]
  · iapply (dWr_of c X hD (2 * k.val - 31) _ _)
    iexact HRc
  isplitl [HR]; · iexact HR
  isplitl [HR_src]; · iexact HR_src
  isplitl [HO]
  · iexists _
    iexact HO
  isplitl [HQ_dst]
  · iexists _
    isplitl []; · ipureintro; exact okq
    iexact HQ_dst
  isplitl [Hlc]
  · iexists _
    iexact Hlc
  iexact HQ

set_option maxHeartbeats 1000000 in
theorem part23_last (k : Fin k0_t3_loop.trips) (h7 : k0_cond7 k = 1#1) (h8 : k0_cond8 k = 1#1) (h9 : ¬ k0_cond9 k = 1#1) (e : (2 * k.val - 37) % 10 = (2 * k.val - 27) % 10) (hD : ∀ i f, X.okD i f) (v155 v156 : BitVec 32) (v161 : FVec F S1x128 .f32) (v163 : BitVec 32) (s : St F c arg11)
    (Q : (Σ' (v192 : BitVec 32), BitVec 32) → sProp 𝕄) :
    iprop(gSl c X k.val ∗ own c arg11 s ∗ wSl c (2 * k.val - 32) ∗ wwc c (2 * k.val - 32) ∗ dAn c (2 * k.val - 32) ∗ wFl c X (2 * k.val - 31) ∗ wwc c (2 * k.val - 31) ∗ dAn c (2 * k.val - 31) ∗ owesP c ∗ dWr c X (2 * k.val - 37)
      ∗ (∀ r, (gSl c X k.val ∗ own c arg11 s ∗ dWr c X (2 * k.val - 32) ∗ dWr c X (2 * k.val - 31) ∗ wrc c (2 * k.val - 31) ∗ wHm c X (2 * k.val - 31) ∗ owesP c ∗ dDn c X (2 * k.val - 37) ∗ wSl c (2 * k.val - 27) ∗ wwc c (2 * k.val - 27)) -∗ Q r))
    ⊢ wp frame (wpE (defs₀ (F := F)) 𝒱₀ (c : Thread nD τ) none) Set.univ (k0_part23 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k h7 v155 v156 v161 v163) Q := by
  rw [dWr_eq c X e]
  unfold gSl own wSl wwc dAn wFl wrc wHm owesP dDn
  iintro ⟨Hg, ⟨Hsc, Hr, Hrn, Hna, Hcf, Hco, Hno⟩, ⟨%fs, HS⟩, HSc, ⟨%fd, HD⟩, ⟨%fw, HR⟩, HRc, ⟨%fd1, HD1⟩, ⟨%W, HO⟩, ⟨%fq, %fq', %okq, HQ⟩, Hk⟩
  sl_unfold [k0_part23]
  sl_exec
  sl_step
  iapply Hk
  isplitl [Hg]; · iexact Hg
  isplitl [Hsc Hr Hrn Hna Hcf Hco Hno]
  · isplitl [Hsc]; · iexact Hsc
    isplitl [Hr]; · iexact Hr
    isplitl [Hrn]; · iexact Hrn
    isplitl [Hna]; · iexact Hna
    isplitl [Hcf]; · iexact Hcf
    isplitl [Hco]; · iexact Hco
    iexact Hno
  isplitl [HSc]
  · iapply (dWr_of c X hD (2 * k.val - 32) _ _)
    iexact HSc
  isplitl [HRc]
  · iapply (dWr_of c X hD (2 * k.val - 31) _ _)
    iexact HRc
  isplitl [HR]; · iexact HR
  isplitl [HR_src]; · iexact HR_src
  isplitl [HO]
  · iexists _
    iexact HO
  isplitl [HQ_dst]
  · iexists _
    isplitl []; · ipureintro; exact okq
    iexact HQ_dst
  isplitl [HQ_src]
  · iexists _
    iexact HQ_src
  iexact HQ

end Cert.Proof.Kernel

end
-- ==== Proof.TripDelta.lean ====
/- The part of a trip that is a batch behind. -/
module

public import proofs.«01_k».proof.Proof.Delta
public import proofs.«01_k».proof.Proof.Small
public import proofs.«01_k».proof.Proof.Turns
public import proofs.«01_k».proof.Proof.Conds

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

/-! ## The two pieces of a trip, and the ring of `w` -/

theorem mid_first (k : Fin k0_t3_loop.trips) (h7 : k0_cond7 k = 1#1) (h8 : ¬ k0_cond8 k = 1#1) (hD : ∀ i f, X.okD i f) (s : St F c arg11) (K : Prog (TpuEff nD τ sig (Elt F) Λ₀ .tc) Unit) (Q : Unit → sProp 𝕄) :
    iprop(wRing c X (2 * k.val - 32) 10 0 ∗ gSl c X k.val ∗ own c arg11 s ∗ owesP c ∗ ((wRing c X (2 * k.val - 30) 10 0 ∗ gSl c X k.val ∗ own c arg11 s ∗ owesP c) -∗ wp frame (wpE (defs₀ (F := F)) 𝒱₀ (c : Thread nD τ) none) Set.univ (segW2 arg0 harg0 arg1 harg1 arg11 harg11 k h7 (segAsk arg0 harg0 arg1 harg1 arg11 harg11 k h7 K)) Q))
    ⊢ wp frame (wpE (defs₀ (F := F)) 𝒱₀ (c : Thread nD τ) none) Set.univ (segDelta arg0 harg0 arg1 harg1 arg11 harg11 k (w145 k) K) Q := by
  have h16 := (cond7_iff k).mp h7
  have hlt := trips_lt k
  have h37 : ¬ 37 ≤ 2 * k.val := fun h => h8 ((cond8_iff k).mpr h)
  have H := wring_work2 10 (wFl c X) (wHm c X) (dAn c) (dWr c X) (dDn c X) (wrc c) (wwc c) (wSl c) 384 (2 * k.val - 32) 10 0 (by omega) (by omega) (by omega)
  rw [show 2 * k.val - 32 + 1 = 2 * k.val - 31 by omega, show 2 * k.val - 32 + 2 = 2 * k.val - 30 by omega] at H
  unfold wRing
  unfold segDelta; rw [dif_pos h7]
  rw [wp_bind]
  iintro ⟨HR, Hg, Ho, HW, Hk⟩
  ihave HR := H $$ HR
  icases HR with ⟨⟨Ha, HF, Hc⟩, ⟨Ha1, HF1, Hc1⟩, Hback⟩
  iapply (part22_run c X arg0 harg0 arg1 harg1 arg11 harg11 k h7 (w145 k) s)
  isplitl [Hg]; · iexact Hg
  isplitl [Ho]; · iexact Ho
  isplitl [HF]; · iexact HF
  isplitl [HW]; · iexact HW
  iintro %r ⟨Hg, Ho, Hs, Hr, Hh, HW⟩
  rw [wp_bind]
  iapply (part23_first c X arg0 harg0 arg1 harg1 arg11 harg11 k h7 h8 hD _ _ _ _ s)
  isplitl [Hg]; · iexact Hg
  isplitl [Ho]; · iexact Ho
  isplitl [Hs]; · iexact Hs
  isplitl [Hc]; · iexact Hc
  isplitl [Ha]; · iexact Ha
  isplitl [HF1]; · iexact HF1
  isplitl [Hc1]; · iexact Hc1
  isplitl [Ha1]; · iexact Ha1
  isplitl [HW]; · iexact HW
  iintro %r' ⟨Hg, Ho, HWn, HWn1, Hr1, Hh1, HW⟩
  iapply Hk
  isplitl [Hback Hh HWn Hr Hh1 HWn1 Hr1]
  · iapply Hback
    isplitl [Hh HWn Hr]
    · isplitl [Hh]; · iexact Hh
      isplitl [HWn]; · iexact HWn
      iexact Hr
    isplitl [Hh1]; · iexact Hh1
    isplitl [HWn1]; · iexact HWn1
    iexact Hr1
  isplitl [Hg]; · iexact Hg
  isplitl [Ho]; · iexact Ho
  iexact HW

theorem mid_ask (k : Fin k0_t3_loop.trips) (h7 : k0_cond7 k = 1#1) (h8 : k0_cond8 k = 1#1) (h9 : k0_cond9 k = 1#1) (hD : ∀ i f, X.okD i f) (s : St F c arg11) (K : Prog (TpuEff nD τ sig (Elt F) Λ₀ .tc) Unit) (Q : Unit → sProp 𝕄) :
    iprop(wRing c X (2 * k.val - 32) (2 * k.val - 27) (2 * k.val - 37) ∗ gSl c X k.val ∗ own c arg11 s ∗ owesP c ∗ ((wRing c X (2 * k.val - 30) (2 * k.val - 26) (2 * k.val - 36) ∗ gSl c X k.val ∗ own c arg11 s ∗ owesP c) -∗ wp frame (wpE (defs₀ (F := F)) 𝒱₀ (c : Thread nD τ) none) Set.univ (segW2 arg0 harg0 arg1 harg1 arg11 harg11 k h7 (segAsk arg0 harg0 arg1 harg1 arg11 harg11 k h7 K)) Q))
    ⊢ wp frame (wpE (defs₀ (F := F)) 𝒱₀ (c : Thread nD τ) none) Set.univ (segDelta arg0 harg0 arg1 harg1 arg11 harg11 k (w145 k) K) Q := by
  have h16 := (cond7_iff k).mp h7
  have hlt := trips_lt k
  have h37 := (cond8_iff k).mp h8
  have h411 := (cond9_iff k).mp h9
  have e : (2 * k.val - 37) % 10 = (2 * k.val - 27) % 10 := by omega
  have H := wring_work2_ask 10 (wFl c X) (wHm c X) (dAn c) (dWr c X) (dDn c X) (wrc c) (wwc c) (wSl c) 384 (2 * k.val - 32) (2 * k.val - 37) (by omega) (by omega) (by omega) (by omega)
  rw [show 2 * k.val - 32 + 1 = 2 * k.val - 31 by omega, show 2 * k.val - 32 + 2 = 2 * k.val - 30 by omega,
    show 2 * k.val - 37 + 10 = 2 * k.val - 27 by omega, show 2 * k.val - 27 + 1 = 2 * k.val - 26 by omega, show 2 * k.val - 37 + 1 = 2 * k.val - 36 by omega] at H
  unfold wRing
  unfold segDelta; rw [dif_pos h7]
  rw [wp_bind]
  iintro ⟨HR, Hg, Ho, HW, Hk⟩
  ihave HR := H $$ HR
  icases HR with ⟨⟨Ha, HF, Hc⟩, ⟨Ha1, HF1, Hc1⟩, ⟨Hhq, HWq, Hrq⟩, ⟨Hal, Hhl⟩, Hback⟩
  iapply (part22_run c X arg0 harg0 arg1 harg1 arg11 harg11 k h7 (w145 k) s)
  isplitl [Hg]; · iexact Hg
  isplitl [Ho]; · iexact Ho
  isplitl [HF]; · iexact HF
  isplitl [HW]; · iexact HW
  iintro %r ⟨Hg, Ho, Hs, Hr, Hh, HW⟩
  rw [wp_bind]
  iapply (part23_ask c X arg0 harg0 arg1 harg1 arg11 harg11 k h7 h8 h9 e hD _ _ _ _ s)
  isplitl [Hg]; · iexact Hg
  isplitl [Ho]; · iexact Ho
  isplitl [Hs]; · iexact Hs
  isplitl [Hc]; · iexact Hc
  isplitl [Ha]; · iexact Ha
  isplitl [HF1]; · iexact HF1
  isplitl [Hc1]; · iexact Hc1
  isplitl [Ha1]; · iexact Ha1
  isplitl [HW]; · iexact HW
  isplitl [HWq]; · iexact HWq
  isplitl [Hhl]; · iexact Hhl
  isplitl [Hrq]
  · rw [← wrc_eq c e]; iexact Hrq
  iintro %r' ⟨Hg, Ho, HWn, HWn1, Hr1, Hh1, HW, HDq, HFl, Hcl⟩
  iapply Hk
  isplitl [Hback Hh HWn Hr Hh1 HWn1 Hr1 Hhq HDq Hal HFl Hcl]
  · iapply Hback
    isplitl [Hh HWn Hr]
    · isplitl [Hh]; · iexact Hh
      isplitl [HWn]; · iexact HWn
      iexact Hr
    isplitl [Hh1 HWn1 Hr1]
    · isplitl [Hh1]; · iexact Hh1
      isplitl [HWn1]; · iexact HWn1
      iexact Hr1
    isplitl [Hhq HDq]
    · isplitl [Hhq]; · iexact Hhq
      isplitl [HDq]; · iexact HDq
      iempintro
    isplitl [Hal]; · iexact Hal
    isplitl [HFl]; · iexact HFl
    iexact Hcl
  isplitl [Hg]; · iexact Hg
  isplitl [Ho]; · iexact Ho
  iexact HW

theorem mid_last (k : Fin k0_t3_loop.trips) (h7 : k0_cond7 k = 1#1) (h8 : k0_cond8 k = 1#1) (h9 : ¬ k0_cond9 k = 1#1) (hD : ∀ i f, X.okD i f) (s : St F c arg11) (K : Prog (TpuEff nD τ sig (Elt F) Λ₀ .tc) Unit) (Q : Unit → sProp 𝕄) :
    iprop(wRing c X (2 * k.val - 32) 384 (2 * k.val - 37) ∗ gSl c X k.val ∗ own c arg11 s ∗ owesP c ∗ ((wRing c X (2 * k.val - 30) 384 (2 * k.val - 36) ∗ gSl c X k.val ∗ own c arg11 s ∗ owesP c) -∗ wp frame (wpE (defs₀ (F := F)) 𝒱₀ (c : Thread nD τ) none) Set.univ (segW2 arg0 harg0 arg1 harg1 arg11 harg11 k h7 (segAsk arg0 harg0 arg1 harg1 arg11 harg11 k h7 K)) Q))
    ⊢ wp frame (wpE (defs₀ (F := F)) 𝒱₀ (c : Thread nD τ) none) Set.univ (segDelta arg0 harg0 arg1 harg1 arg11 harg11 k (w145 k) K) Q := by
  have h16 := (cond7_iff k).mp h7
  have hlt := trips_lt k
  have h37 := (cond8_iff k).mp h8
  have h411 : ¬ 2 * k.val < 411 := fun h => h9 ((cond9_iff k).mpr h)
  have e : (2 * k.val - 37) % 10 = (2 * k.val - 27) % 10 := by omega
  have H := wring_work2_wait 10 (wFl c X) (wHm c X) (dAn c) (dWr c X) (dDn c X) (wrc c) (wwc c) (wSl c) 384 (2 * k.val - 32) 384 (2 * k.val - 37) (by omega) (by omega) (by omega) (by omega)
  rw [show 2 * k.val - 32 + 1 = 2 * k.val - 31 by omega, show 2 * k.val - 32 + 2 = 2 * k.val - 30 by omega, show 2 * k.val - 37 + 1 = 2 * k.val - 36 by omega] at H
  unfold wRing
  unfold segDelta; rw [dif_pos h7]
  rw [wp_bind]
  iintro ⟨HR, Hg, Ho, HW, Hk⟩
  ihave HR := H $$ HR
  icases HR with ⟨⟨Ha, HF, Hc⟩, ⟨Ha1, HF1, Hc1⟩, ⟨Hhq, HWq, Hrq⟩, Hback⟩
  iapply (part22_run c X arg0 harg0 arg1 harg1 arg11 harg11 k h7 (w145 k) s)
  isplitl [Hg]; · iexact Hg
  isplitl [Ho]; · iexact Ho
  isplitl [HF]; · iexact HF
  isplitl [HW]; · iexact HW
  iintro %r ⟨Hg, Ho, Hs, Hr, Hh, HW⟩
  rw [wp_bind]
  iapply (part23_last c X arg0 harg0 arg1 harg1 arg11 harg11 k h7 h8 h9 e hD _ _ _ _ s)
  isplitl [Hg]; · iexact Hg
  isplitl [Ho]; · iexact Ho
  isplitl [Hs]; · iexact Hs
  isplitl [Hc]; · iexact Hc
  isplitl [Ha]; · iexact Ha
  isplitl [HF1]; · iexact HF1
  isplitl [Hc1]; · iexact Hc1
  isplitl [Ha1]; · iexact Ha1
  isplitl [HW]; · iexact HW
  isplitl [HWq]; · iexact HWq
  iintro %r' ⟨Hg, Ho, HWn, HWn1, Hr1, Hh1, HW, HDq, HSl, Hcl⟩
  iapply Hk
  isplitl [Hback Hh HWn Hr Hh1 HWn1 Hr1 Hhq HDq Hrq HSl Hcl]
  · iapply Hback
    isplitl [Hh HWn Hr]
    · isplitl [Hh]; · iexact Hh
      isplitl [HWn]; · iexact HWn
      iexact Hr
    isplitl [Hh1 HWn1 Hr1]
    · isplitl [Hh1]; · iexact Hh1
      isplitl [HWn1]; · iexact HWn1
      iexact Hr1
    isplitl [Hhq]; · iexact Hhq
    isplitl [HDq]; · iexact HDq
    rw [wSl_eq c e, wwc_eq c e]
    isplitl [HSl]; · iexact HSl
    isplitl [Hrq]; · iexact Hrq
    iexact Hcl
  isplitl [Hg]; · iexact Hg
  isplitl [Ho]; · iexact Ho
  iexact HW

set_option maxHeartbeats 1000000 in
theorem w2_run (k : Fin k0_t3_loop.trips) (h7 : k0_cond7 k = 1#1) (K : Prog (TpuEff nD τ sig (Elt F) Λ₀ .tc) Unit) (Q : Unit → sProp 𝕄) :
    iprop(wRing c X (2 * k.val - 30) (min 384 (max 10 (2 * k.val - 26))) (2 * k.val - 36) ∗ owesP c ∗ ((wRing c X (2 * k.val - 30) (min 384 (max 10 (2 * k.val - 25))) (2 * k.val - 35) ∗ owesP c) -∗ wp frame (wpE (defs₀ (F := F)) 𝒱₀ (c : Thread nD τ) none) Set.univ K Q))
    ⊢ wp frame (wpE (defs₀ (F := F)) 𝒱₀ (c : Thread nD τ) none) Set.univ (segW2 arg0 harg0 arg1 harg1 arg11 harg11 k h7 K) Q := by
  have h16 := (cond7_iff k).mp h7
  have hlt := trips_lt k
  by_cases h10 : k0_cond10 k = 1#1
  · have h36 := (cond10_iff k).mp h10
    have e : (2 * k.val - 36) % 10 = (2 * k.val - 26) % 10 := by omega
    by_cases h11 : k0_cond11 k = 1#1
    · have h410 := (cond11_iff k).mp h11
      have H := wring_turn 10 (wFl c X) (wHm c X) (dAn c) (dWr c X) (dDn c X) (wrc c) (wwc c) (wSl c) 384 (2 * k.val - 30) (2 * k.val - 36) (by omega) (by omega) (by omega)
      rw [show 2 * k.val - 36 + 10 = 2 * k.val - 26 by omega, show 2 * k.val - 36 + 1 = 2 * k.val - 35 by omega, show 2 * k.val - 26 + 1 = 2 * k.val - 25 by omega] at H
      rw [show min 384 (max 10 (2 * k.val - 26)) = 2 * k.val - 26 by omega, show min 384 (max 10 (2 * k.val - 25)) = 2 * k.val - 25 by omega]
      unfold wRing
      iintro ⟨HR, HW, Hk⟩
      ihave HR := H $$ HR
      icases HR with ⟨⟨Hhq, HWq, Hrq⟩, ⟨Hal, Hhl⟩, Hback⟩
      iapply (w2_ask c X arg0 harg0 arg1 harg1 arg11 harg11 k h7 h10 h11 e)
      isplitl [HWq]; · iexact HWq
      isplitl [Hrq]; · rw [← wrc_eq c e]; iexact Hrq
      isplitl [Hhl]; · iexact Hhl
      isplitl [HW]; · iexact HW
      iintro ⟨HD, HF, Hc, HW⟩
      iapply Hk
      isplitl [Hback Hhq HD Hal HF Hc]
      · iapply Hback
        isplitl [Hhq HD]
        · isplitl [Hhq]; · iexact Hhq
          isplitl [HD]; · iexact HD
          iempintro
        isplitl [Hal]; · iexact Hal
        isplitl [HF]; · iexact HF
        iexact Hc
      iexact HW
    · have h410 : ¬ 2 * k.val < 410 := fun h => h11 ((cond11_iff k).mpr h)
      have H := wring_wait 10 (wFl c X) (wHm c X) (dAn c) (dWr c X) (dDn c X) (wrc c) (wwc c) (wSl c) 384 (2 * k.val - 30) 384 (2 * k.val - 36) (by omega) (by omega) (by omega)
      rw [show 2 * k.val - 36 + 1 = 2 * k.val - 35 by omega] at H
      rw [show min 384 (max 10 (2 * k.val - 26)) = 384 by omega, show min 384 (max 10 (2 * k.val - 25)) = 384 by omega]
      unfold wRing
      iintro ⟨HR, HW, Hk⟩
      ihave HR := H $$ HR
      icases HR with ⟨HWq, Hback⟩
      iapply (w2_wait c X arg0 harg0 arg1 harg1 arg11 harg11 k h7 h10 h11 e)
      isplitl [HWq]; · iexact HWq
      isplitl [HW]; · iexact HW
      iintro ⟨HD, HS, Hc, HW⟩
      iapply Hk
      isplitl [Hback HD HS Hc]
      · iapply Hback
        rw [wSl_eq c e, wwc_eq c e]
        isplitl [HD]; · iexact HD
        isplitl [HS]; · iexact HS
        iexact Hc
      iexact HW
  · have h36 : ¬ 36 ≤ 2 * k.val := fun h => h10 ((cond10_iff k).mpr h)
    rw [w2_skip arg0 harg0 arg1 harg1 arg11 harg11 k h7 h10,
      show min 384 (max 10 (2 * k.val - 26)) = 10 by omega, show min 384 (max 10 (2 * k.val - 25)) = 10 by omega, show 2 * k.val - 36 = 0 by omega, show 2 * k.val - 35 = 0 by omega]
    iintro ⟨HR, HW, Hk⟩
    iapply Hk
    isplitl [HR]; · iexact HR
    iexact HW

set_option maxHeartbeats 1000000 in
theorem gask_run (k : Fin k0_t3_loop.trips) (h7 : k0_cond7 k = 1#1) (K : Prog (TpuEff nD τ sig (Elt F) Λ₀ .tc) Unit) (Q : Unit → sProp 𝕄) :
    iprop(gRing c X (min 192 (k.val + 1)) (min 192 (max 20 (k.val + 4))) ∗ owesP c ∗ ((gRing c X (min 192 (k.val + 1)) (min 192 (max 20 (k.val + 5))) ∗ owesP c) -∗ wp frame (wpE (defs₀ (F := F)) 𝒱₀ (c : Thread nD τ) none) Set.univ K Q))
    ⊢ wp frame (wpE (defs₀ (F := F)) 𝒱₀ (c : Thread nD τ) none) Set.univ (segAsk arg0 harg0 arg1 harg1 arg11 harg11 k h7 K) Q := by
  have h16 := (cond7_iff k).mp h7
  have hlt := trips_lt k
  by_cases h12 : k0_cond12 k = 1#1
  · have h4 := (cond12_iff k).mp h12
    have H := ring_ask 20 (gFl c X) (gHm c X) (gKp c X) 192 (k.val + 1) (k.val + 4) (k.val - 16) (by omega) (by omega) (by omega) (by omega) (by omega)
    rw [show k.val + 4 + 1 = k.val + 5 by omega] at H
    rw [show min 192 (k.val + 1) = k.val + 1 by omega, show min 192 (max 20 (k.val + 4)) = k.val + 4 by omega, show min 192 (max 20 (k.val + 5)) = k.val + 5 by omega]
    unfold gRing
    iintro ⟨HR, HW, Hk⟩
    ihave HR := H $$ HR
    icases HR with ⟨Hh, Hs, Hback⟩
    iapply (ask_run c X arg0 harg0 arg1 harg1 arg11 harg11 k h7 h12)
    isplitl [Hs]
    · rw [gFr_eq c (i := k.val + 4) (j := k.val - 16) (by omega)]
      iapply (gKp_free c X (k.val - 16)); iexact Hs
    isplitl [Hh]; · iexact Hh
    isplitl [HW]; · iexact HW
    iintro ⟨HF, HW⟩
    iapply Hk
    isplitl [Hback HF]
    · iapply Hback; iexact HF
    iexact HW
  · have h4 : ¬ k.val + 4 < 192 := fun h => h12 ((cond12_iff k).mpr h)
    rw [ask_skip arg0 harg0 arg1 harg1 arg11 harg11 k h7 h12, show min 192 (max 20 (k.val + 4)) = 192 by omega, show min 192 (max 20 (k.val + 5)) = 192 by omega]
    iintro ⟨HR, HW, Hk⟩
    iapply Hk
    isplitl [HR]; · iexact HR
    iexact HW

set_option maxHeartbeats 2000000 in
/-- The part of a trip that is a batch behind. -/
theorem delta_run (k : Fin k0_t3_loop.trips) (hD : ∀ i f, X.okD i f) (s : St F c arg11) (K : Prog (TpuEff nD τ sig (Elt F) Λ₀ .tc) Unit) (Q : Unit → sProp 𝕄) :
    iprop(gRing c X (min 192 (k.val + 1)) (min 192 (max 20 (k.val + 4))) ∗ wRing c X (2 * k.val - 32) (min 384 (max 10 (2 * k.val - 27))) (2 * k.val - 37)
      ∗ own c arg11 s ∗ owesP c
      ∗ ((gRing c X (min 192 (k.val + 1)) (min 192 (max 20 (k.val + 5))) ∗ wRing c X (2 * k.val - 30) (min 384 (max 10 (2 * k.val - 25))) (2 * k.val - 35)
        ∗ own c arg11 s ∗ owesP c) -∗ wp frame (wpE (defs₀ (F := F)) 𝒱₀ (c : Thread nD τ) none) Set.univ K Q))
    ⊢ wp frame (wpE (defs₀ (F := F)) 𝒱₀ (c : Thread nD τ) none) Set.univ (segDelta arg0 harg0 arg1 harg1 arg11 harg11 k (w145 k) K) Q := by
  have hlt := trips_lt k
  by_cases h7 : k0_cond7 k = 1#1
  · have h16 := (cond7_iff k).mp h7
    have HM : iprop(wRing c X (2 * k.val - 32) (min 384 (max 10 (2 * k.val - 27))) (2 * k.val - 37) ∗ gSl c X k.val ∗ own c arg11 s ∗ owesP c
        ∗ ((wRing c X (2 * k.val - 30) (min 384 (max 10 (2 * k.val - 26))) (2 * k.val - 36) ∗ gSl c X k.val ∗ own c arg11 s ∗ owesP c)
          -∗ wp frame (wpE (defs₀ (F := F)) 𝒱₀ (c : Thread nD τ) none) Set.univ (segW2 arg0 harg0 arg1 harg1 arg11 harg11 k h7 (segAsk arg0 harg0 arg1 harg1 arg11 harg11 k h7 K)) Q))
      ⊢ wp frame (wpE (defs₀ (F := F)) 𝒱₀ (c : Thread nD τ) none) Set.univ (segDelta arg0 harg0 arg1 harg1 arg11 harg11 k (w145 k) K) Q := by
      by_cases h8 : k0_cond8 k = 1#1
      · have h37 := (cond8_iff k).mp h8
        by_cases h9 : k0_cond9 k = 1#1
        · have h411 := (cond9_iff k).mp h9
          rw [show min 384 (max 10 (2 * k.val - 27)) = 2 * k.val - 27 by omega, show min 384 (max 10 (2 * k.val - 26)) = 2 * k.val - 26 by omega]
          exact mid_ask c X arg0 harg0 arg1 harg1 arg11 harg11 k h7 h8 h9 hD s K Q
        · have h411 : ¬ 2 * k.val < 411 := fun h => h9 ((cond9_iff k).mpr h)
          rw [show min 384 (max 10 (2 * k.val - 27)) = 384 by omega, show min 384 (max 10 (2 * k.val - 26)) = 384 by omega]
          exact mid_last c X arg0 harg0 arg1 harg1 arg11 harg11 k h7 h8 h9 hD s K Q
      · have h37 : ¬ 37 ≤ 2 * k.val := fun h => h8 ((cond8_iff k).mpr h)
        rw [show min 384 (max 10 (2 * k.val - 27)) = 10 by omega, show min 384 (max 10 (2 * k.val - 26)) = 10 by omega,
          show 2 * k.val - 37 = 0 by omega, show 2 * k.val - 36 = 0 by omega]
        exact mid_first c X arg0 harg0 arg1 harg1 arg11 harg11 k h7 h8 hD s K Q
    have H := ring_read 20 (gFl c X) (gHm c X) (gKp c X) 192 (min 192 (k.val + 1)) (min 192 (max 20 (k.val + 4))) (k.val - 16) (by omega) (by omega) (by omega)
    rw [gKp_as c X k.val h16] at H
    iintro ⟨HR, HW, Ho, HO, Hk⟩
    ihave HR2 := (show gRing c X (min 192 (k.val + 1)) (min 192 (max 20 (k.val + 4))) ⊢ _ from H) $$ HR
    icases HR2 with ⟨⟨Hs, Hc⟩, Hback⟩
    iapply HM
    isplitl [HW]; · iexact HW
    isplitl [Hs]; · iexact Hs
    isplitl [Ho]; · iexact Ho
    isplitl [HO]; · iexact HO
    iintro ⟨HW, Hs, Ho, HO⟩
    iapply (w2_run c X arg0 harg0 arg1 harg1 arg11 harg11 k h7)
    isplitl [HW]; · iexact HW
    isplitl [HO]; · iexact HO
    iintro ⟨HW, HO⟩
    iapply (gask_run c X arg0 harg0 arg1 harg1 arg11 harg11 k h7)
    isplitl [Hback Hs Hc]
    · unfold gRing
      iapply Hback
      isplitl [Hs]; · iexact Hs
      iexact Hc
    isplitl [HO]; · iexact HO
    iintro ⟨HR, HO⟩
    iapply Hk
    isplitl [HR]; · iexact HR
    isplitl [HW]; · iexact HW
    isplitl [Ho]; · iexact Ho
    iexact HO
  · have h16 : ¬ 16 ≤ k.val := fun h => h7 ((cond7_iff k).mpr h)
    unfold segDelta; rw [dif_neg h7]
    rw [show min 192 (max 20 (k.val + 5)) = min 192 (max 20 (k.val + 4)) by omega, show 2 * k.val - 32 = 0 by omega, show 2 * k.val - 30 = 0 by omega,
      show min 384 (max 10 (2 * k.val - 27)) = 10 by omega, show min 384 (max 10 (2 * k.val - 25)) = 10 by omega, show 2 * k.val - 37 = 0 by omega, show 2 * k.val - 35 = 0 by omega]
    iintro ⟨HR, HW, Ho, HO, Hk⟩
    iapply Hk
    isplitl [HR]; · iexact HR
    isplitl [HW]; · iexact HW
    isplitl [Ho]; · iexact Ho
    iexact HO

end Cert.Proof.Kernel

end
-- ==== Proof.Trip.lean ====
/- A trip of the main loop. -/
module

public import proofs.«01_k».proof.Proof.TripStart
public import proofs.«01_k».proof.Proof.TripDelta

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

variable (stp : Buf (Elt F) (arg0.view.loc (c : Thread nD τ))) (prv : Buf (Elt F) (arg1.view.loc (c : Thread nD τ)))

/-- What is known of the state as the trips go: before a trip, after a batch's start, after a block. -/
structure Plan where
  Good : ℕ → St F c arg11 → Prop
  Mid : ℕ → St F c arg11 → Prop
  Done : ℕ → St F c arg11 → Prop
  openB : ∀ (k : Fin k0_t3_loop.trips) (h1 : k0_cond1 k = 1#1) (h2 : k0_cond2 k = 1#1) (s : St F c arg11) nm nms nv nvs,
    Good k.val s → Mid k.val (beginSt c arg0 arg11 k h1 h2 stp s nm nms nv nvs)
  stay : ∀ (k : Fin k0_t3_loop.trips) (s : St F c arg11), k0_cond1 k = 1#1 → ¬ k0_cond2 k = 1#1 → Good k.val s → Mid k.val s
  block : ∀ (k : Fin k0_t3_loop.trips) (h1 : k0_cond1 k = 1#1) (s : St F c arg11), Mid k.val s → Done k.val ((blockRun c X arg0 harg0 arg1 harg1 arg11 harg11 k h1 s).1.put s)
  ends : ∀ (k : Fin k0_t3_loop.trips) (s : St F c arg11), k0_cond1 k = 1#1 → k0_cond5 k = 1#1 → Done k.val s → Ends c X arg11 (k.val / 16) s
  close : ∀ (k : Fin k0_t3_loop.trips) (h1 : k0_cond1 k = 1#1) (h5 : k0_cond5 k = 1#1) (s : St F c arg11), Done k.val s → Good (k.val + 1) (endSt c arg1 arg11 k h1 h5 prv s)
  pass : ∀ (k : Fin k0_t3_loop.trips) (s : St F c arg11), k0_cond1 k = 1#1 → ¬ k0_cond5 k = 1#1 → Done k.val s → Good (k.val + 1) s
  late : ∀ (k : Fin k0_t3_loop.trips) (s : St F c arg11), ¬ k0_cond1 k = 1#1 → Good k.val s → Good (k.val + 1) s
  first : ∀ i f, X.okD i f

variable {stp prv}
variable (P : Plan c X arg0 harg0 arg1 harg1 arg11 harg11 stp prv)

/-- The slots of the batch at work. -/
def midR (t : ℕ) (s : St F c arg11) : sProp 𝕄 := if t < 192 ∧ ¬ t % 16 = 0 then iprop(slots c arg11 (t / 16) s ∗ slotCells c (t / 16)) else BI.emp
/-- The row factors: at work, then sent. -/
def chR (t : ℕ) (s : St F c arg11) : sProp 𝕄 :=
  if t ≤ 192 then iprop(chOwn c arg11 s ∗ (∃ f, (Memref.whole main_v0_1 : Memref sig .tc .hbm S12x2048 .f32).view.loc (c : Thread nD τ) ↦[(Memref.whole main_v0_1 : Memref sig .tc .hbm S12x2048 .f32).view.set]{fullShare} f) ∗ cellP c cc0_scratch24) else chFl c arg11 s

/-- What is owned before trip `t`. -/
def inv3 (t : ℕ) : sProp 𝕄 := iprop(∃ s : St F c arg11, ⌜P.Good t s⌝
  ∗ gRing c X (min 192 t) (min 192 (max 20 (t + 4))) ∗ wRing c X (2 * t - 32) (min 384 (max 10 (2 * t - 27))) (2 * t - 37)
  ∗ insR c X (min 12 ((t + 15) / 16)) ∗ outsR c X (min 12 (t / 16)) (min 12 ((t + 15) / 16)) ∗ midR c arg11 t s ∗ chR c arg11 t s
  ∗ own c arg11 s ∗ stepOwn c arg0 stp ∗ prevOwn c arg1 prv ∗ owesP c)

set_option maxHeartbeats 1000000 in
/-- A block and, if it is the last of its batch, the batch's end. -/
theorem moments_run (k : Fin k0_t3_loop.trips) (h1 : k0_cond1 k = 1#1) (s : St F c arg11) (hs : P.Mid k.val s) (l : ℕ) (hl : k.val < l) (hl' : l ≤ k.val + 20) (K : Prog (TpuEff nD τ sig (Elt F) Λ₀ .tc) Unit) (Q : Unit → sProp 𝕄) :
    iprop(gRing c X k.val l ∗ insR c X (k.val / 16 + 1) ∗ outsR c X (k.val / 16) (k.val / 16 + 1) ∗ chOwn c arg11 s ∗ own c arg11 s
      ∗ slots c arg11 (k.val / 16) s ∗ slotCells c (k.val / 16) ∗ prevOwn c arg1 prv ∗ owesP c
      ∗ (∀ s', (⌜P.Good (k.val + 1) s'⌝ ∗ gRing c X (k.val + 1) l ∗ insR c X (k.val / 16 + 1) ∗ outsR c X ((k.val + 1) / 16) (k.val / 16 + 1) ∗ midR c arg11 (k.val + 1) s'
        ∗ chOwn c arg11 s' ∗ own c arg11 s' ∗ prevOwn c arg1 prv ∗ owesP c) -∗ wp frame (wpE (defs₀ (F := F)) 𝒱₀ (c : Thread nD τ) none) Set.univ K Q))
    ⊢ wp frame (wpE (defs₀ (F := F)) 𝒱₀ (c : Thread nD τ) none) Set.univ (segMoments arg0 harg0 arg1 harg1 arg11 harg11 k (w145 k) h1 (segEnd arg0 harg0 arg1 harg1 arg11 harg11 k (Scalar.divsi (w145 k) 16#32) h1 K)) Q := by
  have hk := (cond1_iff k).mp h1
  have hb : k.val / 16 < 12 := by omega
  have HG := ring_wait 20 (gFl c X) (gHm c X) (gKp c X) 192 k.val l hl hl' hk
  have HD := P.block k h1 s hs
  have HB := (blockRun c X arg0 harg0 arg1 harg1 arg11 harg11 k h1 s).2
  revert HD HB
  generalize (blockRun c X arg0 harg0 arg1 harg1 arg11 harg11 k h1 s).1.put s = s1
  intro HD HB
  iintro ⟨HR, HI, HU, Hch, Ho, Hs, Hc, Hp, HW, Hk⟩
  ihave HR := (show gRing c X k.val l ⊢ _ from HG) $$ HR
  icases HR with ⟨HF, HR⟩
  ihave HI := (ins_read c X (k.val / 16) hb) $$ HI
  icases HI with ⟨Hkp, HI⟩
  iapply HB
  isplitl [HF]; · iexact HF
  isplitl [Hkp]; · iexact Hkp
  isplitl [Hch]; · iexact Hch
  isplitl [Ho]; · iexact Ho
  isplitl [Hs]; · iexact Hs
  isplitl [HW]; · iexact HW
  iintro ⟨Hgh, Hgk, Hkp, Hch, Ho, Hs, HW⟩
  by_cases h5 : k0_cond5 k = 1#1
  · have h15 := (cond5_iff k).mp h5
    ihave HU := (outs_sent c X (k.val / 16) hb) $$ HU
    icases HU with ⟨Han, HU⟩
    iapply (end_send c X arg0 harg0 arg1 harg1 arg11 harg11 k h1 h5 _ s1 (P.ends k s1 h1 h5 HD) prv)
    isplitl [Han]; · iexact Han
    isplitl [Ho]; · iexact Ho
    isplitl [Hs]; · iexact Hs
    isplitl [Hc]; · iexact Hc
    isplitl [Hp]; · iexact Hp
    isplitl [HW]; · iexact HW
    iintro ⟨Hfl, Ho, Hp, HW⟩
    iapply Hk
    isplitl []; · ipureintro; exact P.close k h1 h5 s1 HD
    isplitl [HR Hgh Hgk]
    · unfold gRing; iapply HR
      isplitl [Hgh]; · iexact Hgh
      iexact Hgk
    isplitl [HI Hkp]; · iapply HI; iexact Hkp
    isplitl [HU Hfl]
    · rw [show (k.val + 1) / 16 = k.val / 16 + 1 by omega]
      iapply HU; iexact Hfl
    isplitl []
    · unfold midR; rw [if_neg (by omega)]; iempintro
    isplitl [Hch]; · iexact Hch
    isplitl [Ho]; · iexact Ho
    isplitl [Hp]; · iexact Hp
    iexact HW
  · have h15 : ¬ k.val % 16 = 15 := fun h => h5 ((cond5_iff k).mpr h)
    rw [end_skip arg0 harg0 arg1 harg1 arg11 harg11 k h1 h5]
    iapply Hk
    isplitl []; · ipureintro; exact P.pass k s1 h1 h5 HD
    isplitl [HR Hgh Hgk]
    · unfold gRing; iapply HR
      isplitl [Hgh]; · iexact Hgh
      iexact Hgk
    isplitl [HI Hkp]; · iapply HI; iexact Hkp
    isplitl [HU]
    · rw [show (k.val + 1) / 16 = k.val / 16 by omega]
      iexact HU
    isplitl [Hs Hc]
    · unfold midR; rw [if_pos (by omega), show (k.val + 1) / 16 = k.val / 16 by omega]
      isplitl [Hs]; · iexact Hs
      iexact Hc
    isplitl [Hch]; · iexact Hch
    isplitl [Ho]; · iexact Ho
    isplitl [Hp]; · iexact Hp
    iexact HW

set_option maxHeartbeats 1000000 in
/-- The part of a trip that works on a block. -/
theorem block_run (k : Fin k0_t3_loop.trips) (h1 : k0_cond1 k = 1#1) (s : St F c arg11) (hs : P.Good k.val s) (l : ℕ) (hl : k.val < l) (hl' : l ≤ k.val + 20) (K : Prog (TpuEff nD τ sig (Elt F) Λ₀ .tc) Unit) (Q : Unit → sProp 𝕄) :
    iprop(gRing c X k.val l ∗ insR c X (min 12 ((k.val + 15) / 16)) ∗ outsR c X (k.val / 16) (min 12 ((k.val + 15) / 16)) ∗ midR c arg11 k.val s ∗ chOwn c arg11 s ∗ own c arg11 s
      ∗ stepOwn c arg0 stp ∗ prevOwn c arg1 prv ∗ owesP c
      ∗ (∀ s', (⌜P.Good (k.val + 1) s'⌝ ∗ gRing c X (k.val + 1) l ∗ insR c X (k.val / 16 + 1) ∗ outsR c X ((k.val + 1) / 16) (k.val / 16 + 1) ∗ midR c arg11 (k.val + 1) s'
        ∗ chOwn c arg11 s' ∗ own c arg11 s' ∗ stepOwn c arg0 stp ∗ prevOwn c arg1 prv ∗ owesP c) -∗ wp frame (wpE (defs₀ (F := F)) 𝒱₀ (c : Thread nD τ) none) Set.univ K Q))
    ⊢ wp frame (wpE (defs₀ (F := F)) 𝒱₀ (c : Thread nD τ) none) Set.univ (segBlock arg0 harg0 arg1 harg1 arg11 harg11 k (w145 k) K) Q := by
  have hk := (cond1_iff k).mp h1
  rw [segBlock_split arg0 harg0 arg1 harg1 arg11 harg11 k (w145 k) h1 K]
  by_cases h2 : k0_cond2 k = 1#1
  · have h0 := (cond2_iff k).mp h2
    rw [show min 12 ((k.val + 15) / 16) = k.val / 16 by omega]
    iintro ⟨HR, HI, HU, Hm, Hch, Ho, Hst, Hp, HW, Hk⟩
    iapply (start_run c X arg0 harg0 arg1 harg1 arg11 harg11 k h1 h2 _ s stp)
    isplitl [HI]; · iexact HI
    isplitl [HU]; · iexact HU
    isplitl [Ho]; · iexact Ho
    isplitl [Hst]; · iexact Hst
    isplitl [HW]; · iexact HW
    iintro ⟨HU, HI, ⟨%nm, %nms, %nv, %nvs, Ho, Hs⟩, Hc, Hst, HW⟩
    iapply (moments_run c X arg0 harg0 arg1 harg1 arg11 harg11 P k h1 (beginSt c arg0 arg11 k h1 h2 stp s nm nms nv nvs) (P.openB k h1 h2 s nm nms nv nvs hs) l hl hl')
    isplitl [HR]; · iexact HR
    isplitl [HI]; · iexact HI
    isplitl [HU]; · iexact HU
    isplitl [Hch]; · iexact Hch
    isplitl [Ho]; · iexact Ho
    isplitl [Hs]; · iexact Hs
    isplitl [Hc]; · iexact Hc
    isplitl [Hp]; · iexact Hp
    isplitl [HW]; · iexact HW
    iintro %s' ⟨%hg, HR, HI, HU, Hm, Hch, Ho, Hp, HW⟩
    iapply Hk
    isplitl []; · ipureintro; exact hg
    isplitl [HR]; · iexact HR
    isplitl [HI]; · iexact HI
    isplitl [HU]; · iexact HU
    isplitl [Hm]; · iexact Hm
    isplitl [Hch]; · iexact Hch
    isplitl [Ho]; · iexact Ho
    isplitl [Hst]; · iexact Hst
    isplitl [Hp]; · iexact Hp
    iexact HW
  · have h0 : ¬ k.val % 16 = 0 := fun h => h2 ((cond2_iff k).mpr h)
    unfold segStart; rw [dif_neg h2]
    rw [show min 12 ((k.val + 15) / 16) = k.val / 16 + 1 by omega, show midR c arg11 k.val s = iprop(slots c arg11 (k.val / 16) s ∗ slotCells c (k.val / 16)) by
      unfold midR; rw [if_pos ⟨hk, h0⟩]]
    iintro ⟨HR, HI, HU, ⟨Hs, Hc⟩, Hch, Ho, Hst, Hp, HW, Hk⟩
    iapply (moments_run c X arg0 harg0 arg1 harg1 arg11 harg11 P k h1 s (P.stay k s h1 h2 hs) l hl hl')
    isplitl [HR]; · iexact HR
    isplitl [HI]; · iexact HI
    isplitl [HU]; · iexact HU
    isplitl [Hch]; · iexact Hch
    isplitl [Ho]; · iexact Ho
    isplitl [Hs]; · iexact Hs
    isplitl [Hc]; · iexact Hc
    isplitl [Hp]; · iexact Hp
    isplitl [HW]; · iexact HW
    iintro %s' ⟨%hg, HR, HI, HU, Hm, Hch, Ho, Hp, HW⟩
    iapply Hk
    isplitl []; · ipureintro; exact hg
    isplitl [HR]; · iexact HR
    isplitl [HI]; · iexact HI
    isplitl [HU]; · iexact HU
    isplitl [Hm]; · iexact Hm
    isplitl [Hch]; · iexact Hch
    isplitl [Ho]; · iexact Ho
    isplitl [Hst]; · iexact Hst
    isplitl [Hp]; · iexact Hp
    iexact HW

set_option maxHeartbeats 1000000 in
/-- A trip before the last block is done. -/
theorem trip3_early (k : Fin k0_t3_loop.trips) (h1 : k0_cond1 k = 1#1) :
    inv3 c X arg0 harg0 arg1 harg1 arg11 harg11 P k.val ⊢ wp frame (wpE (defs₀ (F := F)) 𝒱₀ (c : Thread nD τ) none) Set.univ (k0_t3_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k ()) fun _ => inv3 c X arg0 harg0 arg1 harg1 arg11 harg11 P (k.val + 1) := by
  have hk := (cond1_iff k).mp h1
  rw [trip3_split arg0 harg0 arg1 harg1 arg11 harg11 k]
  unfold inv3
  iintro ⟨%s, %hs, HR, Hw, HI, HU, Hm, Hch, Ho, Hst, Hp, HW⟩
  rw [show min 192 k.val = k.val by omega, show min 12 (k.val / 16) = k.val / 16 by omega]
  ihave Hch := (show chR c arg11 k.val s ⊢ iprop(chOwn c arg11 s ∗ (∃ f, (Memref.whole main_v0_1 : Memref sig .tc .hbm S12x2048 .f32).view.loc (c : Thread nD τ) ↦[(Memref.whole main_v0_1 : Memref sig .tc .hbm S12x2048 .f32).view.set]{fullShare} f) ∗ cellP c cc0_scratch24) from entails_of_eq (if_pos (by omega))) $$ Hch
  icases Hch with ⟨Hch, Hv, Hcc⟩
  iapply (block_run c X arg0 harg0 arg1 harg1 arg11 harg11 P k h1 s hs (min 192 (max 20 (k.val + 4))) (by omega) (by omega))
  isplitl [HR]; · iexact HR
  isplitl [HI]; · iexact HI
  isplitl [HU]; · iexact HU
  isplitl [Hm]; · iexact Hm
  isplitl [Hch]; · iexact Hch
  isplitl [Ho]; · iexact Ho
  isplitl [Hst]; · iexact Hst
  isplitl [Hp]; · iexact Hp
  isplitl [HW]; · iexact HW
  iintro %s' ⟨%hg, HR, HI, HU, Hm, Hch, Ho, Hst, Hp, HW⟩
  rw [chan_skip arg0 harg0 arg1 harg1 arg11 harg11 k (by omega)]
  iapply (delta_run c X arg0 harg0 arg1 harg1 arg11 harg11 k P.first s')
  isplitl [HR]; · rw [show min 192 (k.val + 1) = k.val + 1 by omega]; iexact HR
  isplitl [Hw]; · iexact Hw
  isplitl [Ho]; · iexact Ho
  isplitl [HW]; · iexact HW
  iintro ⟨HR, Hw, Ho, HW⟩
  sl_step
  iexists s'
  isplitl []; · ipureintro; exact hg
  isplitl [HR]; · iexact HR
  isplitl [Hw]; · rw [show 2 * (k.val + 1) - 32 = 2 * k.val - 30 by omega, show 2 * (k.val + 1) - 27 = 2 * k.val - 25 by omega, show 2 * (k.val + 1) - 37 = 2 * k.val - 35 by omega]; iexact Hw
  isplitl [HI]; · rw [show min 12 ((k.val + 1 + 15) / 16) = k.val / 16 + 1 by omega]; iexact HI
  isplitl [HU]; · rw [show min 12 ((k.val + 1 + 15) / 16) = k.val / 16 + 1 by omega, show min 12 ((k.val + 1) / 16) = (k.val + 1) / 16 by omega]; iexact HU
  isplitl [Hm]; · iexact Hm
  isplitl [Hch Hv Hcc]
  · unfold chR; rw [if_pos (show k.val + 1 ≤ 192 by omega)]
    isplitl [Hch]; · iexact Hch
    isplitl [Hv]; · iexact Hv
    iexact Hcc
  isplitl [Ho]; · iexact Ho
  isplitl [Hst]; · iexact Hst
  isplitl [Hp]; · iexact Hp
  iexact HW

set_option maxHeartbeats 1000000 in
/-- A trip after the last block is done. -/
theorem trip3_late (k : Fin k0_t3_loop.trips) (h1 : ¬ k0_cond1 k = 1#1) :
    inv3 c X arg0 harg0 arg1 harg1 arg11 harg11 P k.val ⊢ wp frame (wpE (defs₀ (F := F)) 𝒱₀ (c : Thread nD τ) none) Set.univ (k0_t3_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k ()) fun _ => inv3 c X arg0 harg0 arg1 harg1 arg11 harg11 P (k.val + 1) := by
  have hk : ¬ k.val < 192 := fun h => h1 ((cond1_iff k).mpr h)
  have hlt := trips_lt k
  rw [trip3_split arg0 harg0 arg1 harg1 arg11 harg11 k]
  unfold segBlock; rw [dif_neg h1]
  unfold inv3
  iintro ⟨%s, %hs, HR, Hw, HI, HU, Hm, Hch, Ho, Hst, Hp, HW⟩
  have HC : iprop(chR c arg11 k.val s ∗ owesP c ∗ ((chR c arg11 (k.val + 1) s ∗ owesP c) -∗ wp frame (wpE (defs₀ (F := F)) 𝒱₀ (c : Thread nD τ) none) Set.univ (segDelta arg0 harg0 arg1 harg1 arg11 harg11 k (w145 k) (pure ())) fun _ => inv3 c X arg0 harg0 arg1 harg1 arg11 harg11 P (k.val + 1)))
      ⊢ wp frame (wpE (defs₀ (F := F)) 𝒱₀ (c : Thread nD τ) none) Set.univ (segChan arg0 harg0 arg1 harg1 arg11 harg11 (w145 k) (segDelta arg0 harg0 arg1 harg1 arg11 harg11 k (w145 k) (pure ()))) fun _ => inv3 c X arg0 harg0 arg1 harg1 arg11 harg11 P (k.val + 1) := by
    by_cases h : k.val = 192
    · unfold chR; rw [if_pos (by omega), if_neg (by omega)]
      iintro ⟨⟨Hch, Hv, Hcc⟩, HW, Hk⟩
      iapply (chan_send c arg0 harg0 arg1 harg1 arg11 harg11 k h s)
      isplitl [Hv]; · iexact Hv
      isplitl [Hcc]; · iexact Hcc
      isplitl [Hch]; · iexact Hch
      isplitl [HW]; · iexact HW
      iexact Hk
    · unfold chR; rw [if_neg (by omega), if_neg (by omega), chan_skip arg0 harg0 arg1 harg1 arg11 harg11 k h]
      iintro ⟨Hch, HW, Hk⟩
      iapply Hk
      isplitl [Hch]; · iexact Hch
      iexact HW
  unfold inv3 at HC
  iapply HC
  isplitl [Hch]; · iexact Hch
  isplitl [HW]; · iexact HW
  iintro ⟨Hch, HW⟩
  iapply (delta_run c X arg0 harg0 arg1 harg1 arg11 harg11 k P.first s)
  isplitl [HR]; · rw [show min 192 (k.val + 1) = min 192 k.val by omega]; iexact HR
  isplitl [Hw]; · iexact Hw
  isplitl [Ho]; · iexact Ho
  isplitl [HW]; · iexact HW
  iintro ⟨HR, Hw, Ho, HW⟩
  sl_step
  iexists s
  isplitl []; · ipureintro; exact P.late k s h1 hs
  isplitl [HR]; · iexact HR
  isplitl [Hw]; · rw [show 2 * (k.val + 1) - 32 = 2 * k.val - 30 by omega, show 2 * (k.val + 1) - 27 = 2 * k.val - 25 by omega, show 2 * (k.val + 1) - 37 = 2 * k.val - 35 by omega]; iexact Hw
  isplitl [HI]; · rw [show min 12 ((k.val + 1 + 15) / 16) = min 12 ((k.val + 15) / 16) by omega]; iexact HI
  isplitl [HU]; · rw [show min 12 ((k.val + 1 + 15) / 16) = min 12 ((k.val + 15) / 16) by omega, show min 12 ((k.val + 1) / 16) = min 12 (k.val / 16) by omega]; iexact HU
  isplitl [Hm]
  · rw [show midR c arg11 (k.val + 1) s = midR c arg11 k.val s from (if_neg (by omega)).trans (if_neg (by omega)).symm]; iexact Hm
  isplitl [Hch]; · iexact Hch
  isplitl [Ho]; · iexact Ho
  isplitl [Hst]; · iexact Hst
  isplitl [Hp]; · iexact Hp
  iexact HW

/-- One trip. -/
theorem trip3_run (k : Fin k0_t3_loop.trips) :
    inv3 c X arg0 harg0 arg1 harg1 arg11 harg11 P k.val ⊢ wp frame (wpE (defs₀ (F := F)) 𝒱₀ (c : Thread nD τ) none) Set.univ (k0_t3_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k ()) fun _ => inv3 c X arg0 harg0 arg1 harg1 arg11 harg11 P (k.val + 1) := by
  by_cases h1 : k0_cond1 k = 1#1
  · exact trip3_early c X arg0 harg0 arg1 harg1 arg11 harg11 P k h1
  · exact trip3_late c X arg0 harg0 arg1 harg1 arg11 harg11 P k h1

set_option warn.classDefReducibility false in
@[sl_loop] def loopInv3 : LoopInvTy_k0_t3 (F := F) Unit ℕ (UU nD τ) ℕ 𝒱₀ c none Set.univ arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 where
  inv k _ := inv3 c X arg0 harg0 arg1 harg1 arg11 harg11 P k
  step k _ := trip3_run c X arg0 harg0 arg1 harg1 arg11 harg11 P k

end Cert.Proof.Kernel

end
-- ==== Proof.First.lean ====
/- The two loops that start the first reads. -/
module

public import proofs.«01_k».proof.Proof.Pieces

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

/-! ## The first reads of `g` -/

/-- The slots not yet used before the `k`-th read. -/
def gFree (k : ℕ) : sProp 𝕄 := bigSep (Finset.range 20) (fun i => if k ≤ i then gFr c i else BI.emp)
theorem gFree_take (k : ℕ) (hk : k < 20) : (gFree c k : sProp 𝕄) ⊢ iprop(gFr c k ∗ gFree c (k + 1)) := by
  have H := take1 20 (fun i => (if k ≤ i then gFr c i else BI.emp : sProp 𝕄)) (fun i => if k + 1 ≤ i then gFr c i else BI.emp) k hk fun j _ hj => by
    by_cases h : k ≤ j
    · rw [if_pos h, if_pos (show k + 1 ≤ j by omega)]
    · rw [if_neg h, if_neg (show ¬k + 1 ≤ j by omega)]
  rw [if_pos (le_refl k), if_neg (show ¬k + 1 ≤ k by omega)] at H
  unfold gFree
  iintro HR
  ihave H2 := H $$ HR
  icases H2 with ⟨H1, Hw⟩
  isplitl [H1]; · iexact H1
  iapply Hw; iempintro

def inv1 (k : ℕ) : sProp 𝕄 := iprop(gRing c X 0 k ∗ gFree c k ∗ owesP c)

abbrev trip1 (k : Fin k0_t1_loop.trips) : Prog (TpuEff nD τ sig (Elt F) Λ₀ .tc) Unit :=
  k0_t1_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k ()

theorem trip1_run (k : Fin k0_t1_loop.trips) :
    inv1 c X k.val ⊢ wp frame (wpE (defs₀ (F := F)) 𝒱₀ (c : Thread nD τ) none) Set.univ (trip1 arg0 harg0 arg1 harg1 arg11 harg11 k)
      (fun _ => inv1 c X (k.val + 1)) := by
  have hk : k.val < 20 := k.isLt
  unfold inv1 gRing owesP
  iintro ⟨HR, HF, ⟨%W, HW⟩⟩
  ihave H := (ring_ask0 20 (gFl c X) (gHm c X) (gKp c X) 192 0 k.val (Nat.zero_le _) hk (by omega)) $$ HR
  icases H with ⟨Hh, Hback⟩
  ihave H := (gFree_take c k.val hk) $$ HF
  icases H with ⟨Hf, HF⟩
  unfold gFr gHm
  icases Hf with ⟨⟨%f, Hs⟩, Hc⟩
  dsimp only [trip1]
  sl_unfold [k0_t1_body]
  sl_exec
  sl_step
  isplitl [Hback Hc]
  · iapply Hback
    unfold gFl
    iexists f
    iexact Hc
  isplitl [HF]; · iexact HF
  iexists _; iexact HW

set_option warn.classDefReducibility false in
@[sl_loop] def loopInv1 : LoopInvTy_k0_t1 (F := F) Unit ℕ (UU nD τ) ℕ 𝒱₀ c none Set.univ arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 where
  inv k _ := inv1 c X k
  step k _ := trip1_run c X arg0 harg0 arg1 harg1 arg11 harg11 k

/-! ## The first reads of `w` -/

def wFree (k : ℕ) : sProp 𝕄 := bigSep (Finset.range 10) (fun i => if k ≤ i then wFr c i else BI.emp)
theorem wFree_take (k : ℕ) (hk : k < 10) : (wFree c k : sProp 𝕄) ⊢ iprop(wFr c k ∗ wFree c (k + 1)) := by
  have H := take1 10 (fun i => (if k ≤ i then wFr c i else BI.emp : sProp 𝕄)) (fun i => if k + 1 ≤ i then wFr c i else BI.emp) k hk fun j _ hj => by
    by_cases h : k ≤ j
    · rw [if_pos h, if_pos (show k + 1 ≤ j by omega)]
    · rw [if_neg h, if_neg (show ¬k + 1 ≤ j by omega)]
  rw [if_pos (le_refl k), if_neg (show ¬k + 1 ≤ k by omega)] at H
  unfold wFree
  iintro HR
  ihave H2 := H $$ HR
  icases H2 with ⟨H1, Hw⟩
  isplitl [H1]; · iexact H1
  iapply Hw; iempintro

def inv2 (k : ℕ) : sProp 𝕄 := iprop(wRing c X 0 k 0 ∗ wFree c k ∗ owesP c)

abbrev trip2 (k : Fin k0_t2_loop.trips) : Prog (TpuEff nD τ sig (Elt F) Λ₀ .tc) Unit :=
  k0_t2_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 k ()

theorem trip2_run (k : Fin k0_t2_loop.trips) :
    inv2 c X k.val ⊢ wp frame (wpE (defs₀ (F := F)) 𝒱₀ (c : Thread nD τ) none) Set.univ (trip2 arg0 harg0 arg1 harg1 arg11 harg11 k)
      (fun _ => inv2 c X (k.val + 1)) := by
  have hk : k.val < 10 := k.isLt
  unfold inv2 wRing owesP
  iintro ⟨HR, HF, ⟨%W, HW⟩⟩
  ihave H := (wring_ask0 10 (wFl c X) (wHm c X) (dAn c) (dWr c X) (dDn c X) (wrc c) (wwc c) (wSl c) 384 0 k.val 0 (Nat.zero_le _) hk (by omega)) $$ HR
  icases H with ⟨Hh, Hback⟩
  ihave H := (wFree_take c k.val hk) $$ HF
  icases H with ⟨Hf, HF⟩
  unfold wFr wSl wrc wHm
  icases Hf with ⟨⟨%f, Hs⟩, Hc, Hwc⟩
  dsimp only [trip2]
  sl_unfold [k0_t2_body]
  sl_exec
  sl_step
  isplitl [Hback Hc Hwc]
  · iapply Hback
    isplitl [Hc]
    · unfold wFl
      iexists f
      iexact Hc
    iexact Hwc
  isplitl [HF]; · iexact HF
  iexists _; iexact HW

set_option warn.classDefReducibility false in
@[sl_loop] def loopInv2 : LoopInvTy_k0_t2 (F := F) Unit ℕ (UU nD τ) ℕ 𝒱₀ c none Set.univ arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 where
  inv k _ := inv2 c X k
  step k _ := trip2_run c X arg0 harg0 arg1 harg1 arg11 harg11 k

end Cert.Proof.Kernel

end
-- ==== Proof.PartRuns.lean ====
/- What the pieces of the body do. -/
module

public import proofs.«01_k».proof.Proof.Parts
public import proofs.«01_k».proof.Proof.Trip
public import proofs.«01_k».proof.Proof.First

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

set_option maxHeartbeats 1000000 in
/-- The first batch's codes and scales are asked for. -/
theorem first_run (Q : PUnit → sProp 𝕄) :
    iprop(inHm c X 0 ∗ inFr c 0 ∗ owesP c ∗ ((inFl c X 0 ∗ owesP c) -∗ Q ⟨⟩)) ⊢ wp frame (wpE (defs₀ (F := F)) 𝒱₀ (c : Thread nD τ) none) Set.univ (k0_part24 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24) Q := by
  unfold inHm inFr inFl owesP
  unfold mcHm msHm vcHm vsHm mcFr msFr vcFr vsFr
  iintro ⟨⟨Hmc, Hms, Hvc, Hvs⟩, ⟨⟨⟨%fmc, Smc⟩, Cmc⟩, ⟨⟨%fms, Sms⟩, Cms⟩, ⟨⟨%fvc, Svc⟩, Cvc⟩, ⟨⟨%fvs, Svs⟩, Cvs⟩⟩, ⟨%W, HW⟩, Hk⟩
  sl_unfold [k0_part24]
  sl_exec
  sl_step
  iapply Hk
  isplitl [Cmc Cms Cvc Cvs]
  · isplitl [Cmc]
    · unfold mcFl; iexists _; iexact Cmc
    isplitl [Cms]
    · unfold msFl; iexists _; iexact Cms
    isplitl [Cvc]
    · unfold vcFl; iexists _; iexact Cvc
    unfold vsFl; iexists _; iexact Cvs
  iexists _; iexact HW

theorem loop1_run {β : Type} (kk : PUnit → Prog (TpuEff nD τ sig (Elt F) Λ₀ .tc) β) (Q : β → sProp 𝕄) :
    iprop(inv1 c X 0 ∗ (inv1 c X 20 -∗ wp frame (wpE (defs₀ (F := F)) 𝒱₀ (c : Thread nD τ) none) Set.univ (kk ⟨⟩) Q)) ⊢ wp frame (wpE (defs₀ (F := F)) 𝒱₀ (c : Thread nD τ) none) Set.univ (Scf.Loop.for k0_t1_loop k0_t1_ok ⟨⟩ (k0_t1_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24) >>= kk) Q := by
  iintro ⟨HI, HK⟩
  ihave H := (show inv1 c X 0 ⊢ _ from Scf.wp_for_bind frame (wpE (defs₀ (F := F)) 𝒱₀ (c : Thread nD τ) none) Set.univ k0_t1_loop.lb k0_t1_loop.ub k0_t1_loop.st k0_t1_ok ⟨⟩ (k0_t1_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24) (fun k _ => inv1 c X k) (fun k _ => trip1_run c X arg0 harg0 arg1 harg1 arg11 harg11 k) (kk := kk) (Q := Q)) $$ HI
  iapply H
  iintro %acc HI
  iapply HK
  rw [show Scf.trips k0_t1_loop.lb k0_t1_loop.ub k0_t1_loop.st = 20 from by decide]
  iexact HI

theorem loop2_run {β : Type} (kk : PUnit → Prog (TpuEff nD τ sig (Elt F) Λ₀ .tc) β) (Q : β → sProp 𝕄) :
    iprop(inv2 c X 0 ∗ (inv2 c X 10 -∗ wp frame (wpE (defs₀ (F := F)) 𝒱₀ (c : Thread nD τ) none) Set.univ (kk ⟨⟩) Q)) ⊢ wp frame (wpE (defs₀ (F := F)) 𝒱₀ (c : Thread nD τ) none) Set.univ (Scf.Loop.for k0_t2_loop k0_t2_ok ⟨⟩ (k0_t2_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24) >>= kk) Q := by
  iintro ⟨HI, HK⟩
  ihave H := (show inv2 c X 0 ⊢ _ from Scf.wp_for_bind frame (wpE (defs₀ (F := F)) 𝒱₀ (c : Thread nD τ) none) Set.univ k0_t2_loop.lb k0_t2_loop.ub k0_t2_loop.st k0_t2_ok ⟨⟩ (k0_t2_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24) (fun k _ => inv2 c X k) (fun k _ => trip2_run c X arg0 harg0 arg1 harg1 arg11 harg11 k) (kk := kk) (Q := Q)) $$ HI
  iapply H
  iintro %acc HI
  iapply HK
  rw [show Scf.trips k0_t2_loop.lb k0_t2_loop.ub k0_t2_loop.st = 10 from by decide]
  iexact HI

set_option maxHeartbeats 1000000 in
/-- The first reads of the other arrays are asked for, the row factors are cleared. -/
theorem head_run (s : St F c arg11) {α : Type} (K : Prog (TpuEff nD τ sig (Elt F) Λ₀ .tc) α) (Q : α → sProp 𝕄) :
    iprop(pHm c X 0 ∗ pFr c 0 ∗ gRing c X 0 0 ∗ gFree c 0 ∗ wRing c X 0 0 0 ∗ wFree c 0 ∗ chOwn c arg11 s ∗ owesP c
      ∗ (∀ f, (pFl c X 0 ∗ gRing c X 0 20 ∗ wRing c X 0 10 0 ∗ chOwn c arg11 { s with ch := f } ∗ owesP c) -∗ wp frame (wpE (defs₀ (F := F)) 𝒱₀ (c : Thread nD τ) none) Set.univ K Q))
    ⊢ wp frame (wpE (defs₀ (F := F)) 𝒱₀ (c : Thread nD τ) none) Set.univ (segHead arg0 harg0 arg1 harg1 arg11 harg11 K) Q := by
  unfold pHm pFr chOwn
  iintro ⟨Hp, ⟨⟨%fp, Sp⟩, Cp⟩, HG, HGf, Hw, Hwf, Hch, HW, Hk⟩
  unfold owesP
  icases HW with ⟨%W, HW⟩
  unfold segHead
  sl_exec
  iapply (loop1_run c X arg0 harg0 arg1 harg1 arg11 harg11)
  unfold inv1
  isplitl [HG HGf HW]
  · isplitl [HG]; · iexact HG
    isplitl [HGf]; · iexact HGf
    unfold owesP; iexists _; iexact HW
  iintro ⟨HG, HGf, HW⟩
  iapply (loop2_run c X arg0 harg0 arg1 harg1 arg11 harg11)
  unfold inv2
  isplitl [Hw Hwf HW]
  · isplitl [Hw]; · iexact Hw
    isplitl [Hwf]; · iexact Hwf
    iexact HW
  iintro ⟨Hw, Hwf, HW⟩
  sl_exec
  iapply Hk
  unfold pFl
  isplitl [Cp]; · iexists _; iexact Cp
  isplitl [HG]; · iexact HG
  isplitl [Hw]; · iexact Hw
  isplitl [Hch]; · iexact Hch
  unfold owesP; iexact HW

set_option maxHeartbeats 1000000 in
theorem tail_run (Q : _ → sProp 𝕄) :
    iprop(dWr c X 379 ∗ owesP c ∗ (∀ r, (dDn c X 379 ∗ wSl c 379 ∗ wwc c 379 ∗ owesP c) -∗ Q r)) ⊢ wp frame (wpE (defs₀ (F := F)) 𝒱₀ (c : Thread nD τ) none) Set.univ (segTail (F := F)) Q := by
  unfold dWr dDn wSl wwc owesP
  iintro ⟨⟨%f, %f', %h, H⟩, ⟨%W, HW⟩, Hk⟩
  unfold segTail
  sl_exec
  sl_step
  iapply Hk
  isplitl [H_dst]
  · iexists f; isplitl []; · ipureintro; exact h
    iexact H_dst
  isplitl [H_src]; · iexists _; iexact H_src
  isplitl [H]; · iexact H
  iexists _; iexact HW

set_option maxHeartbeats 1000000 in
/-- Two more waits. -/
theorem part26_run (Q : Unit → sProp 𝕄) :
    iprop(dWr c X 380 ∗ dWr c X 381 ∗ owesP c
      ∗ (((dDn c X 380 ∗ wSl c 380 ∗ wwc c 380) ∗ (dDn c X 381 ∗ wSl c 381 ∗ wwc c 381) ∗ owesP c) -∗ Q ()))
    ⊢ wp frame (wpE (defs₀ (F := F)) 𝒱₀ (c : Thread nD τ) none) Set.univ (k0_part26 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 380#32 10#32) Q := by
  unfold dDn dWr wSl wwc owesP
  iintro ⟨⟨%f0, %g0, %h0, H0⟩, ⟨%f1, %g1, %h1, H1⟩, ⟨%W, HW⟩, Hk⟩
  sl_unfold [k0_part26]
  sl_exec
  sl_step
  iapply Hk
  isplitl [H0_dst H0_src H0]
  · isplitl [H0_dst]
    · iexists f0; isplitl []; · ipureintro; exact h0
      iexact H0_dst
    isplitl [H0_src]; · iexists _; iexact H0_src
    iexact H0
  isplitl [H1_dst H1_src H1]
  · isplitl [H1_dst]
    · iexists f1; isplitl []; · ipureintro; exact h1
      iexact H1_dst
    isplitl [H1_src]; · iexists _; iexact H1_src
    iexact H1
  iexists _; iexact HW

set_option maxHeartbeats 1000000 in
/-- Four more waits. -/
theorem part27_run (Q : Unit → sProp 𝕄) :
    iprop(dWr c X 382 ∗ dWr c X 383 ∗ nmFl c X 10 ∗ nmsFl c X 10 ∗ owesP c
      ∗ (((dDn c X 382 ∗ wSl c 382 ∗ wwc c 382) ∗ (dDn c X 383 ∗ wSl c 383 ∗ wwc c 383) ∗ (nmDn c X 10 ∗ nmFr c 10) ∗ (nmsDn c X 10 ∗ nmsFr c 10) ∗ owesP c) -∗ Q ()))
    ⊢ wp frame (wpE (defs₀ (F := F)) 𝒱₀ (c : Thread nD τ) none) Set.univ (k0_part27 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24) Q := by
  unfold dDn dWr nmDn nmFl nmFr nmsDn nmsFl nmsFr wSl wwc owesP
  iintro ⟨⟨%f0, %g0, %h0, H0⟩, ⟨%f1, %g1, %h1, H1⟩, ⟨%f2, %g2, %h2, H2⟩, ⟨%f3, %g3, %h3, H3⟩, ⟨%W, HW⟩, Hk⟩
  sl_unfold [k0_part27]
  sl_exec
  sl_step
  iapply Hk
  isplitl [H0_dst H0_src H0]
  · isplitl [H0_dst]
    · iexists f0; isplitl []; · ipureintro; exact h0
      iexact H0_dst
    isplitl [H0_src]; · iexists _; iexact H0_src
    iexact H0
  isplitl [H1_dst H1_src H1]
  · isplitl [H1_dst]
    · iexists f1; isplitl []; · ipureintro; exact h1
      iexact H1_dst
    isplitl [H1_src]; · iexists _; iexact H1_src
    iexact H1
  isplitl [H2_dst H2_src H2]
  · isplitl [H2_dst]
    · iexists f2; isplitl []; · ipureintro; exact h2
      iexact H2_dst
    isplitl [H2_src]; · iexists _; iexact H2_src
    iexact H2
  isplitl [H3_dst H3_src H3]
  · isplitl [H3_dst]
    · iexists f3; isplitl []; · ipureintro; exact h3
      iexact H3_dst
    isplitl [H3_src]; · iexists _; iexact H3_src
    iexact H3
  iexists _; iexact HW

set_option maxHeartbeats 1000000 in
/-- Four more waits. -/
theorem part28_run (Q : Unit → sProp 𝕄) :
    iprop(nvFl c X 10 ∗ nvsFl c X 10 ∗ nmFl c X 11 ∗ nmsFl c X 11 ∗ owesP c
      ∗ (((nvDn c X 10 ∗ nvFr c 10) ∗ (nvsDn c X 10 ∗ nvsFr c 10) ∗ (nmDn c X 11 ∗ nmFr c 11) ∗ (nmsDn c X 11 ∗ nmsFr c 11) ∗ owesP c) -∗ Q ()))
    ⊢ wp frame (wpE (defs₀ (F := F)) 𝒱₀ (c : Thread nD τ) none) Set.univ (k0_part28 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24) Q := by
  unfold nmDn nmFl nmFr nmsDn nmsFl nmsFr nvDn nvFl nvFr nvsDn nvsFl nvsFr owesP
  iintro ⟨⟨%f0, %g0, %h0, H0⟩, ⟨%f1, %g1, %h1, H1⟩, ⟨%f2, %g2, %h2, H2⟩, ⟨%f3, %g3, %h3, H3⟩, ⟨%W, HW⟩, Hk⟩
  sl_unfold [k0_part28]
  sl_exec
  sl_step
  iapply Hk
  isplitl [H0_dst H0_src H0]
  · isplitl [H0_dst]
    · iexists f0; isplitl []; · ipureintro; exact h0
      iexact H0_dst
    isplitl [H0_src]; · iexists _; iexact H0_src
    iexact H0
  isplitl [H1_dst H1_src H1]
  · isplitl [H1_dst]
    · iexists f1; isplitl []; · ipureintro; exact h1
      iexact H1_dst
    isplitl [H1_src]; · iexists _; iexact H1_src
    iexact H1
  isplitl [H2_dst H2_src H2]
  · isplitl [H2_dst]
    · iexists f2; isplitl []; · ipureintro; exact h2
      iexact H2_dst
    isplitl [H2_src]; · iexists _; iexact H2_src
    iexact H2
  isplitl [H3_dst H3_src H3]
  · isplitl [H3_dst]
    · iexists f3; isplitl []; · ipureintro; exact h3
      iexact H3_dst
    isplitl [H3_src]; · iexists _; iexact H3_src
    iexact H3
  iexists _; iexact HW

set_option maxHeartbeats 1000000 in
/-- The last waits. -/
theorem rest_run (s : St F c arg11) (Q : Unit → sProp 𝕄) :
    iprop(nvFl c X 11 ∗ nvsFl c X 11 ∗ chFl c arg11 s ∗ owesP c
      ∗ (((nvDn c X 11 ∗ nvFr c 11) ∗ (nvsDn c X 11 ∗ nvsFr c 11) ∗ ((∃ f, (Memref.whole main_v0_1 : Memref sig .tc .hbm S12x2048 .f32).view.loc (c : Thread nD τ) ↦[(Memref.whole main_v0_1 : Memref sig .tc .hbm S12x2048 .f32).view.set]{fullShare} (Memref.whole main_v0_1 : Memref sig .tc .hbm S12x2048 .f32).view.writes (Elt F) f [⟨Rect.whole main_v0_1.ty.shape, ReadAs.same.apply ((Memref.whole cc0_scratch11 : Memref sig .tc .vmem S12x2048 .f32).view.read (Elt F) s.ch)⟩]) ∗ chOwn c arg11 s ∗ cellP c cc0_scratch24) ∗ owesP c) -∗ Q ()))
    ⊢ wp frame (wpE (defs₀ (F := F)) 𝒱₀ (c : Thread nD τ) none) Set.univ (segRest (F := F) arg0 harg0 arg1 harg1 arg11 harg11) Q := by
  unfold chFl chOwn nvDn nvFl nvFr nvsDn nvsFl nvsFr owesP
  iintro ⟨⟨%f0, %g0, %h0, H0⟩, ⟨%f1, %g1, %h1, H1⟩, ⟨%f2, H2⟩, ⟨%W, HW⟩, Hk⟩
  unfold segRest
  sl_exec
  sl_step
  iapply Hk
  isplitl [H0_dst H0_src H0]
  · isplitl [H0_dst]
    · iexists f0; isplitl []; · ipureintro; exact h0
      iexact H0_dst
    isplitl [H0_src]; · iexists _; iexact H0_src
    iexact H0
  isplitl [H1_dst H1_src H1]
  · isplitl [H1_dst]
    · iexists f1; isplitl []; · ipureintro; exact h1
      iexact H1_dst
    isplitl [H1_src]; · iexists _; iexact H1_src
    iexact H1
  isplitl [H2_dst H2_src H2]
  · isplitl [H2_dst]
    · iexists _; iexact H2_dst
    isplitl [H2_src]; · iexact H2_src
    iexact H2
  iexists _; iexact HW

end Cert.Proof.Kernel

end
-- ==== Proof.Body.lean ====
/- The kernel from its start to its end. -/
module

public import proofs.«01_k».proof.Proof.PartRuns

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section
variable {M : Type _} [URA M] (S : ℕ) (Rd Hm An Wr Dn rc wc Sl : ℕ → sProp M)

/-- Two writes waited for together. -/
theorem wring_wait2 (N p l q : ℕ) (hq : q + 1 < p) (hl : l ≤ q + S) (hN : q + 1 < N) :
    wring S Rd Hm An Wr Dn rc wc Sl N p l q
      ⊢ iprop(Wr q ∗ Wr (q + 1) ∗ (((Dn q ∗ Sl q ∗ wc q) ∗ (Dn (q + 1) ∗ Sl (q + 1) ∗ wc (q + 1))) -∗ wring S Rd Hm An Wr Dn rc wc Sl N p l (q + 2))) := by
  have H := take2 N (wStat S Rd Hm An Wr Dn rc wc Sl p l q) (wStat S Rd Hm An Wr Dn rc wc Sl p l (q + 2)) q (q + 1) (by omega) hN (by omega) fun j _ hj hj' => by
    unfold wStat; by_cases h : p ≤ j
    · rw [if_pos h, if_pos h]
    · rw [if_neg h, if_neg h]; by_cases h' : q ≤ j
      · rw [if_pos h', if_pos (show q + 2 ≤ j by omega)]
      · rw [if_neg h', if_neg (show ¬q + 2 ≤ j by omega)]
  rw [show wStat S Rd Hm An Wr Dn rc wc Sl p l q q = iprop(Hm q ∗ Wr q ∗ rc q) by unfold wStat; rw [if_neg (by omega), if_pos (by omega)],
    show wStat S Rd Hm An Wr Dn rc wc Sl p l q (q + 1) = iprop(Hm (q + 1) ∗ Wr (q + 1) ∗ rc (q + 1)) by unfold wStat; rw [if_neg (by omega), if_pos (by omega)],
    show wStat S Rd Hm An Wr Dn rc wc Sl p l (q + 2) q = iprop(Hm q ∗ Dn q ∗ Sl q ∗ rc q ∗ wc q) by
      unfold wStat; rw [if_neg (by omega), if_neg (by omega), if_pos (by omega)],
    show wStat S Rd Hm An Wr Dn rc wc Sl p l (q + 2) (q + 1) = iprop(Hm (q + 1) ∗ Dn (q + 1) ∗ Sl (q + 1) ∗ rc (q + 1) ∗ wc (q + 1)) by
      unfold wStat; rw [if_neg (by omega), if_neg (by omega), if_pos (by omega)]] at H
  unfold wring
  iintro HR
  ihave H2 := H $$ HR
  icases H2 with ⟨⟨Hh, Hr, Hc⟩, ⟨Hh', Hr', Hc'⟩, Hw⟩
  isplitl [Hr]; · iexact Hr
  isplitl [Hr']; · iexact Hr'
  iintro ⟨⟨Hd, Hs, Hwc⟩, ⟨Hd', Hs', Hwc'⟩⟩
  iapply Hw
  isplitl [Hh Hd Hs Hc Hwc]
  · isplitl [Hh]; · iexact Hh
    isplitl [Hd]; · iexact Hd
    isplitl [Hs]; · iexact Hs
    isplitl [Hc]; · iexact Hc
    iexact Hwc
  isplitl [Hh']; · iexact Hh'
  isplitl [Hd']; · iexact Hd'
  isplitl [Hs']; · iexact Hs'
  isplitl [Hc']; · iexact Hc'
  iexact Hwc'

end

variable (c : Dev nD) (X : Src F c)
  (arg0 : Memref sig .tc .smem S12 .i32) (harg0 : arg0.IsWhole)
  (arg1 : Memref sig .tc .smem S12 .f32) (harg1 : arg1.IsWhole)
  (arg11 : Memref sig .tc .smem S12 .f32) (harg11 : arg11.IsWhole)

variable (stp : Buf (Elt F) (arg0.view.loc (c : Thread nD τ))) (prv : Buf (Elt F) (arg1.view.loc (c : Thread nD τ)))
variable (P : Plan c X arg0 harg0 arg1 harg1 arg11 harg11 stp prv)

theorem gRing_at {p l p' l' : ℕ} (h : p = p') (h' : l = l') : (gRing c X p l : sProp 𝕄) = gRing c X p' l' := by rw [h, h']
theorem wRing_at {p l q p' l' q' : ℕ} (h : p = p') (h' : l = l') (h'' : q = q') : (wRing c X p l q : sProp 𝕄) = wRing c X p' l' q' := by rw [h, h', h'']

/-- What is owned once the loop and the wait after it are done. -/
def looped (s : St F c arg11) : sProp 𝕄 := iprop(gRing c X 192 192 ∗ wRing c X 384 384 380
  ∗ insR c X 12 ∗ outsR c X 12 12 ∗ chFl c arg11 s ∗ own c arg11 s ∗ stepOwn c arg0 stp ∗ prevOwn c arg1 prv ∗ owesP c)

set_option maxHeartbeats 1000000 in
theorem main_run (s : St F c arg11) (hs : P.Good 0 s) (Q : _ → sProp 𝕄) :
    iprop(gRing c X 0 20 ∗ wRing c X 0 10 0 ∗ insR c X 0 ∗ outsR c X 0 0 ∗ chOwn c arg11 s
      ∗ (∃ f, (Memref.whole main_v0_1 : Memref sig .tc .hbm S12x2048 .f32).view.loc (c : Thread nD τ) ↦[(Memref.whole main_v0_1 : Memref sig .tc .hbm S12x2048 .f32).view.set]{fullShare} f) ∗ cellP c cc0_scratch24
      ∗ own c arg11 s ∗ stepOwn c arg0 stp ∗ prevOwn c arg1 prv ∗ owesP c
      ∗ (∀ r, (∃ s', ⌜P.Good 208 s'⌝ ∗ looped c X arg0 arg1 arg11 stp prv s') -∗ Q r))
    ⊢ wp frame (wpE (defs₀ (F := F)) 𝒱₀ (c : Thread nD τ) none) Set.univ (segMain (F := F) arg0 harg0 arg1 harg1 arg11 harg11) Q := by
  iintro ⟨HG, Hw, Hi, Ho, Hch, Hc1, Hcc, Hown, Hst, Hpr, HW, HK⟩
  unfold segMain
  ihave H := (show inv3 c X arg0 harg0 arg1 harg1 arg11 harg11 P 0 ⊢ _ from Scf.wp_for_bind frame (wpE (defs₀ (F := F)) 𝒱₀ (c : Thread nD τ) none) Set.univ k0_t3_loop.lb k0_t3_loop.ub k0_t3_loop.st k0_t3_ok ⟨⟩ (k0_t3_body (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24) (fun k _ => inv3 c X arg0 harg0 arg1 harg1 arg11 harg11 P k) (fun k _ => trip3_run c X arg0 harg0 arg1 harg1 arg11 harg11 P k) (kk := fun _ => segTail) (Q := Q)) $$ [HG Hw Hi Ho Hch Hc1 Hcc Hown Hst Hpr HW]
  · unfold inv3
    iexists s
    isplitr; · ipureintro; exact hs
    isplitl [HG]; · rw [gRing_at c X (show min 192 0 = 0 by omega) (show min 192 (max 20 (0 + 4)) = 20 by omega)]; iexact HG
    isplitl [Hw]; · rw [wRing_at c X (show 2 * 0 - 32 = 0 by omega) (show min 384 (max 10 (2 * 0 - 27)) = 10 by omega) (show 2 * 0 - 37 = 0 by omega)]; iexact Hw
    isplitl [Hi]; · rw [show min 12 ((0 + 15) / 16) = 0 by omega]; iexact Hi
    isplitl [Ho]; · iexact Ho
    isplitr
    · rw [show midR c arg11 0 s = (BI.emp : sProp 𝕄) from if_neg (by omega)]; iempintro
    isplitl [Hch Hc1 Hcc]
    · unfold chR; rw [if_pos (by omega)]
      isplitl [Hch]; · iexact Hch
      isplitl [Hc1]; · iexact Hc1
      iexact Hcc
    isplitl [Hown]; · iexact Hown
    isplitl [Hst]; · iexact Hst
    isplitl [Hpr]; · iexact Hpr
    iexact HW
  iapply H
  iintro %acc HI
  ihave HI := (show inv3 c X arg0 harg0 arg1 harg1 arg11 harg11 P (Scf.trips k0_t3_loop.lb k0_t3_loop.ub k0_t3_loop.st) ⊢ inv3 c X arg0 harg0 arg1 harg1 arg11 harg11 P 208 from
    entails_of_eq (congrArg (inv3 c X arg0 harg0 arg1 harg1 arg11 harg11 P) (by decide))) $$ HI
  unfold inv3
  icases HI with ⟨%s', %hs', HG, Hw, Hi, Ho, -, Hch, Hown, Hst, Hpr, HW⟩
  ihave HG := (entails_of_eq (gRing_at c X (show min 192 208 = 192 by omega) (show min 192 (max 20 (208 + 4)) = 192 by omega))) $$ HG
  ihave Hw := (entails_of_eq (wRing_at c X (show 2 * 208 - 32 = 384 by omega) (show min 384 (max 10 (2 * 208 - 27)) = 384 by omega) (show 2 * 208 - 37 = 379 by omega))) $$ Hw
  ihave Hi := (entails_of_eq (congrArg (insR c X) (show min 12 ((208 + 15) / 16) = 12 by omega))) $$ Hi
  ihave Ho := (entails_of_eq (congrArg₂ (outsR c X) (show min 12 (208 / 16) = 12 by omega) (show min 12 ((208 + 15) / 16) = 12 by omega))) $$ Ho
  ihave Hch := (show chR c arg11 208 s' ⊢ chFl c arg11 s' from entails_of_eq (if_neg (by omega))) $$ Hch
  ihave A := (show wRing c X 384 384 379 ⊢ iprop(dWr c X 379 ∗ ((dDn c X 379 ∗ wSl c 379 ∗ wwc c 379) -∗ wRing c X 384 384 380)) from
    wring_wait 10 _ _ _ _ _ _ _ _ 384 384 384 379 (by decide) (by decide) (by decide)) $$ Hw
  icases A with ⟨A0, Bw⟩
  iapply (tail_run c X Q)
  isplitl [A0]; · iexact A0
  isplitl [HW]; · iexact HW
  iintro %r ⟨D0, D1, D2, HW⟩
  ihave Hw := Bw $$ [D0 D1 D2]
  · isplitl [D0]; · iexact D0
    isplitl [D1]; · iexact D1
    iexact D2
  iapply HK
  iexists s'
  isplitr; · ipureintro; exact hs'
  unfold looped
  isplitl [HG]; · iexact HG
  isplitl [Hw]; · iexact Hw
  isplitl [Hi]; · iexact Hi
  isplitl [Ho]; · iexact Ho
  isplitl [Hch]; · iexact Hch
  isplitl [Hown]; · iexact Hown
  isplitl [Hst]; · iexact Hst
  isplitl [Hpr]; · iexact Hpr
  iexact HW

/-- What the kernel owns when it starts. -/
def bodyPre (s : St F c arg11) : sProp 𝕄 := iprop(pRing c X 0 0 ∗ mcRing c X 0 0 ∗ msRing c X 0 0 ∗ vcRing c X 0 0 ∗ vsRing c X 0 0
  ∗ pFr c 0 ∗ pFr c 1 ∗ inFr c 0 ∗ inFr c 1 ∗ gRing c X 0 0 ∗ gFree c 0 ∗ wRing c X 0 0 0 ∗ wFree c 0
  ∗ nmOuts c X 0 0 ∗ nmsOuts c X 0 0 ∗ nvOuts c X 0 0 ∗ nvsOuts c X 0 0 ∗ outFr c 0 ∗ outFr c 1
  ∗ (∃ f, (Memref.whole main_v0_1 : Memref sig .tc .hbm S12x2048 .f32).view.loc (c : Thread nD τ) ↦[(Memref.whole main_v0_1 : Memref sig .tc .hbm S12x2048 .f32).view.set]{fullShare} f) ∗ cellP c cc0_scratch24
  ∗ chOwn c arg11 s ∗ own c arg11 s ∗ stepOwn c arg0 stp ∗ prevOwn c arg1 prv ∗ owesP c)

/-- What it owns when it is done. -/
def bodyPost (s : St F c arg11) : sProp 𝕄 := iprop(pRing c X 12 12 ∗ mcRing c X 12 12 ∗ msRing c X 12 12 ∗ vcRing c X 12 12 ∗ vsRing c X 12 12
  ∗ gRing c X 192 192 ∗ wRing c X 384 384 384
  ∗ nmOuts c X 12 12 ∗ nmsOuts c X 12 12 ∗ nvOuts c X 12 12 ∗ nvsOuts c X 12 12 ∗ outFr c 0 ∗ outFr c 1
  ∗ (∃ f, (Memref.whole main_v0_1 : Memref sig .tc .hbm S12x2048 .f32).view.loc (c : Thread nD τ) ↦[(Memref.whole main_v0_1 : Memref sig .tc .hbm S12x2048 .f32).view.set]{fullShare} (Memref.whole main_v0_1 : Memref sig .tc .hbm S12x2048 .f32).view.writes (Elt F) f [⟨Rect.whole main_v0_1.ty.shape, ReadAs.same.apply ((Memref.whole cc0_scratch11 : Memref sig .tc .vmem S12x2048 .f32).view.read (Elt F) s.ch)⟩]) ∗ cellP c cc0_scratch24
  ∗ chOwn c arg11 s ∗ own c arg11 s ∗ stepOwn c arg0 stp ∗ prevOwn c arg1 prv ∗ owesP c)

theorem insR_end : (insR c X 12 : sProp 𝕄) ⊢ iprop(pRing c X 12 12 ∗ mcRing c X 12 12 ∗ msRing c X 12 12 ∗ vcRing c X 12 12 ∗ vsRing c X 12 12) := by
  unfold insR
  iintro ⟨Hp, Hmc, Hms, Hvc, Hvs, -⟩
  rw [show min 12 (12 + 1) = 12 by omega]
  isplitl [Hp]; · iexact Hp
  isplitl [Hmc]; · iexact Hmc
  isplitl [Hms]; · iexact Hms
  isplitl [Hvc]; · iexact Hvc
  iexact Hvs
theorem outsR_end : (outsR c X 12 12 : sProp 𝕄) ⊢ iprop(nmOuts c X 12 10 ∗ nmsOuts c X 12 10 ∗ nvOuts c X 12 10 ∗ nvsOuts c X 12 10) := by
  unfold outsR
  iintro ⟨Hnm, Hnms, Hnv, Hnvs, -, -⟩
  isplitl [Hnm]; · iexact Hnm
  isplitl [Hnms]; · iexact Hnms
  isplitl [Hnv]; · iexact Hnv
  iexact Hnvs

set_option maxHeartbeats 1000000 in
/-- The loop's last waits. -/
theorem drain_run (s : St F c arg11) (Q : Unit → sProp 𝕄) :
    iprop(looped c X arg0 arg1 arg11 stp prv s ∗ (bodyPost c X arg0 arg1 arg11 stp prv s -∗ Q ()))
    ⊢ wp frame (wpE (defs₀ (F := F)) 𝒱₀ (c : Thread nD τ) none) Set.univ (do
      k0_part26 (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 380#32 10#32
      k0_part27 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24
      k0_part28 arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24
      segRest arg0 harg0 arg1 harg1 arg11 harg11) Q := by
  unfold looped
  iintro ⟨⟨HG, Hw, Hi, Ho, Hch, Hown, Hst, Hpr, HW⟩, HK⟩
  ihave Ho := (outsR_end c X) $$ Ho
  icases Ho with ⟨Onm, Onms, Onv, Onvs⟩
  ihave A := (show wRing c X 384 384 380 ⊢ iprop(dWr c X 380 ∗ dWr c X 381 ∗ (((dDn c X 380 ∗ wSl c 380 ∗ wwc c 380) ∗ (dDn c X 381 ∗ wSl c 381 ∗ wwc c 381)) -∗ wRing c X 384 384 382)) from
    wring_wait2 10 _ _ _ _ _ _ _ _ 384 384 384 380 (by decide) (by decide) (by decide)) $$ Hw
  icases A with ⟨A0, A1, Bw⟩
  rw [wp_bind]
  iapply (part26_run c X arg0 harg0 arg1 harg1 arg11 harg11)
  isplitl [A0]; · iexact A0
  isplitl [A1]; · iexact A1
  isplitl [HW]; · iexact HW
  iintro ⟨D0, D1, HW⟩
  ihave Hw := Bw $$ [D0 D1]
  · isplitl [D0]; · iexact D0
    iexact D1
  ihave A := (show wRing c X 384 384 382 ⊢ iprop(dWr c X 382 ∗ dWr c X 383 ∗ (((dDn c X 382 ∗ wSl c 382 ∗ wwc c 382) ∗ (dDn c X 383 ∗ wSl c 383 ∗ wwc c 383)) -∗ wRing c X 384 384 384)) from
    wring_wait2 10 _ _ _ _ _ _ _ _ 384 384 384 382 (by decide) (by decide) (by decide)) $$ Hw
  icases A with ⟨A0, A1, Bw⟩
  ihave A := (show nmOuts c X 12 10 ⊢ iprop(nmFl c X 10 ∗ (nmDn c X 10 -∗ nmOuts c X 12 11)) from outs_wait _ _ _ 12 12 10 (by decide) (by decide)) $$ Onm
  icases A with ⟨Anm, Bnm⟩
  ihave A := (show nmsOuts c X 12 10 ⊢ iprop(nmsFl c X 10 ∗ (nmsDn c X 10 -∗ nmsOuts c X 12 11)) from outs_wait _ _ _ 12 12 10 (by decide) (by decide)) $$ Onms
  icases A with ⟨Anms, Bnms⟩
  rw [wp_bind]
  iapply (part27_run c X arg0 harg0 arg1 harg1 arg11 harg11)
  isplitl [A0]; · iexact A0
  isplitl [A1]; · iexact A1
  isplitl [Anm]; · iexact Anm
  isplitl [Anms]; · iexact Anms
  isplitl [HW]; · iexact HW
  iintro ⟨D0, D1, ⟨Dnm, Gnm⟩, ⟨Dnms, Gnms⟩, HW⟩
  ihave Hw := Bw $$ [D0 D1]
  · isplitl [D0]; · iexact D0
    iexact D1
  ihave Onm := Bnm $$ Dnm
  ihave Onms := Bnms $$ Dnms
  ihave A := (show nvOuts c X 12 10 ⊢ iprop(nvFl c X 10 ∗ (nvDn c X 10 -∗ nvOuts c X 12 11)) from outs_wait _ _ _ 12 12 10 (by decide) (by decide)) $$ Onv
  icases A with ⟨Anv, Bnv⟩
  ihave A := (show nvsOuts c X 12 10 ⊢ iprop(nvsFl c X 10 ∗ (nvsDn c X 10 -∗ nvsOuts c X 12 11)) from outs_wait _ _ _ 12 12 10 (by decide) (by decide)) $$ Onvs
  icases A with ⟨Anvs, Bnvs⟩
  ihave A := (show nmOuts c X 12 11 ⊢ iprop(nmFl c X 11 ∗ (nmDn c X 11 -∗ nmOuts c X 12 12)) from outs_wait _ _ _ 12 12 11 (by decide) (by decide)) $$ Onm
  icases A with ⟨Anm, Bnm⟩
  ihave A := (show nmsOuts c X 12 11 ⊢ iprop(nmsFl c X 11 ∗ (nmsDn c X 11 -∗ nmsOuts c X 12 12)) from outs_wait _ _ _ 12 12 11 (by decide) (by decide)) $$ Onms
  icases A with ⟨Anms, Bnms⟩
  rw [wp_bind]
  iapply (part28_run c X arg0 harg0 arg1 harg1 arg11 harg11)
  isplitl [Anv]; · iexact Anv
  isplitl [Anvs]; · iexact Anvs
  isplitl [Anm]; · iexact Anm
  isplitl [Anms]; · iexact Anms
  isplitl [HW]; · iexact HW
  iintro ⟨⟨Dnv, Gnv⟩, ⟨Dnvs, Gnvs⟩, ⟨Dnm, Jnm⟩, ⟨Dnms, Jnms⟩, HW⟩
  ihave Onm := Bnm $$ Dnm
  ihave Onms := Bnms $$ Dnms
  ihave Onv := Bnv $$ Dnv
  ihave Onvs := Bnvs $$ Dnvs
  ihave A := (show nvOuts c X 12 11 ⊢ iprop(nvFl c X 11 ∗ (nvDn c X 11 -∗ nvOuts c X 12 12)) from outs_wait _ _ _ 12 12 11 (by decide) (by decide)) $$ Onv
  icases A with ⟨Anv, Bnv⟩
  ihave A := (show nvsOuts c X 12 11 ⊢ iprop(nvsFl c X 11 ∗ (nvsDn c X 11 -∗ nvsOuts c X 12 12)) from outs_wait _ _ _ 12 12 11 (by decide) (by decide)) $$ Onvs
  icases A with ⟨Anvs, Bnvs⟩
  iapply (rest_run c X arg0 harg0 arg1 harg1 arg11 harg11 s)
  isplitl [Anv]; · iexact Anv
  isplitl [Anvs]; · iexact Anvs
  isplitl [Hch]; · iexact Hch
  isplitl [HW]; · iexact HW
  iintro ⟨⟨Dnv, Jnv⟩, ⟨Dnvs, Jnvs⟩, ⟨Hc1, Hch, Hcc⟩, HW⟩
  ihave Onv := Bnv $$ Dnv
  ihave Onvs := Bnvs $$ Dnvs
  iapply HK
  unfold bodyPost
  ihave Hi := (insR_end c X) $$ Hi
  icases Hi with ⟨Rp, Rmc, Rms, Rvc, Rvs⟩
  isplitl [Rp]; · iexact Rp
  isplitl [Rmc]; · iexact Rmc
  isplitl [Rms]; · iexact Rms
  isplitl [Rvc]; · iexact Rvc
  isplitl [Rvs]; · iexact Rvs
  isplitl [HG]; · iexact HG
  isplitl [Hw]; · iexact Hw
  isplitl [Onm]; · iexact Onm
  isplitl [Onms]; · iexact Onms
  isplitl [Onv]; · iexact Onv
  isplitl [Onvs]; · iexact Onvs
  isplitl [Gnm Gnms Gnv Gnvs]
  · rw [← outFr_eq c (i := 10) (j := 0) (by decide)]; unfold outFr
    isplitl [Gnm]; · iexact Gnm
    isplitl [Gnms]; · iexact Gnms
    isplitl [Gnv]; · iexact Gnv
    iexact Gnvs
  isplitl [Jnm Jnms Jnv Jnvs]
  · rw [← outFr_eq c (i := 11) (j := 1) (by decide)]; unfold outFr
    isplitl [Jnm]; · iexact Jnm
    isplitl [Jnms]; · iexact Jnms
    isplitl [Jnv]; · iexact Jnv
    iexact Jnvs
  isplitl [Hc1]; · iexact Hc1
  isplitl [Hcc]; · iexact Hcc
  isplitl [Hch]; · iexact Hch
  isplitl [Hown]; · iexact Hown
  isplitl [Hst]; · iexact Hst
  isplitl [Hpr]; · iexact Hpr
  iexact HW

set_option maxHeartbeats 1000000 in
/-- The kernel from its start to its end. -/
theorem body_run (s : St F c arg11) (hs : ∀ f, P.Good 0 { s with ch := f }) (Q : Unit → sProp 𝕄) :
    iprop(bodyPre c X arg0 arg1 arg11 stp prv s ∗ (∀ s', ((⌜P.Good 208 s'⌝ ∗ bodyPost c X arg0 arg1 arg11 stp prv s') -∗ Q ())))
    ⊢ wp frame (wpE (defs₀ (F := F)) 𝒱₀ (c : Thread nD τ) none) Set.univ (cc0_apollo_step (F := F) arg0 harg0 arg1 harg1 _ (hw main_arg0) _ (hw main_arg1) _ (hw main_arg2) _ (hw main_arg3) _ (hw main_arg4) _ (hw main_arg5) _ (hw main_arg6) _ (hw main_v0_0) _ (hw main_v0_1) arg11 harg11 _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24) Q := by
  rw [body_split]
  unfold bodyPre
  iintro ⟨⟨Rp, Rmc, Rms, Rvc, Rvs, Hp0, Hp1, Hi0, Hi1, HG, HGf, Hw, Hwf, Onm, Onms, Onv, Onvs, Ho0, Ho1, Hc1, Hcc, Hch, Hown, Hst, Hpr, HW⟩, Hk⟩
  ihave A := (show pRing c X 0 0 ⊢ iprop(pHm c X 0 ∗ (pFl c X 0 -∗ pRing c X 0 1)) from ring_ask0 2 _ _ _ 12 0 0 (le_refl _) (by decide) (by decide)) $$ Rp
  icases A with ⟨Hp, Bp⟩
  ihave A := (show mcRing c X 0 0 ⊢ iprop(mcHm c X 0 ∗ (mcFl c X 0 -∗ mcRing c X 0 1)) from ring_ask0 2 _ _ _ 12 0 0 (le_refl _) (by decide) (by decide)) $$ Rmc
  icases A with ⟨Hmc, Bmc⟩
  ihave A := (show msRing c X 0 0 ⊢ iprop(msHm c X 0 ∗ (msFl c X 0 -∗ msRing c X 0 1)) from ring_ask0 2 _ _ _ 12 0 0 (le_refl _) (by decide) (by decide)) $$ Rms
  icases A with ⟨Hms, Bms⟩
  ihave A := (show vcRing c X 0 0 ⊢ iprop(vcHm c X 0 ∗ (vcFl c X 0 -∗ vcRing c X 0 1)) from ring_ask0 2 _ _ _ 12 0 0 (le_refl _) (by decide) (by decide)) $$ Rvc
  icases A with ⟨Hvc, Bvc⟩
  ihave A := (show vsRing c X 0 0 ⊢ iprop(vsHm c X 0 ∗ (vsFl c X 0 -∗ vsRing c X 0 1)) from ring_ask0 2 _ _ _ 12 0 0 (le_refl _) (by decide) (by decide)) $$ Rvs
  icases A with ⟨Hvs, Bvs⟩
  rw [wp_bind]
  iapply (first_run c X arg0 harg0 arg1 harg1 arg11 harg11)
  isplitl [Hmc Hms Hvc Hvs]
  · unfold inHm
    isplitl [Hmc]; · iexact Hmc
    isplitl [Hms]; · iexact Hms
    isplitl [Hvc]; · iexact Hvc
    iexact Hvs
  isplitl [Hi0]; · iexact Hi0
  isplitl [HW]; · iexact HW
  unfold inFl
  iintro ⟨⟨Fmc, Fms, Fvc, Fvs⟩, HW⟩
  ihave Rmc := Bmc $$ Fmc
  ihave Rms := Bms $$ Fms
  ihave Rvc := Bvc $$ Fvc
  ihave Rvs := Bvs $$ Fvs
  rw [wp_bind, part25_split]
  iapply (head_run c X arg0 harg0 arg1 harg1 arg11 harg11 s)
  isplitl [Hp]; · iexact Hp
  isplitl [Hp0]; · iexact Hp0
  isplitl [HG]; · iexact HG
  isplitl [HGf]; · iexact HGf
  isplitl [Hw]; · iexact Hw
  isplitl [Hwf]; · iexact Hwf
  isplitl [Hch]; · iexact Hch
  isplitl [HW]; · iexact HW
  iintro %f ⟨Fp, HG, Hw, Hch, HW⟩
  ihave Rp := Bp $$ Fp
  iapply (main_run c X arg0 harg0 arg1 harg1 arg11 harg11 stp prv P { s with ch := f } (hs f))
  isplitl [HG]; · iexact HG
  isplitl [Hw]; · iexact Hw
  isplitl [Rp Rmc Rms Rvc Rvs Hp1 Hi1]
  · unfold insR; rw [show min 12 (0 + 1) = 1 by omega, if_pos rfl]
    isplitl [Rp]; · iexact Rp
    isplitl [Rmc]; · iexact Rmc
    isplitl [Rms]; · iexact Rms
    isplitl [Rvc]; · iexact Rvc
    isplitl [Rvs]; · iexact Rvs
    isplitl [Hp1]; · iexact Hp1
    iexact Hi1
  isplitl [Onm Onms Onv Onvs Ho0 Ho1]
  · unfold outsR; rw [if_pos (show 0 = 0 from rfl), if_pos (show 0 ≤ 1 by omega), show 0 - 2 = 0 by omega]
    isplitl [Onm]; · iexact Onm
    isplitl [Onms]; · iexact Onms
    isplitl [Onv]; · iexact Onv
    isplitl [Onvs]; · iexact Onvs
    isplitl [Ho0]; · iexact Ho0
    iexact Ho1
  isplitl [Hch]; · iexact Hch
  isplitl [Hc1]; · iexact Hc1
  isplitl [Hcc]; · iexact Hcc
  isplitl [Hown]; · iexact Hown
  isplitl [Hst]; · iexact Hst
  isplitl [Hpr]; · iexact Hpr
  isplitl [HW]; · iexact HW
  iintro %r ⟨%s', %hs', HL⟩
  iapply (drain_run c X arg0 harg0 arg1 harg1 arg11 harg11 stp prv s')
  isplitl [HL]; · iexact HL
  iintro HP
  iapply Hk
  isplitr; · ipureintro; exact hs'
  iexact HP

end Cert.Proof.Kernel

end
-- ==== Proof.Shares.lean ====
/- A buffer held whole is its pieces, numbered; pieces given back make it whole. -/
module

public import proofs.«01_k».proof.Proof.Rings
public import Idealize.ShloMosaic.Lib.Ring.AtN

@[expose] public section

namespace Cert.Proof.Rings

open Idealize.ShloMosaic Idealize.ShloMosaic.Tactic
open Idealize.SL Idealize.SL.RA Idealize.SL.BI
open scoped Idealize.SL.BI
open Idealize.SL.BI.BIBase Idealize.SL.BI.Laws Idealize.SL.ProofMode

section Families
variable {M : Type _} [URA M]

theorem range_fin (N : ℕ) (Φ : ℕ → sProp M) : bigSep Finset.univ (fun i : Fin N => Φ i.val) = bigSep (Finset.range N) Φ :=
  Ring.bigSep_fin_eq_range N (fun i : Fin N => Φ i.val) Φ (fun _ _ => rfl)

/-- A family's first part and the rest. -/
theorem range_add (Φ : ℕ → sProp M) (a b : ℕ) :
    bigSep (Finset.range (a + b)) Φ = iprop(bigSep (Finset.range a) Φ ∗ bigSep (Finset.range b) fun i => Φ (a + i)) := by
  rw [Finset.range_eq_Ico, Finset.range_eq_Ico, Finset.range_eq_Ico, ← Finset.Ico_union_Ico_eq_Ico (Nat.zero_le a) (Nat.le_add_right a b),
    bigSep_union (Finset.Ico_disjoint_Ico_consecutive _ _ _)]
  have e : Finset.Ico a (a + b) = (Finset.Ico 0 b).map ⟨fun i => a + i, fun _ _ h => Nat.add_left_cancel h⟩ := by
    ext j; rw [Finset.mem_map, Finset.mem_Ico]
    constructor
    · intro h; exact ⟨j - a, Finset.mem_Ico.mpr ⟨by omega, by omega⟩, show a + (j - a) = j by omega⟩
    · rintro ⟨i, h, e⟩
      have e' : a + i = j := e
      have h' := Finset.mem_Ico.mp h
      omega
  rw [e, bigSep_map]; rfl

/-- A family's first member and the rest. -/
theorem range_head (Φ : ℕ → sProp M) (n : ℕ) :
    bigSep (Finset.range (n + 1)) Φ = iprop(Φ 0 ∗ bigSep (Finset.range n) fun i => Φ (i + 1)) := by
  rw [Nat.add_comm n 1, range_add Φ 1 n, show Finset.range 1 = {0} from rfl, bigSep_singleton]
  exact congrArg (fun P => iprop(Φ 0 ∗ P)) (bigSep_congr fun i _ => by rw [Nat.add_comm])

theorem range_two (Φ : ℕ → sProp M) : bigSep (Finset.range 2) Φ = iprop(Φ 0 ∗ Φ 1) := by
  rw [range_head Φ 1, show Finset.range 1 = {0} from rfl, bigSep_singleton]

/-- What is promised of every member, taken out. -/
theorem promises {I : Type} [DecidableEq I] (p : I → Prop) (Φ : I → sProp M) (s : Finset I) :
    bigSep s (fun i => iprop(⌜p i⌝ ∗ Φ i)) ⊢ iprop(⌜∀ i ∈ s, p i⌝ ∗ bigSep s Φ) := by
  induction s using Finset.induction_on with
  | empty =>
    rw [bigSep_empty, bigSep_empty]
    iintro -
    isplitr
    · ipureintro; intro i hi; exact absurd hi (Finset.notMem_empty i)
    iempintro
  | insert c s hc ih =>
    rw [bigSep_insert hc, bigSep_insert hc]
    refine (show iprop((⌜p c⌝ ∗ Φ c) ∗ bigSep s (fun i => iprop(⌜p i⌝ ∗ Φ i))) ⊢ iprop(⌜∀ i ∈ insert c s, p i⌝ ∗ (Φ c ∗ bigSep s Φ)) from ?_)
    iintro ⟨⟨%h, H⟩, HS⟩
    ihave HS := ih $$ HS
    icases HS with ⟨%hs, HS⟩
    isplitr
    · ipureintro; intro i hi; rcases Finset.mem_insert.mp hi with rfl | h'
      exacts [h, hs _ h']
    isplitl [H]; · iexact H
    iexact HS

/-- What a ring keeps at its end are its slots, free. -/
theorem kept_free (N S : ℕ) [NeZero S] (h : S ≤ N) (Kp Fr : ℕ → sProp M) (hk : ∀ i, Kp i ⊢ Fr i) (hp : ∀ i, Fr (i + S) = Fr i) :
    bigSep (Finset.range N) (fun i => if N ≤ i + S then Kp i else BI.emp) ⊢ bigSep (Finset.range S) Fr := by
  obtain ⟨a, rfl⟩ : ∃ a, N = a + S := ⟨N - S, by omega⟩
  rw [range_add, bigSep_congr (s := Finset.range a) (Ψ := fun _ => BI.emp) fun i hi => if_neg (by have := Finset.mem_range.mp hi; omega), bigSep_emp_const,
    bigSep_congr (s := Finset.range S) (Ψ := fun i => Kp (a + i)) fun i _ => if_pos (by omega), ← Ring.bigSep_range_shift Fr hp a]
  iintro ⟨-, H⟩
  iapply (show bigSep (Finset.range S) (fun i => Kp (a + i)) ⊢ bigSep (Finset.range S) (fun i => Fr (a + i)) from bigSep_mono fun i _ => hk _)
  iexact H

end Families

section Points
variable {nD : Nat} {τ : Topo} {sig : RefSig} {Ix : Type} [DecidableEq Ix] {Val : EltTy → Type} {Name : Type} [DecidableEq Name]
variable {U : Type} [URA U] {Lvl : Type}
local notation "𝕄" => MT nD τ sig Ix Val Name U Lvl
variable {ℓ : Loc nD τ sig} (N : ℕ) (K : ℕ → Finset (Idx ℓ)) (key : Idx ℓ → ℕ) (hlt : ∀ y, key y < N) (hk : ∀ i < N, ∀ y, y ∈ K i ↔ key y = i)

include hlt hk in
/-- A buffer whole is its pieces. -/
theorem share_eq {q : PosShare TreeShare} (f : Buf Val ℓ) : (ℓ ↦{q} f : sProp 𝕄) = bigSep (Finset.range N) fun i => ℓ ↦[K i]{q} f := by
  rw [← range_fin N fun i => (ℓ ↦[K i]{q} f : sProp 𝕄)]
  exact Ring.pointsTo_blocks (fun i : Fin N => K i.val)
    (fun b b' h => Finset.disjoint_left.mpr fun y hy hy' => h (Fin.ext (((hk _ b.isLt y).mp hy).symm.trans ((hk _ b'.isLt y).mp hy'))))
    (by ext y; simp only [Finset.mem_biUnion, Finset.mem_univ, true_and, iff_true]; exact ⟨⟨key y, hlt y⟩, (hk _ (hlt y) y).mpr rfl⟩) f

include hlt hk in
/-- Its pieces, each at anything promised of it, make it whole, at contents that keep the promises. -/
theorem share_join {q : PosShare TreeShare} (ok : ℕ → Buf Val ℓ → Prop) (f₀ : Buf Val ℓ) :
    bigSep (Finset.range N) (fun i => iprop(∃ f, ⌜ok i f⌝ ∗ ℓ ↦[K i]{q} f))
      ⊢ (iprop(∃ g, ⌜∀ i < N, ∃ f, ok i f ∧ ∀ y ∈ K i, g y = f y⌝ ∗ ℓ ↦{q} g) : sProp 𝕄) := by
  have hn : Nonempty (Buf Val ℓ) := ⟨f₀⟩
  refine (Idealize.SL.BI.bigSep_exists_pi (Finset.range N) (fun i (f : Buf Val ℓ) => (iprop(⌜ok i f⌝ ∗ ℓ ↦[K i]{q} f) : sProp 𝕄))).trans ?_
  iintro ⟨%fs, H⟩
  ihave H := (promises (fun i => ok i (fs i)) (fun i => (ℓ ↦[K i]{q} fs i : sProp 𝕄)) (Finset.range N)) $$ H
  icases H with ⟨%hok, H⟩
  ihave H := (pointsTo_biUnion_join (Finset.range N) K fs f₀ fun b hb b' hb' h => Finset.disjoint_left.mpr fun y hy hy' =>
    h (((hk _ (Finset.mem_range.mp hb) y).mp hy).symm.trans ((hk _ (Finset.mem_range.mp hb') y).mp hy'))) $$ H
  icases H with ⟨%g, %hg, H⟩
  iexists g
  isplitr
  · ipureintro; intro i hi; exact ⟨fs i, hok i (Finset.mem_range.mpr hi), hg i (Finset.mem_range.mpr hi)⟩
  iapply (entails_of_eq (congrArg (fun S => (ℓ ↦[S]{q} g : sProp 𝕄)) (show (Finset.range N).biUnion K = Finset.univ by
    ext y; simp only [Finset.mem_biUnion, Finset.mem_univ, iff_true]
    exact ⟨key y, Finset.mem_range.mpr (hlt y), (hk _ (hlt y) y).mpr rfl⟩)))
  iexact H

include hlt hk in
/-- A buffer of slots and the slots' semaphores, slot by slot. -/
theorem slots_free (Cl : ℕ → sProp 𝕄) :
    iprop((∃ f : Buf Val ℓ, ℓ ↦{fullShare} f) ∗ bigSep (Finset.range N) Cl) ⊢ bigSep (Finset.range N) fun i => iprop((∃ f : Buf Val ℓ, ℓ ↦[K i]{fullShare} f) ∗ Cl i) := by
  iintro ⟨⟨%f, H⟩, HC⟩
  ihave H := (entails_of_eq (share_eq N K key hlt hk f)) $$ H
  iapply (show iprop(bigSep (Finset.range N) (fun i => iprop(∃ f : Buf Val ℓ, ℓ ↦[K i]{fullShare} f)) ∗ bigSep (Finset.range N) Cl) ⊢ (bigSep (Finset.range N) (fun i => iprop((∃ f : Buf Val ℓ, ℓ ↦[K i]{fullShare} f) ∗ Cl i)) : sProp 𝕄) from entails_of_eq (bigSep_sep (Finset.range N) (fun i => iprop(∃ f : Buf Val ℓ, ℓ ↦[K i]{fullShare} f)) Cl).symm)
  isplitl [H]
  · iapply (show bigSep (Finset.range N) (fun i => (ℓ ↦[K i]{fullShare} f : sProp 𝕄)) ⊢ bigSep (Finset.range N) (fun i => iprop(∃ f : Buf Val ℓ, ℓ ↦[K i]{fullShare} f)) from
      bigSep_mono fun i _ => (show (ℓ ↦[K i]{fullShare} f : sProp 𝕄) ⊢ iprop(∃ f : Buf Val ℓ, ℓ ↦[K i]{fullShare} f) from by iintro H; iexists f; iexact H))
    iexact H
  iexact HC

include hlt hk in
/-- And back. -/
theorem slots_whole (Cl : ℕ → sProp 𝕄) (f₀ : Buf Val ℓ) :
    bigSep (Finset.range N) (fun i => iprop((∃ f : Buf Val ℓ, ℓ ↦[K i]{fullShare} f) ∗ Cl i)) ⊢ iprop((∃ f : Buf Val ℓ, ℓ ↦{fullShare} f) ∗ bigSep (Finset.range N) Cl) := by
  iintro H
  ihave H := (show (bigSep (Finset.range N) (fun i => iprop((∃ f : Buf Val ℓ, ℓ ↦[K i]{fullShare} f) ∗ Cl i)) : sProp 𝕄) ⊢ iprop(bigSep (Finset.range N) (fun i => iprop(∃ f : Buf Val ℓ, ℓ ↦[K i]{fullShare} f)) ∗ bigSep (Finset.range N) Cl) from entails_of_eq (bigSep_sep (Finset.range N) (fun i => iprop(∃ f : Buf Val ℓ, ℓ ↦[K i]{fullShare} f)) Cl)) $$ H
  icases H with ⟨H, HC⟩
  isplitl [H]
  · ihave H := (show bigSep (Finset.range N) (fun i => iprop(∃ f : Buf Val ℓ, ℓ ↦[K i]{fullShare} f)) ⊢ bigSep (Finset.range N) (fun i => iprop(∃ f : Buf Val ℓ, ⌜True⌝ ∗ ℓ ↦[K i]{fullShare} f)) from
      bigSep_mono fun i _ => (show (iprop(∃ f : Buf Val ℓ, ℓ ↦[K i]{fullShare} f) : sProp 𝕄) ⊢ iprop(∃ f : Buf Val ℓ, ⌜True⌝ ∗ ℓ ↦[K i]{fullShare} f) from by
        iintro ⟨%f, H⟩; iexists f
        isplitr; · ipureintro; exact trivial
        iexact H)) $$ H
    ihave H := (share_join N K key hlt hk (fun _ _ => True) f₀) $$ H
    icases H with ⟨%g, -, H⟩
    iexists g; iexact H
  iexact HC

end Points

/-! ## Which piece an index lies in -/

theorem mem_first {d off size : Fin 3 → ℕ} {inb} {i : ℕ} (h0 : off 0 = i) (s0 : size 0 = 1) (h1 : off 1 = 0) (s1 : size 1 = d 1) (h2 : off 2 = 0)
    (s2 : size 2 = d 2) (y : (⟨3, d⟩ : Shape).Idx) : y ∈ (Rect.unit (s := ⟨3, d⟩) off size inb).set ↔ (y 0).val = i := by
  rw [Rect.mem_set_unit]
  have l1 : (y 1).val < d 1 := (y 1).isLt
  have l2 : (y 2).val < d 2 := (y 2).isLt
  constructor
  · intro H; have a0 : off 0 ≤ (y 0).val ∧ (y 0).val < off 0 + size 0 := H 0; omega
  · intro H a; fin_cases a
    · show off 0 ≤ (y 0).val ∧ (y 0).val < off 0 + size 0; omega
    · show off 1 ≤ (y 1).val ∧ (y 1).val < off 1 + size 1; omega
    · show off 2 ≤ (y 2).val ∧ (y 2).val < off 2 + size 2; omega

theorem mem_rows {d off size : Fin 3 → ℕ} {inb} {i n r : ℕ} (hr : 0 < r) (hn : 0 < n) (h0 : off 0 = i / n) (s0 : size 0 = 1) (h1 : off 1 = r * (i % n)) (s1 : size 1 = r) (d1 : d 1 = r * n)
    (h2 : off 2 = 0) (s2 : size 2 = d 2) (y : (⟨3, d⟩ : Shape).Idx) :
    y ∈ (Rect.unit (s := ⟨3, d⟩) off size inb).set ↔ n * (y 0).val + (y 1).val / r = i := by
  rw [Rect.mem_set_unit]
  have l1 : (y 1).val < d 1 := (y 1).isLt
  have l2 : (y 2).val < d 2 := (y 2).isLt
  have lq : (y 1).val / r < n := (Nat.div_lt_iff_lt_mul hr).mpr (by rw [Nat.mul_comm]; omega)
  have e := Nat.div_add_mod i n
  have lm := Nat.mod_lt i hn
  have e1 := Nat.div_add_mod (y 1).val r
  have lm1 := Nat.mod_lt (y 1).val hr
  constructor
  · intro H
    have a0 : off 0 ≤ (y 0).val ∧ (y 0).val < off 0 + size 0 := H 0
    have a1 : off 1 ≤ (y 1).val ∧ (y 1).val < off 1 + size 1 := H 1
    rw [show (y 0).val = i / n by omega, show (y 1).val / r = i % n from
      (Nat.div_eq_iff hr).mpr ⟨by rw [Nat.mul_comm]; omega, by rw [Nat.mul_comm]; omega⟩]; exact e
  · intro H
    have q0 : i / n = (y 0).val := by rw [← H, Nat.mul_add_div hn, Nat.div_eq_of_lt lq, Nat.add_zero]
    have q1 : i % n = (y 1).val / r := by rw [← H, Nat.mul_add_mod, Nat.mod_eq_of_lt lq]
    rw [q1] at h1
    intro a; fin_cases a
    · show off 0 ≤ (y 0).val ∧ (y 0).val < off 0 + size 0; omega
    · show off 1 ≤ (y 1).val ∧ (y 1).val < off 1 + size 1; omega
    · show off 2 ≤ (y 2).val ∧ (y 2).val < off 2 + size 2; omega

end Cert.Proof.Rings
-- ==== Proof.Wholes.lean ====
/- The arrays and the buffers as the pieces the kernel works on. -/
module

public import proofs.«01_k».proof.Proof.Body
public import proofs.«01_k».proof.Proof.Shares

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

variable (c : Dev nD) (X : Src F c)

/-! ## The arrays -/

/-- The elements of piece `i`. -/
abbrev gHK (i : ℕ) : Finset S12x2048x7168.Idx := (Rect.unit (s := S12x2048x7168) (gHo i) S1x128x7168.size (gHo_inb i)).set
theorem gH_set (i : ℕ) : (gH i).view.set = gHK i := (View.set_reshape _ _).trans (View.set_slice_whole _ _)
theorem gH_mem (i : ℕ) (hi : i < 192) (y : S12x2048x7168.Idx) : y ∈ gHK i ↔ 16 * (y 0).val + (y 1).val / 128 = i := by
  exact mem_rows (d := ![12, 2048, 7168]) (off := gHo i) (size := S1x128x7168.size) (n := 16) (r := 128) (by decide) (by decide) (show i / 16 % 12 = i / 16 by omega) rfl rfl rfl rfl rfl rfl y
theorem gH_pc (i : ℕ) (f : Buf (Elt F) ((c : Thread nD τ).loc main_arg1)) : (((gH i).view.loc (c : Thread nD τ) ↦[(gH i).view.set]{fullShare} f) : sProp 𝕄)
    = ((c : Thread nD τ).loc main_arg1) ↦[gHK i]{fullShare} f :=
  congrArg (fun S => (_ ↦[S]{fullShare} f : sProp 𝕄)) (gH_set i)
theorem gH_lt : ∀ y : S12x2048x7168.Idx, 16 * (y 0).val + (y 1).val / 128 < 192 := fun y => by
    have h0 : (y 0).val < 12 := (y 0).isLt
    have h1 : (y 1).val < 2048 := (y 1).isLt
    show 16 * (y 0).val + (y 1).val / 128 < 192; omega
theorem gH_share (f : Buf (Elt F) ((c : Thread nD τ).loc main_arg1)) : (((c : Thread nD τ).loc main_arg1) ↦{fullShare} f : sProp 𝕄)
    = bigSep (Finset.range 192) fun i => ((c : Thread nD τ).loc main_arg1) ↦[gHK i]{fullShare} f :=
  share_eq (ℓ := ((c : Thread nD τ).loc main_arg1)) 192 gHK (fun y : S12x2048x7168.Idx => 16 * (y 0).val + (y 1).val / 128) gH_lt gH_mem f
theorem gH_own : (((c : Thread nD τ).loc main_arg1) ↦{fullShare} X.g : sProp 𝕄) = bigSep (Finset.range 192) (gHm c X) :=
  (gH_share c X.g).trans (bigSep_congr fun i _ => (gH_pc c i X.g).symm)

/-- The elements of piece `i`. -/
abbrev wHK (i : ℕ) : Finset S12x2048x7168.Idx := (Rect.unit (s := S12x2048x7168) (wHo i) S1x64x7168.size (wHo_inb i)).set
theorem wH_set (i : ℕ) : (wH i).view.set = wHK i := (View.set_reshape _ _).trans (View.set_slice_whole _ _)
theorem wH_mem (i : ℕ) (hi : i < 384) (y : S12x2048x7168.Idx) : y ∈ wHK i ↔ 32 * (y 0).val + (y 1).val / 64 = i := by
  exact mem_rows (d := ![12, 2048, 7168]) (off := wHo i) (size := S1x64x7168.size) (n := 32) (r := 64) (by decide) (by decide) (show i / 32 % 12 = i / 32 by omega) rfl rfl rfl rfl rfl rfl y
theorem wH_pc (i : ℕ) (f : Buf (Elt F) ((c : Thread nD τ).loc main_arg0)) : (((wH i).view.loc (c : Thread nD τ) ↦[(wH i).view.set]{fullShare} f) : sProp 𝕄)
    = ((c : Thread nD τ).loc main_arg0) ↦[wHK i]{fullShare} f :=
  congrArg (fun S => (_ ↦[S]{fullShare} f : sProp 𝕄)) (wH_set i)
theorem wH_lt : ∀ y : S12x2048x7168.Idx, 32 * (y 0).val + (y 1).val / 64 < 384 := fun y => by
    have h0 : (y 0).val < 12 := (y 0).isLt
    have h1 : (y 1).val < 2048 := (y 1).isLt
    show 32 * (y 0).val + (y 1).val / 64 < 384; omega
theorem wH_share (f : Buf (Elt F) ((c : Thread nD τ).loc main_arg0)) : (((c : Thread nD τ).loc main_arg0) ↦{fullShare} f : sProp 𝕄)
    = bigSep (Finset.range 384) fun i => ((c : Thread nD τ).loc main_arg0) ↦[wHK i]{fullShare} f :=
  share_eq (ℓ := ((c : Thread nD τ).loc main_arg0)) 384 wHK (fun y : S12x2048x7168.Idx => 32 * (y 0).val + (y 1).val / 64) wH_lt wH_mem f
theorem wH_own : (((c : Thread nD τ).loc main_arg0) ↦{fullShare} X.w : sProp 𝕄) = bigSep (Finset.range 384) (wHm c X) :=
  (wH_share c X.w).trans (bigSep_congr fun i _ => (wH_pc c i X.w).symm)

/-- The elements of piece `i`. -/
abbrev dHK (i : ℕ) : Finset S12x2048x7168.Idx := (Rect.unit (s := S12x2048x7168) (dHo i) S1x64x7168.size (dHo_inb i)).set
theorem dH_set (i : ℕ) : (dH i).view.set = dHK i := (View.set_reshape _ _).trans (View.set_slice_whole _ _)
theorem dH_mem (i : ℕ) (hi : i < 384) (y : S12x2048x7168.Idx) : y ∈ dHK i ↔ 32 * (y 0).val + (y 1).val / 64 = i := by
  exact mem_rows (d := ![12, 2048, 7168]) (off := dHo i) (size := S1x64x7168.size) (n := 32) (r := 64) (by decide) (by decide) (show i / 32 % 12 = i / 32 by omega) rfl rfl rfl rfl rfl rfl y
theorem dH_pc (i : ℕ) (f : Buf (Elt F) ((c : Thread nD τ).loc main_v0_0)) : (((dH i).view.loc (c : Thread nD τ) ↦[(dH i).view.set]{fullShare} f) : sProp 𝕄)
    = ((c : Thread nD τ).loc main_v0_0) ↦[dHK i]{fullShare} f :=
  congrArg (fun S => (_ ↦[S]{fullShare} f : sProp 𝕄)) (dH_set i)
theorem dH_lt : ∀ y : S12x2048x7168.Idx, 32 * (y 0).val + (y 1).val / 64 < 384 := fun y => by
    have h0 : (y 0).val < 12 := (y 0).isLt
    have h1 : (y 1).val < 2048 := (y 1).isLt
    show 32 * (y 0).val + (y 1).val / 64 < 384; omega
theorem dH_share (f : Buf (Elt F) ((c : Thread nD τ).loc main_v0_0)) : (((c : Thread nD τ).loc main_v0_0) ↦{fullShare} f : sProp 𝕄)
    = bigSep (Finset.range 384) fun i => ((c : Thread nD τ).loc main_v0_0) ↦[dHK i]{fullShare} f :=
  share_eq (ℓ := ((c : Thread nD τ).loc main_v0_0)) 384 dHK (fun y : S12x2048x7168.Idx => 32 * (y 0).val + (y 1).val / 64) dH_lt dH_mem f
theorem dH_any (f : Buf (Elt F) ((c : Thread nD τ).loc main_v0_0)) : (((c : Thread nD τ).loc main_v0_0) ↦{fullShare} f : sProp 𝕄) ⊢ bigSep (Finset.range 384) (dAn c) := by
  rw [dH_share]
  exact bigSep_mono fun i _ => (show (((c : Thread nD τ).loc main_v0_0) ↦[dHK i]{fullShare} f : sProp 𝕄) ⊢ dAn c i from by
    rw [← dH_pc]; unfold dAn; iintro H; iexists _; iexact H)
/-- What `d` holds at the end: on each piece, contents promised of it. -/
def dRes (g : Buf (Elt F) ((c : Thread nD τ).loc main_v0_0)) : Prop := ∀ i < 384, ∃ f, X.okD i f ∧ ∀ y ∈ dHK i, g y = f y
theorem dDn_pc (i : ℕ) : dDn c X i = (iprop(∃ f : Buf (Elt F) ((c : Thread nD τ).loc main_v0_0), ⌜X.okD i f⌝ ∗ ((c : Thread nD τ).loc main_v0_0) ↦[dHK i]{fullShare} f) : sProp 𝕄) :=
  congrArg (fun Q : Buf (Elt F) ((c : Thread nD τ).loc main_v0_0) → sProp 𝕄 => iprop(∃ f : Buf (Elt F) ((c : Thread nD τ).loc main_v0_0), ⌜X.okD i f⌝ ∗ Q f)) (funext fun f => dH_pc c i f)
theorem dH_join : bigSep (Finset.range 384) (dDn c X) ⊢ (iprop(∃ g : Buf (Elt F) ((c : Thread nD τ).loc main_v0_0), ⌜dRes c X g⌝ ∗ ((c : Thread nD τ).loc main_v0_0) ↦{fullShare} g) : sProp 𝕄) :=
  (entails_of_eq (bigSep_congr fun i _ => dDn_pc c X i)).trans
    (share_join (ℓ := ((c : Thread nD τ).loc main_v0_0)) 384 dHK (fun y : S12x2048x7168.Idx => 32 * (y 0).val + (y 1).val / 64) dH_lt dH_mem X.okD (dH 0).view.junk)

/-- The elements of piece `i`. -/
abbrev pHK (i : ℕ) : Finset S12x128x7168.Idx := (Rect.unit (s := S12x128x7168) (pHo i) S1x128x7168.size (pHo_inb i)).set
theorem pH_set (i : ℕ) : (pH i).view.set = pHK i := (View.set_reshape _ _).trans (View.set_slice_whole _ _)
theorem pH_mem (i : ℕ) (hi : i < 12) (y : S12x128x7168.Idx) : y ∈ pHK i ↔ (y 0).val = i := by
  exact mem_first (d := ![12, 128, 7168]) (off := pHo i) (size := S1x128x7168.size) (Nat.mod_eq_of_lt hi) rfl rfl rfl rfl rfl y
theorem pH_pc (i : ℕ) (f : Buf (Elt F) ((c : Thread nD τ).loc main_arg2)) : (((pH i).view.loc (c : Thread nD τ) ↦[(pH i).view.set]{fullShare} f) : sProp 𝕄)
    = ((c : Thread nD τ).loc main_arg2) ↦[pHK i]{fullShare} f :=
  congrArg (fun S => (_ ↦[S]{fullShare} f : sProp 𝕄)) (pH_set i)
theorem pH_lt : ∀ y : S12x128x7168.Idx, (y 0).val < 12 := fun y => (y 0).isLt
theorem pH_share (f : Buf (Elt F) ((c : Thread nD τ).loc main_arg2)) : (((c : Thread nD τ).loc main_arg2) ↦{fullShare} f : sProp 𝕄)
    = bigSep (Finset.range 12) fun i => ((c : Thread nD τ).loc main_arg2) ↦[pHK i]{fullShare} f :=
  share_eq (ℓ := ((c : Thread nD τ).loc main_arg2)) 12 pHK (fun y : S12x128x7168.Idx => (y 0).val) pH_lt pH_mem f
theorem pH_own : (((c : Thread nD τ).loc main_arg2) ↦{fullShare} X.p : sProp 𝕄) = bigSep (Finset.range 12) (pHm c X) :=
  (pH_share c X.p).trans (bigSep_congr fun i _ => (pH_pc c i X.p).symm)

/-- The elements of piece `i`. -/
abbrev mcHK (i : ℕ) : Finset S12x128x2048.Idx := (Rect.unit (s := S12x128x2048) (mcHo i) S1x128x2048.size (mcHo_inb i)).set
theorem mcH_set (i : ℕ) : (mcH i).view.set = mcHK i := (View.set_reshape _ _).trans (View.set_slice_whole _ _)
theorem mcH_mem (i : ℕ) (hi : i < 12) (y : S12x128x2048.Idx) : y ∈ mcHK i ↔ (y 0).val = i := by
  exact mem_first (d := ![12, 128, 2048]) (off := mcHo i) (size := S1x128x2048.size) (Nat.mod_eq_of_lt hi) rfl rfl rfl rfl rfl y
theorem mcH_pc (i : ℕ) (f : Buf (Elt F) ((c : Thread nD τ).loc main_arg3)) : (((mcH i).view.loc (c : Thread nD τ) ↦[(mcH i).view.set]{fullShare} f) : sProp 𝕄)
    = ((c : Thread nD τ).loc main_arg3) ↦[mcHK i]{fullShare} f :=
  congrArg (fun S => (_ ↦[S]{fullShare} f : sProp 𝕄)) (mcH_set i)
theorem mcH_lt : ∀ y : S12x128x2048.Idx, (y 0).val < 12 := fun y => (y 0).isLt
theorem mcH_share (f : Buf (Elt F) ((c : Thread nD τ).loc main_arg3)) : (((c : Thread nD τ).loc main_arg3) ↦{fullShare} f : sProp 𝕄)
    = bigSep (Finset.range 12) fun i => ((c : Thread nD τ).loc main_arg3) ↦[mcHK i]{fullShare} f :=
  share_eq (ℓ := ((c : Thread nD τ).loc main_arg3)) 12 mcHK (fun y : S12x128x2048.Idx => (y 0).val) mcH_lt mcH_mem f
theorem mcH_own : (((c : Thread nD τ).loc main_arg3) ↦{fullShare} X.mc : sProp 𝕄) = bigSep (Finset.range 12) (mcHm c X) :=
  (mcH_share c X.mc).trans (bigSep_congr fun i _ => (mcH_pc c i X.mc).symm)

/-- The elements of piece `i`. -/
abbrev msHK (i : ℕ) : Finset S12x128x16.Idx := (Rect.unit (s := S12x128x16) (msHo i) S1x128x16.size (msHo_inb i)).set
theorem msH_set (i : ℕ) : (msH i).view.set = msHK i := (View.set_reshape _ _).trans (View.set_slice_whole _ _)
theorem msH_mem (i : ℕ) (hi : i < 12) (y : S12x128x16.Idx) : y ∈ msHK i ↔ (y 0).val = i := by
  exact mem_first (d := ![12, 128, 16]) (off := msHo i) (size := S1x128x16.size) (Nat.mod_eq_of_lt hi) rfl rfl rfl rfl rfl y
theorem msH_pc (i : ℕ) (f : Buf (Elt F) ((c : Thread nD τ).loc main_arg4)) : (((msH i).view.loc (c : Thread nD τ) ↦[(msH i).view.set]{fullShare} f) : sProp 𝕄)
    = ((c : Thread nD τ).loc main_arg4) ↦[msHK i]{fullShare} f :=
  congrArg (fun S => (_ ↦[S]{fullShare} f : sProp 𝕄)) (msH_set i)
theorem msH_lt : ∀ y : S12x128x16.Idx, (y 0).val < 12 := fun y => (y 0).isLt
theorem msH_share (f : Buf (Elt F) ((c : Thread nD τ).loc main_arg4)) : (((c : Thread nD τ).loc main_arg4) ↦{fullShare} f : sProp 𝕄)
    = bigSep (Finset.range 12) fun i => ((c : Thread nD τ).loc main_arg4) ↦[msHK i]{fullShare} f :=
  share_eq (ℓ := ((c : Thread nD τ).loc main_arg4)) 12 msHK (fun y : S12x128x16.Idx => (y 0).val) msH_lt msH_mem f
theorem msH_own : (((c : Thread nD τ).loc main_arg4) ↦{fullShare} X.ms : sProp 𝕄) = bigSep (Finset.range 12) (msHm c X) :=
  (msH_share c X.ms).trans (bigSep_congr fun i _ => (msH_pc c i X.ms).symm)

/-- The elements of piece `i`. -/
abbrev vcHK (i : ℕ) : Finset S12x128x2048.Idx := (Rect.unit (s := S12x128x2048) (vcHo i) S1x128x2048.size (vcHo_inb i)).set
theorem vcH_set (i : ℕ) : (vcH i).view.set = vcHK i := (View.set_reshape _ _).trans (View.set_slice_whole _ _)
theorem vcH_mem (i : ℕ) (hi : i < 12) (y : S12x128x2048.Idx) : y ∈ vcHK i ↔ (y 0).val = i := by
  exact mem_first (d := ![12, 128, 2048]) (off := vcHo i) (size := S1x128x2048.size) (Nat.mod_eq_of_lt hi) rfl rfl rfl rfl rfl y
theorem vcH_pc (i : ℕ) (f : Buf (Elt F) ((c : Thread nD τ).loc main_arg5)) : (((vcH i).view.loc (c : Thread nD τ) ↦[(vcH i).view.set]{fullShare} f) : sProp 𝕄)
    = ((c : Thread nD τ).loc main_arg5) ↦[vcHK i]{fullShare} f :=
  congrArg (fun S => (_ ↦[S]{fullShare} f : sProp 𝕄)) (vcH_set i)
theorem vcH_lt : ∀ y : S12x128x2048.Idx, (y 0).val < 12 := fun y => (y 0).isLt
theorem vcH_share (f : Buf (Elt F) ((c : Thread nD τ).loc main_arg5)) : (((c : Thread nD τ).loc main_arg5) ↦{fullShare} f : sProp 𝕄)
    = bigSep (Finset.range 12) fun i => ((c : Thread nD τ).loc main_arg5) ↦[vcHK i]{fullShare} f :=
  share_eq (ℓ := ((c : Thread nD τ).loc main_arg5)) 12 vcHK (fun y : S12x128x2048.Idx => (y 0).val) vcH_lt vcH_mem f
theorem vcH_own : (((c : Thread nD τ).loc main_arg5) ↦{fullShare} X.vc : sProp 𝕄) = bigSep (Finset.range 12) (vcHm c X) :=
  (vcH_share c X.vc).trans (bigSep_congr fun i _ => (vcH_pc c i X.vc).symm)

/-- The elements of piece `i`. -/
abbrev vsHK (i : ℕ) : Finset S12x128x16.Idx := (Rect.unit (s := S12x128x16) (vsHo i) S1x128x16.size (vsHo_inb i)).set
theorem vsH_set (i : ℕ) : (vsH i).view.set = vsHK i := (View.set_reshape _ _).trans (View.set_slice_whole _ _)
theorem vsH_mem (i : ℕ) (hi : i < 12) (y : S12x128x16.Idx) : y ∈ vsHK i ↔ (y 0).val = i := by
  exact mem_first (d := ![12, 128, 16]) (off := vsHo i) (size := S1x128x16.size) (Nat.mod_eq_of_lt hi) rfl rfl rfl rfl rfl y
theorem vsH_pc (i : ℕ) (f : Buf (Elt F) ((c : Thread nD τ).loc main_arg6)) : (((vsH i).view.loc (c : Thread nD τ) ↦[(vsH i).view.set]{fullShare} f) : sProp 𝕄)
    = ((c : Thread nD τ).loc main_arg6) ↦[vsHK i]{fullShare} f :=
  congrArg (fun S => (_ ↦[S]{fullShare} f : sProp 𝕄)) (vsH_set i)
theorem vsH_lt : ∀ y : S12x128x16.Idx, (y 0).val < 12 := fun y => (y 0).isLt
theorem vsH_share (f : Buf (Elt F) ((c : Thread nD τ).loc main_arg6)) : (((c : Thread nD τ).loc main_arg6) ↦{fullShare} f : sProp 𝕄)
    = bigSep (Finset.range 12) fun i => ((c : Thread nD τ).loc main_arg6) ↦[vsHK i]{fullShare} f :=
  share_eq (ℓ := ((c : Thread nD τ).loc main_arg6)) 12 vsHK (fun y : S12x128x16.Idx => (y 0).val) vsH_lt vsH_mem f
theorem vsH_own : (((c : Thread nD τ).loc main_arg6) ↦{fullShare} X.vs : sProp 𝕄) = bigSep (Finset.range 12) (vsHm c X) :=
  (vsH_share c X.vs).trans (bigSep_congr fun i _ => (vsH_pc c i X.vs).symm)

/-- The elements of piece `i`. -/
abbrev nmHK (i : ℕ) : Finset S12x128x2048.Idx := (Rect.unit (s := S12x128x2048) (nmHo i) S1x128x2048.size (nmHo_inb i)).set
theorem nmH_set (i : ℕ) : (nmH i).view.set = nmHK i := (View.set_reshape _ _).trans (View.set_slice_whole _ _)
theorem nmH_mem (i : ℕ) (hi : i < 12) (y : S12x128x2048.Idx) : y ∈ nmHK i ↔ (y 0).val = i := by
  exact mem_first (d := ![12, 128, 2048]) (off := nmHo i) (size := S1x128x2048.size) (Nat.mod_eq_of_lt hi) rfl rfl rfl rfl rfl y
theorem nmH_pc (i : ℕ) (f : Buf (Elt F) ((c : Thread nD τ).loc main_v0_3)) : (((nmH i).view.loc (c : Thread nD τ) ↦[(nmH i).view.set]{fullShare} f) : sProp 𝕄)
    = ((c : Thread nD τ).loc main_v0_3) ↦[nmHK i]{fullShare} f :=
  congrArg (fun S => (_ ↦[S]{fullShare} f : sProp 𝕄)) (nmH_set i)
theorem nmH_lt : ∀ y : S12x128x2048.Idx, (y 0).val < 12 := fun y => (y 0).isLt
theorem nmH_share (f : Buf (Elt F) ((c : Thread nD τ).loc main_v0_3)) : (((c : Thread nD τ).loc main_v0_3) ↦{fullShare} f : sProp 𝕄)
    = bigSep (Finset.range 12) fun i => ((c : Thread nD τ).loc main_v0_3) ↦[nmHK i]{fullShare} f :=
  share_eq (ℓ := ((c : Thread nD τ).loc main_v0_3)) 12 nmHK (fun y : S12x128x2048.Idx => (y 0).val) nmH_lt nmH_mem f
theorem nmH_any (f : Buf (Elt F) ((c : Thread nD τ).loc main_v0_3)) : (((c : Thread nD τ).loc main_v0_3) ↦{fullShare} f : sProp 𝕄) ⊢ bigSep (Finset.range 12) (nmAn c) := by
  rw [nmH_share]
  exact bigSep_mono fun i _ => (show (((c : Thread nD τ).loc main_v0_3) ↦[nmHK i]{fullShare} f : sProp 𝕄) ⊢ nmAn c i from by
    rw [← nmH_pc]; unfold nmAn; iintro H; iexists _; iexact H)
/-- What `nm` holds at the end: on each piece, contents promised of it. -/
def nmRes (g : Buf (Elt F) ((c : Thread nD τ).loc main_v0_3)) : Prop := ∀ i < 12, ∃ f, X.okNm i f ∧ ∀ y ∈ nmHK i, g y = f y
theorem nmDn_pc (i : ℕ) : nmDn c X i = (iprop(∃ f : Buf (Elt F) ((c : Thread nD τ).loc main_v0_3), ⌜X.okNm i f⌝ ∗ ((c : Thread nD τ).loc main_v0_3) ↦[nmHK i]{fullShare} f) : sProp 𝕄) :=
  congrArg (fun Q : Buf (Elt F) ((c : Thread nD τ).loc main_v0_3) → sProp 𝕄 => iprop(∃ f : Buf (Elt F) ((c : Thread nD τ).loc main_v0_3), ⌜X.okNm i f⌝ ∗ Q f)) (funext fun f => nmH_pc c i f)
theorem nmH_join : bigSep (Finset.range 12) (nmDn c X) ⊢ (iprop(∃ g : Buf (Elt F) ((c : Thread nD τ).loc main_v0_3), ⌜nmRes c X g⌝ ∗ ((c : Thread nD τ).loc main_v0_3) ↦{fullShare} g) : sProp 𝕄) :=
  (entails_of_eq (bigSep_congr fun i _ => nmDn_pc c X i)).trans
    (share_join (ℓ := ((c : Thread nD τ).loc main_v0_3)) 12 nmHK (fun y : S12x128x2048.Idx => (y 0).val) nmH_lt nmH_mem X.okNm (nmH 0).view.junk)

/-- The elements of piece `i`. -/
abbrev nmsHK (i : ℕ) : Finset S12x128x16.Idx := (Rect.unit (s := S12x128x16) (nmsHo i) S1x128x16.size (nmsHo_inb i)).set
theorem nmsH_set (i : ℕ) : (nmsH i).view.set = nmsHK i := (View.set_reshape _ _).trans (View.set_slice_whole _ _)
theorem nmsH_mem (i : ℕ) (hi : i < 12) (y : S12x128x16.Idx) : y ∈ nmsHK i ↔ (y 0).val = i := by
  exact mem_first (d := ![12, 128, 16]) (off := nmsHo i) (size := S1x128x16.size) (Nat.mod_eq_of_lt hi) rfl rfl rfl rfl rfl y
theorem nmsH_pc (i : ℕ) (f : Buf (Elt F) ((c : Thread nD τ).loc main_v0_4)) : (((nmsH i).view.loc (c : Thread nD τ) ↦[(nmsH i).view.set]{fullShare} f) : sProp 𝕄)
    = ((c : Thread nD τ).loc main_v0_4) ↦[nmsHK i]{fullShare} f :=
  congrArg (fun S => (_ ↦[S]{fullShare} f : sProp 𝕄)) (nmsH_set i)
theorem nmsH_lt : ∀ y : S12x128x16.Idx, (y 0).val < 12 := fun y => (y 0).isLt
theorem nmsH_share (f : Buf (Elt F) ((c : Thread nD τ).loc main_v0_4)) : (((c : Thread nD τ).loc main_v0_4) ↦{fullShare} f : sProp 𝕄)
    = bigSep (Finset.range 12) fun i => ((c : Thread nD τ).loc main_v0_4) ↦[nmsHK i]{fullShare} f :=
  share_eq (ℓ := ((c : Thread nD τ).loc main_v0_4)) 12 nmsHK (fun y : S12x128x16.Idx => (y 0).val) nmsH_lt nmsH_mem f
theorem nmsH_any (f : Buf (Elt F) ((c : Thread nD τ).loc main_v0_4)) : (((c : Thread nD τ).loc main_v0_4) ↦{fullShare} f : sProp 𝕄) ⊢ bigSep (Finset.range 12) (nmsAn c) := by
  rw [nmsH_share]
  exact bigSep_mono fun i _ => (show (((c : Thread nD τ).loc main_v0_4) ↦[nmsHK i]{fullShare} f : sProp 𝕄) ⊢ nmsAn c i from by
    rw [← nmsH_pc]; unfold nmsAn; iintro H; iexists _; iexact H)
/-- What `nms` holds at the end: on each piece, contents promised of it. -/
def nmsRes (g : Buf (Elt F) ((c : Thread nD τ).loc main_v0_4)) : Prop := ∀ i < 12, ∃ f, X.okNms i f ∧ ∀ y ∈ nmsHK i, g y = f y
theorem nmsDn_pc (i : ℕ) : nmsDn c X i = (iprop(∃ f : Buf (Elt F) ((c : Thread nD τ).loc main_v0_4), ⌜X.okNms i f⌝ ∗ ((c : Thread nD τ).loc main_v0_4) ↦[nmsHK i]{fullShare} f) : sProp 𝕄) :=
  congrArg (fun Q : Buf (Elt F) ((c : Thread nD τ).loc main_v0_4) → sProp 𝕄 => iprop(∃ f : Buf (Elt F) ((c : Thread nD τ).loc main_v0_4), ⌜X.okNms i f⌝ ∗ Q f)) (funext fun f => nmsH_pc c i f)
theorem nmsH_join : bigSep (Finset.range 12) (nmsDn c X) ⊢ (iprop(∃ g : Buf (Elt F) ((c : Thread nD τ).loc main_v0_4), ⌜nmsRes c X g⌝ ∗ ((c : Thread nD τ).loc main_v0_4) ↦{fullShare} g) : sProp 𝕄) :=
  (entails_of_eq (bigSep_congr fun i _ => nmsDn_pc c X i)).trans
    (share_join (ℓ := ((c : Thread nD τ).loc main_v0_4)) 12 nmsHK (fun y : S12x128x16.Idx => (y 0).val) nmsH_lt nmsH_mem X.okNms (nmsH 0).view.junk)

/-- The elements of piece `i`. -/
abbrev nvHK (i : ℕ) : Finset S12x128x2048.Idx := (Rect.unit (s := S12x128x2048) (nvHo i) S1x128x2048.size (nvHo_inb i)).set
theorem nvH_set (i : ℕ) : (nvH i).view.set = nvHK i := (View.set_reshape _ _).trans (View.set_slice_whole _ _)
theorem nvH_mem (i : ℕ) (hi : i < 12) (y : S12x128x2048.Idx) : y ∈ nvHK i ↔ (y 0).val = i := by
  exact mem_first (d := ![12, 128, 2048]) (off := nvHo i) (size := S1x128x2048.size) (Nat.mod_eq_of_lt hi) rfl rfl rfl rfl rfl y
theorem nvH_pc (i : ℕ) (f : Buf (Elt F) ((c : Thread nD τ).loc main_v0_5)) : (((nvH i).view.loc (c : Thread nD τ) ↦[(nvH i).view.set]{fullShare} f) : sProp 𝕄)
    = ((c : Thread nD τ).loc main_v0_5) ↦[nvHK i]{fullShare} f :=
  congrArg (fun S => (_ ↦[S]{fullShare} f : sProp 𝕄)) (nvH_set i)
theorem nvH_lt : ∀ y : S12x128x2048.Idx, (y 0).val < 12 := fun y => (y 0).isLt
theorem nvH_share (f : Buf (Elt F) ((c : Thread nD τ).loc main_v0_5)) : (((c : Thread nD τ).loc main_v0_5) ↦{fullShare} f : sProp 𝕄)
    = bigSep (Finset.range 12) fun i => ((c : Thread nD τ).loc main_v0_5) ↦[nvHK i]{fullShare} f :=
  share_eq (ℓ := ((c : Thread nD τ).loc main_v0_5)) 12 nvHK (fun y : S12x128x2048.Idx => (y 0).val) nvH_lt nvH_mem f
theorem nvH_any (f : Buf (Elt F) ((c : Thread nD τ).loc main_v0_5)) : (((c : Thread nD τ).loc main_v0_5) ↦{fullShare} f : sProp 𝕄) ⊢ bigSep (Finset.range 12) (nvAn c) := by
  rw [nvH_share]
  exact bigSep_mono fun i _ => (show (((c : Thread nD τ).loc main_v0_5) ↦[nvHK i]{fullShare} f : sProp 𝕄) ⊢ nvAn c i from by
    rw [← nvH_pc]; unfold nvAn; iintro H; iexists _; iexact H)
/-- What `nv` holds at the end: on each piece, contents promised of it. -/
def nvRes (g : Buf (Elt F) ((c : Thread nD τ).loc main_v0_5)) : Prop := ∀ i < 12, ∃ f, X.okNv i f ∧ ∀ y ∈ nvHK i, g y = f y
theorem nvDn_pc (i : ℕ) : nvDn c X i = (iprop(∃ f : Buf (Elt F) ((c : Thread nD τ).loc main_v0_5), ⌜X.okNv i f⌝ ∗ ((c : Thread nD τ).loc main_v0_5) ↦[nvHK i]{fullShare} f) : sProp 𝕄) :=
  congrArg (fun Q : Buf (Elt F) ((c : Thread nD τ).loc main_v0_5) → sProp 𝕄 => iprop(∃ f : Buf (Elt F) ((c : Thread nD τ).loc main_v0_5), ⌜X.okNv i f⌝ ∗ Q f)) (funext fun f => nvH_pc c i f)
theorem nvH_join : bigSep (Finset.range 12) (nvDn c X) ⊢ (iprop(∃ g : Buf (Elt F) ((c : Thread nD τ).loc main_v0_5), ⌜nvRes c X g⌝ ∗ ((c : Thread nD τ).loc main_v0_5) ↦{fullShare} g) : sProp 𝕄) :=
  (entails_of_eq (bigSep_congr fun i _ => nvDn_pc c X i)).trans
    (share_join (ℓ := ((c : Thread nD τ).loc main_v0_5)) 12 nvHK (fun y : S12x128x2048.Idx => (y 0).val) nvH_lt nvH_mem X.okNv (nvH 0).view.junk)

/-- The elements of piece `i`. -/
abbrev nvsHK (i : ℕ) : Finset S12x128x16.Idx := (Rect.unit (s := S12x128x16) (nvsHo i) S1x128x16.size (nvsHo_inb i)).set
theorem nvsH_set (i : ℕ) : (nvsH i).view.set = nvsHK i := (View.set_reshape _ _).trans (View.set_slice_whole _ _)
theorem nvsH_mem (i : ℕ) (hi : i < 12) (y : S12x128x16.Idx) : y ∈ nvsHK i ↔ (y 0).val = i := by
  exact mem_first (d := ![12, 128, 16]) (off := nvsHo i) (size := S1x128x16.size) (Nat.mod_eq_of_lt hi) rfl rfl rfl rfl rfl y
theorem nvsH_pc (i : ℕ) (f : Buf (Elt F) ((c : Thread nD τ).loc main_v0_6)) : (((nvsH i).view.loc (c : Thread nD τ) ↦[(nvsH i).view.set]{fullShare} f) : sProp 𝕄)
    = ((c : Thread nD τ).loc main_v0_6) ↦[nvsHK i]{fullShare} f :=
  congrArg (fun S => (_ ↦[S]{fullShare} f : sProp 𝕄)) (nvsH_set i)
theorem nvsH_lt : ∀ y : S12x128x16.Idx, (y 0).val < 12 := fun y => (y 0).isLt
theorem nvsH_share (f : Buf (Elt F) ((c : Thread nD τ).loc main_v0_6)) : (((c : Thread nD τ).loc main_v0_6) ↦{fullShare} f : sProp 𝕄)
    = bigSep (Finset.range 12) fun i => ((c : Thread nD τ).loc main_v0_6) ↦[nvsHK i]{fullShare} f :=
  share_eq (ℓ := ((c : Thread nD τ).loc main_v0_6)) 12 nvsHK (fun y : S12x128x16.Idx => (y 0).val) nvsH_lt nvsH_mem f
theorem nvsH_any (f : Buf (Elt F) ((c : Thread nD τ).loc main_v0_6)) : (((c : Thread nD τ).loc main_v0_6) ↦{fullShare} f : sProp 𝕄) ⊢ bigSep (Finset.range 12) (nvsAn c) := by
  rw [nvsH_share]
  exact bigSep_mono fun i _ => (show (((c : Thread nD τ).loc main_v0_6) ↦[nvsHK i]{fullShare} f : sProp 𝕄) ⊢ nvsAn c i from by
    rw [← nvsH_pc]; unfold nvsAn; iintro H; iexists _; iexact H)
/-- What `nvs` holds at the end: on each piece, contents promised of it. -/
def nvsRes (g : Buf (Elt F) ((c : Thread nD τ).loc main_v0_6)) : Prop := ∀ i < 12, ∃ f, X.okNvs i f ∧ ∀ y ∈ nvsHK i, g y = f y
theorem nvsDn_pc (i : ℕ) : nvsDn c X i = (iprop(∃ f : Buf (Elt F) ((c : Thread nD τ).loc main_v0_6), ⌜X.okNvs i f⌝ ∗ ((c : Thread nD τ).loc main_v0_6) ↦[nvsHK i]{fullShare} f) : sProp 𝕄) :=
  congrArg (fun Q : Buf (Elt F) ((c : Thread nD τ).loc main_v0_6) → sProp 𝕄 => iprop(∃ f : Buf (Elt F) ((c : Thread nD τ).loc main_v0_6), ⌜X.okNvs i f⌝ ∗ Q f)) (funext fun f => nvsH_pc c i f)
theorem nvsH_join : bigSep (Finset.range 12) (nvsDn c X) ⊢ (iprop(∃ g : Buf (Elt F) ((c : Thread nD τ).loc main_v0_6), ⌜nvsRes c X g⌝ ∗ ((c : Thread nD τ).loc main_v0_6) ↦{fullShare} g) : sProp 𝕄) :=
  (entails_of_eq (bigSep_congr fun i _ => nvsDn_pc c X i)).trans
    (share_join (ℓ := ((c : Thread nD τ).loc main_v0_6)) 12 nvsHK (fun y : S12x128x16.Idx => (y 0).val) nvsH_lt nvsH_mem X.okNvs (nvsH 0).view.junk)

/-! ## The slots -/

/-- The elements of piece `i`. -/
abbrev gSK (i : ℕ) : Finset S20x128x7168.Idx := (Rect.unit (s := S20x128x7168) (gSo i) S1x128x7168.size (gSo_inb i)).set
theorem gS_set (i : ℕ) : (gS i).view.set = gSK i := (View.set_reshape _ _).trans (View.set_slice_whole _ _)
theorem gS_mem (i : ℕ) (hi : i < 20) (y : S20x128x7168.Idx) : y ∈ gSK i ↔ (y 0).val = i := by
  exact mem_first (d := ![20, 128, 7168]) (off := gSo i) (size := S1x128x7168.size) (Nat.mod_eq_of_lt hi) rfl rfl rfl rfl rfl y
theorem gS_pc (i : ℕ) (f : Buf (Elt F) ((c : Thread nD τ).loc cc0_scratch0)) : (((gS i).view.loc (c : Thread nD τ) ↦[(gS i).view.set]{fullShare} f) : sProp 𝕄)
    = ((c : Thread nD τ).loc cc0_scratch0) ↦[gSK i]{fullShare} f :=
  congrArg (fun S => (_ ↦[S]{fullShare} f : sProp 𝕄)) (gS_set i)
theorem gS_lt : ∀ y : S20x128x7168.Idx, (y 0).val < 20 := fun y => (y 0).isLt
theorem gFr_pc (i : ℕ) : gFr c i = (iprop((∃ f : Buf (Elt F) ((c : Thread nD τ).loc cc0_scratch0), ((c : Thread nD τ).loc cc0_scratch0) ↦[gSK i]{fullShare} f) ∗ cellP c (gC i)) : sProp 𝕄) :=
  congrArg (fun Q : Buf (Elt F) ((c : Thread nD τ).loc cc0_scratch0) → sProp 𝕄 => iprop((∃ f : Buf (Elt F) ((c : Thread nD τ).loc cc0_scratch0), Q f) ∗ cellP c (gC i))) (funext fun f => gS_pc c i f)
theorem gS_free : iprop((∃ f : Buf (Elt F) ((c : Thread nD τ).loc cc0_scratch0), ((c : Thread nD τ).loc cc0_scratch0) ↦{fullShare} f) ∗ bigSep (Finset.range 20) (fun i => cellP c (gC i))) ⊢ (bigSep (Finset.range 20) (gFr c) : sProp 𝕄) :=
  (slots_free (ℓ := ((c : Thread nD τ).loc cc0_scratch0)) 20 gSK (fun y : S20x128x7168.Idx => (y 0).val) gS_lt gS_mem (fun i => cellP c (gC i))).trans (entails_of_eq (bigSep_congr fun i _ => (gFr_pc c i).symm))
theorem gS_whole : (bigSep (Finset.range 20) (gFr c) : sProp 𝕄) ⊢ iprop((∃ f : Buf (Elt F) ((c : Thread nD τ).loc cc0_scratch0), ((c : Thread nD τ).loc cc0_scratch0) ↦{fullShare} f) ∗ bigSep (Finset.range 20) (fun i => cellP c (gC i))) :=
  (entails_of_eq (bigSep_congr fun i _ => gFr_pc c i)).trans
    (slots_whole (ℓ := ((c : Thread nD τ).loc cc0_scratch0)) 20 gSK (fun y : S20x128x7168.Idx => (y 0).val) gS_lt gS_mem (fun i => cellP c (gC i)) (gS 0).view.junk)

/-- The elements of piece `i`. -/
abbrev wSK (i : ℕ) : Finset S10x64x7168.Idx := (Rect.unit (s := S10x64x7168) (wSo i) S1x64x7168.size (wSo_inb i)).set
theorem wS_set (i : ℕ) : (wS i).view.set = wSK i := (View.set_reshape _ _).trans (View.set_slice_whole _ _)
theorem wS_mem (i : ℕ) (hi : i < 10) (y : S10x64x7168.Idx) : y ∈ wSK i ↔ (y 0).val = i := by
  exact mem_first (d := ![10, 64, 7168]) (off := wSo i) (size := S1x64x7168.size) (Nat.mod_eq_of_lt hi) rfl rfl rfl rfl rfl y
theorem wS_pc (i : ℕ) (f : Buf (Elt F) ((c : Thread nD τ).loc cc0_scratch1)) : (((wS i).view.loc (c : Thread nD τ) ↦[(wS i).view.set]{fullShare} f) : sProp 𝕄)
    = ((c : Thread nD τ).loc cc0_scratch1) ↦[wSK i]{fullShare} f :=
  congrArg (fun S => (_ ↦[S]{fullShare} f : sProp 𝕄)) (wS_set i)
theorem wS_lt : ∀ y : S10x64x7168.Idx, (y 0).val < 10 := fun y => (y 0).isLt
theorem wFr_pc (i : ℕ) : wFr c i = (iprop((∃ f : Buf (Elt F) ((c : Thread nD τ).loc cc0_scratch1), ((c : Thread nD τ).loc cc0_scratch1) ↦[wSK i]{fullShare} f) ∗ iprop(wrc c i ∗ wwc c i)) : sProp 𝕄) :=
  congrArg (fun Q : Buf (Elt F) ((c : Thread nD τ).loc cc0_scratch1) → sProp 𝕄 => iprop((∃ f : Buf (Elt F) ((c : Thread nD τ).loc cc0_scratch1), Q f) ∗ iprop(wrc c i ∗ wwc c i))) (funext fun f => wS_pc c i f)
theorem wS_free : iprop((∃ f : Buf (Elt F) ((c : Thread nD τ).loc cc0_scratch1), ((c : Thread nD τ).loc cc0_scratch1) ↦{fullShare} f) ∗ bigSep (Finset.range 10) (fun i => iprop(wrc c i ∗ wwc c i))) ⊢ (bigSep (Finset.range 10) (wFr c) : sProp 𝕄) :=
  (slots_free (ℓ := ((c : Thread nD τ).loc cc0_scratch1)) 10 wSK (fun y : S10x64x7168.Idx => (y 0).val) wS_lt wS_mem (fun i => iprop(wrc c i ∗ wwc c i))).trans (entails_of_eq (bigSep_congr fun i _ => (wFr_pc c i).symm))
theorem wS_whole : (bigSep (Finset.range 10) (wFr c) : sProp 𝕄) ⊢ iprop((∃ f : Buf (Elt F) ((c : Thread nD τ).loc cc0_scratch1), ((c : Thread nD τ).loc cc0_scratch1) ↦{fullShare} f) ∗ bigSep (Finset.range 10) (fun i => iprop(wrc c i ∗ wwc c i))) :=
  (entails_of_eq (bigSep_congr fun i _ => wFr_pc c i)).trans
    (slots_whole (ℓ := ((c : Thread nD τ).loc cc0_scratch1)) 10 wSK (fun y : S10x64x7168.Idx => (y 0).val) wS_lt wS_mem (fun i => iprop(wrc c i ∗ wwc c i)) (wS 0).view.junk)

/-- The elements of piece `i`. -/
abbrev pSK (i : ℕ) : Finset S2x128x7168.Idx := (Rect.unit (s := S2x128x7168) (pSo i) S1x128x7168.size (pSo_inb i)).set
theorem pS_set (i : ℕ) : (pS i).view.set = pSK i := (View.set_reshape _ _).trans (View.set_slice_whole _ _)
theorem pS_mem (i : ℕ) (hi : i < 2) (y : S2x128x7168.Idx) : y ∈ pSK i ↔ (y 0).val = i := by
  exact mem_first (d := ![2, 128, 7168]) (off := pSo i) (size := S1x128x7168.size) (Nat.mod_eq_of_lt hi) rfl rfl rfl rfl rfl y
theorem pS_pc (i : ℕ) (f : Buf (Elt F) ((c : Thread nD τ).loc cc0_scratch2)) : (((pS i).view.loc (c : Thread nD τ) ↦[(pS i).view.set]{fullShare} f) : sProp 𝕄)
    = ((c : Thread nD τ).loc cc0_scratch2) ↦[pSK i]{fullShare} f :=
  congrArg (fun S => (_ ↦[S]{fullShare} f : sProp 𝕄)) (pS_set i)
theorem pS_lt : ∀ y : S2x128x7168.Idx, (y 0).val < 2 := fun y => (y 0).isLt
theorem pFr_pc (i : ℕ) : pFr c i = (iprop((∃ f : Buf (Elt F) ((c : Thread nD τ).loc cc0_scratch2), ((c : Thread nD τ).loc cc0_scratch2) ↦[pSK i]{fullShare} f) ∗ cellP c (pC i)) : sProp 𝕄) :=
  congrArg (fun Q : Buf (Elt F) ((c : Thread nD τ).loc cc0_scratch2) → sProp 𝕄 => iprop((∃ f : Buf (Elt F) ((c : Thread nD τ).loc cc0_scratch2), Q f) ∗ cellP c (pC i))) (funext fun f => pS_pc c i f)
theorem pS_free : iprop((∃ f : Buf (Elt F) ((c : Thread nD τ).loc cc0_scratch2), ((c : Thread nD τ).loc cc0_scratch2) ↦{fullShare} f) ∗ bigSep (Finset.range 2) (fun i => cellP c (pC i))) ⊢ (bigSep (Finset.range 2) (pFr c) : sProp 𝕄) :=
  (slots_free (ℓ := ((c : Thread nD τ).loc cc0_scratch2)) 2 pSK (fun y : S2x128x7168.Idx => (y 0).val) pS_lt pS_mem (fun i => cellP c (pC i))).trans (entails_of_eq (bigSep_congr fun i _ => (pFr_pc c i).symm))
theorem pS_whole : (bigSep (Finset.range 2) (pFr c) : sProp 𝕄) ⊢ iprop((∃ f : Buf (Elt F) ((c : Thread nD τ).loc cc0_scratch2), ((c : Thread nD τ).loc cc0_scratch2) ↦{fullShare} f) ∗ bigSep (Finset.range 2) (fun i => cellP c (pC i))) :=
  (entails_of_eq (bigSep_congr fun i _ => pFr_pc c i)).trans
    (slots_whole (ℓ := ((c : Thread nD τ).loc cc0_scratch2)) 2 pSK (fun y : S2x128x7168.Idx => (y 0).val) pS_lt pS_mem (fun i => cellP c (pC i)) (pS 0).view.junk)

/-- The elements of piece `i`. -/
abbrev mcSK (i : ℕ) : Finset S2x128x2048.Idx := (Rect.unit (s := S2x128x2048) (mcSo i) S1x128x2048.size (mcSo_inb i)).set
theorem mcS_set (i : ℕ) : (mcS i).view.set = mcSK i := (View.set_reshape _ _).trans (View.set_slice_whole _ _)
theorem mcS_mem (i : ℕ) (hi : i < 2) (y : S2x128x2048.Idx) : y ∈ mcSK i ↔ (y 0).val = i := by
  exact mem_first (d := ![2, 128, 2048]) (off := mcSo i) (size := S1x128x2048.size) (Nat.mod_eq_of_lt hi) rfl rfl rfl rfl rfl y
theorem mcS_pc (i : ℕ) (f : Buf (Elt F) ((c : Thread nD τ).loc cc0_scratch3)) : (((mcS i).view.loc (c : Thread nD τ) ↦[(mcS i).view.set]{fullShare} f) : sProp 𝕄)
    = ((c : Thread nD τ).loc cc0_scratch3) ↦[mcSK i]{fullShare} f :=
  congrArg (fun S => (_ ↦[S]{fullShare} f : sProp 𝕄)) (mcS_set i)
theorem mcS_lt : ∀ y : S2x128x2048.Idx, (y 0).val < 2 := fun y => (y 0).isLt
theorem mcFr_pc (i : ℕ) : mcFr c i = (iprop((∃ f : Buf (Elt F) ((c : Thread nD τ).loc cc0_scratch3), ((c : Thread nD τ).loc cc0_scratch3) ↦[mcSK i]{fullShare} f) ∗ cellP c (mcC i)) : sProp 𝕄) :=
  congrArg (fun Q : Buf (Elt F) ((c : Thread nD τ).loc cc0_scratch3) → sProp 𝕄 => iprop((∃ f : Buf (Elt F) ((c : Thread nD τ).loc cc0_scratch3), Q f) ∗ cellP c (mcC i))) (funext fun f => mcS_pc c i f)
theorem mcS_free : iprop((∃ f : Buf (Elt F) ((c : Thread nD τ).loc cc0_scratch3), ((c : Thread nD τ).loc cc0_scratch3) ↦{fullShare} f) ∗ bigSep (Finset.range 2) (fun i => cellP c (mcC i))) ⊢ (bigSep (Finset.range 2) (mcFr c) : sProp 𝕄) :=
  (slots_free (ℓ := ((c : Thread nD τ).loc cc0_scratch3)) 2 mcSK (fun y : S2x128x2048.Idx => (y 0).val) mcS_lt mcS_mem (fun i => cellP c (mcC i))).trans (entails_of_eq (bigSep_congr fun i _ => (mcFr_pc c i).symm))
theorem mcS_whole : (bigSep (Finset.range 2) (mcFr c) : sProp 𝕄) ⊢ iprop((∃ f : Buf (Elt F) ((c : Thread nD τ).loc cc0_scratch3), ((c : Thread nD τ).loc cc0_scratch3) ↦{fullShare} f) ∗ bigSep (Finset.range 2) (fun i => cellP c (mcC i))) :=
  (entails_of_eq (bigSep_congr fun i _ => mcFr_pc c i)).trans
    (slots_whole (ℓ := ((c : Thread nD τ).loc cc0_scratch3)) 2 mcSK (fun y : S2x128x2048.Idx => (y 0).val) mcS_lt mcS_mem (fun i => cellP c (mcC i)) (mcS 0).view.junk)

/-- The elements of piece `i`. -/
abbrev vcSK (i : ℕ) : Finset S2x128x2048.Idx := (Rect.unit (s := S2x128x2048) (vcSo i) S1x128x2048.size (vcSo_inb i)).set
theorem vcS_set (i : ℕ) : (vcS i).view.set = vcSK i := (View.set_reshape _ _).trans (View.set_slice_whole _ _)
theorem vcS_mem (i : ℕ) (hi : i < 2) (y : S2x128x2048.Idx) : y ∈ vcSK i ↔ (y 0).val = i := by
  exact mem_first (d := ![2, 128, 2048]) (off := vcSo i) (size := S1x128x2048.size) (Nat.mod_eq_of_lt hi) rfl rfl rfl rfl rfl y
theorem vcS_pc (i : ℕ) (f : Buf (Elt F) ((c : Thread nD τ).loc cc0_scratch4)) : (((vcS i).view.loc (c : Thread nD τ) ↦[(vcS i).view.set]{fullShare} f) : sProp 𝕄)
    = ((c : Thread nD τ).loc cc0_scratch4) ↦[vcSK i]{fullShare} f :=
  congrArg (fun S => (_ ↦[S]{fullShare} f : sProp 𝕄)) (vcS_set i)
theorem vcS_lt : ∀ y : S2x128x2048.Idx, (y 0).val < 2 := fun y => (y 0).isLt
theorem vcFr_pc (i : ℕ) : vcFr c i = (iprop((∃ f : Buf (Elt F) ((c : Thread nD τ).loc cc0_scratch4), ((c : Thread nD τ).loc cc0_scratch4) ↦[vcSK i]{fullShare} f) ∗ cellP c (vcC i)) : sProp 𝕄) :=
  congrArg (fun Q : Buf (Elt F) ((c : Thread nD τ).loc cc0_scratch4) → sProp 𝕄 => iprop((∃ f : Buf (Elt F) ((c : Thread nD τ).loc cc0_scratch4), Q f) ∗ cellP c (vcC i))) (funext fun f => vcS_pc c i f)
theorem vcS_free : iprop((∃ f : Buf (Elt F) ((c : Thread nD τ).loc cc0_scratch4), ((c : Thread nD τ).loc cc0_scratch4) ↦{fullShare} f) ∗ bigSep (Finset.range 2) (fun i => cellP c (vcC i))) ⊢ (bigSep (Finset.range 2) (vcFr c) : sProp 𝕄) :=
  (slots_free (ℓ := ((c : Thread nD τ).loc cc0_scratch4)) 2 vcSK (fun y : S2x128x2048.Idx => (y 0).val) vcS_lt vcS_mem (fun i => cellP c (vcC i))).trans (entails_of_eq (bigSep_congr fun i _ => (vcFr_pc c i).symm))
theorem vcS_whole : (bigSep (Finset.range 2) (vcFr c) : sProp 𝕄) ⊢ iprop((∃ f : Buf (Elt F) ((c : Thread nD τ).loc cc0_scratch4), ((c : Thread nD τ).loc cc0_scratch4) ↦{fullShare} f) ∗ bigSep (Finset.range 2) (fun i => cellP c (vcC i))) :=
  (entails_of_eq (bigSep_congr fun i _ => vcFr_pc c i)).trans
    (slots_whole (ℓ := ((c : Thread nD τ).loc cc0_scratch4)) 2 vcSK (fun y : S2x128x2048.Idx => (y 0).val) vcS_lt vcS_mem (fun i => cellP c (vcC i)) (vcS 0).view.junk)

/-- The elements of piece `i`. -/
abbrev msSK (i : ℕ) : Finset S2x128x16.Idx := (Rect.unit (s := S2x128x16) (msSo i) S1x128x16.size (msSo_inb i)).set
theorem msS_set (i : ℕ) : (msS i).view.set = msSK i := (View.set_reshape _ _).trans (View.set_slice_whole _ _)
theorem msS_mem (i : ℕ) (hi : i < 2) (y : S2x128x16.Idx) : y ∈ msSK i ↔ (y 0).val = i := by
  exact mem_first (d := ![2, 128, 16]) (off := msSo i) (size := S1x128x16.size) (Nat.mod_eq_of_lt hi) rfl rfl rfl rfl rfl y
theorem msS_pc (i : ℕ) (f : Buf (Elt F) ((c : Thread nD τ).loc cc0_scratch5)) : (((msS i).view.loc (c : Thread nD τ) ↦[(msS i).view.set]{fullShare} f) : sProp 𝕄)
    = ((c : Thread nD τ).loc cc0_scratch5) ↦[msSK i]{fullShare} f :=
  congrArg (fun S => (_ ↦[S]{fullShare} f : sProp 𝕄)) (msS_set i)
theorem msS_lt : ∀ y : S2x128x16.Idx, (y 0).val < 2 := fun y => (y 0).isLt
theorem msFr_pc (i : ℕ) : msFr c i = (iprop((∃ f : Buf (Elt F) ((c : Thread nD τ).loc cc0_scratch5), ((c : Thread nD τ).loc cc0_scratch5) ↦[msSK i]{fullShare} f) ∗ cellP c (msC i)) : sProp 𝕄) :=
  congrArg (fun Q : Buf (Elt F) ((c : Thread nD τ).loc cc0_scratch5) → sProp 𝕄 => iprop((∃ f : Buf (Elt F) ((c : Thread nD τ).loc cc0_scratch5), Q f) ∗ cellP c (msC i))) (funext fun f => msS_pc c i f)
theorem msS_free : iprop((∃ f : Buf (Elt F) ((c : Thread nD τ).loc cc0_scratch5), ((c : Thread nD τ).loc cc0_scratch5) ↦{fullShare} f) ∗ bigSep (Finset.range 2) (fun i => cellP c (msC i))) ⊢ (bigSep (Finset.range 2) (msFr c) : sProp 𝕄) :=
  (slots_free (ℓ := ((c : Thread nD τ).loc cc0_scratch5)) 2 msSK (fun y : S2x128x16.Idx => (y 0).val) msS_lt msS_mem (fun i => cellP c (msC i))).trans (entails_of_eq (bigSep_congr fun i _ => (msFr_pc c i).symm))
theorem msS_whole : (bigSep (Finset.range 2) (msFr c) : sProp 𝕄) ⊢ iprop((∃ f : Buf (Elt F) ((c : Thread nD τ).loc cc0_scratch5), ((c : Thread nD τ).loc cc0_scratch5) ↦{fullShare} f) ∗ bigSep (Finset.range 2) (fun i => cellP c (msC i))) :=
  (entails_of_eq (bigSep_congr fun i _ => msFr_pc c i)).trans
    (slots_whole (ℓ := ((c : Thread nD τ).loc cc0_scratch5)) 2 msSK (fun y : S2x128x16.Idx => (y 0).val) msS_lt msS_mem (fun i => cellP c (msC i)) (msS 0).view.junk)

/-- The elements of piece `i`. -/
abbrev vsSK (i : ℕ) : Finset S2x128x16.Idx := (Rect.unit (s := S2x128x16) (vsSo i) S1x128x16.size (vsSo_inb i)).set
theorem vsS_set (i : ℕ) : (vsS i).view.set = vsSK i := (View.set_reshape _ _).trans (View.set_slice_whole _ _)
theorem vsS_mem (i : ℕ) (hi : i < 2) (y : S2x128x16.Idx) : y ∈ vsSK i ↔ (y 0).val = i := by
  exact mem_first (d := ![2, 128, 16]) (off := vsSo i) (size := S1x128x16.size) (Nat.mod_eq_of_lt hi) rfl rfl rfl rfl rfl y
theorem vsS_pc (i : ℕ) (f : Buf (Elt F) ((c : Thread nD τ).loc cc0_scratch6)) : (((vsS i).view.loc (c : Thread nD τ) ↦[(vsS i).view.set]{fullShare} f) : sProp 𝕄)
    = ((c : Thread nD τ).loc cc0_scratch6) ↦[vsSK i]{fullShare} f :=
  congrArg (fun S => (_ ↦[S]{fullShare} f : sProp 𝕄)) (vsS_set i)
theorem vsS_lt : ∀ y : S2x128x16.Idx, (y 0).val < 2 := fun y => (y 0).isLt
theorem vsFr_pc (i : ℕ) : vsFr c i = (iprop((∃ f : Buf (Elt F) ((c : Thread nD τ).loc cc0_scratch6), ((c : Thread nD τ).loc cc0_scratch6) ↦[vsSK i]{fullShare} f) ∗ cellP c (vsC i)) : sProp 𝕄) :=
  congrArg (fun Q : Buf (Elt F) ((c : Thread nD τ).loc cc0_scratch6) → sProp 𝕄 => iprop((∃ f : Buf (Elt F) ((c : Thread nD τ).loc cc0_scratch6), Q f) ∗ cellP c (vsC i))) (funext fun f => vsS_pc c i f)
theorem vsS_free : iprop((∃ f : Buf (Elt F) ((c : Thread nD τ).loc cc0_scratch6), ((c : Thread nD τ).loc cc0_scratch6) ↦{fullShare} f) ∗ bigSep (Finset.range 2) (fun i => cellP c (vsC i))) ⊢ (bigSep (Finset.range 2) (vsFr c) : sProp 𝕄) :=
  (slots_free (ℓ := ((c : Thread nD τ).loc cc0_scratch6)) 2 vsSK (fun y : S2x128x16.Idx => (y 0).val) vsS_lt vsS_mem (fun i => cellP c (vsC i))).trans (entails_of_eq (bigSep_congr fun i _ => (vsFr_pc c i).symm))
theorem vsS_whole : (bigSep (Finset.range 2) (vsFr c) : sProp 𝕄) ⊢ iprop((∃ f : Buf (Elt F) ((c : Thread nD τ).loc cc0_scratch6), ((c : Thread nD τ).loc cc0_scratch6) ↦{fullShare} f) ∗ bigSep (Finset.range 2) (fun i => cellP c (vsC i))) :=
  (entails_of_eq (bigSep_congr fun i _ => vsFr_pc c i)).trans
    (slots_whole (ℓ := ((c : Thread nD τ).loc cc0_scratch6)) 2 vsSK (fun y : S2x128x16.Idx => (y 0).val) vsS_lt vsS_mem (fun i => cellP c (vsC i)) (vsS 0).view.junk)

/-- The elements of piece `i`. -/
abbrev nmSK (i : ℕ) : Finset S2x128x2048.Idx := (Rect.unit (s := S2x128x2048) (nmSo i) S1x128x2048.size (nmSo_inb i)).set
theorem nmS_set (i : ℕ) : (nmS i).view.set = nmSK i := (View.set_reshape _ _).trans (View.set_slice_whole _ _)
theorem nmS_mem (i : ℕ) (hi : i < 2) (y : S2x128x2048.Idx) : y ∈ nmSK i ↔ (y 0).val = i := by
  exact mem_first (d := ![2, 128, 2048]) (off := nmSo i) (size := S1x128x2048.size) (Nat.mod_eq_of_lt hi) rfl rfl rfl rfl rfl y
theorem nmS_pc (i : ℕ) (f : Buf (Elt F) ((c : Thread nD τ).loc cc0_scratch7)) : (((nmS i).view.loc (c : Thread nD τ) ↦[(nmS i).view.set]{fullShare} f) : sProp 𝕄)
    = ((c : Thread nD τ).loc cc0_scratch7) ↦[nmSK i]{fullShare} f :=
  congrArg (fun S => (_ ↦[S]{fullShare} f : sProp 𝕄)) (nmS_set i)
theorem nmS_lt : ∀ y : S2x128x2048.Idx, (y 0).val < 2 := fun y => (y 0).isLt
theorem nmFr_pc (i : ℕ) : nmFr c i = (iprop((∃ f : Buf (Elt F) ((c : Thread nD τ).loc cc0_scratch7), ((c : Thread nD τ).loc cc0_scratch7) ↦[nmSK i]{fullShare} f) ∗ cellP c (nmC i)) : sProp 𝕄) :=
  congrArg (fun Q : Buf (Elt F) ((c : Thread nD τ).loc cc0_scratch7) → sProp 𝕄 => iprop((∃ f : Buf (Elt F) ((c : Thread nD τ).loc cc0_scratch7), Q f) ∗ cellP c (nmC i))) (funext fun f => nmS_pc c i f)
theorem nmS_free : iprop((∃ f : Buf (Elt F) ((c : Thread nD τ).loc cc0_scratch7), ((c : Thread nD τ).loc cc0_scratch7) ↦{fullShare} f) ∗ bigSep (Finset.range 2) (fun i => cellP c (nmC i))) ⊢ (bigSep (Finset.range 2) (nmFr c) : sProp 𝕄) :=
  (slots_free (ℓ := ((c : Thread nD τ).loc cc0_scratch7)) 2 nmSK (fun y : S2x128x2048.Idx => (y 0).val) nmS_lt nmS_mem (fun i => cellP c (nmC i))).trans (entails_of_eq (bigSep_congr fun i _ => (nmFr_pc c i).symm))
theorem nmS_whole : (bigSep (Finset.range 2) (nmFr c) : sProp 𝕄) ⊢ iprop((∃ f : Buf (Elt F) ((c : Thread nD τ).loc cc0_scratch7), ((c : Thread nD τ).loc cc0_scratch7) ↦{fullShare} f) ∗ bigSep (Finset.range 2) (fun i => cellP c (nmC i))) :=
  (entails_of_eq (bigSep_congr fun i _ => nmFr_pc c i)).trans
    (slots_whole (ℓ := ((c : Thread nD τ).loc cc0_scratch7)) 2 nmSK (fun y : S2x128x2048.Idx => (y 0).val) nmS_lt nmS_mem (fun i => cellP c (nmC i)) (nmS 0).view.junk)

/-- The elements of piece `i`. -/
abbrev nvSK (i : ℕ) : Finset S2x128x2048.Idx := (Rect.unit (s := S2x128x2048) (nvSo i) S1x128x2048.size (nvSo_inb i)).set
theorem nvS_set (i : ℕ) : (nvS i).view.set = nvSK i := (View.set_reshape _ _).trans (View.set_slice_whole _ _)
theorem nvS_mem (i : ℕ) (hi : i < 2) (y : S2x128x2048.Idx) : y ∈ nvSK i ↔ (y 0).val = i := by
  exact mem_first (d := ![2, 128, 2048]) (off := nvSo i) (size := S1x128x2048.size) (Nat.mod_eq_of_lt hi) rfl rfl rfl rfl rfl y
theorem nvS_pc (i : ℕ) (f : Buf (Elt F) ((c : Thread nD τ).loc cc0_scratch8)) : (((nvS i).view.loc (c : Thread nD τ) ↦[(nvS i).view.set]{fullShare} f) : sProp 𝕄)
    = ((c : Thread nD τ).loc cc0_scratch8) ↦[nvSK i]{fullShare} f :=
  congrArg (fun S => (_ ↦[S]{fullShare} f : sProp 𝕄)) (nvS_set i)
theorem nvS_lt : ∀ y : S2x128x2048.Idx, (y 0).val < 2 := fun y => (y 0).isLt
theorem nvFr_pc (i : ℕ) : nvFr c i = (iprop((∃ f : Buf (Elt F) ((c : Thread nD τ).loc cc0_scratch8), ((c : Thread nD τ).loc cc0_scratch8) ↦[nvSK i]{fullShare} f) ∗ cellP c (nvC i)) : sProp 𝕄) :=
  congrArg (fun Q : Buf (Elt F) ((c : Thread nD τ).loc cc0_scratch8) → sProp 𝕄 => iprop((∃ f : Buf (Elt F) ((c : Thread nD τ).loc cc0_scratch8), Q f) ∗ cellP c (nvC i))) (funext fun f => nvS_pc c i f)
theorem nvS_free : iprop((∃ f : Buf (Elt F) ((c : Thread nD τ).loc cc0_scratch8), ((c : Thread nD τ).loc cc0_scratch8) ↦{fullShare} f) ∗ bigSep (Finset.range 2) (fun i => cellP c (nvC i))) ⊢ (bigSep (Finset.range 2) (nvFr c) : sProp 𝕄) :=
  (slots_free (ℓ := ((c : Thread nD τ).loc cc0_scratch8)) 2 nvSK (fun y : S2x128x2048.Idx => (y 0).val) nvS_lt nvS_mem (fun i => cellP c (nvC i))).trans (entails_of_eq (bigSep_congr fun i _ => (nvFr_pc c i).symm))
theorem nvS_whole : (bigSep (Finset.range 2) (nvFr c) : sProp 𝕄) ⊢ iprop((∃ f : Buf (Elt F) ((c : Thread nD τ).loc cc0_scratch8), ((c : Thread nD τ).loc cc0_scratch8) ↦{fullShare} f) ∗ bigSep (Finset.range 2) (fun i => cellP c (nvC i))) :=
  (entails_of_eq (bigSep_congr fun i _ => nvFr_pc c i)).trans
    (slots_whole (ℓ := ((c : Thread nD τ).loc cc0_scratch8)) 2 nvSK (fun y : S2x128x2048.Idx => (y 0).val) nvS_lt nvS_mem (fun i => cellP c (nvC i)) (nvS 0).view.junk)

/-- The elements of piece `i`. -/
abbrev nmsSK (i : ℕ) : Finset S2x128x16.Idx := (Rect.unit (s := S2x128x16) (nmsSo i) S1x128x16.size (nmsSo_inb i)).set
theorem nmsS_set (i : ℕ) : (nmsS i).view.set = nmsSK i := (View.set_reshape _ _).trans (View.set_slice_whole _ _)
theorem nmsS_mem (i : ℕ) (hi : i < 2) (y : S2x128x16.Idx) : y ∈ nmsSK i ↔ (y 0).val = i := by
  exact mem_first (d := ![2, 128, 16]) (off := nmsSo i) (size := S1x128x16.size) (Nat.mod_eq_of_lt hi) rfl rfl rfl rfl rfl y
theorem nmsS_pc (i : ℕ) (f : Buf (Elt F) ((c : Thread nD τ).loc cc0_scratch9)) : (((nmsS i).view.loc (c : Thread nD τ) ↦[(nmsS i).view.set]{fullShare} f) : sProp 𝕄)
    = ((c : Thread nD τ).loc cc0_scratch9) ↦[nmsSK i]{fullShare} f :=
  congrArg (fun S => (_ ↦[S]{fullShare} f : sProp 𝕄)) (nmsS_set i)
theorem nmsS_lt : ∀ y : S2x128x16.Idx, (y 0).val < 2 := fun y => (y 0).isLt
theorem nmsFr_pc (i : ℕ) : nmsFr c i = (iprop((∃ f : Buf (Elt F) ((c : Thread nD τ).loc cc0_scratch9), ((c : Thread nD τ).loc cc0_scratch9) ↦[nmsSK i]{fullShare} f) ∗ cellP c (nmsC i)) : sProp 𝕄) :=
  congrArg (fun Q : Buf (Elt F) ((c : Thread nD τ).loc cc0_scratch9) → sProp 𝕄 => iprop((∃ f : Buf (Elt F) ((c : Thread nD τ).loc cc0_scratch9), Q f) ∗ cellP c (nmsC i))) (funext fun f => nmsS_pc c i f)
theorem nmsS_free : iprop((∃ f : Buf (Elt F) ((c : Thread nD τ).loc cc0_scratch9), ((c : Thread nD τ).loc cc0_scratch9) ↦{fullShare} f) ∗ bigSep (Finset.range 2) (fun i => cellP c (nmsC i))) ⊢ (bigSep (Finset.range 2) (nmsFr c) : sProp 𝕄) :=
  (slots_free (ℓ := ((c : Thread nD τ).loc cc0_scratch9)) 2 nmsSK (fun y : S2x128x16.Idx => (y 0).val) nmsS_lt nmsS_mem (fun i => cellP c (nmsC i))).trans (entails_of_eq (bigSep_congr fun i _ => (nmsFr_pc c i).symm))
theorem nmsS_whole : (bigSep (Finset.range 2) (nmsFr c) : sProp 𝕄) ⊢ iprop((∃ f : Buf (Elt F) ((c : Thread nD τ).loc cc0_scratch9), ((c : Thread nD τ).loc cc0_scratch9) ↦{fullShare} f) ∗ bigSep (Finset.range 2) (fun i => cellP c (nmsC i))) :=
  (entails_of_eq (bigSep_congr fun i _ => nmsFr_pc c i)).trans
    (slots_whole (ℓ := ((c : Thread nD τ).loc cc0_scratch9)) 2 nmsSK (fun y : S2x128x16.Idx => (y 0).val) nmsS_lt nmsS_mem (fun i => cellP c (nmsC i)) (nmsS 0).view.junk)

/-- The elements of piece `i`. -/
abbrev nvsSK (i : ℕ) : Finset S2x128x16.Idx := (Rect.unit (s := S2x128x16) (nvsSo i) S1x128x16.size (nvsSo_inb i)).set
theorem nvsS_set (i : ℕ) : (nvsS i).view.set = nvsSK i := (View.set_reshape _ _).trans (View.set_slice_whole _ _)
theorem nvsS_mem (i : ℕ) (hi : i < 2) (y : S2x128x16.Idx) : y ∈ nvsSK i ↔ (y 0).val = i := by
  exact mem_first (d := ![2, 128, 16]) (off := nvsSo i) (size := S1x128x16.size) (Nat.mod_eq_of_lt hi) rfl rfl rfl rfl rfl y
theorem nvsS_pc (i : ℕ) (f : Buf (Elt F) ((c : Thread nD τ).loc cc0_scratch10)) : (((nvsS i).view.loc (c : Thread nD τ) ↦[(nvsS i).view.set]{fullShare} f) : sProp 𝕄)
    = ((c : Thread nD τ).loc cc0_scratch10) ↦[nvsSK i]{fullShare} f :=
  congrArg (fun S => (_ ↦[S]{fullShare} f : sProp 𝕄)) (nvsS_set i)
theorem nvsS_lt : ∀ y : S2x128x16.Idx, (y 0).val < 2 := fun y => (y 0).isLt
theorem nvsFr_pc (i : ℕ) : nvsFr c i = (iprop((∃ f : Buf (Elt F) ((c : Thread nD τ).loc cc0_scratch10), ((c : Thread nD τ).loc cc0_scratch10) ↦[nvsSK i]{fullShare} f) ∗ cellP c (nvsC i)) : sProp 𝕄) :=
  congrArg (fun Q : Buf (Elt F) ((c : Thread nD τ).loc cc0_scratch10) → sProp 𝕄 => iprop((∃ f : Buf (Elt F) ((c : Thread nD τ).loc cc0_scratch10), Q f) ∗ cellP c (nvsC i))) (funext fun f => nvsS_pc c i f)
theorem nvsS_free : iprop((∃ f : Buf (Elt F) ((c : Thread nD τ).loc cc0_scratch10), ((c : Thread nD τ).loc cc0_scratch10) ↦{fullShare} f) ∗ bigSep (Finset.range 2) (fun i => cellP c (nvsC i))) ⊢ (bigSep (Finset.range 2) (nvsFr c) : sProp 𝕄) :=
  (slots_free (ℓ := ((c : Thread nD τ).loc cc0_scratch10)) 2 nvsSK (fun y : S2x128x16.Idx => (y 0).val) nvsS_lt nvsS_mem (fun i => cellP c (nvsC i))).trans (entails_of_eq (bigSep_congr fun i _ => (nvsFr_pc c i).symm))
theorem nvsS_whole : (bigSep (Finset.range 2) (nvsFr c) : sProp 𝕄) ⊢ iprop((∃ f : Buf (Elt F) ((c : Thread nD τ).loc cc0_scratch10), ((c : Thread nD τ).loc cc0_scratch10) ↦{fullShare} f) ∗ bigSep (Finset.range 2) (fun i => cellP c (nvsC i))) :=
  (entails_of_eq (bigSep_congr fun i _ => nvsFr_pc c i)).trans
    (slots_whole (ℓ := ((c : Thread nD τ).loc cc0_scratch10)) 2 nvsSK (fun y : S2x128x16.Idx => (y 0).val) nvsS_lt nvsS_mem (fun i => cellP c (nvsC i)) (nvsS 0).view.junk)

theorem gRing_start : (bigSep (Finset.range 192) (gHm c X) : sProp 𝕄) ⊢ gRing c X 0 0 := by unfold gRing; rw [ring_start]
theorem gRing_end : gRing c X 192 192 ⊢ (iprop(bigSep (Finset.range 192) (gHm c X) ∗ bigSep (Finset.range 20) (gFr c)) : sProp 𝕄) := by
  unfold gRing; rw [ring_end]
  iintro ⟨HH, HK⟩
  isplitl [HH]; · iexact HH
  iapply (kept_free 192 20 (by decide) (gKp c X) (gFr c) (gKp_free c X) (fun i => gFr_eq c (by omega)))
  iexact HK
theorem pRing_start : (bigSep (Finset.range 12) (pHm c X) : sProp 𝕄) ⊢ pRing c X 0 0 := by unfold pRing; rw [ring_start]
theorem pRing_end : pRing c X 12 12 ⊢ (iprop(bigSep (Finset.range 12) (pHm c X) ∗ bigSep (Finset.range 2) (pFr c)) : sProp 𝕄) := by
  unfold pRing; rw [ring_end]
  iintro ⟨HH, HK⟩
  isplitl [HH]; · iexact HH
  iapply (kept_free 12 2 (by decide) (pKp c X) (pFr c) (pKp_free c X) (fun i => pFr_eq c (by omega)))
  iexact HK
theorem mcRing_start : (bigSep (Finset.range 12) (mcHm c X) : sProp 𝕄) ⊢ mcRing c X 0 0 := by unfold mcRing; rw [ring_start]
theorem mcRing_end : mcRing c X 12 12 ⊢ (iprop(bigSep (Finset.range 12) (mcHm c X) ∗ bigSep (Finset.range 2) (mcFr c)) : sProp 𝕄) := by
  unfold mcRing; rw [ring_end]
  iintro ⟨HH, HK⟩
  isplitl [HH]; · iexact HH
  iapply (kept_free 12 2 (by decide) (mcKp c X) (mcFr c) (mcKp_free c X) (fun i => mcFr_eq c (by omega)))
  iexact HK
theorem vcRing_start : (bigSep (Finset.range 12) (vcHm c X) : sProp 𝕄) ⊢ vcRing c X 0 0 := by unfold vcRing; rw [ring_start]
theorem vcRing_end : vcRing c X 12 12 ⊢ (iprop(bigSep (Finset.range 12) (vcHm c X) ∗ bigSep (Finset.range 2) (vcFr c)) : sProp 𝕄) := by
  unfold vcRing; rw [ring_end]
  iintro ⟨HH, HK⟩
  isplitl [HH]; · iexact HH
  iapply (kept_free 12 2 (by decide) (vcKp c X) (vcFr c) (vcKp_free c X) (fun i => vcFr_eq c (by omega)))
  iexact HK
theorem msRing_start : (bigSep (Finset.range 12) (msHm c X) : sProp 𝕄) ⊢ msRing c X 0 0 := by unfold msRing; rw [ring_start]
theorem msRing_end : msRing c X 12 12 ⊢ (iprop(bigSep (Finset.range 12) (msHm c X) ∗ bigSep (Finset.range 2) (msFr c)) : sProp 𝕄) := by
  unfold msRing; rw [ring_end]
  iintro ⟨HH, HK⟩
  isplitl [HH]; · iexact HH
  iapply (kept_free 12 2 (by decide) (msKp c X) (msFr c) (msKp_free c X) (fun i => msFr_eq c (by omega)))
  iexact HK
theorem vsRing_start : (bigSep (Finset.range 12) (vsHm c X) : sProp 𝕄) ⊢ vsRing c X 0 0 := by unfold vsRing; rw [ring_start]
theorem vsRing_end : vsRing c X 12 12 ⊢ (iprop(bigSep (Finset.range 12) (vsHm c X) ∗ bigSep (Finset.range 2) (vsFr c)) : sProp 𝕄) := by
  unfold vsRing; rw [ring_end]
  iintro ⟨HH, HK⟩
  isplitl [HH]; · iexact HH
  iapply (kept_free 12 2 (by decide) (vsKp c X) (vsFr c) (vsKp_free c X) (fun i => vsFr_eq c (by omega)))
  iexact HK
theorem wRing_start : (iprop(bigSep (Finset.range 384) (dAn c) ∗ bigSep (Finset.range 384) (wHm c X)) : sProp 𝕄) ⊢ wRing c X 0 0 0 := by
  unfold wRing; rw [wring_start]
  exact entails_of_eq (bigSep_sep _ _ _).symm
theorem wRing_end : wRing c X 384 384 384 ⊢ (iprop(bigSep (Finset.range 384) (wHm c X) ∗ bigSep (Finset.range 384) (dDn c X) ∗ bigSep (Finset.range 10) (wFr c)) : sProp 𝕄) := by
  unfold wRing; rw [wring_end]
  iintro ⟨HH, HD, HK⟩
  isplitl [HH]; · iexact HH
  isplitl [HD]; · iexact HD
  iapply (kept_free 384 10 (by decide) (fun i => iprop(wSl c i ∗ wrc c i ∗ wwc c i)) (wFr c) (fun i => by unfold wFr; iintro H; iexact H)
    (fun i => by unfold wFr; rw [wSl_eq c (i := i + 10) (j := i) (by omega), wrc_eq c (i := i + 10) (j := i) (by omega), wwc_eq c (i := i + 10) (j := i) (by omega)]))
  iexact HK

end Cert.Proof.Kernel

end
-- ==== Proof.Hand.lean ====
/- The body's start and end with everything whole. -/
module

public import proofs.«01_k».proof.Proof.Wholes
public import proofs.«01_k».proof.Proof.Gen.Kernel.Launch

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The semaphores -/

/-- The kernel's own semaphores, one after another. -/
def semOf (i : ℕ) : DmaSems sig S_ :=
  if i < 20 then gC i else if i < 30 then rC (i - 20) else if i < 40 then wC (i - 30) else if i < 42 then pC (i - 40) else if i < 44 then mcC (i - 42)
  else if i < 46 then msC (i - 44) else if i < 48 then vcC (i - 46) else if i < 50 then vsC (i - 48) else if i < 52 then nmC (i - 50)
  else if i < 54 then nmsC (i - 52) else if i < 56 then nvC (i - 54) else if i < 58 then nvsC (i - 56) else cc0_scratch24
abbrev osem : Fin 59 → SemLoc sig := fun i => .dma (semOf i.val).sem
theorem ownSemFacts : Pipeline.OwnSemFacts spec0 osem := by decide +kernel

theorem semOf_g (i : ℕ) (h : i < 20) : semOf (i) = gC i := by unfold semOf; rw [if_pos (by omega)]
theorem semOf_r (i : ℕ) (h : i < 10) : semOf (20 + i) = rC i := by unfold semOf; rw [if_neg (by omega), if_pos (by omega), Nat.add_sub_cancel_left]
theorem semOf_w (i : ℕ) (h : i < 10) : semOf (30 + i) = wC i := by unfold semOf; rw [if_neg (by omega), if_neg (by omega), if_pos (by omega), Nat.add_sub_cancel_left]
theorem semOf_p (i : ℕ) (h : i < 2) : semOf (40 + i) = pC i := by unfold semOf; rw [if_neg (by omega), if_neg (by omega), if_neg (by omega), if_pos (by omega), Nat.add_sub_cancel_left]
theorem semOf_mc (i : ℕ) (h : i < 2) : semOf (42 + i) = mcC i := by unfold semOf; rw [if_neg (by omega), if_neg (by omega), if_neg (by omega), if_neg (by omega), if_pos (by omega), Nat.add_sub_cancel_left]
theorem semOf_ms (i : ℕ) (h : i < 2) : semOf (44 + i) = msC i := by unfold semOf; rw [if_neg (by omega), if_neg (by omega), if_neg (by omega), if_neg (by omega), if_neg (by omega), if_pos (by omega), Nat.add_sub_cancel_left]
theorem semOf_vc (i : ℕ) (h : i < 2) : semOf (46 + i) = vcC i := by unfold semOf; rw [if_neg (by omega), if_neg (by omega), if_neg (by omega), if_neg (by omega), if_neg (by omega), if_neg (by omega), if_pos (by omega), Nat.add_sub_cancel_left]
theorem semOf_vs (i : ℕ) (h : i < 2) : semOf (48 + i) = vsC i := by unfold semOf; rw [if_neg (by omega), if_neg (by omega), if_neg (by omega), if_neg (by omega), if_neg (by omega), if_neg (by omega), if_neg (by omega), if_pos (by omega), Nat.add_sub_cancel_left]
theorem semOf_nm (i : ℕ) (h : i < 2) : semOf (50 + i) = nmC i := by unfold semOf; rw [if_neg (by omega), if_neg (by omega), if_neg (by omega), if_neg (by omega), if_neg (by omega), if_neg (by omega), if_neg (by omega), if_neg (by omega), if_pos (by omega), Nat.add_sub_cancel_left]
theorem semOf_nms (i : ℕ) (h : i < 2) : semOf (52 + i) = nmsC i := by unfold semOf; rw [if_neg (by omega), if_neg (by omega), if_neg (by omega), if_neg (by omega), if_neg (by omega), if_neg (by omega), if_neg (by omega), if_neg (by omega), if_neg (by omega), if_pos (by omega), Nat.add_sub_cancel_left]
theorem semOf_nv (i : ℕ) (h : i < 2) : semOf (54 + i) = nvC i := by unfold semOf; rw [if_neg (by omega), if_neg (by omega), if_neg (by omega), if_neg (by omega), if_neg (by omega), if_neg (by omega), if_neg (by omega), if_neg (by omega), if_neg (by omega), if_neg (by omega), if_pos (by omega), Nat.add_sub_cancel_left]
theorem semOf_nvs (i : ℕ) (h : i < 2) : semOf (56 + i) = nvsC i := by unfold semOf; rw [if_neg (by omega), if_neg (by omega), if_neg (by omega), if_neg (by omega), if_neg (by omega), if_neg (by omega), if_neg (by omega), if_neg (by omega), if_neg (by omega), if_neg (by omega), if_neg (by omega), if_pos (by omega), Nat.add_sub_cancel_left]

variable (c : Dev nD) (X : Src F c)

/-- The semaphores, by ring. -/
def sems : sProp 𝕄 := iprop(bigSep (Finset.range 20) (fun i => cellP c (gC i)) ∗ bigSep (Finset.range 10) (fun i => cellP c (rC i)) ∗ bigSep (Finset.range 10) (fun i => cellP c (wC i)) ∗ bigSep (Finset.range 2) (fun i => cellP c (pC i)) ∗ bigSep (Finset.range 2) (fun i => cellP c (mcC i)) ∗ bigSep (Finset.range 2) (fun i => cellP c (msC i)) ∗ bigSep (Finset.range 2) (fun i => cellP c (vcC i)) ∗ bigSep (Finset.range 2) (fun i => cellP c (vsC i)) ∗ bigSep (Finset.range 2) (fun i => cellP c (nmC i)) ∗ bigSep (Finset.range 2) (fun i => cellP c (nmsC i)) ∗ bigSep (Finset.range 2) (fun i => cellP c (nvC i)) ∗ bigSep (Finset.range 2) (fun i => cellP c (nvsC i)) ∗ cellP c cc0_scratch24)
theorem sems_eq : (Pipeline.ownSems0 (Ix := Unit) (Name := ℕ) (U := UU nD τ) (Lvl := ℕ) (Val := Elt F) (τ := τ) osem c : sProp 𝕄) = sems c := by
  unfold Pipeline.ownSems0 sems
  refine (range_fin 59 (fun i => cellP c (semOf i))).trans ?_
  refine (range_add (fun i => cellP c (semOf (i))) 20 39).trans (congr (congrArg _ (bigSep_congr fun i hi => congrArg (cellP c) (semOf_g i (Finset.mem_range.mp hi)))) ?_)
  refine (range_add (fun i => cellP c (semOf (20 + i))) 10 29).trans (congr (congrArg _ (bigSep_congr fun i hi => congrArg (cellP c) (semOf_r i (Finset.mem_range.mp hi)))) ?_)
  refine (bigSep_congr (Ψ := fun i => cellP c (semOf (30 + i))) fun i _ => by show cellP c (semOf _) = cellP c (semOf _); congr 2; omega).trans ?_
  refine (range_add (fun i => cellP c (semOf (30 + i))) 10 19).trans (congr (congrArg _ (bigSep_congr fun i hi => congrArg (cellP c) (semOf_w i (Finset.mem_range.mp hi)))) ?_)
  refine (bigSep_congr (Ψ := fun i => cellP c (semOf (40 + i))) fun i _ => by show cellP c (semOf _) = cellP c (semOf _); congr 2; omega).trans ?_
  refine (range_add (fun i => cellP c (semOf (40 + i))) 2 17).trans (congr (congrArg _ (bigSep_congr fun i hi => congrArg (cellP c) (semOf_p i (Finset.mem_range.mp hi)))) ?_)
  refine (bigSep_congr (Ψ := fun i => cellP c (semOf (42 + i))) fun i _ => by show cellP c (semOf _) = cellP c (semOf _); congr 2; omega).trans ?_
  refine (range_add (fun i => cellP c (semOf (42 + i))) 2 15).trans (congr (congrArg _ (bigSep_congr fun i hi => congrArg (cellP c) (semOf_mc i (Finset.mem_range.mp hi)))) ?_)
  refine (bigSep_congr (Ψ := fun i => cellP c (semOf (44 + i))) fun i _ => by show cellP c (semOf _) = cellP c (semOf _); congr 2; omega).trans ?_
  refine (range_add (fun i => cellP c (semOf (44 + i))) 2 13).trans (congr (congrArg _ (bigSep_congr fun i hi => congrArg (cellP c) (semOf_ms i (Finset.mem_range.mp hi)))) ?_)
  refine (bigSep_congr (Ψ := fun i => cellP c (semOf (46 + i))) fun i _ => by show cellP c (semOf _) = cellP c (semOf _); congr 2; omega).trans ?_
  refine (range_add (fun i => cellP c (semOf (46 + i))) 2 11).trans (congr (congrArg _ (bigSep_congr fun i hi => congrArg (cellP c) (semOf_vc i (Finset.mem_range.mp hi)))) ?_)
  refine (bigSep_congr (Ψ := fun i => cellP c (semOf (48 + i))) fun i _ => by show cellP c (semOf _) = cellP c (semOf _); congr 2; omega).trans ?_
  refine (range_add (fun i => cellP c (semOf (48 + i))) 2 9).trans (congr (congrArg _ (bigSep_congr fun i hi => congrArg (cellP c) (semOf_vs i (Finset.mem_range.mp hi)))) ?_)
  refine (bigSep_congr (Ψ := fun i => cellP c (semOf (50 + i))) fun i _ => by show cellP c (semOf _) = cellP c (semOf _); congr 2; omega).trans ?_
  refine (range_add (fun i => cellP c (semOf (50 + i))) 2 7).trans (congr (congrArg _ (bigSep_congr fun i hi => congrArg (cellP c) (semOf_nm i (Finset.mem_range.mp hi)))) ?_)
  refine (bigSep_congr (Ψ := fun i => cellP c (semOf (52 + i))) fun i _ => by show cellP c (semOf _) = cellP c (semOf _); congr 2; omega).trans ?_
  refine (range_add (fun i => cellP c (semOf (52 + i))) 2 5).trans (congr (congrArg _ (bigSep_congr fun i hi => congrArg (cellP c) (semOf_nms i (Finset.mem_range.mp hi)))) ?_)
  refine (bigSep_congr (Ψ := fun i => cellP c (semOf (54 + i))) fun i _ => by show cellP c (semOf _) = cellP c (semOf _); congr 2; omega).trans ?_
  refine (range_add (fun i => cellP c (semOf (54 + i))) 2 3).trans (congr (congrArg _ (bigSep_congr fun i hi => congrArg (cellP c) (semOf_nv i (Finset.mem_range.mp hi)))) ?_)
  refine (bigSep_congr (Ψ := fun i => cellP c (semOf (56 + i))) fun i _ => by show cellP c (semOf _) = cellP c (semOf _); congr 2; omega).trans ?_
  refine (range_add (fun i => cellP c (semOf (56 + i))) 2 1).trans (congr (congrArg _ (bigSep_congr fun i hi => congrArg (cellP c) (semOf_nvs i (Finset.mem_range.mp hi)))) ?_)
  refine (bigSep_congr (Ψ := fun i => cellP c (semOf (58 + i))) fun i _ => by show cellP c (semOf _) = cellP c (semOf _); congr 2; omega).trans ?_
  rw [show Finset.range 1 = {0} from rfl, bigSep_singleton]
  rfl

/-! ## The arrays and the buffers, whole -/

/-- A buffer at some contents. -/
abbrev anyOf (r : Ref sig .tc) : sProp 𝕄 := iprop(∃ f : Buf (Elt F) ((c : Thread nD τ).loc r), ((c : Thread nD τ).loc r) ↦{fullShare} f)
/-- The arguments the kernel transfers from. -/
def srcs : sProp 𝕄 := iprop((((c : Thread nD τ).loc main_arg0) ↦{fullShare} X.w) ∗ (((c : Thread nD τ).loc main_arg1) ↦{fullShare} X.g) ∗ (((c : Thread nD τ).loc main_arg2) ↦{fullShare} X.p) ∗ (((c : Thread nD τ).loc main_arg3) ↦{fullShare} X.mc) ∗ (((c : Thread nD τ).loc main_arg4) ↦{fullShare} X.ms) ∗ (((c : Thread nD τ).loc main_arg5) ↦{fullShare} X.vc) ∗ (((c : Thread nD τ).loc main_arg6) ↦{fullShare} X.vs))
/-- The results it transfers to, -/
def outsAny : sProp 𝕄 := iprop(anyOf c main_v0_0 ∗ anyOf c main_v0_1 ∗ anyOf c main_v0_3 ∗ anyOf c main_v0_4 ∗ anyOf c main_v0_5 ∗ anyOf c main_v0_6)
/-- done. -/
def outsDone : sProp 𝕄 := iprop((∃ g : Buf (Elt F) ((c : Thread nD τ).loc main_v0_0), ⌜dRes c X g⌝ ∗ ((c : Thread nD τ).loc main_v0_0) ↦{fullShare} g) ∗ (∃ g : Buf (Elt F) ((c : Thread nD τ).loc main_v0_3), ⌜nmRes c X g⌝ ∗ ((c : Thread nD τ).loc main_v0_3) ↦{fullShare} g) ∗ (∃ g : Buf (Elt F) ((c : Thread nD τ).loc main_v0_4), ⌜nmsRes c X g⌝ ∗ ((c : Thread nD τ).loc main_v0_4) ↦{fullShare} g) ∗ (∃ g : Buf (Elt F) ((c : Thread nD τ).loc main_v0_5), ⌜nvRes c X g⌝ ∗ ((c : Thread nD τ).loc main_v0_5) ↦{fullShare} g) ∗ (∃ g : Buf (Elt F) ((c : Thread nD τ).loc main_v0_6), ⌜nvsRes c X g⌝ ∗ ((c : Thread nD τ).loc main_v0_6) ↦{fullShare} g) ∗ anyOf c main_v0_1)
/-- Its buffers. -/
def bufs : sProp 𝕄 := iprop(anyOf c cc0_scratch0 ∗ anyOf c cc0_scratch1 ∗ anyOf c cc0_scratch2 ∗ anyOf c cc0_scratch3 ∗ anyOf c cc0_scratch4 ∗ anyOf c cc0_scratch5 ∗ anyOf c cc0_scratch6 ∗ anyOf c cc0_scratch7 ∗ anyOf c cc0_scratch8 ∗ anyOf c cc0_scratch9 ∗ anyOf c cc0_scratch10 ∗ anyOf c cc0_scratch11 ∗ anyOf c cc0_scratch12 ∗ anyOf c cc0_scratch13 ∗ anyOf c cc0_scratch14 ∗ anyOf c cc0_scratch15 ∗ anyOf c cc0_scratch16 ∗ anyOf c cc0_scratch17)

theorem whole_pc (r : Ref sig .tc) (f : Buf (Elt F) ((c : Thread nD τ).loc r)) :
    (((c : Thread nD τ).loc r) ↦{fullShare} f : sProp 𝕄) = ((Memref.whole r).view.loc (c : Thread nD τ) ↦[(Memref.whole r).view.set]{fullShare} f) :=
  congrArg (fun S => (((c : Thread nD τ).loc r) ↦[S]{fullShare} f : sProp 𝕄)) (View.set_whole r).symm

theorem p_slots : iprop(anyOf c cc0_scratch2 ∗ bigSep (Finset.range 2) (fun i => cellP c (pC i))) ⊢ (iprop(pFr c 0 ∗ pFr c 1) : sProp 𝕄) := (pS_free c).trans (entails_of_eq (range_two _))
theorem p_slots_back : (iprop(pFr c 0 ∗ pFr c 1) : sProp 𝕄) ⊢ iprop(anyOf c cc0_scratch2 ∗ bigSep (Finset.range 2) (fun i => cellP c (pC i))) := (entails_of_eq (range_two (pFr c)).symm).trans (pS_whole c)
theorem mc_slots : iprop(anyOf c cc0_scratch3 ∗ bigSep (Finset.range 2) (fun i => cellP c (mcC i))) ⊢ (iprop(mcFr c 0 ∗ mcFr c 1) : sProp 𝕄) := (mcS_free c).trans (entails_of_eq (range_two _))
theorem mc_slots_back : (iprop(mcFr c 0 ∗ mcFr c 1) : sProp 𝕄) ⊢ iprop(anyOf c cc0_scratch3 ∗ bigSep (Finset.range 2) (fun i => cellP c (mcC i))) := (entails_of_eq (range_two (mcFr c)).symm).trans (mcS_whole c)
theorem ms_slots : iprop(anyOf c cc0_scratch5 ∗ bigSep (Finset.range 2) (fun i => cellP c (msC i))) ⊢ (iprop(msFr c 0 ∗ msFr c 1) : sProp 𝕄) := (msS_free c).trans (entails_of_eq (range_two _))
theorem ms_slots_back : (iprop(msFr c 0 ∗ msFr c 1) : sProp 𝕄) ⊢ iprop(anyOf c cc0_scratch5 ∗ bigSep (Finset.range 2) (fun i => cellP c (msC i))) := (entails_of_eq (range_two (msFr c)).symm).trans (msS_whole c)
theorem vc_slots : iprop(anyOf c cc0_scratch4 ∗ bigSep (Finset.range 2) (fun i => cellP c (vcC i))) ⊢ (iprop(vcFr c 0 ∗ vcFr c 1) : sProp 𝕄) := (vcS_free c).trans (entails_of_eq (range_two _))
theorem vc_slots_back : (iprop(vcFr c 0 ∗ vcFr c 1) : sProp 𝕄) ⊢ iprop(anyOf c cc0_scratch4 ∗ bigSep (Finset.range 2) (fun i => cellP c (vcC i))) := (entails_of_eq (range_two (vcFr c)).symm).trans (vcS_whole c)
theorem vs_slots : iprop(anyOf c cc0_scratch6 ∗ bigSep (Finset.range 2) (fun i => cellP c (vsC i))) ⊢ (iprop(vsFr c 0 ∗ vsFr c 1) : sProp 𝕄) := (vsS_free c).trans (entails_of_eq (range_two _))
theorem vs_slots_back : (iprop(vsFr c 0 ∗ vsFr c 1) : sProp 𝕄) ⊢ iprop(anyOf c cc0_scratch6 ∗ bigSep (Finset.range 2) (fun i => cellP c (vsC i))) := (entails_of_eq (range_two (vsFr c)).symm).trans (vsS_whole c)
theorem nm_slots : iprop(anyOf c cc0_scratch7 ∗ bigSep (Finset.range 2) (fun i => cellP c (nmC i))) ⊢ (iprop(nmFr c 0 ∗ nmFr c 1) : sProp 𝕄) := (nmS_free c).trans (entails_of_eq (range_two _))
theorem nm_slots_back : (iprop(nmFr c 0 ∗ nmFr c 1) : sProp 𝕄) ⊢ iprop(anyOf c cc0_scratch7 ∗ bigSep (Finset.range 2) (fun i => cellP c (nmC i))) := (entails_of_eq (range_two (nmFr c)).symm).trans (nmS_whole c)
theorem nms_slots : iprop(anyOf c cc0_scratch9 ∗ bigSep (Finset.range 2) (fun i => cellP c (nmsC i))) ⊢ (iprop(nmsFr c 0 ∗ nmsFr c 1) : sProp 𝕄) := (nmsS_free c).trans (entails_of_eq (range_two _))
theorem nms_slots_back : (iprop(nmsFr c 0 ∗ nmsFr c 1) : sProp 𝕄) ⊢ iprop(anyOf c cc0_scratch9 ∗ bigSep (Finset.range 2) (fun i => cellP c (nmsC i))) := (entails_of_eq (range_two (nmsFr c)).symm).trans (nmsS_whole c)
theorem nv_slots : iprop(anyOf c cc0_scratch8 ∗ bigSep (Finset.range 2) (fun i => cellP c (nvC i))) ⊢ (iprop(nvFr c 0 ∗ nvFr c 1) : sProp 𝕄) := (nvS_free c).trans (entails_of_eq (range_two _))
theorem nv_slots_back : (iprop(nvFr c 0 ∗ nvFr c 1) : sProp 𝕄) ⊢ iprop(anyOf c cc0_scratch8 ∗ bigSep (Finset.range 2) (fun i => cellP c (nvC i))) := (entails_of_eq (range_two (nvFr c)).symm).trans (nvS_whole c)
theorem nvs_slots : iprop(anyOf c cc0_scratch10 ∗ bigSep (Finset.range 2) (fun i => cellP c (nvsC i))) ⊢ (iprop(nvsFr c 0 ∗ nvsFr c 1) : sProp 𝕄) := (nvsS_free c).trans (entails_of_eq (range_two _))
theorem nvs_slots_back : (iprop(nvsFr c 0 ∗ nvsFr c 1) : sProp 𝕄) ⊢ iprop(anyOf c cc0_scratch10 ∗ bigSep (Finset.range 2) (fun i => cellP c (nvsC i))) := (entails_of_eq (range_two (nvsFr c)).symm).trans (nvsS_whole c)
theorem g_slots : iprop(anyOf c cc0_scratch0 ∗ bigSep (Finset.range 20) (fun i => cellP c (gC i))) ⊢ (gFree c 0 : sProp 𝕄) :=
  (gS_free c).trans (entails_of_eq (bigSep_congr fun i _ => (if_pos (Nat.zero_le i)).symm))
theorem w_cells : (iprop(bigSep (Finset.range 10) (fun i => cellP c (rC i)) ∗ bigSep (Finset.range 10) (fun i => cellP c (wC i))) : sProp 𝕄) = bigSep (Finset.range 10) (fun i => iprop(wrc c i ∗ wwc c i)) :=
  (bigSep_sep (Finset.range 10) (fun i => cellP c (rC i)) (fun i => cellP c (wC i))).symm
theorem w_slots : iprop(anyOf c cc0_scratch1 ∗ bigSep (Finset.range 10) (fun i => cellP c (rC i)) ∗ bigSep (Finset.range 10) (fun i => cellP c (wC i))) ⊢ (wFree c 0 : sProp 𝕄) :=
  (entails_of_eq (congrArg (fun P => iprop(anyOf c cc0_scratch1 ∗ P)) (w_cells c))).trans ((wS_free c).trans (entails_of_eq (bigSep_congr fun i _ => (if_pos (Nat.zero_le i)).symm)))
theorem w_slots_back : bigSep (Finset.range 10) (wFr c) ⊢ (iprop(anyOf c cc0_scratch1 ∗ bigSep (Finset.range 10) (fun i => cellP c (rC i)) ∗ bigSep (Finset.range 10) (fun i => cellP c (wC i))) : sProp 𝕄) :=
  (wS_whole c).trans (entails_of_eq (congrArg (fun P => iprop(anyOf c cc0_scratch1 ∗ P)) (w_cells c).symm))

theorem nmOuts_start : bigSep (Finset.range 12) (nmAn c) ⊢ (nmOuts c X 0 0 : sProp 𝕄) := by unfold nmOuts; rw [outs_start]
theorem nmOuts_end : nmOuts c X 12 12 ⊢ (bigSep (Finset.range 12) (nmDn c X) : sProp 𝕄) := by unfold nmOuts; rw [outs_end]
theorem nmsOuts_start : bigSep (Finset.range 12) (nmsAn c) ⊢ (nmsOuts c X 0 0 : sProp 𝕄) := by unfold nmsOuts; rw [outs_start]
theorem nmsOuts_end : nmsOuts c X 12 12 ⊢ (bigSep (Finset.range 12) (nmsDn c X) : sProp 𝕄) := by unfold nmsOuts; rw [outs_end]
theorem nvOuts_start : bigSep (Finset.range 12) (nvAn c) ⊢ (nvOuts c X 0 0 : sProp 𝕄) := by unfold nvOuts; rw [outs_start]
theorem nvOuts_end : nvOuts c X 12 12 ⊢ (bigSep (Finset.range 12) (nvDn c X) : sProp 𝕄) := by unfold nvOuts; rw [outs_end]
theorem nvsOuts_start : bigSep (Finset.range 12) (nvsAn c) ⊢ (nvsOuts c X 0 0 : sProp 𝕄) := by unfold nvsOuts; rw [outs_start]
theorem nvsOuts_end : nvsOuts c X 12 12 ⊢ (bigSep (Finset.range 12) (nvsDn c X) : sProp 𝕄) := by unfold nvsOuts; rw [outs_end]

variable (arg0 : Memref sig .tc .smem S12 .i32) (arg1 : Memref sig .tc .smem S12 .f32) (arg11 : Memref sig .tc .smem S12 .f32)
  (stp : Buf (Elt F) (arg0.view.loc (c : Thread nD τ))) (prv : Buf (Elt F) (arg1.view.loc (c : Thread nD τ)))

/-- Before the body: everything whole. -/
def handIn : sProp 𝕄 := iprop(srcs c X ∗ outsAny c ∗ sems c ∗ bufs c
  ∗ (∃ f, arg11.view.loc (c : Thread nD τ) ↦[arg11.view.set]{fullShare} f) ∗ stepOwn c arg0 stp ∗ prevOwn c arg1 prv ∗ owesP c)
/-- After it: the same, the results written. -/
def handOut (no : Buf (Elt F) (arg11.view.loc (c : Thread nD τ))) : sProp 𝕄 := iprop(srcs c X ∗ outsDone c X ∗ sems c ∗ bufs c
  ∗ (arg11.view.loc (c : Thread nD τ) ↦[arg11.view.set]{fullShare} no) ∗ stepOwn c arg0 stp ∗ prevOwn c arg1 prv ∗ owesP c)

set_option maxHeartbeats 1000000 in
/-- Everything whole is what the body starts with. -/
theorem hand_in : handIn c X arg0 arg1 arg11 stp prv ⊢ (iprop(∃ s, bodyPre c X arg0 arg1 arg11 stp prv s) : sProp 𝕄) := by
  unfold handIn srcs outsAny sems bufs bodyPre
  iintro ⟨⟨Mw, Mg, Mp, Mmc, Mms, Mvc, Mvs⟩, ⟨⟨%fd, Od⟩, ⟨%fc, Oc⟩, ⟨%fnm, Onm⟩, ⟨%fnms, Onms⟩, ⟨%fnv, Onv⟩, ⟨%fnvs, Onvs⟩⟩, ⟨Sg, Sr, Sw, Sp, Smc, Sms, Svc, Svs, Snm, Snms, Snv, Snvs, Sc⟩, ⟨B0, B1, B2, B3, B4, B5, B6, B7, B8, B9, B10, ⟨%f11, B11⟩, ⟨%f12, B12⟩, ⟨%f13, B13⟩, ⟨%f14, B14⟩, ⟨%f15, B15⟩, ⟨%f16, B16⟩, ⟨%f17, B17⟩⟩, ⟨%no, Hno⟩, Hst, Hpr, HW⟩
  iexists { ch := f11, sc := f12, r := f13, rn := f14, na := f15, cf := f16, co := f17, no := no, nm := (nmS 0).view.junk, nms := (nmsS 0).view.junk, nv := (nvS 0).view.junk, nvs := (nvsS 0).view.junk }
  ihave Fp := (p_slots c) $$ [B2 Sp]
  · isplitl [B2]; · iexact B2
    iexact Sp
  icases Fp with ⟨Fp0, Fp1⟩
  ihave Fmc := (mc_slots c) $$ [B3 Smc]
  · isplitl [B3]; · iexact B3
    iexact Smc
  icases Fmc with ⟨Fmc0, Fmc1⟩
  ihave Fms := (ms_slots c) $$ [B5 Sms]
  · isplitl [B5]; · iexact B5
    iexact Sms
  icases Fms with ⟨Fms0, Fms1⟩
  ihave Fvc := (vc_slots c) $$ [B4 Svc]
  · isplitl [B4]; · iexact B4
    iexact Svc
  icases Fvc with ⟨Fvc0, Fvc1⟩
  ihave Fvs := (vs_slots c) $$ [B6 Svs]
  · isplitl [B6]; · iexact B6
    iexact Svs
  icases Fvs with ⟨Fvs0, Fvs1⟩
  ihave Fnm := (nm_slots c) $$ [B7 Snm]
  · isplitl [B7]; · iexact B7
    iexact Snm
  icases Fnm with ⟨Fnm0, Fnm1⟩
  ihave Fnms := (nms_slots c) $$ [B9 Snms]
  · isplitl [B9]; · iexact B9
    iexact Snms
  icases Fnms with ⟨Fnms0, Fnms1⟩
  ihave Fnv := (nv_slots c) $$ [B8 Snv]
  · isplitl [B8]; · iexact B8
    iexact Snv
  icases Fnv with ⟨Fnv0, Fnv1⟩
  ihave Fnvs := (nvs_slots c) $$ [B10 Snvs]
  · isplitl [B10]; · iexact B10
    iexact Snvs
  icases Fnvs with ⟨Fnvs0, Fnvs1⟩
  isplitl [Mp]; · iapply (pRing_start c X); iapply (entails_of_eq (pH_own c X)); iexact Mp
  isplitl [Mmc]; · iapply (mcRing_start c X); iapply (entails_of_eq (mcH_own c X)); iexact Mmc
  isplitl [Mms]; · iapply (msRing_start c X); iapply (entails_of_eq (msH_own c X)); iexact Mms
  isplitl [Mvc]; · iapply (vcRing_start c X); iapply (entails_of_eq (vcH_own c X)); iexact Mvc
  isplitl [Mvs]; · iapply (vsRing_start c X); iapply (entails_of_eq (vsH_own c X)); iexact Mvs
  isplitl [Fp0]; · iexact Fp0
  isplitl [Fp1]; · iexact Fp1
  isplitl [Fmc0 Fms0 Fvc0 Fvs0]
  · unfold inFr
    isplitl [Fmc0]; · iexact Fmc0
    isplitl [Fms0]; · iexact Fms0
    isplitl [Fvc0]; · iexact Fvc0
    iexact Fvs0
  isplitl [Fmc1 Fms1 Fvc1 Fvs1]
  · unfold inFr
    isplitl [Fmc1]; · iexact Fmc1
    isplitl [Fms1]; · iexact Fms1
    isplitl [Fvc1]; · iexact Fvc1
    iexact Fvs1
  isplitl [Mg]; · iapply (gRing_start c X); iapply (entails_of_eq (gH_own c X)); iexact Mg
  isplitl [B0 Sg]
  · iapply (g_slots c)
    isplitl [B0]; · iexact B0
    iexact Sg
  isplitl [Od Mw]
  · iapply (wRing_start c X)
    isplitl [Od]; · iapply (dH_any c fd); iexact Od
    iapply (entails_of_eq (wH_own c X)); iexact Mw
  isplitl [B1 Sr Sw]
  · iapply (w_slots c)
    isplitl [B1]; · iexact B1
    isplitl [Sr]; · iexact Sr
    iexact Sw
  isplitl [Onm]; · iapply (nmOuts_start c X); iapply (nmH_any c fnm); iexact Onm
  isplitl [Onms]; · iapply (nmsOuts_start c X); iapply (nmsH_any c fnms); iexact Onms
  isplitl [Onv]; · iapply (nvOuts_start c X); iapply (nvH_any c fnv); iexact Onv
  isplitl [Onvs]; · iapply (nvsOuts_start c X); iapply (nvsH_any c fnvs); iexact Onvs
  isplitl [Fnm0 Fnms0 Fnv0 Fnvs0]
  · unfold outFr
    isplitl [Fnm0]; · iexact Fnm0
    isplitl [Fnms0]; · iexact Fnms0
    isplitl [Fnv0]; · iexact Fnv0
    iexact Fnvs0
  isplitl [Fnm1 Fnms1 Fnv1 Fnvs1]
  · unfold outFr
    isplitl [Fnm1]; · iexact Fnm1
    isplitl [Fnms1]; · iexact Fnms1
    isplitl [Fnv1]; · iexact Fnv1
    iexact Fnvs1
  isplitl [Oc]; · iexists fc; iapply (entails_of_eq (whole_pc c main_v0_1 fc)); iexact Oc
  isplitl [Sc]; · iexact Sc
  isplitl [B11]; · unfold chOwn; iapply (entails_of_eq (whole_pc c cc0_scratch11 f11)); iexact B11
  isplitl [B12 B13 B14 B15 B16 B17 Hno]
  · unfold own
    isplitl [B12]; · iapply (entails_of_eq (whole_pc c cc0_scratch12 f12)); iexact B12
    isplitl [B13]; · iapply (entails_of_eq (whole_pc c cc0_scratch13 f13)); iexact B13
    isplitl [B14]; · iapply (entails_of_eq (whole_pc c cc0_scratch14 f14)); iexact B14
    isplitl [B15]; · iapply (entails_of_eq (whole_pc c cc0_scratch15 f15)); iexact B15
    isplitl [B16]; · iapply (entails_of_eq (whole_pc c cc0_scratch16 f16)); iexact B16
    isplitl [B17]; · iapply (entails_of_eq (whole_pc c cc0_scratch17 f17)); iexact B17
    iexact Hno
  isplitl [Hst]; · iexact Hst
  isplitl [Hpr]; · iexact Hpr
  iexact HW

set_option maxHeartbeats 1000000 in
/-- What the body ends with is everything whole. -/
theorem hand_out (s : St F c arg11) : bodyPost c X arg0 arg1 arg11 stp prv s ⊢ (handOut c X arg0 arg1 arg11 stp prv s.no : sProp 𝕄) := by
  unfold handOut srcs outsDone sems bufs bodyPost outFr chOwn own
  iintro ⟨Rp, Rmc, Rms, Rvc, Rvs, Rg, Rw, Onm, Onms, Onv, Onvs, ⟨Fnm0, Fnms0, Fnv0, Fnvs0⟩, ⟨Fnm1, Fnms1, Fnv1, Fnvs1⟩, ⟨%fc, Oc⟩, Sc, B11, ⟨B12, B13, B14, B15, B16, B17, Hno⟩, Hst, Hpr, HW⟩
  ihave Rp := (pRing_end c X) $$ Rp
  icases Rp with ⟨Mp, Fp⟩
  ihave Fp := (pS_whole c) $$ Fp
  icases Fp with ⟨B2, Sp⟩
  ihave Rmc := (mcRing_end c X) $$ Rmc
  icases Rmc with ⟨Mmc, Fmc⟩
  ihave Fmc := (mcS_whole c) $$ Fmc
  icases Fmc with ⟨B3, Smc⟩
  ihave Rms := (msRing_end c X) $$ Rms
  icases Rms with ⟨Mms, Fms⟩
  ihave Fms := (msS_whole c) $$ Fms
  icases Fms with ⟨B5, Sms⟩
  ihave Rvc := (vcRing_end c X) $$ Rvc
  icases Rvc with ⟨Mvc, Fvc⟩
  ihave Fvc := (vcS_whole c) $$ Fvc
  icases Fvc with ⟨B4, Svc⟩
  ihave Rvs := (vsRing_end c X) $$ Rvs
  icases Rvs with ⟨Mvs, Fvs⟩
  ihave Fvs := (vsS_whole c) $$ Fvs
  icases Fvs with ⟨B6, Svs⟩
  ihave Fnm := (nm_slots_back c) $$ [Fnm0 Fnm1]
  · isplitl [Fnm0]; · iexact Fnm0
    iexact Fnm1
  icases Fnm with ⟨B7, Snm⟩
  ihave Fnms := (nms_slots_back c) $$ [Fnms0 Fnms1]
  · isplitl [Fnms0]; · iexact Fnms0
    iexact Fnms1
  icases Fnms with ⟨B9, Snms⟩
  ihave Fnv := (nv_slots_back c) $$ [Fnv0 Fnv1]
  · isplitl [Fnv0]; · iexact Fnv0
    iexact Fnv1
  icases Fnv with ⟨B8, Snv⟩
  ihave Fnvs := (nvs_slots_back c) $$ [Fnvs0 Fnvs1]
  · isplitl [Fnvs0]; · iexact Fnvs0
    iexact Fnvs1
  icases Fnvs with ⟨B10, Snvs⟩
  ihave Rg := (gRing_end c X) $$ Rg
  icases Rg with ⟨Mg, Fg⟩
  ihave Fg := (gS_whole c) $$ Fg
  icases Fg with ⟨B0, Sg⟩
  ihave Rw := (wRing_end c X) $$ Rw
  icases Rw with ⟨Mw, Od, Fw⟩
  ihave Fw := (w_slots_back c) $$ Fw
  icases Fw with ⟨B1, Sr, Sw⟩
  isplitl [Mw Mg Mp Mmc Mms Mvc Mvs]
  · isplitl [Mw]; · iapply (entails_of_eq (wH_own c X).symm); iexact Mw
    isplitl [Mg]; · iapply (entails_of_eq (gH_own c X).symm); iexact Mg
    isplitl [Mp]; · iapply (entails_of_eq (pH_own c X).symm); iexact Mp
    isplitl [Mmc]; · iapply (entails_of_eq (mcH_own c X).symm); iexact Mmc
    isplitl [Mms]; · iapply (entails_of_eq (msH_own c X).symm); iexact Mms
    isplitl [Mvc]; · iapply (entails_of_eq (vcH_own c X).symm); iexact Mvc
    iapply (entails_of_eq (vsH_own c X).symm)
    iexact Mvs
  isplitl [Od Onm Onms Onv Onvs Oc]
  · isplitl [Od]; · iapply (dH_join c X); iexact Od
    isplitl [Onm]; · iapply (nmH_join c X); iapply (nmOuts_end c X); iexact Onm
    isplitl [Onms]; · iapply (nmsH_join c X); iapply (nmsOuts_end c X); iexact Onms
    isplitl [Onv]; · iapply (nvH_join c X); iapply (nvOuts_end c X); iexact Onv
    isplitl [Onvs]; · iapply (nvsH_join c X); iapply (nvsOuts_end c X); iexact Onvs
    iexists _
    iapply (entails_of_eq (whole_pc c main_v0_1 _).symm)
    iexact Oc
  isplitl [Sg Sr Sw Sp Smc Sms Svc Svs Snm Snms Snv Snvs Sc]
  · isplitl [Sg]; · iexact Sg
    isplitl [Sr]; · iexact Sr
    isplitl [Sw]; · iexact Sw
    isplitl [Sp]; · iexact Sp
    isplitl [Smc]; · iexact Smc
    isplitl [Sms]; · iexact Sms
    isplitl [Svc]; · iexact Svc
    isplitl [Svs]; · iexact Svs
    isplitl [Snm]; · iexact Snm
    isplitl [Snms]; · iexact Snms
    isplitl [Snv]; · iexact Snv
    isplitl [Snvs]; · iexact Snvs
    iexact Sc
  isplitl [B0 B1 B2 B3 B4 B5 B6 B7 B8 B9 B10 B11 B12 B13 B14 B15 B16 B17]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexists _; iapply (entails_of_eq (whole_pc c cc0_scratch11 _).symm); iexact B11
    isplitl [B12]; · iexists _; iapply (entails_of_eq (whole_pc c cc0_scratch12 _).symm); iexact B12
    isplitl [B13]; · iexists _; iapply (entails_of_eq (whole_pc c cc0_scratch13 _).symm); iexact B13
    isplitl [B14]; · iexists _; iapply (entails_of_eq (whole_pc c cc0_scratch14 _).symm); iexact B14
    isplitl [B15]; · iexists _; iapply (entails_of_eq (whole_pc c cc0_scratch15 _).symm); iexact B15
    isplitl [B16]; · iexists _; iapply (entails_of_eq (whole_pc c cc0_scratch16 _).symm); iexact B16
    iexists _
    iapply (entails_of_eq (whole_pc c cc0_scratch17 _).symm)
    iexact B17
  isplitl [Hno]; · iexact Hno
  isplitl [Hst]; · iexact Hst
  isplitl [Hpr]; · iexact Hpr
  iexact HW

end Cert.Proof.Kernel

end
-- ==== Proof.Launch.lean ====
/- The run of the whole program, from its launch to its end. -/
module

public import proofs.«01_k».proof.Proof.Hand
public import proofs.«01_k».proof.Defs
public import proofs.«01_k».proof.Proof.Gen.Kernel.Points
public import Idealize.ShloMosaic.Lib.Pipeline.KitQuiescent

@[expose] public section

set_option maxRecDepth 16384

noncomputable section

namespace Cert.Proof.Kernel

open Cert.Kernel Cert.Kernel.Gen Cert.Proof.Rings
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat RDat Cfg Window BodyObligation cellOf)

local notation "𝕄" => MT nD τ sig Unit (Elt F) ℕ (UU nD τ) ℕ

variable (m : (ℓ : Loc nD τ sig) → Buf (Elt F) ℓ) (ρ : Dev nD → PrngReg)

/-- The memory at launch. -/
abbrev s₀ : MemSt nD τ sig (Elt F) := ⟨m, fun _ => 0, ρ⟩
/-- A buffer's contents at launch. -/
abbrev V (c : Dev nD) (b : Ref sig .tc) : Buf (Elt F) ((c : Thread nD τ).loc b) := (s₀ m ρ).mem ((c : Thread nD τ).loc b)

/-- What is promised of the pieces of the results. -/
structure Ok (F : FTy → Type) [FloatOps F] (c : Dev nD) where
  nm : ℕ → Buf (Elt F) ((nmH 0).view.loc (c : Thread nD τ)) → Prop
  nms : ℕ → Buf (Elt F) ((nmsH 0).view.loc (c : Thread nD τ)) → Prop
  nv : ℕ → Buf (Elt F) ((nvH 0).view.loc (c : Thread nD τ)) → Prop
  nvs : ℕ → Buf (Elt F) ((nvsH 0).view.loc (c : Thread nD τ)) → Prop

variable (ok : (c : Dev nD) → Ok F c)

/-- The arguments the kernel transfers from, at launch, and what is promised. -/
def src (c : Dev nD) : Src F c where
  w := V m ρ c main_arg0
  g := V m ρ c main_arg1
  p := V m ρ c main_arg2
  mc := V m ρ c main_arg3
  ms := V m ρ c main_arg4
  vc := V m ρ c main_arg5
  vs := V m ρ c main_arg6
  okD := fun _ _ => True
  okNm := (ok c).nm
  okNms := (ok c).nms
  okNv := (ok c).nv
  okNvs := (ok c).nvs

/-- A plan for every core, true of any state before the first trip. -/
structure Plans where
  plan : ∀ (c : Dev nD) (arg0 : Memref sig .tc .smem S12 .i32) (harg0 : arg0.IsWhole) (arg1 : Memref sig .tc .smem S12 .f32) (harg1 : arg1.IsWhole)
    (arg11 : Memref sig .tc .smem S12 .f32) (harg11 : arg11.IsWhole) (stp : Buf (Elt F) (arg0.view.loc (c : Thread nD τ))) (prv : Buf (Elt F) (arg1.view.loc (c : Thread nD τ))),
    Plan c (src m ρ ok c) arg0 harg0 arg1 harg1 arg11 harg11 stp prv
  good : ∀ c arg0 harg0 arg1 harg1 arg11 harg11 stp prv s, (plan c arg0 harg0 arg1 harg1 arg11 harg11 stp prv).Good 0 s

/-- No promise. -/
def okAny (c : Dev nD) : Ok F c where
  nm _ _ := True
  nms _ _ := True
  nv _ _ := True
  nvs _ _ := True

/-- The plan that asks nothing of the contents. -/
def plansAny : Plans m ρ okAny where
  plan c arg0 harg0 arg1 harg1 arg11 harg11 stp prv :=
    { Good := fun _ _ => True
      Mid := fun _ _ => True
      Done := fun _ _ => True
      openB := fun _ _ _ _ _ _ _ _ _ => trivial
      stay := fun _ _ _ _ _ => trivial
      block := fun _ _ _ _ => trivial
      ends := fun _ _ _ _ _ => ⟨fun _ => trivial, fun _ => trivial, fun _ => trivial, fun _ => trivial⟩
      close := fun _ _ _ _ _ => trivial
      pass := fun _ _ _ _ _ => trivial
      late := fun _ _ _ _ => trivial
      first := fun _ _ => trivial }
  good _ _ _ _ _ _ _ _ _ _ := trivial

theorem N_eq : cfg0.N = 1 := by decide +kernel

/-! ## The pipeline's proof data -/

/-- What the region holds beside its windows before its one point, -/
def Φ (c : Dev nD) : sProp 𝕄 := iprop(srcs c (src m ρ ok c) ∗ outsAny c ∗ sems c ∗ bufs c)
/-- and after it: the results written. -/
def Φd (c : Dev nD) : sProp 𝕄 := iprop(srcs c (src m ρ ok c) ∗ outsDone c (src m ρ ok c) ∗ sems c ∗ bufs c)

/-- The window whose contents are left open: the new norms. -/
abbrev fgt : Fin cfg0.W → Bool := ![false, false, true]

/-- Window `w`'s block, read off its array at launch. -/
abbrev iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))
def dats (_ : Fin 1) (c : Dev nD) : Dat τ (Elt F) Unit ℕ (UU nD τ) ℕ cfg0 c where
  A w := V m ρ c (Pipeline.arrRef spec0 w)
  after w t := match w with
    | ⟨0, _⟩ => iblk m ρ c 0 t
    | ⟨1, _⟩ => iblk m ρ c 1 t
    | ⟨2, _⟩ => (win0_2.stage (cfg0.slots t 2)).view.read (Elt F) (win0_2.stage (cfg0.slots t 2)).view.junk
  Φ t := if t.val = 0 then Φ m ρ ok c else Φd m ρ ok c
  q _ := fullShare
  owed _ := 0

theorem Φ_at (c : Dev nD) (t : Fin (cfg0.N + 1)) : (dats m ρ ok 0 c).Φ t = if t.val = 0 then Φ m ρ ok c else Φd m ρ ok c := rfl
theorem Φ_first (c : Dev nD) (t : Fin (cfg0.N + 1)) (h : t.val = 0) : (dats m ρ ok 0 c).Φ t = Φ m ρ ok c := by rw [Φ_at, if_pos h]
theorem Φ_last (c : Dev nD) (t : Fin (cfg0.N + 1)) (h : t.val ≠ 0) : (dats m ρ ok 0 c).Φ t = Φd m ρ ok c := by rw [Φ_at, if_neg h]

theorem before_w0 (c : Dev nD) (t : Fin cfg0.N) (d) : (dats m ρ ok 0 c).before 0 t d = iblk m ρ c 0 t := by
  unfold Dat.before; rw [if_pos (fetch0_0 t)]; unfold Dat.fetched Dat.blockOf iblk; dsimp only [dats]; rfl
theorem before_w1 (c : Dev nD) (t : Fin cfg0.N) (d) : (dats m ρ ok 0 c).before 1 t d = iblk m ρ c 1 t := by
  unfold Dat.before; rw [if_pos (fetch0_1 t)]; unfold Dat.fetched Dat.blockOf iblk; dsimp only [dats]; rfl
theorem after_w0 (c : Dev nD) (t : Fin cfg0.N) : (dats m ρ ok 0 c).after 0 t = iblk m ρ c 0 t := by dsimp only [dats]
theorem after_w1 (c : Dev nD) (t : Fin cfg0.N) : (dats m ρ ok 0 c).after 1 t = iblk m ρ c 1 t := by dsimp only [dats]

/-! ## The body obligation -/

abbrev st0 (t : Fin cfg0.N) : Memref sig .tc .smem S12 .i32 := win0_0.stage (cfg0.slots t 0)
abbrev st1 (t : Fin cfg0.N) : Memref sig .tc .smem S12 .f32 := win0_1.stage (cfg0.slots t 1)
abbrev st2 (t : Fin cfg0.N) : Memref sig .tc .smem S12 .f32 := win0_2.stage (cfg0.slots t 2)

theorem defs_tc : (defs₀ (F := F)) .tc cfg0.body
    = fun a => cc0_apollo_step (win0_0.stage (a.2 0)) (hstage0_0 0) (win0_1.stage (a.2 1)) (hstage0_1 0) _ (hw main_arg0) _ (hw main_arg1) _ (hw main_arg2) _ (hw main_arg3) _ (hw main_arg4) _ (hw main_arg5) _ (hw main_arg6) _ (hw main_v0_0) _ (hw main_v0_1) (win0_2.stage (a.2 2)) (hstage0_2 0) _ (hw main_v0_3) _ (hw main_v0_4) _ (hw main_v0_5) _ (hw main_v0_6) _ (hw cc0_scratch0) _ (hw cc0_scratch1) _ (hw cc0_scratch2) _ (hw cc0_scratch3) _ (hw cc0_scratch4) _ (hw cc0_scratch5) _ (hw cc0_scratch6) _ (hw cc0_scratch7) _ (hw cc0_scratch8) _ (hw cc0_scratch9) _ (hw cc0_scratch10) _ (hw cc0_scratch11) _ (hw cc0_scratch12) _ (hw cc0_scratch13) _ (hw cc0_scratch14) _ (hw cc0_scratch15) _ (hw cc0_scratch16) _ (hw cc0_scratch17) cc0_scratch18 cc0_scratch19 cc0_scratch20 cc0_scratch21 cc0_scratch22 cc0_scratch23 cc0_scratch24 := rfl
theorem prog_eq (t : Fin cfg0.N) : (defs₀ (F := F)) .tc cfg0.body (cfg0.bodyArgs t (cfg0.slots t)) = bodyAt0 t :=
  (congrFun defs_tc _).trans rfl

variable (pl : Plans m ρ ok)

set_option backward.isDefEq.respectTransparency.types false in
set_option maxHeartbeats 1000000 in
include pl in
theorem body_obligation (c : Dev nD) : BodyObligation (dats (F := F) m ρ ok 0 c) (defs₀ (F := F)) 𝒱₀ () Set.univ fgt := fun t => by
  rw [bigSep_W0, bigSep_W0]
  rw [show fgt 0 = false from rfl, show fgt 1 = false from rfl, show fgt 2 = true from rfl]
  dsimp only
  simp only [before_w0, before_w1, after_w0, after_w1]
  have ht : t.val = 0 := by have := t.isLt; have e : cfg0.N = 1 := N_eq; omega
  rw [Φ_first m ρ ok c t.castSucc ht, Φ_last m ρ ok c t.succ (Nat.succ_ne_zero _)]
  unfold Dat.owesAt Pipeline.owesWithin
  rw [show (dats m ρ ok 0 c).owed t.castSucc = 0 from rfl, show (dats m ρ ok 0 c).owed t.succ = 0 from rfl]
  unfold owns Φ Φd
  iintro ⟨⟨Hs, Ho, Hc, Hb⟩, ⟨%W, -, HW⟩, ⟨%d0, %g0, %hg0, H0⟩, ⟨%d1, %g1, %hg1, H1⟩, ⟨%d2, %g2, -, H2⟩⟩
  sl_rw [prog_eq t]
  ihave HP := (hand_in c (src m ρ ok c) (st0 t) (st1 t) (st2 t) g0 g1) $$ [Hs Ho Hc Hb HW H0 H1 H2]
  · unfold handIn stepOwn prevOwn owesP
    isplitl [Hs]; · iexact Hs
    isplitl [Ho]; · iexact Ho
    isplitl [Hc]; · iexact Hc
    isplitl [Hb]; · iexact Hb
    isplitl [H2]; · iexists g2; iexact H2
    isplitl [H0]; · iexact H0
    isplitl [H1]; · iexact H1
    iexists W; iexact HW
  icases HP with ⟨%s, HP⟩
  iapply (body_run c (src m ρ ok c) (st0 t) (hstage0_0 0) (st1 t) (hstage0_1 0) (st2 t) (hstage0_2 0) g0 g1 (pl.plan c (st0 t) (hstage0_0 0) (st1 t) (hstage0_1 0) (st2 t) (hstage0_2 0) g0 g1) s (fun _ => pl.good _ _ _ _ _ _ _ _ _ _))
  isplitl [HP]; · iexact HP
  iintro %s' ⟨-, HP⟩
  ihave HP := (hand_out c (src m ρ ok c) (st0 t) (st1 t) (st2 t) g0 g1 s') $$ HP
  unfold handOut stepOwn prevOwn owesP
  icases HP with ⟨Hs, Ho, Hc, Hb, H2, H0, H1, ⟨%W', HW⟩⟩
  isplitl [Hs Ho Hc Hb]
  · isplitl [Hs]; · iexact Hs
    isplitl [Ho]; · iexact Ho
    isplitl [Hc]; · iexact Hc
    iexact Hb
  isplitl [HW]
  · iexists W'
    isplitr; · ipureintro; exact fun _ _ => Or.inl trivial
    iexact HW
  isplitl [H0]
  · iexists g0; isplitr; · ipureintro; exact hg0
    iexact H0
  isplitl [H1]
  · iexists g1; isplitr; · ipureintro; exact hg1
    iexact H1
  iexists _; iexists _; isplitr; swap
  · iexact H2
  · ipureintro; rfl

/-! ## The run -/

/-- What the kernel is entered with. -/
def intoΦ (c : Dev nD) : sProp 𝕄 := iprop(srcs c (src m ρ ok c) ∗ outsAny c ∗ sems c)
def u₀ : UU nD τ := (initOf (Pipeline.cells cfgs cellOf_inj) (Pipeline.launchToks cfgs cellOf_inj), 1)
/-- The arguments the kernel transfers from, unchanged, and the results as promised. -/
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_arg4) = m ((c : Thread nD τ).loc main_arg4) ∧ s.mem ((c : Thread nD τ).loc main_arg5) = m ((c : Thread nD τ).loc main_arg5)
  ∧ s.mem ((c : Thread nD τ).loc main_arg6) = m ((c : Thread nD τ).loc main_arg6)
  ∧ nmRes c (src m ρ ok c) (s.mem ((c : Thread nD τ).loc main_v0_3)) ∧ nmsRes c (src m ρ ok c) (s.mem ((c : Thread nD τ).loc main_v0_4))
  ∧ nvRes c (src m ρ ok c) (s.mem ((c : Thread nD τ).loc main_v0_5)) ∧ nvsRes c (src m ρ ok c) (s.mem ((c : Thread nD τ).loc main_v0_6))
def QC : PUnit × MemSt nD τ sig (Elt F) → Prop := fun r =>
  ∀ c : Dev nD, (∀ w : Fin cfg0.W, ((dats m ρ ok 0 c).toRForget fgt).ArrAt w cfg0.N (r.2.mem ((cfg0.win w).arr.view.loc (c : Thread nD τ)))) ∧ QY m ρ ok c r.2

include pl in
set_option backward.isDefEq.respectTransparency.types false in
set_option maxHeartbeats 1000000 in
/-- For any float values, from any memory with zero counters: the program ends, its arguments unchanged, its results as planned and every counter at zero. -/
theorem run_main : θ_run defs (onTc (τ := τ) (main (F := F))) (s₀ m ρ) (fun r => QC m ρ ok r ∧ r.2.sem = fun _ => 0) :=
  Pipeline.θ_run_region_kit_forget_quiescent cfgs (dats m ρ ok) () (0 : Fin 1) launch0 ownSemFacts EP defs₀ 𝒱₀ fgt m ρ main
    (hbody := fun c => (body_obligation m ρ ok pl c).loose) (hshare := fun c => (dats m ρ ok 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m ρ ok) (Y := fun c => iprop(srcs c (src m ρ ok c) ∗ outsDone c (src m ρ ok c))) (Z := fun _ => iprop(emp))
    (hX := fun c => by
      rw [unscopedRest0_eq, sems_eq]
      unfold intoΦ srcs outsAny src
      iintro ⟨⟨H0, H1, H2, H3, H4, H5, H6, O0, O1, O3, O4, O5, O6⟩, HS, -, -, -⟩; imodintro
      isplitl [H0 H1 H2 H3 H4 H5 H6 O0 O1 O3 O4 O5 O6 HS]
      · isplitl [H0 H1 H2 H3 H4 H5 H6]
        · isplitl [H0]; · iexact H0
          isplitl [H1]; · iexact H1
          isplitl [H2]; · iexact H2
          isplitl [H3]; · iexact H3
          isplitl [H4]; · iexact H4
          isplitl [H5]; · iexact H5
          iexact H6
        isplitl [O0 O1 O3 O4 O5 O6]
        · isplitl [O0]; · iexists _; iexact O0
          isplitl [O1]; · iexists _; iexact O1
          isplitl [O3]; · iexists _; iexact O3
          isplitl [O4]; · iexists _; iexact O4
          isplitl [O5]; · iexists _; iexact O5
          iexists _; iexact O6
        iexact HS
      iempintro)
    (hin := fun c => by
      rw [scopedRest0_eq, Φ_first m ρ ok c 0 rfl]
      unfold intoΦ Φ bufs
      iintro ⟨⟨Hs, Ho, Hc⟩, Hb⟩
      isplitl [Hs]; · iexact Hs
      isplitl [Ho]; · iexact Ho
      isplitl [Hc]; · iexact Hc
      iexact Hb)
    (hout := fun c => by
      rw [scopedRest0_eq, Φ_last m ρ ok c (Fin.last cfg0.N) (by rw [Fin.val_last]; exact Nat.succ_ne_zero 0), sems_eq]
      unfold Φd bufs
      iintro ⟨Hs, Ho, Hc, Hb⟩
      isplitl [Hs Ho]
      · isplitl [Hs]; · iexact Hs
        iexact Ho
      isplitl [Hc]; · iexact Hc
      iexact Hb)
    (QY := QY m ρ ok)
    (hY := fun c s' => by
      unfold srcs src outsDone
      iintro ⟨⟨⟨H0, H1, H2, H3, H4, H5, H6⟩, -, ⟨%nm, %hnm, Hnm⟩, ⟨%nms, %hnms, Hnms⟩, ⟨%nv, %hnv, Hnv⟩, ⟨%nvs, %hnvs, Hnvs⟩, -⟩, -, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI Hnm gives %h7
      icombine HSI Hnms gives %h8
      icombine HSI Hnv gives %h9
      icombine HSI Hnvs gives %h10
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h4,
          Buf.eq_of_forall_mem_univ h5, Buf.eq_of_forall_mem_univ h6, (Buf.eq_of_forall_mem_univ h7) ▸ hnm, (Buf.eq_of_forall_mem_univ h8) ▸ hnms,
          (Buf.eq_of_forall_mem_univ h9) ▸ hnv, (Buf.eq_of_forall_mem_univ h10) ▸ hnvs⟩
      iexact HSI)
    (hQ := fun _ hh hz => ⟨hh, hz⟩)

/-- An input's array ends as it was. -/
theorem final_in (c : Dev nD) (w : Fin cfg0.W) (hw : (cfg0.win w).isOut = false) (f : Buf (Elt F) ((cfg0.win w).arr.view.loc (c : Thread nD τ)))
    (h : ((dats m ρ ok 0 c).toRForget fgt).ArrAt w cfg0.N f) : f = (s₀ m ρ).mem ((cfg0.win w).arr.view.loc (c : Thread nD τ)) := by
  rw [RDat.ArrAt_in _ w hw] at h; exact h

/-- `Cert.quiescent_Kernel` (Defs.lean). -/
theorem frame : Cert.quiescent_Kernel := fun m ρ _ =>
  (θ_run defs _ _).mono (fun _ hh => ⟨fun c =>
    have q := (hh.1 c).2
    ⟨q.1, q.2.1, q.2.2.1, q.2.2.2.1, q.2.2.2.2.1, q.2.2.2.2.2.1, q.2.2.2.2.2.2.1, final_in m ρ okAny c 0 rfl _ ((hh.1 c).1 0), final_in m ρ okAny c 1 rfl _ ((hh.1 c).1 1)⟩, hh.2⟩)
    (run_main (F := Bits) m ρ okAny (plansAny m ρ))

end Cert.Proof.Kernel

end
-- ==== Proof.Same.lean ====
/- The idealised program is the program: no rewrite was applied to it, so its definitions are the same terms under other names. -/
module

public import proofs.«01_k».proof.Proof.Launch
public import proofs.«01_k».proof.Proof.Gen.KernelIdeal.Points

@[expose] public section

set_option maxRecDepth 100000

noncomputable section

namespace Cert.Proof.Same

open Idealize.ShloMosaic

variable {F : FTy → Type} [FloatOps F]

theorem body_same : Cert.KernelIdeal.cc0_apollo_step (F := F) = Cert.Kernel.cc0_apollo_step (F := F) := rfl

/-- The body tables are the same. -/
theorem table_same : Cert.KernelIdeal.defs₀ (F := F) = Cert.Kernel.defs₀ (F := F) := by
  unfold Cert.KernelIdeal.defs₀ Cert.Kernel.defs₀
  refine congrArg Defs.onTc (funext fun l => ?_)
  match l with
  | ⟨0, _⟩ =>
    funext ⟨t, s⟩
    dsimp only
    rw [body_same]
  | ⟨_ + 1, h⟩ => exact absurd h (Nat.not_lt.2 (Nat.le_add_left _ _))

theorem defs_same : Cert.KernelIdeal.defs (F := F) = Cert.Kernel.defs (F := F) := congrArg (Pipeline.defs (Cert.Kernel.pcfgs (F := F))) table_same

theorem main_same : Cert.KernelIdeal.main (F := F) = Cert.Kernel.main (F := F) := rfl

/-- A run of the one is a run of the other. -/
theorem run_same (s : MemSt Cert.Kernel.nD Cert.Kernel.τ Cert.Kernel.sig (Elt F)) (Q : PUnit × MemSt Cert.Kernel.nD Cert.Kernel.τ Cert.Kernel.sig (Elt F) → Prop)
    (h : θ_run (Cert.Kernel.defs (F := F)) (onTc (τ := Cert.Kernel.τ) (Cert.Kernel.main (F := F))) s Q) :
    θ_run (Cert.KernelIdeal.defs (F := F)) (onTc (τ := Cert.KernelIdeal.τ) (Cert.KernelIdeal.main (F := F))) s Q := by
  rw [defs_same]; exact h

/-- `Cert.quiescent_KernelIdeal` (Defs.lean). -/
theorem frame : Cert.quiescent_KernelIdeal := fun m ρ _ => run_same _ _ <|
  (θ_run Cert.Kernel.defs _ _).mono (fun _ hh => ⟨fun c =>
    have q := (hh.1 c).2
    ⟨q.1, q.2.1, q.2.2.1, q.2.2.2.1, q.2.2.2.2.1, q.2.2.2.2.2.1, q.2.2.2.2.2.2.1, Kernel.final_in m ρ Kernel.okAny c 0 rfl _ ((hh.1 c).1 0), Kernel.final_in m ρ Kernel.okAny c 1 rfl _ ((hh.1 c).1 1)⟩, hh.2⟩)
    (Kernel.run_main (F := Ideal) m ρ Kernel.okAny (Kernel.plansAny m ρ))

end Cert.Proof.Same

end
-- ==== Proof.Reads.lean ====
/- Reading and writing a buffer of three axes through its slots and its windows, one element at a time. -/
module

public import proofs.«01_k».proof.Proof.Names
public import Idealize.ShloMosaic.Lib.Pointwise.Index
public import Idealize.ShloMosaic.Lib.Writes

@[expose] public section

namespace Cert.Proof.Reads

open Idealize.ShloMosaic

variable {sig : RefSig} {κ : Kind} {sp : Space} {e : EltTy} {Val : EltTy → Type} {n a b p q : ℕ}

/-- Where a slot's element lies in the buffer. -/
theorem slot_emb (m : Memref sig κ sp ⟨3, ![n, a, b]⟩ e) (off : Fin 3 → ℕ) (inb) (hs) (hq) (h1 : off 1 = 0) (h2 : off 2 = 0) (i : Fin n) (h0 : off 0 = i.val) (x : Fin a) (y : Fin b) :
    (((m.slice (Rect.unit (s := ⟨3, ![n, a, b]⟩) off ![1, a, b] inb) hs).squeeze ⟨2, ![a, b]⟩ hq).view.emb (ix2 x y)) = m.view.emb (ix3 i x y) := by
  have e1 : Shape.reshapeEquiv hq.numel_eq (ix2 x y) = (Fin.cons ⟨0, Nat.one_pos⟩ (ix2 x y) : (⟨3, ![1, a, b]⟩ : Shape).Idx) := Shape.reshapeEquiv_cons_one _ _
  show m.view.emb ((Rect.unit (s := ⟨3, ![n, a, b]⟩) off ![1, a, b] inb).emb (Shape.reshapeEquiv _ (ix2 x y))) = _
  rw [e1]
  refine congrArg m.view.emb (funext fun j => Fin.ext ?_)
  fin_cases j
  · show off 0 + 1 * 0 = i.val; omega
  · show off 1 + 1 * x.val = x.val; omega
  · show off 2 + 1 * y.val = y.val; omega

/-- What a slot reads of the buffer. -/
theorem slot_read (m : Memref sig κ sp ⟨3, ![n, a, b]⟩ e) (off : Fin 3 → ℕ) (inb) (hs) (hq) (h1 : off 1 = 0) (h2 : off 2 = 0) (i : Fin n) (h0 : off 0 = i.val) (f : m.view.ty.Contents Val) (x : Fin a) (y : Fin b) :
    ((m.slice (Rect.unit (s := ⟨3, ![n, a, b]⟩) off ![1, a, b] inb) hs).squeeze ⟨2, ![a, b]⟩ hq).view.read Val f (ix2 x y) = m.view.read Val f (ix3 i x y) :=
  congrArg (fun z => _root_.cast (congrArg Val m.view.elt_eq) (f z)) (slot_emb m off inb hs hq h1 h2 i h0 x y)

/-- What a group of rows of one layer reads of the buffer. -/
theorem rows_read {A : ℕ} (m : Memref sig κ sp ⟨3, ![n, A, b]⟩ e) (off : Fin 3 → ℕ) (inb) (hs) (hq) (h2 : off 2 = 0) (i : Fin n) (h0 : off 0 = i.val) (f : m.view.ty.Contents Val) (x : Fin a) (y : Fin b)
    (x' : Fin A) (h1 : off 1 + x.val = x'.val) :
    ((m.slice (Rect.unit (s := ⟨3, ![n, A, b]⟩) off ![1, a, b] inb) hs).squeeze ⟨2, ![a, b]⟩ hq).view.read Val f (ix2 x y) = m.view.read Val f (ix3 i x' y) := by
  have e1 : Shape.reshapeEquiv hq.numel_eq (ix2 x y) = (Fin.cons ⟨0, Nat.one_pos⟩ (ix2 x y) : (⟨3, ![1, a, b]⟩ : Shape).Idx) := Shape.reshapeEquiv_cons_one _ _
  show m.view.read Val f ((Rect.unit (s := ⟨3, ![n, A, b]⟩) off ![1, a, b] inb).emb (Shape.reshapeEquiv _ (ix2 x y))) = _
  rw [e1]
  refine congrArg (m.view.read Val f) (funext fun j => Fin.ext ?_)
  fin_cases j
  · show off 0 + 1 * 0 = i.val; omega
  · show off 1 + 1 * x.val = x'.val; omega
  · show off 2 + 1 * y.val = y.val; omega

/-- A slot filled whole, read in the buffer. -/
theorem slot_filled (m : Memref sig κ sp ⟨3, ![n, a, b]⟩ e) (off : Fin 3 → ℕ) (inb) (hs) (hq) (h1 : off 1 = 0) (h2 : off 2 = 0) (i : Fin n) (h0 : off 0 = i.val) (f : m.view.ty.Contents Val)
    (W : (⟨2, ![a, b]⟩ : Shape).Idx → Val e) (x : Fin a) (y : Fin b) :
    m.view.read Val (((m.slice (Rect.unit (s := ⟨3, ![n, a, b]⟩) off ![1, a, b] inb) hs).squeeze ⟨2, ![a, b]⟩ hq).view.writes Val f [⟨Rect.whole ⟨2, ![a, b]⟩, W⟩]) (ix3 i x y) = W (ix2 x y) := by
  rw [← slot_read m off inb hs hq h1 h2 i h0]
  have h := View.read_writes_cons_emb (Val := Val) ((m.slice (Rect.unit (s := ⟨3, ![n, a, b]⟩) off ![1, a, b] inb) hs).squeeze ⟨2, ![a, b]⟩ hq).view f (Rect.whole ⟨2, ![a, b]⟩) W [] (ix2 x y)
  rw [show (Rect.whole (⟨2, ![a, b]⟩ : Shape)).emb (ix2 x y) = ix2 x y from funext fun j => Fin.ext (by
    fin_cases j
    · show 0 + 1 * x.val = x.val; omega
    · show 0 + 1 * y.val = y.val; omega)] at h
  exact h

/-- A load of a window, read in the buffer. -/
theorem load_at (m : Memref sig κ sp ⟨3, ![n, a, b]⟩ e) (off : Fin 3 → ℕ) (inb) (i : Fin n) (h0 : off 0 = i.val) (f : m.view.ty.Contents Val) (x : Fin p) (y : Fin q) (x' : Fin a) (y' : Fin b)
    (h1 : off 1 + x.val = x'.val) (h2 : off 2 + y.val = y'.val) :
    m.view.readAt Val (Rect.unit (s := ⟨3, ![n, a, b]⟩) off ![1, p, q] inb).toLoadRect f (ix3 0 x y) = m.view.read Val f (ix3 i x' y') := by
  rw [View.readAt_apply]
  refine congrArg (m.view.read Val f) (funext fun j => Fin.ext ?_)
  fin_cases j
  · show off 0 + 1 * 0 = i.val; omega
  · show off 1 + 1 * x.val = x'.val; omega
  · show off 2 + 1 * y.val = y'.val; omega

/-- A store of a window, read inside it. -/
theorem store_in (m : Memref sig κ sp ⟨3, ![n, a, b]⟩ e) (off : Fin 3 → ℕ) (inb) (i : Fin n) (h0 : off 0 = i.val) (f : m.view.ty.Contents Val) (w : (⟨3, ![1, p, q]⟩ : Shape).Idx → Val e)
    (x : Fin p) (y : Fin q) (x' : Fin a) (y' : Fin b) (h1 : off 1 + x.val = x'.val) (h2 : off 2 + y.val = y'.val) :
    m.view.read Val (View.write Val (m.access (Rect.unit (s := ⟨3, ![n, a, b]⟩) off ![1, p, q] inb)) f w Finset.univ) (ix3 i x' y') = w (ix3 0 x y) := by
  have h := View.read_writes_cons_emb (Val := Val) m.view f (Rect.unit (s := ⟨3, ![n, a, b]⟩) off ![1, p, q] inb) w [] (ix3 0 x y)
  rw [show (Rect.unit (s := ⟨3, ![n, a, b]⟩) off ![1, p, q] inb).emb (ix3 0 x y) = ix3 i x' y' from funext fun j => Fin.ext (by
    fin_cases j
    · show off 0 + 1 * 0 = i.val; omega
    · show off 1 + 1 * x.val = x'.val; omega
    · show off 2 + 1 * y.val = y'.val; omega)] at h
  exact h

/-- A store of a window, read outside it. -/
theorem store_out (m : Memref sig κ sp ⟨3, ![n, a, b]⟩ e) (off : Fin 3 → ℕ) (inb) (f : m.view.ty.Contents Val) (w : (⟨3, ![1, p, q]⟩ : Shape).Idx → Val e)
    (i : Fin n) (x' : Fin a) (y' : Fin b) (h : x'.val < off 1 ∨ off 1 + p ≤ x'.val ∨ y'.val < off 2 ∨ off 2 + q ≤ y'.val) :
    m.view.read Val (View.write Val (m.access (Rect.unit (s := ⟨3, ![n, a, b]⟩) off ![1, p, q] inb)) f w Finset.univ) (ix3 i x' y') = m.view.read Val f (ix3 i x' y') := by
  have h := View.read_writes_apply_of_forall_not_mem (Val := Val) m.view f (ix3 i x' y') [⟨Rect.unit (s := ⟨3, ![n, a, b]⟩) off ![1, p, q] inb, w⟩] (by
    intro p' hp hy
    rw [List.mem_singleton] at hp
    subst hp
    rw [Rect.mem_set_unit] at hy
    have a1 : off 1 ≤ x'.val ∧ x'.val < off 1 + p := hy 1
    have a2 : off 2 ≤ y'.val ∧ y'.val < off 2 + q := hy 2
    omega)
  exact h

end Cert.Proof.Reads

end
-- ==== Proof.Moments.lean ====
/- The new moments and their quantisation, element by element, and what the kernel computes of them for one group of
   32 rows. -/
module

public import proofs.«01_k».proof.Proof.Gen.Kernel.Skeleton
public import Idealize.ShloMosaic.Lib.Pointwise

@[expose] public section

set_option maxRecDepth 16384

noncomputable section

namespace Cert.Proof.Moments

open Idealize.ShloMosaic Cert.Kernel Cert.Kernel.Gen

/-- The new first moment: of the old code and scale and the projected gradient. -/
def mOf (code : BitVec 8) (scale r : EReal) : EReal :=
  Ideal.ofBits FTy.f32 1063675494#32 * (FloatOps.sitofp (F := Ideal) FTy.f32 code * scale) + Ideal.ofBits FTy.f32 1036831952#32 * r
/-- The new second moment. -/
def vOf (code : BitVec 8) (scale r : EReal) : EReal :=
  Ideal.ofBits FTy.f32 1065336439#32 * (FloatOps.sitofp (F := Ideal) FTy.f32 code * scale * (FloatOps.sitofp (F := Ideal) FTy.f32 code * scale)) + Ideal.ofBits FTy.f32 981668352#32 * (r * r)
/-- The scale of a block whose greatest magnitude is `a`. -/
def scaleOf (a : EReal) : EReal := if a = 0 then 1 else Ideal.div a (Ideal.ofBits FTy.f32 1123942400#32)
/-- The greatest of a block's 128 elements. -/
def maxOf (f : Fin 128 → EReal) : EReal := Finset.fold max (Ideal.ofBits FTy.f32 4286578688#32) f Finset.univ
/-- The magnitude. -/
def absOf (x : EReal) : EReal := FloatOps.absf (F := Ideal) (φ := FTy.f32) x
/-- The code of `x` at scale `s`, least code `lo`. -/
def codeOf (lo : BitVec 32) (x s : EReal) : BitVec 8 :=
  FloatOps.fptosi (F := Ideal) (φ := FTy.f32) 8 (min (((127#32 : BitVec 32).toInt : ℝ) : EReal) (max ((lo.toInt : ℝ) : EReal) (Ideal.liftRound Ideal.roundHalfEven (Ideal.div x s))))

/-! ## The results, of the arguments -/

/-- The column of lane `l` of block `n`. -/
abbrev col (n : Fin 16) (l : Fin 128) : Fin 2048 := ⟨n.val * 128 + l.val, by omega⟩
/-- The block of a column. -/
abbrev blk (c : Fin 2048) : Fin 16 := ⟨c.val / 128, by omega⟩

/-- A block's column. -/
theorem blk_col (n : Fin 16) (l : Fin 128) : blk (col n l) = n := Fin.ext (by show (n.val * 128 + l.val) / 128 = n.val; omega)
theorem col_blk (c : Fin 2048) (h) : col (blk c) ⟨c.val % 128, h⟩ = c := Fin.ext (by show c.val / 128 * 128 + c.val % 128 = c.val; omega)

section
variable (g : FVec Ideal S12x2048x7168 .bf16) (p : FVec Ideal S12x128x7168 .bf16) (qc : IVec S12x128x2048 8) (qs : FVec Ideal S12x128x16 .f32)

/-- The projected gradient. -/
def rAt (b : Fin 12) (r : Fin 128) (c : Fin 2048) : EReal := ∑ x, p (ix3 b r x) * g (ix3 b c x)
def mAt (b : Fin 12) (r : Fin 128) (c : Fin 2048) : EReal := mOf (qc (ix3 b r c)) (qs (ix3 b r (blk c))) (rAt g p b r c)
def vAt (b : Fin 12) (r : Fin 128) (c : Fin 2048) : EReal := Ideal.sqrt (vOf (qc (ix3 b r c)) (qs (ix3 b r (blk c))) (rAt g p b r c))
def mScale (b : Fin 12) (r : Fin 128) (n : Fin 16) : EReal := scaleOf (maxOf fun l => absOf (mAt g p qc qs b r (col n l)))
def vScale (b : Fin 12) (r : Fin 128) (n : Fin 16) : EReal := scaleOf (maxOf fun l => vAt g p qc qs b r (col n l))
def mCode (b : Fin 12) (r : Fin 128) (c : Fin 2048) : BitVec 8 := codeOf 4294967169#32 (mAt g p qc qs b r c) (mScale g p qc qs b r (blk c))
def vCode (b : Fin 12) (r : Fin 128) (c : Fin 2048) : BitVec 8 := codeOf 0#32 (vAt g p qc qs b r c) (vScale g p qc qs b r (blk c))
end

/-! ## One group of rows -/

theorem cmpi_ofNat (x j : Fin 16) : IntOp.cmpi CmpIPredicate.eq (BitVec.ofNat 32 x.val) (BitVec.ofNat 32 j.val) = if x = j then 1#1 else 0#1 := by
  revert x j; decide +kernel

theorem select_at (j x : Fin 16) (a b : EReal) : Scalar.select (IntOp.cmpi CmpIPredicate.eq (BitVec.ofNat 32 x.val) (BitVec.ofNat 32 j.val)) a b = if x = j then a else b := by
  rw [cmpi_ofNat]
  by_cases h : x = j
  · rw [if_pos h, if_pos h]; rfl
  · rw [if_neg h, if_neg h]; rfl

/-- A masked sum picks one lane. -/
theorem pick (j : Fin 16) (f : Fin 16 → EReal) :
    ∑ x : Fin 16, Scalar.select (IntOp.cmpi CmpIPredicate.eq (BitVec.ofNat 32 x.val) (BitVec.ofNat 32 j.val)) (f x) (0 : EReal) = f j := by
  simp only [select_at, Finset.sum_ite_eq', Finset.mem_univ, if_true]

theorem scale_vec (j : Fin 16) (o : FVec Ideal S1x32x16 .f32) (r : Fin 32) : k0_pay26 (F := Ideal) (BitVec.ofNat 32 j.val) o (ix2 r 0) = o (ix3 0 r j) := by
  pointwise [k0_pay26, k0_pay21]
  exact pick j fun x => o (ix3 0 r x)

theorem m_vec (j : Fin 16) (R : FVec Ideal S32x128 .f32) (S : FVec Ideal S1x32x16 .f32) (C : IVec S1x32x128 8) (r : Fin 32) (l : Fin 128) :
    k0_pay28 (F := Ideal) R (k0_pay26 (BitVec.ofNat 32 j.val) S) C (ix2 r l) = mOf (C (ix3 0 r l)) (S (ix3 0 r j)) (R (ix2 r l)) := by
  rw [← scale_vec j S r]
  generalize k0_pay26 (F := Ideal) (BitVec.ofNat 32 j.val) S = o
  pointwise [k0_pay28]
  rfl

theorem v_vec (j : Fin 16) (R : FVec Ideal S32x128 .f32) (S : FVec Ideal S1x32x16 .f32) (C : IVec S1x32x128 8) (r : Fin 32) (l : Fin 128) :
    k0_pay36 (F := Ideal) (k0_pay29 (k0_pay21 (BitVec.ofNat 32 j.val)) R S C) (ix2 r l) = Ideal.sqrt (vOf (C (ix3 0 r l)) (S (ix3 0 r j)) (R (ix2 r l))) := by
  rw [← pick j fun x => S (ix3 0 r x)]
  pointwise [k0_pay36, k0_pay29, k0_pay27, k0_pay21]
  rfl

theorem m_code (m : FVec Ideal S32x128 .f32) (r : Fin 32) (l : Fin 128) :
    k0_pay34 (F := Ideal) m (ix3 0 r l) = codeOf 4294967169#32 (m (ix2 r l)) (scaleOf (maxOf fun x => absOf (m (ix2 r x)))) := by
  pointwise [k0_pay34, k0_pay33]
  rfl

theorem m_scale (j : Fin 16) (m : FVec Ideal S32x128 .f32) (o : FVec Ideal S1x32x16 .f32) (r : Fin 32) (l : Fin 16) :
    k0_pay35 (F := Ideal) (k0_pay21 (BitVec.ofNat 32 j.val)) m o (ix3 0 r l) = if l = j then scaleOf (maxOf fun x => absOf (m (ix2 r x))) else o (ix3 0 r l) := by
  pointwise [k0_pay35, k0_pay33, k0_pay21]
  exact select_at _ _ _ _

theorem v_code (m : FVec Ideal S32x128 .f32) (r : Fin 32) (l : Fin 128) :
    k0_pay38 (F := Ideal) m (ix3 0 r l) = codeOf 0#32 (m (ix2 r l)) (scaleOf (maxOf fun x => m (ix2 r x))) := by
  pointwise [k0_pay38, k0_pay37]
  rfl

theorem v_scale (j : Fin 16) (m : FVec Ideal S32x128 .f32) (o : FVec Ideal S1x32x16 .f32) (r : Fin 32) (l : Fin 16) :
    k0_pay39 (F := Ideal) (k0_pay21 (BitVec.ofNat 32 j.val)) m o (ix3 0 r l) = if l = j then scaleOf (maxOf fun x => m (ix2 r x)) else o (ix3 0 r l) := by
  pointwise [k0_pay39, k0_pay37, k0_pay21]
  exact select_at _ _ _ _

theorem r_block (a o : FVec Ideal S1x128x7168 .bf16) (r l : Fin 128) : k0_pay9 (F := Ideal) a o (ix2 r l) = ∑ x, a (ix3 0 r x) * o (ix3 0 l x) := by
  pointwise [k0_pay9]

end Cert.Proof.Moments

end
-- ==== Proof.BlockReads.lean ====
/- What a block of the moments loads, element by element, of the arguments. -/
module

public import proofs.«01_k».proof.Proof.Block
public import proofs.«01_k».proof.Proof.Conds
public import proofs.«01_k».proof.Proof.Reads
public import proofs.«01_k».proof.Proof.Moments

@[expose] public section

set_option maxRecDepth 16384

noncomputable section

namespace Cert.Proof.Kernel

open Cert.Kernel Cert.Kernel.Gen Cert.Proof.Reads Cert.Proof.Moments
open Idealize.ShloMosaic Idealize.ShloMosaic.TcCoe

/-! ## Where a block reads and writes -/

theorem v156_eq : ∀ k : Fin k0_t3_loop.trips, blockStretch.sl.v156 k = BitVec.ofNat 32 (k.val % 16) := by decide +kernel
theorem off50_at : ∀ k : Fin k0_t3_loop.trips, k0_off50 k = ![k.val / 16 % 2, 0, 0] := by decide +kernel
theorem off51_at : ∀ k : Fin k0_t3_loop.trips, k0_off51 k = ![k.val % 20, 0, 0] := by decide +kernel
theorem off60_at : ∀ k : Fin k0_t3_loop.trips, k0_off60 k = ![k.val / 16 % 2, 0, 0] := by decide +kernel
theorem off61_at : ∀ k : Fin k0_t3_loop.trips, k0_off61 k = ![k.val / 16 % 2, 0, 128 * (k.val % 16)] := by decide +kernel
theorem off62_at : ∀ k : Fin k0_t3_loop.trips, k0_off62 k = ![k.val / 16 % 2, 32, 0] := by decide +kernel
theorem off63_at : ∀ k : Fin k0_t3_loop.trips, k0_off63 k = ![k.val / 16 % 2, 32, 128 * (k.val % 16)] := by decide +kernel
theorem off64_at : ∀ k : Fin k0_t3_loop.trips, k0_off64 k = ![k.val / 16 % 2, 64, 0] := by decide +kernel
theorem off65_at : ∀ k : Fin k0_t3_loop.trips, k0_off65 k = ![k.val / 16 % 2, 64, 128 * (k.val % 16)] := by decide +kernel
theorem off66_at : ∀ k : Fin k0_t3_loop.trips, k0_off66 k = ![k.val / 16 % 2, 96, 0] := by decide +kernel
theorem off67_at : ∀ k : Fin k0_t3_loop.trips, k0_off67 k = ![k.val / 16 % 2, 96, 128 * (k.val % 16)] := by decide +kernel

/-- The batch, the block and the slot of a trip. -/
abbrev kb (k : Fin k0_t3_loop.trips) (h1 : k0_cond1 k = 1#1) : Fin 12 := ⟨k.val / 16, by have := (cond1_iff k).mp h1; omega⟩
abbrev kn (k : Fin k0_t3_loop.trips) : Fin 16 := ⟨k.val % 16, by omega⟩
abbrev ks (k : Fin k0_t3_loop.trips) : Fin 2 := ⟨k.val / 16 % 2, by omega⟩

variable (c : Dev nD) (X : Src Ideal c)

/-- The arguments, as arrays. -/
abbrev aG : FVec Ideal S12x2048x7168 .bf16 := X.g
abbrev aP : FVec Ideal S12x128x7168 .bf16 := X.p
abbrev aMc : IVec S12x128x2048 8 := X.mc
abbrev aMs : FVec Ideal S12x128x16 .f32 := X.ms
abbrev aVc : IVec S12x128x2048 8 := X.vc
abbrev aVs : FVec Ideal S12x128x16 .f32 := X.vs

variable (k : Fin k0_t3_loop.trips) (h1 : k0_cond1 k = 1#1)

theorem ld_mc (off : Fin 3 → ℕ) (inb) (h0 : off 0 = k.val / 16 % 2) (x : Fin 32) (y : Fin 128) (r : Fin 128) (z : Fin 2048) (e1 : off 1 + x.val = r.val) (e2 : off 2 + y.val = z.val) :
    (Memref.whole cc0_scratch3 : Memref sig .tc .vmem S2x128x2048 .i8).view.readAt (Elt Ideal) (Rect.unit (s := S2x128x2048) off S1x32x128.size inb).toLoadRect
      (((mcS (k.val / 16)).view.writes (Elt Ideal) (mcS (k.val / 16)).view.junk [⟨Rect.whole S128x2048, mcW c X (k.val / 16)⟩])) (ix3 0 x y) = aMc c X (ix3 (kb k h1) r z) := by
  refine (load_at (Memref.whole cc0_scratch3 : Memref sig .tc .vmem S2x128x2048 .i8) off inb (ks k) h0 _ x y r z e1 e2).trans ?_
  refine (slot_filled (Memref.whole cc0_scratch3 : Memref sig .tc .vmem S2x128x2048 .i8) (mcSo (k.val / 16)) (mcSo_inb _) (fun _ => rfl) squeezes_S1x128x2048_S128x2048 rfl rfl (ks k) rfl _ _ r z).trans ?_
  exact slot_read (Memref.whole main_arg3 : Memref sig .tc .hbm S12x128x2048 .i8) (mcHo (k.val / 16)) (mcHo_inb _) (fun _ => rfl) squeezes_S1x128x2048_S128x2048 rfl rfl (kb k h1)
    (show k.val / 16 % 12 = k.val / 16 by have := (cond1_iff k).mp h1; omega) X.mc r z

theorem ld_ms (off : Fin 3 → ℕ) (inb) (h0 : off 0 = k.val / 16 % 2) (x : Fin 32) (y : Fin 16) (r : Fin 128) (z : Fin 16) (e1 : off 1 + x.val = r.val) (e2 : off 2 + y.val = z.val) :
    (Memref.whole cc0_scratch5 : Memref sig .tc .vmem S2x128x16 .f32).view.readAt (Elt Ideal) (Rect.unit (s := S2x128x16) off S1x32x16.size inb).toLoadRect
      (((msS (k.val / 16)).view.writes (Elt Ideal) (msS (k.val / 16)).view.junk [⟨Rect.whole S128x16, msW c X (k.val / 16)⟩])) (ix3 0 x y) = aMs c X (ix3 (kb k h1) r z) := by
  refine (load_at (Memref.whole cc0_scratch5 : Memref sig .tc .vmem S2x128x16 .f32) off inb (ks k) h0 _ x y r z e1 e2).trans ?_
  refine (slot_filled (Memref.whole cc0_scratch5 : Memref sig .tc .vmem S2x128x16 .f32) (msSo (k.val / 16)) (msSo_inb _) (fun _ => rfl) squeezes_S1x128x16_S128x16 rfl rfl (ks k) rfl _ _ r z).trans ?_
  exact slot_read (Memref.whole main_arg4 : Memref sig .tc .hbm S12x128x16 .f32) (msHo (k.val / 16)) (msHo_inb _) (fun _ => rfl) squeezes_S1x128x16_S128x16 rfl rfl (kb k h1)
    (show k.val / 16 % 12 = k.val / 16 by have := (cond1_iff k).mp h1; omega) X.ms r z

theorem ld_vc (off : Fin 3 → ℕ) (inb) (h0 : off 0 = k.val / 16 % 2) (x : Fin 32) (y : Fin 128) (r : Fin 128) (z : Fin 2048) (e1 : off 1 + x.val = r.val) (e2 : off 2 + y.val = z.val) :
    (Memref.whole cc0_scratch4 : Memref sig .tc .vmem S2x128x2048 .i8).view.readAt (Elt Ideal) (Rect.unit (s := S2x128x2048) off S1x32x128.size inb).toLoadRect
      (((vcS (k.val / 16)).view.writes (Elt Ideal) (vcS (k.val / 16)).view.junk [⟨Rect.whole S128x2048, vcW c X (k.val / 16)⟩])) (ix3 0 x y) = aVc c X (ix3 (kb k h1) r z) := by
  refine (load_at (Memref.whole cc0_scratch4 : Memref sig .tc .vmem S2x128x2048 .i8) off inb (ks k) h0 _ x y r z e1 e2).trans ?_
  refine (slot_filled (Memref.whole cc0_scratch4 : Memref sig .tc .vmem S2x128x2048 .i8) (vcSo (k.val / 16)) (vcSo_inb _) (fun _ => rfl) squeezes_S1x128x2048_S128x2048 rfl rfl (ks k) rfl _ _ r z).trans ?_
  exact slot_read (Memref.whole main_arg5 : Memref sig .tc .hbm S12x128x2048 .i8) (vcHo (k.val / 16)) (vcHo_inb _) (fun _ => rfl) squeezes_S1x128x2048_S128x2048 rfl rfl (kb k h1)
    (show k.val / 16 % 12 = k.val / 16 by have := (cond1_iff k).mp h1; omega) X.vc r z

theorem ld_vs (off : Fin 3 → ℕ) (inb) (h0 : off 0 = k.val / 16 % 2) (x : Fin 32) (y : Fin 16) (r : Fin 128) (z : Fin 16) (e1 : off 1 + x.val = r.val) (e2 : off 2 + y.val = z.val) :
    (Memref.whole cc0_scratch6 : Memref sig .tc .vmem S2x128x16 .f32).view.readAt (Elt Ideal) (Rect.unit (s := S2x128x16) off S1x32x16.size inb).toLoadRect
      (((vsS (k.val / 16)).view.writes (Elt Ideal) (vsS (k.val / 16)).view.junk [⟨Rect.whole S128x16, vsW c X (k.val / 16)⟩])) (ix3 0 x y) = aVs c X (ix3 (kb k h1) r z) := by
  refine (load_at (Memref.whole cc0_scratch6 : Memref sig .tc .vmem S2x128x16 .f32) off inb (ks k) h0 _ x y r z e1 e2).trans ?_
  refine (slot_filled (Memref.whole cc0_scratch6 : Memref sig .tc .vmem S2x128x16 .f32) (vsSo (k.val / 16)) (vsSo_inb _) (fun _ => rfl) squeezes_S1x128x16_S128x16 rfl rfl (ks k) rfl _ _ r z).trans ?_
  exact slot_read (Memref.whole main_arg6 : Memref sig .tc .hbm S12x128x16 .f32) (vsHo (k.val / 16)) (vsHo_inb _) (fun _ => rfl) squeezes_S1x128x16_S128x16 rfl rfl (kb k h1)
    (show k.val / 16 % 12 = k.val / 16 by have := (cond1_iff k).mp h1; omega) X.vs r z

theorem ld_p (r : Fin 128) (x : Fin 7168) : blockStretch.sl.v174 c X k h1 (ix3 0 r x) = aP c X (ix3 (kb k h1) r x) := by
  have e := off50_at k
  refine (load_at (Memref.whole cc0_scratch2 : Memref sig .tc .vmem S2x128x7168 .bf16) (k0_off50 k) _ (ks k) (by rw [e]; rfl) _ r x r x (by rw [e]; exact Nat.zero_add _) (by rw [e]; exact Nat.zero_add _)).trans ?_
  refine (slot_filled (Memref.whole cc0_scratch2 : Memref sig .tc .vmem S2x128x7168 .bf16) (pSo (k.val / 16)) (pSo_inb _) (fun _ => rfl) squeezes_S1x128x7168_S128x7168 rfl rfl (ks k) rfl _ _ r x).trans ?_
  exact slot_read (Memref.whole main_arg2 : Memref sig .tc .hbm S12x128x7168 .bf16) (pHo (k.val / 16)) (pHo_inb _) (fun _ => rfl) squeezes_S1x128x7168_S128x7168 rfl rfl (kb k h1)
    (show k.val / 16 % 12 = k.val / 16 by have := (cond1_iff k).mp h1; omega) X.p r x

theorem ld_g (inb) (l : Fin 128) (x : Fin 7168) :
    (Memref.whole cc0_scratch0 : Memref sig .tc .vmem S20x128x7168 .bf16).view.readAt (Elt Ideal) (Rect.unit (s := S20x128x7168) (k0_off51 k) S1x128x7168.size inb).toLoadRect
      ((gS k.val).view.writes (Elt Ideal) (gS k.val).view.junk [⟨Rect.whole S128x7168, gW c X k.val⟩]) (ix3 0 l x) = aG c X (ix3 (kb k h1) (col (kn k) l) x) := by
  have e := off51_at k
  refine (load_at (Memref.whole cc0_scratch0 : Memref sig .tc .vmem S20x128x7168 .bf16) (k0_off51 k) _ (⟨k.val % 20, by omega⟩ : Fin 20) (by rw [e]; rfl) _ l x l x (by rw [e]; exact Nat.zero_add _) (by rw [e]; exact Nat.zero_add _)).trans ?_
  refine (slot_filled (Memref.whole cc0_scratch0 : Memref sig .tc .vmem S20x128x7168 .bf16) (gSo k.val) (gSo_inb _) (fun _ => rfl) squeezes_S1x128x7168_S128x7168 rfl rfl (⟨k.val % 20, by omega⟩ : Fin 20) rfl _ _ l x).trans ?_
  exact rows_read (Memref.whole main_arg1 : Memref sig .tc .hbm S12x2048x7168 .bf16) (gHo k.val) (gHo_inb _) (fun _ => rfl) squeezes_S1x128x7168_S128x7168 rfl (kb k h1)
    (show k.val / 16 % 12 = k.val / 16 by have := (cond1_iff k).mp h1; omega) X.g l x (col (kn k) l) (show 128 * (k.val % 16) + l.val = k.val % 16 * 128 + l.val by omega)

/-- The projected gradient's block, as the groups read it. -/
theorem ld_r (o : ℕ) (inb) (x : Fin 32) (l : Fin 128) (r : Fin 128) (e1 : o + x.val = r.val) :
    (Memref.whole cc0_scratch13 : Memref sig .tc .vmem S128x128 .f32).view.readCov (Val := Elt Ideal) (blockStretch.sl.Hr_1 c X k h1) (Rect.unit (s := S128x128) ![o, 0] S32x128.size inb).toLoadRect (ix2 x l)
      = rAt (aG c X) (aP c X) (kb k h1) r (col (kn k) l) := by
  unfold View.readCov
  rw [View.readAt_apply]
  unfold blockStretch.sl.Hr_1
  have hx : (Rect.unit (s := S128x128) ![o, 0] S32x128.size inb).toLoadRect.idx (ix2 x l) = (Rect.unit (s := S128x128) ![0, 0] S128x128.size inb_S128x128_S128x128_0_0).emb (ix2 r l) := funext fun j => Fin.ext (by
    fin_cases j
    · show o + 1 * x.val = 0 + 1 * r.val; omega
    · show 0 + 1 * l.val = 0 + 1 * l.val; rfl)
  rw [hx]
  refine (View.read_writes_cons_emb (Val := Elt Ideal) _ _ (Rect.unit (s := S128x128) ![0, 0] S128x128.size inb_S128x128_S128x128_0_0) _ [] (ix2 r l)).trans ?_
  refine (r_block _ _ r l).trans ?_
  exact Finset.sum_congr rfl fun x _ => congrArg₂ (· * ·) (ld_p c X k h1 r x) (ld_g c X k h1 _ l x)

end Cert.Proof.Kernel

end
-- ==== Proof.BlockMoments.lean ====
/- What a block of the moments writes, element by element: the new codes and scales of its columns. -/
module

public import proofs.«01_k».proof.Proof.BlockReads

@[expose] public section

set_option maxRecDepth 16384

noncomputable section

namespace Cert.Proof.Kernel

open Cert.Kernel Cert.Kernel.Gen Cert.Proof.Reads Cert.Proof.Moments
open Idealize.ShloMosaic Idealize.ShloMosaic.TcCoe

/-! ## The four groups of rows compute alike -/

section
variable (w : BitVec 32) (R m : FVec Ideal S32x128 .f32) (S o : FVec Ideal S1x32x16 .f32) (C : IVec S1x32x128 8)
theorem m_1 : k0_pay42 (F := Ideal) R (k0_pay40 (k0_pay21 w) S) C = k0_pay28 R (k0_pay26 w S) C := rfl
theorem m_2 : k0_pay59 (F := Ideal) R (k0_pay57 (k0_pay21 w) S) C = k0_pay28 R (k0_pay26 w S) C := rfl
theorem m_3 : k0_pay75 (F := Ideal) (k0_pay21 w) R (k0_pay73 S) C = k0_pay28 R (k0_pay26 w S) C := rfl
theorem v_1 : k0_pay43 (F := Ideal) (k0_pay21 w) R S C = k0_pay29 (k0_pay21 w) R S C := rfl
theorem v_2 : k0_pay60 (F := Ideal) (k0_pay21 w) R S C = k0_pay29 (k0_pay21 w) R S C := rfl
theorem v_3 : k0_pay76 (F := Ideal) (k0_pay21 w) R S C = k0_pay29 (k0_pay21 w) R S C := rfl
theorem mc_1 : k0_pay50 (F := Ideal) m = k0_pay34 m := rfl
theorem mc_2 : k0_pay66 (F := Ideal) m = k0_pay34 m := rfl
theorem mc_3 : k0_pay82 (F := Ideal) m = k0_pay34 m := rfl
theorem ms_1 : k0_pay52 (F := Ideal) (k0_pay51 (k0_pay21 w) m o) = k0_pay35 (k0_pay21 w) m o := rfl
theorem ms_2 : k0_pay68 (F := Ideal) (k0_pay67 (k0_pay21 w) m o) = k0_pay35 (k0_pay21 w) m o := rfl
theorem ms_3 : k0_pay85 (F := Ideal) (k0_pay21 w) (k0_pay83 o) (k0_pay84 m) = k0_pay35 (k0_pay21 w) m o := rfl
theorem vc_1 : k0_pay55 (F := Ideal) m = k0_pay38 (k0_pay36 m) := rfl
theorem vc_2 : k0_pay71 (F := Ideal) m = k0_pay38 (k0_pay36 m) := rfl
theorem vc_3 : k0_pay88 (F := Ideal) m = k0_pay38 (k0_pay36 m) := rfl
theorem vs_1 : k0_pay56 (F := Ideal) (k0_pay21 w) m o = k0_pay39 (k0_pay21 w) (k0_pay36 m) o := rfl
theorem vs_2 : k0_pay72 (F := Ideal) (k0_pay21 w) m o = k0_pay39 (k0_pay21 w) (k0_pay36 m) o := rfl
theorem vs_3 : k0_pay89 (F := Ideal) (k0_pay21 w) m o = k0_pay39 (k0_pay21 w) (k0_pay36 m) o := rfl
end

/-! ## One group's codes and scales, once its moments are known -/

section
variable (g : FVec Ideal S12x2048x7168 .bf16) (p : FVec Ideal S12x128x7168 .bf16) (qc : IVec S12x128x2048 8) (qs : FVec Ideal S12x128x16 .f32)
  (b : Fin 12) (n : Fin 16) (r : Fin 128) (x : Fin 32)

theorem code_m (m : FVec Ideal S32x128 .f32) (h : ∀ l, m (ix2 x l) = mAt g p qc qs b r (col n l)) (l : Fin 128) : k0_pay34 (F := Ideal) m (ix3 0 x l) = mCode g p qc qs b r (col n l) := by
  rw [m_code, h l, show (fun y => absOf (m (ix2 x y))) = fun y => absOf (mAt g p qc qs b r (col n y)) from funext fun y => congrArg absOf (h y)]
  unfold mCode mScale; rw [blk_col]
theorem code_v (m : FVec Ideal S32x128 .f32) (h : ∀ l, k0_pay36 (F := Ideal) m (ix2 x l) = vAt g p qc qs b r (col n l)) (l : Fin 128) : k0_pay38 (F := Ideal) (k0_pay36 m) (ix3 0 x l) = vCode g p qc qs b r (col n l) := by
  rw [v_code, h l, show (fun y => k0_pay36 (F := Ideal) m (ix2 x y)) = fun y => vAt g p qc qs b r (col n y) from funext h]
  unfold vCode vScale; rw [blk_col]
theorem scale_m (m : FVec Ideal S32x128 .f32) (o : FVec Ideal S1x32x16 .f32) (h : ∀ l, m (ix2 x l) = mAt g p qc qs b r (col n l)) (y : Fin 16) :
    k0_pay35 (F := Ideal) (k0_pay21 (BitVec.ofNat 32 n.val)) m o (ix3 0 x y) = if y = n then mScale g p qc qs b r n else o (ix3 0 x y) := by
  rw [m_scale, show (fun y => absOf (m (ix2 x y))) = fun y => absOf (mAt g p qc qs b r (col n y)) from funext fun y => congrArg absOf (h y)]
  rfl
theorem scale_v (m : FVec Ideal S32x128 .f32) (o : FVec Ideal S1x32x16 .f32) (h : ∀ l, k0_pay36 (F := Ideal) m (ix2 x l) = vAt g p qc qs b r (col n l)) (y : Fin 16) :
    k0_pay39 (F := Ideal) (k0_pay21 (BitVec.ofNat 32 n.val)) (k0_pay36 m) o (ix3 0 x y) = if y = n then vScale g p qc qs b r n else o (ix3 0 x y) := by
  rw [v_scale, show (fun y => k0_pay36 (F := Ideal) m (ix2 x y)) = fun y => vAt g p qc qs b r (col n y) from funext h]
  rfl
end

variable (c : Dev nD) (X : Src Ideal c) (k : Fin k0_t3_loop.trips) (h1 : k0_cond1 k = 1#1)

theorem r3_eq : blockStretch.sl.r_3 k = k0_pay21 (BitVec.ofNat 32 (kn k).val) := by unfold blockStretch.sl.r_3; rw [v156_eq]

/-! ## The moments of each group -/

theorem group0_m (x : Fin 32) (r : Fin 128) (hx : 0 + x.val = r.val) (l : Fin 128) : blockStretch.sl.r_8 c X k h1 (ix2 x l) = mAt (aG c X) (aP c X) (aMc c X) (aMs c X) (kb k h1) r (col (kn k) l) := by
  unfold blockStretch.sl.r_8 blockStretch.sl.r_6; rw [v156_eq]
  refine (m_vec (kn k) _ _ _ x l).trans ?_
  unfold mAt; rw [blk_col]
  rw [show blockStretch.sl.v298 c X k h1 (ix2 x l) = rAt (aG c X) (aP c X) (kb k h1) r (col (kn k) l) from ld_r c X k h1 0 _ x l r hx]
  rw [show blockStretch.sl.v315 c X k h1 (ix3 0 x l) = aMc c X (ix3 (kb k h1) r (col (kn k) l)) from ld_mc c X k h1 (k0_off61 k) _ (by rw [off61_at]; rfl) x l r (col (kn k) l) (by rw [off61_at]; exact hx) (by rw [off61_at]; exact congrArg (· + l.val) (Nat.mul_comm 128 _))]
  rw [show blockStretch.sl.v300 c X k h1 (ix3 0 x (kn k)) = aMs c X (ix3 (kb k h1) r (kn k)) from ld_ms c X k h1 (k0_off60 k) _ (by rw [off60_at]; rfl) x (kn k) r (kn k) (by rw [off60_at]; exact hx) (by rw [off60_at]; exact Nat.zero_add _)]
theorem group0_v (x : Fin 32) (r : Fin 128) (hx : 0 + x.val = r.val) (l : Fin 128) : k0_pay36 (F := Ideal) (blockStretch.sl.r_9 c X k h1) (ix2 x l) = vAt (aG c X) (aP c X) (aVc c X) (aVs c X) (kb k h1) r (col (kn k) l) := by
  unfold blockStretch.sl.r_9; rw [r3_eq]
  refine (v_vec (kn k) _ _ _ x l).trans ?_
  unfold vAt; rw [blk_col]
  rw [show blockStretch.sl.v298 c X k h1 (ix2 x l) = rAt (aG c X) (aP c X) (kb k h1) r (col (kn k) l) from ld_r c X k h1 0 _ x l r hx]
  rw [show blockStretch.sl.v322 c X k h1 (ix3 0 x l) = aVc c X (ix3 (kb k h1) r (col (kn k) l)) from ld_vc c X k h1 (k0_off61 k) _ (by rw [off61_at]; rfl) x l r (col (kn k) l) (by rw [off61_at]; exact hx) (by rw [off61_at]; exact congrArg (· + l.val) (Nat.mul_comm 128 _))]
  rw [show blockStretch.sl.v307 c X k h1 (ix3 0 x (kn k)) = aVs c X (ix3 (kb k h1) r (kn k)) from ld_vs c X k h1 (k0_off60 k) _ (by rw [off60_at]; rfl) x (kn k) r (kn k) (by rw [off60_at]; exact hx) (by rw [off60_at]; exact Nat.zero_add _)]

theorem group1_m (x : Fin 32) (r : Fin 128) (hx : 32 + x.val = r.val) (l : Fin 128) : blockStretch.sl.r_16 c X k h1 (ix2 x l) = mAt (aG c X) (aP c X) (aMc c X) (aMs c X) (kb k h1) r (col (kn k) l) := by
  unfold blockStretch.sl.r_16 blockStretch.sl.r_14; rw [r3_eq, m_1]
  refine (m_vec (kn k) _ _ _ x l).trans ?_
  unfold mAt; rw [blk_col]
  rw [show blockStretch.sl.v436 c X k h1 (ix2 x l) = rAt (aG c X) (aP c X) (kb k h1) r (col (kn k) l) from ld_r c X k h1 32 _ x l r hx]
  rw [show blockStretch.sl.v453 c X k h1 (ix3 0 x l) = aMc c X (ix3 (kb k h1) r (col (kn k) l)) from ld_mc c X k h1 (k0_off63 k) _ (by rw [off63_at]; rfl) x l r (col (kn k) l) (by rw [off63_at]; exact hx) (by rw [off63_at]; exact congrArg (· + l.val) (Nat.mul_comm 128 _))]
  rw [show blockStretch.sl.v438 c X k h1 (ix3 0 x (kn k)) = aMs c X (ix3 (kb k h1) r (kn k)) from ld_ms c X k h1 (k0_off62 k) _ (by rw [off62_at]; rfl) x (kn k) r (kn k) (by rw [off62_at]; exact hx) (by rw [off62_at]; exact Nat.zero_add _)]
theorem group1_v (x : Fin 32) (r : Fin 128) (hx : 32 + x.val = r.val) (l : Fin 128) : k0_pay36 (F := Ideal) (blockStretch.sl.r_17 c X k h1) (ix2 x l) = vAt (aG c X) (aP c X) (aVc c X) (aVs c X) (kb k h1) r (col (kn k) l) := by
  unfold blockStretch.sl.r_17; rw [r3_eq, v_1]
  refine (v_vec (kn k) _ _ _ x l).trans ?_
  unfold vAt; rw [blk_col]
  rw [show blockStretch.sl.v436 c X k h1 (ix2 x l) = rAt (aG c X) (aP c X) (kb k h1) r (col (kn k) l) from ld_r c X k h1 32 _ x l r hx]
  rw [show blockStretch.sl.v460 c X k h1 (ix3 0 x l) = aVc c X (ix3 (kb k h1) r (col (kn k) l)) from ld_vc c X k h1 (k0_off63 k) _ (by rw [off63_at]; rfl) x l r (col (kn k) l) (by rw [off63_at]; exact hx) (by rw [off63_at]; exact congrArg (· + l.val) (Nat.mul_comm 128 _))]
  rw [show blockStretch.sl.v445 c X k h1 (ix3 0 x (kn k)) = aVs c X (ix3 (kb k h1) r (kn k)) from ld_vs c X k h1 (k0_off62 k) _ (by rw [off62_at]; rfl) x (kn k) r (kn k) (by rw [off62_at]; exact hx) (by rw [off62_at]; exact Nat.zero_add _)]

theorem group2_m (x : Fin 32) (r : Fin 128) (hx : 64 + x.val = r.val) (l : Fin 128) : blockStretch.sl.r_26 c X k h1 (ix2 x l) = mAt (aG c X) (aP c X) (aMc c X) (aMs c X) (kb k h1) r (col (kn k) l) := by
  unfold blockStretch.sl.r_26 blockStretch.sl.r_24; rw [r3_eq, m_2]
  refine (m_vec (kn k) _ _ _ x l).trans ?_
  unfold mAt; rw [blk_col]
  rw [show blockStretch.sl.v574 c X k h1 (ix2 x l) = rAt (aG c X) (aP c X) (kb k h1) r (col (kn k) l) from ld_r c X k h1 64 _ x l r hx]
  rw [show blockStretch.sl.v591 c X k h1 (ix3 0 x l) = aMc c X (ix3 (kb k h1) r (col (kn k) l)) from ld_mc c X k h1 (k0_off65 k) _ (by rw [off65_at]; rfl) x l r (col (kn k) l) (by rw [off65_at]; exact hx) (by rw [off65_at]; exact congrArg (· + l.val) (Nat.mul_comm 128 _))]
  rw [show blockStretch.sl.v576 c X k h1 (ix3 0 x (kn k)) = aMs c X (ix3 (kb k h1) r (kn k)) from ld_ms c X k h1 (k0_off64 k) _ (by rw [off64_at]; rfl) x (kn k) r (kn k) (by rw [off64_at]; exact hx) (by rw [off64_at]; exact Nat.zero_add _)]
theorem group2_v (x : Fin 32) (r : Fin 128) (hx : 64 + x.val = r.val) (l : Fin 128) : k0_pay36 (F := Ideal) (blockStretch.sl.r_27 c X k h1) (ix2 x l) = vAt (aG c X) (aP c X) (aVc c X) (aVs c X) (kb k h1) r (col (kn k) l) := by
  unfold blockStretch.sl.r_27; rw [r3_eq, v_2]
  refine (v_vec (kn k) _ _ _ x l).trans ?_
  unfold vAt; rw [blk_col]
  rw [show blockStretch.sl.v574 c X k h1 (ix2 x l) = rAt (aG c X) (aP c X) (kb k h1) r (col (kn k) l) from ld_r c X k h1 64 _ x l r hx]
  rw [show blockStretch.sl.v598 c X k h1 (ix3 0 x l) = aVc c X (ix3 (kb k h1) r (col (kn k) l)) from ld_vc c X k h1 (k0_off65 k) _ (by rw [off65_at]; rfl) x l r (col (kn k) l) (by rw [off65_at]; exact hx) (by rw [off65_at]; exact congrArg (· + l.val) (Nat.mul_comm 128 _))]
  rw [show blockStretch.sl.v583 c X k h1 (ix3 0 x (kn k)) = aVs c X (ix3 (kb k h1) r (kn k)) from ld_vs c X k h1 (k0_off64 k) _ (by rw [off64_at]; rfl) x (kn k) r (kn k) (by rw [off64_at]; exact hx) (by rw [off64_at]; exact Nat.zero_add _)]

theorem group3_m (x : Fin 32) (r : Fin 128) (hx : 96 + x.val = r.val) (l : Fin 128) : blockStretch.sl.r_35 c X k h1 (ix2 x l) = mAt (aG c X) (aP c X) (aMc c X) (aMs c X) (kb k h1) r (col (kn k) l) := by
  unfold blockStretch.sl.r_35 blockStretch.sl.r_33; rw [r3_eq, m_3]
  refine (m_vec (kn k) _ _ _ x l).trans ?_
  unfold mAt; rw [blk_col]
  rw [show blockStretch.sl.v712 c X k h1 (ix2 x l) = rAt (aG c X) (aP c X) (kb k h1) r (col (kn k) l) from ld_r c X k h1 96 _ x l r hx]
  rw [show blockStretch.sl.v729 c X k h1 (ix3 0 x l) = aMc c X (ix3 (kb k h1) r (col (kn k) l)) from ld_mc c X k h1 (k0_off67 k) _ (by rw [off67_at]; rfl) x l r (col (kn k) l) (by rw [off67_at]; exact hx) (by rw [off67_at]; exact congrArg (· + l.val) (Nat.mul_comm 128 _))]
  rw [show blockStretch.sl.v714 c X k h1 (ix3 0 x (kn k)) = aMs c X (ix3 (kb k h1) r (kn k)) from ld_ms c X k h1 (k0_off66 k) _ (by rw [off66_at]; rfl) x (kn k) r (kn k) (by rw [off66_at]; exact hx) (by rw [off66_at]; exact Nat.zero_add _)]
theorem group3_v (x : Fin 32) (r : Fin 128) (hx : 96 + x.val = r.val) (l : Fin 128) : k0_pay36 (F := Ideal) (blockStretch.sl.r_36 c X k h1) (ix2 x l) = vAt (aG c X) (aP c X) (aVc c X) (aVs c X) (kb k h1) r (col (kn k) l) := by
  unfold blockStretch.sl.r_36; rw [r3_eq, v_3]
  refine (v_vec (kn k) _ _ _ x l).trans ?_
  unfold vAt; rw [blk_col]
  rw [show blockStretch.sl.v712 c X k h1 (ix2 x l) = rAt (aG c X) (aP c X) (kb k h1) r (col (kn k) l) from ld_r c X k h1 96 _ x l r hx]
  rw [show blockStretch.sl.v736 c X k h1 (ix3 0 x l) = aVc c X (ix3 (kb k h1) r (col (kn k) l)) from ld_vc c X k h1 (k0_off67 k) _ (by rw [off67_at]; rfl) x l r (col (kn k) l) (by rw [off67_at]; exact hx) (by rw [off67_at]; exact congrArg (· + l.val) (Nat.mul_comm 128 _))]
  rw [show blockStretch.sl.v721 c X k h1 (ix3 0 x (kn k)) = aVs c X (ix3 (kb k h1) r (kn k)) from ld_vs c X k h1 (k0_off66 k) _ (by rw [off66_at]; rfl) x (kn k) r (kn k) (by rw [off66_at]; exact hx) (by rw [off66_at]; exact Nat.zero_add _)]

end Cert.Proof.Kernel

end
-- ==== Proof.BlockPuts.lean ====
/- What a block of the moments leaves in the slots of the results: the new codes and scales in its columns, the rest as
   it was. -/
module

public import proofs.«01_k».proof.Proof.BlockMoments

@[expose] public section

set_option maxRecDepth 16384

noncomputable section

namespace Cert.Proof.Kernel

open Cert.Kernel Cert.Kernel.Gen Cert.Proof.Reads Cert.Proof.Moments
open Idealize.ShloMosaic Idealize.ShloMosaic.TcCoe

variable (c : Dev nD) (X : Src Ideal c) (arg11 : Memref sig .tc .smem S12 .f32) (k : Fin k0_t3_loop.trips) (h1 : k0_cond1 k = 1#1) (s : St Ideal c arg11)

/-- The buffers of the results' slots. -/
abbrev nmB : Memref sig .tc .vmem S2x128x2048 .i8 := Memref.whole cc0_scratch7
abbrev nvB : Memref sig .tc .vmem S2x128x2048 .i8 := Memref.whole cc0_scratch8
abbrev nmsB : Memref sig .tc .vmem S2x128x16 .f32 := Memref.whole cc0_scratch9
abbrev nvsB : Memref sig .tc .vmem S2x128x16 .f32 := Memref.whole cc0_scratch10

theorem col_of (y : Fin 2048) (n : Fin 16) (h : blk y = n) : ∃ l, y = col n l := ⟨⟨y.val % 128, by omega⟩, by rw [← h]; exact (col_blk y _).symm⟩
theorem four (r : Fin 128) : (∃ x : Fin 32, 0 + x.val = r.val) ∨ (∃ x : Fin 32, 32 + x.val = r.val) ∨ (∃ x : Fin 32, 64 + x.val = r.val) ∨ (∃ x : Fin 32, 96 + x.val = r.val) := by
  have := r.isLt
  rcases (by omega : r.val < 32 ∨ (32 ≤ r.val ∧ r.val < 64) ∨ (64 ≤ r.val ∧ r.val < 96) ∨ 96 ≤ r.val) with h | h | h | h
  · exact Or.inl ⟨⟨r.val, by omega⟩, by show 0 + r.val = r.val; omega⟩
  · exact Or.inr (Or.inl ⟨⟨r.val - 32, by omega⟩, by show 32 + (r.val - 32) = r.val; omega⟩)
  · exact Or.inr (Or.inr (Or.inl ⟨⟨r.val - 64, by omega⟩, by show 64 + (r.val - 64) = r.val; omega⟩))
  · exact Or.inr (Or.inr (Or.inr ⟨⟨r.val - 96, by omega⟩, by show 96 + (r.val - 96) = r.val; omega⟩))

/-- The codes after a block. -/
theorem nm_put (r : Fin 128) (y : Fin 2048) : nmB.view.read (Elt Ideal) (blockStretch.sl.Hnm_w13 c X arg11 k h1 s) (ix3 (ks k) r y)
    = if blk y = kn k then mCode (aG c X) (aP c X) (aMc c X) (aMs c X) (kb k h1) r y else nmB.view.read (Elt Ideal) s.nm (ix3 (ks k) r y) := by
  unfold blockStretch.sl.Hnm_w13 blockStretch.sl.Hnm_w9 blockStretch.sl.Hnm_w5 blockStretch.sl.Hnm_w1
  by_cases hy : blk y = kn k
  · rw [if_pos hy]
    obtain ⟨l, rfl⟩ := col_of y _ hy
    rcases four r with ⟨x, hx⟩ | ⟨x, hx⟩ | ⟨x, hx⟩ | ⟨x, hx⟩
    · refine (store_out nmB (k0_off67 k) _ _ _ (ks k) r _ (by rw [off67_at]; exact Or.inl (show r.val < 96 by omega))).trans ?_
      refine (store_out nmB (k0_off65 k) _ _ _ (ks k) r _ (by rw [off65_at]; exact Or.inl (show r.val < 64 by omega))).trans ?_
      refine (store_out nmB (k0_off63 k) _ _ _ (ks k) r _ (by rw [off63_at]; exact Or.inl (show r.val < 32 by omega))).trans ?_
      refine (store_in nmB (k0_off61 k) _ (ks k) (by rw [off61_at]; rfl) _ _ x l r (col (kn k) l) (by rw [off61_at]; exact hx) (by rw [off61_at]; exact congrArg (· + l.val) (Nat.mul_comm 128 _))).trans ?_
      exact code_m _ _ _ _ _ _ _ _ _ (fun l => group0_m c X k h1 x r hx l) l
    · refine (store_out nmB (k0_off67 k) _ _ _ (ks k) r _ (by rw [off67_at]; exact Or.inl (show r.val < 96 by omega))).trans ?_
      refine (store_out nmB (k0_off65 k) _ _ _ (ks k) r _ (by rw [off65_at]; exact Or.inl (show r.val < 64 by omega))).trans ?_
      refine (store_in nmB (k0_off63 k) _ (ks k) (by rw [off63_at]; rfl) _ _ x l r (col (kn k) l) (by rw [off63_at]; exact hx) (by rw [off63_at]; exact congrArg (· + l.val) (Nat.mul_comm 128 _))).trans ?_
      rw [mc_1]
      exact code_m _ _ _ _ _ _ _ _ _ (fun l => group1_m c X k h1 x r hx l) l
    · refine (store_out nmB (k0_off67 k) _ _ _ (ks k) r _ (by rw [off67_at]; exact Or.inl (show r.val < 96 by omega))).trans ?_
      refine (store_in nmB (k0_off65 k) _ (ks k) (by rw [off65_at]; rfl) _ _ x l r (col (kn k) l) (by rw [off65_at]; exact hx) (by rw [off65_at]; exact congrArg (· + l.val) (Nat.mul_comm 128 _))).trans ?_
      rw [mc_2]
      exact code_m _ _ _ _ _ _ _ _ _ (fun l => group2_m c X k h1 x r hx l) l
    · refine (store_in nmB (k0_off67 k) _ (ks k) (by rw [off67_at]; rfl) _ _ x l r (col (kn k) l) (by rw [off67_at]; exact hx) (by rw [off67_at]; exact congrArg (· + l.val) (Nat.mul_comm 128 _))).trans ?_
      rw [mc_3]
      exact code_m _ _ _ _ _ _ _ _ _ (fun l => group3_m c X k h1 x r hx l) l
  · rw [if_neg hy]
    have hy : ¬ y.val / 128 = k.val % 16 := fun h => hy (Fin.ext h)
    refine (store_out nmB (k0_off67 k) _ _ _ (ks k) r y (by rw [off67_at]; exact Or.inr (Or.inr (show y.val < 128 * (k.val % 16) ∨ 128 * (k.val % 16) + 128 ≤ y.val by omega)))).trans ?_
    refine (store_out nmB (k0_off65 k) _ _ _ (ks k) r y (by rw [off65_at]; exact Or.inr (Or.inr (show y.val < 128 * (k.val % 16) ∨ 128 * (k.val % 16) + 128 ≤ y.val by omega)))).trans ?_
    refine (store_out nmB (k0_off63 k) _ _ _ (ks k) r y (by rw [off63_at]; exact Or.inr (Or.inr (show y.val < 128 * (k.val % 16) ∨ 128 * (k.val % 16) + 128 ≤ y.val by omega)))).trans ?_
    refine (store_out nmB (k0_off61 k) _ _ _ (ks k) r y (by rw [off61_at]; exact Or.inr (Or.inr (show y.val < 128 * (k.val % 16) ∨ 128 * (k.val % 16) + 128 ≤ y.val by omega)))).trans ?_
    rfl

/-- The codes after a block. -/
theorem nv_put (r : Fin 128) (y : Fin 2048) : nvB.view.read (Elt Ideal) (blockStretch.sl.Hnv_w15 c X arg11 k h1 s) (ix3 (ks k) r y)
    = if blk y = kn k then vCode (aG c X) (aP c X) (aVc c X) (aVs c X) (kb k h1) r y else nvB.view.read (Elt Ideal) s.nv (ix3 (ks k) r y) := by
  unfold blockStretch.sl.Hnv_w15 blockStretch.sl.Hnv_w11 blockStretch.sl.Hnv_w7 blockStretch.sl.Hnv_w3
  by_cases hy : blk y = kn k
  · rw [if_pos hy]
    obtain ⟨l, rfl⟩ := col_of y _ hy
    rcases four r with ⟨x, hx⟩ | ⟨x, hx⟩ | ⟨x, hx⟩ | ⟨x, hx⟩
    · refine (store_out nvB (k0_off67 k) _ _ _ (ks k) r _ (by rw [off67_at]; exact Or.inl (show r.val < 96 by omega))).trans ?_
      refine (store_out nvB (k0_off65 k) _ _ _ (ks k) r _ (by rw [off65_at]; exact Or.inl (show r.val < 64 by omega))).trans ?_
      refine (store_out nvB (k0_off63 k) _ _ _ (ks k) r _ (by rw [off63_at]; exact Or.inl (show r.val < 32 by omega))).trans ?_
      refine (store_in nvB (k0_off61 k) _ (ks k) (by rw [off61_at]; rfl) _ _ x l r (col (kn k) l) (by rw [off61_at]; exact hx) (by rw [off61_at]; exact congrArg (· + l.val) (Nat.mul_comm 128 _))).trans ?_
      unfold blockStretch.sl.r_13
      exact code_v _ _ _ _ _ _ _ _ _ (fun l => group0_v c X k h1 x r hx l) l
    · refine (store_out nvB (k0_off67 k) _ _ _ (ks k) r _ (by rw [off67_at]; exact Or.inl (show r.val < 96 by omega))).trans ?_
      refine (store_out nvB (k0_off65 k) _ _ _ (ks k) r _ (by rw [off65_at]; exact Or.inl (show r.val < 64 by omega))).trans ?_
      refine (store_in nvB (k0_off63 k) _ (ks k) (by rw [off63_at]; rfl) _ _ x l r (col (kn k) l) (by rw [off63_at]; exact hx) (by rw [off63_at]; exact congrArg (· + l.val) (Nat.mul_comm 128 _))).trans ?_
      rw [vc_1]
      exact code_v _ _ _ _ _ _ _ _ _ (fun l => group1_v c X k h1 x r hx l) l
    · refine (store_out nvB (k0_off67 k) _ _ _ (ks k) r _ (by rw [off67_at]; exact Or.inl (show r.val < 96 by omega))).trans ?_
      refine (store_in nvB (k0_off65 k) _ (ks k) (by rw [off65_at]; rfl) _ _ x l r (col (kn k) l) (by rw [off65_at]; exact hx) (by rw [off65_at]; exact congrArg (· + l.val) (Nat.mul_comm 128 _))).trans ?_
      rw [vc_2]
      exact code_v _ _ _ _ _ _ _ _ _ (fun l => group2_v c X k h1 x r hx l) l
    · refine (store_in nvB (k0_off67 k) _ (ks k) (by rw [off67_at]; rfl) _ _ x l r (col (kn k) l) (by rw [off67_at]; exact hx) (by rw [off67_at]; exact congrArg (· + l.val) (Nat.mul_comm 128 _))).trans ?_
      rw [vc_3]
      exact code_v _ _ _ _ _ _ _ _ _ (fun l => group3_v c X k h1 x r hx l) l
  · rw [if_neg hy]
    have hy : ¬ y.val / 128 = k.val % 16 := fun h => hy (Fin.ext h)
    refine (store_out nvB (k0_off67 k) _ _ _ (ks k) r y (by rw [off67_at]; exact Or.inr (Or.inr (show y.val < 128 * (k.val % 16) ∨ 128 * (k.val % 16) + 128 ≤ y.val by omega)))).trans ?_
    refine (store_out nvB (k0_off65 k) _ _ _ (ks k) r y (by rw [off65_at]; exact Or.inr (Or.inr (show y.val < 128 * (k.val % 16) ∨ 128 * (k.val % 16) + 128 ≤ y.val by omega)))).trans ?_
    refine (store_out nvB (k0_off63 k) _ _ _ (ks k) r y (by rw [off63_at]; exact Or.inr (Or.inr (show y.val < 128 * (k.val % 16) ∨ 128 * (k.val % 16) + 128 ≤ y.val by omega)))).trans ?_
    refine (store_out nvB (k0_off61 k) _ _ _ (ks k) r y (by rw [off61_at]; exact Or.inr (Or.inr (show y.val < 128 * (k.val % 16) ∨ 128 * (k.val % 16) + 128 ≤ y.val by omega)))).trans ?_
    rfl

/-- The scales after a block. -/
theorem nms_put (r : Fin 128) (y : Fin 16) : nmsB.view.read (Elt Ideal) (blockStretch.sl.Hnms_w14 c X arg11 k h1 s) (ix3 (ks k) r y)
    = if y = kn k then mScale (aG c X) (aP c X) (aMc c X) (aMs c X) (kb k h1) r (kn k) else nmsB.view.read (Elt Ideal) s.nms (ix3 (ks k) r y) := by
  rcases four r with ⟨x, hx⟩ | ⟨x, hx⟩ | ⟨x, hx⟩ | ⟨x, hx⟩
  · unfold blockStretch.sl.Hnms_w14
    refine (store_out nmsB (k0_off66 k) _ _ _ (ks k) r _ (by rw [off66_at]; exact Or.inl (show r.val < 96 by omega))).trans ?_
    unfold blockStretch.sl.Hnms_w10
    refine (store_out nmsB (k0_off64 k) _ _ _ (ks k) r _ (by rw [off64_at]; exact Or.inl (show r.val < 64 by omega))).trans ?_
    unfold blockStretch.sl.Hnms_w6
    refine (store_out nmsB (k0_off62 k) _ _ _ (ks k) r _ (by rw [off62_at]; exact Or.inl (show r.val < 32 by omega))).trans ?_
    unfold blockStretch.sl.Hnms_w2
    refine (store_in nmsB (k0_off60 k) _ (ks k) (by rw [off60_at]; rfl) _ _ x y r y (by rw [off60_at]; exact hx) (by rw [off60_at]; exact Nat.zero_add _)).trans ?_
    rw [r3_eq]
    refine (scale_m _ _ _ _ _ _ r x _ _ (fun l => group0_m c X k h1 x r hx l) y).trans ?_
    refine congrArg (ite (y = kn k) _) ((load_at nmsB (k0_off60 k) _ (ks k) (by rw [off60_at]; rfl) _ x y r y (by rw [off60_at]; exact hx) (by rw [off60_at]; exact Nat.zero_add _)).trans ?_)
    rfl
  · unfold blockStretch.sl.Hnms_w14
    refine (store_out nmsB (k0_off66 k) _ _ _ (ks k) r _ (by rw [off66_at]; exact Or.inl (show r.val < 96 by omega))).trans ?_
    unfold blockStretch.sl.Hnms_w10
    refine (store_out nmsB (k0_off64 k) _ _ _ (ks k) r _ (by rw [off64_at]; exact Or.inl (show r.val < 64 by omega))).trans ?_
    unfold blockStretch.sl.Hnms_w6
    refine (store_in nmsB (k0_off62 k) _ (ks k) (by rw [off62_at]; rfl) _ _ x y r y (by rw [off62_at]; exact hx) (by rw [off62_at]; exact Nat.zero_add _)).trans ?_
    unfold blockStretch.sl.r_23; rw [r3_eq, ms_1]
    refine (scale_m _ _ _ _ _ _ r x _ _ (fun l => group1_m c X k h1 x r hx l) y).trans ?_
    refine congrArg (ite (y = kn k) _) ((load_at nmsB (k0_off62 k) _ (ks k) (by rw [off62_at]; rfl) _ x y r y (by rw [off62_at]; exact hx) (by rw [off62_at]; exact Nat.zero_add _)).trans ?_)
    unfold blockStretch.sl.Hnms_w2
    refine (store_out nmsB (k0_off60 k) _ _ _ (ks k) r _ (by rw [off60_at]; exact Or.inr (Or.inl (show 0 + 32 ≤ r.val by omega)))).trans ?_
    rfl
  · unfold blockStretch.sl.Hnms_w14
    refine (store_out nmsB (k0_off66 k) _ _ _ (ks k) r _ (by rw [off66_at]; exact Or.inl (show r.val < 96 by omega))).trans ?_
    unfold blockStretch.sl.Hnms_w10
    refine (store_in nmsB (k0_off64 k) _ (ks k) (by rw [off64_at]; rfl) _ _ x y r y (by rw [off64_at]; exact hx) (by rw [off64_at]; exact Nat.zero_add _)).trans ?_
    unfold blockStretch.sl.r_32; rw [r3_eq, ms_2]
    refine (scale_m _ _ _ _ _ _ r x _ _ (fun l => group2_m c X k h1 x r hx l) y).trans ?_
    refine congrArg (ite (y = kn k) _) ((load_at nmsB (k0_off64 k) _ (ks k) (by rw [off64_at]; rfl) _ x y r y (by rw [off64_at]; exact hx) (by rw [off64_at]; exact Nat.zero_add _)).trans ?_)
    unfold blockStretch.sl.Hnms_w6
    refine (store_out nmsB (k0_off62 k) _ _ _ (ks k) r _ (by rw [off62_at]; exact Or.inr (Or.inl (show 32 + 32 ≤ r.val by omega)))).trans ?_
    unfold blockStretch.sl.Hnms_w2
    refine (store_out nmsB (k0_off60 k) _ _ _ (ks k) r _ (by rw [off60_at]; exact Or.inr (Or.inl (show 0 + 32 ≤ r.val by omega)))).trans ?_
    rfl
  · unfold blockStretch.sl.Hnms_w14
    refine (store_in nmsB (k0_off66 k) _ (ks k) (by rw [off66_at]; rfl) _ _ x y r y (by rw [off66_at]; exact hx) (by rw [off66_at]; exact Nat.zero_add _)).trans ?_
    unfold blockStretch.sl.r_41 blockStretch.sl.r_42; rw [r3_eq, ms_3]
    refine (scale_m _ _ _ _ _ _ r x _ _ (fun l => group3_m c X k h1 x r hx l) y).trans ?_
    refine congrArg (ite (y = kn k) _) ((load_at nmsB (k0_off66 k) _ (ks k) (by rw [off66_at]; rfl) _ x y r y (by rw [off66_at]; exact hx) (by rw [off66_at]; exact Nat.zero_add _)).trans ?_)
    unfold blockStretch.sl.Hnms_w10
    refine (store_out nmsB (k0_off64 k) _ _ _ (ks k) r _ (by rw [off64_at]; exact Or.inr (Or.inl (show 64 + 32 ≤ r.val by omega)))).trans ?_
    unfold blockStretch.sl.Hnms_w6
    refine (store_out nmsB (k0_off62 k) _ _ _ (ks k) r _ (by rw [off62_at]; exact Or.inr (Or.inl (show 32 + 32 ≤ r.val by omega)))).trans ?_
    unfold blockStretch.sl.Hnms_w2
    refine (store_out nmsB (k0_off60 k) _ _ _ (ks k) r _ (by rw [off60_at]; exact Or.inr (Or.inl (show 0 + 32 ≤ r.val by omega)))).trans ?_
    rfl

/-- The scales after a block. -/
theorem nvs_put (r : Fin 128) (y : Fin 16) : nvsB.view.read (Elt Ideal) (blockStretch.sl.Hnvs_w16 c X arg11 k h1 s) (ix3 (ks k) r y)
    = if y = kn k then vScale (aG c X) (aP c X) (aVc c X) (aVs c X) (kb k h1) r (kn k) else nvsB.view.read (Elt Ideal) s.nvs (ix3 (ks k) r y) := by
  rcases four r with ⟨x, hx⟩ | ⟨x, hx⟩ | ⟨x, hx⟩ | ⟨x, hx⟩
  · unfold blockStretch.sl.Hnvs_w16
    refine (store_out nvsB (k0_off66 k) _ _ _ (ks k) r _ (by rw [off66_at]; exact Or.inl (show r.val < 96 by omega))).trans ?_
    unfold blockStretch.sl.Hnvs_w12
    refine (store_out nvsB (k0_off64 k) _ _ _ (ks k) r _ (by rw [off64_at]; exact Or.inl (show r.val < 64 by omega))).trans ?_
    unfold blockStretch.sl.Hnvs_w8
    refine (store_out nvsB (k0_off62 k) _ _ _ (ks k) r _ (by rw [off62_at]; exact Or.inl (show r.val < 32 by omega))).trans ?_
    unfold blockStretch.sl.Hnvs_w4
    refine (store_in nvsB (k0_off60 k) _ (ks k) (by rw [off60_at]; rfl) _ _ x y r y (by rw [off60_at]; exact hx) (by rw [off60_at]; exact Nat.zero_add _)).trans ?_
    unfold blockStretch.sl.r_13; rw [r3_eq]
    refine (scale_v _ _ _ _ _ _ r x _ _ (fun l => group0_v c X k h1 x r hx l) y).trans ?_
    refine congrArg (ite (y = kn k) _) ((load_at nvsB (k0_off60 k) _ (ks k) (by rw [off60_at]; rfl) _ x y r y (by rw [off60_at]; exact hx) (by rw [off60_at]; exact Nat.zero_add _)).trans ?_)
    rfl
  · unfold blockStretch.sl.Hnvs_w16
    refine (store_out nvsB (k0_off66 k) _ _ _ (ks k) r _ (by rw [off66_at]; exact Or.inl (show r.val < 96 by omega))).trans ?_
    unfold blockStretch.sl.Hnvs_w12
    refine (store_out nvsB (k0_off64 k) _ _ _ (ks k) r _ (by rw [off64_at]; exact Or.inl (show r.val < 64 by omega))).trans ?_
    unfold blockStretch.sl.Hnvs_w8
    refine (store_in nvsB (k0_off62 k) _ (ks k) (by rw [off62_at]; rfl) _ _ x y r y (by rw [off62_at]; exact hx) (by rw [off62_at]; exact Nat.zero_add _)).trans ?_
    rw [r3_eq, vs_1]
    refine (scale_v _ _ _ _ _ _ r x _ _ (fun l => group1_v c X k h1 x r hx l) y).trans ?_
    refine congrArg (ite (y = kn k) _) ((load_at nvsB (k0_off62 k) _ (ks k) (by rw [off62_at]; rfl) _ x y r y (by rw [off62_at]; exact hx) (by rw [off62_at]; exact Nat.zero_add _)).trans ?_)
    unfold blockStretch.sl.Hnvs_w4
    refine (store_out nvsB (k0_off60 k) _ _ _ (ks k) r _ (by rw [off60_at]; exact Or.inr (Or.inl (show 0 + 32 ≤ r.val by omega)))).trans ?_
    rfl
  · unfold blockStretch.sl.Hnvs_w16
    refine (store_out nvsB (k0_off66 k) _ _ _ (ks k) r _ (by rw [off66_at]; exact Or.inl (show r.val < 96 by omega))).trans ?_
    unfold blockStretch.sl.Hnvs_w12
    refine (store_in nvsB (k0_off64 k) _ (ks k) (by rw [off64_at]; rfl) _ _ x y r y (by rw [off64_at]; exact hx) (by rw [off64_at]; exact Nat.zero_add _)).trans ?_
    rw [r3_eq, vs_2]
    refine (scale_v _ _ _ _ _ _ r x _ _ (fun l => group2_v c X k h1 x r hx l) y).trans ?_
    refine congrArg (ite (y = kn k) _) ((load_at nvsB (k0_off64 k) _ (ks k) (by rw [off64_at]; rfl) _ x y r y (by rw [off64_at]; exact hx) (by rw [off64_at]; exact Nat.zero_add _)).trans ?_)
    unfold blockStretch.sl.Hnvs_w8
    refine (store_out nvsB (k0_off62 k) _ _ _ (ks k) r _ (by rw [off62_at]; exact Or.inr (Or.inl (show 32 + 32 ≤ r.val by omega)))).trans ?_
    unfold blockStretch.sl.Hnvs_w4
    refine (store_out nvsB (k0_off60 k) _ _ _ (ks k) r _ (by rw [off60_at]; exact Or.inr (Or.inl (show 0 + 32 ≤ r.val by omega)))).trans ?_
    rfl
  · unfold blockStretch.sl.Hnvs_w16
    refine (store_in nvsB (k0_off66 k) _ (ks k) (by rw [off66_at]; rfl) _ _ x y r y (by rw [off66_at]; exact hx) (by rw [off66_at]; exact Nat.zero_add _)).trans ?_
    rw [r3_eq, vs_3]
    refine (scale_v _ _ _ _ _ _ r x _ _ (fun l => group3_v c X k h1 x r hx l) y).trans ?_
    refine congrArg (ite (y = kn k) _) ((load_at nvsB (k0_off66 k) _ (ks k) (by rw [off66_at]; rfl) _ x y r y (by rw [off66_at]; exact hx) (by rw [off66_at]; exact Nat.zero_add _)).trans ?_)
    unfold blockStretch.sl.Hnvs_w12
    refine (store_out nvsB (k0_off64 k) _ _ _ (ks k) r _ (by rw [off64_at]; exact Or.inr (Or.inl (show 64 + 32 ≤ r.val by omega)))).trans ?_
    unfold blockStretch.sl.Hnvs_w8
    refine (store_out nvsB (k0_off62 k) _ _ _ (ks k) r _ (by rw [off62_at]; exact Or.inr (Or.inl (show 32 + 32 ≤ r.val by omega)))).trans ?_
    unfold blockStretch.sl.Hnvs_w4
    refine (store_out nvsB (k0_off60 k) _ _ _ (ks k) r _ (by rw [off60_at]; exact Or.inr (Or.inl (show 0 + 32 ≤ r.val by omega)))).trans ?_
    rfl

end Cert.Proof.Kernel

end
-- ==== Proof.PlanValue.lean ====
/- The plan of a run that follows the values of the new moments: which columns of a batch are in the slots of the
   results, trip by trip. -/
module

public import proofs.«01_k».proof.Proof.BlockPuts
public import proofs.«01_k».proof.Proof.Launch

@[expose] public section

set_option maxRecDepth 16384

noncomputable section

namespace Cert.Proof.Kernel

open Cert.Kernel Cert.Kernel.Gen Cert.Proof.Reads Cert.Proof.Moments
open Idealize.ShloMosaic Idealize.ShloMosaic.TcCoe

variable (m : (ℓ : Loc nD τ sig) → Buf (Elt Ideal) ℓ) (ρ : Dev nD → PrngReg)

/-! ## The arguments as arrays -/

abbrev argG (c : Dev nD) : FVec Ideal S12x2048x7168 .bf16 := m ((c : Thread nD τ).loc main_arg1)
abbrev argP (c : Dev nD) : FVec Ideal S12x128x7168 .bf16 := m ((c : Thread nD τ).loc main_arg2)
abbrev argMc (c : Dev nD) : IVec S12x128x2048 8 := m ((c : Thread nD τ).loc main_arg3)
abbrev argMs (c : Dev nD) : FVec Ideal S12x128x16 .f32 := m ((c : Thread nD τ).loc main_arg4)
abbrev argVc (c : Dev nD) : IVec S12x128x2048 8 := m ((c : Thread nD τ).loc main_arg5)
abbrev argVs (c : Dev nD) : FVec Ideal S12x128x16 .f32 := m ((c : Thread nD τ).loc main_arg6)

/-- What a buffer of each of the four results is to hold. -/
abbrev toM (c : Dev nD) (b : Fin 12) (r : Fin 128) (y : Fin 2048) : BitVec 8 := mCode (argG m c) (argP m c) (argMc m c) (argMs m c) b r y
abbrev toMs (c : Dev nD) (b : Fin 12) (r : Fin 128) (n : Fin 16) : EReal := mScale (argG m c) (argP m c) (argMc m c) (argMs m c) b r n
abbrev toV (c : Dev nD) (b : Fin 12) (r : Fin 128) (y : Fin 2048) : BitVec 8 := vCode (argG m c) (argP m c) (argVc m c) (argVs m c) b r y
abbrev toVs (c : Dev nD) (b : Fin 12) (r : Fin 128) (n : Fin 16) : EReal := vScale (argG m c) (argP m c) (argVc m c) (argVs m c) b r n

/-- The results' buffers. -/
abbrev nmA : Memref sig .tc .hbm S12x128x2048 .i8 := Memref.whole main_v0_3
abbrev nmsA : Memref sig .tc .hbm S12x128x16 .f32 := Memref.whole main_v0_4
abbrev nvA : Memref sig .tc .hbm S12x128x2048 .i8 := Memref.whole main_v0_5
abbrev nvsA : Memref sig .tc .hbm S12x128x16 .f32 := Memref.whole main_v0_6

/-- A piece holds the new moments of its batch. -/
def okVal (c : Dev nD) : Ok Ideal c where
  nm i f := ∀ b : Fin 12, b.val = i → ∀ r y, nmA.view.read (Elt Ideal) f (ix3 b r y) = toM m c b r y
  nms i f := ∀ b : Fin 12, b.val = i → ∀ r y, nmsA.view.read (Elt Ideal) f (ix3 b r y) = toMs m c b r y
  nv i f := ∀ b : Fin 12, b.val = i → ∀ r y, nvA.view.read (Elt Ideal) f (ix3 b r y) = toV m c b r y
  nvs i f := ∀ b : Fin 12, b.val = i → ∀ r y, nvsA.view.read (Elt Ideal) f (ix3 b r y) = toVs m c b r y

/-- The slot of a batch's results. -/
abbrev slotOf (i : ℕ) : Fin 2 := ⟨i % 2, Nat.mod_lt _ Nat.two_pos⟩

/-- The first `j` blocks of batch `i` are in the slots. -/
structure Upto (c : Dev nD) (arg11 : Memref sig .tc .smem S12 .f32) (i j : ℕ) (s : St Ideal c arg11) : Prop where
  nm : ∀ b : Fin 12, b.val = i → ∀ r y, (blk y).val < j → nmB.view.read (Elt Ideal) s.nm (ix3 (slotOf i) r y) = toM m c b r y
  nms : ∀ b : Fin 12, b.val = i → ∀ r (y : Fin 16), y.val < j → nmsB.view.read (Elt Ideal) s.nms (ix3 (slotOf i) r y) = toMs m c b r y
  nv : ∀ b : Fin 12, b.val = i → ∀ r y, (blk y).val < j → nvB.view.read (Elt Ideal) s.nv (ix3 (slotOf i) r y) = toV m c b r y
  nvs : ∀ b : Fin 12, b.val = i → ∀ r (y : Fin 16), y.val < j → nvsB.view.read (Elt Ideal) s.nvs (ix3 (slotOf i) r y) = toVs m c b r y

variable {c : Dev nD} {arg11 : Memref sig .tc .smem S12 .f32}

/-- No block is. -/
theorem upto_none (i j : ℕ) (s : St Ideal c arg11) (h : j = 0) : Upto m c arg11 i j s := by
  subst h
  exact ⟨fun _ _ _ _ h => absurd h (Nat.not_lt_zero _), fun _ _ _ _ h => absurd h (Nat.not_lt_zero _),
    fun _ _ _ _ h => absurd h (Nat.not_lt_zero _), fun _ _ _ _ h => absurd h (Nat.not_lt_zero _)⟩

/-- Past the last batch there is nothing to hold. -/
theorem upto_late (i j : ℕ) (s : St Ideal c arg11) (h : 12 ≤ i) : Upto m c arg11 i j s :=
  ⟨fun b e => absurd b.isLt (by omega), fun b e => absurd b.isLt (by omega), fun b e => absurd b.isLt (by omega), fun b e => absurd b.isLt (by omega)⟩

theorem blk_lt (y : Fin 2048) : (blk y).val < 16 := (blk y).isLt

section
variable (X : Src Ideal c) (arg0 : Memref sig .tc .smem S12 .i32) (harg0 : arg0.IsWhole) (arg1 : Memref sig .tc .smem S12 .f32) (harg1 : arg1.IsWhole) (harg11 : arg11.IsWhole)
  (k : Fin k0_t3_loop.trips) (h1 : k0_cond1 k = 1#1) (s : St Ideal c arg11)
theorem run_nm : ((blockRun c X arg0 harg0 arg1 harg1 arg11 harg11 k h1 s).1.put s).nm = blockStretch.sl.Hnm_w13 c X arg11 k h1 s := by unfold blockRun Out.put; rfl
theorem run_nms : ((blockRun c X arg0 harg0 arg1 harg1 arg11 harg11 k h1 s).1.put s).nms = blockStretch.sl.Hnms_w14 c X arg11 k h1 s := by unfold blockRun Out.put; rfl
theorem run_nv : ((blockRun c X arg0 harg0 arg1 harg1 arg11 harg11 k h1 s).1.put s).nv = blockStretch.sl.Hnv_w15 c X arg11 k h1 s := by unfold blockRun Out.put; rfl
theorem run_nvs : ((blockRun c X arg0 harg0 arg1 harg1 arg11 harg11 k h1 s).1.put s).nvs = blockStretch.sl.Hnvs_w16 c X arg11 k h1 s := by unfold blockRun Out.put; rfl
/-- What a block leaves to read. -/
theorem read_nm (r : Fin 128) (y : Fin 2048) : nmB.view.read (Elt Ideal) ((blockRun c X arg0 harg0 arg1 harg1 arg11 harg11 k h1 s).1.put s).nm (ix3 (ks k) r y)
    = if blk y = kn k then mCode (aG c X) (aP c X) (aMc c X) (aMs c X) (kb k h1) r y else nmB.view.read (Elt Ideal) s.nm (ix3 (ks k) r y) :=
  by rw [run_nm]; exact nm_put c X arg11 k h1 s r y
theorem read_nms (r : Fin 128) (y : Fin 16) : nmsB.view.read (Elt Ideal) ((blockRun c X arg0 harg0 arg1 harg1 arg11 harg11 k h1 s).1.put s).nms (ix3 (ks k) r y)
    = if y = kn k then mScale (aG c X) (aP c X) (aMc c X) (aMs c X) (kb k h1) r (kn k) else nmsB.view.read (Elt Ideal) s.nms (ix3 (ks k) r y) :=
  by rw [run_nms]; exact nms_put c X arg11 k h1 s r y
theorem read_nv (r : Fin 128) (y : Fin 2048) : nvB.view.read (Elt Ideal) ((blockRun c X arg0 harg0 arg1 harg1 arg11 harg11 k h1 s).1.put s).nv (ix3 (ks k) r y)
    = if blk y = kn k then vCode (aG c X) (aP c X) (aVc c X) (aVs c X) (kb k h1) r y else nvB.view.read (Elt Ideal) s.nv (ix3 (ks k) r y) :=
  by rw [run_nv]; exact nv_put c X arg11 k h1 s r y
theorem read_nvs (r : Fin 128) (y : Fin 16) : nvsB.view.read (Elt Ideal) ((blockRun c X arg0 harg0 arg1 harg1 arg11 harg11 k h1 s).1.put s).nvs (ix3 (ks k) r y)
    = if y = kn k then vScale (aG c X) (aP c X) (aVc c X) (aVs c X) (kb k h1) r (kn k) else nvsB.view.read (Elt Ideal) s.nvs (ix3 (ks k) r y) :=
  by rw [run_nvs]; exact nvs_put c X arg11 k h1 s r y
end

/-- A block adds its own. -/
theorem upto_block (k : Fin k0_t3_loop.trips) (h1 : k0_cond1 k = 1#1) (s s' : St Ideal c arg11)
    (enm : ∀ r y, nmB.view.read (Elt Ideal) s'.nm (ix3 (ks k) r y) = if blk y = kn k then toM m c (kb k h1) r y else nmB.view.read (Elt Ideal) s.nm (ix3 (ks k) r y))
    (enms : ∀ r y, nmsB.view.read (Elt Ideal) s'.nms (ix3 (ks k) r y) = if y = kn k then toMs m c (kb k h1) r (kn k) else nmsB.view.read (Elt Ideal) s.nms (ix3 (ks k) r y))
    (env : ∀ r y, nvB.view.read (Elt Ideal) s'.nv (ix3 (ks k) r y) = if blk y = kn k then toV m c (kb k h1) r y else nvB.view.read (Elt Ideal) s.nv (ix3 (ks k) r y))
    (envs : ∀ r y, nvsB.view.read (Elt Ideal) s'.nvs (ix3 (ks k) r y) = if y = kn k then toVs m c (kb k h1) r (kn k) else nvsB.view.read (Elt Ideal) s.nvs (ix3 (ks k) r y))
    (h : Upto m c arg11 (k.val / 16) (k.val % 16) s) : Upto m c arg11 (k.val / 16) (k.val % 16 + 1) s' := by
  refine ⟨fun b hb r y hy => ?_, fun b hb r y hy => ?_, fun b hb r y hy => ?_, fun b hb r y hy => ?_⟩
  · obtain rfl : b = kb k h1 := Fin.ext hb
    refine (enm r y).trans ?_
    by_cases e : blk y = kn k
    · rw [if_pos e]
    · rw [if_neg e]
      exact h.nm _ rfl r y (Nat.lt_of_le_of_ne (Nat.le_of_lt_succ hy) fun q => e (Fin.ext q))
  · obtain rfl : b = kb k h1 := Fin.ext hb
    refine (enms r y).trans ?_
    by_cases e : y = kn k
    · rw [if_pos e, e]
    · rw [if_neg e]
      exact h.nms _ rfl r y (Nat.lt_of_le_of_ne (Nat.le_of_lt_succ hy) fun q => e (Fin.ext q))
  · obtain rfl : b = kb k h1 := Fin.ext hb
    refine (env r y).trans ?_
    by_cases e : blk y = kn k
    · rw [if_pos e]
    · rw [if_neg e]
      exact h.nv _ rfl r y (Nat.lt_of_le_of_ne (Nat.le_of_lt_succ hy) fun q => e (Fin.ext q))
  · obtain rfl : b = kb k h1 := Fin.ext hb
    refine (envs r y).trans ?_
    by_cases e : y = kn k
    · rw [if_pos e, e]
    · rw [if_neg e]
      exact h.nvs _ rfl r y (Nat.lt_of_le_of_ne (Nat.le_of_lt_succ hy) fun q => e (Fin.ext q))

/-- All sixteen sent is the batch's results. -/
theorem upto_ends (i : ℕ) (s : St Ideal c arg11) (h : Upto m c arg11 i 16 s) : Ends c (src m ρ (okVal m) c) arg11 i s := by
  refine ⟨fun fd b hb r y => ?_, fun fd b hb r y => ?_, fun fd b hb r y => ?_, fun fd b hb r y => ?_⟩
  · refine (slot_filled nmA (nmHo i) (nmHo_inb i) (fun _ => rfl) squeezes_S1x128x2048_S128x2048 rfl rfl b (by subst hb; exact Nat.mod_eq_of_lt b.isLt) fd _ r y).trans ?_
    exact (slot_read nmB (nmSo i) (nmSo_inb i) (fun _ => rfl) squeezes_S1x128x2048_S128x2048 rfl rfl (slotOf i) rfl s.nm r y).trans (h.nm b hb r y (blk_lt y))
  · refine (slot_filled nmsA (nmsHo i) (nmsHo_inb i) (fun _ => rfl) squeezes_S1x128x16_S128x16 rfl rfl b (by subst hb; exact Nat.mod_eq_of_lt b.isLt) fd _ r y).trans ?_
    exact (slot_read nmsB (nmsSo i) (nmsSo_inb i) (fun _ => rfl) squeezes_S1x128x16_S128x16 rfl rfl (slotOf i) rfl s.nms r y).trans (h.nms b hb r y y.isLt)
  · refine (slot_filled nvA (nvHo i) (nvHo_inb i) (fun _ => rfl) squeezes_S1x128x2048_S128x2048 rfl rfl b (by subst hb; exact Nat.mod_eq_of_lt b.isLt) fd _ r y).trans ?_
    exact (slot_read nvB (nvSo i) (nvSo_inb i) (fun _ => rfl) squeezes_S1x128x2048_S128x2048 rfl rfl (slotOf i) rfl s.nv r y).trans (h.nv b hb r y (blk_lt y))
  · refine (slot_filled nvsA (nvsHo i) (nvsHo_inb i) (fun _ => rfl) squeezes_S1x128x16_S128x16 rfl rfl b (by subst hb; exact Nat.mod_eq_of_lt b.isLt) fd _ r y).trans ?_
    exact (slot_read nvsB (nvsSo i) (nvsSo_inb i) (fun _ => rfl) squeezes_S1x128x16_S128x16 rfl rfl (slotOf i) rfl s.nvs r y).trans (h.nvs b hb r y y.isLt)

/-- The plan: before trip `k`, the blocks before it of its batch are in the slots. -/
def plansVal : Plans m ρ (okVal m) where
  plan c arg0 harg0 arg1 harg1 arg11 harg11 stp prv :=
    { Good := fun k s => Upto m c arg11 (k / 16) (k % 16) s
      Mid := fun k s => Upto m c arg11 (k / 16) (k % 16) s
      Done := fun k s => Upto m c arg11 (k / 16) (k % 16 + 1) s
      openB := fun k _ h2 _ _ _ _ _ _ => upto_none m _ _ _ ((cond2_iff k).mp h2)
      stay := fun _ _ _ _ h => h
      block := fun k h1 s h => upto_block m k h1 s _ (read_nm (src m ρ (okVal m) c) arg0 harg0 arg1 harg1 harg11 k h1 s) (read_nms (src m ρ (okVal m) c) arg0 harg0 arg1 harg1 harg11 k h1 s)
        (read_nv (src m ρ (okVal m) c) arg0 harg0 arg1 harg1 harg11 k h1 s) (read_nvs (src m ρ (okVal m) c) arg0 harg0 arg1 harg1 harg11 k h1 s) h
      ends := fun k s _ h5 h => upto_ends m ρ _ s (by rw [(cond5_iff k).mp h5] at h; exact h)
      close := fun k _ h5 _ _ => upto_none m _ _ _ (by have := (cond5_iff k).mp h5; omega)
      pass := fun k s _ h5 h => by
        have e : ¬ k.val % 16 = 15 := fun q => h5 ((cond5_iff k).mpr q)
        rw [show (k.val + 1) / 16 = k.val / 16 by omega, show (k.val + 1) % 16 = k.val % 16 + 1 by omega]
        exact h
      late := fun k s h1 _ => upto_late m _ _ s (by have : ¬ k.val < 192 := fun q => h1 ((cond1_iff k).mpr q); omega)
      first := fun _ _ => trivial }
  good _ _ _ _ _ _ _ _ _ _ := upto_none m _ _ _ rfl

end Cert.Proof.Kernel

end
-- ==== Proof.MomentsRef.lean ====
/- What the reference computes: the same moments, element by element. -/
module

public import proofs.«01_k».proof.Proof.Moments
public import proofs.«01_k».proof.Proof.Gen.ReferenceIdeal.Value

@[expose] public section

set_option maxRecDepth 16384

noncomputable section

namespace Cert.Proof.Moments

open Idealize.ShloMosaic Cert.ReferenceIdeal Cert.ReferenceIdeal.Gen

variable (g : FVec Ideal S12x2048x7168 .bf16) (p : FVec Ideal S12x128x7168 .bf16) (mc : IVec S12x128x2048 8) (ms : FVec Ideal S12x128x16 .f32)
  (vc : IVec S12x128x2048 8) (vs : FVec Ideal S12x128x16 .f32)

/-! ## The first moment -/

theorem ref_m (b : Fin 12) (r : Fin 128) (n : Fin 16) (l : Fin 128) : k0_pay3 (F := Ideal) g p mc ms (ix4 b r n l) = mAt g p mc ms b r (col n l) := by
  unfold mAt; rw [blk_col]
  pointwise [k0_pay3, k0_pay1]
  rfl

theorem ref_m_abs (b : Fin 12) (r : Fin 128) (n : Fin 16) (l : Fin 128) (v : FVec Ideal S12x128x16x128 .f32) : absf v (ix4 b r n l) = absOf (v (ix4 b r n l)) := rfl

theorem max_at (v : FVec Ideal S12x128x16x128 .f32) (b : Fin 12) (r : Fin 128) (n : Fin 16) :
    multiReduction (F := Ideal) .maximumf [3] S12x128x16 v 0xFF800000#32 reduces_S12x128x16x128_S12x128x16 (.inl rfl) rfl (ix3 b r n) = maxOf fun l => v (ix4 b r n l) := by
  pointwise
  rfl

theorem ref_m_max (b : Fin 12) (r : Fin 128) (n : Fin 16) : k0_pay4 (F := Ideal) g p mc ms (ix3 b r n) = maxOf fun l => absOf (mAt g p mc ms b r (col n l)) := by
  unfold k0_pay4
  exact (max_at _ b r n).trans (congrArg maxOf (funext fun l => congrArg absOf (ref_m g p mc ms b r n l)))

theorem ref_scale (v1 : FVec Ideal S12x128x16 .f32) (b : Fin 12) (r : Fin 128) (n : Fin 16) : k0_pay6 (F := Ideal) v1 k0_pay5 (ix3 b r n) = scaleOf (v1 (ix3 b r n)) := by
  pointwise [k0_pay6, k0_pay5]
  rfl

theorem ref_m_code (v0 : FVec Ideal S12x128x16x128 .f32) (v1 : FVec Ideal S12x128x16 .f32) (b : Fin 12) (r : Fin 128) (c : Fin 2048) :
    k0_pay7 (F := Ideal) v0 v1 k0_pay5 (ix3 b r c) = codeOf 4294967169#32 (v0 (ix4 b r (blk c) ⟨c.val % 128, by omega⟩)) (scaleOf (v1 (ix3 b r (blk c)))) := by
  rw [← ref_scale v1 b r (blk c)]
  unfold k0_pay7
  generalize k0_pay6 (F := Ideal) v1 k0_pay5 = s
  pointwise
  rfl

/-! ## The second moment -/

theorem ref_v (b : Fin 12) (r : Fin 128) (n : Fin 16) (l : Fin 128) : k0_pay8 (F := Ideal) (k0_pay2 g p vc vs) (ix4 b r n l) = vAt g p vc vs b r (col n l) := by
  have h : ∀ v : FVec Ideal S12x128x2048 .f32, k0_pay8 (F := Ideal) v (ix4 b r n l) = Ideal.sqrt (v (ix3 b r (col n l))) := fun v => by
    pointwise [k0_pay8]
  rw [h]
  unfold vAt
  refine congrArg Ideal.sqrt ?_
  generalize col n l = c
  pointwise [k0_pay2, k0_pay1]
  rfl

theorem ref_v_scale (v : FVec Ideal S12x128x2048 .f32) (b : Fin 12) (r : Fin 128) (n : Fin 16) : k0_pay9 (F := Ideal) v (ix3 b r n) = scaleOf (maxOf fun l => k0_pay8 (F := Ideal) v (ix4 b r n l)) := by
  have e : k0_pay9 (F := Ideal) v = k0_pay6 (F := Ideal) (multiReduction (F := Ideal) .maximumf [3] S12x128x16 (k0_pay8 v) 0xFF800000#32 reduces_S12x128x16x128_S12x128x16 (.inl rfl) rfl) k0_pay5 := by
    unfold k0_pay9 k0_pay6 k0_pay5; rfl
  rw [e]
  exact (ref_scale _ b r n).trans (congrArg scaleOf (max_at _ b r n))

/-- The codes of `u` at the scales `s`, none below zero. -/
def codes (u : FVec Ideal S12x128x16x128 .f32) (s : FVec Ideal S12x128x16 .f32) : IVec S12x128x2048 8 :=
  shapeCast S12x128x2048 (fptosi 8 (minimumf (broadcast S12x128x16x128 (Scalar.sitofp (F := Ideal) .f32 127#32)) (maximumf (broadcast S12x128x16x128 (Scalar.sitofp (F := Ideal) .f32 0#32))
    (roundeven (divf u (broadcastTo S12x128x16x128 (shapeCast S12x128x16x1 s shapeCasts_S12x128x16_S12x128x16x1) broadcasts_S12x128x16x1_S12x128x16x128)))))) shapeCasts_S12x128x16x128_S12x128x2048

theorem codes_at (u : FVec Ideal S12x128x16x128 .f32) (s : FVec Ideal S12x128x16 .f32) (b : Fin 12) (r : Fin 128) (c : Fin 2048) :
    codes u s (ix3 b r c) = codeOf 0#32 (u (ix4 b r (blk c) ⟨c.val % 128, by omega⟩)) (s (ix3 b r (blk c))) := by
  pointwise [codes]
  rfl

theorem ref_v_code (v : FVec Ideal S12x128x2048 .f32) : k0_pay10 (F := Ideal) v = codes (k0_pay8 (F := Ideal) v) (k0_pay9 (F := Ideal) v) := by
  unfold k0_pay10 codes; rfl

/-! ## The results -/

open Cert.ReferenceIdeal.Value in
theorem ld_g (g : Vec Ideal S12x2048x7168 .bf16) : View.ld g r0_0 = g := View.ld_unit_zero (S := S12x2048x7168) hz0 _ g
open Cert.ReferenceIdeal.Value in
theorem ld_p (p : Vec Ideal S12x128x7168 .bf16) : View.ld p r0_1 = p := View.ld_unit_zero (S := S12x128x7168) hz1 _ p
open Cert.ReferenceIdeal.Value in
theorem ld_codes (mc : Vec Ideal S12x128x2048 .i8) : View.ld mc r0_2 = mc := View.ld_unit_zero (S := S12x128x2048) hz2 _ mc
open Cert.ReferenceIdeal.Value in
theorem ld_scales (ms : Vec Ideal S12x128x16 .f32) : View.ld ms r0_3 = ms := View.ld_unit_zero (S := S12x128x16) hz3 _ ms

open Cert.ReferenceIdeal.Value in
theorem ref_new_m (b : Fin 12) (r : Fin 128) (c : Fin 2048) : G6 (F := Ideal) g p mc ms vc vs (ix3 b r c) = mCode g p mc ms b r c := by
  unfold G6 k0_pay12 k0_pay13
  rw [ld_g, ld_p, ld_codes, ld_scales,
    ref_m_code, ref_m, ref_m_max, col_blk]
  rfl

open Cert.ReferenceIdeal.Value in
theorem ref_new_ms (b : Fin 12) (r : Fin 128) (n : Fin 16) : G7 (F := Ideal) g p mc ms vc vs (ix3 b r n) = mScale g p mc ms b r n := by
  unfold G7 k0_pay12 k0_pay13
  rw [ld_g, ld_p, ld_codes, ld_scales,
    ref_scale, ref_m_max]
  rfl

theorem ref_vs (b : Fin 12) (r : Fin 128) (n : Fin 16) : k0_pay9 (F := Ideal) (k0_pay2 g p vc vs) (ix3 b r n) = vScale g p vc vs b r n := by
  rw [ref_v_scale]
  exact congrArg (fun f => scaleOf (maxOf f)) (funext fun l => ref_v g p vc vs b r n l)

open Cert.ReferenceIdeal.Value in
theorem ref_new_v (b : Fin 12) (r : Fin 128) (c : Fin 2048) : G8 (F := Ideal) g p mc ms vc vs (ix3 b r c) = vCode g p vc vs b r c := by
  unfold G8 k0_pay11
  rw [ld_g, ld_p, ld_codes, ld_scales,
    ref_v_code, codes_at, ref_v, ref_vs, col_blk]
  rfl

open Cert.ReferenceIdeal.Value in
theorem ref_new_vs (b : Fin 12) (r : Fin 128) (n : Fin 16) : G9 (F := Ideal) g p mc ms vc vs (ix3 b r n) = vScale g p vc vs b r n := by
  unfold G9 k0_pay11
  rw [ld_g, ld_p, ld_codes, ld_scales]
  exact ref_vs g p vc vs b r n

end Cert.Proof.Moments

end
-- ==== Proof.Algebraic.lean ====
/- At the ideal values, the new moments of the kernel are those of the reference: their codes and their scales. -/
module

public import proofs.«01_k».proof.Proof.PlanValue
public import proofs.«01_k».proof.Proof.MomentsRef
public import proofs.«01_k».proof.Proof.Same

@[expose] public section

set_option maxRecDepth 16384

noncomputable section

namespace Cert.Proof.Algebraic

open Cert.Kernel Cert.Proof.Kernel Cert.Proof.Moments
open Idealize.ShloMosaic Idealize.ShloMosaic.TcCoe
open Idealize.SL Idealize.SL.Sem

variable (m : (ℓ : Loc nD τ sig) → Buf (Elt Ideal) ℓ) (ρ : Dev nD → PrngReg) (c : Dev nD)

/-- The new codes and scales as the reference computes them. -/
abbrev newM : IVec S12x128x2048 8 := Cert.ReferenceIdeal.Value.G6 (F := Ideal) (argG m c) (argP m c) (argMc m c) (argMs m c) (argVc m c) (argVs m c)
abbrev newMs : FVec Ideal S12x128x16 .f32 := Cert.ReferenceIdeal.Value.G7 (F := Ideal) (argG m c) (argP m c) (argMc m c) (argMs m c) (argVc m c) (argVs m c)
abbrev newV : IVec S12x128x2048 8 := Cert.ReferenceIdeal.Value.G8 (F := Ideal) (argG m c) (argP m c) (argMc m c) (argMs m c) (argVc m c) (argVs m c)
abbrev newVs : FVec Ideal S12x128x16 .f32 := Cert.ReferenceIdeal.Value.G9 (F := Ideal) (argG m c) (argP m c) (argMc m c) (argMs m c) (argVc m c) (argVs m c)

theorem whole_m (g : IVec S12x128x2048 8) (h : nmRes c (src m ρ (okVal m) c) g) : g = newM m c := by
  funext j
  rw [eq_ix3 j]
  obtain ⟨f, hf, e⟩ := h (j 0).val (j 0).isLt
  refine (e (ix3 (j 0) (j 1) (j 2)) ((nmH_mem _ (j 0).isLt _).mpr rfl)).trans ((hf (j 0) rfl (j 1) (j 2)).trans ?_)
  exact (ref_new_m (argG m c) (argP m c) (argMc m c) (argMs m c) (argVc m c) (argVs m c) (j 0) (j 1) (j 2)).symm

theorem whole_ms (g : FVec Ideal S12x128x16 .f32) (h : nmsRes c (src m ρ (okVal m) c) g) : g = newMs m c := by
  funext j
  rw [eq_ix3 j]
  obtain ⟨f, hf, e⟩ := h (j 0).val (j 0).isLt
  refine (e (ix3 (j 0) (j 1) (j 2)) ((nmsH_mem _ (j 0).isLt _).mpr rfl)).trans ((hf (j 0) rfl (j 1) (j 2)).trans ?_)
  exact (ref_new_ms (argG m c) (argP m c) (argMc m c) (argMs m c) (argVc m c) (argVs m c) (j 0) (j 1) (j 2)).symm

theorem whole_v (g : IVec S12x128x2048 8) (h : nvRes c (src m ρ (okVal m) c) g) : g = newV m c := by
  funext j
  rw [eq_ix3 j]
  obtain ⟨f, hf, e⟩ := h (j 0).val (j 0).isLt
  refine (e (ix3 (j 0) (j 1) (j 2)) ((nvH_mem _ (j 0).isLt _).mpr rfl)).trans ((hf (j 0) rfl (j 1) (j 2)).trans ?_)
  exact (ref_new_v (argG m c) (argP m c) (argMc m c) (argMs m c) (argVc m c) (argVs m c) (j 0) (j 1) (j 2)).symm

theorem whole_vs (g : FVec Ideal S12x128x16 .f32) (h : nvsRes c (src m ρ (okVal m) c) g) : g = newVs m c := by
  funext j
  rw [eq_ix3 j]
  obtain ⟨f, hf, e⟩ := h (j 0).val (j 0).isLt
  refine (e (ix3 (j 0) (j 1) (j 2)) ((nvsH_mem _ (j 0).isLt _).mpr rfl)).trans ((hf (j 0) rfl (j 1) (j 2)).trans ?_)
  exact (ref_new_vs (argG m c) (argP m c) (argMc m c) (argMs m c) (argVc m c) (argVs m c) (j 0) (j 1) (j 2)).symm

/-- `Cert.algebraic_KernelIdeal_ReferenceIdeal` (Defs.lean). -/
theorem algebraic : Cert.algebraic_KernelIdeal_ReferenceIdeal := fun m ρ m' ρ' _ hag =>
  ⟨newM m, newMs m, newV m, newVs m,
    Same.run_same _ _ <| (θ_run Cert.Kernel.defs _ _).mono (fun r hh c =>
      have q := (hh.1 c).2
      ⟨whole_m m ρ c _ q.2.2.2.2.2.2.2.1, whole_ms m ρ c _ q.2.2.2.2.2.2.2.2.1, whole_v m ρ c _ q.2.2.2.2.2.2.2.2.2.1, whole_vs m ρ c _ q.2.2.2.2.2.2.2.2.2.2,
        q.1, q.2.1, q.2.2.1, q.2.2.2.1, q.2.2.2.2.1, q.2.2.2.2.2.1, q.2.2.2.2.2.2.1,
        Kernel.final_in m ρ (okVal m) c 0 rfl _ ((hh.1 c).1 0), Kernel.final_in m ρ (okVal m) c 1 rfl _ ((hh.1 c).1 1)⟩)
      (Kernel.run_main (F := Ideal) m ρ (okVal m) (plansVal m ρ)),
    (θ_run Cert.ReferenceIdeal.defs _ _).mono (fun r hh c => by
      obtain ⟨e0, e1, e2, e3, rest⟩ := hh c
      obtain ⟨-, a1, a2, a3, a4, a5, a6, -, -⟩ := hag c
      rw [a1, a2, a3, a4, a5, a6] at e0 e1 e2 e3
      exact ⟨e0, e1, e2, e3, rest⟩)
      (Cert.ReferenceIdeal.Value.run m' ρ')⟩

end Cert.Proof.Algebraic

end
-- ==== Proof.lean ====
module

public import proofs.«01_k».proof.Proof.Launch
public import proofs.«01_k».proof.Proof.Same
public import proofs.«01_k».proof.Proof.Algebraic
public import proofs.«01_k».proof.Proof.Gen.ReferenceIdeal.Value

@[expose] public section

namespace Cert.Proof

theorem claim : Cert.Claim :=
  ⟨Cert.Kernel.Gen.facts, Cert.KernelIdeal.Gen.facts, Cert.ReferenceIdeal.Gen.facts, Kernel.frame, Same.frame,
    fun m ρ _ => Cert.ReferenceIdeal.Gen.frame m ρ, trivial, Algebraic.algebraic⟩

end Cert.Proof

end
